-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x100000 : Shape := ⟨2, ![4096, 100000]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x100000 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 100000#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096x100000 : Shape := ⟨2, ![4096, 100000]⟩
abbrev S4096 : Shape := ⟨1, ![4096]⟩
abbrev S_ : Shape := ⟨0, ![]⟩
abbrev S1 : Shape := ⟨1, ![1]⟩
abbrev S2 : Shape := ⟨1, ![2]⟩
abbrev S1x1 : Shape := ⟨2, ![1, 1]⟩
abbrev S2x1 : Shape := ⟨2, ![2, 1]⟩
abbrev S2x2 : Shape := ⟨2, ![2, 2]⟩
abbrev S1x2 : Shape := ⟨2, ![1, 2]⟩
abbrev S4096x5 : Shape := ⟨2, ![4096, 5]⟩
abbrev S100000x4096 : Shape := ⟨2, ![100000, 4096]⟩
abbrev S20480 : Shape := ⟨1, ![20480]⟩
abbrev S32x6144 : Shape := ⟨2, ![32, 6144]⟩
abbrev S128 : Shape := ⟨1, ![128]⟩
abbrev S640 : Shape := ⟨1, ![640]⟩
abbrev S2x128x128 : Shape := ⟨3, ![2, 128, 128]⟩
abbrev S16x6144 : Shape := ⟨2, ![16, 6144]⟩
abbrev S1x128x128 : Shape := ⟨3, ![1, 128, 128]⟩
abbrev S128x128 : Shape := ⟨2, ![128, 128]⟩
abbrev S100000x128 : Shape := ⟨2, ![100000, 128]⟩
abbrev S1x1x8 : Shape := ⟨3, ![1, 1, 8]⟩
abbrev S8 : Shape := ⟨1, ![8]⟩
abbrev S1x8 : Shape := ⟨2, ![1, 8]⟩
abbrev S1x6144 : Shape := ⟨2, ![1, 6144]⟩
abbrev S6144 : Shape := ⟨1, ![6144]⟩
abbrev S192x128x8 : Shape := ⟨3, ![192, 128, 8]⟩
abbrev S192x128 : Shape := ⟨2, ![192, 128]⟩
abbrev S192x128x1 : Shape := ⟨3, ![192, 128, 1]⟩
abbrev S1x192x128 : Shape := ⟨3, ![1, 192, 128]⟩
abbrev S1x1x1 : Shape := ⟨3, ![1, 1, 1]⟩

abbrev nBuf : Table → Nat
  | .hbm => 1029
  | .local .tc .vmem => 2
  | .shared => 1
  | .local .scVector .vmem => 3
  | _ => 0

abbrev hbmTy0_0 (i : Nat) : BufTy := match i % 128 with
  | 0 => ⟨S4096x100000, .f32⟩
  | 1 => ⟨S4096, .i32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S1, .i32⟩
  | 19 => ⟨S2, .i32⟩
  | 20 => ⟨S1, .i32⟩
  | 21 => ⟨S_, .i32⟩
  | 22 => ⟨S1, .i32⟩
  | 23 => ⟨S_, .i32⟩
  | 24 => ⟨S1, .i32⟩
  | 25 => ⟨S1, .i32⟩
  | 26 => ⟨S_, .i32⟩
  | 27 => ⟨S_, .i32⟩
  | 28 => ⟨S_, .i32⟩
  | 29 => ⟨S1, .i32⟩
  | 30 => ⟨S1, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S4096x100000, .f32⟩

abbrev hbmTy0_1 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S1, .i32⟩
  | 9 => ⟨S1, .i32⟩
  | 10 => ⟨S_, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S_, .i32⟩
  | 39 => ⟨S1, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S_, .i32⟩
  | 91 => ⟨S1, .i32⟩
  | 92 => ⟨S1, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S2, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S4096x100000, .f32⟩

abbrev hbmTy0_2 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S1x1, .i32⟩
  | 12 => ⟨S1x1, .i32⟩
  | 13 => ⟨S1, .i32⟩
  | 14 => ⟨S_, .i32⟩
  | 15 => ⟨S1, .i32⟩
  | 16 => ⟨S_, .i32⟩
  | 17 => ⟨S2, .i64⟩
  | 18 => ⟨S_, .i64⟩
  | 19 => ⟨S2, .i64⟩
  | 20 => ⟨S2, .i64⟩
  | 21 => ⟨S_, .i64⟩
  | 22 => ⟨S2, .i64⟩
  | 23 => ⟨S2, .i64⟩
  | 24 => ⟨S2, .i32⟩
  | 25 => ⟨S2, .i32⟩
  | 26 => ⟨S_, .i32⟩
  | 27 => ⟨S_, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S4096x100000, .f32⟩

abbrev hbmTy0_3 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2x1, .i32⟩
  | 121 => ⟨S2x1, .i32⟩
  | 122 => ⟨S2x2, .i32⟩
  | 123 => ⟨S1x2, .i32⟩
  | 124 => ⟨S2, .i32⟩
  | 125 => ⟨S1x2, .i32⟩
  | 126 => ⟨S2, .i32⟩
  | 127 => ⟨S1, .i32⟩
  | _ => ⟨S4096x100000, .f32⟩

abbrev hbmTy0_4 (i : Nat) : BufTy := match i % 128 with
  | 0 => ⟨S_, .i32⟩
  | 1 => ⟨S1, .i32⟩
  | 2 => ⟨S_, .i32⟩
  | 3 => ⟨S4096x5, .i64⟩
  | 4 => ⟨S4096x5, .i64⟩
  | 5 => ⟨S_, .i64⟩
  | 6 => ⟨S4096x5, .i64⟩
  | 7 => ⟨S4096x5, .i64⟩
  | 8 => ⟨S_, .i64⟩
  | 9 => ⟨S4096x5, .i64⟩
  | 10 => ⟨S4096x5, .i64⟩
  | 11 => ⟨S4096x5, .i64⟩
  | 12 => ⟨S_, .i64⟩
  | 13 => ⟨S4096x5, .i64⟩
  | 14 => ⟨S4096x5, .i64⟩
  | 15 => ⟨S4096x5, .i32⟩
  | 16 => ⟨S4096x5, .i32⟩
  | 17 => ⟨S_, .i32⟩
  | 18 => ⟨S_, .i32⟩
  | 19 => ⟨S_, .i32⟩
  | 20 => ⟨S4096x5, .i32⟩
  | 21 => ⟨S4096x5, .i32⟩
  | 22 => ⟨S4096x5, .i32⟩
  | 23 => ⟨S4096x5, .i32⟩
  | 24 => ⟨S4096x5, .i32⟩
  | 25 => ⟨S_, .i32⟩
  | 26 => ⟨S4096x5, .i32⟩
  | 27 => ⟨S4096x5, .i32⟩
  | 28 => ⟨S_, .i32⟩
  | 29 => ⟨S4096x5, .i32⟩
  | 30 => ⟨S4096x5, .i32⟩
  | 31 => ⟨S4096x5, .i32⟩
  | 32 => ⟨S4096x5, .i32⟩
  | 33 => ⟨S4096x5, .i32⟩
  | 34 => ⟨S_, .i32⟩
  | 35 => ⟨S4096x5, .i32⟩
  | 36 => ⟨S4096x5, .i32⟩
  | 37 => ⟨S_, .i32⟩
  | 38 => ⟨S4096x5, .i32⟩
  | 39 => ⟨S4096x5, .i32⟩
  | 40 => ⟨S4096x5, .i32⟩
  | 41 => ⟨S4096x5, .i32⟩
  | 42 => ⟨S4096x5, .i32⟩
  | 43 => ⟨S_, .i32⟩
  | 44 => ⟨S4096x5, .i32⟩
  | 45 => ⟨S4096x5, .i32⟩
  | 46 => ⟨S_, .i32⟩
  | 47 => ⟨S4096x5, .i32⟩
  | 48 => ⟨S4096x5, .i32⟩
  | 49 => ⟨S4096x5, .i32⟩
  | 50 => ⟨S4096x5, .i32⟩
  | 51 => ⟨S4096x5, .i32⟩
  | 52 => ⟨S_, .i32⟩
  | 53 => ⟨S4096x5, .i32⟩
  | 54 => ⟨S4096x5, .i32⟩
  | 55 => ⟨S_, .i32⟩
  | 56 => ⟨S4096x5, .i32⟩
  | 57 => ⟨S4096x5, .i32⟩
  | 58 => ⟨S4096x5, .i32⟩
  | 59 => ⟨S4096x5, .i32⟩
  | 60 => ⟨S4096x5, .i32⟩
  | 61 => ⟨S4096x5, .i32⟩
  | 62 => ⟨S4096x5, .i32⟩
  | 63 => ⟨S4096x5, .i32⟩
  | 64 => ⟨S_, .i32⟩
  | 65 => ⟨S4096x5, .i32⟩
  | 66 => ⟨S4096x5, .i32⟩
  | 67 => ⟨S4096x5, .i32⟩
  | 68 => ⟨S_, .i32⟩
  | 69 => ⟨S4096x5, .i32⟩
  | 70 => ⟨S4096x5, .i32⟩
  | 71 => ⟨S_, .i32⟩
  | 72 => ⟨S4096x5, .i32⟩
  | 73 => ⟨S4096x5, .i32⟩
  | 74 => ⟨S4096x5, .i32⟩
  | 75 => ⟨S4096x5, .i32⟩
  | 76 => ⟨S4096x5, .i32⟩
  | 77 => ⟨S_, .i32⟩
  | 78 => ⟨S4096x5, .i32⟩
  | 79 => ⟨S4096x5, .i32⟩
  | 80 => ⟨S_, .i32⟩
  | 81 => ⟨S4096x5, .i32⟩
  | 82 => ⟨S4096x5, .i32⟩
  | 83 => ⟨S4096x5, .i32⟩
  | 84 => ⟨S4096x5, .i32⟩
  | 85 => ⟨S4096x5, .i32⟩
  | 86 => ⟨S_, .i32⟩
  | 87 => ⟨S4096x5, .i32⟩
  | 88 => ⟨S4096x5, .i32⟩
  | 89 => ⟨S_, .i32⟩
  | 90 => ⟨S4096x5, .i32⟩
  | 91 => ⟨S4096x5, .i32⟩
  | 92 => ⟨S4096x5, .i32⟩
  | 93 => ⟨S4096x5, .i32⟩
  | 94 => ⟨S4096x5, .i32⟩
  | 95 => ⟨S_, .i32⟩
  | 96 => ⟨S4096x5, .i32⟩
  | 97 => ⟨S4096x5, .i32⟩
  | 98 => ⟨S_, .i32⟩
  | 99 => ⟨S4096x5, .i32⟩
  | 100 => ⟨S4096x5, .i32⟩
  | 101 => ⟨S4096x5, .i32⟩
  | 102 => ⟨S4096x5, .i32⟩
  | 103 => ⟨S4096x5, .i32⟩
  | 104 => ⟨S4096x5, .i32⟩
  | 105 => ⟨S4096x5, .i32⟩
  | 106 => ⟨S4096x5, .i32⟩
  | 107 => ⟨S_, .i32⟩
  | 108 => ⟨S4096x5, .i32⟩
  | 109 => ⟨S4096x5, .i32⟩
  | 110 => ⟨S4096x5, .i32⟩
  | 111 => ⟨S_, .i32⟩
  | 112 => ⟨S4096x5, .i32⟩
  | 113 => ⟨S4096x5, .i32⟩
  | 114 => ⟨S_, .i32⟩
  | 115 => ⟨S4096x5, .i32⟩
  | 116 => ⟨S4096x5, .i32⟩
  | 117 => ⟨S4096x5, .i32⟩
  | 118 => ⟨S4096x5, .i32⟩
  | 119 => ⟨S4096x5, .i32⟩
  | 120 => ⟨S_, .i32⟩
  | 121 => ⟨S4096x5, .i32⟩
  | 122 => ⟨S4096x5, .i32⟩
  | 123 => ⟨S_, .i32⟩
  | 124 => ⟨S4096x5, .i32⟩
  | 125 => ⟨S4096x5, .i32⟩
  | 126 => ⟨S4096x5, .i32⟩
  | 127 => ⟨S4096x5, .i32⟩
  | _ => ⟨S4096x100000, .f32⟩

abbrev hbmTy0_5 (i : Nat) : BufTy := match i % 128 with
  | 0 => ⟨S4096x5, .i32⟩
  | 1 => ⟨S_, .i32⟩
  | 2 => ⟨S4096x5, .i32⟩
  | 3 => ⟨S4096x5, .i32⟩
  | 4 => ⟨S_, .i32⟩
  | 5 => ⟨S4096x5, .i32⟩
  | 6 => ⟨S4096x5, .i32⟩
  | 7 => ⟨S4096x5, .i32⟩
  | 8 => ⟨S4096x5, .i32⟩
  | 9 => ⟨S4096x5, .i32⟩
  | 10 => ⟨S_, .i32⟩
  | 11 => ⟨S4096x5, .i32⟩
  | 12 => ⟨S4096x5, .i32⟩
  | 13 => ⟨S_, .i32⟩
  | 14 => ⟨S4096x5, .i32⟩
  | 15 => ⟨S4096x5, .i32⟩
  | 16 => ⟨S4096x5, .i32⟩
  | 17 => ⟨S4096x5, .i32⟩
  | 18 => ⟨S4096x5, .i32⟩
  | 19 => ⟨S4096x5, .i32⟩
  | 20 => ⟨S4096x5, .i32⟩
  | 21 => ⟨S4096x5, .i32⟩
  | 22 => ⟨S_, .i32⟩
  | 23 => ⟨S4096x5, .i32⟩
  | 24 => ⟨S4096x5, .i32⟩
  | 25 => ⟨S4096x5, .i32⟩
  | 26 => ⟨S_, .i32⟩
  | 27 => ⟨S4096x5, .i32⟩
  | 28 => ⟨S4096x5, .i32⟩
  | 29 => ⟨S_, .i32⟩
  | 30 => ⟨S4096x5, .i32⟩
  | 31 => ⟨S4096x5, .i32⟩
  | 32 => ⟨S4096x5, .i32⟩
  | 33 => ⟨S4096x5, .i32⟩
  | 34 => ⟨S4096x5, .i32⟩
  | 35 => ⟨S_, .i32⟩
  | 36 => ⟨S4096x5, .i32⟩
  | 37 => ⟨S4096x5, .i32⟩
  | 38 => ⟨S_, .i32⟩
  | 39 => ⟨S4096x5, .i32⟩
  | 40 => ⟨S4096x5, .i32⟩
  | 41 => ⟨S4096x5, .i32⟩
  | 42 => ⟨S4096x5, .i32⟩
  | 43 => ⟨S4096x5, .i32⟩
  | 44 => ⟨S_, .i32⟩
  | 45 => ⟨S4096x5, .i32⟩
  | 46 => ⟨S4096x5, .i32⟩
  | 47 => ⟨S_, .i32⟩
  | 48 => ⟨S4096x5, .i32⟩
  | 49 => ⟨S4096x5, .i32⟩
  | 50 => ⟨S4096x5, .i32⟩
  | 51 => ⟨S4096x5, .i32⟩
  | 52 => ⟨S4096x5, .i32⟩
  | 53 => ⟨S_, .i32⟩
  | 54 => ⟨S4096x5, .i32⟩
  | 55 => ⟨S4096x5, .i32⟩
  | 56 => ⟨S_, .i32⟩
  | 57 => ⟨S4096x5, .i32⟩
  | 58 => ⟨S4096x5, .i32⟩
  | 59 => ⟨S4096x5, .i32⟩
  | 60 => ⟨S4096x5, .i32⟩
  | 61 => ⟨S4096x5, .i32⟩
  | 62 => ⟨S4096x5, .i32⟩
  | 63 => ⟨S4096x5, .i32⟩
  | 64 => ⟨S4096x5, .i32⟩
  | 65 => ⟨S_, .i32⟩
  | 66 => ⟨S4096x5, .i32⟩
  | 67 => ⟨S4096x5, .i32⟩
  | 68 => ⟨S4096x5, .i32⟩
  | 69 => ⟨S_, .i32⟩
  | 70 => ⟨S4096x5, .i32⟩
  | 71 => ⟨S4096x5, .i32⟩
  | 72 => ⟨S_, .i32⟩
  | 73 => ⟨S4096x5, .i32⟩
  | 74 => ⟨S4096x5, .i32⟩
  | 75 => ⟨S4096x5, .i32⟩
  | 76 => ⟨S4096x5, .i32⟩
  | 77 => ⟨S4096x5, .i32⟩
  | 78 => ⟨S_, .i32⟩
  | 79 => ⟨S4096x5, .i32⟩
  | 80 => ⟨S4096x5, .i32⟩
  | 81 => ⟨S_, .i32⟩
  | 82 => ⟨S4096x5, .i32⟩
  | 83 => ⟨S4096x5, .i32⟩
  | 84 => ⟨S4096x5, .i32⟩
  | 85 => ⟨S4096x5, .i32⟩
  | 86 => ⟨S4096x5, .i32⟩
  | 87 => ⟨S_, .i32⟩
  | 88 => ⟨S4096x5, .i32⟩
  | 89 => ⟨S4096x5, .i32⟩
  | 90 => ⟨S_, .i32⟩
  | 91 => ⟨S4096x5, .i32⟩
  | 92 => ⟨S4096x5, .i32⟩
  | 93 => ⟨S4096x5, .i32⟩
  | 94 => ⟨S4096x5, .i32⟩
  | 95 => ⟨S4096x5, .i32⟩
  | 96 => ⟨S_, .i32⟩
  | 97 => ⟨S4096x5, .i32⟩
  | 98 => ⟨S4096x5, .i32⟩
  | 99 => ⟨S_, .i32⟩
  | 100 => ⟨S4096x5, .i32⟩
  | 101 => ⟨S4096x5, .i32⟩
  | 102 => ⟨S4096x5, .i32⟩
  | 103 => ⟨S4096x5, .i32⟩
  | 104 => ⟨S4096x5, .i32⟩
  | 105 => ⟨S4096x5, .i32⟩
  | 106 => ⟨S4096x5, .i32⟩
  | 107 => ⟨S4096x5, .i32⟩
  | 108 => ⟨S_, .i32⟩
  | 109 => ⟨S4096x5, .i32⟩
  | 110 => ⟨S4096x5, .i32⟩
  | 111 => ⟨S4096x5, .i32⟩
  | 112 => ⟨S1, .i32⟩
  | 113 => ⟨S_, .i32⟩
  | 114 => ⟨S1, .i32⟩
  | 115 => ⟨S_, .i32⟩
  | 116 => ⟨S4096x5, .i64⟩
  | 117 => ⟨S4096x5, .i64⟩
  | 118 => ⟨S_, .i64⟩
  | 119 => ⟨S4096x5, .i64⟩
  | 120 => ⟨S4096x5, .i64⟩
  | 121 => ⟨S_, .i64⟩
  | 122 => ⟨S4096x5, .i64⟩
  | 123 => ⟨S4096x5, .i64⟩
  | 124 => ⟨S4096x5, .i64⟩
  | 125 => ⟨S_, .i64⟩
  | 126 => ⟨S4096x5, .i64⟩
  | 127 => ⟨S4096x5, .i64⟩
  | _ => ⟨S4096x100000, .f32⟩

abbrev hbmTy0_6 (i : Nat) : BufTy := match i % 128 with
  | 0 => ⟨S4096x5, .i32⟩
  | 1 => ⟨S4096x5, .i32⟩
  | 2 => ⟨S_, .i32⟩
  | 3 => ⟨S_, .i32⟩
  | 4 => ⟨S_, .i32⟩
  | 5 => ⟨S4096x5, .i32⟩
  | 6 => ⟨S4096x5, .i32⟩
  | 7 => ⟨S4096x5, .i32⟩
  | 8 => ⟨S4096x5, .i32⟩
  | 9 => ⟨S4096x5, .i32⟩
  | 10 => ⟨S_, .i32⟩
  | 11 => ⟨S4096x5, .i32⟩
  | 12 => ⟨S4096x5, .i32⟩
  | 13 => ⟨S_, .i32⟩
  | 14 => ⟨S4096x5, .i32⟩
  | 15 => ⟨S4096x5, .i32⟩
  | 16 => ⟨S4096x5, .i32⟩
  | 17 => ⟨S4096x5, .i32⟩
  | 18 => ⟨S4096x5, .i32⟩
  | 19 => ⟨S_, .i32⟩
  | 20 => ⟨S4096x5, .i32⟩
  | 21 => ⟨S4096x5, .i32⟩
  | 22 => ⟨S_, .i32⟩
  | 23 => ⟨S4096x5, .i32⟩
  | 24 => ⟨S4096x5, .i32⟩
  | 25 => ⟨S4096x5, .i32⟩
  | 26 => ⟨S4096x5, .i32⟩
  | 27 => ⟨S4096x5, .i32⟩
  | 28 => ⟨S_, .i32⟩
  | 29 => ⟨S4096x5, .i32⟩
  | 30 => ⟨S4096x5, .i32⟩
  | 31 => ⟨S_, .i32⟩
  | 32 => ⟨S4096x5, .i32⟩
  | 33 => ⟨S4096x5, .i32⟩
  | 34 => ⟨S4096x5, .i32⟩
  | 35 => ⟨S4096x5, .i32⟩
  | 36 => ⟨S4096x5, .i32⟩
  | 37 => ⟨S_, .i32⟩
  | 38 => ⟨S4096x5, .i32⟩
  | 39 => ⟨S4096x5, .i32⟩
  | 40 => ⟨S_, .i32⟩
  | 41 => ⟨S4096x5, .i32⟩
  | 42 => ⟨S4096x5, .i32⟩
  | 43 => ⟨S4096x5, .i32⟩
  | 44 => ⟨S4096x5, .i32⟩
  | 45 => ⟨S4096x5, .i32⟩
  | 46 => ⟨S4096x5, .i32⟩
  | 47 => ⟨S4096x5, .i32⟩
  | 48 => ⟨S4096x5, .i32⟩
  | 49 => ⟨S_, .i32⟩
  | 50 => ⟨S4096x5, .i32⟩
  | 51 => ⟨S4096x5, .i32⟩
  | 52 => ⟨S4096x5, .i32⟩
  | 53 => ⟨S_, .i32⟩
  | 54 => ⟨S4096x5, .i32⟩
  | 55 => ⟨S4096x5, .i32⟩
  | 56 => ⟨S_, .i32⟩
  | 57 => ⟨S4096x5, .i32⟩
  | 58 => ⟨S4096x5, .i32⟩
  | 59 => ⟨S4096x5, .i32⟩
  | 60 => ⟨S4096x5, .i32⟩
  | 61 => ⟨S4096x5, .i32⟩
  | 62 => ⟨S_, .i32⟩
  | 63 => ⟨S4096x5, .i32⟩
  | 64 => ⟨S4096x5, .i32⟩
  | 65 => ⟨S_, .i32⟩
  | 66 => ⟨S4096x5, .i32⟩
  | 67 => ⟨S4096x5, .i32⟩
  | 68 => ⟨S4096x5, .i32⟩
  | 69 => ⟨S4096x5, .i32⟩
  | 70 => ⟨S4096x5, .i32⟩
  | 71 => ⟨S_, .i32⟩
  | 72 => ⟨S4096x5, .i32⟩
  | 73 => ⟨S4096x5, .i32⟩
  | 74 => ⟨S_, .i32⟩
  | 75 => ⟨S4096x5, .i32⟩
  | 76 => ⟨S4096x5, .i32⟩
  | 77 => ⟨S4096x5, .i32⟩
  | 78 => ⟨S4096x5, .i32⟩
  | 79 => ⟨S4096x5, .i32⟩
  | 80 => ⟨S_, .i32⟩
  | 81 => ⟨S4096x5, .i32⟩
  | 82 => ⟨S4096x5, .i32⟩
  | 83 => ⟨S_, .i32⟩
  | 84 => ⟨S4096x5, .i32⟩
  | 85 => ⟨S4096x5, .i32⟩
  | 86 => ⟨S4096x5, .i32⟩
  | 87 => ⟨S4096x5, .i32⟩
  | 88 => ⟨S4096x5, .i32⟩
  | 89 => ⟨S4096x5, .i32⟩
  | 90 => ⟨S4096x5, .i32⟩
  | 91 => ⟨S4096x5, .i32⟩
  | 92 => ⟨S_, .i32⟩
  | 93 => ⟨S4096x5, .i32⟩
  | 94 => ⟨S4096x5, .i32⟩
  | 95 => ⟨S4096x5, .i32⟩
  | 96 => ⟨S_, .i32⟩
  | 97 => ⟨S4096x5, .i32⟩
  | 98 => ⟨S4096x5, .i32⟩
  | 99 => ⟨S_, .i32⟩
  | 100 => ⟨S4096x5, .i32⟩
  | 101 => ⟨S4096x5, .i32⟩
  | 102 => ⟨S4096x5, .i32⟩
  | 103 => ⟨S4096x5, .i32⟩
  | 104 => ⟨S4096x5, .i32⟩
  | 105 => ⟨S_, .i32⟩
  | 106 => ⟨S4096x5, .i32⟩
  | 107 => ⟨S4096x5, .i32⟩
  | 108 => ⟨S_, .i32⟩
  | 109 => ⟨S4096x5, .i32⟩
  | 110 => ⟨S4096x5, .i32⟩
  | 111 => ⟨S4096x5, .i32⟩
  | 112 => ⟨S4096x5, .i32⟩
  | 113 => ⟨S4096x5, .i32⟩
  | 114 => ⟨S_, .i32⟩
  | 115 => ⟨S4096x5, .i32⟩
  | 116 => ⟨S4096x5, .i32⟩
  | 117 => ⟨S_, .i32⟩
  | 118 => ⟨S4096x5, .i32⟩
  | 119 => ⟨S4096x5, .i32⟩
  | 120 => ⟨S4096x5, .i32⟩
  | 121 => ⟨S4096x5, .i32⟩
  | 122 => ⟨S4096x5, .i32⟩
  | 123 => ⟨S_, .i32⟩
  | 124 => ⟨S4096x5, .i32⟩
  | 125 => ⟨S4096x5, .i32⟩
  | 126 => ⟨S_, .i32⟩
  | 127 => ⟨S4096x5, .i32⟩
  | _ => ⟨S4096x100000, .f32⟩

abbrev hbmTy0_7 (i : Nat) : BufTy := match i % 128 with
  | 0 => ⟨S4096x5, .i32⟩
  | 1 => ⟨S4096x5, .i32⟩
  | 2 => ⟨S4096x5, .i32⟩
  | 3 => ⟨S4096x5, .i32⟩
  | 4 => ⟨S4096x5, .i32⟩
  | 5 => ⟨S4096x5, .i32⟩
  | 6 => ⟨S4096x5, .i32⟩
  | 7 => ⟨S_, .i32⟩
  | 8 => ⟨S4096x5, .i32⟩
  | 9 => ⟨S4096x5, .i32⟩
  | 10 => ⟨S4096x5, .i32⟩
  | 11 => ⟨S_, .i32⟩
  | 12 => ⟨S4096x5, .i32⟩
  | 13 => ⟨S4096x5, .i32⟩
  | 14 => ⟨S_, .i32⟩
  | 15 => ⟨S4096x5, .i32⟩
  | 16 => ⟨S4096x5, .i32⟩
  | 17 => ⟨S4096x5, .i32⟩
  | 18 => ⟨S4096x5, .i32⟩
  | 19 => ⟨S4096x5, .i32⟩
  | 20 => ⟨S_, .i32⟩
  | 21 => ⟨S4096x5, .i32⟩
  | 22 => ⟨S4096x5, .i32⟩
  | 23 => ⟨S_, .i32⟩
  | 24 => ⟨S4096x5, .i32⟩
  | 25 => ⟨S4096x5, .i32⟩
  | 26 => ⟨S4096x5, .i32⟩
  | 27 => ⟨S4096x5, .i32⟩
  | 28 => ⟨S4096x5, .i32⟩
  | 29 => ⟨S_, .i32⟩
  | 30 => ⟨S4096x5, .i32⟩
  | 31 => ⟨S4096x5, .i32⟩
  | 32 => ⟨S_, .i32⟩
  | 33 => ⟨S4096x5, .i32⟩
  | 34 => ⟨S4096x5, .i32⟩
  | 35 => ⟨S4096x5, .i32⟩
  | 36 => ⟨S4096x5, .i32⟩
  | 37 => ⟨S4096x5, .i32⟩
  | 38 => ⟨S_, .i32⟩
  | 39 => ⟨S4096x5, .i32⟩
  | 40 => ⟨S4096x5, .i32⟩
  | 41 => ⟨S_, .i32⟩
  | 42 => ⟨S4096x5, .i32⟩
  | 43 => ⟨S4096x5, .i32⟩
  | 44 => ⟨S4096x5, .i32⟩
  | 45 => ⟨S4096x5, .i32⟩
  | 46 => ⟨S4096x5, .i32⟩
  | 47 => ⟨S4096x5, .i32⟩
  | 48 => ⟨S4096x5, .i32⟩
  | 49 => ⟨S4096x5, .i32⟩
  | 50 => ⟨S_, .i32⟩
  | 51 => ⟨S4096x5, .i32⟩
  | 52 => ⟨S4096x5, .i32⟩
  | 53 => ⟨S4096x5, .i32⟩
  | 54 => ⟨S_, .i32⟩
  | 55 => ⟨S4096x5, .i32⟩
  | 56 => ⟨S4096x5, .i32⟩
  | 57 => ⟨S_, .i32⟩
  | 58 => ⟨S4096x5, .i32⟩
  | 59 => ⟨S4096x5, .i32⟩
  | 60 => ⟨S4096x5, .i32⟩
  | 61 => ⟨S4096x5, .i32⟩
  | 62 => ⟨S4096x5, .i32⟩
  | 63 => ⟨S_, .i32⟩
  | 64 => ⟨S4096x5, .i32⟩
  | 65 => ⟨S4096x5, .i32⟩
  | 66 => ⟨S_, .i32⟩
  | 67 => ⟨S4096x5, .i32⟩
  | 68 => ⟨S4096x5, .i32⟩
  | 69 => ⟨S4096x5, .i32⟩
  | 70 => ⟨S4096x5, .i32⟩
  | 71 => ⟨S4096x5, .i32⟩
  | 72 => ⟨S_, .i32⟩
  | 73 => ⟨S4096x5, .i32⟩
  | 74 => ⟨S4096x5, .i32⟩
  | 75 => ⟨S_, .i32⟩
  | 76 => ⟨S4096x5, .i32⟩
  | 77 => ⟨S4096x5, .i32⟩
  | 78 => ⟨S4096x5, .i32⟩
  | 79 => ⟨S4096x5, .i32⟩
  | 80 => ⟨S4096x5, .i32⟩
  | 81 => ⟨S_, .i32⟩
  | 82 => ⟨S4096x5, .i32⟩
  | 83 => ⟨S4096x5, .i32⟩
  | 84 => ⟨S_, .i32⟩
  | 85 => ⟨S4096x5, .i32⟩
  | 86 => ⟨S4096x5, .i32⟩
  | 87 => ⟨S4096x5, .i32⟩
  | 88 => ⟨S4096x5, .i32⟩
  | 89 => ⟨S4096x5, .i32⟩
  | 90 => ⟨S4096x5, .i32⟩
  | 91 => ⟨S4096x5, .i32⟩
  | 92 => ⟨S4096x5, .i32⟩
  | 93 => ⟨S_, .i32⟩
  | 94 => ⟨S4096x5, .i32⟩
  | 95 => ⟨S4096x5, .i32⟩
  | 96 => ⟨S4096x5, .i32⟩
  | 97 => ⟨S1x1, .i32⟩
  | 98 => ⟨S1x1, .i32⟩
  | 99 => ⟨S1x1, .i1⟩
  | 100 => ⟨S_, .i32⟩
  | 101 => ⟨S1x1, .i32⟩
  | 102 => ⟨S1x1, .i32⟩
  | 103 => ⟨S1x1, .i1⟩
  | 104 => ⟨S1x1, .i1⟩
  | 105 => ⟨S1x1, .i1⟩
  | 106 => ⟨S_, .i32⟩
  | 107 => ⟨S1x1, .i32⟩
  | 108 => ⟨S1x1, .i32⟩
  | 109 => ⟨S1x1, .i32⟩
  | 110 => ⟨S_, .i32⟩
  | 111 => ⟨S1x1, .i32⟩
  | 112 => ⟨S1x1, .i32⟩
  | 113 => ⟨S1x1, .i32⟩
  | 114 => ⟨S1x1, .i32⟩
  | 115 => ⟨S4096x5, .i32⟩
  | 116 => ⟨S4096x5, .i32⟩
  | 117 => ⟨S4096x5, .i32⟩
  | 118 => ⟨S4096x5, .i32⟩
  | 119 => ⟨S4096x5, .i32⟩
  | 120 => ⟨S4096x5, .i32⟩
  | 121 => ⟨S4096x5, .i32⟩
  | 122 => ⟨S4096x5, .i32⟩
  | 123 => ⟨S4096x5, .i32⟩
  | 124 => ⟨S4096x5, .i32⟩
  | 125 => ⟨S4096x5, .i32⟩
  | 126 => ⟨S4096x5, .i32⟩
  | 127 => ⟨S100000x4096, .f32⟩
  | _ => ⟨S4096x100000, .f32⟩

abbrev hbmTy0_8 (i : Nat) : BufTy := match i % 128 with
  | 0 => ⟨S20480, .i32⟩
  | 1 => ⟨S32x6144, .f32⟩
  | 2 => ⟨S192x128x8, .f32⟩
  | 3 => ⟨S1x1, .f32⟩
  | 4 => ⟨S_, .f32⟩
  | _ => ⟨S4096x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S4096x100000, .f32⟩

abbrev bufTy : (tb : Table) → Fin (nBuf tb) → BufTy
  | .hbm, ⟨i, _⟩ => hbmTy i
  | .local .tc .vmem, ⟨0, _⟩ => ⟨S192x128x8, .f32⟩
  | .local .tc .vmem, ⟨1, _⟩ => ⟨S1x1, .f32⟩
  | .shared, ⟨0, _⟩ => ⟨S16x6144, .f32⟩
  | .local .scVector .vmem, ⟨0, _⟩ => ⟨S128, .i32⟩
  | .local .scVector .vmem, ⟨1, _⟩ => ⟨S640, .i32⟩
  | .local .scVector .vmem, ⟨2, _⟩ => ⟨S2x128x128, .f32⟩
  | _, _ => ⟨S4096x100000, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_call0_v0 : Ref sig .tc := ⟨.hbm, 26, rfl⟩
abbrev main_call0_call0_c : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_c_0 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_c_1 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_call0_v12 : Ref sig .tc := ⟨.hbm, 41, rfl⟩
abbrev main_call0_call0_v13 : Ref sig .tc := ⟨.hbm, 42, rfl⟩
abbrev main_call0_call0_c_2 : Ref sig .tc := ⟨.hbm, 43, rfl⟩
abbrev main_call0_call0_v14 : Ref sig .tc := ⟨.hbm, 44, rfl⟩
abbrev main_call0_call0_v15 : Ref sig .tc := ⟨.hbm, 45, rfl⟩
abbrev main_call0_call0_c_3 : Ref sig .tc := ⟨.hbm, 46, rfl⟩
abbrev main_call0_call0_v16 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_c_4 : Ref sig .tc := ⟨.hbm, 52, rfl⟩
abbrev main_call0_call0_v21 : Ref sig .tc := ⟨.hbm, 53, rfl⟩
abbrev main_call0_call0_v22 : Ref sig .tc := ⟨.hbm, 54, rfl⟩
abbrev main_call0_call0_c_5 : Ref sig .tc := ⟨.hbm, 55, rfl⟩
abbrev main_call0_call0_v23 : Ref sig .tc := ⟨.hbm, 56, rfl⟩
abbrev main_call0_call0_v24 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_v27 : Ref sig .tc := ⟨.hbm, 60, rfl⟩
abbrev main_call0_call0_c_6 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_c_7 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_v32 : Ref sig .tc := ⟨.hbm, 67, rfl⟩
abbrev main_call0_call0_v33 : Ref sig .tc := ⟨.hbm, 68, rfl⟩
abbrev main_call0_call0_v34 : Ref sig .tc := ⟨.hbm, 69, rfl⟩
abbrev main_call0_call0_v35 : Ref sig .tc := ⟨.hbm, 70, rfl⟩
abbrev main_call0_call0_v36 : Ref sig .tc := ⟨.hbm, 71, rfl⟩
abbrev main_call0_call0_v37 : Ref sig .tc := ⟨.hbm, 72, rfl⟩
abbrev main_call0_call0_c_8 : Ref sig .tc := ⟨.hbm, 73, rfl⟩
abbrev main_call0_call0_v38 : Ref sig .tc := ⟨.hbm, 74, rfl⟩
abbrev main_call0_call0_v39 : Ref sig .tc := ⟨.hbm, 75, rfl⟩
abbrev main_call0_call0_v40 : Ref sig .tc := ⟨.hbm, 76, rfl⟩
abbrev main_call0_call0_c_9 : Ref sig .tc := ⟨.hbm, 77, rfl⟩
abbrev main_call0_call0_v41 : Ref sig .tc := ⟨.hbm, 78, rfl⟩
abbrev main_call0_call0_v42 : Ref sig .tc := ⟨.hbm, 79, rfl⟩
abbrev main_call0_call0_c_10 : Ref sig .tc := ⟨.hbm, 80, rfl⟩
abbrev main_call0_call0_v43 : Ref sig .tc := ⟨.hbm, 81, rfl⟩
abbrev main_call0_call0_v44 : Ref sig .tc := ⟨.hbm, 82, rfl⟩
abbrev main_call0_call0_v45 : Ref sig .tc := ⟨.hbm, 83, rfl⟩
abbrev main_call0_call0_v46 : Ref sig .tc := ⟨.hbm, 84, rfl⟩
abbrev main_call0_call0_v47 : Ref sig .tc := ⟨.hbm, 85, rfl⟩
abbrev main_call0_call0_c_11 : Ref sig .tc := ⟨.hbm, 86, rfl⟩
abbrev main_call0_call0_v48 : Ref sig .tc := ⟨.hbm, 87, rfl⟩
abbrev main_call0_call0_v49 : Ref sig .tc := ⟨.hbm, 88, rfl⟩
abbrev main_call0_call0_c_12 : Ref sig .tc := ⟨.hbm, 89, rfl⟩
abbrev main_call0_call0_v50 : Ref sig .tc := ⟨.hbm, 90, rfl⟩
abbrev main_call0_call0_v51 : Ref sig .tc := ⟨.hbm, 91, rfl⟩
abbrev main_call0_call0_v52 : Ref sig .tc := ⟨.hbm, 92, rfl⟩
abbrev main_call0_call0_v53 : Ref sig .tc := ⟨.hbm, 93, rfl⟩
abbrev main_call0_call0_v54 : Ref sig .tc := ⟨.hbm, 94, rfl⟩
abbrev main_call0_call0_c_13 : Ref sig .tc := ⟨.hbm, 95, rfl⟩
abbrev main_call0_call0_v55 : Ref sig .tc := ⟨.hbm, 96, rfl⟩
abbrev main_call0_call0_v56 : Ref sig .tc := ⟨.hbm, 97, rfl⟩
abbrev main_call0_call0_c_14 : Ref sig .tc := ⟨.hbm, 98, rfl⟩
abbrev main_call0_call0_v57 : Ref sig .tc := ⟨.hbm, 99, rfl⟩
abbrev main_call0_call0_v58 : Ref sig .tc := ⟨.hbm, 100, rfl⟩
abbrev main_call0_call0_v59 : Ref sig .tc := ⟨.hbm, 101, rfl⟩
abbrev main_call0_call0_v60 : Ref sig .tc := ⟨.hbm, 102, rfl⟩
abbrev main_call0_call0_v61 : Ref sig .tc := ⟨.hbm, 103, rfl⟩
abbrev main_call0_call0_c_15 : Ref sig .tc := ⟨.hbm, 104, rfl⟩
abbrev main_call0_call0_v62 : Ref sig .tc := ⟨.hbm, 105, rfl⟩
abbrev main_call0_call0_v63 : Ref sig .tc := ⟨.hbm, 106, rfl⟩
abbrev main_call0_call0_c_16 : Ref sig .tc := ⟨.hbm, 107, rfl⟩
abbrev main_call0_call0_v64 : Ref sig .tc := ⟨.hbm, 108, rfl⟩
abbrev main_call0_call0_v65 : Ref sig .tc := ⟨.hbm, 109, rfl⟩
abbrev main_call0_call0_v66 : Ref sig .tc := ⟨.hbm, 110, rfl⟩
abbrev main_call0_call0_v67 : Ref sig .tc := ⟨.hbm, 111, rfl⟩
abbrev main_call0_call0_v68 : Ref sig .tc := ⟨.hbm, 112, rfl⟩
abbrev main_call0_call0_v69 : Ref sig .tc := ⟨.hbm, 113, rfl⟩
abbrev main_call0_call0_v70 : Ref sig .tc := ⟨.hbm, 114, rfl⟩
abbrev main_call0_call0_v71 : Ref sig .tc := ⟨.hbm, 115, rfl⟩
abbrev main_call0_call0_c_17 : Ref sig .tc := ⟨.hbm, 116, rfl⟩
abbrev main_call0_call0_v72 : Ref sig .tc := ⟨.hbm, 117, rfl⟩
abbrev main_call0_call0_v73 : Ref sig .tc := ⟨.hbm, 118, rfl⟩
abbrev main_call0_call0_v74 : Ref sig .tc := ⟨.hbm, 119, rfl⟩
abbrev main_call0_call0_c_18 : Ref sig .tc := ⟨.hbm, 120, rfl⟩
abbrev main_call0_call0_v75 : Ref sig .tc := ⟨.hbm, 121, rfl⟩
abbrev main_call0_call0_v76 : Ref sig .tc := ⟨.hbm, 122, rfl⟩
abbrev main_call0_call0_c_19 : Ref sig .tc := ⟨.hbm, 123, rfl⟩
abbrev main_call0_call0_v77 : Ref sig .tc := ⟨.hbm, 124, rfl⟩
abbrev main_call0_call0_v78 : Ref sig .tc := ⟨.hbm, 125, rfl⟩
abbrev main_call0_call0_v79 : Ref sig .tc := ⟨.hbm, 126, rfl⟩
abbrev main_call0_call0_v80 : Ref sig .tc := ⟨.hbm, 127, rfl⟩
abbrev main_call0_call0_v81 : Ref sig .tc := ⟨.hbm, 128, rfl⟩
abbrev main_call0_call0_c_20 : Ref sig .tc := ⟨.hbm, 129, rfl⟩
abbrev main_call0_call0_v82 : Ref sig .tc := ⟨.hbm, 130, rfl⟩
abbrev main_call0_call0_v83 : Ref sig .tc := ⟨.hbm, 131, rfl⟩
abbrev main_call0_call0_c_21 : Ref sig .tc := ⟨.hbm, 132, rfl⟩
abbrev main_call0_call0_v84 : Ref sig .tc := ⟨.hbm, 133, rfl⟩
abbrev main_call0_call0_v85 : Ref sig .tc := ⟨.hbm, 134, rfl⟩
abbrev main_call0_call0_v86 : Ref sig .tc := ⟨.hbm, 135, rfl⟩
abbrev main_call0_call0_v87 : Ref sig .tc := ⟨.hbm, 136, rfl⟩
abbrev main_call0_call0_v88 : Ref sig .tc := ⟨.hbm, 137, rfl⟩
abbrev main_call0_call0_c_22 : Ref sig .tc := ⟨.hbm, 138, rfl⟩
abbrev main_call0_call0_v89 : Ref sig .tc := ⟨.hbm, 139, rfl⟩
abbrev main_call0_call0_v90 : Ref sig .tc := ⟨.hbm, 140, rfl⟩
abbrev main_call0_call0_c_23 : Ref sig .tc := ⟨.hbm, 141, rfl⟩
abbrev main_call0_call0_v91 : Ref sig .tc := ⟨.hbm, 142, rfl⟩
abbrev main_call0_call0_v92 : Ref sig .tc := ⟨.hbm, 143, rfl⟩
abbrev main_call0_call0_v93 : Ref sig .tc := ⟨.hbm, 144, rfl⟩
abbrev main_call0_call0_v94 : Ref sig .tc := ⟨.hbm, 145, rfl⟩
abbrev main_call0_call0_v95 : Ref sig .tc := ⟨.hbm, 146, rfl⟩
abbrev main_call0_call0_c_24 : Ref sig .tc := ⟨.hbm, 147, rfl⟩
abbrev main_call0_call0_v96 : Ref sig .tc := ⟨.hbm, 148, rfl⟩
abbrev main_call0_call0_v97 : Ref sig .tc := ⟨.hbm, 149, rfl⟩
abbrev main_call0_call0_c_25 : Ref sig .tc := ⟨.hbm, 150, rfl⟩
abbrev main_call0_call0_v98 : Ref sig .tc := ⟨.hbm, 151, rfl⟩
abbrev main_call0_call0_v99 : Ref sig .tc := ⟨.hbm, 152, rfl⟩
abbrev main_call0_call0_v100 : Ref sig .tc := ⟨.hbm, 153, rfl⟩
abbrev main_call0_call0_v101 : Ref sig .tc := ⟨.hbm, 154, rfl⟩
abbrev main_call0_call0_v102 : Ref sig .tc := ⟨.hbm, 155, rfl⟩
abbrev main_call0_call0_v103 : Ref sig .tc := ⟨.hbm, 156, rfl⟩
abbrev main_call0_call0_v104 : Ref sig .tc := ⟨.hbm, 157, rfl⟩
abbrev main_call0_call0_v105 : Ref sig .tc := ⟨.hbm, 158, rfl⟩
abbrev main_call0_call0_c_26 : Ref sig .tc := ⟨.hbm, 159, rfl⟩
abbrev main_call0_call0_v106 : Ref sig .tc := ⟨.hbm, 160, rfl⟩
abbrev main_call0_call0_v107 : Ref sig .tc := ⟨.hbm, 161, rfl⟩
abbrev main_call0_call0_v108 : Ref sig .tc := ⟨.hbm, 162, rfl⟩
abbrev main_call0_call0_c_27 : Ref sig .tc := ⟨.hbm, 163, rfl⟩
abbrev main_call0_call0_v109 : Ref sig .tc := ⟨.hbm, 164, rfl⟩
abbrev main_call0_call0_v110 : Ref sig .tc := ⟨.hbm, 165, rfl⟩
abbrev main_call0_call0_c_28 : Ref sig .tc := ⟨.hbm, 166, rfl⟩
abbrev main_call0_call0_v111 : Ref sig .tc := ⟨.hbm, 167, rfl⟩
abbrev main_call0_call0_v112 : Ref sig .tc := ⟨.hbm, 168, rfl⟩
abbrev main_call0_call0_v113 : Ref sig .tc := ⟨.hbm, 169, rfl⟩
abbrev main_call0_call0_v114 : Ref sig .tc := ⟨.hbm, 170, rfl⟩
abbrev main_call0_call0_v115 : Ref sig .tc := ⟨.hbm, 171, rfl⟩
abbrev main_call0_call0_c_29 : Ref sig .tc := ⟨.hbm, 172, rfl⟩
abbrev main_call0_call0_v116 : Ref sig .tc := ⟨.hbm, 173, rfl⟩
abbrev main_call0_call0_v117 : Ref sig .tc := ⟨.hbm, 174, rfl⟩
abbrev main_call0_call0_c_30 : Ref sig .tc := ⟨.hbm, 175, rfl⟩
abbrev main_call0_call0_v118 : Ref sig .tc := ⟨.hbm, 176, rfl⟩
abbrev main_call0_call0_v119 : Ref sig .tc := ⟨.hbm, 177, rfl⟩
abbrev main_call0_call0_v120 : Ref sig .tc := ⟨.hbm, 178, rfl⟩
abbrev main_call0_call0_v121 : Ref sig .tc := ⟨.hbm, 179, rfl⟩
abbrev main_call0_call0_v122 : Ref sig .tc := ⟨.hbm, 180, rfl⟩
abbrev main_call0_call0_c_31 : Ref sig .tc := ⟨.hbm, 181, rfl⟩
abbrev main_call0_call0_v123 : Ref sig .tc := ⟨.hbm, 182, rfl⟩
abbrev main_call0_call0_v124 : Ref sig .tc := ⟨.hbm, 183, rfl⟩
abbrev main_call0_call0_c_32 : Ref sig .tc := ⟨.hbm, 184, rfl⟩
abbrev main_call0_call0_v125 : Ref sig .tc := ⟨.hbm, 185, rfl⟩
abbrev main_call0_call0_v126 : Ref sig .tc := ⟨.hbm, 186, rfl⟩
abbrev main_call0_call0_v127 : Ref sig .tc := ⟨.hbm, 187, rfl⟩
abbrev main_call0_call0_v128 : Ref sig .tc := ⟨.hbm, 188, rfl⟩
abbrev main_call0_call0_v129 : Ref sig .tc := ⟨.hbm, 189, rfl⟩
abbrev main_call0_call0_c_33 : Ref sig .tc := ⟨.hbm, 190, rfl⟩
abbrev main_call0_call0_v130 : Ref sig .tc := ⟨.hbm, 191, rfl⟩
abbrev main_call0_call0_v131 : Ref sig .tc := ⟨.hbm, 192, rfl⟩
abbrev main_call0_call0_c_34 : Ref sig .tc := ⟨.hbm, 193, rfl⟩
abbrev main_call0_call0_v132 : Ref sig .tc := ⟨.hbm, 194, rfl⟩
abbrev main_call0_call0_v133 : Ref sig .tc := ⟨.hbm, 195, rfl⟩
abbrev main_call0_call0_v134 : Ref sig .tc := ⟨.hbm, 196, rfl⟩
abbrev main_call0_call0_v135 : Ref sig .tc := ⟨.hbm, 197, rfl⟩
abbrev main_call0_call0_v136 : Ref sig .tc := ⟨.hbm, 198, rfl⟩
abbrev main_call0_call0_v137 : Ref sig .tc := ⟨.hbm, 199, rfl⟩
abbrev main_call0_call0_v138 : Ref sig .tc := ⟨.hbm, 200, rfl⟩
abbrev main_call0_call0_v139 : Ref sig .tc := ⟨.hbm, 201, rfl⟩
abbrev main_call0_call0_c_35 : Ref sig .tc := ⟨.hbm, 202, rfl⟩
abbrev main_call0_call0_v140 : Ref sig .tc := ⟨.hbm, 203, rfl⟩
abbrev main_call0_call0_v141 : Ref sig .tc := ⟨.hbm, 204, rfl⟩
abbrev main_call0_call0_v142 : Ref sig .tc := ⟨.hbm, 205, rfl⟩
abbrev main_call0_call0_c_36 : Ref sig .tc := ⟨.hbm, 206, rfl⟩
abbrev main_call0_call0_v143 : Ref sig .tc := ⟨.hbm, 207, rfl⟩
abbrev main_call0_call0_v144 : Ref sig .tc := ⟨.hbm, 208, rfl⟩
abbrev main_call0_call0_c_37 : Ref sig .tc := ⟨.hbm, 209, rfl⟩
abbrev main_call0_call0_v145 : Ref sig .tc := ⟨.hbm, 210, rfl⟩
abbrev main_call0_call0_v146 : Ref sig .tc := ⟨.hbm, 211, rfl⟩
abbrev main_call0_call0_v147 : Ref sig .tc := ⟨.hbm, 212, rfl⟩
abbrev main_call0_call0_v148 : Ref sig .tc := ⟨.hbm, 213, rfl⟩
abbrev main_call0_call0_v149 : Ref sig .tc := ⟨.hbm, 214, rfl⟩
abbrev main_call0_call0_c_38 : Ref sig .tc := ⟨.hbm, 215, rfl⟩
abbrev main_call0_call0_v150 : Ref sig .tc := ⟨.hbm, 216, rfl⟩
abbrev main_call0_call0_v151 : Ref sig .tc := ⟨.hbm, 217, rfl⟩
abbrev main_call0_call0_c_39 : Ref sig .tc := ⟨.hbm, 218, rfl⟩
abbrev main_call0_call0_v152 : Ref sig .tc := ⟨.hbm, 219, rfl⟩
abbrev main_call0_call0_v153 : Ref sig .tc := ⟨.hbm, 220, rfl⟩
abbrev main_call0_call0_v154 : Ref sig .tc := ⟨.hbm, 221, rfl⟩
abbrev main_call0_call0_v155 : Ref sig .tc := ⟨.hbm, 222, rfl⟩
abbrev main_call0_call0_v156 : Ref sig .tc := ⟨.hbm, 223, rfl⟩
abbrev main_call0_call0_c_40 : Ref sig .tc := ⟨.hbm, 224, rfl⟩
abbrev main_call0_call0_v157 : Ref sig .tc := ⟨.hbm, 225, rfl⟩
abbrev main_call0_call0_v158 : Ref sig .tc := ⟨.hbm, 226, rfl⟩
abbrev main_call0_call0_c_41 : Ref sig .tc := ⟨.hbm, 227, rfl⟩
abbrev main_call0_call0_v159 : Ref sig .tc := ⟨.hbm, 228, rfl⟩
abbrev main_call0_call0_v160 : Ref sig .tc := ⟨.hbm, 229, rfl⟩
abbrev main_call0_call0_v161 : Ref sig .tc := ⟨.hbm, 230, rfl⟩
abbrev main_call0_call0_v162 : Ref sig .tc := ⟨.hbm, 231, rfl⟩
abbrev main_call0_call0_v163 : Ref sig .tc := ⟨.hbm, 232, rfl⟩
abbrev main_call0_call0_c_42 : Ref sig .tc := ⟨.hbm, 233, rfl⟩
abbrev main_call0_call0_v164 : Ref sig .tc := ⟨.hbm, 234, rfl⟩
abbrev main_call0_call0_v165 : Ref sig .tc := ⟨.hbm, 235, rfl⟩
abbrev main_call0_call0_c_43 : Ref sig .tc := ⟨.hbm, 236, rfl⟩
abbrev main_call0_call0_v166 : Ref sig .tc := ⟨.hbm, 237, rfl⟩
abbrev main_call0_call0_v167 : Ref sig .tc := ⟨.hbm, 238, rfl⟩
abbrev main_call0_call0_v168 : Ref sig .tc := ⟨.hbm, 239, rfl⟩
abbrev main_call0_call0_v169 : Ref sig .tc := ⟨.hbm, 240, rfl⟩
abbrev main_call0_call0_v170 : Ref sig .tc := ⟨.hbm, 241, rfl⟩
abbrev main_call0_v11_0 : Ref sig .tc := ⟨.hbm, 242, rfl⟩
abbrev main_call0_call0_v172 : Ref sig .tc := ⟨.hbm, 243, rfl⟩
abbrev main_call0_call0_v173 : Ref sig .tc := ⟨.hbm, 244, rfl⟩
abbrev main_call0_call0_c_44 : Ref sig .tc := ⟨.hbm, 245, rfl⟩
abbrev main_call0_call0_v174 : Ref sig .tc := ⟨.hbm, 246, rfl⟩
abbrev main_call0_v11_1 : Ref sig .tc := ⟨.hbm, 247, rfl⟩
abbrev main_v7 : Ref sig .tc := ⟨.hbm, 248, rfl⟩
abbrev main_c_3 : Ref sig .tc := ⟨.hbm, 249, rfl⟩
abbrev main_c_4 : Ref sig .tc := ⟨.hbm, 250, rfl⟩
abbrev main_call1_c : Ref sig .tc := ⟨.hbm, 251, rfl⟩
abbrev main_call1_c_0 : Ref sig .tc := ⟨.hbm, 252, rfl⟩
abbrev main_call1_c_1 : Ref sig .tc := ⟨.hbm, 253, rfl⟩
abbrev main_call1_call0_v0 : Ref sig .tc := ⟨.hbm, 254, rfl⟩
abbrev main_call1_v0 : Ref sig .tc := ⟨.hbm, 255, rfl⟩
abbrev main_call1_v1 : Ref sig .tc := ⟨.hbm, 256, rfl⟩
abbrev main_call1_c_2 : Ref sig .tc := ⟨.hbm, 257, rfl⟩
abbrev main_call1_c_3 : Ref sig .tc := ⟨.hbm, 258, rfl⟩
abbrev main_call1_call1_v0 : Ref sig .tc := ⟨.hbm, 259, rfl⟩
abbrev main_call1_v2 : Ref sig .tc := ⟨.hbm, 260, rfl⟩
abbrev main_call1_v3 : Ref sig .tc := ⟨.hbm, 261, rfl⟩
abbrev main_call1_c_4 : Ref sig .tc := ⟨.hbm, 262, rfl⟩
abbrev main_call1_c_5 : Ref sig .tc := ⟨.hbm, 263, rfl⟩
abbrev main_call1_call2_v0 : Ref sig .tc := ⟨.hbm, 264, rfl⟩
abbrev main_call1_v4 : Ref sig .tc := ⟨.hbm, 265, rfl⟩
abbrev main_call1_v5 : Ref sig .tc := ⟨.hbm, 266, rfl⟩
abbrev main_call1_v6 : Ref sig .tc := ⟨.hbm, 267, rfl⟩
abbrev main_call1_v7 : Ref sig .tc := ⟨.hbm, 268, rfl⟩
abbrev main_call1_call3_v0 : Ref sig .tc := ⟨.hbm, 269, rfl⟩
abbrev main_call1_call3_v1 : Ref sig .tc := ⟨.hbm, 270, rfl⟩
abbrev main_call1_call3_v2 : Ref sig .tc := ⟨.hbm, 271, rfl⟩
abbrev main_call1_call3_v3 : Ref sig .tc := ⟨.hbm, 272, rfl⟩
abbrev main_call1_call3_v4 : Ref sig .tc := ⟨.hbm, 273, rfl⟩
abbrev main_call1_call3_c : Ref sig .tc := ⟨.hbm, 274, rfl⟩
abbrev main_call1_call3_v5 : Ref sig .tc := ⟨.hbm, 275, rfl⟩
abbrev main_call1_call3_v6 : Ref sig .tc := ⟨.hbm, 276, rfl⟩
abbrev main_call1_call3_c_0 : Ref sig .tc := ⟨.hbm, 277, rfl⟩
abbrev main_call1_call3_v7 : Ref sig .tc := ⟨.hbm, 278, rfl⟩
abbrev main_call1_call3_v8 : Ref sig .tc := ⟨.hbm, 279, rfl⟩
abbrev main_call1_call3_v9 : Ref sig .tc := ⟨.hbm, 280, rfl⟩
abbrev main_call1_call3_v10 : Ref sig .tc := ⟨.hbm, 281, rfl⟩
abbrev main_call1_call3_call0_v0 : Ref sig .tc := ⟨.hbm, 282, rfl⟩
abbrev main_call1_call3_call0_c : Ref sig .tc := ⟨.hbm, 283, rfl⟩
abbrev main_call1_call3_call0_v1 : Ref sig .tc := ⟨.hbm, 284, rfl⟩
abbrev main_call1_call3_call0_v2 : Ref sig .tc := ⟨.hbm, 285, rfl⟩
abbrev main_call1_call3_call0_v3 : Ref sig .tc := ⟨.hbm, 286, rfl⟩
abbrev main_call1_call3_call0_v4 : Ref sig .tc := ⟨.hbm, 287, rfl⟩
abbrev main_call1_call3_call0_v5 : Ref sig .tc := ⟨.hbm, 288, rfl⟩
abbrev main_call1_call3_call0_v6 : Ref sig .tc := ⟨.hbm, 289, rfl⟩
abbrev main_call1_call3_call0_c_0 : Ref sig .tc := ⟨.hbm, 290, rfl⟩
abbrev main_call1_call3_call0_v7 : Ref sig .tc := ⟨.hbm, 291, rfl⟩
abbrev main_call1_call3_call0_v8 : Ref sig .tc := ⟨.hbm, 292, rfl⟩
abbrev main_call1_call3_call0_c_1 : Ref sig .tc := ⟨.hbm, 293, rfl⟩
abbrev main_call1_call3_call0_v9 : Ref sig .tc := ⟨.hbm, 294, rfl⟩
abbrev main_call1_call3_call0_v10 : Ref sig .tc := ⟨.hbm, 295, rfl⟩
abbrev main_call1_call3_call0_v11 : Ref sig .tc := ⟨.hbm, 296, rfl⟩
abbrev main_call1_call3_call0_v12 : Ref sig .tc := ⟨.hbm, 297, rfl⟩
abbrev main_call1_call3_call0_v13 : Ref sig .tc := ⟨.hbm, 298, rfl⟩
abbrev main_call1_call3_call0_c_2 : Ref sig .tc := ⟨.hbm, 299, rfl⟩
abbrev main_call1_call3_call0_v14 : Ref sig .tc := ⟨.hbm, 300, rfl⟩
abbrev main_call1_call3_call0_v15 : Ref sig .tc := ⟨.hbm, 301, rfl⟩
abbrev main_call1_call3_call0_c_3 : Ref sig .tc := ⟨.hbm, 302, rfl⟩
abbrev main_call1_call3_call0_v16 : Ref sig .tc := ⟨.hbm, 303, rfl⟩
abbrev main_call1_call3_call0_v17 : Ref sig .tc := ⟨.hbm, 304, rfl⟩
abbrev main_call1_call3_call0_v18 : Ref sig .tc := ⟨.hbm, 305, rfl⟩
abbrev main_call1_call3_call0_v19 : Ref sig .tc := ⟨.hbm, 306, rfl⟩
abbrev main_call1_call3_call0_v20 : Ref sig .tc := ⟨.hbm, 307, rfl⟩
abbrev main_call1_call3_call0_c_4 : Ref sig .tc := ⟨.hbm, 308, rfl⟩
abbrev main_call1_call3_call0_v21 : Ref sig .tc := ⟨.hbm, 309, rfl⟩
abbrev main_call1_call3_call0_v22 : Ref sig .tc := ⟨.hbm, 310, rfl⟩
abbrev main_call1_call3_call0_c_5 : Ref sig .tc := ⟨.hbm, 311, rfl⟩
abbrev main_call1_call3_call0_v23 : Ref sig .tc := ⟨.hbm, 312, rfl⟩
abbrev main_call1_call3_call0_v24 : Ref sig .tc := ⟨.hbm, 313, rfl⟩
abbrev main_call1_call3_call0_v25 : Ref sig .tc := ⟨.hbm, 314, rfl⟩
abbrev main_call1_call3_call0_v26 : Ref sig .tc := ⟨.hbm, 315, rfl⟩
abbrev main_call1_call3_call0_v27 : Ref sig .tc := ⟨.hbm, 316, rfl⟩
abbrev main_call1_call3_call0_c_6 : Ref sig .tc := ⟨.hbm, 317, rfl⟩
abbrev main_call1_call3_call0_v28 : Ref sig .tc := ⟨.hbm, 318, rfl⟩
abbrev main_call1_call3_call0_v29 : Ref sig .tc := ⟨.hbm, 319, rfl⟩
abbrev main_call1_call3_call0_c_7 : Ref sig .tc := ⟨.hbm, 320, rfl⟩
abbrev main_call1_call3_call0_v30 : Ref sig .tc := ⟨.hbm, 321, rfl⟩
abbrev main_call1_call3_call0_v31 : Ref sig .tc := ⟨.hbm, 322, rfl⟩
abbrev main_call1_call3_call0_v32 : Ref sig .tc := ⟨.hbm, 323, rfl⟩
abbrev main_call1_call3_call0_v33 : Ref sig .tc := ⟨.hbm, 324, rfl⟩
abbrev main_call1_call3_call0_v34 : Ref sig .tc := ⟨.hbm, 325, rfl⟩
abbrev main_call1_call3_call0_v35 : Ref sig .tc := ⟨.hbm, 326, rfl⟩
abbrev main_call1_call3_call0_v36 : Ref sig .tc := ⟨.hbm, 327, rfl⟩
abbrev main_call1_call3_call0_v37 : Ref sig .tc := ⟨.hbm, 328, rfl⟩
abbrev main_call1_call3_call0_c_8 : Ref sig .tc := ⟨.hbm, 329, rfl⟩
abbrev main_call1_call3_call0_v38 : Ref sig .tc := ⟨.hbm, 330, rfl⟩
abbrev main_call1_call3_call0_v39 : Ref sig .tc := ⟨.hbm, 331, rfl⟩
abbrev main_call1_call3_call0_v40 : Ref sig .tc := ⟨.hbm, 332, rfl⟩
abbrev main_call1_call3_call0_c_9 : Ref sig .tc := ⟨.hbm, 333, rfl⟩
abbrev main_call1_call3_call0_v41 : Ref sig .tc := ⟨.hbm, 334, rfl⟩
abbrev main_call1_call3_call0_v42 : Ref sig .tc := ⟨.hbm, 335, rfl⟩
abbrev main_call1_call3_call0_c_10 : Ref sig .tc := ⟨.hbm, 336, rfl⟩
abbrev main_call1_call3_call0_v43 : Ref sig .tc := ⟨.hbm, 337, rfl⟩
abbrev main_call1_call3_call0_v44 : Ref sig .tc := ⟨.hbm, 338, rfl⟩
abbrev main_call1_call3_call0_v45 : Ref sig .tc := ⟨.hbm, 339, rfl⟩
abbrev main_call1_call3_call0_v46 : Ref sig .tc := ⟨.hbm, 340, rfl⟩
abbrev main_call1_call3_call0_v47 : Ref sig .tc := ⟨.hbm, 341, rfl⟩
abbrev main_call1_call3_call0_c_11 : Ref sig .tc := ⟨.hbm, 342, rfl⟩
abbrev main_call1_call3_call0_v48 : Ref sig .tc := ⟨.hbm, 343, rfl⟩
abbrev main_call1_call3_call0_v49 : Ref sig .tc := ⟨.hbm, 344, rfl⟩
abbrev main_call1_call3_call0_c_12 : Ref sig .tc := ⟨.hbm, 345, rfl⟩
abbrev main_call1_call3_call0_v50 : Ref sig .tc := ⟨.hbm, 346, rfl⟩
abbrev main_call1_call3_call0_v51 : Ref sig .tc := ⟨.hbm, 347, rfl⟩
abbrev main_call1_call3_call0_v52 : Ref sig .tc := ⟨.hbm, 348, rfl⟩
abbrev main_call1_call3_call0_v53 : Ref sig .tc := ⟨.hbm, 349, rfl⟩
abbrev main_call1_call3_call0_v54 : Ref sig .tc := ⟨.hbm, 350, rfl⟩
abbrev main_call1_call3_call0_c_13 : Ref sig .tc := ⟨.hbm, 351, rfl⟩
abbrev main_call1_call3_call0_v55 : Ref sig .tc := ⟨.hbm, 352, rfl⟩
abbrev main_call1_call3_call0_v56 : Ref sig .tc := ⟨.hbm, 353, rfl⟩
abbrev main_call1_call3_call0_c_14 : Ref sig .tc := ⟨.hbm, 354, rfl⟩
abbrev main_call1_call3_call0_v57 : Ref sig .tc := ⟨.hbm, 355, rfl⟩
abbrev main_call1_call3_call0_v58 : Ref sig .tc := ⟨.hbm, 356, rfl⟩
abbrev main_call1_call3_call0_v59 : Ref sig .tc := ⟨.hbm, 357, rfl⟩
abbrev main_call1_call3_call0_v60 : Ref sig .tc := ⟨.hbm, 358, rfl⟩
abbrev main_call1_call3_call0_v61 : Ref sig .tc := ⟨.hbm, 359, rfl⟩
abbrev main_call1_call3_call0_c_15 : Ref sig .tc := ⟨.hbm, 360, rfl⟩
abbrev main_call1_call3_call0_v62 : Ref sig .tc := ⟨.hbm, 361, rfl⟩
abbrev main_call1_call3_call0_v63 : Ref sig .tc := ⟨.hbm, 362, rfl⟩
abbrev main_call1_call3_call0_c_16 : Ref sig .tc := ⟨.hbm, 363, rfl⟩
abbrev main_call1_call3_call0_v64 : Ref sig .tc := ⟨.hbm, 364, rfl⟩
abbrev main_call1_call3_call0_v65 : Ref sig .tc := ⟨.hbm, 365, rfl⟩
abbrev main_call1_call3_call0_v66 : Ref sig .tc := ⟨.hbm, 366, rfl⟩
abbrev main_call1_call3_call0_v67 : Ref sig .tc := ⟨.hbm, 367, rfl⟩
abbrev main_call1_call3_call0_v68 : Ref sig .tc := ⟨.hbm, 368, rfl⟩
abbrev main_call1_call3_call0_v69 : Ref sig .tc := ⟨.hbm, 369, rfl⟩
abbrev main_call1_call3_call0_v70 : Ref sig .tc := ⟨.hbm, 370, rfl⟩
abbrev main_call1_call3_call0_v71 : Ref sig .tc := ⟨.hbm, 371, rfl⟩
abbrev main_call1_call3_call0_c_17 : Ref sig .tc := ⟨.hbm, 372, rfl⟩
abbrev main_call1_call3_call0_v72 : Ref sig .tc := ⟨.hbm, 373, rfl⟩
abbrev main_call1_call3_call0_v73 : Ref sig .tc := ⟨.hbm, 374, rfl⟩
abbrev main_call1_call3_call0_v74 : Ref sig .tc := ⟨.hbm, 375, rfl⟩
abbrev main_call1_call3_call0_c_18 : Ref sig .tc := ⟨.hbm, 376, rfl⟩
abbrev main_call1_call3_call0_v75 : Ref sig .tc := ⟨.hbm, 377, rfl⟩
abbrev main_call1_call3_call0_v76 : Ref sig .tc := ⟨.hbm, 378, rfl⟩
abbrev main_call1_call3_call0_c_19 : Ref sig .tc := ⟨.hbm, 379, rfl⟩
abbrev main_call1_call3_call0_v77 : Ref sig .tc := ⟨.hbm, 380, rfl⟩
abbrev main_call1_call3_call0_v78 : Ref sig .tc := ⟨.hbm, 381, rfl⟩
abbrev main_call1_call3_call0_v79 : Ref sig .tc := ⟨.hbm, 382, rfl⟩
abbrev main_call1_call3_call0_v80 : Ref sig .tc := ⟨.hbm, 383, rfl⟩
abbrev main_call1_call3_call0_v81 : Ref sig .tc := ⟨.hbm, 384, rfl⟩
abbrev main_call1_call3_call0_c_20 : Ref sig .tc := ⟨.hbm, 385, rfl⟩
abbrev main_call1_call3_call0_v82 : Ref sig .tc := ⟨.hbm, 386, rfl⟩
abbrev main_call1_call3_call0_v83 : Ref sig .tc := ⟨.hbm, 387, rfl⟩
abbrev main_call1_call3_call0_c_21 : Ref sig .tc := ⟨.hbm, 388, rfl⟩
abbrev main_call1_call3_call0_v84 : Ref sig .tc := ⟨.hbm, 389, rfl⟩
abbrev main_call1_call3_call0_v85 : Ref sig .tc := ⟨.hbm, 390, rfl⟩
abbrev main_call1_call3_call0_v86 : Ref sig .tc := ⟨.hbm, 391, rfl⟩
abbrev main_call1_call3_call0_v87 : Ref sig .tc := ⟨.hbm, 392, rfl⟩
abbrev main_call1_call3_call0_v88 : Ref sig .tc := ⟨.hbm, 393, rfl⟩
abbrev main_call1_call3_call0_c_22 : Ref sig .tc := ⟨.hbm, 394, rfl⟩
abbrev main_call1_call3_call0_v89 : Ref sig .tc := ⟨.hbm, 395, rfl⟩
abbrev main_call1_call3_call0_v90 : Ref sig .tc := ⟨.hbm, 396, rfl⟩
abbrev main_call1_call3_call0_c_23 : Ref sig .tc := ⟨.hbm, 397, rfl⟩
abbrev main_call1_call3_call0_v91 : Ref sig .tc := ⟨.hbm, 398, rfl⟩
abbrev main_call1_call3_call0_v92 : Ref sig .tc := ⟨.hbm, 399, rfl⟩
abbrev main_call1_call3_call0_v93 : Ref sig .tc := ⟨.hbm, 400, rfl⟩
abbrev main_call1_call3_call0_v94 : Ref sig .tc := ⟨.hbm, 401, rfl⟩
abbrev main_call1_call3_call0_v95 : Ref sig .tc := ⟨.hbm, 402, rfl⟩
abbrev main_call1_call3_call0_c_24 : Ref sig .tc := ⟨.hbm, 403, rfl⟩
abbrev main_call1_call3_call0_v96 : Ref sig .tc := ⟨.hbm, 404, rfl⟩
abbrev main_call1_call3_call0_v97 : Ref sig .tc := ⟨.hbm, 405, rfl⟩
abbrev main_call1_call3_call0_c_25 : Ref sig .tc := ⟨.hbm, 406, rfl⟩
abbrev main_call1_call3_call0_v98 : Ref sig .tc := ⟨.hbm, 407, rfl⟩
abbrev main_call1_call3_call0_v99 : Ref sig .tc := ⟨.hbm, 408, rfl⟩
abbrev main_call1_call3_call0_v100 : Ref sig .tc := ⟨.hbm, 409, rfl⟩
abbrev main_call1_call3_call0_v101 : Ref sig .tc := ⟨.hbm, 410, rfl⟩
abbrev main_call1_call3_call0_v102 : Ref sig .tc := ⟨.hbm, 411, rfl⟩
abbrev main_call1_call3_call0_v103 : Ref sig .tc := ⟨.hbm, 412, rfl⟩
abbrev main_call1_call3_call0_v104 : Ref sig .tc := ⟨.hbm, 413, rfl⟩
abbrev main_call1_call3_call0_v105 : Ref sig .tc := ⟨.hbm, 414, rfl⟩
abbrev main_call1_call3_call0_c_26 : Ref sig .tc := ⟨.hbm, 415, rfl⟩
abbrev main_call1_call3_call0_v106 : Ref sig .tc := ⟨.hbm, 416, rfl⟩
abbrev main_call1_call3_call0_v107 : Ref sig .tc := ⟨.hbm, 417, rfl⟩
abbrev main_call1_call3_call0_v108 : Ref sig .tc := ⟨.hbm, 418, rfl⟩
abbrev main_call1_call3_call0_c_27 : Ref sig .tc := ⟨.hbm, 419, rfl⟩
abbrev main_call1_call3_call0_v109 : Ref sig .tc := ⟨.hbm, 420, rfl⟩
abbrev main_call1_call3_call0_v110 : Ref sig .tc := ⟨.hbm, 421, rfl⟩
abbrev main_call1_call3_call0_c_28 : Ref sig .tc := ⟨.hbm, 422, rfl⟩
abbrev main_call1_call3_call0_v111 : Ref sig .tc := ⟨.hbm, 423, rfl⟩
abbrev main_call1_call3_call0_v112 : Ref sig .tc := ⟨.hbm, 424, rfl⟩
abbrev main_call1_call3_call0_v113 : Ref sig .tc := ⟨.hbm, 425, rfl⟩
abbrev main_call1_call3_call0_v114 : Ref sig .tc := ⟨.hbm, 426, rfl⟩
abbrev main_call1_call3_call0_v115 : Ref sig .tc := ⟨.hbm, 427, rfl⟩
abbrev main_call1_call3_call0_c_29 : Ref sig .tc := ⟨.hbm, 428, rfl⟩
abbrev main_call1_call3_call0_v116 : Ref sig .tc := ⟨.hbm, 429, rfl⟩
abbrev main_call1_call3_call0_v117 : Ref sig .tc := ⟨.hbm, 430, rfl⟩
abbrev main_call1_call3_call0_c_30 : Ref sig .tc := ⟨.hbm, 431, rfl⟩
abbrev main_call1_call3_call0_v118 : Ref sig .tc := ⟨.hbm, 432, rfl⟩
abbrev main_call1_call3_call0_v119 : Ref sig .tc := ⟨.hbm, 433, rfl⟩
abbrev main_call1_call3_call0_v120 : Ref sig .tc := ⟨.hbm, 434, rfl⟩
abbrev main_call1_call3_call0_v121 : Ref sig .tc := ⟨.hbm, 435, rfl⟩
abbrev main_call1_call3_call0_v122 : Ref sig .tc := ⟨.hbm, 436, rfl⟩
abbrev main_call1_call3_call0_c_31 : Ref sig .tc := ⟨.hbm, 437, rfl⟩
abbrev main_call1_call3_call0_v123 : Ref sig .tc := ⟨.hbm, 438, rfl⟩
abbrev main_call1_call3_call0_v124 : Ref sig .tc := ⟨.hbm, 439, rfl⟩
abbrev main_call1_call3_call0_c_32 : Ref sig .tc := ⟨.hbm, 440, rfl⟩
abbrev main_call1_call3_call0_v125 : Ref sig .tc := ⟨.hbm, 441, rfl⟩
abbrev main_call1_call3_call0_v126 : Ref sig .tc := ⟨.hbm, 442, rfl⟩
abbrev main_call1_call3_call0_v127 : Ref sig .tc := ⟨.hbm, 443, rfl⟩
abbrev main_call1_call3_call0_v128 : Ref sig .tc := ⟨.hbm, 444, rfl⟩
abbrev main_call1_call3_call0_v129 : Ref sig .tc := ⟨.hbm, 445, rfl⟩
abbrev main_call1_call3_call0_c_33 : Ref sig .tc := ⟨.hbm, 446, rfl⟩
abbrev main_call1_call3_call0_v130 : Ref sig .tc := ⟨.hbm, 447, rfl⟩
abbrev main_call1_call3_call0_v131 : Ref sig .tc := ⟨.hbm, 448, rfl⟩
abbrev main_call1_call3_call0_c_34 : Ref sig .tc := ⟨.hbm, 449, rfl⟩
abbrev main_call1_call3_call0_v132 : Ref sig .tc := ⟨.hbm, 450, rfl⟩
abbrev main_call1_call3_call0_v133 : Ref sig .tc := ⟨.hbm, 451, rfl⟩
abbrev main_call1_call3_call0_v134 : Ref sig .tc := ⟨.hbm, 452, rfl⟩
abbrev main_call1_call3_call0_v135 : Ref sig .tc := ⟨.hbm, 453, rfl⟩
abbrev main_call1_call3_call0_v136 : Ref sig .tc := ⟨.hbm, 454, rfl⟩
abbrev main_call1_call3_call0_v137 : Ref sig .tc := ⟨.hbm, 455, rfl⟩
abbrev main_call1_call3_call0_v138 : Ref sig .tc := ⟨.hbm, 456, rfl⟩
abbrev main_call1_call3_call0_v139 : Ref sig .tc := ⟨.hbm, 457, rfl⟩
abbrev main_call1_call3_call0_c_35 : Ref sig .tc := ⟨.hbm, 458, rfl⟩
abbrev main_call1_call3_call0_v140 : Ref sig .tc := ⟨.hbm, 459, rfl⟩
abbrev main_call1_call3_call0_v141 : Ref sig .tc := ⟨.hbm, 460, rfl⟩
abbrev main_call1_call3_call0_v142 : Ref sig .tc := ⟨.hbm, 461, rfl⟩
abbrev main_call1_call3_call0_c_36 : Ref sig .tc := ⟨.hbm, 462, rfl⟩
abbrev main_call1_call3_call0_v143 : Ref sig .tc := ⟨.hbm, 463, rfl⟩
abbrev main_call1_call3_call0_v144 : Ref sig .tc := ⟨.hbm, 464, rfl⟩
abbrev main_call1_call3_call0_c_37 : Ref sig .tc := ⟨.hbm, 465, rfl⟩
abbrev main_call1_call3_call0_v145 : Ref sig .tc := ⟨.hbm, 466, rfl⟩
abbrev main_call1_call3_call0_v146 : Ref sig .tc := ⟨.hbm, 467, rfl⟩
abbrev main_call1_call3_call0_v147 : Ref sig .tc := ⟨.hbm, 468, rfl⟩
abbrev main_call1_call3_call0_v148 : Ref sig .tc := ⟨.hbm, 469, rfl⟩
abbrev main_call1_call3_call0_v149 : Ref sig .tc := ⟨.hbm, 470, rfl⟩
abbrev main_call1_call3_call0_c_38 : Ref sig .tc := ⟨.hbm, 471, rfl⟩
abbrev main_call1_call3_call0_v150 : Ref sig .tc := ⟨.hbm, 472, rfl⟩
abbrev main_call1_call3_call0_v151 : Ref sig .tc := ⟨.hbm, 473, rfl⟩
abbrev main_call1_call3_call0_c_39 : Ref sig .tc := ⟨.hbm, 474, rfl⟩
abbrev main_call1_call3_call0_v152 : Ref sig .tc := ⟨.hbm, 475, rfl⟩
abbrev main_call1_call3_call0_v153 : Ref sig .tc := ⟨.hbm, 476, rfl⟩
abbrev main_call1_call3_call0_v154 : Ref sig .tc := ⟨.hbm, 477, rfl⟩
abbrev main_call1_call3_call0_v155 : Ref sig .tc := ⟨.hbm, 478, rfl⟩
abbrev main_call1_call3_call0_v156 : Ref sig .tc := ⟨.hbm, 479, rfl⟩
abbrev main_call1_call3_call0_c_40 : Ref sig .tc := ⟨.hbm, 480, rfl⟩
abbrev main_call1_call3_call0_v157 : Ref sig .tc := ⟨.hbm, 481, rfl⟩
abbrev main_call1_call3_call0_v158 : Ref sig .tc := ⟨.hbm, 482, rfl⟩
abbrev main_call1_call3_call0_c_41 : Ref sig .tc := ⟨.hbm, 483, rfl⟩
abbrev main_call1_call3_call0_v159 : Ref sig .tc := ⟨.hbm, 484, rfl⟩
abbrev main_call1_call3_call0_v160 : Ref sig .tc := ⟨.hbm, 485, rfl⟩
abbrev main_call1_call3_call0_v161 : Ref sig .tc := ⟨.hbm, 486, rfl⟩
abbrev main_call1_call3_call0_v162 : Ref sig .tc := ⟨.hbm, 487, rfl⟩
abbrev main_call1_call3_call0_v163 : Ref sig .tc := ⟨.hbm, 488, rfl⟩
abbrev main_call1_call3_call0_c_42 : Ref sig .tc := ⟨.hbm, 489, rfl⟩
abbrev main_call1_call3_call0_v164 : Ref sig .tc := ⟨.hbm, 490, rfl⟩
abbrev main_call1_call3_call0_v165 : Ref sig .tc := ⟨.hbm, 491, rfl⟩
abbrev main_call1_call3_call0_c_43 : Ref sig .tc := ⟨.hbm, 492, rfl⟩
abbrev main_call1_call3_call0_v166 : Ref sig .tc := ⟨.hbm, 493, rfl⟩
abbrev main_call1_call3_call0_v167 : Ref sig .tc := ⟨.hbm, 494, rfl⟩
abbrev main_call1_call3_call0_v168 : Ref sig .tc := ⟨.hbm, 495, rfl⟩
abbrev main_call1_call3_call0_v169 : Ref sig .tc := ⟨.hbm, 496, rfl⟩
abbrev main_call1_call3_call0_v170 : Ref sig .tc := ⟨.hbm, 497, rfl⟩
abbrev main_call1_call3_v11_0 : Ref sig .tc := ⟨.hbm, 498, rfl⟩
abbrev main_call1_call3_call0_v172 : Ref sig .tc := ⟨.hbm, 499, rfl⟩
abbrev main_call1_call3_call0_v173 : Ref sig .tc := ⟨.hbm, 500, rfl⟩
abbrev main_call1_call3_call0_c_44 : Ref sig .tc := ⟨.hbm, 501, rfl⟩
abbrev main_call1_call3_call0_v174 : Ref sig .tc := ⟨.hbm, 502, rfl⟩
abbrev main_call1_call3_v11_1 : Ref sig .tc := ⟨.hbm, 503, rfl⟩
abbrev main_call1_call3_v12 : Ref sig .tc := ⟨.hbm, 504, rfl⟩
abbrev main_call1_call3_v13 : Ref sig .tc := ⟨.hbm, 505, rfl⟩
abbrev main_call1_v8 : Ref sig .tc := ⟨.hbm, 506, rfl⟩
abbrev main_call1_v9 : Ref sig .tc := ⟨.hbm, 507, rfl⟩
abbrev main_call1_v10 : Ref sig .tc := ⟨.hbm, 508, rfl⟩
abbrev main_call1_v11 : Ref sig .tc := ⟨.hbm, 509, rfl⟩
abbrev main_call1_v12 : Ref sig .tc := ⟨.hbm, 510, rfl⟩
abbrev main_call1_v13 : Ref sig .tc := ⟨.hbm, 511, rfl⟩
abbrev main_call1_v14 : Ref sig .tc := ⟨.hbm, 512, rfl⟩
abbrev main_call1_v15 : Ref sig .tc := ⟨.hbm, 513, rfl⟩
abbrev main_call1_v16 : Ref sig .tc := ⟨.hbm, 514, rfl⟩
abbrev main_call1_v17 : Ref sig .tc := ⟨.hbm, 515, rfl⟩
abbrev main_call1_v18 : Ref sig .tc := ⟨.hbm, 516, rfl⟩
abbrev main_call1_c_6 : Ref sig .tc := ⟨.hbm, 517, rfl⟩
abbrev main_call1_v19 : Ref sig .tc := ⟨.hbm, 518, rfl⟩
abbrev main_call1_v20 : Ref sig .tc := ⟨.hbm, 519, rfl⟩
abbrev main_call1_c_7 : Ref sig .tc := ⟨.hbm, 520, rfl⟩
abbrev main_call1_v21 : Ref sig .tc := ⟨.hbm, 521, rfl⟩
abbrev main_call1_v22 : Ref sig .tc := ⟨.hbm, 522, rfl⟩
abbrev main_call1_v23 : Ref sig .tc := ⟨.hbm, 523, rfl⟩
abbrev main_call1_c_8 : Ref sig .tc := ⟨.hbm, 524, rfl⟩
abbrev main_call1_v24 : Ref sig .tc := ⟨.hbm, 525, rfl⟩
abbrev main_call1_v25 : Ref sig .tc := ⟨.hbm, 526, rfl⟩
abbrev main_call1_v26 : Ref sig .tc := ⟨.hbm, 527, rfl⟩
abbrev main_call1_v27 : Ref sig .tc := ⟨.hbm, 528, rfl⟩
abbrev main_call1_call4_v0 : Ref sig .tc := ⟨.hbm, 529, rfl⟩
abbrev main_call1_call4_c : Ref sig .tc := ⟨.hbm, 530, rfl⟩
abbrev main_call1_call4_v1 : Ref sig .tc := ⟨.hbm, 531, rfl⟩
abbrev main_call1_call4_v2 : Ref sig .tc := ⟨.hbm, 532, rfl⟩
abbrev main_call1_call4_v3 : Ref sig .tc := ⟨.hbm, 533, rfl⟩
abbrev main_call1_call4_v4 : Ref sig .tc := ⟨.hbm, 534, rfl⟩
abbrev main_call1_call4_v5 : Ref sig .tc := ⟨.hbm, 535, rfl⟩
abbrev main_call1_call4_v6 : Ref sig .tc := ⟨.hbm, 536, rfl⟩
abbrev main_call1_call4_c_0 : Ref sig .tc := ⟨.hbm, 537, rfl⟩
abbrev main_call1_call4_v7 : Ref sig .tc := ⟨.hbm, 538, rfl⟩
abbrev main_call1_call4_v8 : Ref sig .tc := ⟨.hbm, 539, rfl⟩
abbrev main_call1_call4_c_1 : Ref sig .tc := ⟨.hbm, 540, rfl⟩
abbrev main_call1_call4_v9 : Ref sig .tc := ⟨.hbm, 541, rfl⟩
abbrev main_call1_call4_v10 : Ref sig .tc := ⟨.hbm, 542, rfl⟩
abbrev main_call1_call4_v11 : Ref sig .tc := ⟨.hbm, 543, rfl⟩
abbrev main_call1_call4_v12 : Ref sig .tc := ⟨.hbm, 544, rfl⟩
abbrev main_call1_call4_v13 : Ref sig .tc := ⟨.hbm, 545, rfl⟩
abbrev main_call1_call4_c_2 : Ref sig .tc := ⟨.hbm, 546, rfl⟩
abbrev main_call1_call4_v14 : Ref sig .tc := ⟨.hbm, 547, rfl⟩
abbrev main_call1_call4_v15 : Ref sig .tc := ⟨.hbm, 548, rfl⟩
abbrev main_call1_call4_c_3 : Ref sig .tc := ⟨.hbm, 549, rfl⟩
abbrev main_call1_call4_v16 : Ref sig .tc := ⟨.hbm, 550, rfl⟩
abbrev main_call1_call4_v17 : Ref sig .tc := ⟨.hbm, 551, rfl⟩
abbrev main_call1_call4_v18 : Ref sig .tc := ⟨.hbm, 552, rfl⟩
abbrev main_call1_call4_v19 : Ref sig .tc := ⟨.hbm, 553, rfl⟩
abbrev main_call1_call4_v20 : Ref sig .tc := ⟨.hbm, 554, rfl⟩
abbrev main_call1_call4_c_4 : Ref sig .tc := ⟨.hbm, 555, rfl⟩
abbrev main_call1_call4_v21 : Ref sig .tc := ⟨.hbm, 556, rfl⟩
abbrev main_call1_call4_v22 : Ref sig .tc := ⟨.hbm, 557, rfl⟩
abbrev main_call1_call4_c_5 : Ref sig .tc := ⟨.hbm, 558, rfl⟩
abbrev main_call1_call4_v23 : Ref sig .tc := ⟨.hbm, 559, rfl⟩
abbrev main_call1_call4_v24 : Ref sig .tc := ⟨.hbm, 560, rfl⟩
abbrev main_call1_call4_v25 : Ref sig .tc := ⟨.hbm, 561, rfl⟩
abbrev main_call1_call4_v26 : Ref sig .tc := ⟨.hbm, 562, rfl⟩
abbrev main_call1_call4_v27 : Ref sig .tc := ⟨.hbm, 563, rfl⟩
abbrev main_call1_call4_c_6 : Ref sig .tc := ⟨.hbm, 564, rfl⟩
abbrev main_call1_call4_v28 : Ref sig .tc := ⟨.hbm, 565, rfl⟩
abbrev main_call1_call4_v29 : Ref sig .tc := ⟨.hbm, 566, rfl⟩
abbrev main_call1_call4_c_7 : Ref sig .tc := ⟨.hbm, 567, rfl⟩
abbrev main_call1_call4_v30 : Ref sig .tc := ⟨.hbm, 568, rfl⟩
abbrev main_call1_call4_v31 : Ref sig .tc := ⟨.hbm, 569, rfl⟩
abbrev main_call1_call4_v32 : Ref sig .tc := ⟨.hbm, 570, rfl⟩
abbrev main_call1_call4_v33 : Ref sig .tc := ⟨.hbm, 571, rfl⟩
abbrev main_call1_call4_v34 : Ref sig .tc := ⟨.hbm, 572, rfl⟩
abbrev main_call1_call4_v35 : Ref sig .tc := ⟨.hbm, 573, rfl⟩
abbrev main_call1_call4_v36 : Ref sig .tc := ⟨.hbm, 574, rfl⟩
abbrev main_call1_call4_v37 : Ref sig .tc := ⟨.hbm, 575, rfl⟩
abbrev main_call1_call4_c_8 : Ref sig .tc := ⟨.hbm, 576, rfl⟩
abbrev main_call1_call4_v38 : Ref sig .tc := ⟨.hbm, 577, rfl⟩
abbrev main_call1_call4_v39 : Ref sig .tc := ⟨.hbm, 578, rfl⟩
abbrev main_call1_call4_v40 : Ref sig .tc := ⟨.hbm, 579, rfl⟩
abbrev main_call1_call4_c_9 : Ref sig .tc := ⟨.hbm, 580, rfl⟩
abbrev main_call1_call4_v41 : Ref sig .tc := ⟨.hbm, 581, rfl⟩
abbrev main_call1_call4_v42 : Ref sig .tc := ⟨.hbm, 582, rfl⟩
abbrev main_call1_call4_c_10 : Ref sig .tc := ⟨.hbm, 583, rfl⟩
abbrev main_call1_call4_v43 : Ref sig .tc := ⟨.hbm, 584, rfl⟩
abbrev main_call1_call4_v44 : Ref sig .tc := ⟨.hbm, 585, rfl⟩
abbrev main_call1_call4_v45 : Ref sig .tc := ⟨.hbm, 586, rfl⟩
abbrev main_call1_call4_v46 : Ref sig .tc := ⟨.hbm, 587, rfl⟩
abbrev main_call1_call4_v47 : Ref sig .tc := ⟨.hbm, 588, rfl⟩
abbrev main_call1_call4_c_11 : Ref sig .tc := ⟨.hbm, 589, rfl⟩
abbrev main_call1_call4_v48 : Ref sig .tc := ⟨.hbm, 590, rfl⟩
abbrev main_call1_call4_v49 : Ref sig .tc := ⟨.hbm, 591, rfl⟩
abbrev main_call1_call4_c_12 : Ref sig .tc := ⟨.hbm, 592, rfl⟩
abbrev main_call1_call4_v50 : Ref sig .tc := ⟨.hbm, 593, rfl⟩
abbrev main_call1_call4_v51 : Ref sig .tc := ⟨.hbm, 594, rfl⟩
abbrev main_call1_call4_v52 : Ref sig .tc := ⟨.hbm, 595, rfl⟩
abbrev main_call1_call4_v53 : Ref sig .tc := ⟨.hbm, 596, rfl⟩
abbrev main_call1_call4_v54 : Ref sig .tc := ⟨.hbm, 597, rfl⟩
abbrev main_call1_call4_c_13 : Ref sig .tc := ⟨.hbm, 598, rfl⟩
abbrev main_call1_call4_v55 : Ref sig .tc := ⟨.hbm, 599, rfl⟩
abbrev main_call1_call4_v56 : Ref sig .tc := ⟨.hbm, 600, rfl⟩
abbrev main_call1_call4_c_14 : Ref sig .tc := ⟨.hbm, 601, rfl⟩
abbrev main_call1_call4_v57 : Ref sig .tc := ⟨.hbm, 602, rfl⟩
abbrev main_call1_call4_v58 : Ref sig .tc := ⟨.hbm, 603, rfl⟩
abbrev main_call1_call4_v59 : Ref sig .tc := ⟨.hbm, 604, rfl⟩
abbrev main_call1_call4_v60 : Ref sig .tc := ⟨.hbm, 605, rfl⟩
abbrev main_call1_call4_v61 : Ref sig .tc := ⟨.hbm, 606, rfl⟩
abbrev main_call1_call4_c_15 : Ref sig .tc := ⟨.hbm, 607, rfl⟩
abbrev main_call1_call4_v62 : Ref sig .tc := ⟨.hbm, 608, rfl⟩
abbrev main_call1_call4_v63 : Ref sig .tc := ⟨.hbm, 609, rfl⟩
abbrev main_call1_call4_c_16 : Ref sig .tc := ⟨.hbm, 610, rfl⟩
abbrev main_call1_call4_v64 : Ref sig .tc := ⟨.hbm, 611, rfl⟩
abbrev main_call1_call4_v65 : Ref sig .tc := ⟨.hbm, 612, rfl⟩
abbrev main_call1_call4_v66 : Ref sig .tc := ⟨.hbm, 613, rfl⟩
abbrev main_call1_call4_v67 : Ref sig .tc := ⟨.hbm, 614, rfl⟩
abbrev main_call1_call4_v68 : Ref sig .tc := ⟨.hbm, 615, rfl⟩
abbrev main_call1_call4_v69 : Ref sig .tc := ⟨.hbm, 616, rfl⟩
abbrev main_call1_call4_v70 : Ref sig .tc := ⟨.hbm, 617, rfl⟩
abbrev main_call1_call4_v71 : Ref sig .tc := ⟨.hbm, 618, rfl⟩
abbrev main_call1_call4_c_17 : Ref sig .tc := ⟨.hbm, 619, rfl⟩
abbrev main_call1_call4_v72 : Ref sig .tc := ⟨.hbm, 620, rfl⟩
abbrev main_call1_call4_v73 : Ref sig .tc := ⟨.hbm, 621, rfl⟩
abbrev main_call1_call4_v74 : Ref sig .tc := ⟨.hbm, 622, rfl⟩
abbrev main_call1_call4_c_18 : Ref sig .tc := ⟨.hbm, 623, rfl⟩
abbrev main_call1_call4_v75 : Ref sig .tc := ⟨.hbm, 624, rfl⟩
abbrev main_call1_call4_v76 : Ref sig .tc := ⟨.hbm, 625, rfl⟩
abbrev main_call1_call4_c_19 : Ref sig .tc := ⟨.hbm, 626, rfl⟩
abbrev main_call1_call4_v77 : Ref sig .tc := ⟨.hbm, 627, rfl⟩
abbrev main_call1_call4_v78 : Ref sig .tc := ⟨.hbm, 628, rfl⟩
abbrev main_call1_call4_v79 : Ref sig .tc := ⟨.hbm, 629, rfl⟩
abbrev main_call1_call4_v80 : Ref sig .tc := ⟨.hbm, 630, rfl⟩
abbrev main_call1_call4_v81 : Ref sig .tc := ⟨.hbm, 631, rfl⟩
abbrev main_call1_call4_c_20 : Ref sig .tc := ⟨.hbm, 632, rfl⟩
abbrev main_call1_call4_v82 : Ref sig .tc := ⟨.hbm, 633, rfl⟩
abbrev main_call1_call4_v83 : Ref sig .tc := ⟨.hbm, 634, rfl⟩
abbrev main_call1_call4_c_21 : Ref sig .tc := ⟨.hbm, 635, rfl⟩
abbrev main_call1_call4_v84 : Ref sig .tc := ⟨.hbm, 636, rfl⟩
abbrev main_call1_call4_v85 : Ref sig .tc := ⟨.hbm, 637, rfl⟩
abbrev main_call1_call4_v86 : Ref sig .tc := ⟨.hbm, 638, rfl⟩
abbrev main_call1_call4_v87 : Ref sig .tc := ⟨.hbm, 639, rfl⟩
abbrev main_call1_call4_v88 : Ref sig .tc := ⟨.hbm, 640, rfl⟩
abbrev main_call1_call4_c_22 : Ref sig .tc := ⟨.hbm, 641, rfl⟩
abbrev main_call1_call4_v89 : Ref sig .tc := ⟨.hbm, 642, rfl⟩
abbrev main_call1_call4_v90 : Ref sig .tc := ⟨.hbm, 643, rfl⟩
abbrev main_call1_call4_c_23 : Ref sig .tc := ⟨.hbm, 644, rfl⟩
abbrev main_call1_call4_v91 : Ref sig .tc := ⟨.hbm, 645, rfl⟩
abbrev main_call1_call4_v92 : Ref sig .tc := ⟨.hbm, 646, rfl⟩
abbrev main_call1_call4_v93 : Ref sig .tc := ⟨.hbm, 647, rfl⟩
abbrev main_call1_call4_v94 : Ref sig .tc := ⟨.hbm, 648, rfl⟩
abbrev main_call1_call4_v95 : Ref sig .tc := ⟨.hbm, 649, rfl⟩
abbrev main_call1_call4_c_24 : Ref sig .tc := ⟨.hbm, 650, rfl⟩
abbrev main_call1_call4_v96 : Ref sig .tc := ⟨.hbm, 651, rfl⟩
abbrev main_call1_call4_v97 : Ref sig .tc := ⟨.hbm, 652, rfl⟩
abbrev main_call1_call4_c_25 : Ref sig .tc := ⟨.hbm, 653, rfl⟩
abbrev main_call1_call4_v98 : Ref sig .tc := ⟨.hbm, 654, rfl⟩
abbrev main_call1_call4_v99 : Ref sig .tc := ⟨.hbm, 655, rfl⟩
abbrev main_call1_call4_v100 : Ref sig .tc := ⟨.hbm, 656, rfl⟩
abbrev main_call1_call4_v101 : Ref sig .tc := ⟨.hbm, 657, rfl⟩
abbrev main_call1_call4_v102 : Ref sig .tc := ⟨.hbm, 658, rfl⟩
abbrev main_call1_call4_v103 : Ref sig .tc := ⟨.hbm, 659, rfl⟩
abbrev main_call1_call4_v104 : Ref sig .tc := ⟨.hbm, 660, rfl⟩
abbrev main_call1_call4_v105 : Ref sig .tc := ⟨.hbm, 661, rfl⟩
abbrev main_call1_call4_c_26 : Ref sig .tc := ⟨.hbm, 662, rfl⟩
abbrev main_call1_call4_v106 : Ref sig .tc := ⟨.hbm, 663, rfl⟩
abbrev main_call1_call4_v107 : Ref sig .tc := ⟨.hbm, 664, rfl⟩
abbrev main_call1_call4_v108 : Ref sig .tc := ⟨.hbm, 665, rfl⟩
abbrev main_call1_call4_c_27 : Ref sig .tc := ⟨.hbm, 666, rfl⟩
abbrev main_call1_call4_v109 : Ref sig .tc := ⟨.hbm, 667, rfl⟩
abbrev main_call1_call4_v110 : Ref sig .tc := ⟨.hbm, 668, rfl⟩
abbrev main_call1_call4_c_28 : Ref sig .tc := ⟨.hbm, 669, rfl⟩
abbrev main_call1_call4_v111 : Ref sig .tc := ⟨.hbm, 670, rfl⟩
abbrev main_call1_call4_v112 : Ref sig .tc := ⟨.hbm, 671, rfl⟩
abbrev main_call1_call4_v113 : Ref sig .tc := ⟨.hbm, 672, rfl⟩
abbrev main_call1_call4_v114 : Ref sig .tc := ⟨.hbm, 673, rfl⟩
abbrev main_call1_call4_v115 : Ref sig .tc := ⟨.hbm, 674, rfl⟩
abbrev main_call1_call4_c_29 : Ref sig .tc := ⟨.hbm, 675, rfl⟩
abbrev main_call1_call4_v116 : Ref sig .tc := ⟨.hbm, 676, rfl⟩
abbrev main_call1_call4_v117 : Ref sig .tc := ⟨.hbm, 677, rfl⟩
abbrev main_call1_call4_c_30 : Ref sig .tc := ⟨.hbm, 678, rfl⟩
abbrev main_call1_call4_v118 : Ref sig .tc := ⟨.hbm, 679, rfl⟩
abbrev main_call1_call4_v119 : Ref sig .tc := ⟨.hbm, 680, rfl⟩
abbrev main_call1_call4_v120 : Ref sig .tc := ⟨.hbm, 681, rfl⟩
abbrev main_call1_call4_v121 : Ref sig .tc := ⟨.hbm, 682, rfl⟩
abbrev main_call1_call4_v122 : Ref sig .tc := ⟨.hbm, 683, rfl⟩
abbrev main_call1_call4_c_31 : Ref sig .tc := ⟨.hbm, 684, rfl⟩
abbrev main_call1_call4_v123 : Ref sig .tc := ⟨.hbm, 685, rfl⟩
abbrev main_call1_call4_v124 : Ref sig .tc := ⟨.hbm, 686, rfl⟩
abbrev main_call1_call4_c_32 : Ref sig .tc := ⟨.hbm, 687, rfl⟩
abbrev main_call1_call4_v125 : Ref sig .tc := ⟨.hbm, 688, rfl⟩
abbrev main_call1_call4_v126 : Ref sig .tc := ⟨.hbm, 689, rfl⟩
abbrev main_call1_call4_v127 : Ref sig .tc := ⟨.hbm, 690, rfl⟩
abbrev main_call1_call4_v128 : Ref sig .tc := ⟨.hbm, 691, rfl⟩
abbrev main_call1_call4_v129 : Ref sig .tc := ⟨.hbm, 692, rfl⟩
abbrev main_call1_call4_c_33 : Ref sig .tc := ⟨.hbm, 693, rfl⟩
abbrev main_call1_call4_v130 : Ref sig .tc := ⟨.hbm, 694, rfl⟩
abbrev main_call1_call4_v131 : Ref sig .tc := ⟨.hbm, 695, rfl⟩
abbrev main_call1_call4_c_34 : Ref sig .tc := ⟨.hbm, 696, rfl⟩
abbrev main_call1_call4_v132 : Ref sig .tc := ⟨.hbm, 697, rfl⟩
abbrev main_call1_call4_v133 : Ref sig .tc := ⟨.hbm, 698, rfl⟩
abbrev main_call1_call4_v134 : Ref sig .tc := ⟨.hbm, 699, rfl⟩
abbrev main_call1_call4_v135 : Ref sig .tc := ⟨.hbm, 700, rfl⟩
abbrev main_call1_call4_v136 : Ref sig .tc := ⟨.hbm, 701, rfl⟩
abbrev main_call1_call4_v137 : Ref sig .tc := ⟨.hbm, 702, rfl⟩
abbrev main_call1_call4_v138 : Ref sig .tc := ⟨.hbm, 703, rfl⟩
abbrev main_call1_call4_v139 : Ref sig .tc := ⟨.hbm, 704, rfl⟩
abbrev main_call1_call4_c_35 : Ref sig .tc := ⟨.hbm, 705, rfl⟩
abbrev main_call1_call4_v140 : Ref sig .tc := ⟨.hbm, 706, rfl⟩
abbrev main_call1_call4_v141 : Ref sig .tc := ⟨.hbm, 707, rfl⟩
abbrev main_call1_call4_v142 : Ref sig .tc := ⟨.hbm, 708, rfl⟩
abbrev main_call1_call4_c_36 : Ref sig .tc := ⟨.hbm, 709, rfl⟩
abbrev main_call1_call4_v143 : Ref sig .tc := ⟨.hbm, 710, rfl⟩
abbrev main_call1_call4_v144 : Ref sig .tc := ⟨.hbm, 711, rfl⟩
abbrev main_call1_call4_c_37 : Ref sig .tc := ⟨.hbm, 712, rfl⟩
abbrev main_call1_call4_v145 : Ref sig .tc := ⟨.hbm, 713, rfl⟩
abbrev main_call1_call4_v146 : Ref sig .tc := ⟨.hbm, 714, rfl⟩
abbrev main_call1_call4_v147 : Ref sig .tc := ⟨.hbm, 715, rfl⟩
abbrev main_call1_call4_v148 : Ref sig .tc := ⟨.hbm, 716, rfl⟩
abbrev main_call1_call4_v149 : Ref sig .tc := ⟨.hbm, 717, rfl⟩
abbrev main_call1_call4_c_38 : Ref sig .tc := ⟨.hbm, 718, rfl⟩
abbrev main_call1_call4_v150 : Ref sig .tc := ⟨.hbm, 719, rfl⟩
abbrev main_call1_call4_v151 : Ref sig .tc := ⟨.hbm, 720, rfl⟩
abbrev main_call1_call4_c_39 : Ref sig .tc := ⟨.hbm, 721, rfl⟩
abbrev main_call1_call4_v152 : Ref sig .tc := ⟨.hbm, 722, rfl⟩
abbrev main_call1_call4_v153 : Ref sig .tc := ⟨.hbm, 723, rfl⟩
abbrev main_call1_call4_v154 : Ref sig .tc := ⟨.hbm, 724, rfl⟩
abbrev main_call1_call4_v155 : Ref sig .tc := ⟨.hbm, 725, rfl⟩
abbrev main_call1_call4_v156 : Ref sig .tc := ⟨.hbm, 726, rfl⟩
abbrev main_call1_call4_c_40 : Ref sig .tc := ⟨.hbm, 727, rfl⟩
abbrev main_call1_call4_v157 : Ref sig .tc := ⟨.hbm, 728, rfl⟩
abbrev main_call1_call4_v158 : Ref sig .tc := ⟨.hbm, 729, rfl⟩
abbrev main_call1_call4_c_41 : Ref sig .tc := ⟨.hbm, 730, rfl⟩
abbrev main_call1_call4_v159 : Ref sig .tc := ⟨.hbm, 731, rfl⟩
abbrev main_call1_call4_v160 : Ref sig .tc := ⟨.hbm, 732, rfl⟩
abbrev main_call1_call4_v161 : Ref sig .tc := ⟨.hbm, 733, rfl⟩
abbrev main_call1_call4_v162 : Ref sig .tc := ⟨.hbm, 734, rfl⟩
abbrev main_call1_call4_v163 : Ref sig .tc := ⟨.hbm, 735, rfl⟩
abbrev main_call1_call4_c_42 : Ref sig .tc := ⟨.hbm, 736, rfl⟩
abbrev main_call1_call4_v164 : Ref sig .tc := ⟨.hbm, 737, rfl⟩
abbrev main_call1_call4_v165 : Ref sig .tc := ⟨.hbm, 738, rfl⟩
abbrev main_call1_call4_c_43 : Ref sig .tc := ⟨.hbm, 739, rfl⟩
abbrev main_call1_call4_v166 : Ref sig .tc := ⟨.hbm, 740, rfl⟩
abbrev main_call1_call4_v167 : Ref sig .tc := ⟨.hbm, 741, rfl⟩
abbrev main_call1_call4_v168 : Ref sig .tc := ⟨.hbm, 742, rfl⟩
abbrev main_call1_call4_v169 : Ref sig .tc := ⟨.hbm, 743, rfl⟩
abbrev main_call1_call4_v170 : Ref sig .tc := ⟨.hbm, 744, rfl⟩
abbrev main_call1_v28_0 : Ref sig .tc := ⟨.hbm, 745, rfl⟩
abbrev main_call1_call4_v172 : Ref sig .tc := ⟨.hbm, 746, rfl⟩
abbrev main_call1_call4_v173 : Ref sig .tc := ⟨.hbm, 747, rfl⟩
abbrev main_call1_call4_c_44 : Ref sig .tc := ⟨.hbm, 748, rfl⟩
abbrev main_call1_call4_v174 : Ref sig .tc := ⟨.hbm, 749, rfl⟩
abbrev main_call1_v28_1 : Ref sig .tc := ⟨.hbm, 750, rfl⟩
abbrev main_call1_v29 : Ref sig .tc := ⟨.hbm, 751, rfl⟩
abbrev main_call1_v30 : Ref sig .tc := ⟨.hbm, 752, rfl⟩
abbrev main_call1_v31 : Ref sig .tc := ⟨.hbm, 753, rfl⟩
abbrev main_call1_v32 : Ref sig .tc := ⟨.hbm, 754, rfl⟩
abbrev main_call1_v33 : Ref sig .tc := ⟨.hbm, 755, rfl⟩
abbrev main_call1_v34 : Ref sig .tc := ⟨.hbm, 756, rfl⟩
abbrev main_call1_v35 : Ref sig .tc := ⟨.hbm, 757, rfl⟩
abbrev main_call1_c_9 : Ref sig .tc := ⟨.hbm, 758, rfl⟩
abbrev main_call1_v36 : Ref sig .tc := ⟨.hbm, 759, rfl⟩
abbrev main_call1_v37 : Ref sig .tc := ⟨.hbm, 760, rfl⟩
abbrev main_call1_c_10 : Ref sig .tc := ⟨.hbm, 761, rfl⟩
abbrev main_call1_v38 : Ref sig .tc := ⟨.hbm, 762, rfl⟩
abbrev main_call1_v39 : Ref sig .tc := ⟨.hbm, 763, rfl⟩
abbrev main_call1_v40 : Ref sig .tc := ⟨.hbm, 764, rfl⟩
abbrev main_call1_c_11 : Ref sig .tc := ⟨.hbm, 765, rfl⟩
abbrev main_call1_v41 : Ref sig .tc := ⟨.hbm, 766, rfl⟩
abbrev main_call1_v42 : Ref sig .tc := ⟨.hbm, 767, rfl⟩
abbrev main_call1_v43 : Ref sig .tc := ⟨.hbm, 768, rfl⟩
abbrev main_call1_v44 : Ref sig .tc := ⟨.hbm, 769, rfl⟩
abbrev main_call1_call5_v0 : Ref sig .tc := ⟨.hbm, 770, rfl⟩
abbrev main_call1_call5_c : Ref sig .tc := ⟨.hbm, 771, rfl⟩
abbrev main_call1_call5_v1 : Ref sig .tc := ⟨.hbm, 772, rfl⟩
abbrev main_call1_call5_v2 : Ref sig .tc := ⟨.hbm, 773, rfl⟩
abbrev main_call1_call5_v3 : Ref sig .tc := ⟨.hbm, 774, rfl⟩
abbrev main_call1_call5_v4 : Ref sig .tc := ⟨.hbm, 775, rfl⟩
abbrev main_call1_call5_v5 : Ref sig .tc := ⟨.hbm, 776, rfl⟩
abbrev main_call1_call5_v6 : Ref sig .tc := ⟨.hbm, 777, rfl⟩
abbrev main_call1_call5_c_0 : Ref sig .tc := ⟨.hbm, 778, rfl⟩
abbrev main_call1_call5_v7 : Ref sig .tc := ⟨.hbm, 779, rfl⟩
abbrev main_call1_call5_v8 : Ref sig .tc := ⟨.hbm, 780, rfl⟩
abbrev main_call1_call5_c_1 : Ref sig .tc := ⟨.hbm, 781, rfl⟩
abbrev main_call1_call5_v9 : Ref sig .tc := ⟨.hbm, 782, rfl⟩
abbrev main_call1_call5_v10 : Ref sig .tc := ⟨.hbm, 783, rfl⟩
abbrev main_call1_call5_v11 : Ref sig .tc := ⟨.hbm, 784, rfl⟩
abbrev main_call1_call5_v12 : Ref sig .tc := ⟨.hbm, 785, rfl⟩
abbrev main_call1_call5_v13 : Ref sig .tc := ⟨.hbm, 786, rfl⟩
abbrev main_call1_call5_c_2 : Ref sig .tc := ⟨.hbm, 787, rfl⟩
abbrev main_call1_call5_v14 : Ref sig .tc := ⟨.hbm, 788, rfl⟩
abbrev main_call1_call5_v15 : Ref sig .tc := ⟨.hbm, 789, rfl⟩
abbrev main_call1_call5_c_3 : Ref sig .tc := ⟨.hbm, 790, rfl⟩
abbrev main_call1_call5_v16 : Ref sig .tc := ⟨.hbm, 791, rfl⟩
abbrev main_call1_call5_v17 : Ref sig .tc := ⟨.hbm, 792, rfl⟩
abbrev main_call1_call5_v18 : Ref sig .tc := ⟨.hbm, 793, rfl⟩
abbrev main_call1_call5_v19 : Ref sig .tc := ⟨.hbm, 794, rfl⟩
abbrev main_call1_call5_v20 : Ref sig .tc := ⟨.hbm, 795, rfl⟩
abbrev main_call1_call5_c_4 : Ref sig .tc := ⟨.hbm, 796, rfl⟩
abbrev main_call1_call5_v21 : Ref sig .tc := ⟨.hbm, 797, rfl⟩
abbrev main_call1_call5_v22 : Ref sig .tc := ⟨.hbm, 798, rfl⟩
abbrev main_call1_call5_c_5 : Ref sig .tc := ⟨.hbm, 799, rfl⟩
abbrev main_call1_call5_v23 : Ref sig .tc := ⟨.hbm, 800, rfl⟩
abbrev main_call1_call5_v24 : Ref sig .tc := ⟨.hbm, 801, rfl⟩
abbrev main_call1_call5_v25 : Ref sig .tc := ⟨.hbm, 802, rfl⟩
abbrev main_call1_call5_v26 : Ref sig .tc := ⟨.hbm, 803, rfl⟩
abbrev main_call1_call5_v27 : Ref sig .tc := ⟨.hbm, 804, rfl⟩
abbrev main_call1_call5_c_6 : Ref sig .tc := ⟨.hbm, 805, rfl⟩
abbrev main_call1_call5_v28 : Ref sig .tc := ⟨.hbm, 806, rfl⟩
abbrev main_call1_call5_v29 : Ref sig .tc := ⟨.hbm, 807, rfl⟩
abbrev main_call1_call5_c_7 : Ref sig .tc := ⟨.hbm, 808, rfl⟩
abbrev main_call1_call5_v30 : Ref sig .tc := ⟨.hbm, 809, rfl⟩
abbrev main_call1_call5_v31 : Ref sig .tc := ⟨.hbm, 810, rfl⟩
abbrev main_call1_call5_v32 : Ref sig .tc := ⟨.hbm, 811, rfl⟩
abbrev main_call1_call5_v33 : Ref sig .tc := ⟨.hbm, 812, rfl⟩
abbrev main_call1_call5_v34 : Ref sig .tc := ⟨.hbm, 813, rfl⟩
abbrev main_call1_call5_v35 : Ref sig .tc := ⟨.hbm, 814, rfl⟩
abbrev main_call1_call5_v36 : Ref sig .tc := ⟨.hbm, 815, rfl⟩
abbrev main_call1_call5_v37 : Ref sig .tc := ⟨.hbm, 816, rfl⟩
abbrev main_call1_call5_c_8 : Ref sig .tc := ⟨.hbm, 817, rfl⟩
abbrev main_call1_call5_v38 : Ref sig .tc := ⟨.hbm, 818, rfl⟩
abbrev main_call1_call5_v39 : Ref sig .tc := ⟨.hbm, 819, rfl⟩
abbrev main_call1_call5_v40 : Ref sig .tc := ⟨.hbm, 820, rfl⟩
abbrev main_call1_call5_c_9 : Ref sig .tc := ⟨.hbm, 821, rfl⟩
abbrev main_call1_call5_v41 : Ref sig .tc := ⟨.hbm, 822, rfl⟩
abbrev main_call1_call5_v42 : Ref sig .tc := ⟨.hbm, 823, rfl⟩
abbrev main_call1_call5_c_10 : Ref sig .tc := ⟨.hbm, 824, rfl⟩
abbrev main_call1_call5_v43 : Ref sig .tc := ⟨.hbm, 825, rfl⟩
abbrev main_call1_call5_v44 : Ref sig .tc := ⟨.hbm, 826, rfl⟩
abbrev main_call1_call5_v45 : Ref sig .tc := ⟨.hbm, 827, rfl⟩
abbrev main_call1_call5_v46 : Ref sig .tc := ⟨.hbm, 828, rfl⟩
abbrev main_call1_call5_v47 : Ref sig .tc := ⟨.hbm, 829, rfl⟩
abbrev main_call1_call5_c_11 : Ref sig .tc := ⟨.hbm, 830, rfl⟩
abbrev main_call1_call5_v48 : Ref sig .tc := ⟨.hbm, 831, rfl⟩
abbrev main_call1_call5_v49 : Ref sig .tc := ⟨.hbm, 832, rfl⟩
abbrev main_call1_call5_c_12 : Ref sig .tc := ⟨.hbm, 833, rfl⟩
abbrev main_call1_call5_v50 : Ref sig .tc := ⟨.hbm, 834, rfl⟩
abbrev main_call1_call5_v51 : Ref sig .tc := ⟨.hbm, 835, rfl⟩
abbrev main_call1_call5_v52 : Ref sig .tc := ⟨.hbm, 836, rfl⟩
abbrev main_call1_call5_v53 : Ref sig .tc := ⟨.hbm, 837, rfl⟩
abbrev main_call1_call5_v54 : Ref sig .tc := ⟨.hbm, 838, rfl⟩
abbrev main_call1_call5_c_13 : Ref sig .tc := ⟨.hbm, 839, rfl⟩
abbrev main_call1_call5_v55 : Ref sig .tc := ⟨.hbm, 840, rfl⟩
abbrev main_call1_call5_v56 : Ref sig .tc := ⟨.hbm, 841, rfl⟩
abbrev main_call1_call5_c_14 : Ref sig .tc := ⟨.hbm, 842, rfl⟩
abbrev main_call1_call5_v57 : Ref sig .tc := ⟨.hbm, 843, rfl⟩
abbrev main_call1_call5_v58 : Ref sig .tc := ⟨.hbm, 844, rfl⟩
abbrev main_call1_call5_v59 : Ref sig .tc := ⟨.hbm, 845, rfl⟩
abbrev main_call1_call5_v60 : Ref sig .tc := ⟨.hbm, 846, rfl⟩
abbrev main_call1_call5_v61 : Ref sig .tc := ⟨.hbm, 847, rfl⟩
abbrev main_call1_call5_c_15 : Ref sig .tc := ⟨.hbm, 848, rfl⟩
abbrev main_call1_call5_v62 : Ref sig .tc := ⟨.hbm, 849, rfl⟩
abbrev main_call1_call5_v63 : Ref sig .tc := ⟨.hbm, 850, rfl⟩
abbrev main_call1_call5_c_16 : Ref sig .tc := ⟨.hbm, 851, rfl⟩
abbrev main_call1_call5_v64 : Ref sig .tc := ⟨.hbm, 852, rfl⟩
abbrev main_call1_call5_v65 : Ref sig .tc := ⟨.hbm, 853, rfl⟩
abbrev main_call1_call5_v66 : Ref sig .tc := ⟨.hbm, 854, rfl⟩
abbrev main_call1_call5_v67 : Ref sig .tc := ⟨.hbm, 855, rfl⟩
abbrev main_call1_call5_v68 : Ref sig .tc := ⟨.hbm, 856, rfl⟩
abbrev main_call1_call5_v69 : Ref sig .tc := ⟨.hbm, 857, rfl⟩
abbrev main_call1_call5_v70 : Ref sig .tc := ⟨.hbm, 858, rfl⟩
abbrev main_call1_call5_v71 : Ref sig .tc := ⟨.hbm, 859, rfl⟩
abbrev main_call1_call5_c_17 : Ref sig .tc := ⟨.hbm, 860, rfl⟩
abbrev main_call1_call5_v72 : Ref sig .tc := ⟨.hbm, 861, rfl⟩
abbrev main_call1_call5_v73 : Ref sig .tc := ⟨.hbm, 862, rfl⟩
abbrev main_call1_call5_v74 : Ref sig .tc := ⟨.hbm, 863, rfl⟩
abbrev main_call1_call5_c_18 : Ref sig .tc := ⟨.hbm, 864, rfl⟩
abbrev main_call1_call5_v75 : Ref sig .tc := ⟨.hbm, 865, rfl⟩
abbrev main_call1_call5_v76 : Ref sig .tc := ⟨.hbm, 866, rfl⟩
abbrev main_call1_call5_c_19 : Ref sig .tc := ⟨.hbm, 867, rfl⟩
abbrev main_call1_call5_v77 : Ref sig .tc := ⟨.hbm, 868, rfl⟩
abbrev main_call1_call5_v78 : Ref sig .tc := ⟨.hbm, 869, rfl⟩
abbrev main_call1_call5_v79 : Ref sig .tc := ⟨.hbm, 870, rfl⟩
abbrev main_call1_call5_v80 : Ref sig .tc := ⟨.hbm, 871, rfl⟩
abbrev main_call1_call5_v81 : Ref sig .tc := ⟨.hbm, 872, rfl⟩
abbrev main_call1_call5_c_20 : Ref sig .tc := ⟨.hbm, 873, rfl⟩
abbrev main_call1_call5_v82 : Ref sig .tc := ⟨.hbm, 874, rfl⟩
abbrev main_call1_call5_v83 : Ref sig .tc := ⟨.hbm, 875, rfl⟩
abbrev main_call1_call5_c_21 : Ref sig .tc := ⟨.hbm, 876, rfl⟩
abbrev main_call1_call5_v84 : Ref sig .tc := ⟨.hbm, 877, rfl⟩
abbrev main_call1_call5_v85 : Ref sig .tc := ⟨.hbm, 878, rfl⟩
abbrev main_call1_call5_v86 : Ref sig .tc := ⟨.hbm, 879, rfl⟩
abbrev main_call1_call5_v87 : Ref sig .tc := ⟨.hbm, 880, rfl⟩
abbrev main_call1_call5_v88 : Ref sig .tc := ⟨.hbm, 881, rfl⟩
abbrev main_call1_call5_c_22 : Ref sig .tc := ⟨.hbm, 882, rfl⟩
abbrev main_call1_call5_v89 : Ref sig .tc := ⟨.hbm, 883, rfl⟩
abbrev main_call1_call5_v90 : Ref sig .tc := ⟨.hbm, 884, rfl⟩
abbrev main_call1_call5_c_23 : Ref sig .tc := ⟨.hbm, 885, rfl⟩
abbrev main_call1_call5_v91 : Ref sig .tc := ⟨.hbm, 886, rfl⟩
abbrev main_call1_call5_v92 : Ref sig .tc := ⟨.hbm, 887, rfl⟩
abbrev main_call1_call5_v93 : Ref sig .tc := ⟨.hbm, 888, rfl⟩
abbrev main_call1_call5_v94 : Ref sig .tc := ⟨.hbm, 889, rfl⟩
abbrev main_call1_call5_v95 : Ref sig .tc := ⟨.hbm, 890, rfl⟩
abbrev main_call1_call5_c_24 : Ref sig .tc := ⟨.hbm, 891, rfl⟩
abbrev main_call1_call5_v96 : Ref sig .tc := ⟨.hbm, 892, rfl⟩
abbrev main_call1_call5_v97 : Ref sig .tc := ⟨.hbm, 893, rfl⟩
abbrev main_call1_call5_c_25 : Ref sig .tc := ⟨.hbm, 894, rfl⟩
abbrev main_call1_call5_v98 : Ref sig .tc := ⟨.hbm, 895, rfl⟩
abbrev main_call1_call5_v99 : Ref sig .tc := ⟨.hbm, 896, rfl⟩
abbrev main_call1_call5_v100 : Ref sig .tc := ⟨.hbm, 897, rfl⟩
abbrev main_call1_call5_v101 : Ref sig .tc := ⟨.hbm, 898, rfl⟩
abbrev main_call1_call5_v102 : Ref sig .tc := ⟨.hbm, 899, rfl⟩
abbrev main_call1_call5_v103 : Ref sig .tc := ⟨.hbm, 900, rfl⟩
abbrev main_call1_call5_v104 : Ref sig .tc := ⟨.hbm, 901, rfl⟩
abbrev main_call1_call5_v105 : Ref sig .tc := ⟨.hbm, 902, rfl⟩
abbrev main_call1_call5_c_26 : Ref sig .tc := ⟨.hbm, 903, rfl⟩
abbrev main_call1_call5_v106 : Ref sig .tc := ⟨.hbm, 904, rfl⟩
abbrev main_call1_call5_v107 : Ref sig .tc := ⟨.hbm, 905, rfl⟩
abbrev main_call1_call5_v108 : Ref sig .tc := ⟨.hbm, 906, rfl⟩
abbrev main_call1_call5_c_27 : Ref sig .tc := ⟨.hbm, 907, rfl⟩
abbrev main_call1_call5_v109 : Ref sig .tc := ⟨.hbm, 908, rfl⟩
abbrev main_call1_call5_v110 : Ref sig .tc := ⟨.hbm, 909, rfl⟩
abbrev main_call1_call5_c_28 : Ref sig .tc := ⟨.hbm, 910, rfl⟩
abbrev main_call1_call5_v111 : Ref sig .tc := ⟨.hbm, 911, rfl⟩
abbrev main_call1_call5_v112 : Ref sig .tc := ⟨.hbm, 912, rfl⟩
abbrev main_call1_call5_v113 : Ref sig .tc := ⟨.hbm, 913, rfl⟩
abbrev main_call1_call5_v114 : Ref sig .tc := ⟨.hbm, 914, rfl⟩
abbrev main_call1_call5_v115 : Ref sig .tc := ⟨.hbm, 915, rfl⟩
abbrev main_call1_call5_c_29 : Ref sig .tc := ⟨.hbm, 916, rfl⟩
abbrev main_call1_call5_v116 : Ref sig .tc := ⟨.hbm, 917, rfl⟩
abbrev main_call1_call5_v117 : Ref sig .tc := ⟨.hbm, 918, rfl⟩
abbrev main_call1_call5_c_30 : Ref sig .tc := ⟨.hbm, 919, rfl⟩
abbrev main_call1_call5_v118 : Ref sig .tc := ⟨.hbm, 920, rfl⟩
abbrev main_call1_call5_v119 : Ref sig .tc := ⟨.hbm, 921, rfl⟩
abbrev main_call1_call5_v120 : Ref sig .tc := ⟨.hbm, 922, rfl⟩
abbrev main_call1_call5_v121 : Ref sig .tc := ⟨.hbm, 923, rfl⟩
abbrev main_call1_call5_v122 : Ref sig .tc := ⟨.hbm, 924, rfl⟩
abbrev main_call1_call5_c_31 : Ref sig .tc := ⟨.hbm, 925, rfl⟩
abbrev main_call1_call5_v123 : Ref sig .tc := ⟨.hbm, 926, rfl⟩
abbrev main_call1_call5_v124 : Ref sig .tc := ⟨.hbm, 927, rfl⟩
abbrev main_call1_call5_c_32 : Ref sig .tc := ⟨.hbm, 928, rfl⟩
abbrev main_call1_call5_v125 : Ref sig .tc := ⟨.hbm, 929, rfl⟩
abbrev main_call1_call5_v126 : Ref sig .tc := ⟨.hbm, 930, rfl⟩
abbrev main_call1_call5_v127 : Ref sig .tc := ⟨.hbm, 931, rfl⟩
abbrev main_call1_call5_v128 : Ref sig .tc := ⟨.hbm, 932, rfl⟩
abbrev main_call1_call5_v129 : Ref sig .tc := ⟨.hbm, 933, rfl⟩
abbrev main_call1_call5_c_33 : Ref sig .tc := ⟨.hbm, 934, rfl⟩
abbrev main_call1_call5_v130 : Ref sig .tc := ⟨.hbm, 935, rfl⟩
abbrev main_call1_call5_v131 : Ref sig .tc := ⟨.hbm, 936, rfl⟩
abbrev main_call1_call5_c_34 : Ref sig .tc := ⟨.hbm, 937, rfl⟩
abbrev main_call1_call5_v132 : Ref sig .tc := ⟨.hbm, 938, rfl⟩
abbrev main_call1_call5_v133 : Ref sig .tc := ⟨.hbm, 939, rfl⟩
abbrev main_call1_call5_v134 : Ref sig .tc := ⟨.hbm, 940, rfl⟩
abbrev main_call1_call5_v135 : Ref sig .tc := ⟨.hbm, 941, rfl⟩
abbrev main_call1_call5_v136 : Ref sig .tc := ⟨.hbm, 942, rfl⟩
abbrev main_call1_call5_v137 : Ref sig .tc := ⟨.hbm, 943, rfl⟩
abbrev main_call1_call5_v138 : Ref sig .tc := ⟨.hbm, 944, rfl⟩
abbrev main_call1_call5_v139 : Ref sig .tc := ⟨.hbm, 945, rfl⟩
abbrev main_call1_call5_c_35 : Ref sig .tc := ⟨.hbm, 946, rfl⟩
abbrev main_call1_call5_v140 : Ref sig .tc := ⟨.hbm, 947, rfl⟩
abbrev main_call1_call5_v141 : Ref sig .tc := ⟨.hbm, 948, rfl⟩
abbrev main_call1_call5_v142 : Ref sig .tc := ⟨.hbm, 949, rfl⟩
abbrev main_call1_call5_c_36 : Ref sig .tc := ⟨.hbm, 950, rfl⟩
abbrev main_call1_call5_v143 : Ref sig .tc := ⟨.hbm, 951, rfl⟩
abbrev main_call1_call5_v144 : Ref sig .tc := ⟨.hbm, 952, rfl⟩
abbrev main_call1_call5_c_37 : Ref sig .tc := ⟨.hbm, 953, rfl⟩
abbrev main_call1_call5_v145 : Ref sig .tc := ⟨.hbm, 954, rfl⟩
abbrev main_call1_call5_v146 : Ref sig .tc := ⟨.hbm, 955, rfl⟩
abbrev main_call1_call5_v147 : Ref sig .tc := ⟨.hbm, 956, rfl⟩
abbrev main_call1_call5_v148 : Ref sig .tc := ⟨.hbm, 957, rfl⟩
abbrev main_call1_call5_v149 : Ref sig .tc := ⟨.hbm, 958, rfl⟩
abbrev main_call1_call5_c_38 : Ref sig .tc := ⟨.hbm, 959, rfl⟩
abbrev main_call1_call5_v150 : Ref sig .tc := ⟨.hbm, 960, rfl⟩
abbrev main_call1_call5_v151 : Ref sig .tc := ⟨.hbm, 961, rfl⟩
abbrev main_call1_call5_c_39 : Ref sig .tc := ⟨.hbm, 962, rfl⟩
abbrev main_call1_call5_v152 : Ref sig .tc := ⟨.hbm, 963, rfl⟩
abbrev main_call1_call5_v153 : Ref sig .tc := ⟨.hbm, 964, rfl⟩
abbrev main_call1_call5_v154 : Ref sig .tc := ⟨.hbm, 965, rfl⟩
abbrev main_call1_call5_v155 : Ref sig .tc := ⟨.hbm, 966, rfl⟩
abbrev main_call1_call5_v156 : Ref sig .tc := ⟨.hbm, 967, rfl⟩
abbrev main_call1_call5_c_40 : Ref sig .tc := ⟨.hbm, 968, rfl⟩
abbrev main_call1_call5_v157 : Ref sig .tc := ⟨.hbm, 969, rfl⟩
abbrev main_call1_call5_v158 : Ref sig .tc := ⟨.hbm, 970, rfl⟩
abbrev main_call1_call5_c_41 : Ref sig .tc := ⟨.hbm, 971, rfl⟩
abbrev main_call1_call5_v159 : Ref sig .tc := ⟨.hbm, 972, rfl⟩
abbrev main_call1_call5_v160 : Ref sig .tc := ⟨.hbm, 973, rfl⟩
abbrev main_call1_call5_v161 : Ref sig .tc := ⟨.hbm, 974, rfl⟩
abbrev main_call1_call5_v162 : Ref sig .tc := ⟨.hbm, 975, rfl⟩
abbrev main_call1_call5_v163 : Ref sig .tc := ⟨.hbm, 976, rfl⟩
abbrev main_call1_call5_c_42 : Ref sig .tc := ⟨.hbm, 977, rfl⟩
abbrev main_call1_call5_v164 : Ref sig .tc := ⟨.hbm, 978, rfl⟩
abbrev main_call1_call5_v165 : Ref sig .tc := ⟨.hbm, 979, rfl⟩
abbrev main_call1_call5_c_43 : Ref sig .tc := ⟨.hbm, 980, rfl⟩
abbrev main_call1_call5_v166 : Ref sig .tc := ⟨.hbm, 981, rfl⟩
abbrev main_call1_call5_v167 : Ref sig .tc := ⟨.hbm, 982, rfl⟩
abbrev main_call1_call5_v168 : Ref sig .tc := ⟨.hbm, 983, rfl⟩
abbrev main_call1_call5_v169 : Ref sig .tc := ⟨.hbm, 984, rfl⟩
abbrev main_call1_call5_v170 : Ref sig .tc := ⟨.hbm, 985, rfl⟩
abbrev main_call1_v45_0 : Ref sig .tc := ⟨.hbm, 986, rfl⟩
abbrev main_call1_call5_v172 : Ref sig .tc := ⟨.hbm, 987, rfl⟩
abbrev main_call1_call5_v173 : Ref sig .tc := ⟨.hbm, 988, rfl⟩
abbrev main_call1_call5_c_44 : Ref sig .tc := ⟨.hbm, 989, rfl⟩
abbrev main_call1_call5_v174 : Ref sig .tc := ⟨.hbm, 990, rfl⟩
abbrev main_call1_v45_1 : Ref sig .tc := ⟨.hbm, 991, rfl⟩
abbrev main_call1_v46 : Ref sig .tc := ⟨.hbm, 992, rfl⟩
abbrev main_call1_v47 : Ref sig .tc := ⟨.hbm, 993, rfl⟩
abbrev main_call1_v48 : Ref sig .tc := ⟨.hbm, 994, rfl⟩
abbrev main_call1_v49 : Ref sig .tc := ⟨.hbm, 995, rfl⟩
abbrev main_call1_c_12 : Ref sig .tc := ⟨.hbm, 996, rfl⟩
abbrev main_call1_v50 : Ref sig .tc := ⟨.hbm, 997, rfl⟩
abbrev main_call1_v51 : Ref sig .tc := ⟨.hbm, 998, rfl⟩
abbrev main_call1_v52 : Ref sig .tc := ⟨.hbm, 999, rfl⟩
abbrev main_call1_v53 : Ref sig .tc := ⟨.hbm, 1000, rfl⟩
abbrev main_call1_v54 : Ref sig .tc := ⟨.hbm, 1001, rfl⟩
abbrev main_call1_c_13 : Ref sig .tc := ⟨.hbm, 1002, rfl⟩
abbrev main_call1_v55 : Ref sig .tc := ⟨.hbm, 1003, rfl⟩
abbrev main_call1_v56 : Ref sig .tc := ⟨.hbm, 1004, rfl⟩
abbrev main_call1_v57 : Ref sig .tc := ⟨.hbm, 1005, rfl⟩
abbrev main_call1_c_14 : Ref sig .tc := ⟨.hbm, 1006, rfl⟩
abbrev main_call1_v58 : Ref sig .tc := ⟨.hbm, 1007, rfl⟩
abbrev main_call1_v59 : Ref sig .tc := ⟨.hbm, 1008, rfl⟩
abbrev main_call1_v60 : Ref sig .tc := ⟨.hbm, 1009, rfl⟩
abbrev main_call1_v61 : Ref sig .tc := ⟨.hbm, 1010, rfl⟩
abbrev main_call1_v62 : Ref sig .tc := ⟨.hbm, 1011, rfl⟩
abbrev main_call1_v63 : Ref sig .tc := ⟨.hbm, 1012, rfl⟩
abbrev main_call1_v64 : Ref sig .tc := ⟨.hbm, 1013, rfl⟩
abbrev main_call1_v65 : Ref sig .tc := ⟨.hbm, 1014, rfl⟩
abbrev main_call1_v66 : Ref sig .tc := ⟨.hbm, 1015, rfl⟩
abbrev main_call1_v67 : Ref sig .tc := ⟨.hbm, 1016, rfl⟩
abbrev main_call1_v68 : Ref sig .tc := ⟨.hbm, 1017, rfl⟩
abbrev main_call1_v69 : Ref sig .tc := ⟨.hbm, 1018, rfl⟩
abbrev main_call1_v70 : Ref sig .tc := ⟨.hbm, 1019, rfl⟩
abbrev main_call1_v71 : Ref sig .tc := ⟨.hbm, 1020, rfl⟩
abbrev main_call1_v72 : Ref sig .tc := ⟨.hbm, 1021, rfl⟩
abbrev main_v8 : Ref sig .tc := ⟨.hbm, 1022, rfl⟩
abbrev main_v9 : Ref sig .tc := ⟨.hbm, 1023, rfl⟩
abbrev main_v10 : Ref sig .tc := ⟨.hbm, 1024, rfl⟩
abbrev main_v11 : Ref sig .tc := ⟨.hbm, 1025, rfl⟩
abbrev main_v12 : Ref sig .tc := ⟨.hbm, 1026, rfl⟩
abbrev main_v13 : Ref sig .tc := ⟨.hbm, 1027, rfl⟩
abbrev main_v14 : Ref sig .tc := ⟨.hbm, 1028, rfl⟩
abbrev main_v9_scv : Ref sig .scVector := ⟨.hbm, 1023, rfl⟩
abbrev main_arg1_scv : Ref sig .scVector := ⟨.hbm, 1, rfl⟩
abbrev main_v10_scv : Ref sig .scVector := ⟨.hbm, 1024, rfl⟩
abbrev main_v11_scv : Ref sig .scVector := ⟨.hbm, 1025, rfl⟩
abbrev cc1_stg0_0 : Ref sig .tc := ⟨.vmem, 0, rfl⟩
abbrev cc1_stg1_0 : Ref sig .tc := ⟨.vmem, 1, rfl⟩
abbrev cc0_scratch3 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 6
abbrev cc1_sem1_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c5_i32 : BitVec 32 := 5#32
  let v3 : BitVec 32 := Scalar.muli v2 c5_i32
  ![v3.toNat]
def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  v2
def k0_off3 (i : grid0.Coords) : Fin 2 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v4 : BitVec 32 := v2
  ![0, v4.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  v2
def k0_off4 (i : grid0.Coords) : Fin 2 → Nat :=
  let arg1 : BitVec 32 := BitVec.ofNat 32 (i 1).val
  let c0_i32_14 : BitVec 32 := 0#32
  ![arg1.toNat, 0]
def k0_off5 (i : grid0.Coords) : Fin 2 → Nat :=
  let arg1 : BitVec 32 := BitVec.ofNat 32 (i 1).val
  let c8_i32 : BitVec 32 := 8#32
  ![arg1.toNat, 8]
def k0_off6 (i : grid0.Coords) : Fin 2 → Nat :=
  let arg1 : BitVec 32 := BitVec.ofNat 32 (i 1).val
  let c16_i32 : BitVec 32 := 16#32
  ![arg1.toNat, 16]
def k0_off7 (i : grid0.Coords) : Fin 2 → Nat :=
  let arg1 : BitVec 32 := BitVec.ofNat 32 (i 1).val
  let c24_i32 : BitVec 32 := 24#32
  ![arg1.toNat, 24]
def k0_off8 (i : grid0.Coords) : Fin 2 → Nat :=
  let arg1 : BitVec 32 := BitVec.ofNat 32 (i 1).val
  let c32_i32 : BitVec 32 := 32#32
  ![arg1.toNat, 32]
def k0_off9 (i : grid0.Coords) : Fin 2 → Nat :=
  let arg1 : BitVec 32 := BitVec.ofNat 32 (i 1).val
  let c40_i32 : BitVec 32 := 40#32
  ![arg1.toNat, 40]
def k0_off10 (i : grid0.Coords) : Fin 2 → Nat :=
  let arg1 : BitVec 32 := BitVec.ofNat 32 (i 1).val
  let c48_i32 : BitVec 32 := 48#32
  ![arg1.toNat, 48]
def k0_off11 (i : grid0.Coords) : Fin 2 → Nat :=
  let arg1 : BitVec 32 := BitVec.ofNat 32 (i 1).val
  let c56_i32 : BitVec 32 := 56#32
  ![arg1.toNat, 56]
def k0_off12 (i : grid0.Coords) : Fin 2 → Nat :=
  let arg1 : BitVec 32 := BitVec.ofNat 32 (i 1).val
  let c64_i32 : BitVec 32 := 64#32
  ![arg1.toNat, 64]
def k0_off13 (i : grid0.Coords) : Fin 2 → Nat :=
  let arg1 : BitVec 32 := BitVec.ofNat 32 (i 1).val
  let c72_i32 : BitVec 32 := 72#32
  ![arg1.toNat, 72]
def k0_off14 (i : grid0.Coords) : Fin 2 → Nat :=
  let arg1 : BitVec 32 := BitVec.ofNat 32 (i 1).val
  let c80_i32 : BitVec 32 := 80#32
  ![arg1.toNat, 80]
def k0_off15 (i : grid0.Coords) : Fin 2 → Nat :=
  let arg1 : BitVec 32 := BitVec.ofNat 32 (i 1).val
  let c88_i32 : BitVec 32 := 88#32
  ![arg1.toNat, 88]
def k0_off16 (i : grid0.Coords) : Fin 2 → Nat :=
  let arg1 : BitVec 32 := BitVec.ofNat 32 (i 1).val
  let c96_i32 : BitVec 32 := 96#32
  ![arg1.toNat, 96]
def k0_off17 (i : grid0.Coords) : Fin 2 → Nat :=
  let arg1 : BitVec 32 := BitVec.ofNat 32 (i 1).val
  let c104_i32 : BitVec 32 := 104#32
  ![arg1.toNat, 104]
def k0_off18 (i : grid0.Coords) : Fin 2 → Nat :=
  let arg1 : BitVec 32 := BitVec.ofNat 32 (i 1).val
  let c112_i32 : BitVec 32 := 112#32
  ![arg1.toNat, 112]
def k0_off19 (i : grid0.Coords) : Fin 2 → Nat :=
  let arg1 : BitVec 32 := BitVec.ofNat 32 (i 1).val
  let c120_i32 : BitVec 32 := 120#32
  ![arg1.toNat, 120]
def k0_off20 (i : grid0.Coords) : Fin 2 → Nat :=
  let arg1 : BitVec 32 := BitVec.ofNat 32 (i 1).val
  let c128_i32_84 : BitVec 32 := 128#32
  ![arg1.toNat, 128]
def k0_off21 (i : grid0.Coords) : Fin 2 → Nat :=
  let arg1 : BitVec 32 := BitVec.ofNat 32 (i 1).val
  let c136_i32 : BitVec 32 := 136#32
  ![arg1.toNat, 136]
def k0_off22 (i : grid0.Coords) : Fin 2 → Nat :=
  let arg1 : BitVec 32 := BitVec.ofNat 32 (i 1).val
  let c144_i32 : BitVec 32 := 144#32
  ![arg1.toNat, 144]
def k0_off23 (i : grid0.Coords) : Fin 2 → Nat :=
  let arg1 : BitVec 32 := BitVec.ofNat 32 (i 1).val
  let c152_i32 : BitVec 32 := 152#32
  ![arg1.toNat, 152]
def k0_off24 (i : grid0.Coords) : Fin 2 → Nat :=
  let arg1 : BitVec 32 := BitVec.ofNat 32 (i 1).val
  let c160_i32 : BitVec 32 := 160#32
  ![arg1.toNat, 160]
def k0_off25 (i : grid0.Coords) : Fin 2 → Nat :=
  let arg1 : BitVec 32 := BitVec.ofNat 32 (i 1).val
  let c168_i32 : BitVec 32 := 168#32
  ![arg1.toNat, 168]
def k0_off26 (i : grid0.Coords) : Fin 2 → Nat :=
  let arg1 : BitVec 32 := BitVec.ofNat 32 (i 1).val
  let c176_i32 : BitVec 32 := 176#32
  ![arg1.toNat, 176]
def k0_off27 (i : grid0.Coords) : Fin 2 → Nat :=
  let arg1 : BitVec 32 := BitVec.ofNat 32 (i 1).val
  let c184_i32 : BitVec 32 := 184#32
  ![arg1.toNat, 184]
def k0_off28 (i : grid0.Coords) : Fin 2 → Nat :=
  let arg1 : BitVec 32 := BitVec.ofNat 32 (i 1).val
  let c192_i32 : BitVec 32 := 192#32
  ![arg1.toNat, 192]
def k0_off29 (i : grid0.Coords) : Fin 2 → Nat :=
  let arg1 : BitVec 32 := BitVec.ofNat 32 (i 1).val
  let c200_i32 : BitVec 32 := 200#32
  ![arg1.toNat, 200]
def k0_off30 (i : grid0.Coords) : Fin 2 → Nat :=
  let arg1 : BitVec 32 := BitVec.ofNat 32 (i 1).val
  let c208_i32 : BitVec 32 := 208#32
  ![arg1.toNat, 208]
def k0_off31 (i : grid0.Coords) : Fin 2 → Nat :=
  let arg1 : BitVec 32 := BitVec.ofNat 32 (i 1).val
  let c216_i32 : BitVec 32 := 216#32
  ![arg1.toNat, 216]
def k0_off32 (i : grid0.Coords) : Fin 2 → Nat :=
  let arg1 : BitVec 32 := BitVec.ofNat 32 (i 1).val
  let c224_i32 : BitVec 32 := 224#32
  ![arg1.toNat, 224]
def k0_off33 (i : grid0.Coords) : Fin 2 → Nat :=
  let arg1 : BitVec 32 := BitVec.ofNat 32 (i 1).val
  let c232_i32 : BitVec 32 := 232#32
  ![arg1.toNat, 232]
def k0_off34 (i : grid0.Coords) : Fin 2 → Nat :=
  let arg1 : BitVec 32 := BitVec.ofNat 32 (i 1).val
  let c240_i32 : BitVec 32 := 240#32
  ![arg1.toNat, 240]
def k0_off35 (i : grid0.Coords) : Fin 2 → Nat :=
  let arg1 : BitVec 32 := BitVec.ofNat 32 (i 1).val
  let c248_i32 : BitVec 32 := 248#32
  ![arg1.toNat, 248]
def k0_off36 (i : grid0.Coords) : Fin 2 → Nat :=
  let arg1 : BitVec 32 := BitVec.ofNat 32 (i 1).val
  let c256_i32 : BitVec 32 := 256#32
  ![arg1.toNat, 256]
def k0_off37 (i : grid0.Coords) : Fin 2 → Nat :=
  let arg1 : BitVec 32 := BitVec.ofNat 32 (i 1).val
  let c264_i32 : BitVec 32 := 264#32
  ![arg1.toNat, 264]
def k0_off38 (i : grid0.Coords) : Fin 2 → Nat :=
  let arg1 : BitVec 32 := BitVec.ofNat 32 (i 1).val
  let c272_i32 : BitVec 32 := 272#32
  ![arg1.toNat, 272]
def k0_off39 (i : grid0.Coords) : Fin 2 → Nat :=
  let arg1 : BitVec 32 := BitVec.ofNat 32 (i 1).val
  let c280_i32 : BitVec 32 := 280#32
  ![arg1.toNat, 280]
def k0_off40 (i : grid0.Coords) : Fin 2 → Nat :=
  let arg1 : BitVec 32 := BitVec.ofNat 32 (i 1).val
  let c288_i32 : BitVec 32 := 288#32
  ![arg1.toNat, 288]
def k0_off41 (i : grid0.Coords) : Fin 2 → Nat :=
  let arg1 : BitVec 32 := BitVec.ofNat 32 (i 1).val
  let c296_i32 : BitVec 32 := 296#32
  ![arg1.toNat, 296]
def k0_off42 (i : grid0.Coords) : Fin 2 → Nat :=
  let arg1 : BitVec 32 := BitVec.ofNat 32 (i 1).val
  let c304_i32 : BitVec 32 := 304#32
  ![arg1.toNat, 304]
def k0_off43 (i : grid0.Coords) : Fin 2 → Nat :=
  let arg1 : BitVec 32 := BitVec.ofNat 32 (i 1).val
  let c312_i32 : BitVec 32 := 312#32
  ![arg1.toNat, 312]
def k0_off44 (i : grid0.Coords) : Fin 2 → Nat :=
  let arg1 : BitVec 32 := BitVec.ofNat 32 (i 1).val
  let c320_i32 : BitVec 32 := 320#32
  ![arg1.toNat, 320]
def k0_off45 (i : grid0.Coords) : Fin 2 → Nat :=
  let arg1 : BitVec 32 := BitVec.ofNat 32 (i 1).val
  let c328_i32 : BitVec 32 := 328#32
  ![arg1.toNat, 328]
def k0_off46 (i : grid0.Coords) : Fin 2 → Nat :=
  let arg1 : BitVec 32 := BitVec.ofNat 32 (i 1).val
  let c336_i32 : BitVec 32 := 336#32
  ![arg1.toNat, 336]
def k0_off47 (i : grid0.Coords) : Fin 2 → Nat :=
  let arg1 : BitVec 32 := BitVec.ofNat 32 (i 1).val
  let c344_i32 : BitVec 32 := 344#32
  ![arg1.toNat, 344]
def k0_off48 (i : grid0.Coords) : Fin 2 → Nat :=
  let arg1 : BitVec 32 := BitVec.ofNat 32 (i 1).val
  let c352_i32 : BitVec 32 := 352#32
  ![arg1.toNat, 352]
def k0_off49 (i : grid0.Coords) : Fin 2 → Nat :=
  let arg1 : BitVec 32 := BitVec.ofNat 32 (i 1).val
  let c360_i32 : BitVec 32 := 360#32
  ![arg1.toNat, 360]
def k0_off50 (i : grid0.Coords) : Fin 2 → Nat :=
  let arg1 : BitVec 32 := BitVec.ofNat 32 (i 1).val
  let c368_i32 : BitVec 32 := 368#32
  ![arg1.toNat, 368]
def k0_off51 (i : grid0.Coords) : Fin 2 → Nat :=
  let arg1 : BitVec 32 := BitVec.ofNat 32 (i 1).val
  let c376_i32 : BitVec 32 := 376#32
  ![arg1.toNat, 376]
def k0_off52 (i : grid0.Coords) : Fin 2 → Nat :=
  let arg1 : BitVec 32 := BitVec.ofNat 32 (i 1).val
  let c384_i32 : BitVec 32 := 384#32
  ![arg1.toNat, 384]
def k0_off53 (i : grid0.Coords) : Fin 2 → Nat :=
  let arg1 : BitVec 32 := BitVec.ofNat 32 (i 1).val
  let c392_i32 : BitVec 32 := 392#32
  ![arg1.toNat, 392]
def k0_off54 (i : grid0.Coords) : Fin 2 → Nat :=
  let arg1 : BitVec 32 := BitVec.ofNat 32 (i 1).val
  let c400_i32 : BitVec 32 := 400#32
  ![arg1.toNat, 400]
def k0_off55 (i : grid0.Coords) : Fin 2 → Nat :=
  let arg1 : BitVec 32 := BitVec.ofNat 32 (i 1).val
  let c408_i32 : BitVec 32 := 408#32
  ![arg1.toNat, 408]
def k0_off56 (i : grid0.Coords) : Fin 2 → Nat :=
  let arg1 : BitVec 32 := BitVec.ofNat 32 (i 1).val
  let c416_i32 : BitVec 32 := 416#32
  ![arg1.toNat, 416]
def k0_off57 (i : grid0.Coords) : Fin 2 → Nat :=
  let arg1 : BitVec 32 := BitVec.ofNat 32 (i 1).val
  let c424_i32 : BitVec 32 := 424#32
  ![arg1.toNat, 424]
def k0_off58 (i : grid0.Coords) : Fin 2 → Nat :=
  let arg1 : BitVec 32 := BitVec.ofNat 32 (i 1).val
  let c432_i32 : BitVec 32 := 432#32
  ![arg1.toNat, 432]
def k0_off59 (i : grid0.Coords) : Fin 2 → Nat :=
  let arg1 : BitVec 32 := BitVec.ofNat 32 (i 1).val
  let c440_i32 : BitVec 32 := 440#32
  ![arg1.toNat, 440]
def k0_off60 (i : grid0.Coords) : Fin 2 → Nat :=
  let arg1 : BitVec 32 := BitVec.ofNat 32 (i 1).val
  let c448_i32 : BitVec 32 := 448#32
  ![arg1.toNat, 448]
def k0_off61 (i : grid0.Coords) : Fin 2 → Nat :=
  let arg1 : BitVec 32 := BitVec.ofNat 32 (i 1).val
  let c456_i32 : BitVec 32 := 456#32
  ![arg1.toNat, 456]
def k0_off62 (i : grid0.Coords) : Fin 2 → Nat :=
  let arg1 : BitVec 32 := BitVec.ofNat 32 (i 1).val
  let c464_i32 : BitVec 32 := 464#32
  ![arg1.toNat, 464]
def k0_off63 (i : grid0.Coords) : Fin 2 → Nat :=
  let arg1 : BitVec 32 := BitVec.ofNat 32 (i 1).val
  let c472_i32 : BitVec 32 := 472#32
  ![arg1.toNat, 472]
def k0_off64 (i : grid0.Coords) : Fin 2 → Nat :=
  let arg1 : BitVec 32 := BitVec.ofNat 32 (i 1).val
  let c480_i32 : BitVec 32 := 480#32
  ![arg1.toNat, 480]
def k0_off65 (i : grid0.Coords) : Fin 2 → Nat :=
  let arg1 : BitVec 32 := BitVec.ofNat 32 (i 1).val
  let c488_i32 : BitVec 32 := 488#32
  ![arg1.toNat, 488]
def k0_off66 (i : grid0.Coords) : Fin 2 → Nat :=
  let arg1 : BitVec 32 := BitVec.ofNat 32 (i 1).val
  let c496_i32 : BitVec 32 := 496#32
  ![arg1.toNat, 496]
def k0_off67 (i : grid0.Coords) : Fin 2 → Nat :=
  let arg1 : BitVec 32 := BitVec.ofNat 32 (i 1).val
  let c504_i32 : BitVec 32 := 504#32
  ![arg1.toNat, 504]
def k0_off68 (i : grid0.Coords) : Fin 2 → Nat :=
  let arg1 : BitVec 32 := BitVec.ofNat 32 (i 1).val
  let c512_i32 : BitVec 32 := 512#32
  ![arg1.toNat, 512]
def k0_off69 (i : grid0.Coords) : Fin 2 → Nat :=
  let arg1 : BitVec 32 := BitVec.ofNat 32 (i 1).val
  let c520_i32 : BitVec 32 := 520#32
  ![arg1.toNat, 520]
def k0_off70 (i : grid0.Coords) : Fin 2 → Nat :=
  let arg1 : BitVec 32 := BitVec.ofNat 32 (i 1).val
  let c528_i32 : BitVec 32 := 528#32
  ![arg1.toNat, 528]
def k0_off71 (i : grid0.Coords) : Fin 2 → Nat :=
  let arg1 : BitVec 32 := BitVec.ofNat 32 (i 1).val
  let c536_i32 : BitVec 32 := 536#32
  ![arg1.toNat, 536]
def k0_off72 (i : grid0.Coords) : Fin 2 → Nat :=
  let arg1 : BitVec 32 := BitVec.ofNat 32 (i 1).val
  let c544_i32 : BitVec 32 := 544#32
  ![arg1.toNat, 544]
def k0_off73 (i : grid0.Coords) : Fin 2 → Nat :=
  let arg1 : BitVec 32 := BitVec.ofNat 32 (i 1).val
  let c552_i32 : BitVec 32 := 552#32
  ![arg1.toNat, 552]
def k0_off74 (i : grid0.Coords) : Fin 2 → Nat :=
  let arg1 : BitVec 32 := BitVec.ofNat 32 (i 1).val
  let c560_i32 : BitVec 32 := 560#32
  ![arg1.toNat, 560]
def k0_off75 (i : grid0.Coords) : Fin 2 → Nat :=
  let arg1 : BitVec 32 := BitVec.ofNat 32 (i 1).val
  let c568_i32 : BitVec 32 := 568#32
  ![arg1.toNat, 568]
def k0_off76 (i : grid0.Coords) : Fin 2 → Nat :=
  let arg1 : BitVec 32 := BitVec.ofNat 32 (i 1).val
  let c576_i32 : BitVec 32 := 576#32
  ![arg1.toNat, 576]
def k0_off77 (i : grid0.Coords) : Fin 2 → Nat :=
  let arg1 : BitVec 32 := BitVec.ofNat 32 (i 1).val
  let c584_i32 : BitVec 32 := 584#32
  ![arg1.toNat, 584]
def k0_off78 (i : grid0.Coords) : Fin 2 → Nat :=
  let arg1 : BitVec 32 := BitVec.ofNat 32 (i 1).val
  let c592_i32 : BitVec 32 := 592#32
  ![arg1.toNat, 592]
def k0_off79 (i : grid0.Coords) : Fin 2 → Nat :=
  let arg1 : BitVec 32 := BitVec.ofNat 32 (i 1).val
  let c600_i32 : BitVec 32 := 600#32
  ![arg1.toNat, 600]
def k0_off80 (i : grid0.Coords) : Fin 2 → Nat :=
  let arg1 : BitVec 32 := BitVec.ofNat 32 (i 1).val
  let c608_i32 : BitVec 32 := 608#32
  ![arg1.toNat, 608]
def k0_off81 (i : grid0.Coords) : Fin 2 → Nat :=
  let arg1 : BitVec 32 := BitVec.ofNat 32 (i 1).val
  let c616_i32 : BitVec 32 := 616#32
  ![arg1.toNat, 616]
def k0_off82 (i : grid0.Coords) : Fin 2 → Nat :=
  let arg1 : BitVec 32 := BitVec.ofNat 32 (i 1).val
  let c624_i32 : BitVec 32 := 624#32
  ![arg1.toNat, 624]
def k0_off83 (i : grid0.Coords) : Fin 2 → Nat :=
  let arg1 : BitVec 32 := BitVec.ofNat 32 (i 1).val
  let c632_i32 : BitVec 32 := 632#32
  ![arg1.toNat, 632]
def k0_off84 (i : grid0.Coords) : Fin 2 → Nat :=
  let arg1 : BitVec 32 := BitVec.ofNat 32 (i 1).val
  let c640_i32 : BitVec 32 := 640#32
  ![arg1.toNat, 640]
def k0_off85 (i : grid0.Coords) : Fin 2 → Nat :=
  let arg1 : BitVec 32 := BitVec.ofNat 32 (i 1).val
  let c648_i32 : BitVec 32 := 648#32
  ![arg1.toNat, 648]
def k0_off86 (i : grid0.Coords) : Fin 2 → Nat :=
  let arg1 : BitVec 32 := BitVec.ofNat 32 (i 1).val
  let c656_i32 : BitVec 32 := 656#32
  ![arg1.toNat, 656]
def k0_off87 (i : grid0.Coords) : Fin 2 → Nat :=
  let arg1 : BitVec 32 := BitVec.ofNat 32 (i 1).val
  let c664_i32 : BitVec 32 := 664#32
  ![arg1.toNat, 664]
def k0_off88 (i : grid0.Coords) : Fin 2 → Nat :=
  let arg1 : BitVec 32 := BitVec.ofNat 32 (i 1).val
  let c672_i32 : BitVec 32 := 672#32
  ![arg1.toNat, 672]
def k0_off89 (i : grid0.Coords) : Fin 2 → Nat :=
  let arg1 : BitVec 32 := BitVec.ofNat 32 (i 1).val
  let c680_i32 : BitVec 32 := 680#32
  ![arg1.toNat, 680]
def k0_off90 (i : grid0.Coords) : Fin 2 → Nat :=
  let arg1 : BitVec 32 := BitVec.ofNat 32 (i 1).val
  let c688_i32 : BitVec 32 := 688#32
  ![arg1.toNat, 688]
def k0_off91 (i : grid0.Coords) : Fin 2 → Nat :=
  let arg1 : BitVec 32 := BitVec.ofNat 32 (i 1).val
  let c696_i32 : BitVec 32 := 696#32
  ![arg1.toNat, 696]
def k0_off92 (i : grid0.Coords) : Fin 2 → Nat :=
  let arg1 : BitVec 32 := BitVec.ofNat 32 (i 1).val
  let c704_i32 : BitVec 32 := 704#32
  ![arg1.toNat, 704]
def k0_off93 (i : grid0.Coords) : Fin 2 → Nat :=
  let arg1 : BitVec 32 := BitVec.ofNat 32 (i 1).val
  let c712_i32 : BitVec 32 := 712#32
  ![arg1.toNat, 712]
def k0_off94 (i : grid0.Coords) : Fin 2 → Nat :=
  let arg1 : BitVec 32 := BitVec.ofNat 32 (i 1).val
  let c720_i32 : BitVec 32 := 720#32
  ![arg1.toNat, 720]
def k0_off95 (i : grid0.Coords) : Fin 2 → Nat :=
  let arg1 : BitVec 32 := BitVec.ofNat 32 (i 1).val
  let c728_i32 : BitVec 32 := 728#32
  ![arg1.toNat, 728]
def k0_off96 (i : grid0.Coords) : Fin 2 → Nat :=
  let arg1 : BitVec 32 := BitVec.ofNat 32 (i 1).val
  let c736_i32 : BitVec 32 := 736#32
  ![arg1.toNat, 736]
def k0_off97 (i : grid0.Coords) : Fin 2 → Nat :=
  let arg1 : BitVec 32 := BitVec.ofNat 32 (i 1).val
  let c744_i32 : BitVec 32 := 744#32
  ![arg1.toNat, 744]
def k0_off98 (i : grid0.Coords) : Fin 2 → Nat :=
  let arg1 : BitVec 32 := BitVec.ofNat 32 (i 1).val
  let c752_i32 : BitVec 32 := 752#32
  ![arg1.toNat, 752]
def k0_off99 (i : grid0.Coords) : Fin 2 → Nat :=
  let arg1 : BitVec 32 := BitVec.ofNat 32 (i 1).val
  let c760_i32 : BitVec 32 := 760#32
  ![arg1.toNat, 760]
def k0_off100 (i : grid0.Coords) : Fin 2 → Nat :=
  let arg1 : BitVec 32 := BitVec.ofNat 32 (i 1).val
  let c768_i32 : BitVec 32 := 768#32
  ![arg1.toNat, 768]
def k0_off101 (i : grid0.Coords) : Fin 2 → Nat :=
  let arg1 : BitVec 32 := BitVec.ofNat 32 (i 1).val
  let c776_i32 : BitVec 32 := 776#32
  ![arg1.toNat, 776]
def k0_off102 (i : grid0.Coords) : Fin 2 → Nat :=
  let arg1 : BitVec 32 := BitVec.ofNat 32 (i 1).val
  let c784_i32 : BitVec 32 := 784#32
  ![arg1.toNat, 784]
def k0_off103 (i : grid0.Coords) : Fin 2 → Nat :=
  let arg1 : BitVec 32 := BitVec.ofNat 32 (i 1).val
  let c792_i32 : BitVec 32 := 792#32
  ![arg1.toNat, 792]
def k0_off104 (i : grid0.Coords) : Fin 2 → Nat :=
  let arg1 : BitVec 32 := BitVec.ofNat 32 (i 1).val
  let c800_i32 : BitVec 32 := 800#32
  ![arg1.toNat, 800]
def k0_off105 (i : grid0.Coords) : Fin 2 → Nat :=
  let arg1 : BitVec 32 := BitVec.ofNat 32 (i 1).val
  let c808_i32 : BitVec 32 := 808#32
  ![arg1.toNat, 808]
def k0_off106 (i : grid0.Coords) : Fin 2 → Nat :=
  let arg1 : BitVec 32 := BitVec.ofNat 32 (i 1).val
  let c816_i32 : BitVec 32 := 816#32
  ![arg1.toNat, 816]
def k0_off107 (i : grid0.Coords) : Fin 2 → Nat :=
  let arg1 : BitVec 32 := BitVec.ofNat 32 (i 1).val
  let c824_i32 : BitVec 32 := 824#32
  ![arg1.toNat, 824]
def k0_off108 (i : grid0.Coords) : Fin 2 → Nat :=
  let arg1 : BitVec 32 := BitVec.ofNat 32 (i 1).val
  let c832_i32 : BitVec 32 := 832#32
  ![arg1.toNat, 832]
def k0_off109 (i : grid0.Coords) : Fin 2 → Nat :=
  let arg1 : BitVec 32 := BitVec.ofNat 32 (i 1).val
  let c840_i32 : BitVec 32 := 840#32
  ![arg1.toNat, 840]
def k0_off110 (i : grid0.Coords) : Fin 2 → Nat :=
  let arg1 : BitVec 32 := BitVec.ofNat 32 (i 1).val
  let c848_i32 : BitVec 32 := 848#32
  ![arg1.toNat, 848]
def k0_off111 (i : grid0.Coords) : Fin 2 → Nat :=
  let arg1 : BitVec 32 := BitVec.ofNat 32 (i 1).val
  let c856_i32 : BitVec 32 := 856#32
  ![arg1.toNat, 856]
def k0_off112 (i : grid0.Coords) : Fin 2 → Nat :=
  let arg1 : BitVec 32 := BitVec.ofNat 32 (i 1).val
  let c864_i32 : BitVec 32 := 864#32
  ![arg1.toNat, 864]
def k0_off113 (i : grid0.Coords) : Fin 2 → Nat :=
  let arg1 : BitVec 32 := BitVec.ofNat 32 (i 1).val
  let c872_i32 : BitVec 32 := 872#32
  ![arg1.toNat, 872]
def k0_off114 (i : grid0.Coords) : Fin 2 → Nat :=
  let arg1 : BitVec 32 := BitVec.ofNat 32 (i 1).val
  let c880_i32 : BitVec 32 := 880#32
  ![arg1.toNat, 880]
def k0_off115 (i : grid0.Coords) : Fin 2 → Nat :=
  let arg1 : BitVec 32 := BitVec.ofNat 32 (i 1).val
  let c888_i32 : BitVec 32 := 888#32
  ![arg1.toNat, 888]
def k0_off116 (i : grid0.Coords) : Fin 2 → Nat :=
  let arg1 : BitVec 32 := BitVec.ofNat 32 (i 1).val
  let c896_i32 : BitVec 32 := 896#32
  ![arg1.toNat, 896]
def k0_off117 (i : grid0.Coords) : Fin 2 → Nat :=
  let arg1 : BitVec 32 := BitVec.ofNat 32 (i 1).val
  let c904_i32 : BitVec 32 := 904#32
  ![arg1.toNat, 904]
def k0_off118 (i : grid0.Coords) : Fin 2 → Nat :=
  let arg1 : BitVec 32 := BitVec.ofNat 32 (i 1).val
  let c912_i32 : BitVec 32 := 912#32
  ![arg1.toNat, 912]
def k0_off119 (i : grid0.Coords) : Fin 2 → Nat :=
  let arg1 : BitVec 32 := BitVec.ofNat 32 (i 1).val
  let c920_i32 : BitVec 32 := 920#32
  ![arg1.toNat, 920]
def k0_off120 (i : grid0.Coords) : Fin 2 → Nat :=
  let arg1 : BitVec 32 := BitVec.ofNat 32 (i 1).val
  let c928_i32 : BitVec 32 := 928#32
  ![arg1.toNat, 928]
def k0_off121 (i : grid0.Coords) : Fin 2 → Nat :=
  let arg1 : BitVec 32 := BitVec.ofNat 32 (i 1).val
  let c936_i32 : BitVec 32 := 936#32
  ![arg1.toNat, 936]
def k0_off122 (i : grid0.Coords) : Fin 2 → Nat :=
  let arg1 : BitVec 32 := BitVec.ofNat 32 (i 1).val
  let c944_i32 : BitVec 32 := 944#32
  ![arg1.toNat, 944]
def k0_off123 (i : grid0.Coords) : Fin 2 → Nat :=
  let arg1 : BitVec 32 := BitVec.ofNat 32 (i 1).val
  let c952_i32 : BitVec 32 := 952#32
  ![arg1.toNat, 952]
def k0_off124 (i : grid0.Coords) : Fin 2 → Nat :=
  let arg1 : BitVec 32 := BitVec.ofNat 32 (i 1).val
  let c960_i32 : BitVec 32 := 960#32
  ![arg1.toNat, 960]
def k0_off125 (i : grid0.Coords) : Fin 2 → Nat :=
  let arg1 : BitVec 32 := BitVec.ofNat 32 (i 1).val
  let c968_i32 : BitVec 32 := 968#32
  ![arg1.toNat, 968]
def k0_off126 (i : grid0.Coords) : Fin 2 → Nat :=
  let arg1 : BitVec 32 := BitVec.ofNat 32 (i 1).val
  let c976_i32 : BitVec 32 := 976#32
  ![arg1.toNat, 976]
def k0_off127 (i : grid0.Coords) : Fin 2 → Nat :=
  let arg1 : BitVec 32 := BitVec.ofNat 32 (i 1).val
  let c984_i32 : BitVec 32 := 984#32
  ![arg1.toNat, 984]
def k0_off128 (i : grid0.Coords) : Fin 2 → Nat :=
  let arg1 : BitVec 32 := BitVec.ofNat 32 (i 1).val
  let c992_i32 : BitVec 32 := 992#32
  ![arg1.toNat, 992]
def k0_off129 (i : grid0.Coords) : Fin 2 → Nat :=
  let arg1 : BitVec 32 := BitVec.ofNat 32 (i 1).val
  let c1000_i32 : BitVec 32 := 1000#32
  ![arg1.toNat, 1000]
def k0_off130 (i : grid0.Coords) : Fin 2 → Nat :=
  let arg1 : BitVec 32 := BitVec.ofNat 32 (i 1).val
  let c1008_i32 : BitVec 32 := 1008#32
  ![arg1.toNat, 1008]
def k0_off131 (i : grid0.Coords) : Fin 2 → Nat :=
  let arg1 : BitVec 32 := BitVec.ofNat 32 (i 1).val
  let c1016_i32 : BitVec 32 := 1016#32
  ![arg1.toNat, 1016]
@[reducible] def k0_t1_loop : Scf.Loop 32 :=
  let c0_i32_544 : BitVec 32 := 0#32
  let c128_i32_545 : BitVec 32 := 128#32
  let v1040 : BitVec 32 := Scalar.addi c0_i32_544 c128_i32_545
  let c1_i32_546 : BitVec 32 := 1#32
  ⟨c0_i32_544, v1040, c1_i32_546⟩
def k0_off132 (i : grid0.Coords) : Fin 2 → Nat :=
  let arg1 : BitVec 32 := BitVec.ofNat 32 (i 1).val
  let c0_i32_3818 : BitVec 32 := 0#32
  ![arg1.toNat, 0]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  v2
def k0_off133 (i : grid0.Coords) : Fin 2 → Nat :=
  let arg1 : BitVec 32 := BitVec.ofNat 32 (i 1).val
  let c1024_i32 : BitVec 32 := 1024#32
  ![arg1.toNat, 1024]
def k0_off134 (i : grid0.Coords) : Fin 2 → Nat :=
  let arg1 : BitVec 32 := BitVec.ofNat 32 (i 1).val
  let c1032_i32 : BitVec 32 := 1032#32
  ![arg1.toNat, 1032]
def k0_off135 (i : grid0.Coords) : Fin 2 → Nat :=
  let arg1 : BitVec 32 := BitVec.ofNat 32 (i 1).val
  let c1040_i32 : BitVec 32 := 1040#32
  ![arg1.toNat, 1040]
def k0_off136 (i : grid0.Coords) : Fin 2 → Nat :=
  let arg1 : BitVec 32 := BitVec.ofNat 32 (i 1).val
  let c1048_i32 : BitVec 32 := 1048#32
  ![arg1.toNat, 1048]
def k0_off137 (i : grid0.Coords) : Fin 2 → Nat :=
  let arg1 : BitVec 32 := BitVec.ofNat 32 (i 1).val
  let c1056_i32 : BitVec 32 := 1056#32
  ![arg1.toNat, 1056]
def k0_off138 (i : grid0.Coords) : Fin 2 → Nat :=
  let arg1 : BitVec 32 := BitVec.ofNat 32 (i 1).val
  let c1064_i32 : BitVec 32 := 1064#32
  ![arg1.toNat, 1064]
def k0_off139 (i : grid0.Coords) : Fin 2 → Nat :=
  let arg1 : BitVec 32 := BitVec.ofNat 32 (i 1).val
  let c1072_i32 : BitVec 32 := 1072#32
  ![arg1.toNat, 1072]
def k0_off140 (i : grid0.Coords) : Fin 2 → Nat :=
  let arg1 : BitVec 32 := BitVec.ofNat 32 (i 1).val
  let c1080_i32 : BitVec 32 := 1080#32
  ![arg1.toNat, 1080]
def k0_off141 (i : grid0.Coords) : Fin 2 → Nat :=
  let arg1 : BitVec 32 := BitVec.ofNat 32 (i 1).val
  let c1088_i32 : BitVec 32 := 1088#32
  ![arg1.toNat, 1088]
def k0_off142 (i : grid0.Coords) : Fin 2 → Nat :=
  let arg1 : BitVec 32 := BitVec.ofNat 32 (i 1).val
  let c1096_i32 : BitVec 32 := 1096#32
  ![arg1.toNat, 1096]
def k0_off143 (i : grid0.Coords) : Fin 2 → Nat :=
  let arg1 : BitVec 32 := BitVec.ofNat 32 (i 1).val
  let c1104_i32 : BitVec 32 := 1104#32
  ![arg1.toNat, 1104]
def k0_off144 (i : grid0.Coords) : Fin 2 → Nat :=
  let arg1 : BitVec 32 := BitVec.ofNat 32 (i 1).val
  let c1112_i32 : BitVec 32 := 1112#32
  ![arg1.toNat, 1112]
def k0_off145 (i : grid0.Coords) : Fin 2 → Nat :=
  let arg1 : BitVec 32 := BitVec.ofNat 32 (i 1).val
  let c1120_i32 : BitVec 32 := 1120#32
  ![arg1.toNat, 1120]
def k0_off146 (i : grid0.Coords) : Fin 2 → Nat :=
  let arg1 : BitVec 32 := BitVec.ofNat 32 (i 1).val
  let c1128_i32 : BitVec 32 := 1128#32
  ![arg1.toNat, 1128]
def k0_off147 (i : grid0.Coords) : Fin 2 → Nat :=
  let arg1 : BitVec 32 := BitVec.ofNat 32 (i 1).val
  let c1136_i32 : BitVec 32 := 1136#32
  ![arg1.toNat, 1136]
def k0_off148 (i : grid0.Coords) : Fin 2 → Nat :=
  let arg1 : BitVec 32 := BitVec.ofNat 32 (i 1).val
  let c1144_i32 : BitVec 32 := 1144#32
  ![arg1.toNat, 1144]
def k0_off149 (i : grid0.Coords) : Fin 2 → Nat :=
  let arg1 : BitVec 32 := BitVec.ofNat 32 (i 1).val
  let c1152_i32 : BitVec 32 := 1152#32
  ![arg1.toNat, 1152]
def k0_off150 (i : grid0.Coords) : Fin 2 → Nat :=
  let arg1 : BitVec 32 := BitVec.ofNat 32 (i 1).val
  let c1160_i32 : BitVec 32 := 1160#32
  ![arg1.toNat, 1160]
def k0_off151 (i : grid0.Coords) : Fin 2 → Nat :=
  let arg1 : BitVec 32 := BitVec.ofNat 32 (i 1).val
  let c1168_i32 : BitVec 32 := 1168#32
  ![arg1.toNat, 1168]
def k0_off152 (i : grid0.Coords) : Fin 2 → Nat :=
  let arg1 : BitVec 32 := BitVec.ofNat 32 (i 1).val
  let c1176_i32 : BitVec 32 := 1176#32
  ![arg1.toNat, 1176]
def k0_off153 (i : grid0.Coords) : Fin 2 → Nat :=
  let arg1 : BitVec 32 := BitVec.ofNat 32 (i 1).val
  let c1184_i32 : BitVec 32 := 1184#32
  ![arg1.toNat, 1184]
def k0_off154 (i : grid0.Coords) : Fin 2 → Nat :=
  let arg1 : BitVec 32 := BitVec.ofNat 32 (i 1).val
  let c1192_i32 : BitVec 32 := 1192#32
  ![arg1.toNat, 1192]
def k0_off155 (i : grid0.Coords) : Fin 2 → Nat :=
  let arg1 : BitVec 32 := BitVec.ofNat 32 (i 1).val
  let c1200_i32 : BitVec 32 := 1200#32
  ![arg1.toNat, 1200]
def k0_off156 (i : grid0.Coords) : Fin 2 → Nat :=
  let arg1 : BitVec 32 := BitVec.ofNat 32 (i 1).val
  let c1208_i32 : BitVec 32 := 1208#32
  ![arg1.toNat, 1208]
def k0_off157 (i : grid0.Coords) : Fin 2 → Nat :=
  let arg1 : BitVec 32 := BitVec.ofNat 32 (i 1).val
  let c1216_i32 : BitVec 32 := 1216#32
  ![arg1.toNat, 1216]
def k0_off158 (i : grid0.Coords) : Fin 2 → Nat :=
  let arg1 : BitVec 32 := BitVec.ofNat 32 (i 1).val
  let c1224_i32 : BitVec 32 := 1224#32
  ![arg1.toNat, 1224]
def k0_off159 (i : grid0.Coords) : Fin 2 → Nat :=
  let arg1 : BitVec 32 := BitVec.ofNat 32 (i 1).val
  let c1232_i32 : BitVec 32 := 1232#32
  ![arg1.toNat, 1232]
def k0_off160 (i : grid0.Coords) : Fin 2 → Nat :=
  let arg1 : BitVec 32 := BitVec.ofNat 32 (i 1).val
  let c1240_i32 : BitVec 32 := 1240#32
  ![arg1.toNat, 1240]
def k0_off161 (i : grid0.Coords) : Fin 2 → Nat :=
  let arg1 : BitVec 32 := BitVec.ofNat 32 (i 1).val
  let c1248_i32 : BitVec 32 := 1248#32
  ![arg1.toNat, 1248]
def k0_off162 (i : grid0.Coords) : Fin 2 → Nat :=
  let arg1 : BitVec 32 := BitVec.ofNat 32 (i 1).val
  let c1256_i32 : BitVec 32 := 1256#32
  ![arg1.toNat, 1256]
def k0_off163 (i : grid0.Coords) : Fin 2 → Nat :=
  let arg1 : BitVec 32 := BitVec.ofNat 32 (i 1).val
  let c1264_i32 : BitVec 32 := 1264#32
  ![arg1.toNat, 1264]
def k0_off164 (i : grid0.Coords) : Fin 2 → Nat :=
  let arg1 : BitVec 32 := BitVec.ofNat 32 (i 1).val
  let c1272_i32 : BitVec 32 := 1272#32
  ![arg1.toNat, 1272]
def k0_off165 (i : grid0.Coords) : Fin 2 → Nat :=
  let arg1 : BitVec 32 := BitVec.ofNat 32 (i 1).val
  let c1280_i32 : BitVec 32 := 1280#32
  ![arg1.toNat, 1280]
def k0_off166 (i : grid0.Coords) : Fin 2 → Nat :=
  let arg1 : BitVec 32 := BitVec.ofNat 32 (i 1).val
  let c1288_i32 : BitVec 32 := 1288#32
  ![arg1.toNat, 1288]
def k0_off167 (i : grid0.Coords) : Fin 2 → Nat :=
  let arg1 : BitVec 32 := BitVec.ofNat 32 (i 1).val
  let c1296_i32 : BitVec 32 := 1296#32
  ![arg1.toNat, 1296]
def k0_off168 (i : grid0.Coords) : Fin 2 → Nat :=
  let arg1 : BitVec 32 := BitVec.ofNat 32 (i 1).val
  let c1304_i32 : BitVec 32 := 1304#32
  ![arg1.toNat, 1304]
def k0_off169 (i : grid0.Coords) : Fin 2 → Nat :=
  let arg1 : BitVec 32 := BitVec.ofNat 32 (i 1).val
  let c1312_i32 : BitVec 32 := 1312#32
  ![arg1.toNat, 1312]
def k0_off170 (i : grid0.Coords) : Fin 2 → Nat :=
  let arg1 : BitVec 32 := BitVec.ofNat 32 (i 1).val
  let c1320_i32 : BitVec 32 := 1320#32
  ![arg1.toNat, 1320]
def k0_off171 (i : grid0.Coords) : Fin 2 → Nat :=
  let arg1 : BitVec 32 := BitVec.ofNat 32 (i 1).val
  let c1328_i32 : BitVec 32 := 1328#32
  ![arg1.toNat, 1328]
def k0_off172 (i : grid0.Coords) : Fin 2 → Nat :=
  let arg1 : BitVec 32 := BitVec.ofNat 32 (i 1).val
  let c1336_i32 : BitVec 32 := 1336#32
  ![arg1.toNat, 1336]
def k0_off173 (i : grid0.Coords) : Fin 2 → Nat :=
  let arg1 : BitVec 32 := BitVec.ofNat 32 (i 1).val
  let c1344_i32 : BitVec 32 := 1344#32
  ![arg1.toNat, 1344]
def k0_off174 (i : grid0.Coords) : Fin 2 → Nat :=
  let arg1 : BitVec 32 := BitVec.ofNat 32 (i 1).val
  let c1352_i32 : BitVec 32 := 1352#32
  ![arg1.toNat, 1352]
def k0_off175 (i : grid0.Coords) : Fin 2 → Nat :=
  let arg1 : BitVec 32 := BitVec.ofNat 32 (i 1).val
  let c1360_i32 : BitVec 32 := 1360#32
  ![arg1.toNat, 1360]
def k0_off176 (i : grid0.Coords) : Fin 2 → Nat :=
  let arg1 : BitVec 32 := BitVec.ofNat 32 (i 1).val
  let c1368_i32 : BitVec 32 := 1368#32
  ![arg1.toNat, 1368]
def k0_off177 (i : grid0.Coords) : Fin 2 → Nat :=
  let arg1 : BitVec 32 := BitVec.ofNat 32 (i 1).val
  let c1376_i32 : BitVec 32 := 1376#32
  ![arg1.toNat, 1376]
def k0_off178 (i : grid0.Coords) : Fin 2 → Nat :=
  let arg1 : BitVec 32 := BitVec.ofNat 32 (i 1).val
  let c1384_i32 : BitVec 32 := 1384#32
  ![arg1.toNat, 1384]
def k0_off179 (i : grid0.Coords) : Fin 2 → Nat :=
  let arg1 : BitVec 32 := BitVec.ofNat 32 (i 1).val
  let c1392_i32 : BitVec 32 := 1392#32
  ![arg1.toNat, 1392]
def k0_off180 (i : grid0.Coords) : Fin 2 → Nat :=
  let arg1 : BitVec 32 := BitVec.ofNat 32 (i 1).val
  let c1400_i32 : BitVec 32 := 1400#32
  ![arg1.toNat, 1400]
def k0_off181 (i : grid0.Coords) : Fin 2 → Nat :=
  let arg1 : BitVec 32 := BitVec.ofNat 32 (i 1).val
  let c1408_i32 : BitVec 32 := 1408#32
  ![arg1.toNat, 1408]
def k0_off182 (i : grid0.Coords) : Fin 2 → Nat :=
  let arg1 : BitVec 32 := BitVec.ofNat 32 (i 1).val
  let c1416_i32 : BitVec 32 := 1416#32
  ![arg1.toNat, 1416]
def k0_off183 (i : grid0.Coords) : Fin 2 → Nat :=
  let arg1 : BitVec 32 := BitVec.ofNat 32 (i 1).val
  let c1424_i32 : BitVec 32 := 1424#32
  ![arg1.toNat, 1424]
def k0_off184 (i : grid0.Coords) : Fin 2 → Nat :=
  let arg1 : BitVec 32 := BitVec.ofNat 32 (i 1).val
  let c1432_i32 : BitVec 32 := 1432#32
  ![arg1.toNat, 1432]
def k0_off185 (i : grid0.Coords) : Fin 2 → Nat :=
  let arg1 : BitVec 32 := BitVec.ofNat 32 (i 1).val
  let c1440_i32 : BitVec 32 := 1440#32
  ![arg1.toNat, 1440]
def k0_off186 (i : grid0.Coords) : Fin 2 → Nat :=
  let arg1 : BitVec 32 := BitVec.ofNat 32 (i 1).val
  let c1448_i32 : BitVec 32 := 1448#32
  ![arg1.toNat, 1448]
def k0_off187 (i : grid0.Coords) : Fin 2 → Nat :=
  let arg1 : BitVec 32 := BitVec.ofNat 32 (i 1).val
  let c1456_i32 : BitVec 32 := 1456#32
  ![arg1.toNat, 1456]
def k0_off188 (i : grid0.Coords) : Fin 2 → Nat :=
  let arg1 : BitVec 32 := BitVec.ofNat 32 (i 1).val
  let c1464_i32 : BitVec 32 := 1464#32
  ![arg1.toNat, 1464]
def k0_off189 (i : grid0.Coords) : Fin 2 → Nat :=
  let arg1 : BitVec 32 := BitVec.ofNat 32 (i 1).val
  let c1472_i32 : BitVec 32 := 1472#32
  ![arg1.toNat, 1472]
def k0_off190 (i : grid0.Coords) : Fin 2 → Nat :=
  let arg1 : BitVec 32 := BitVec.ofNat 32 (i 1).val
  let c1480_i32 : BitVec 32 := 1480#32
  ![arg1.toNat, 1480]
def k0_off191 (i : grid0.Coords) : Fin 2 → Nat :=
  let arg1 : BitVec 32 := BitVec.ofNat 32 (i 1).val
  let c1488_i32 : BitVec 32 := 1488#32
  ![arg1.toNat, 1488]
def k0_off192 (i : grid0.Coords) : Fin 2 → Nat :=
  let arg1 : BitVec 32 := BitVec.ofNat 32 (i 1).val
  let c1496_i32 : BitVec 32 := 1496#32
  ![arg1.toNat, 1496]
def k0_off193 (i : grid0.Coords) : Fin 2 → Nat :=
  let arg1 : BitVec 32 := BitVec.ofNat 32 (i 1).val
  let c1504_i32 : BitVec 32 := 1504#32
  ![arg1.toNat, 1504]
def k0_off194 (i : grid0.Coords) : Fin 2 → Nat :=
  let arg1 : BitVec 32 := BitVec.ofNat 32 (i 1).val
  let c1512_i32 : BitVec 32 := 1512#32
  ![arg1.toNat, 1512]
def k0_off195 (i : grid0.Coords) : Fin 2 → Nat :=
  let arg1 : BitVec 32 := BitVec.ofNat 32 (i 1).val
  let c1520_i32 : BitVec 32 := 1520#32
  ![arg1.toNat, 1520]
def k0_off196 (i : grid0.Coords) : Fin 2 → Nat :=
  let arg1 : BitVec 32 := BitVec.ofNat 32 (i 1).val
  let c1528_i32 : BitVec 32 := 1528#32
  ![arg1.toNat, 1528]
def k0_off197 (i : grid0.Coords) : Fin 2 → Nat :=
  let arg1 : BitVec 32 := BitVec.ofNat 32 (i 1).val
  let c1536_i32 : BitVec 32 := 1536#32
  ![arg1.toNat, 1536]
def k0_off198 (i : grid0.Coords) : Fin 2 → Nat :=
  let arg1 : BitVec 32 := BitVec.ofNat 32 (i 1).val
  let c1544_i32 : BitVec 32 := 1544#32
  ![arg1.toNat, 1544]
def k0_off199 (i : grid0.Coords) : Fin 2 → Nat :=
  let arg1 : BitVec 32 := BitVec.ofNat 32 (i 1).val
  let c1552_i32 : BitVec 32 := 1552#32
  ![arg1.toNat, 1552]
def k0_off200 (i : grid0.Coords) : Fin 2 → Nat :=
  let arg1 : BitVec 32 := BitVec.ofNat 32 (i 1).val
  let c1560_i32 : BitVec 32 := 1560#32
  ![arg1.toNat, 1560]
def k0_off201 (i : grid0.Coords) : Fin 2 → Nat :=
  let arg1 : BitVec 32 := BitVec.ofNat 32 (i 1).val
  let c1568_i32 : BitVec 32 := 1568#32
  ![arg1.toNat, 1568]
def k0_off202 (i : grid0.Coords) : Fin 2 → Nat :=
  let arg1 : BitVec 32 := BitVec.ofNat 32 (i 1).val
  let c1576_i32 : BitVec 32 := 1576#32
  ![arg1.toNat, 1576]
def k0_off203 (i : grid0.Coords) : Fin 2 → Nat :=
  let arg1 : BitVec 32 := BitVec.ofNat 32 (i 1).val
  let c1584_i32 : BitVec 32 := 1584#32
  ![arg1.toNat, 1584]
def k0_off204 (i : grid0.Coords) : Fin 2 → Nat :=
  let arg1 : BitVec 32 := BitVec.ofNat 32 (i 1).val
  let c1592_i32 : BitVec 32 := 1592#32
  ![arg1.toNat, 1592]
def k0_off205 (i : grid0.Coords) : Fin 2 → Nat :=
  let arg1 : BitVec 32 := BitVec.ofNat 32 (i 1).val
  let c1600_i32 : BitVec 32 := 1600#32
  ![arg1.toNat, 1600]
def k0_off206 (i : grid0.Coords) : Fin 2 → Nat :=
  let arg1 : BitVec 32 := BitVec.ofNat 32 (i 1).val
  let c1608_i32 : BitVec 32 := 1608#32
  ![arg1.toNat, 1608]
def k0_off207 (i : grid0.Coords) : Fin 2 → Nat :=
  let arg1 : BitVec 32 := BitVec.ofNat 32 (i 1).val
  let c1616_i32 : BitVec 32 := 1616#32
  ![arg1.toNat, 1616]
def k0_off208 (i : grid0.Coords) : Fin 2 → Nat :=
  let arg1 : BitVec 32 := BitVec.ofNat 32 (i 1).val
  let c1624_i32 : BitVec 32 := 1624#32
  ![arg1.toNat, 1624]
def k0_off209 (i : grid0.Coords) : Fin 2 → Nat :=
  let arg1 : BitVec 32 := BitVec.ofNat 32 (i 1).val
  let c1632_i32 : BitVec 32 := 1632#32
  ![arg1.toNat, 1632]
def k0_off210 (i : grid0.Coords) : Fin 2 → Nat :=
  let arg1 : BitVec 32 := BitVec.ofNat 32 (i 1).val
  let c1640_i32 : BitVec 32 := 1640#32
  ![arg1.toNat, 1640]
def k0_off211 (i : grid0.Coords) : Fin 2 → Nat :=
  let arg1 : BitVec 32 := BitVec.ofNat 32 (i 1).val
  let c1648_i32 : BitVec 32 := 1648#32
  ![arg1.toNat, 1648]
def k0_off212 (i : grid0.Coords) : Fin 2 → Nat :=
  let arg1 : BitVec 32 := BitVec.ofNat 32 (i 1).val
  let c1656_i32 : BitVec 32 := 1656#32
  ![arg1.toNat, 1656]
def k0_off213 (i : grid0.Coords) : Fin 2 → Nat :=
  let arg1 : BitVec 32 := BitVec.ofNat 32 (i 1).val
  let c1664_i32 : BitVec 32 := 1664#32
  ![arg1.toNat, 1664]
def k0_off214 (i : grid0.Coords) : Fin 2 → Nat :=
  let arg1 : BitVec 32 := BitVec.ofNat 32 (i 1).val
  let c1672_i32 : BitVec 32 := 1672#32
  ![arg1.toNat, 1672]
def k0_off215 (i : grid0.Coords) : Fin 2 → Nat :=
  let arg1 : BitVec 32 := BitVec.ofNat 32 (i 1).val
  let c1680_i32 : BitVec 32 := 1680#32
  ![arg1.toNat, 1680]
def k0_off216 (i : grid0.Coords) : Fin 2 → Nat :=
  let arg1 : BitVec 32 := BitVec.ofNat 32 (i 1).val
  let c1688_i32 : BitVec 32 := 1688#32
  ![arg1.toNat, 1688]
def k0_off217 (i : grid0.Coords) : Fin 2 → Nat :=
  let arg1 : BitVec 32 := BitVec.ofNat 32 (i 1).val
  let c1696_i32 : BitVec 32 := 1696#32
  ![arg1.toNat, 1696]
def k0_off218 (i : grid0.Coords) : Fin 2 → Nat :=
  let arg1 : BitVec 32 := BitVec.ofNat 32 (i 1).val
  let c1704_i32 : BitVec 32 := 1704#32
  ![arg1.toNat, 1704]
def k0_off219 (i : grid0.Coords) : Fin 2 → Nat :=
  let arg1 : BitVec 32 := BitVec.ofNat 32 (i 1).val
  let c1712_i32 : BitVec 32 := 1712#32
  ![arg1.toNat, 1712]
def k0_off220 (i : grid0.Coords) : Fin 2 → Nat :=
  let arg1 : BitVec 32 := BitVec.ofNat 32 (i 1).val
  let c1720_i32 : BitVec 32 := 1720#32
  ![arg1.toNat, 1720]
def k0_off221 (i : grid0.Coords) : Fin 2 → Nat :=
  let arg1 : BitVec 32 := BitVec.ofNat 32 (i 1).val
  let c1728_i32 : BitVec 32 := 1728#32
  ![arg1.toNat, 1728]
def k0_off222 (i : grid0.Coords) : Fin 2 → Nat :=
  let arg1 : BitVec 32 := BitVec.ofNat 32 (i 1).val
  let c1736_i32 : BitVec 32 := 1736#32
  ![arg1.toNat, 1736]
def k0_off223 (i : grid0.Coords) : Fin 2 → Nat :=
  let arg1 : BitVec 32 := BitVec.ofNat 32 (i 1).val
  let c1744_i32 : BitVec 32 := 1744#32
  ![arg1.toNat, 1744]
def k0_off224 (i : grid0.Coords) : Fin 2 → Nat :=
  let arg1 : BitVec 32 := BitVec.ofNat 32 (i 1).val
  let c1752_i32 : BitVec 32 := 1752#32
  ![arg1.toNat, 1752]
def k0_off225 (i : grid0.Coords) : Fin 2 → Nat :=
  let arg1 : BitVec 32 := BitVec.ofNat 32 (i 1).val
  let c1760_i32 : BitVec 32 := 1760#32
  ![arg1.toNat, 1760]
def k0_off226 (i : grid0.Coords) : Fin 2 → Nat :=
  let arg1 : BitVec 32 := BitVec.ofNat 32 (i 1).val
  let c1768_i32 : BitVec 32 := 1768#32
  ![arg1.toNat, 1768]
def k0_off227 (i : grid0.Coords) : Fin 2 → Nat :=
  let arg1 : BitVec 32 := BitVec.ofNat 32 (i 1).val
  let c1776_i32 : BitVec 32 := 1776#32
  ![arg1.toNat, 1776]
def k0_off228 (i : grid0.Coords) : Fin 2 → Nat :=
  let arg1 : BitVec 32 := BitVec.ofNat 32 (i 1).val
  let c1784_i32 : BitVec 32 := 1784#32
  ![arg1.toNat, 1784]
def k0_off229 (i : grid0.Coords) : Fin 2 → Nat :=
  let arg1 : BitVec 32 := BitVec.ofNat 32 (i 1).val
  let c1792_i32 : BitVec 32 := 1792#32
  ![arg1.toNat, 1792]
def k0_off230 (i : grid0.Coords) : Fin 2 → Nat :=
  let arg1 : BitVec 32 := BitVec.ofNat 32 (i 1).val
  let c1800_i32 : BitVec 32 := 1800#32
  ![arg1.toNat, 1800]
def k0_off231 (i : grid0.Coords) : Fin 2 → Nat :=
  let arg1 : BitVec 32 := BitVec.ofNat 32 (i 1).val
  let c1808_i32 : BitVec 32 := 1808#32
  ![arg1.toNat, 1808]
def k0_off232 (i : grid0.Coords) : Fin 2 → Nat :=
  let arg1 : BitVec 32 := BitVec.ofNat 32 (i 1).val
  let c1816_i32 : BitVec 32 := 1816#32
  ![arg1.toNat, 1816]
def k0_off233 (i : grid0.Coords) : Fin 2 → Nat :=
  let arg1 : BitVec 32 := BitVec.ofNat 32 (i 1).val
  let c1824_i32 : BitVec 32 := 1824#32
  ![arg1.toNat, 1824]
def k0_off234 (i : grid0.Coords) : Fin 2 → Nat :=
  let arg1 : BitVec 32 := BitVec.ofNat 32 (i 1).val
  let c1832_i32 : BitVec 32 := 1832#32
  ![arg1.toNat, 1832]
def k0_off235 (i : grid0.Coords) : Fin 2 → Nat :=
  let arg1 : BitVec 32 := BitVec.ofNat 32 (i 1).val
  let c1840_i32 : BitVec 32 := 1840#32
  ![arg1.toNat, 1840]
def k0_off236 (i : grid0.Coords) : Fin 2 → Nat :=
  let arg1 : BitVec 32 := BitVec.ofNat 32 (i 1).val
  let c1848_i32 : BitVec 32 := 1848#32
  ![arg1.toNat, 1848]
def k0_off237 (i : grid0.Coords) : Fin 2 → Nat :=
  let arg1 : BitVec 32 := BitVec.ofNat 32 (i 1).val
  let c1856_i32 : BitVec 32 := 1856#32
  ![arg1.toNat, 1856]
def k0_off238 (i : grid0.Coords) : Fin 2 → Nat :=
  let arg1 : BitVec 32 := BitVec.ofNat 32 (i 1).val
  let c1864_i32 : BitVec 32 := 1864#32
  ![arg1.toNat, 1864]
def k0_off239 (i : grid0.Coords) : Fin 2 → Nat :=
  let arg1 : BitVec 32 := BitVec.ofNat 32 (i 1).val
  let c1872_i32 : BitVec 32 := 1872#32
  ![arg1.toNat, 1872]
def k0_off240 (i : grid0.Coords) : Fin 2 → Nat :=
  let arg1 : BitVec 32 := BitVec.ofNat 32 (i 1).val
  let c1880_i32 : BitVec 32 := 1880#32
  ![arg1.toNat, 1880]
def k0_off241 (i : grid0.Coords) : Fin 2 → Nat :=
  let arg1 : BitVec 32 := BitVec.ofNat 32 (i 1).val
  let c1888_i32 : BitVec 32 := 1888#32
  ![arg1.toNat, 1888]
def k0_off242 (i : grid0.Coords) : Fin 2 → Nat :=
  let arg1 : BitVec 32 := BitVec.ofNat 32 (i 1).val
  let c1896_i32 : BitVec 32 := 1896#32
  ![arg1.toNat, 1896]
def k0_off243 (i : grid0.Coords) : Fin 2 → Nat :=
  let arg1 : BitVec 32 := BitVec.ofNat 32 (i 1).val
  let c1904_i32 : BitVec 32 := 1904#32
  ![arg1.toNat, 1904]
def k0_off244 (i : grid0.Coords) : Fin 2 → Nat :=
  let arg1 : BitVec 32 := BitVec.ofNat 32 (i 1).val
  let c1912_i32 : BitVec 32 := 1912#32
  ![arg1.toNat, 1912]
def k0_off245 (i : grid0.Coords) : Fin 2 → Nat :=
  let arg1 : BitVec 32 := BitVec.ofNat 32 (i 1).val
  let c1920_i32 : BitVec 32 := 1920#32
  ![arg1.toNat, 1920]
def k0_off246 (i : grid0.Coords) : Fin 2 → Nat :=
  let arg1 : BitVec 32 := BitVec.ofNat 32 (i 1).val
  let c1928_i32 : BitVec 32 := 1928#32
  ![arg1.toNat, 1928]
def k0_off247 (i : grid0.Coords) : Fin 2 → Nat :=
  let arg1 : BitVec 32 := BitVec.ofNat 32 (i 1).val
  let c1936_i32 : BitVec 32 := 1936#32
  ![arg1.toNat, 1936]
def k0_off248 (i : grid0.Coords) : Fin 2 → Nat :=
  let arg1 : BitVec 32 := BitVec.ofNat 32 (i 1).val
  let c1944_i32 : BitVec 32 := 1944#32
  ![arg1.toNat, 1944]
def k0_off249 (i : grid0.Coords) : Fin 2 → Nat :=
  let arg1 : BitVec 32 := BitVec.ofNat 32 (i 1).val
  let c1952_i32 : BitVec 32 := 1952#32
  ![arg1.toNat, 1952]
def k0_off250 (i : grid0.Coords) : Fin 2 → Nat :=
  let arg1 : BitVec 32 := BitVec.ofNat 32 (i 1).val
  let c1960_i32 : BitVec 32 := 1960#32
  ![arg1.toNat, 1960]
def k0_off251 (i : grid0.Coords) : Fin 2 → Nat :=
  let arg1 : BitVec 32 := BitVec.ofNat 32 (i 1).val
  let c1968_i32 : BitVec 32 := 1968#32
  ![arg1.toNat, 1968]
def k0_off252 (i : grid0.Coords) : Fin 2 → Nat :=
  let arg1 : BitVec 32 := BitVec.ofNat 32 (i 1).val
  let c1976_i32 : BitVec 32 := 1976#32
  ![arg1.toNat, 1976]
def k0_off253 (i : grid0.Coords) : Fin 2 → Nat :=
  let arg1 : BitVec 32 := BitVec.ofNat 32 (i 1).val
  let c1984_i32 : BitVec 32 := 1984#32
  ![arg1.toNat, 1984]
def k0_off254 (i : grid0.Coords) : Fin 2 → Nat :=
  let arg1 : BitVec 32 := BitVec.ofNat 32 (i 1).val
  let c1992_i32 : BitVec 32 := 1992#32
  ![arg1.toNat, 1992]
def k0_off255 (i : grid0.Coords) : Fin 2 → Nat :=
  let arg1 : BitVec 32 := BitVec.ofNat 32 (i 1).val
  let c2000_i32 : BitVec 32 := 2000#32
  ![arg1.toNat, 2000]
def k0_off256 (i : grid0.Coords) : Fin 2 → Nat :=
  let arg1 : BitVec 32 := BitVec.ofNat 32 (i 1).val
  let c2008_i32 : BitVec 32 := 2008#32
  ![arg1.toNat, 2008]
def k0_off257 (i : grid0.Coords) : Fin 2 → Nat :=
  let arg1 : BitVec 32 := BitVec.ofNat 32 (i 1).val
  let c2016_i32 : BitVec 32 := 2016#32
  ![arg1.toNat, 2016]
def k0_off258 (i : grid0.Coords) : Fin 2 → Nat :=
  let arg1 : BitVec 32 := BitVec.ofNat 32 (i 1).val
  let c2024_i32 : BitVec 32 := 2024#32
  ![arg1.toNat, 2024]
def k0_off259 (i : grid0.Coords) : Fin 2 → Nat :=
  let arg1 : BitVec 32 := BitVec.ofNat 32 (i 1).val
  let c2032_i32 : BitVec 32 := 2032#32
  ![arg1.toNat, 2032]
def k0_off260 (i : grid0.Coords) : Fin 2 → Nat :=
  let arg1 : BitVec 32 := BitVec.ofNat 32 (i 1).val
  let c2040_i32 : BitVec 32 := 2040#32
  ![arg1.toNat, 2040]
@[reducible] def k0_t2_loop : Scf.Loop 32 :=
  let c0_i32_1198 : BitVec 32 := 0#32
  let c128_i32_1199 : BitVec 32 := 128#32
  let v2074 : BitVec 32 := Scalar.addi c0_i32_1198 c128_i32_1199
  let c1_i32_1200 : BitVec 32 := 1#32
  ⟨c0_i32_1198, v2074, c1_i32_1200⟩
def k0_off261 (i : grid0.Coords) : Fin 2 → Nat :=
  let arg1 : BitVec 32 := BitVec.ofNat 32 (i 1).val
  let c1024_i32_3818 : BitVec 32 := 1024#32
  ![arg1.toNat, 1024]
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  v2
def k0_off262 (i : grid0.Coords) : Fin 2 → Nat :=
  let arg1 : BitVec 32 := BitVec.ofNat 32 (i 1).val
  let c2048_i32 : BitVec 32 := 2048#32
  ![arg1.toNat, 2048]
def k0_off263 (i : grid0.Coords) : Fin 2 → Nat :=
  let arg1 : BitVec 32 := BitVec.ofNat 32 (i 1).val
  let c2056_i32 : BitVec 32 := 2056#32
  ![arg1.toNat, 2056]
def k0_off264 (i : grid0.Coords) : Fin 2 → Nat :=
  let arg1 : BitVec 32 := BitVec.ofNat 32 (i 1).val
  let c2064_i32 : BitVec 32 := 2064#32
  ![arg1.toNat, 2064]
def k0_off265 (i : grid0.Coords) : Fin 2 → Nat :=
  let arg1 : BitVec 32 := BitVec.ofNat 32 (i 1).val
  let c2072_i32 : BitVec 32 := 2072#32
  ![arg1.toNat, 2072]
def k0_off266 (i : grid0.Coords) : Fin 2 → Nat :=
  let arg1 : BitVec 32 := BitVec.ofNat 32 (i 1).val
  let c2080_i32 : BitVec 32 := 2080#32
  ![arg1.toNat, 2080]
def k0_off267 (i : grid0.Coords) : Fin 2 → Nat :=
  let arg1 : BitVec 32 := BitVec.ofNat 32 (i 1).val
  let c2088_i32 : BitVec 32 := 2088#32
  ![arg1.toNat, 2088]
def k0_off268 (i : grid0.Coords) : Fin 2 → Nat :=
  let arg1 : BitVec 32 := BitVec.ofNat 32 (i 1).val
  let c2096_i32 : BitVec 32 := 2096#32
  ![arg1.toNat, 2096]
def k0_off269 (i : grid0.Coords) : Fin 2 → Nat :=
  let arg1 : BitVec 32 := BitVec.ofNat 32 (i 1).val
  let c2104_i32 : BitVec 32 := 2104#32
  ![arg1.toNat, 2104]
def k0_off270 (i : grid0.Coords) : Fin 2 → Nat :=
  let arg1 : BitVec 32 := BitVec.ofNat 32 (i 1).val
  let c2112_i32 : BitVec 32 := 2112#32
  ![arg1.toNat, 2112]
def k0_off271 (i : grid0.Coords) : Fin 2 → Nat :=
  let arg1 : BitVec 32 := BitVec.ofNat 32 (i 1).val
  let c2120_i32 : BitVec 32 := 2120#32
  ![arg1.toNat, 2120]
def k0_off272 (i : grid0.Coords) : Fin 2 → Nat :=
  let arg1 : BitVec 32 := BitVec.ofNat 32 (i 1).val
  let c2128_i32 : BitVec 32 := 2128#32
  ![arg1.toNat, 2128]
def k0_off273 (i : grid0.Coords) : Fin 2 → Nat :=
  let arg1 : BitVec 32 := BitVec.ofNat 32 (i 1).val
  let c2136_i32 : BitVec 32 := 2136#32
  ![arg1.toNat, 2136]
def k0_off274 (i : grid0.Coords) : Fin 2 → Nat :=
  let arg1 : BitVec 32 := BitVec.ofNat 32 (i 1).val
  let c2144_i32 : BitVec 32 := 2144#32
  ![arg1.toNat, 2144]
def k0_off275 (i : grid0.Coords) : Fin 2 → Nat :=
  let arg1 : BitVec 32 := BitVec.ofNat 32 (i 1).val
  let c2152_i32 : BitVec 32 := 2152#32
  ![arg1.toNat, 2152]
def k0_off276 (i : grid0.Coords) : Fin 2 → Nat :=
  let arg1 : BitVec 32 := BitVec.ofNat 32 (i 1).val
  let c2160_i32 : BitVec 32 := 2160#32
  ![arg1.toNat, 2160]
def k0_off277 (i : grid0.Coords) : Fin 2 → Nat :=
  let arg1 : BitVec 32 := BitVec.ofNat 32 (i 1).val
  let c2168_i32 : BitVec 32 := 2168#32
  ![arg1.toNat, 2168]
def k0_off278 (i : grid0.Coords) : Fin 2 → Nat :=
  let arg1 : BitVec 32 := BitVec.ofNat 32 (i 1).val
  let c2176_i32 : BitVec 32 := 2176#32
  ![arg1.toNat, 2176]
def k0_off279 (i : grid0.Coords) : Fin 2 → Nat :=
  let arg1 : BitVec 32 := BitVec.ofNat 32 (i 1).val
  let c2184_i32 : BitVec 32 := 2184#32
  ![arg1.toNat, 2184]
def k0_off280 (i : grid0.Coords) : Fin 2 → Nat :=
  let arg1 : BitVec 32 := BitVec.ofNat 32 (i 1).val
  let c2192_i32 : BitVec 32 := 2192#32
  ![arg1.toNat, 2192]
def k0_off281 (i : grid0.Coords) : Fin 2 → Nat :=
  let arg1 : BitVec 32 := BitVec.ofNat 32 (i 1).val
  let c2200_i32 : BitVec 32 := 2200#32
  ![arg1.toNat, 2200]
def k0_off282 (i : grid0.Coords) : Fin 2 → Nat :=
  let arg1 : BitVec 32 := BitVec.ofNat 32 (i 1).val
  let c2208_i32 : BitVec 32 := 2208#32
  ![arg1.toNat, 2208]
def k0_off283 (i : grid0.Coords) : Fin 2 → Nat :=
  let arg1 : BitVec 32 := BitVec.ofNat 32 (i 1).val
  let c2216_i32 : BitVec 32 := 2216#32
  ![arg1.toNat, 2216]
def k0_off284 (i : grid0.Coords) : Fin 2 → Nat :=
  let arg1 : BitVec 32 := BitVec.ofNat 32 (i 1).val
  let c2224_i32 : BitVec 32 := 2224#32
  ![arg1.toNat, 2224]
def k0_off285 (i : grid0.Coords) : Fin 2 → Nat :=
  let arg1 : BitVec 32 := BitVec.ofNat 32 (i 1).val
  let c2232_i32 : BitVec 32 := 2232#32
  ![arg1.toNat, 2232]
def k0_off286 (i : grid0.Coords) : Fin 2 → Nat :=
  let arg1 : BitVec 32 := BitVec.ofNat 32 (i 1).val
  let c2240_i32 : BitVec 32 := 2240#32
  ![arg1.toNat, 2240]
def k0_off287 (i : grid0.Coords) : Fin 2 → Nat :=
  let arg1 : BitVec 32 := BitVec.ofNat 32 (i 1).val
  let c2248_i32 : BitVec 32 := 2248#32
  ![arg1.toNat, 2248]
def k0_off288 (i : grid0.Coords) : Fin 2 → Nat :=
  let arg1 : BitVec 32 := BitVec.ofNat 32 (i 1).val
  let c2256_i32 : BitVec 32 := 2256#32
  ![arg1.toNat, 2256]
def k0_off289 (i : grid0.Coords) : Fin 2 → Nat :=
  let arg1 : BitVec 32 := BitVec.ofNat 32 (i 1).val
  let c2264_i32 : BitVec 32 := 2264#32
  ![arg1.toNat, 2264]
def k0_off290 (i : grid0.Coords) : Fin 2 → Nat :=
  let arg1 : BitVec 32 := BitVec.ofNat 32 (i 1).val
  let c2272_i32 : BitVec 32 := 2272#32
  ![arg1.toNat, 2272]
def k0_off291 (i : grid0.Coords) : Fin 2 → Nat :=
  let arg1 : BitVec 32 := BitVec.ofNat 32 (i 1).val
  let c2280_i32 : BitVec 32 := 2280#32
  ![arg1.toNat, 2280]
def k0_off292 (i : grid0.Coords) : Fin 2 → Nat :=
  let arg1 : BitVec 32 := BitVec.ofNat 32 (i 1).val
  let c2288_i32 : BitVec 32 := 2288#32
  ![arg1.toNat, 2288]
def k0_off293 (i : grid0.Coords) : Fin 2 → Nat :=
  let arg1 : BitVec 32 := BitVec.ofNat 32 (i 1).val
  let c2296_i32 : BitVec 32 := 2296#32
  ![arg1.toNat, 2296]
def k0_off294 (i : grid0.Coords) : Fin 2 → Nat :=
  let arg1 : BitVec 32 := BitVec.ofNat 32 (i 1).val
  let c2304_i32 : BitVec 32 := 2304#32
  ![arg1.toNat, 2304]
def k0_off295 (i : grid0.Coords) : Fin 2 → Nat :=
  let arg1 : BitVec 32 := BitVec.ofNat 32 (i 1).val
  let c2312_i32 : BitVec 32 := 2312#32
  ![arg1.toNat, 2312]
def k0_off296 (i : grid0.Coords) : Fin 2 → Nat :=
  let arg1 : BitVec 32 := BitVec.ofNat 32 (i 1).val
  let c2320_i32 : BitVec 32 := 2320#32
  ![arg1.toNat, 2320]
def k0_off297 (i : grid0.Coords) : Fin 2 → Nat :=
  let arg1 : BitVec 32 := BitVec.ofNat 32 (i 1).val
  let c2328_i32 : BitVec 32 := 2328#32
  ![arg1.toNat, 2328]
def k0_off298 (i : grid0.Coords) : Fin 2 → Nat :=
  let arg1 : BitVec 32 := BitVec.ofNat 32 (i 1).val
  let c2336_i32 : BitVec 32 := 2336#32
  ![arg1.toNat, 2336]
def k0_off299 (i : grid0.Coords) : Fin 2 → Nat :=
  let arg1 : BitVec 32 := BitVec.ofNat 32 (i 1).val
  let c2344_i32 : BitVec 32 := 2344#32
  ![arg1.toNat, 2344]
def k0_off300 (i : grid0.Coords) : Fin 2 → Nat :=
  let arg1 : BitVec 32 := BitVec.ofNat 32 (i 1).val
  let c2352_i32 : BitVec 32 := 2352#32
  ![arg1.toNat, 2352]
def k0_off301 (i : grid0.Coords) : Fin 2 → Nat :=
  let arg1 : BitVec 32 := BitVec.ofNat 32 (i 1).val
  let c2360_i32 : BitVec 32 := 2360#32
  ![arg1.toNat, 2360]
def k0_off302 (i : grid0.Coords) : Fin 2 → Nat :=
  let arg1 : BitVec 32 := BitVec.ofNat 32 (i 1).val
  let c2368_i32 : BitVec 32 := 2368#32
  ![arg1.toNat, 2368]
def k0_off303 (i : grid0.Coords) : Fin 2 → Nat :=
  let arg1 : BitVec 32 := BitVec.ofNat 32 (i 1).val
  let c2376_i32 : BitVec 32 := 2376#32
  ![arg1.toNat, 2376]
def k0_off304 (i : grid0.Coords) : Fin 2 → Nat :=
  let arg1 : BitVec 32 := BitVec.ofNat 32 (i 1).val
  let c2384_i32 : BitVec 32 := 2384#32
  ![arg1.toNat, 2384]
def k0_off305 (i : grid0.Coords) : Fin 2 → Nat :=
  let arg1 : BitVec 32 := BitVec.ofNat 32 (i 1).val
  let c2392_i32 : BitVec 32 := 2392#32
  ![arg1.toNat, 2392]
def k0_off306 (i : grid0.Coords) : Fin 2 → Nat :=
  let arg1 : BitVec 32 := BitVec.ofNat 32 (i 1).val
  let c2400_i32 : BitVec 32 := 2400#32
  ![arg1.toNat, 2400]
def k0_off307 (i : grid0.Coords) : Fin 2 → Nat :=
  let arg1 : BitVec 32 := BitVec.ofNat 32 (i 1).val
  let c2408_i32 : BitVec 32 := 2408#32
  ![arg1.toNat, 2408]
def k0_off308 (i : grid0.Coords) : Fin 2 → Nat :=
  let arg1 : BitVec 32 := BitVec.ofNat 32 (i 1).val
  let c2416_i32 : BitVec 32 := 2416#32
  ![arg1.toNat, 2416]
def k0_off309 (i : grid0.Coords) : Fin 2 → Nat :=
  let arg1 : BitVec 32 := BitVec.ofNat 32 (i 1).val
  let c2424_i32 : BitVec 32 := 2424#32
  ![arg1.toNat, 2424]
def k0_off310 (i : grid0.Coords) : Fin 2 → Nat :=
  let arg1 : BitVec 32 := BitVec.ofNat 32 (i 1).val
  let c2432_i32 : BitVec 32 := 2432#32
  ![arg1.toNat, 2432]
def k0_off311 (i : grid0.Coords) : Fin 2 → Nat :=
  let arg1 : BitVec 32 := BitVec.ofNat 32 (i 1).val
  let c2440_i32 : BitVec 32 := 2440#32
  ![arg1.toNat, 2440]
def k0_off312 (i : grid0.Coords) : Fin 2 → Nat :=
  let arg1 : BitVec 32 := BitVec.ofNat 32 (i 1).val
  let c2448_i32 : BitVec 32 := 2448#32
  ![arg1.toNat, 2448]
def k0_off313 (i : grid0.Coords) : Fin 2 → Nat :=
  let arg1 : BitVec 32 := BitVec.ofNat 32 (i 1).val
  let c2456_i32 : BitVec 32 := 2456#32
  ![arg1.toNat, 2456]
def k0_off314 (i : grid0.Coords) : Fin 2 → Nat :=
  let arg1 : BitVec 32 := BitVec.ofNat 32 (i 1).val
  let c2464_i32 : BitVec 32 := 2464#32
  ![arg1.toNat, 2464]
def k0_off315 (i : grid0.Coords) : Fin 2 → Nat :=
  let arg1 : BitVec 32 := BitVec.ofNat 32 (i 1).val
  let c2472_i32 : BitVec 32 := 2472#32
  ![arg1.toNat, 2472]
def k0_off316 (i : grid0.Coords) : Fin 2 → Nat :=
  let arg1 : BitVec 32 := BitVec.ofNat 32 (i 1).val
  let c2480_i32 : BitVec 32 := 2480#32
  ![arg1.toNat, 2480]
def k0_off317 (i : grid0.Coords) : Fin 2 → Nat :=
  let arg1 : BitVec 32 := BitVec.ofNat 32 (i 1).val
  let c2488_i32 : BitVec 32 := 2488#32
  ![arg1.toNat, 2488]
def k0_off318 (i : grid0.Coords) : Fin 2 → Nat :=
  let arg1 : BitVec 32 := BitVec.ofNat 32 (i 1).val
  let c2496_i32 : BitVec 32 := 2496#32
  ![arg1.toNat, 2496]
def k0_off319 (i : grid0.Coords) : Fin 2 → Nat :=
  let arg1 : BitVec 32 := BitVec.ofNat 32 (i 1).val
  let c2504_i32 : BitVec 32 := 2504#32
  ![arg1.toNat, 2504]
def k0_off320 (i : grid0.Coords) : Fin 2 → Nat :=
  let arg1 : BitVec 32 := BitVec.ofNat 32 (i 1).val
  let c2512_i32 : BitVec 32 := 2512#32
  ![arg1.toNat, 2512]
def k0_off321 (i : grid0.Coords) : Fin 2 → Nat :=
  let arg1 : BitVec 32 := BitVec.ofNat 32 (i 1).val
  let c2520_i32 : BitVec 32 := 2520#32
  ![arg1.toNat, 2520]
def k0_off322 (i : grid0.Coords) : Fin 2 → Nat :=
  let arg1 : BitVec 32 := BitVec.ofNat 32 (i 1).val
  let c2528_i32 : BitVec 32 := 2528#32
  ![arg1.toNat, 2528]
def k0_off323 (i : grid0.Coords) : Fin 2 → Nat :=
  let arg1 : BitVec 32 := BitVec.ofNat 32 (i 1).val
  let c2536_i32 : BitVec 32 := 2536#32
  ![arg1.toNat, 2536]
def k0_off324 (i : grid0.Coords) : Fin 2 → Nat :=
  let arg1 : BitVec 32 := BitVec.ofNat 32 (i 1).val
  let c2544_i32 : BitVec 32 := 2544#32
  ![arg1.toNat, 2544]
def k0_off325 (i : grid0.Coords) : Fin 2 → Nat :=
  let arg1 : BitVec 32 := BitVec.ofNat 32 (i 1).val
  let c2552_i32 : BitVec 32 := 2552#32
  ![arg1.toNat, 2552]
def k0_off326 (i : grid0.Coords) : Fin 2 → Nat :=
  let arg1 : BitVec 32 := BitVec.ofNat 32 (i 1).val
  let c2560_i32 : BitVec 32 := 2560#32
  ![arg1.toNat, 2560]
def k0_off327 (i : grid0.Coords) : Fin 2 → Nat :=
  let arg1 : BitVec 32 := BitVec.ofNat 32 (i 1).val
  let c2568_i32 : BitVec 32 := 2568#32
  ![arg1.toNat, 2568]
def k0_off328 (i : grid0.Coords) : Fin 2 → Nat :=
  let arg1 : BitVec 32 := BitVec.ofNat 32 (i 1).val
  let c2576_i32 : BitVec 32 := 2576#32
  ![arg1.toNat, 2576]
def k0_off329 (i : grid0.Coords) : Fin 2 → Nat :=
  let arg1 : BitVec 32 := BitVec.ofNat 32 (i 1).val
  let c2584_i32 : BitVec 32 := 2584#32
  ![arg1.toNat, 2584]
def k0_off330 (i : grid0.Coords) : Fin 2 → Nat :=
  let arg1 : BitVec 32 := BitVec.ofNat 32 (i 1).val
  let c2592_i32 : BitVec 32 := 2592#32
  ![arg1.toNat, 2592]
def k0_off331 (i : grid0.Coords) : Fin 2 → Nat :=
  let arg1 : BitVec 32 := BitVec.ofNat 32 (i 1).val
  let c2600_i32 : BitVec 32 := 2600#32
  ![arg1.toNat, 2600]
def k0_off332 (i : grid0.Coords) : Fin 2 → Nat :=
  let arg1 : BitVec 32 := BitVec.ofNat 32 (i 1).val
  let c2608_i32 : BitVec 32 := 2608#32
  ![arg1.toNat, 2608]
def k0_off333 (i : grid0.Coords) : Fin 2 → Nat :=
  let arg1 : BitVec 32 := BitVec.ofNat 32 (i 1).val
  let c2616_i32 : BitVec 32 := 2616#32
  ![arg1.toNat, 2616]
def k0_off334 (i : grid0.Coords) : Fin 2 → Nat :=
  let arg1 : BitVec 32 := BitVec.ofNat 32 (i 1).val
  let c2624_i32 : BitVec 32 := 2624#32
  ![arg1.toNat, 2624]
def k0_off335 (i : grid0.Coords) : Fin 2 → Nat :=
  let arg1 : BitVec 32 := BitVec.ofNat 32 (i 1).val
  let c2632_i32 : BitVec 32 := 2632#32
  ![arg1.toNat, 2632]
def k0_off336 (i : grid0.Coords) : Fin 2 → Nat :=
  let arg1 : BitVec 32 := BitVec.ofNat 32 (i 1).val
  let c2640_i32 : BitVec 32 := 2640#32
  ![arg1.toNat, 2640]
def k0_off337 (i : grid0.Coords) : Fin 2 → Nat :=
  let arg1 : BitVec 32 := BitVec.ofNat 32 (i 1).val
  let c2648_i32 : BitVec 32 := 2648#32
  ![arg1.toNat, 2648]
def k0_off338 (i : grid0.Coords) : Fin 2 → Nat :=
  let arg1 : BitVec 32 := BitVec.ofNat 32 (i 1).val
  let c2656_i32 : BitVec 32 := 2656#32
  ![arg1.toNat, 2656]
def k0_off339 (i : grid0.Coords) : Fin 2 → Nat :=
  let arg1 : BitVec 32 := BitVec.ofNat 32 (i 1).val
  let c2664_i32 : BitVec 32 := 2664#32
  ![arg1.toNat, 2664]
def k0_off340 (i : grid0.Coords) : Fin 2 → Nat :=
  let arg1 : BitVec 32 := BitVec.ofNat 32 (i 1).val
  let c2672_i32 : BitVec 32 := 2672#32
  ![arg1.toNat, 2672]
def k0_off341 (i : grid0.Coords) : Fin 2 → Nat :=
  let arg1 : BitVec 32 := BitVec.ofNat 32 (i 1).val
  let c2680_i32 : BitVec 32 := 2680#32
  ![arg1.toNat, 2680]
def k0_off342 (i : grid0.Coords) : Fin 2 → Nat :=
  let arg1 : BitVec 32 := BitVec.ofNat 32 (i 1).val
  let c2688_i32 : BitVec 32 := 2688#32
  ![arg1.toNat, 2688]
def k0_off343 (i : grid0.Coords) : Fin 2 → Nat :=
  let arg1 : BitVec 32 := BitVec.ofNat 32 (i 1).val
  let c2696_i32 : BitVec 32 := 2696#32
  ![arg1.toNat, 2696]
def k0_off344 (i : grid0.Coords) : Fin 2 → Nat :=
  let arg1 : BitVec 32 := BitVec.ofNat 32 (i 1).val
  let c2704_i32 : BitVec 32 := 2704#32
  ![arg1.toNat, 2704]
def k0_off345 (i : grid0.Coords) : Fin 2 → Nat :=
  let arg1 : BitVec 32 := BitVec.ofNat 32 (i 1).val
  let c2712_i32 : BitVec 32 := 2712#32
  ![arg1.toNat, 2712]
def k0_off346 (i : grid0.Coords) : Fin 2 → Nat :=
  let arg1 : BitVec 32 := BitVec.ofNat 32 (i 1).val
  let c2720_i32 : BitVec 32 := 2720#32
  ![arg1.toNat, 2720]
def k0_off347 (i : grid0.Coords) : Fin 2 → Nat :=
  let arg1 : BitVec 32 := BitVec.ofNat 32 (i 1).val
  let c2728_i32 : BitVec 32 := 2728#32
  ![arg1.toNat, 2728]
def k0_off348 (i : grid0.Coords) : Fin 2 → Nat :=
  let arg1 : BitVec 32 := BitVec.ofNat 32 (i 1).val
  let c2736_i32 : BitVec 32 := 2736#32
  ![arg1.toNat, 2736]
def k0_off349 (i : grid0.Coords) : Fin 2 → Nat :=
  let arg1 : BitVec 32 := BitVec.ofNat 32 (i 1).val
  let c2744_i32 : BitVec 32 := 2744#32
  ![arg1.toNat, 2744]
def k0_off350 (i : grid0.Coords) : Fin 2 → Nat :=
  let arg1 : BitVec 32 := BitVec.ofNat 32 (i 1).val
  let c2752_i32 : BitVec 32 := 2752#32
  ![arg1.toNat, 2752]
def k0_off351 (i : grid0.Coords) : Fin 2 → Nat :=
  let arg1 : BitVec 32 := BitVec.ofNat 32 (i 1).val
  let c2760_i32 : BitVec 32 := 2760#32
  ![arg1.toNat, 2760]
def k0_off352 (i : grid0.Coords) : Fin 2 → Nat :=
  let arg1 : BitVec 32 := BitVec.ofNat 32 (i 1).val
  let c2768_i32 : BitVec 32 := 2768#32
  ![arg1.toNat, 2768]
def k0_off353 (i : grid0.Coords) : Fin 2 → Nat :=
  let arg1 : BitVec 32 := BitVec.ofNat 32 (i 1).val
  let c2776_i32 : BitVec 32 := 2776#32
  ![arg1.toNat, 2776]
def k0_off354 (i : grid0.Coords) : Fin 2 → Nat :=
  let arg1 : BitVec 32 := BitVec.ofNat 32 (i 1).val
  let c2784_i32 : BitVec 32 := 2784#32
  ![arg1.toNat, 2784]
def k0_off355 (i : grid0.Coords) : Fin 2 → Nat :=
  let arg1 : BitVec 32 := BitVec.ofNat 32 (i 1).val
  let c2792_i32 : BitVec 32 := 2792#32
  ![arg1.toNat, 2792]
def k0_off356 (i : grid0.Coords) : Fin 2 → Nat :=
  let arg1 : BitVec 32 := BitVec.ofNat 32 (i 1).val
  let c2800_i32 : BitVec 32 := 2800#32
  ![arg1.toNat, 2800]
def k0_off357 (i : grid0.Coords) : Fin 2 → Nat :=
  let arg1 : BitVec 32 := BitVec.ofNat 32 (i 1).val
  let c2808_i32 : BitVec 32 := 2808#32
  ![arg1.toNat, 2808]
def k0_off358 (i : grid0.Coords) : Fin 2 → Nat :=
  let arg1 : BitVec 32 := BitVec.ofNat 32 (i 1).val
  let c2816_i32 : BitVec 32 := 2816#32
  ![arg1.toNat, 2816]
def k0_off359 (i : grid0.Coords) : Fin 2 → Nat :=
  let arg1 : BitVec 32 := BitVec.ofNat 32 (i 1).val
  let c2824_i32 : BitVec 32 := 2824#32
  ![arg1.toNat, 2824]
def k0_off360 (i : grid0.Coords) : Fin 2 → Nat :=
  let arg1 : BitVec 32 := BitVec.ofNat 32 (i 1).val
  let c2832_i32 : BitVec 32 := 2832#32
  ![arg1.toNat, 2832]
def k0_off361 (i : grid0.Coords) : Fin 2 → Nat :=
  let arg1 : BitVec 32 := BitVec.ofNat 32 (i 1).val
  let c2840_i32 : BitVec 32 := 2840#32
  ![arg1.toNat, 2840]
def k0_off362 (i : grid0.Coords) : Fin 2 → Nat :=
  let arg1 : BitVec 32 := BitVec.ofNat 32 (i 1).val
  let c2848_i32 : BitVec 32 := 2848#32
  ![arg1.toNat, 2848]
def k0_off363 (i : grid0.Coords) : Fin 2 → Nat :=
  let arg1 : BitVec 32 := BitVec.ofNat 32 (i 1).val
  let c2856_i32 : BitVec 32 := 2856#32
  ![arg1.toNat, 2856]
def k0_off364 (i : grid0.Coords) : Fin 2 → Nat :=
  let arg1 : BitVec 32 := BitVec.ofNat 32 (i 1).val
  let c2864_i32 : BitVec 32 := 2864#32
  ![arg1.toNat, 2864]
def k0_off365 (i : grid0.Coords) : Fin 2 → Nat :=
  let arg1 : BitVec 32 := BitVec.ofNat 32 (i 1).val
  let c2872_i32 : BitVec 32 := 2872#32
  ![arg1.toNat, 2872]
def k0_off366 (i : grid0.Coords) : Fin 2 → Nat :=
  let arg1 : BitVec 32 := BitVec.ofNat 32 (i 1).val
  let c2880_i32 : BitVec 32 := 2880#32
  ![arg1.toNat, 2880]
def k0_off367 (i : grid0.Coords) : Fin 2 → Nat :=
  let arg1 : BitVec 32 := BitVec.ofNat 32 (i 1).val
  let c2888_i32 : BitVec 32 := 2888#32
  ![arg1.toNat, 2888]
def k0_off368 (i : grid0.Coords) : Fin 2 → Nat :=
  let arg1 : BitVec 32 := BitVec.ofNat 32 (i 1).val
  let c2896_i32 : BitVec 32 := 2896#32
  ![arg1.toNat, 2896]
def k0_off369 (i : grid0.Coords) : Fin 2 → Nat :=
  let arg1 : BitVec 32 := BitVec.ofNat 32 (i 1).val
  let c2904_i32 : BitVec 32 := 2904#32
  ![arg1.toNat, 2904]
def k0_off370 (i : grid0.Coords) : Fin 2 → Nat :=
  let arg1 : BitVec 32 := BitVec.ofNat 32 (i 1).val
  let c2912_i32 : BitVec 32 := 2912#32
  ![arg1.toNat, 2912]
def k0_off371 (i : grid0.Coords) : Fin 2 → Nat :=
  let arg1 : BitVec 32 := BitVec.ofNat 32 (i 1).val
  let c2920_i32 : BitVec 32 := 2920#32
  ![arg1.toNat, 2920]
def k0_off372 (i : grid0.Coords) : Fin 2 → Nat :=
  let arg1 : BitVec 32 := BitVec.ofNat 32 (i 1).val
  let c2928_i32 : BitVec 32 := 2928#32
  ![arg1.toNat, 2928]
def k0_off373 (i : grid0.Coords) : Fin 2 → Nat :=
  let arg1 : BitVec 32 := BitVec.ofNat 32 (i 1).val
  let c2936_i32 : BitVec 32 := 2936#32
  ![arg1.toNat, 2936]
def k0_off374 (i : grid0.Coords) : Fin 2 → Nat :=
  let arg1 : BitVec 32 := BitVec.ofNat 32 (i 1).val
  let c2944_i32 : BitVec 32 := 2944#32
  ![arg1.toNat, 2944]
def k0_off375 (i : grid0.Coords) : Fin 2 → Nat :=
  let arg1 : BitVec 32 := BitVec.ofNat 32 (i 1).val
  let c2952_i32 : BitVec 32 := 2952#32
  ![arg1.toNat, 2952]
def k0_off376 (i : grid0.Coords) : Fin 2 → Nat :=
  let arg1 : BitVec 32 := BitVec.ofNat 32 (i 1).val
  let c2960_i32 : BitVec 32 := 2960#32
  ![arg1.toNat, 2960]
def k0_off377 (i : grid0.Coords) : Fin 2 → Nat :=
  let arg1 : BitVec 32 := BitVec.ofNat 32 (i 1).val
  let c2968_i32 : BitVec 32 := 2968#32
  ![arg1.toNat, 2968]
def k0_off378 (i : grid0.Coords) : Fin 2 → Nat :=
  let arg1 : BitVec 32 := BitVec.ofNat 32 (i 1).val
  let c2976_i32 : BitVec 32 := 2976#32
  ![arg1.toNat, 2976]
def k0_off379 (i : grid0.Coords) : Fin 2 → Nat :=
  let arg1 : BitVec 32 := BitVec.ofNat 32 (i 1).val
  let c2984_i32 : BitVec 32 := 2984#32
  ![arg1.toNat, 2984]
def k0_off380 (i : grid0.Coords) : Fin 2 → Nat :=
  let arg1 : BitVec 32 := BitVec.ofNat 32 (i 1).val
  let c2992_i32 : BitVec 32 := 2992#32
  ![arg1.toNat, 2992]
def k0_off381 (i : grid0.Coords) : Fin 2 → Nat :=
  let arg1 : BitVec 32 := BitVec.ofNat 32 (i 1).val
  let c3000_i32 : BitVec 32 := 3000#32
  ![arg1.toNat, 3000]
def k0_off382 (i : grid0.Coords) : Fin 2 → Nat :=
  let arg1 : BitVec 32 := BitVec.ofNat 32 (i 1).val
  let c3008_i32 : BitVec 32 := 3008#32
  ![arg1.toNat, 3008]
def k0_off383 (i : grid0.Coords) : Fin 2 → Nat :=
  let arg1 : BitVec 32 := BitVec.ofNat 32 (i 1).val
  let c3016_i32 : BitVec 32 := 3016#32
  ![arg1.toNat, 3016]
def k0_off384 (i : grid0.Coords) : Fin 2 → Nat :=
  let arg1 : BitVec 32 := BitVec.ofNat 32 (i 1).val
  let c3024_i32 : BitVec 32 := 3024#32
  ![arg1.toNat, 3024]
def k0_off385 (i : grid0.Coords) : Fin 2 → Nat :=
  let arg1 : BitVec 32 := BitVec.ofNat 32 (i 1).val
  let c3032_i32 : BitVec 32 := 3032#32
  ![arg1.toNat, 3032]
def k0_off386 (i : grid0.Coords) : Fin 2 → Nat :=
  let arg1 : BitVec 32 := BitVec.ofNat 32 (i 1).val
  let c3040_i32 : BitVec 32 := 3040#32
  ![arg1.toNat, 3040]
def k0_off387 (i : grid0.Coords) : Fin 2 → Nat :=
  let arg1 : BitVec 32 := BitVec.ofNat 32 (i 1).val
  let c3048_i32 : BitVec 32 := 3048#32
  ![arg1.toNat, 3048]
def k0_off388 (i : grid0.Coords) : Fin 2 → Nat :=
  let arg1 : BitVec 32 := BitVec.ofNat 32 (i 1).val
  let c3056_i32 : BitVec 32 := 3056#32
  ![arg1.toNat, 3056]
def k0_off389 (i : grid0.Coords) : Fin 2 → Nat :=
  let arg1 : BitVec 32 := BitVec.ofNat 32 (i 1).val
  let c3064_i32 : BitVec 32 := 3064#32
  ![arg1.toNat, 3064]
@[reducible] def k0_t3_loop : Scf.Loop 32 :=
  let c0_i32_1852 : BitVec 32 := 0#32
  let c128_i32_1853 : BitVec 32 := 128#32
  let v3108 : BitVec 32 := Scalar.addi c0_i32_1852 c128_i32_1853
  let c1_i32_1854 : BitVec 32 := 1#32
  ⟨c0_i32_1852, v3108, c1_i32_1854⟩
def k0_off390 (i : grid0.Coords) : Fin 2 → Nat :=
  let arg1 : BitVec 32 := BitVec.ofNat 32 (i 1).val
  let c2048_i32_3818 : BitVec 32 := 2048#32
  ![arg1.toNat, 2048]
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  v2
def k0_off391 (i : grid0.Coords) : Fin 2 → Nat :=
  let arg1 : BitVec 32 := BitVec.ofNat 32 (i 1).val
  let c3072_i32 : BitVec 32 := 3072#32
  ![arg1.toNat, 3072]
def k0_off392 (i : grid0.Coords) : Fin 2 → Nat :=
  let arg1 : BitVec 32 := BitVec.ofNat 32 (i 1).val
  let c3080_i32 : BitVec 32 := 3080#32
  ![arg1.toNat, 3080]
def k0_off393 (i : grid0.Coords) : Fin 2 → Nat :=
  let arg1 : BitVec 32 := BitVec.ofNat 32 (i 1).val
  let c3088_i32 : BitVec 32 := 3088#32
  ![arg1.toNat, 3088]
def k0_off394 (i : grid0.Coords) : Fin 2 → Nat :=
  let arg1 : BitVec 32 := BitVec.ofNat 32 (i 1).val
  let c3096_i32 : BitVec 32 := 3096#32
  ![arg1.toNat, 3096]
def k0_off395 (i : grid0.Coords) : Fin 2 → Nat :=
  let arg1 : BitVec 32 := BitVec.ofNat 32 (i 1).val
  let c3104_i32 : BitVec 32 := 3104#32
  ![arg1.toNat, 3104]
def k0_off396 (i : grid0.Coords) : Fin 2 → Nat :=
  let arg1 : BitVec 32 := BitVec.ofNat 32 (i 1).val
  let c3112_i32 : BitVec 32 := 3112#32
  ![arg1.toNat, 3112]
def k0_off397 (i : grid0.Coords) : Fin 2 → Nat :=
  let arg1 : BitVec 32 := BitVec.ofNat 32 (i 1).val
  let c3120_i32 : BitVec 32 := 3120#32
  ![arg1.toNat, 3120]
def k0_off398 (i : grid0.Coords) : Fin 2 → Nat :=
  let arg1 : BitVec 32 := BitVec.ofNat 32 (i 1).val
  let c3128_i32 : BitVec 32 := 3128#32
  ![arg1.toNat, 3128]
def k0_off399 (i : grid0.Coords) : Fin 2 → Nat :=
  let arg1 : BitVec 32 := BitVec.ofNat 32 (i 1).val
  let c3136_i32 : BitVec 32 := 3136#32
  ![arg1.toNat, 3136]
def k0_off400 (i : grid0.Coords) : Fin 2 → Nat :=
  let arg1 : BitVec 32 := BitVec.ofNat 32 (i 1).val
  let c3144_i32 : BitVec 32 := 3144#32
  ![arg1.toNat, 3144]
def k0_off401 (i : grid0.Coords) : Fin 2 → Nat :=
  let arg1 : BitVec 32 := BitVec.ofNat 32 (i 1).val
  let c3152_i32 : BitVec 32 := 3152#32
  ![arg1.toNat, 3152]
def k0_off402 (i : grid0.Coords) : Fin 2 → Nat :=
  let arg1 : BitVec 32 := BitVec.ofNat 32 (i 1).val
  let c3160_i32 : BitVec 32 := 3160#32
  ![arg1.toNat, 3160]
def k0_off403 (i : grid0.Coords) : Fin 2 → Nat :=
  let arg1 : BitVec 32 := BitVec.ofNat 32 (i 1).val
  let c3168_i32 : BitVec 32 := 3168#32
  ![arg1.toNat, 3168]
def k0_off404 (i : grid0.Coords) : Fin 2 → Nat :=
  let arg1 : BitVec 32 := BitVec.ofNat 32 (i 1).val
  let c3176_i32 : BitVec 32 := 3176#32
  ![arg1.toNat, 3176]
def k0_off405 (i : grid0.Coords) : Fin 2 → Nat :=
  let arg1 : BitVec 32 := BitVec.ofNat 32 (i 1).val
  let c3184_i32 : BitVec 32 := 3184#32
  ![arg1.toNat, 3184]
def k0_off406 (i : grid0.Coords) : Fin 2 → Nat :=
  let arg1 : BitVec 32 := BitVec.ofNat 32 (i 1).val
  let c3192_i32 : BitVec 32 := 3192#32
  ![arg1.toNat, 3192]
def k0_off407 (i : grid0.Coords) : Fin 2 → Nat :=
  let arg1 : BitVec 32 := BitVec.ofNat 32 (i 1).val
  let c3200_i32 : BitVec 32 := 3200#32
  ![arg1.toNat, 3200]
def k0_off408 (i : grid0.Coords) : Fin 2 → Nat :=
  let arg1 : BitVec 32 := BitVec.ofNat 32 (i 1).val
  let c3208_i32 : BitVec 32 := 3208#32
  ![arg1.toNat, 3208]
def k0_off409 (i : grid0.Coords) : Fin 2 → Nat :=
  let arg1 : BitVec 32 := BitVec.ofNat 32 (i 1).val
  let c3216_i32 : BitVec 32 := 3216#32
  ![arg1.toNat, 3216]
def k0_off410 (i : grid0.Coords) : Fin 2 → Nat :=
  let arg1 : BitVec 32 := BitVec.ofNat 32 (i 1).val
  let c3224_i32 : BitVec 32 := 3224#32
  ![arg1.toNat, 3224]
def k0_off411 (i : grid0.Coords) : Fin 2 → Nat :=
  let arg1 : BitVec 32 := BitVec.ofNat 32 (i 1).val
  let c3232_i32 : BitVec 32 := 3232#32
  ![arg1.toNat, 3232]
def k0_off412 (i : grid0.Coords) : Fin 2 → Nat :=
  let arg1 : BitVec 32 := BitVec.ofNat 32 (i 1).val
  let c3240_i32 : BitVec 32 := 3240#32
  ![arg1.toNat, 3240]
def k0_off413 (i : grid0.Coords) : Fin 2 → Nat :=
  let arg1 : BitVec 32 := BitVec.ofNat 32 (i 1).val
  let c3248_i32 : BitVec 32 := 3248#32
  ![arg1.toNat, 3248]
def k0_off414 (i : grid0.Coords) : Fin 2 → Nat :=
  let arg1 : BitVec 32 := BitVec.ofNat 32 (i 1).val
  let c3256_i32 : BitVec 32 := 3256#32
  ![arg1.toNat, 3256]
def k0_off415 (i : grid0.Coords) : Fin 2 → Nat :=
  let arg1 : BitVec 32 := BitVec.ofNat 32 (i 1).val
  let c3264_i32 : BitVec 32 := 3264#32
  ![arg1.toNat, 3264]
def k0_off416 (i : grid0.Coords) : Fin 2 → Nat :=
  let arg1 : BitVec 32 := BitVec.ofNat 32 (i 1).val
  let c3272_i32 : BitVec 32 := 3272#32
  ![arg1.toNat, 3272]
def k0_off417 (i : grid0.Coords) : Fin 2 → Nat :=
  let arg1 : BitVec 32 := BitVec.ofNat 32 (i 1).val
  let c3280_i32 : BitVec 32 := 3280#32
  ![arg1.toNat, 3280]
def k0_off418 (i : grid0.Coords) : Fin 2 → Nat :=
  let arg1 : BitVec 32 := BitVec.ofNat 32 (i 1).val
  let c3288_i32 : BitVec 32 := 3288#32
  ![arg1.toNat, 3288]
def k0_off419 (i : grid0.Coords) : Fin 2 → Nat :=
  let arg1 : BitVec 32 := BitVec.ofNat 32 (i 1).val
  let c3296_i32 : BitVec 32 := 3296#32
  ![arg1.toNat, 3296]
def k0_off420 (i : grid0.Coords) : Fin 2 → Nat :=
  let arg1 : BitVec 32 := BitVec.ofNat 32 (i 1).val
  let c3304_i32 : BitVec 32 := 3304#32
  ![arg1.toNat, 3304]
def k0_off421 (i : grid0.Coords) : Fin 2 → Nat :=
  let arg1 : BitVec 32 := BitVec.ofNat 32 (i 1).val
  let c3312_i32 : BitVec 32 := 3312#32
  ![arg1.toNat, 3312]
def k0_off422 (i : grid0.Coords) : Fin 2 → Nat :=
  let arg1 : BitVec 32 := BitVec.ofNat 32 (i 1).val
  let c3320_i32 : BitVec 32 := 3320#32
  ![arg1.toNat, 3320]
def k0_off423 (i : grid0.Coords) : Fin 2 → Nat :=
  let arg1 : BitVec 32 := BitVec.ofNat 32 (i 1).val
  let c3328_i32 : BitVec 32 := 3328#32
  ![arg1.toNat, 3328]
def k0_off424 (i : grid0.Coords) : Fin 2 → Nat :=
  let arg1 : BitVec 32 := BitVec.ofNat 32 (i 1).val
  let c3336_i32 : BitVec 32 := 3336#32
  ![arg1.toNat, 3336]
def k0_off425 (i : grid0.Coords) : Fin 2 → Nat :=
  let arg1 : BitVec 32 := BitVec.ofNat 32 (i 1).val
  let c3344_i32 : BitVec 32 := 3344#32
  ![arg1.toNat, 3344]
def k0_off426 (i : grid0.Coords) : Fin 2 → Nat :=
  let arg1 : BitVec 32 := BitVec.ofNat 32 (i 1).val
  let c3352_i32 : BitVec 32 := 3352#32
  ![arg1.toNat, 3352]
def k0_off427 (i : grid0.Coords) : Fin 2 → Nat :=
  let arg1 : BitVec 32 := BitVec.ofNat 32 (i 1).val
  let c3360_i32 : BitVec 32 := 3360#32
  ![arg1.toNat, 3360]
def k0_off428 (i : grid0.Coords) : Fin 2 → Nat :=
  let arg1 : BitVec 32 := BitVec.ofNat 32 (i 1).val
  let c3368_i32 : BitVec 32 := 3368#32
  ![arg1.toNat, 3368]
def k0_off429 (i : grid0.Coords) : Fin 2 → Nat :=
  let arg1 : BitVec 32 := BitVec.ofNat 32 (i 1).val
  let c3376_i32 : BitVec 32 := 3376#32
  ![arg1.toNat, 3376]
def k0_off430 (i : grid0.Coords) : Fin 2 → Nat :=
  let arg1 : BitVec 32 := BitVec.ofNat 32 (i 1).val
  let c3384_i32 : BitVec 32 := 3384#32
  ![arg1.toNat, 3384]
def k0_off431 (i : grid0.Coords) : Fin 2 → Nat :=
  let arg1 : BitVec 32 := BitVec.ofNat 32 (i 1).val
  let c3392_i32 : BitVec 32 := 3392#32
  ![arg1.toNat, 3392]
def k0_off432 (i : grid0.Coords) : Fin 2 → Nat :=
  let arg1 : BitVec 32 := BitVec.ofNat 32 (i 1).val
  let c3400_i32 : BitVec 32 := 3400#32
  ![arg1.toNat, 3400]
def k0_off433 (i : grid0.Coords) : Fin 2 → Nat :=
  let arg1 : BitVec 32 := BitVec.ofNat 32 (i 1).val
  let c3408_i32 : BitVec 32 := 3408#32
  ![arg1.toNat, 3408]
def k0_off434 (i : grid0.Coords) : Fin 2 → Nat :=
  let arg1 : BitVec 32 := BitVec.ofNat 32 (i 1).val
  let c3416_i32 : BitVec 32 := 3416#32
  ![arg1.toNat, 3416]
def k0_off435 (i : grid0.Coords) : Fin 2 → Nat :=
  let arg1 : BitVec 32 := BitVec.ofNat 32 (i 1).val
  let c3424_i32 : BitVec 32 := 3424#32
  ![arg1.toNat, 3424]
def k0_off436 (i : grid0.Coords) : Fin 2 → Nat :=
  let arg1 : BitVec 32 := BitVec.ofNat 32 (i 1).val
  let c3432_i32 : BitVec 32 := 3432#32
  ![arg1.toNat, 3432]
def k0_off437 (i : grid0.Coords) : Fin 2 → Nat :=
  let arg1 : BitVec 32 := BitVec.ofNat 32 (i 1).val
  let c3440_i32 : BitVec 32 := 3440#32
  ![arg1.toNat, 3440]
def k0_off438 (i : grid0.Coords) : Fin 2 → Nat :=
  let arg1 : BitVec 32 := BitVec.ofNat 32 (i 1).val
  let c3448_i32 : BitVec 32 := 3448#32
  ![arg1.toNat, 3448]
def k0_off439 (i : grid0.Coords) : Fin 2 → Nat :=
  let arg1 : BitVec 32 := BitVec.ofNat 32 (i 1).val
  let c3456_i32 : BitVec 32 := 3456#32
  ![arg1.toNat, 3456]
def k0_off440 (i : grid0.Coords) : Fin 2 → Nat :=
  let arg1 : BitVec 32 := BitVec.ofNat 32 (i 1).val
  let c3464_i32 : BitVec 32 := 3464#32
  ![arg1.toNat, 3464]
def k0_off441 (i : grid0.Coords) : Fin 2 → Nat :=
  let arg1 : BitVec 32 := BitVec.ofNat 32 (i 1).val
  let c3472_i32 : BitVec 32 := 3472#32
  ![arg1.toNat, 3472]
def k0_off442 (i : grid0.Coords) : Fin 2 → Nat :=
  let arg1 : BitVec 32 := BitVec.ofNat 32 (i 1).val
  let c3480_i32 : BitVec 32 := 3480#32
  ![arg1.toNat, 3480]
def k0_off443 (i : grid0.Coords) : Fin 2 → Nat :=
  let arg1 : BitVec 32 := BitVec.ofNat 32 (i 1).val
  let c3488_i32 : BitVec 32 := 3488#32
  ![arg1.toNat, 3488]
def k0_off444 (i : grid0.Coords) : Fin 2 → Nat :=
  let arg1 : BitVec 32 := BitVec.ofNat 32 (i 1).val
  let c3496_i32 : BitVec 32 := 3496#32
  ![arg1.toNat, 3496]
def k0_off445 (i : grid0.Coords) : Fin 2 → Nat :=
  let arg1 : BitVec 32 := BitVec.ofNat 32 (i 1).val
  let c3504_i32 : BitVec 32 := 3504#32
  ![arg1.toNat, 3504]
def k0_off446 (i : grid0.Coords) : Fin 2 → Nat :=
  let arg1 : BitVec 32 := BitVec.ofNat 32 (i 1).val
  let c3512_i32 : BitVec 32 := 3512#32
  ![arg1.toNat, 3512]
def k0_off447 (i : grid0.Coords) : Fin 2 → Nat :=
  let arg1 : BitVec 32 := BitVec.ofNat 32 (i 1).val
  let c3520_i32 : BitVec 32 := 3520#32
  ![arg1.toNat, 3520]
def k0_off448 (i : grid0.Coords) : Fin 2 → Nat :=
  let arg1 : BitVec 32 := BitVec.ofNat 32 (i 1).val
  let c3528_i32 : BitVec 32 := 3528#32
  ![arg1.toNat, 3528]
def k0_off449 (i : grid0.Coords) : Fin 2 → Nat :=
  let arg1 : BitVec 32 := BitVec.ofNat 32 (i 1).val
  let c3536_i32 : BitVec 32 := 3536#32
  ![arg1.toNat, 3536]
def k0_off450 (i : grid0.Coords) : Fin 2 → Nat :=
  let arg1 : BitVec 32 := BitVec.ofNat 32 (i 1).val
  let c3544_i32 : BitVec 32 := 3544#32
  ![arg1.toNat, 3544]
def k0_off451 (i : grid0.Coords) : Fin 2 → Nat :=
  let arg1 : BitVec 32 := BitVec.ofNat 32 (i 1).val
  let c3552_i32 : BitVec 32 := 3552#32
  ![arg1.toNat, 3552]
def k0_off452 (i : grid0.Coords) : Fin 2 → Nat :=
  let arg1 : BitVec 32 := BitVec.ofNat 32 (i 1).val
  let c3560_i32 : BitVec 32 := 3560#32
  ![arg1.toNat, 3560]
def k0_off453 (i : grid0.Coords) : Fin 2 → Nat :=
  let arg1 : BitVec 32 := BitVec.ofNat 32 (i 1).val
  let c3568_i32 : BitVec 32 := 3568#32
  ![arg1.toNat, 3568]
def k0_off454 (i : grid0.Coords) : Fin 2 → Nat :=
  let arg1 : BitVec 32 := BitVec.ofNat 32 (i 1).val
  let c3576_i32 : BitVec 32 := 3576#32
  ![arg1.toNat, 3576]
def k0_off455 (i : grid0.Coords) : Fin 2 → Nat :=
  let arg1 : BitVec 32 := BitVec.ofNat 32 (i 1).val
  let c3584_i32 : BitVec 32 := 3584#32
  ![arg1.toNat, 3584]
def k0_off456 (i : grid0.Coords) : Fin 2 → Nat :=
  let arg1 : BitVec 32 := BitVec.ofNat 32 (i 1).val
  let c3592_i32 : BitVec 32 := 3592#32
  ![arg1.toNat, 3592]
def k0_off457 (i : grid0.Coords) : Fin 2 → Nat :=
  let arg1 : BitVec 32 := BitVec.ofNat 32 (i 1).val
  let c3600_i32 : BitVec 32 := 3600#32
  ![arg1.toNat, 3600]
def k0_off458 (i : grid0.Coords) : Fin 2 → Nat :=
  let arg1 : BitVec 32 := BitVec.ofNat 32 (i 1).val
  let c3608_i32 : BitVec 32 := 3608#32
  ![arg1.toNat, 3608]
def k0_off459 (i : grid0.Coords) : Fin 2 → Nat :=
  let arg1 : BitVec 32 := BitVec.ofNat 32 (i 1).val
  let c3616_i32 : BitVec 32 := 3616#32
  ![arg1.toNat, 3616]
def k0_off460 (i : grid0.Coords) : Fin 2 → Nat :=
  let arg1 : BitVec 32 := BitVec.ofNat 32 (i 1).val
  let c3624_i32 : BitVec 32 := 3624#32
  ![arg1.toNat, 3624]
def k0_off461 (i : grid0.Coords) : Fin 2 → Nat :=
  let arg1 : BitVec 32 := BitVec.ofNat 32 (i 1).val
  let c3632_i32 : BitVec 32 := 3632#32
  ![arg1.toNat, 3632]
def k0_off462 (i : grid0.Coords) : Fin 2 → Nat :=
  let arg1 : BitVec 32 := BitVec.ofNat 32 (i 1).val
  let c3640_i32 : BitVec 32 := 3640#32
  ![arg1.toNat, 3640]
def k0_off463 (i : grid0.Coords) : Fin 2 → Nat :=
  let arg1 : BitVec 32 := BitVec.ofNat 32 (i 1).val
  let c3648_i32 : BitVec 32 := 3648#32
  ![arg1.toNat, 3648]
def k0_off464 (i : grid0.Coords) : Fin 2 → Nat :=
  let arg1 : BitVec 32 := BitVec.ofNat 32 (i 1).val
  let c3656_i32 : BitVec 32 := 3656#32
  ![arg1.toNat, 3656]
def k0_off465 (i : grid0.Coords) : Fin 2 → Nat :=
  let arg1 : BitVec 32 := BitVec.ofNat 32 (i 1).val
  let c3664_i32 : BitVec 32 := 3664#32
  ![arg1.toNat, 3664]
def k0_off466 (i : grid0.Coords) : Fin 2 → Nat :=
  let arg1 : BitVec 32 := BitVec.ofNat 32 (i 1).val
  let c3672_i32 : BitVec 32 := 3672#32
  ![arg1.toNat, 3672]
def k0_off467 (i : grid0.Coords) : Fin 2 → Nat :=
  let arg1 : BitVec 32 := BitVec.ofNat 32 (i 1).val
  let c3680_i32 : BitVec 32 := 3680#32
  ![arg1.toNat, 3680]
def k0_off468 (i : grid0.Coords) : Fin 2 → Nat :=
  let arg1 : BitVec 32 := BitVec.ofNat 32 (i 1).val
  let c3688_i32 : BitVec 32 := 3688#32
  ![arg1.toNat, 3688]
def k0_off469 (i : grid0.Coords) : Fin 2 → Nat :=
  let arg1 : BitVec 32 := BitVec.ofNat 32 (i 1).val
  let c3696_i32 : BitVec 32 := 3696#32
  ![arg1.toNat, 3696]
def k0_off470 (i : grid0.Coords) : Fin 2 → Nat :=
  let arg1 : BitVec 32 := BitVec.ofNat 32 (i 1).val
  let c3704_i32 : BitVec 32 := 3704#32
  ![arg1.toNat, 3704]
def k0_off471 (i : grid0.Coords) : Fin 2 → Nat :=
  let arg1 : BitVec 32 := BitVec.ofNat 32 (i 1).val
  let c3712_i32 : BitVec 32 := 3712#32
  ![arg1.toNat, 3712]
def k0_off472 (i : grid0.Coords) : Fin 2 → Nat :=
  let arg1 : BitVec 32 := BitVec.ofNat 32 (i 1).val
  let c3720_i32 : BitVec 32 := 3720#32
  ![arg1.toNat, 3720]
def k0_off473 (i : grid0.Coords) : Fin 2 → Nat :=
  let arg1 : BitVec 32 := BitVec.ofNat 32 (i 1).val
  let c3728_i32 : BitVec 32 := 3728#32
  ![arg1.toNat, 3728]
def k0_off474 (i : grid0.Coords) : Fin 2 → Nat :=
  let arg1 : BitVec 32 := BitVec.ofNat 32 (i 1).val
  let c3736_i32 : BitVec 32 := 3736#32
  ![arg1.toNat, 3736]
def k0_off475 (i : grid0.Coords) : Fin 2 → Nat :=
  let arg1 : BitVec 32 := BitVec.ofNat 32 (i 1).val
  let c3744_i32 : BitVec 32 := 3744#32
  ![arg1.toNat, 3744]
def k0_off476 (i : grid0.Coords) : Fin 2 → Nat :=
  let arg1 : BitVec 32 := BitVec.ofNat 32 (i 1).val
  let c3752_i32 : BitVec 32 := 3752#32
  ![arg1.toNat, 3752]
def k0_off477 (i : grid0.Coords) : Fin 2 → Nat :=
  let arg1 : BitVec 32 := BitVec.ofNat 32 (i 1).val
  let c3760_i32 : BitVec 32 := 3760#32
  ![arg1.toNat, 3760]
def k0_off478 (i : grid0.Coords) : Fin 2 → Nat :=
  let arg1 : BitVec 32 := BitVec.ofNat 32 (i 1).val
  let c3768_i32 : BitVec 32 := 3768#32
  ![arg1.toNat, 3768]
def k0_off479 (i : grid0.Coords) : Fin 2 → Nat :=
  let arg1 : BitVec 32 := BitVec.ofNat 32 (i 1).val
  let c3776_i32 : BitVec 32 := 3776#32
  ![arg1.toNat, 3776]
def k0_off480 (i : grid0.Coords) : Fin 2 → Nat :=
  let arg1 : BitVec 32 := BitVec.ofNat 32 (i 1).val
  let c3784_i32 : BitVec 32 := 3784#32
  ![arg1.toNat, 3784]
def k0_off481 (i : grid0.Coords) : Fin 2 → Nat :=
  let arg1 : BitVec 32 := BitVec.ofNat 32 (i 1).val
  let c3792_i32 : BitVec 32 := 3792#32
  ![arg1.toNat, 3792]
def k0_off482 (i : grid0.Coords) : Fin 2 → Nat :=
  let arg1 : BitVec 32 := BitVec.ofNat 32 (i 1).val
  let c3800_i32 : BitVec 32 := 3800#32
  ![arg1.toNat, 3800]
def k0_off483 (i : grid0.Coords) : Fin 2 → Nat :=
  let arg1 : BitVec 32 := BitVec.ofNat 32 (i 1).val
  let c3808_i32 : BitVec 32 := 3808#32
  ![arg1.toNat, 3808]
def k0_off484 (i : grid0.Coords) : Fin 2 → Nat :=
  let arg1 : BitVec 32 := BitVec.ofNat 32 (i 1).val
  let c3816_i32 : BitVec 32 := 3816#32
  ![arg1.toNat, 3816]
def k0_off485 (i : grid0.Coords) : Fin 2 → Nat :=
  let arg1 : BitVec 32 := BitVec.ofNat 32 (i 1).val
  let c3824_i32 : BitVec 32 := 3824#32
  ![arg1.toNat, 3824]
def k0_off486 (i : grid0.Coords) : Fin 2 → Nat :=
  let arg1 : BitVec 32 := BitVec.ofNat 32 (i 1).val
  let c3832_i32 : BitVec 32 := 3832#32
  ![arg1.toNat, 3832]
def k0_off487 (i : grid0.Coords) : Fin 2 → Nat :=
  let arg1 : BitVec 32 := BitVec.ofNat 32 (i 1).val
  let c3840_i32 : BitVec 32 := 3840#32
  ![arg1.toNat, 3840]
def k0_off488 (i : grid0.Coords) : Fin 2 → Nat :=
  let arg1 : BitVec 32 := BitVec.ofNat 32 (i 1).val
  let c3848_i32 : BitVec 32 := 3848#32
  ![arg1.toNat, 3848]
def k0_off489 (i : grid0.Coords) : Fin 2 → Nat :=
  let arg1 : BitVec 32 := BitVec.ofNat 32 (i 1).val
  let c3856_i32 : BitVec 32 := 3856#32
  ![arg1.toNat, 3856]
def k0_off490 (i : grid0.Coords) : Fin 2 → Nat :=
  let arg1 : BitVec 32 := BitVec.ofNat 32 (i 1).val
  let c3864_i32 : BitVec 32 := 3864#32
  ![arg1.toNat, 3864]
def k0_off491 (i : grid0.Coords) : Fin 2 → Nat :=
  let arg1 : BitVec 32 := BitVec.ofNat 32 (i 1).val
  let c3872_i32 : BitVec 32 := 3872#32
  ![arg1.toNat, 3872]
def k0_off492 (i : grid0.Coords) : Fin 2 → Nat :=
  let arg1 : BitVec 32 := BitVec.ofNat 32 (i 1).val
  let c3880_i32 : BitVec 32 := 3880#32
  ![arg1.toNat, 3880]
def k0_off493 (i : grid0.Coords) : Fin 2 → Nat :=
  let arg1 : BitVec 32 := BitVec.ofNat 32 (i 1).val
  let c3888_i32 : BitVec 32 := 3888#32
  ![arg1.toNat, 3888]
def k0_off494 (i : grid0.Coords) : Fin 2 → Nat :=
  let arg1 : BitVec 32 := BitVec.ofNat 32 (i 1).val
  let c3896_i32 : BitVec 32 := 3896#32
  ![arg1.toNat, 3896]
def k0_off495 (i : grid0.Coords) : Fin 2 → Nat :=
  let arg1 : BitVec 32 := BitVec.ofNat 32 (i 1).val
  let c3904_i32 : BitVec 32 := 3904#32
  ![arg1.toNat, 3904]
def k0_off496 (i : grid0.Coords) : Fin 2 → Nat :=
  let arg1 : BitVec 32 := BitVec.ofNat 32 (i 1).val
  let c3912_i32 : BitVec 32 := 3912#32
  ![arg1.toNat, 3912]
def k0_off497 (i : grid0.Coords) : Fin 2 → Nat :=
  let arg1 : BitVec 32 := BitVec.ofNat 32 (i 1).val
  let c3920_i32 : BitVec 32 := 3920#32
  ![arg1.toNat, 3920]
def k0_off498 (i : grid0.Coords) : Fin 2 → Nat :=
  let arg1 : BitVec 32 := BitVec.ofNat 32 (i 1).val
  let c3928_i32 : BitVec 32 := 3928#32
  ![arg1.toNat, 3928]
def k0_off499 (i : grid0.Coords) : Fin 2 → Nat :=
  let arg1 : BitVec 32 := BitVec.ofNat 32 (i 1).val
  let c3936_i32 : BitVec 32 := 3936#32
  ![arg1.toNat, 3936]
def k0_off500 (i : grid0.Coords) : Fin 2 → Nat :=
  let arg1 : BitVec 32 := BitVec.ofNat 32 (i 1).val
  let c3944_i32 : BitVec 32 := 3944#32
  ![arg1.toNat, 3944]
def k0_off501 (i : grid0.Coords) : Fin 2 → Nat :=
  let arg1 : BitVec 32 := BitVec.ofNat 32 (i 1).val
  let c3952_i32 : BitVec 32 := 3952#32
  ![arg1.toNat, 3952]
def k0_off502 (i : grid0.Coords) : Fin 2 → Nat :=
  let arg1 : BitVec 32 := BitVec.ofNat 32 (i 1).val
  let c3960_i32 : BitVec 32 := 3960#32
  ![arg1.toNat, 3960]
def k0_off503 (i : grid0.Coords) : Fin 2 → Nat :=
  let arg1 : BitVec 32 := BitVec.ofNat 32 (i 1).val
  let c3968_i32 : BitVec 32 := 3968#32
  ![arg1.toNat, 3968]
def k0_off504 (i : grid0.Coords) : Fin 2 → Nat :=
  let arg1 : BitVec 32 := BitVec.ofNat 32 (i 1).val
  let c3976_i32 : BitVec 32 := 3976#32
  ![arg1.toNat, 3976]
def k0_off505 (i : grid0.Coords) : Fin 2 → Nat :=
  let arg1 : BitVec 32 := BitVec.ofNat 32 (i 1).val
  let c3984_i32 : BitVec 32 := 3984#32
  ![arg1.toNat, 3984]
def k0_off506 (i : grid0.Coords) : Fin 2 → Nat :=
  let arg1 : BitVec 32 := BitVec.ofNat 32 (i 1).val
  let c3992_i32 : BitVec 32 := 3992#32
  ![arg1.toNat, 3992]
def k0_off507 (i : grid0.Coords) : Fin 2 → Nat :=
  let arg1 : BitVec 32 := BitVec.ofNat 32 (i 1).val
  let c4000_i32 : BitVec 32 := 4000#32
  ![arg1.toNat, 4000]
def k0_off508 (i : grid0.Coords) : Fin 2 → Nat :=
  let arg1 : BitVec 32 := BitVec.ofNat 32 (i 1).val
  let c4008_i32 : BitVec 32 := 4008#32
  ![arg1.toNat, 4008]
def k0_off509 (i : grid0.Coords) : Fin 2 → Nat :=
  let arg1 : BitVec 32 := BitVec.ofNat 32 (i 1).val
  let c4016_i32 : BitVec 32 := 4016#32
  ![arg1.toNat, 4016]
def k0_off510 (i : grid0.Coords) : Fin 2 → Nat :=
  let arg1 : BitVec 32 := BitVec.ofNat 32 (i 1).val
  let c4024_i32 : BitVec 32 := 4024#32
  ![arg1.toNat, 4024]
def k0_off511 (i : grid0.Coords) : Fin 2 → Nat :=
  let arg1 : BitVec 32 := BitVec.ofNat 32 (i 1).val
  let c4032_i32 : BitVec 32 := 4032#32
  ![arg1.toNat, 4032]
def k0_off512 (i : grid0.Coords) : Fin 2 → Nat :=
  let arg1 : BitVec 32 := BitVec.ofNat 32 (i 1).val
  let c4040_i32 : BitVec 32 := 4040#32
  ![arg1.toNat, 4040]
def k0_off513 (i : grid0.Coords) : Fin 2 → Nat :=
  let arg1 : BitVec 32 := BitVec.ofNat 32 (i 1).val
  let c4048_i32 : BitVec 32 := 4048#32
  ![arg1.toNat, 4048]
def k0_off514 (i : grid0.Coords) : Fin 2 → Nat :=
  let arg1 : BitVec 32 := BitVec.ofNat 32 (i 1).val
  let c4056_i32 : BitVec 32 := 4056#32
  ![arg1.toNat, 4056]
def k0_off515 (i : grid0.Coords) : Fin 2 → Nat :=
  let arg1 : BitVec 32 := BitVec.ofNat 32 (i 1).val
  let c4064_i32 : BitVec 32 := 4064#32
  ![arg1.toNat, 4064]
def k0_off516 (i : grid0.Coords) : Fin 2 → Nat :=
  let arg1 : BitVec 32 := BitVec.ofNat 32 (i 1).val
  let c4072_i32 : BitVec 32 := 4072#32
  ![arg1.toNat, 4072]
def k0_off517 (i : grid0.Coords) : Fin 2 → Nat :=
  let arg1 : BitVec 32 := BitVec.ofNat 32 (i 1).val
  let c4080_i32 : BitVec 32 := 4080#32
  ![arg1.toNat, 4080]
def k0_off518 (i : grid0.Coords) : Fin 2 → Nat :=
  let arg1 : BitVec 32 := BitVec.ofNat 32 (i 1).val
  let c4088_i32 : BitVec 32 := 4088#32
  ![arg1.toNat, 4088]
@[reducible] def k0_t4_loop : Scf.Loop 32 :=
  let c0_i32_2506 : BitVec 32 := 0#32
  let c128_i32_2507 : BitVec 32 := 128#32
  let v4142 : BitVec 32 := Scalar.addi c0_i32_2506 c128_i32_2507
  let c1_i32_2508 : BitVec 32 := 1#32
  ⟨c0_i32_2506, v4142, c1_i32_2508⟩
def k0_off519 (i : grid0.Coords) : Fin 2 → Nat :=
  let arg1 : BitVec 32 := BitVec.ofNat 32 (i 1).val
  let c3072_i32_3818 : BitVec 32 := 3072#32
  ![arg1.toNat, 3072]
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  v2
def k0_off520 (i : grid0.Coords) : Fin 2 → Nat :=
  let arg1 : BitVec 32 := BitVec.ofNat 32 (i 1).val
  let c4096_i32 : BitVec 32 := 4096#32
  ![arg1.toNat, 4096]
def k0_off521 (i : grid0.Coords) : Fin 2 → Nat :=
  let arg1 : BitVec 32 := BitVec.ofNat 32 (i 1).val
  let c4104_i32 : BitVec 32 := 4104#32
  ![arg1.toNat, 4104]
def k0_off522 (i : grid0.Coords) : Fin 2 → Nat :=
  let arg1 : BitVec 32 := BitVec.ofNat 32 (i 1).val
  let c4112_i32 : BitVec 32 := 4112#32
  ![arg1.toNat, 4112]
def k0_off523 (i : grid0.Coords) : Fin 2 → Nat :=
  let arg1 : BitVec 32 := BitVec.ofNat 32 (i 1).val
  let c4120_i32 : BitVec 32 := 4120#32
  ![arg1.toNat, 4120]
def k0_off524 (i : grid0.Coords) : Fin 2 → Nat :=
  let arg1 : BitVec 32 := BitVec.ofNat 32 (i 1).val
  let c4128_i32 : BitVec 32 := 4128#32
  ![arg1.toNat, 4128]
def k0_off525 (i : grid0.Coords) : Fin 2 → Nat :=
  let arg1 : BitVec 32 := BitVec.ofNat 32 (i 1).val
  let c4136_i32 : BitVec 32 := 4136#32
  ![arg1.toNat, 4136]
def k0_off526 (i : grid0.Coords) : Fin 2 → Nat :=
  let arg1 : BitVec 32 := BitVec.ofNat 32 (i 1).val
  let c4144_i32 : BitVec 32 := 4144#32
  ![arg1.toNat, 4144]
def k0_off527 (i : grid0.Coords) : Fin 2 → Nat :=
  let arg1 : BitVec 32 := BitVec.ofNat 32 (i 1).val
  let c4152_i32 : BitVec 32 := 4152#32
  ![arg1.toNat, 4152]
def k0_off528 (i : grid0.Coords) : Fin 2 → Nat :=
  let arg1 : BitVec 32 := BitVec.ofNat 32 (i 1).val
  let c4160_i32 : BitVec 32 := 4160#32
  ![arg1.toNat, 4160]
def k0_off529 (i : grid0.Coords) : Fin 2 → Nat :=
  let arg1 : BitVec 32 := BitVec.ofNat 32 (i 1).val
  let c4168_i32 : BitVec 32 := 4168#32
  ![arg1.toNat, 4168]
def k0_off530 (i : grid0.Coords) : Fin 2 → Nat :=
  let arg1 : BitVec 32 := BitVec.ofNat 32 (i 1).val
  let c4176_i32 : BitVec 32 := 4176#32
  ![arg1.toNat, 4176]
def k0_off531 (i : grid0.Coords) : Fin 2 → Nat :=
  let arg1 : BitVec 32 := BitVec.ofNat 32 (i 1).val
  let c4184_i32 : BitVec 32 := 4184#32
  ![arg1.toNat, 4184]
def k0_off532 (i : grid0.Coords) : Fin 2 → Nat :=
  let arg1 : BitVec 32 := BitVec.ofNat 32 (i 1).val
  let c4192_i32 : BitVec 32 := 4192#32
  ![arg1.toNat, 4192]
def k0_off533 (i : grid0.Coords) : Fin 2 → Nat :=
  let arg1 : BitVec 32 := BitVec.ofNat 32 (i 1).val
  let c4200_i32 : BitVec 32 := 4200#32
  ![arg1.toNat, 4200]
def k0_off534 (i : grid0.Coords) : Fin 2 → Nat :=
  let arg1 : BitVec 32 := BitVec.ofNat 32 (i 1).val
  let c4208_i32 : BitVec 32 := 4208#32
  ![arg1.toNat, 4208]
def k0_off535 (i : grid0.Coords) : Fin 2 → Nat :=
  let arg1 : BitVec 32 := BitVec.ofNat 32 (i 1).val
  let c4216_i32 : BitVec 32 := 4216#32
  ![arg1.toNat, 4216]
def k0_off536 (i : grid0.Coords) : Fin 2 → Nat :=
  let arg1 : BitVec 32 := BitVec.ofNat 32 (i 1).val
  let c4224_i32 : BitVec 32 := 4224#32
  ![arg1.toNat, 4224]
def k0_off537 (i : grid0.Coords) : Fin 2 → Nat :=
  let arg1 : BitVec 32 := BitVec.ofNat 32 (i 1).val
  let c4232_i32 : BitVec 32 := 4232#32
  ![arg1.toNat, 4232]
def k0_off538 (i : grid0.Coords) : Fin 2 → Nat :=
  let arg1 : BitVec 32 := BitVec.ofNat 32 (i 1).val
  let c4240_i32 : BitVec 32 := 4240#32
  ![arg1.toNat, 4240]
def k0_off539 (i : grid0.Coords) : Fin 2 → Nat :=
  let arg1 : BitVec 32 := BitVec.ofNat 32 (i 1).val
  let c4248_i32 : BitVec 32 := 4248#32
  ![arg1.toNat, 4248]
def k0_off540 (i : grid0.Coords) : Fin 2 → Nat :=
  let arg1 : BitVec 32 := BitVec.ofNat 32 (i 1).val
  let c4256_i32 : BitVec 32 := 4256#32
  ![arg1.toNat, 4256]
def k0_off541 (i : grid0.Coords) : Fin 2 → Nat :=
  let arg1 : BitVec 32 := BitVec.ofNat 32 (i 1).val
  let c4264_i32 : BitVec 32 := 4264#32
  ![arg1.toNat, 4264]
def k0_off542 (i : grid0.Coords) : Fin 2 → Nat :=
  let arg1 : BitVec 32 := BitVec.ofNat 32 (i 1).val
  let c4272_i32 : BitVec 32 := 4272#32
  ![arg1.toNat, 4272]
def k0_off543 (i : grid0.Coords) : Fin 2 → Nat :=
  let arg1 : BitVec 32 := BitVec.ofNat 32 (i 1).val
  let c4280_i32 : BitVec 32 := 4280#32
  ![arg1.toNat, 4280]
def k0_off544 (i : grid0.Coords) : Fin 2 → Nat :=
  let arg1 : BitVec 32 := BitVec.ofNat 32 (i 1).val
  let c4288_i32 : BitVec 32 := 4288#32
  ![arg1.toNat, 4288]
def k0_off545 (i : grid0.Coords) : Fin 2 → Nat :=
  let arg1 : BitVec 32 := BitVec.ofNat 32 (i 1).val
  let c4296_i32 : BitVec 32 := 4296#32
  ![arg1.toNat, 4296]
def k0_off546 (i : grid0.Coords) : Fin 2 → Nat :=
  let arg1 : BitVec 32 := BitVec.ofNat 32 (i 1).val
  let c4304_i32 : BitVec 32 := 4304#32
  ![arg1.toNat, 4304]
def k0_off547 (i : grid0.Coords) : Fin 2 → Nat :=
  let arg1 : BitVec 32 := BitVec.ofNat 32 (i 1).val
  let c4312_i32 : BitVec 32 := 4312#32
  ![arg1.toNat, 4312]
def k0_off548 (i : grid0.Coords) : Fin 2 → Nat :=
  let arg1 : BitVec 32 := BitVec.ofNat 32 (i 1).val
  let c4320_i32 : BitVec 32 := 4320#32
  ![arg1.toNat, 4320]
def k0_off549 (i : grid0.Coords) : Fin 2 → Nat :=
  let arg1 : BitVec 32 := BitVec.ofNat 32 (i 1).val
  let c4328_i32 : BitVec 32 := 4328#32
  ![arg1.toNat, 4328]
def k0_off550 (i : grid0.Coords) : Fin 2 → Nat :=
  let arg1 : BitVec 32 := BitVec.ofNat 32 (i 1).val
  let c4336_i32 : BitVec 32 := 4336#32
  ![arg1.toNat, 4336]
def k0_off551 (i : grid0.Coords) : Fin 2 → Nat :=
  let arg1 : BitVec 32 := BitVec.ofNat 32 (i 1).val
  let c4344_i32 : BitVec 32 := 4344#32
  ![arg1.toNat, 4344]
def k0_off552 (i : grid0.Coords) : Fin 2 → Nat :=
  let arg1 : BitVec 32 := BitVec.ofNat 32 (i 1).val
  let c4352_i32 : BitVec 32 := 4352#32
  ![arg1.toNat, 4352]
def k0_off553 (i : grid0.Coords) : Fin 2 → Nat :=
  let arg1 : BitVec 32 := BitVec.ofNat 32 (i 1).val
  let c4360_i32 : BitVec 32 := 4360#32
  ![arg1.toNat, 4360]
def k0_off554 (i : grid0.Coords) : Fin 2 → Nat :=
  let arg1 : BitVec 32 := BitVec.ofNat 32 (i 1).val
  let c4368_i32 : BitVec 32 := 4368#32
  ![arg1.toNat, 4368]
def k0_off555 (i : grid0.Coords) : Fin 2 → Nat :=
  let arg1 : BitVec 32 := BitVec.ofNat 32 (i 1).val
  let c4376_i32 : BitVec 32 := 4376#32
  ![arg1.toNat, 4376]
def k0_off556 (i : grid0.Coords) : Fin 2 → Nat :=
  let arg1 : BitVec 32 := BitVec.ofNat 32 (i 1).val
  let c4384_i32 : BitVec 32 := 4384#32
  ![arg1.toNat, 4384]
def k0_off557 (i : grid0.Coords) : Fin 2 → Nat :=
  let arg1 : BitVec 32 := BitVec.ofNat 32 (i 1).val
  let c4392_i32 : BitVec 32 := 4392#32
  ![arg1.toNat, 4392]
def k0_off558 (i : grid0.Coords) : Fin 2 → Nat :=
  let arg1 : BitVec 32 := BitVec.ofNat 32 (i 1).val
  let c4400_i32 : BitVec 32 := 4400#32
  ![arg1.toNat, 4400]
def k0_off559 (i : grid0.Coords) : Fin 2 → Nat :=
  let arg1 : BitVec 32 := BitVec.ofNat 32 (i 1).val
  let c4408_i32 : BitVec 32 := 4408#32
  ![arg1.toNat, 4408]
def k0_off560 (i : grid0.Coords) : Fin 2 → Nat :=
  let arg1 : BitVec 32 := BitVec.ofNat 32 (i 1).val
  let c4416_i32 : BitVec 32 := 4416#32
  ![arg1.toNat, 4416]
def k0_off561 (i : grid0.Coords) : Fin 2 → Nat :=
  let arg1 : BitVec 32 := BitVec.ofNat 32 (i 1).val
  let c4424_i32 : BitVec 32 := 4424#32
  ![arg1.toNat, 4424]
def k0_off562 (i : grid0.Coords) : Fin 2 → Nat :=
  let arg1 : BitVec 32 := BitVec.ofNat 32 (i 1).val
  let c4432_i32 : BitVec 32 := 4432#32
  ![arg1.toNat, 4432]
def k0_off563 (i : grid0.Coords) : Fin 2 → Nat :=
  let arg1 : BitVec 32 := BitVec.ofNat 32 (i 1).val
  let c4440_i32 : BitVec 32 := 4440#32
  ![arg1.toNat, 4440]
def k0_off564 (i : grid0.Coords) : Fin 2 → Nat :=
  let arg1 : BitVec 32 := BitVec.ofNat 32 (i 1).val
  let c4448_i32 : BitVec 32 := 4448#32
  ![arg1.toNat, 4448]
def k0_off565 (i : grid0.Coords) : Fin 2 → Nat :=
  let arg1 : BitVec 32 := BitVec.ofNat 32 (i 1).val
  let c4456_i32 : BitVec 32 := 4456#32
  ![arg1.toNat, 4456]
def k0_off566 (i : grid0.Coords) : Fin 2 → Nat :=
  let arg1 : BitVec 32 := BitVec.ofNat 32 (i 1).val
  let c4464_i32 : BitVec 32 := 4464#32
  ![arg1.toNat, 4464]
def k0_off567 (i : grid0.Coords) : Fin 2 → Nat :=
  let arg1 : BitVec 32 := BitVec.ofNat 32 (i 1).val
  let c4472_i32 : BitVec 32 := 4472#32
  ![arg1.toNat, 4472]
def k0_off568 (i : grid0.Coords) : Fin 2 → Nat :=
  let arg1 : BitVec 32 := BitVec.ofNat 32 (i 1).val
  let c4480_i32 : BitVec 32 := 4480#32
  ![arg1.toNat, 4480]
def k0_off569 (i : grid0.Coords) : Fin 2 → Nat :=
  let arg1 : BitVec 32 := BitVec.ofNat 32 (i 1).val
  let c4488_i32 : BitVec 32 := 4488#32
  ![arg1.toNat, 4488]
def k0_off570 (i : grid0.Coords) : Fin 2 → Nat :=
  let arg1 : BitVec 32 := BitVec.ofNat 32 (i 1).val
  let c4496_i32 : BitVec 32 := 4496#32
  ![arg1.toNat, 4496]
def k0_off571 (i : grid0.Coords) : Fin 2 → Nat :=
  let arg1 : BitVec 32 := BitVec.ofNat 32 (i 1).val
  let c4504_i32 : BitVec 32 := 4504#32
  ![arg1.toNat, 4504]
def k0_off572 (i : grid0.Coords) : Fin 2 → Nat :=
  let arg1 : BitVec 32 := BitVec.ofNat 32 (i 1).val
  let c4512_i32 : BitVec 32 := 4512#32
  ![arg1.toNat, 4512]
def k0_off573 (i : grid0.Coords) : Fin 2 → Nat :=
  let arg1 : BitVec 32 := BitVec.ofNat 32 (i 1).val
  let c4520_i32 : BitVec 32 := 4520#32
  ![arg1.toNat, 4520]
def k0_off574 (i : grid0.Coords) : Fin 2 → Nat :=
  let arg1 : BitVec 32 := BitVec.ofNat 32 (i 1).val
  let c4528_i32 : BitVec 32 := 4528#32
  ![arg1.toNat, 4528]
def k0_off575 (i : grid0.Coords) : Fin 2 → Nat :=
  let arg1 : BitVec 32 := BitVec.ofNat 32 (i 1).val
  let c4536_i32 : BitVec 32 := 4536#32
  ![arg1.toNat, 4536]
def k0_off576 (i : grid0.Coords) : Fin 2 → Nat :=
  let arg1 : BitVec 32 := BitVec.ofNat 32 (i 1).val
  let c4544_i32 : BitVec 32 := 4544#32
  ![arg1.toNat, 4544]
def k0_off577 (i : grid0.Coords) : Fin 2 → Nat :=
  let arg1 : BitVec 32 := BitVec.ofNat 32 (i 1).val
  let c4552_i32 : BitVec 32 := 4552#32
  ![arg1.toNat, 4552]
def k0_off578 (i : grid0.Coords) : Fin 2 → Nat :=
  let arg1 : BitVec 32 := BitVec.ofNat 32 (i 1).val
  let c4560_i32 : BitVec 32 := 4560#32
  ![arg1.toNat, 4560]
def k0_off579 (i : grid0.Coords) : Fin 2 → Nat :=
  let arg1 : BitVec 32 := BitVec.ofNat 32 (i 1).val
  let c4568_i32 : BitVec 32 := 4568#32
  ![arg1.toNat, 4568]
def k0_off580 (i : grid0.Coords) : Fin 2 → Nat :=
  let arg1 : BitVec 32 := BitVec.ofNat 32 (i 1).val
  let c4576_i32 : BitVec 32 := 4576#32
  ![arg1.toNat, 4576]
def k0_off581 (i : grid0.Coords) : Fin 2 → Nat :=
  let arg1 : BitVec 32 := BitVec.ofNat 32 (i 1).val
  let c4584_i32 : BitVec 32 := 4584#32
  ![arg1.toNat, 4584]
def k0_off582 (i : grid0.Coords) : Fin 2 → Nat :=
  let arg1 : BitVec 32 := BitVec.ofNat 32 (i 1).val
  let c4592_i32 : BitVec 32 := 4592#32
  ![arg1.toNat, 4592]
def k0_off583 (i : grid0.Coords) : Fin 2 → Nat :=
  let arg1 : BitVec 32 := BitVec.ofNat 32 (i 1).val
  let c4600_i32 : BitVec 32 := 4600#32
  ![arg1.toNat, 4600]
def k0_off584 (i : grid0.Coords) : Fin 2 → Nat :=
  let arg1 : BitVec 32 := BitVec.ofNat 32 (i 1).val
  let c4608_i32 : BitVec 32 := 4608#32
  ![arg1.toNat, 4608]
def k0_off585 (i : grid0.Coords) : Fin 2 → Nat :=
  let arg1 : BitVec 32 := BitVec.ofNat 32 (i 1).val
  let c4616_i32 : BitVec 32 := 4616#32
  ![arg1.toNat, 4616]
def k0_off586 (i : grid0.Coords) : Fin 2 → Nat :=
  let arg1 : BitVec 32 := BitVec.ofNat 32 (i 1).val
  let c4624_i32 : BitVec 32 := 4624#32
  ![arg1.toNat, 4624]
def k0_off587 (i : grid0.Coords) : Fin 2 → Nat :=
  let arg1 : BitVec 32 := BitVec.ofNat 32 (i 1).val
  let c4632_i32 : BitVec 32 := 4632#32
  ![arg1.toNat, 4632]
def k0_off588 (i : grid0.Coords) : Fin 2 → Nat :=
  let arg1 : BitVec 32 := BitVec.ofNat 32 (i 1).val
  let c4640_i32 : BitVec 32 := 4640#32
  ![arg1.toNat, 4640]
def k0_off589 (i : grid0.Coords) : Fin 2 → Nat :=
  let arg1 : BitVec 32 := BitVec.ofNat 32 (i 1).val
  let c4648_i32 : BitVec 32 := 4648#32
  ![arg1.toNat, 4648]
def k0_off590 (i : grid0.Coords) : Fin 2 → Nat :=
  let arg1 : BitVec 32 := BitVec.ofNat 32 (i 1).val
  let c4656_i32 : BitVec 32 := 4656#32
  ![arg1.toNat, 4656]
def k0_off591 (i : grid0.Coords) : Fin 2 → Nat :=
  let arg1 : BitVec 32 := BitVec.ofNat 32 (i 1).val
  let c4664_i32 : BitVec 32 := 4664#32
  ![arg1.toNat, 4664]
def k0_off592 (i : grid0.Coords) : Fin 2 → Nat :=
  let arg1 : BitVec 32 := BitVec.ofNat 32 (i 1).val
  let c4672_i32 : BitVec 32 := 4672#32
  ![arg1.toNat, 4672]
def k0_off593 (i : grid0.Coords) : Fin 2 → Nat :=
  let arg1 : BitVec 32 := BitVec.ofNat 32 (i 1).val
  let c4680_i32 : BitVec 32 := 4680#32
  ![arg1.toNat, 4680]
def k0_off594 (i : grid0.Coords) : Fin 2 → Nat :=
  let arg1 : BitVec 32 := BitVec.ofNat 32 (i 1).val
  let c4688_i32 : BitVec 32 := 4688#32
  ![arg1.toNat, 4688]
def k0_off595 (i : grid0.Coords) : Fin 2 → Nat :=
  let arg1 : BitVec 32 := BitVec.ofNat 32 (i 1).val
  let c4696_i32 : BitVec 32 := 4696#32
  ![arg1.toNat, 4696]
def k0_off596 (i : grid0.Coords) : Fin 2 → Nat :=
  let arg1 : BitVec 32 := BitVec.ofNat 32 (i 1).val
  let c4704_i32 : BitVec 32 := 4704#32
  ![arg1.toNat, 4704]
def k0_off597 (i : grid0.Coords) : Fin 2 → Nat :=
  let arg1 : BitVec 32 := BitVec.ofNat 32 (i 1).val
  let c4712_i32 : BitVec 32 := 4712#32
  ![arg1.toNat, 4712]
def k0_off598 (i : grid0.Coords) : Fin 2 → Nat :=
  let arg1 : BitVec 32 := BitVec.ofNat 32 (i 1).val
  let c4720_i32 : BitVec 32 := 4720#32
  ![arg1.toNat, 4720]
def k0_off599 (i : grid0.Coords) : Fin 2 → Nat :=
  let arg1 : BitVec 32 := BitVec.ofNat 32 (i 1).val
  let c4728_i32 : BitVec 32 := 4728#32
  ![arg1.toNat, 4728]
def k0_off600 (i : grid0.Coords) : Fin 2 → Nat :=
  let arg1 : BitVec 32 := BitVec.ofNat 32 (i 1).val
  let c4736_i32 : BitVec 32 := 4736#32
  ![arg1.toNat, 4736]
def k0_off601 (i : grid0.Coords) : Fin 2 → Nat :=
  let arg1 : BitVec 32 := BitVec.ofNat 32 (i 1).val
  let c4744_i32 : BitVec 32 := 4744#32
  ![arg1.toNat, 4744]
def k0_off602 (i : grid0.Coords) : Fin 2 → Nat :=
  let arg1 : BitVec 32 := BitVec.ofNat 32 (i 1).val
  let c4752_i32 : BitVec 32 := 4752#32
  ![arg1.toNat, 4752]
def k0_off603 (i : grid0.Coords) : Fin 2 → Nat :=
  let arg1 : BitVec 32 := BitVec.ofNat 32 (i 1).val
  let c4760_i32 : BitVec 32 := 4760#32
  ![arg1.toNat, 4760]
def k0_off604 (i : grid0.Coords) : Fin 2 → Nat :=
  let arg1 : BitVec 32 := BitVec.ofNat 32 (i 1).val
  let c4768_i32 : BitVec 32 := 4768#32
  ![arg1.toNat, 4768]
def k0_off605 (i : grid0.Coords) : Fin 2 → Nat :=
  let arg1 : BitVec 32 := BitVec.ofNat 32 (i 1).val
  let c4776_i32 : BitVec 32 := 4776#32
  ![arg1.toNat, 4776]
def k0_off606 (i : grid0.Coords) : Fin 2 → Nat :=
  let arg1 : BitVec 32 := BitVec.ofNat 32 (i 1).val
  let c4784_i32 : BitVec 32 := 4784#32
  ![arg1.toNat, 4784]
def k0_off607 (i : grid0.Coords) : Fin 2 → Nat :=
  let arg1 : BitVec 32 := BitVec.ofNat 32 (i 1).val
  let c4792_i32 : BitVec 32 := 4792#32
  ![arg1.toNat, 4792]
def k0_off608 (i : grid0.Coords) : Fin 2 → Nat :=
  let arg1 : BitVec 32 := BitVec.ofNat 32 (i 1).val
  let c4800_i32 : BitVec 32 := 4800#32
  ![arg1.toNat, 4800]
def k0_off609 (i : grid0.Coords) : Fin 2 → Nat :=
  let arg1 : BitVec 32 := BitVec.ofNat 32 (i 1).val
  let c4808_i32 : BitVec 32 := 4808#32
  ![arg1.toNat, 4808]
def k0_off610 (i : grid0.Coords) : Fin 2 → Nat :=
  let arg1 : BitVec 32 := BitVec.ofNat 32 (i 1).val
  let c4816_i32 : BitVec 32 := 4816#32
  ![arg1.toNat, 4816]
def k0_off611 (i : grid0.Coords) : Fin 2 → Nat :=
  let arg1 : BitVec 32 := BitVec.ofNat 32 (i 1).val
  let c4824_i32 : BitVec 32 := 4824#32
  ![arg1.toNat, 4824]
def k0_off612 (i : grid0.Coords) : Fin 2 → Nat :=
  let arg1 : BitVec 32 := BitVec.ofNat 32 (i 1).val
  let c4832_i32 : BitVec 32 := 4832#32
  ![arg1.toNat, 4832]
def k0_off613 (i : grid0.Coords) : Fin 2 → Nat :=
  let arg1 : BitVec 32 := BitVec.ofNat 32 (i 1).val
  let c4840_i32 : BitVec 32 := 4840#32
  ![arg1.toNat, 4840]
def k0_off614 (i : grid0.Coords) : Fin 2 → Nat :=
  let arg1 : BitVec 32 := BitVec.ofNat 32 (i 1).val
  let c4848_i32 : BitVec 32 := 4848#32
  ![arg1.toNat, 4848]
def k0_off615 (i : grid0.Coords) : Fin 2 → Nat :=
  let arg1 : BitVec 32 := BitVec.ofNat 32 (i 1).val
  let c4856_i32 : BitVec 32 := 4856#32
  ![arg1.toNat, 4856]
def k0_off616 (i : grid0.Coords) : Fin 2 → Nat :=
  let arg1 : BitVec 32 := BitVec.ofNat 32 (i 1).val
  let c4864_i32 : BitVec 32 := 4864#32
  ![arg1.toNat, 4864]
def k0_off617 (i : grid0.Coords) : Fin 2 → Nat :=
  let arg1 : BitVec 32 := BitVec.ofNat 32 (i 1).val
  let c4872_i32 : BitVec 32 := 4872#32
  ![arg1.toNat, 4872]
def k0_off618 (i : grid0.Coords) : Fin 2 → Nat :=
  let arg1 : BitVec 32 := BitVec.ofNat 32 (i 1).val
  let c4880_i32 : BitVec 32 := 4880#32
  ![arg1.toNat, 4880]
def k0_off619 (i : grid0.Coords) : Fin 2 → Nat :=
  let arg1 : BitVec 32 := BitVec.ofNat 32 (i 1).val
  let c4888_i32 : BitVec 32 := 4888#32
  ![arg1.toNat, 4888]
def k0_off620 (i : grid0.Coords) : Fin 2 → Nat :=
  let arg1 : BitVec 32 := BitVec.ofNat 32 (i 1).val
  let c4896_i32 : BitVec 32 := 4896#32
  ![arg1.toNat, 4896]
def k0_off621 (i : grid0.Coords) : Fin 2 → Nat :=
  let arg1 : BitVec 32 := BitVec.ofNat 32 (i 1).val
  let c4904_i32 : BitVec 32 := 4904#32
  ![arg1.toNat, 4904]
def k0_off622 (i : grid0.Coords) : Fin 2 → Nat :=
  let arg1 : BitVec 32 := BitVec.ofNat 32 (i 1).val
  let c4912_i32 : BitVec 32 := 4912#32
  ![arg1.toNat, 4912]
def k0_off623 (i : grid0.Coords) : Fin 2 → Nat :=
  let arg1 : BitVec 32 := BitVec.ofNat 32 (i 1).val
  let c4920_i32 : BitVec 32 := 4920#32
  ![arg1.toNat, 4920]
def k0_off624 (i : grid0.Coords) : Fin 2 → Nat :=
  let arg1 : BitVec 32 := BitVec.ofNat 32 (i 1).val
  let c4928_i32 : BitVec 32 := 4928#32
  ![arg1.toNat, 4928]
def k0_off625 (i : grid0.Coords) : Fin 2 → Nat :=
  let arg1 : BitVec 32 := BitVec.ofNat 32 (i 1).val
  let c4936_i32 : BitVec 32 := 4936#32
  ![arg1.toNat, 4936]
def k0_off626 (i : grid0.Coords) : Fin 2 → Nat :=
  let arg1 : BitVec 32 := BitVec.ofNat 32 (i 1).val
  let c4944_i32 : BitVec 32 := 4944#32
  ![arg1.toNat, 4944]
def k0_off627 (i : grid0.Coords) : Fin 2 → Nat :=
  let arg1 : BitVec 32 := BitVec.ofNat 32 (i 1).val
  let c4952_i32 : BitVec 32 := 4952#32
  ![arg1.toNat, 4952]
def k0_off628 (i : grid0.Coords) : Fin 2 → Nat :=
  let arg1 : BitVec 32 := BitVec.ofNat 32 (i 1).val
  let c4960_i32 : BitVec 32 := 4960#32
  ![arg1.toNat, 4960]
def k0_off629 (i : grid0.Coords) : Fin 2 → Nat :=
  let arg1 : BitVec 32 := BitVec.ofNat 32 (i 1).val
  let c4968_i32 : BitVec 32 := 4968#32
  ![arg1.toNat, 4968]
def k0_off630 (i : grid0.Coords) : Fin 2 → Nat :=
  let arg1 : BitVec 32 := BitVec.ofNat 32 (i 1).val
  let c4976_i32 : BitVec 32 := 4976#32
  ![arg1.toNat, 4976]
def k0_off631 (i : grid0.Coords) : Fin 2 → Nat :=
  let arg1 : BitVec 32 := BitVec.ofNat 32 (i 1).val
  let c4984_i32 : BitVec 32 := 4984#32
  ![arg1.toNat, 4984]
def k0_off632 (i : grid0.Coords) : Fin 2 → Nat :=
  let arg1 : BitVec 32 := BitVec.ofNat 32 (i 1).val
  let c4992_i32 : BitVec 32 := 4992#32
  ![arg1.toNat, 4992]
def k0_off633 (i : grid0.Coords) : Fin 2 → Nat :=
  let arg1 : BitVec 32 := BitVec.ofNat 32 (i 1).val
  let c5000_i32 : BitVec 32 := 5000#32
  ![arg1.toNat, 5000]
def k0_off634 (i : grid0.Coords) : Fin 2 → Nat :=
  let arg1 : BitVec 32 := BitVec.ofNat 32 (i 1).val
  let c5008_i32 : BitVec 32 := 5008#32
  ![arg1.toNat, 5008]
def k0_off635 (i : grid0.Coords) : Fin 2 → Nat :=
  let arg1 : BitVec 32 := BitVec.ofNat 32 (i 1).val
  let c5016_i32 : BitVec 32 := 5016#32
  ![arg1.toNat, 5016]
def k0_off636 (i : grid0.Coords) : Fin 2 → Nat :=
  let arg1 : BitVec 32 := BitVec.ofNat 32 (i 1).val
  let c5024_i32 : BitVec 32 := 5024#32
  ![arg1.toNat, 5024]
def k0_off637 (i : grid0.Coords) : Fin 2 → Nat :=
  let arg1 : BitVec 32 := BitVec.ofNat 32 (i 1).val
  let c5032_i32 : BitVec 32 := 5032#32
  ![arg1.toNat, 5032]
def k0_off638 (i : grid0.Coords) : Fin 2 → Nat :=
  let arg1 : BitVec 32 := BitVec.ofNat 32 (i 1).val
  let c5040_i32 : BitVec 32 := 5040#32
  ![arg1.toNat, 5040]
def k0_off639 (i : grid0.Coords) : Fin 2 → Nat :=
  let arg1 : BitVec 32 := BitVec.ofNat 32 (i 1).val
  let c5048_i32 : BitVec 32 := 5048#32
  ![arg1.toNat, 5048]
def k0_off640 (i : grid0.Coords) : Fin 2 → Nat :=
  let arg1 : BitVec 32 := BitVec.ofNat 32 (i 1).val
  let c5056_i32 : BitVec 32 := 5056#32
  ![arg1.toNat, 5056]
def k0_off641 (i : grid0.Coords) : Fin 2 → Nat :=
  let arg1 : BitVec 32 := BitVec.ofNat 32 (i 1).val
  let c5064_i32 : BitVec 32 := 5064#32
  ![arg1.toNat, 5064]
def k0_off642 (i : grid0.Coords) : Fin 2 → Nat :=
  let arg1 : BitVec 32 := BitVec.ofNat 32 (i 1).val
  let c5072_i32 : BitVec 32 := 5072#32
  ![arg1.toNat, 5072]
def k0_off643 (i : grid0.Coords) : Fin 2 → Nat :=
  let arg1 : BitVec 32 := BitVec.ofNat 32 (i 1).val
  let c5080_i32 : BitVec 32 := 5080#32
  ![arg1.toNat, 5080]
def k0_off644 (i : grid0.Coords) : Fin 2 → Nat :=
  let arg1 : BitVec 32 := BitVec.ofNat 32 (i 1).val
  let c5088_i32 : BitVec 32 := 5088#32
  ![arg1.toNat, 5088]
def k0_off645 (i : grid0.Coords) : Fin 2 → Nat :=
  let arg1 : BitVec 32 := BitVec.ofNat 32 (i 1).val
  let c5096_i32 : BitVec 32 := 5096#32
  ![arg1.toNat, 5096]
def k0_off646 (i : grid0.Coords) : Fin 2 → Nat :=
  let arg1 : BitVec 32 := BitVec.ofNat 32 (i 1).val
  let c5104_i32 : BitVec 32 := 5104#32
  ![arg1.toNat, 5104]
def k0_off647 (i : grid0.Coords) : Fin 2 → Nat :=
  let arg1 : BitVec 32 := BitVec.ofNat 32 (i 1).val
  let c5112_i32 : BitVec 32 := 5112#32
  ![arg1.toNat, 5112]
@[reducible] def k0_t5_loop : Scf.Loop 32 :=
  let c0_i32_3160 : BitVec 32 := 0#32
  let c128_i32_3161 : BitVec 32 := 128#32
  let v5176 : BitVec 32 := Scalar.addi c0_i32_3160 c128_i32_3161
  let c1_i32_3162 : BitVec 32 := 1#32
  ⟨c0_i32_3160, v5176, c1_i32_3162⟩
def k0_off648 (i : grid0.Coords) : Fin 2 → Nat :=
  let arg1 : BitVec 32 := BitVec.ofNat 32 (i 1).val
  let c4096_i32_3818 : BitVec 32 := 4096#32
  ![arg1.toNat, 4096]
def k0_off649 (i : grid0.Coords) : Fin 2 → Nat :=
  let arg1 : BitVec 32 := BitVec.ofNat 32 (i 1).val
  let c5120_i32 : BitVec 32 := 5120#32
  ![arg1.toNat, 5120]
def k0_off650 (i : grid0.Coords) : Fin 2 → Nat :=
  let arg1 : BitVec 32 := BitVec.ofNat 32 (i 1).val
  let c5128_i32 : BitVec 32 := 5128#32
  ![arg1.toNat, 5128]
def k0_off651 (i : grid0.Coords) : Fin 2 → Nat :=
  let arg1 : BitVec 32 := BitVec.ofNat 32 (i 1).val
  let c5136_i32 : BitVec 32 := 5136#32
  ![arg1.toNat, 5136]
def k0_off652 (i : grid0.Coords) : Fin 2 → Nat :=
  let arg1 : BitVec 32 := BitVec.ofNat 32 (i 1).val
  let c5144_i32 : BitVec 32 := 5144#32
  ![arg1.toNat, 5144]
def k0_off653 (i : grid0.Coords) : Fin 2 → Nat :=
  let arg1 : BitVec 32 := BitVec.ofNat 32 (i 1).val
  let c5152_i32 : BitVec 32 := 5152#32
  ![arg1.toNat, 5152]
def k0_off654 (i : grid0.Coords) : Fin 2 → Nat :=
  let arg1 : BitVec 32 := BitVec.ofNat 32 (i 1).val
  let c5160_i32 : BitVec 32 := 5160#32
  ![arg1.toNat, 5160]
def k0_off655 (i : grid0.Coords) : Fin 2 → Nat :=
  let arg1 : BitVec 32 := BitVec.ofNat 32 (i 1).val
  let c5168_i32 : BitVec 32 := 5168#32
  ![arg1.toNat, 5168]
def k0_off656 (i : grid0.Coords) : Fin 2 → Nat :=
  let arg1 : BitVec 32 := BitVec.ofNat 32 (i 1).val
  let c5176_i32 : BitVec 32 := 5176#32
  ![arg1.toNat, 5176]
def k0_off657 (i : grid0.Coords) : Fin 2 → Nat :=
  let arg1 : BitVec 32 := BitVec.ofNat 32 (i 1).val
  let c5184_i32 : BitVec 32 := 5184#32
  ![arg1.toNat, 5184]
def k0_off658 (i : grid0.Coords) : Fin 2 → Nat :=
  let arg1 : BitVec 32 := BitVec.ofNat 32 (i 1).val
  let c5192_i32 : BitVec 32 := 5192#32
  ![arg1.toNat, 5192]
def k0_off659 (i : grid0.Coords) : Fin 2 → Nat :=
  let arg1 : BitVec 32 := BitVec.ofNat 32 (i 1).val
  let c5200_i32 : BitVec 32 := 5200#32
  ![arg1.toNat, 5200]
def k0_off660 (i : grid0.Coords) : Fin 2 → Nat :=
  let arg1 : BitVec 32 := BitVec.ofNat 32 (i 1).val
  let c5208_i32 : BitVec 32 := 5208#32
  ![arg1.toNat, 5208]
def k0_off661 (i : grid0.Coords) : Fin 2 → Nat :=
  let arg1 : BitVec 32 := BitVec.ofNat 32 (i 1).val
  let c5216_i32 : BitVec 32 := 5216#32
  ![arg1.toNat, 5216]
def k0_off662 (i : grid0.Coords) : Fin 2 → Nat :=
  let arg1 : BitVec 32 := BitVec.ofNat 32 (i 1).val
  let c5224_i32 : BitVec 32 := 5224#32
  ![arg1.toNat, 5224]
def k0_off663 (i : grid0.Coords) : Fin 2 → Nat :=
  let arg1 : BitVec 32 := BitVec.ofNat 32 (i 1).val
  let c5232_i32 : BitVec 32 := 5232#32
  ![arg1.toNat, 5232]
def k0_off664 (i : grid0.Coords) : Fin 2 → Nat :=
  let arg1 : BitVec 32 := BitVec.ofNat 32 (i 1).val
  let c5240_i32 : BitVec 32 := 5240#32
  ![arg1.toNat, 5240]
def k0_off665 (i : grid0.Coords) : Fin 2 → Nat :=
  let arg1 : BitVec 32 := BitVec.ofNat 32 (i 1).val
  let c5248_i32 : BitVec 32 := 5248#32
  ![arg1.toNat, 5248]
def k0_off666 (i : grid0.Coords) : Fin 2 → Nat :=
  let arg1 : BitVec 32 := BitVec.ofNat 32 (i 1).val
  let c5256_i32 : BitVec 32 := 5256#32
  ![arg1.toNat, 5256]
def k0_off667 (i : grid0.Coords) : Fin 2 → Nat :=
  let arg1 : BitVec 32 := BitVec.ofNat 32 (i 1).val
  let c5264_i32 : BitVec 32 := 5264#32
  ![arg1.toNat, 5264]
def k0_off668 (i : grid0.Coords) : Fin 2 → Nat :=
  let arg1 : BitVec 32 := BitVec.ofNat 32 (i 1).val
  let c5272_i32 : BitVec 32 := 5272#32
  ![arg1.toNat, 5272]
def k0_off669 (i : grid0.Coords) : Fin 2 → Nat :=
  let arg1 : BitVec 32 := BitVec.ofNat 32 (i 1).val
  let c5280_i32 : BitVec 32 := 5280#32
  ![arg1.toNat, 5280]
def k0_off670 (i : grid0.Coords) : Fin 2 → Nat :=
  let arg1 : BitVec 32 := BitVec.ofNat 32 (i 1).val
  let c5288_i32 : BitVec 32 := 5288#32
  ![arg1.toNat, 5288]
def k0_off671 (i : grid0.Coords) : Fin 2 → Nat :=
  let arg1 : BitVec 32 := BitVec.ofNat 32 (i 1).val
  let c5296_i32 : BitVec 32 := 5296#32
  ![arg1.toNat, 5296]
def k0_off672 (i : grid0.Coords) : Fin 2 → Nat :=
  let arg1 : BitVec 32 := BitVec.ofNat 32 (i 1).val
  let c5304_i32 : BitVec 32 := 5304#32
  ![arg1.toNat, 5304]
def k0_off673 (i : grid0.Coords) : Fin 2 → Nat :=
  let arg1 : BitVec 32 := BitVec.ofNat 32 (i 1).val
  let c5312_i32 : BitVec 32 := 5312#32
  ![arg1.toNat, 5312]
def k0_off674 (i : grid0.Coords) : Fin 2 → Nat :=
  let arg1 : BitVec 32 := BitVec.ofNat 32 (i 1).val
  let c5320_i32 : BitVec 32 := 5320#32
  ![arg1.toNat, 5320]
def k0_off675 (i : grid0.Coords) : Fin 2 → Nat :=
  let arg1 : BitVec 32 := BitVec.ofNat 32 (i 1).val
  let c5328_i32 : BitVec 32 := 5328#32
  ![arg1.toNat, 5328]
def k0_off676 (i : grid0.Coords) : Fin 2 → Nat :=
  let arg1 : BitVec 32 := BitVec.ofNat 32 (i 1).val
  let c5336_i32 : BitVec 32 := 5336#32
  ![arg1.toNat, 5336]
def k0_off677 (i : grid0.Coords) : Fin 2 → Nat :=
  let arg1 : BitVec 32 := BitVec.ofNat 32 (i 1).val
  let c5344_i32 : BitVec 32 := 5344#32
  ![arg1.toNat, 5344]
def k0_off678 (i : grid0.Coords) : Fin 2 → Nat :=
  let arg1 : BitVec 32 := BitVec.ofNat 32 (i 1).val
  let c5352_i32 : BitVec 32 := 5352#32
  ![arg1.toNat, 5352]
def k0_off679 (i : grid0.Coords) : Fin 2 → Nat :=
  let arg1 : BitVec 32 := BitVec.ofNat 32 (i 1).val
  let c5360_i32 : BitVec 32 := 5360#32
  ![arg1.toNat, 5360]
def k0_off680 (i : grid0.Coords) : Fin 2 → Nat :=
  let arg1 : BitVec 32 := BitVec.ofNat 32 (i 1).val
  let c5368_i32 : BitVec 32 := 5368#32
  ![arg1.toNat, 5368]
def k0_off681 (i : grid0.Coords) : Fin 2 → Nat :=
  let arg1 : BitVec 32 := BitVec.ofNat 32 (i 1).val
  let c5376_i32 : BitVec 32 := 5376#32
  ![arg1.toNat, 5376]
def k0_off682 (i : grid0.Coords) : Fin 2 → Nat :=
  let arg1 : BitVec 32 := BitVec.ofNat 32 (i 1).val
  let c5384_i32 : BitVec 32 := 5384#32
  ![arg1.toNat, 5384]
def k0_off683 (i : grid0.Coords) : Fin 2 → Nat :=
  let arg1 : BitVec 32 := BitVec.ofNat 32 (i 1).val
  let c5392_i32 : BitVec 32 := 5392#32
  ![arg1.toNat, 5392]
def k0_off684 (i : grid0.Coords) : Fin 2 → Nat :=
  let arg1 : BitVec 32 := BitVec.ofNat 32 (i 1).val
  let c5400_i32 : BitVec 32 := 5400#32
  ![arg1.toNat, 5400]
def k0_off685 (i : grid0.Coords) : Fin 2 → Nat :=
  let arg1 : BitVec 32 := BitVec.ofNat 32 (i 1).val
  let c5408_i32 : BitVec 32 := 5408#32
  ![arg1.toNat, 5408]
def k0_off686 (i : grid0.Coords) : Fin 2 → Nat :=
  let arg1 : BitVec 32 := BitVec.ofNat 32 (i 1).val
  let c5416_i32 : BitVec 32 := 5416#32
  ![arg1.toNat, 5416]
def k0_off687 (i : grid0.Coords) : Fin 2 → Nat :=
  let arg1 : BitVec 32 := BitVec.ofNat 32 (i 1).val
  let c5424_i32 : BitVec 32 := 5424#32
  ![arg1.toNat, 5424]
def k0_off688 (i : grid0.Coords) : Fin 2 → Nat :=
  let arg1 : BitVec 32 := BitVec.ofNat 32 (i 1).val
  let c5432_i32 : BitVec 32 := 5432#32
  ![arg1.toNat, 5432]
def k0_off689 (i : grid0.Coords) : Fin 2 → Nat :=
  let arg1 : BitVec 32 := BitVec.ofNat 32 (i 1).val
  let c5440_i32 : BitVec 32 := 5440#32
  ![arg1.toNat, 5440]
def k0_off690 (i : grid0.Coords) : Fin 2 → Nat :=
  let arg1 : BitVec 32 := BitVec.ofNat 32 (i 1).val
  let c5448_i32 : BitVec 32 := 5448#32
  ![arg1.toNat, 5448]
def k0_off691 (i : grid0.Coords) : Fin 2 → Nat :=
  let arg1 : BitVec 32 := BitVec.ofNat 32 (i 1).val
  let c5456_i32 : BitVec 32 := 5456#32
  ![arg1.toNat, 5456]
def k0_off692 (i : grid0.Coords) : Fin 2 → Nat :=
  let arg1 : BitVec 32 := BitVec.ofNat 32 (i 1).val
  let c5464_i32 : BitVec 32 := 5464#32
  ![arg1.toNat, 5464]
def k0_off693 (i : grid0.Coords) : Fin 2 → Nat :=
  let arg1 : BitVec 32 := BitVec.ofNat 32 (i 1).val
  let c5472_i32 : BitVec 32 := 5472#32
  ![arg1.toNat, 5472]
def k0_off694 (i : grid0.Coords) : Fin 2 → Nat :=
  let arg1 : BitVec 32 := BitVec.ofNat 32 (i 1).val
  let c5480_i32 : BitVec 32 := 5480#32
  ![arg1.toNat, 5480]
def k0_off695 (i : grid0.Coords) : Fin 2 → Nat :=
  let arg1 : BitVec 32 := BitVec.ofNat 32 (i 1).val
  let c5488_i32 : BitVec 32 := 5488#32
  ![arg1.toNat, 5488]
def k0_off696 (i : grid0.Coords) : Fin 2 → Nat :=
  let arg1 : BitVec 32 := BitVec.ofNat 32 (i 1).val
  let c5496_i32 : BitVec 32 := 5496#32
  ![arg1.toNat, 5496]
def k0_off697 (i : grid0.Coords) : Fin 2 → Nat :=
  let arg1 : BitVec 32 := BitVec.ofNat 32 (i 1).val
  let c5504_i32 : BitVec 32 := 5504#32
  ![arg1.toNat, 5504]
def k0_off698 (i : grid0.Coords) : Fin 2 → Nat :=
  let arg1 : BitVec 32 := BitVec.ofNat 32 (i 1).val
  let c5512_i32 : BitVec 32 := 5512#32
  ![arg1.toNat, 5512]
def k0_off699 (i : grid0.Coords) : Fin 2 → Nat :=
  let arg1 : BitVec 32 := BitVec.ofNat 32 (i 1).val
  let c5520_i32 : BitVec 32 := 5520#32
  ![arg1.toNat, 5520]
def k0_off700 (i : grid0.Coords) : Fin 2 → Nat :=
  let arg1 : BitVec 32 := BitVec.ofNat 32 (i 1).val
  let c5528_i32 : BitVec 32 := 5528#32
  ![arg1.toNat, 5528]
def k0_off701 (i : grid0.Coords) : Fin 2 → Nat :=
  let arg1 : BitVec 32 := BitVec.ofNat 32 (i 1).val
  let c5536_i32 : BitVec 32 := 5536#32
  ![arg1.toNat, 5536]
def k0_off702 (i : grid0.Coords) : Fin 2 → Nat :=
  let arg1 : BitVec 32 := BitVec.ofNat 32 (i 1).val
  let c5544_i32 : BitVec 32 := 5544#32
  ![arg1.toNat, 5544]
def k0_off703 (i : grid0.Coords) : Fin 2 → Nat :=
  let arg1 : BitVec 32 := BitVec.ofNat 32 (i 1).val
  let c5552_i32 : BitVec 32 := 5552#32
  ![arg1.toNat, 5552]
def k0_off704 (i : grid0.Coords) : Fin 2 → Nat :=
  let arg1 : BitVec 32 := BitVec.ofNat 32 (i 1).val
  let c5560_i32 : BitVec 32 := 5560#32
  ![arg1.toNat, 5560]
def k0_off705 (i : grid0.Coords) : Fin 2 → Nat :=
  let arg1 : BitVec 32 := BitVec.ofNat 32 (i 1).val
  let c5568_i32 : BitVec 32 := 5568#32
  ![arg1.toNat, 5568]
def k0_off706 (i : grid0.Coords) : Fin 2 → Nat :=
  let arg1 : BitVec 32 := BitVec.ofNat 32 (i 1).val
  let c5576_i32 : BitVec 32 := 5576#32
  ![arg1.toNat, 5576]
def k0_off707 (i : grid0.Coords) : Fin 2 → Nat :=
  let arg1 : BitVec 32 := BitVec.ofNat 32 (i 1).val
  let c5584_i32 : BitVec 32 := 5584#32
  ![arg1.toNat, 5584]
def k0_off708 (i : grid0.Coords) : Fin 2 → Nat :=
  let arg1 : BitVec 32 := BitVec.ofNat 32 (i 1).val
  let c5592_i32 : BitVec 32 := 5592#32
  ![arg1.toNat, 5592]
def k0_off709 (i : grid0.Coords) : Fin 2 → Nat :=
  let arg1 : BitVec 32 := BitVec.ofNat 32 (i 1).val
  let c5600_i32 : BitVec 32 := 5600#32
  ![arg1.toNat, 5600]
def k0_off710 (i : grid0.Coords) : Fin 2 → Nat :=
  let arg1 : BitVec 32 := BitVec.ofNat 32 (i 1).val
  let c5608_i32 : BitVec 32 := 5608#32
  ![arg1.toNat, 5608]
def k0_off711 (i : grid0.Coords) : Fin 2 → Nat :=
  let arg1 : BitVec 32 := BitVec.ofNat 32 (i 1).val
  let c5616_i32 : BitVec 32 := 5616#32
  ![arg1.toNat, 5616]
def k0_off712 (i : grid0.Coords) : Fin 2 → Nat :=
  let arg1 : BitVec 32 := BitVec.ofNat 32 (i 1).val
  let c5624_i32 : BitVec 32 := 5624#32
  ![arg1.toNat, 5624]
def k0_off713 (i : grid0.Coords) : Fin 2 → Nat :=
  let arg1 : BitVec 32 := BitVec.ofNat 32 (i 1).val
  let c5632_i32 : BitVec 32 := 5632#32
  ![arg1.toNat, 5632]
def k0_off714 (i : grid0.Coords) : Fin 2 → Nat :=
  let arg1 : BitVec 32 := BitVec.ofNat 32 (i 1).val
  let c5640_i32 : BitVec 32 := 5640#32
  ![arg1.toNat, 5640]
def k0_off715 (i : grid0.Coords) : Fin 2 → Nat :=
  let arg1 : BitVec 32 := BitVec.ofNat 32 (i 1).val
  let c5648_i32 : BitVec 32 := 5648#32
  ![arg1.toNat, 5648]
def k0_off716 (i : grid0.Coords) : Fin 2 → Nat :=
  let arg1 : BitVec 32 := BitVec.ofNat 32 (i 1).val
  let c5656_i32 : BitVec 32 := 5656#32
  ![arg1.toNat, 5656]
def k0_off717 (i : grid0.Coords) : Fin 2 → Nat :=
  let arg1 : BitVec 32 := BitVec.ofNat 32 (i 1).val
  let c5664_i32 : BitVec 32 := 5664#32
  ![arg1.toNat, 5664]
def k0_off718 (i : grid0.Coords) : Fin 2 → Nat :=
  let arg1 : BitVec 32 := BitVec.ofNat 32 (i 1).val
  let c5672_i32 : BitVec 32 := 5672#32
  ![arg1.toNat, 5672]
def k0_off719 (i : grid0.Coords) : Fin 2 → Nat :=
  let arg1 : BitVec 32 := BitVec.ofNat 32 (i 1).val
  let c5680_i32 : BitVec 32 := 5680#32
  ![arg1.toNat, 5680]
def k0_off720 (i : grid0.Coords) : Fin 2 → Nat :=
  let arg1 : BitVec 32 := BitVec.ofNat 32 (i 1).val
  let c5688_i32 : BitVec 32 := 5688#32
  ![arg1.toNat, 5688]
def k0_off721 (i : grid0.Coords) : Fin 2 → Nat :=
  let arg1 : BitVec 32 := BitVec.ofNat 32 (i 1).val
  let c5696_i32 : BitVec 32 := 5696#32
  ![arg1.toNat, 5696]
def k0_off722 (i : grid0.Coords) : Fin 2 → Nat :=
  let arg1 : BitVec 32 := BitVec.ofNat 32 (i 1).val
  let c5704_i32 : BitVec 32 := 5704#32
  ![arg1.toNat, 5704]
def k0_off723 (i : grid0.Coords) : Fin 2 → Nat :=
  let arg1 : BitVec 32 := BitVec.ofNat 32 (i 1).val
  let c5712_i32 : BitVec 32 := 5712#32
  ![arg1.toNat, 5712]
def k0_off724 (i : grid0.Coords) : Fin 2 → Nat :=
  let arg1 : BitVec 32 := BitVec.ofNat 32 (i 1).val
  let c5720_i32 : BitVec 32 := 5720#32
  ![arg1.toNat, 5720]
def k0_off725 (i : grid0.Coords) : Fin 2 → Nat :=
  let arg1 : BitVec 32 := BitVec.ofNat 32 (i 1).val
  let c5728_i32 : BitVec 32 := 5728#32
  ![arg1.toNat, 5728]
def k0_off726 (i : grid0.Coords) : Fin 2 → Nat :=
  let arg1 : BitVec 32 := BitVec.ofNat 32 (i 1).val
  let c5736_i32 : BitVec 32 := 5736#32
  ![arg1.toNat, 5736]
def k0_off727 (i : grid0.Coords) : Fin 2 → Nat :=
  let arg1 : BitVec 32 := BitVec.ofNat 32 (i 1).val
  let c5744_i32 : BitVec 32 := 5744#32
  ![arg1.toNat, 5744]
def k0_off728 (i : grid0.Coords) : Fin 2 → Nat :=
  let arg1 : BitVec 32 := BitVec.ofNat 32 (i 1).val
  let c5752_i32 : BitVec 32 := 5752#32
  ![arg1.toNat, 5752]
def k0_off729 (i : grid0.Coords) : Fin 2 → Nat :=
  let arg1 : BitVec 32 := BitVec.ofNat 32 (i 1).val
  let c5760_i32 : BitVec 32 := 5760#32
  ![arg1.toNat, 5760]
def k0_off730 (i : grid0.Coords) : Fin 2 → Nat :=
  let arg1 : BitVec 32 := BitVec.ofNat 32 (i 1).val
  let c5768_i32 : BitVec 32 := 5768#32
  ![arg1.toNat, 5768]
def k0_off731 (i : grid0.Coords) : Fin 2 → Nat :=
  let arg1 : BitVec 32 := BitVec.ofNat 32 (i 1).val
  let c5776_i32 : BitVec 32 := 5776#32
  ![arg1.toNat, 5776]
def k0_off732 (i : grid0.Coords) : Fin 2 → Nat :=
  let arg1 : BitVec 32 := BitVec.ofNat 32 (i 1).val
  let c5784_i32 : BitVec 32 := 5784#32
  ![arg1.toNat, 5784]
def k0_off733 (i : grid0.Coords) : Fin 2 → Nat :=
  let arg1 : BitVec 32 := BitVec.ofNat 32 (i 1).val
  let c5792_i32 : BitVec 32 := 5792#32
  ![arg1.toNat, 5792]
def k0_off734 (i : grid0.Coords) : Fin 2 → Nat :=
  let arg1 : BitVec 32 := BitVec.ofNat 32 (i 1).val
  let c5800_i32 : BitVec 32 := 5800#32
  ![arg1.toNat, 5800]
def k0_off735 (i : grid0.Coords) : Fin 2 → Nat :=
  let arg1 : BitVec 32 := BitVec.ofNat 32 (i 1).val
  let c5808_i32 : BitVec 32 := 5808#32
  ![arg1.toNat, 5808]
def k0_off736 (i : grid0.Coords) : Fin 2 → Nat :=
  let arg1 : BitVec 32 := BitVec.ofNat 32 (i 1).val
  let c5816_i32 : BitVec 32 := 5816#32
  ![arg1.toNat, 5816]
def k0_off737 (i : grid0.Coords) : Fin 2 → Nat :=
  let arg1 : BitVec 32 := BitVec.ofNat 32 (i 1).val
  let c5824_i32 : BitVec 32 := 5824#32
  ![arg1.toNat, 5824]
def k0_off738 (i : grid0.Coords) : Fin 2 → Nat :=
  let arg1 : BitVec 32 := BitVec.ofNat 32 (i 1).val
  let c5832_i32 : BitVec 32 := 5832#32
  ![arg1.toNat, 5832]
def k0_off739 (i : grid0.Coords) : Fin 2 → Nat :=
  let arg1 : BitVec 32 := BitVec.ofNat 32 (i 1).val
  let c5840_i32 : BitVec 32 := 5840#32
  ![arg1.toNat, 5840]
def k0_off740 (i : grid0.Coords) : Fin 2 → Nat :=
  let arg1 : BitVec 32 := BitVec.ofNat 32 (i 1).val
  let c5848_i32 : BitVec 32 := 5848#32
  ![arg1.toNat, 5848]
def k0_off741 (i : grid0.Coords) : Fin 2 → Nat :=
  let arg1 : BitVec 32 := BitVec.ofNat 32 (i 1).val
  let c5856_i32 : BitVec 32 := 5856#32
  ![arg1.toNat, 5856]
def k0_off742 (i : grid0.Coords) : Fin 2 → Nat :=
  let arg1 : BitVec 32 := BitVec.ofNat 32 (i 1).val
  let c5864_i32 : BitVec 32 := 5864#32
  ![arg1.toNat, 5864]
def k0_off743 (i : grid0.Coords) : Fin 2 → Nat :=
  let arg1 : BitVec 32 := BitVec.ofNat 32 (i 1).val
  let c5872_i32 : BitVec 32 := 5872#32
  ![arg1.toNat, 5872]
def k0_off744 (i : grid0.Coords) : Fin 2 → Nat :=
  let arg1 : BitVec 32 := BitVec.ofNat 32 (i 1).val
  let c5880_i32 : BitVec 32 := 5880#32
  ![arg1.toNat, 5880]
def k0_off745 (i : grid0.Coords) : Fin 2 → Nat :=
  let arg1 : BitVec 32 := BitVec.ofNat 32 (i 1).val
  let c5888_i32 : BitVec 32 := 5888#32
  ![arg1.toNat, 5888]
def k0_off746 (i : grid0.Coords) : Fin 2 → Nat :=
  let arg1 : BitVec 32 := BitVec.ofNat 32 (i 1).val
  let c5896_i32 : BitVec 32 := 5896#32
  ![arg1.toNat, 5896]
def k0_off747 (i : grid0.Coords) : Fin 2 → Nat :=
  let arg1 : BitVec 32 := BitVec.ofNat 32 (i 1).val
  let c5904_i32 : BitVec 32 := 5904#32
  ![arg1.toNat, 5904]
def k0_off748 (i : grid0.Coords) : Fin 2 → Nat :=
  let arg1 : BitVec 32 := BitVec.ofNat 32 (i 1).val
  let c5912_i32 : BitVec 32 := 5912#32
  ![arg1.toNat, 5912]
def k0_off749 (i : grid0.Coords) : Fin 2 → Nat :=
  let arg1 : BitVec 32 := BitVec.ofNat 32 (i 1).val
  let c5920_i32 : BitVec 32 := 5920#32
  ![arg1.toNat, 5920]
def k0_off750 (i : grid0.Coords) : Fin 2 → Nat :=
  let arg1 : BitVec 32 := BitVec.ofNat 32 (i 1).val
  let c5928_i32 : BitVec 32 := 5928#32
  ![arg1.toNat, 5928]
def k0_off751 (i : grid0.Coords) : Fin 2 → Nat :=
  let arg1 : BitVec 32 := BitVec.ofNat 32 (i 1).val
  let c5936_i32 : BitVec 32 := 5936#32
  ![arg1.toNat, 5936]
def k0_off752 (i : grid0.Coords) : Fin 2 → Nat :=
  let arg1 : BitVec 32 := BitVec.ofNat 32 (i 1).val
  let c5944_i32 : BitVec 32 := 5944#32
  ![arg1.toNat, 5944]
def k0_off753 (i : grid0.Coords) : Fin 2 → Nat :=
  let arg1 : BitVec 32 := BitVec.ofNat 32 (i 1).val
  let c5952_i32 : BitVec 32 := 5952#32
  ![arg1.toNat, 5952]
def k0_off754 (i : grid0.Coords) : Fin 2 → Nat :=
  let arg1 : BitVec 32 := BitVec.ofNat 32 (i 1).val
  let c5960_i32 : BitVec 32 := 5960#32
  ![arg1.toNat, 5960]
def k0_off755 (i : grid0.Coords) : Fin 2 → Nat :=
  let arg1 : BitVec 32 := BitVec.ofNat 32 (i 1).val
  let c5968_i32 : BitVec 32 := 5968#32
  ![arg1.toNat, 5968]
def k0_off756 (i : grid0.Coords) : Fin 2 → Nat :=
  let arg1 : BitVec 32 := BitVec.ofNat 32 (i 1).val
  let c5976_i32 : BitVec 32 := 5976#32
  ![arg1.toNat, 5976]
def k0_off757 (i : grid0.Coords) : Fin 2 → Nat :=
  let arg1 : BitVec 32 := BitVec.ofNat 32 (i 1).val
  let c5984_i32 : BitVec 32 := 5984#32
  ![arg1.toNat, 5984]
def k0_off758 (i : grid0.Coords) : Fin 2 → Nat :=
  let arg1 : BitVec 32 := BitVec.ofNat 32 (i 1).val
  let c5992_i32 : BitVec 32 := 5992#32
  ![arg1.toNat, 5992]
def k0_off759 (i : grid0.Coords) : Fin 2 → Nat :=
  let arg1 : BitVec 32 := BitVec.ofNat 32 (i 1).val
  let c6000_i32 : BitVec 32 := 6000#32
  ![arg1.toNat, 6000]
def k0_off760 (i : grid0.Coords) : Fin 2 → Nat :=
  let arg1 : BitVec 32 := BitVec.ofNat 32 (i 1).val
  let c6008_i32 : BitVec 32 := 6008#32
  ![arg1.toNat, 6008]
def k0_off761 (i : grid0.Coords) : Fin 2 → Nat :=
  let arg1 : BitVec 32 := BitVec.ofNat 32 (i 1).val
  let c6016_i32 : BitVec 32 := 6016#32
  ![arg1.toNat, 6016]
def k0_off762 (i : grid0.Coords) : Fin 2 → Nat :=
  let arg1 : BitVec 32 := BitVec.ofNat 32 (i 1).val
  let c6024_i32 : BitVec 32 := 6024#32
  ![arg1.toNat, 6024]
def k0_off763 (i : grid0.Coords) : Fin 2 → Nat :=
  let arg1 : BitVec 32 := BitVec.ofNat 32 (i 1).val
  let c6032_i32 : BitVec 32 := 6032#32
  ![arg1.toNat, 6032]
def k0_off764 (i : grid0.Coords) : Fin 2 → Nat :=
  let arg1 : BitVec 32 := BitVec.ofNat 32 (i 1).val
  let c6040_i32 : BitVec 32 := 6040#32
  ![arg1.toNat, 6040]
def k0_off765 (i : grid0.Coords) : Fin 2 → Nat :=
  let arg1 : BitVec 32 := BitVec.ofNat 32 (i 1).val
  let c6048_i32 : BitVec 32 := 6048#32
  ![arg1.toNat, 6048]
def k0_off766 (i : grid0.Coords) : Fin 2 → Nat :=
  let arg1 : BitVec 32 := BitVec.ofNat 32 (i 1).val
  let c6056_i32 : BitVec 32 := 6056#32
  ![arg1.toNat, 6056]
def k0_off767 (i : grid0.Coords) : Fin 2 → Nat :=
  let arg1 : BitVec 32 := BitVec.ofNat 32 (i 1).val
  let c6064_i32 : BitVec 32 := 6064#32
  ![arg1.toNat, 6064]
def k0_off768 (i : grid0.Coords) : Fin 2 → Nat :=
  let arg1 : BitVec 32 := BitVec.ofNat 32 (i 1).val
  let c6072_i32 : BitVec 32 := 6072#32
  ![arg1.toNat, 6072]
def k0_off769 (i : grid0.Coords) : Fin 2 → Nat :=
  let arg1 : BitVec 32 := BitVec.ofNat 32 (i 1).val
  let c6080_i32 : BitVec 32 := 6080#32
  ![arg1.toNat, 6080]
def k0_off770 (i : grid0.Coords) : Fin 2 → Nat :=
  let arg1 : BitVec 32 := BitVec.ofNat 32 (i 1).val
  let c6088_i32 : BitVec 32 := 6088#32
  ![arg1.toNat, 6088]
def k0_off771 (i : grid0.Coords) : Fin 2 → Nat :=
  let arg1 : BitVec 32 := BitVec.ofNat 32 (i 1).val
  let c6096_i32 : BitVec 32 := 6096#32
  ![arg1.toNat, 6096]
def k0_off772 (i : grid0.Coords) : Fin 2 → Nat :=
  let arg1 : BitVec 32 := BitVec.ofNat 32 (i 1).val
  let c6104_i32 : BitVec 32 := 6104#32
  ![arg1.toNat, 6104]
def k0_off773 (i : grid0.Coords) : Fin 2 → Nat :=
  let arg1 : BitVec 32 := BitVec.ofNat 32 (i 1).val
  let c6112_i32 : BitVec 32 := 6112#32
  ![arg1.toNat, 6112]
def k0_off774 (i : grid0.Coords) : Fin 2 → Nat :=
  let arg1 : BitVec 32 := BitVec.ofNat 32 (i 1).val
  let c6120_i32 : BitVec 32 := 6120#32
  ![arg1.toNat, 6120]
def k0_off775 (i : grid0.Coords) : Fin 2 → Nat :=
  let arg1 : BitVec 32 := BitVec.ofNat 32 (i 1).val
  let c6128_i32 : BitVec 32 := 6128#32
  ![arg1.toNat, 6128]
def k0_off776 (i : grid0.Coords) : Fin 2 → Nat :=
  let arg1 : BitVec 32 := BitVec.ofNat 32 (i 1).val
  let c6136_i32 : BitVec 32 := 6136#32
  ![arg1.toNat, 6136]
@[reducible] def k0_t6_loop : Scf.Loop 32 :=
  let c0_i32_3809 : BitVec 32 := 0#32
  let c128_i32_3810 : BitVec 32 := 128#32
  let v6205 : BitVec 32 := Scalar.addi c0_i32_3809 c128_i32_3810
  let c1_i32_3811 : BitVec 32 := 1#32
  ⟨c0_i32_3809, v6205, c1_i32_3811⟩
def k0_off777 (i : grid0.Coords) : Fin 2 → Nat :=
  let arg1 : BitVec 32 := BitVec.ofNat 32 (i 1).val
  let c5120_i32_3818 : BitVec 32 := 5120#32
  ![arg1.toNat, 5120]
def k0_off778 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3813_r2 : BitVec 32 := 0#32
  ![v1.toNat, 0]
def k0_off779 (i : grid0.Coords) : Fin 2 → Nat :=
  let arg1 : BitVec 32 := BitVec.ofNat 32 (i 1).val
  let c0_i32_3814_r2 : BitVec 32 := 0#32
  ![arg1.toNat, 0]
abbrev grid1 : Pipeline.Grid := .none

abbrev stage1_0 : Fin 1 → Memref sig .tc .vmem S192x128x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x100000 : Shape := ⟨2, ![4096, 100000]⟩
abbrev S4096 : Shape := ⟨1, ![4096]⟩
abbrev S4096x1 : Shape := ⟨2, ![4096, 1]⟩
abbrev S_ : Shape := ⟨0, ![]⟩
abbrev S1 : Shape := ⟨1, ![1]⟩
abbrev S2 : Shape := ⟨1, ![2]⟩
abbrev S1x1 : Shape := ⟨2, ![1, 1]⟩
abbrev S2x1 : Shape := ⟨2, ![2, 1]⟩
abbrev S2x2 : Shape := ⟨2, ![2, 2]⟩
abbrev S1x2 : Shape := ⟨2, ![1, 2]⟩
abbrev S4096x5 : Shape := ⟨2, ![4096, 5]⟩
abbrev S4096x1x1 : Shape := ⟨3, ![4096, 1, 1]⟩
abbrev S1x1x1 : Shape := ⟨3, ![1, 1, 1]⟩
abbrev S4096x5x1 : Shape := ⟨3, ![4096, 5, 1]⟩
abbrev S1x4096 : Shape := ⟨2, ![1, 4096]⟩
abbrev S4096x4096 : Shape := ⟨2, ![4096, 4096]⟩

abbrev nBuf : Space → Nat
  | .hbm => 1098
  | .vmem => 0
  | .smem => 0
  | _ => 0

abbrev hbmTy0_0 (i : Nat) : BufTy := match i % 128 with
  | 0 => ⟨S4096x100000, .f32⟩
  | 1 => ⟨S4096, .i32⟩
  | 2 => ⟨S4096x1, .i32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .i32⟩
  | 14 => ⟨S_, .i32⟩
  | 15 => ⟨S_, .i32⟩
  | 16 => ⟨S1, .i32⟩
  | 17 => ⟨S_, .i32⟩
  | 18 => ⟨S_, .i32⟩
  | 19 => ⟨S1, .i32⟩
  | 20 => ⟨S2, .i32⟩
  | 21 => ⟨S1, .i32⟩
  | 22 => ⟨S_, .i32⟩
  | 23 => ⟨S1, .i32⟩
  | 24 => ⟨S_, .i32⟩
  | 25 => ⟨S1, .i32⟩
  | 26 => ⟨S1, .i32⟩
  | 27 => ⟨S_, .i32⟩
  | 28 => ⟨S_, .i32⟩
  | 29 => ⟨S_, .i32⟩
  | 30 => ⟨S1, .i32⟩
  | 31 => ⟨S1, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S_, .i32⟩
  | 39 => ⟨S1, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S_, .i32⟩
  | 91 => ⟨S1, .i32⟩
  | 92 => ⟨S1, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S1, .i32⟩
  | 121 => ⟨S_, .i32⟩
  | 122 => ⟨S1, .i32⟩
  | 123 => ⟨S1, .i32⟩
  | 124 => ⟨S_, .i32⟩
  | 125 => ⟨S1, .i32⟩
  | 126 => ⟨S1, .i32⟩
  | 127 => ⟨S1, .i32⟩
  | _ => ⟨S4096x100000, .f32⟩

abbrev hbmTy0_1 (i : Nat) : BufTy := match i % 128 with
  | 0 => ⟨S1, .i32⟩
  | 1 => ⟨S1, .i32⟩
  | 2 => ⟨S_, .i32⟩
  | 3 => ⟨S1, .i32⟩
  | 4 => ⟨S1, .i32⟩
  | 5 => ⟨S_, .i32⟩
  | 6 => ⟨S1, .i32⟩
  | 7 => ⟨S1, .i32⟩
  | 8 => ⟨S1, .i32⟩
  | 9 => ⟨S1, .i32⟩
  | 10 => ⟨S1, .i32⟩
  | 11 => ⟨S_, .i32⟩
  | 12 => ⟨S1, .i32⟩
  | 13 => ⟨S1, .i32⟩
  | 14 => ⟨S_, .i32⟩
  | 15 => ⟨S1, .i32⟩
  | 16 => ⟨S1, .i32⟩
  | 17 => ⟨S1, .i32⟩
  | 18 => ⟨S1, .i32⟩
  | 19 => ⟨S1, .i32⟩
  | 20 => ⟨S_, .i32⟩
  | 21 => ⟨S1, .i32⟩
  | 22 => ⟨S1, .i32⟩
  | 23 => ⟨S_, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S1, .i32⟩
  | 32 => ⟨S_, .i32⟩
  | 33 => ⟨S1, .i32⟩
  | 34 => ⟨S1, .i32⟩
  | 35 => ⟨S1, .i32⟩
  | 36 => ⟨S_, .i32⟩
  | 37 => ⟨S1, .i32⟩
  | 38 => ⟨S1, .i32⟩
  | 39 => ⟨S_, .i32⟩
  | 40 => ⟨S1, .i32⟩
  | 41 => ⟨S1, .i32⟩
  | 42 => ⟨S1, .i32⟩
  | 43 => ⟨S1, .i32⟩
  | 44 => ⟨S1, .i32⟩
  | 45 => ⟨S_, .i32⟩
  | 46 => ⟨S1, .i32⟩
  | 47 => ⟨S1, .i32⟩
  | 48 => ⟨S_, .i32⟩
  | 49 => ⟨S1, .i32⟩
  | 50 => ⟨S1, .i32⟩
  | 51 => ⟨S1, .i32⟩
  | 52 => ⟨S1, .i32⟩
  | 53 => ⟨S1, .i32⟩
  | 54 => ⟨S_, .i32⟩
  | 55 => ⟨S1, .i32⟩
  | 56 => ⟨S1, .i32⟩
  | 57 => ⟨S_, .i32⟩
  | 58 => ⟨S1, .i32⟩
  | 59 => ⟨S1, .i32⟩
  | 60 => ⟨S1, .i32⟩
  | 61 => ⟨S1, .i32⟩
  | 62 => ⟨S1, .i32⟩
  | 63 => ⟨S_, .i32⟩
  | 64 => ⟨S1, .i32⟩
  | 65 => ⟨S1, .i32⟩
  | 66 => ⟨S_, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S1, .i32⟩
  | 75 => ⟨S_, .i32⟩
  | 76 => ⟨S1, .i32⟩
  | 77 => ⟨S1, .i32⟩
  | 78 => ⟨S1, .i32⟩
  | 79 => ⟨S_, .i32⟩
  | 80 => ⟨S1, .i32⟩
  | 81 => ⟨S1, .i32⟩
  | 82 => ⟨S_, .i32⟩
  | 83 => ⟨S1, .i32⟩
  | 84 => ⟨S1, .i32⟩
  | 85 => ⟨S1, .i32⟩
  | 86 => ⟨S1, .i32⟩
  | 87 => ⟨S1, .i32⟩
  | 88 => ⟨S_, .i32⟩
  | 89 => ⟨S1, .i32⟩
  | 90 => ⟨S1, .i32⟩
  | 91 => ⟨S_, .i32⟩
  | 92 => ⟨S1, .i32⟩
  | 93 => ⟨S1, .i32⟩
  | 94 => ⟨S1, .i32⟩
  | 95 => ⟨S1, .i32⟩
  | 96 => ⟨S1, .i32⟩
  | 97 => ⟨S_, .i32⟩
  | 98 => ⟨S1, .i32⟩
  | 99 => ⟨S1, .i32⟩
  | 100 => ⟨S_, .i32⟩
  | 101 => ⟨S1, .i32⟩
  | 102 => ⟨S1, .i32⟩
  | 103 => ⟨S1, .i32⟩
  | 104 => ⟨S1, .i32⟩
  | 105 => ⟨S1, .i32⟩
  | 106 => ⟨S_, .i32⟩
  | 107 => ⟨S1, .i32⟩
  | 108 => ⟨S1, .i32⟩
  | 109 => ⟨S_, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S1, .i32⟩
  | 118 => ⟨S_, .i32⟩
  | 119 => ⟨S1, .i32⟩
  | 120 => ⟨S1, .i32⟩
  | 121 => ⟨S2, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S4096x100000, .f32⟩

abbrev hbmTy0_2 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S1x1, .i32⟩
  | 13 => ⟨S1x1, .i32⟩
  | 14 => ⟨S1, .i32⟩
  | 15 => ⟨S_, .i32⟩
  | 16 => ⟨S1, .i32⟩
  | 17 => ⟨S_, .i32⟩
  | 18 => ⟨S2, .i64⟩
  | 19 => ⟨S_, .i64⟩
  | 20 => ⟨S2, .i64⟩
  | 21 => ⟨S2, .i64⟩
  | 22 => ⟨S_, .i64⟩
  | 23 => ⟨S2, .i64⟩
  | 24 => ⟨S2, .i64⟩
  | 25 => ⟨S2, .i32⟩
  | 26 => ⟨S2, .i32⟩
  | 27 => ⟨S_, .i32⟩
  | 28 => ⟨S_, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S4096x100000, .f32⟩

abbrev hbmTy0_3 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S2x1, .i32⟩
  | 122 => ⟨S2x1, .i32⟩
  | 123 => ⟨S2x2, .i32⟩
  | 124 => ⟨S1x2, .i32⟩
  | 125 => ⟨S2, .i32⟩
  | 126 => ⟨S1x2, .i32⟩
  | 127 => ⟨S2, .i32⟩
  | _ => ⟨S4096x100000, .f32⟩

abbrev hbmTy0_4 (i : Nat) : BufTy := match i % 128 with
  | 0 => ⟨S1, .i32⟩
  | 1 => ⟨S_, .i32⟩
  | 2 => ⟨S1, .i32⟩
  | 3 => ⟨S_, .i32⟩
  | 4 => ⟨S4096x5, .i64⟩
  | 5 => ⟨S4096x5, .i64⟩
  | 6 => ⟨S_, .i64⟩
  | 7 => ⟨S4096x5, .i64⟩
  | 8 => ⟨S4096x5, .i64⟩
  | 9 => ⟨S_, .i64⟩
  | 10 => ⟨S4096x5, .i64⟩
  | 11 => ⟨S4096x5, .i64⟩
  | 12 => ⟨S4096x5, .i64⟩
  | 13 => ⟨S_, .i64⟩
  | 14 => ⟨S4096x5, .i64⟩
  | 15 => ⟨S4096x5, .i64⟩
  | 16 => ⟨S4096x5, .i32⟩
  | 17 => ⟨S4096x5, .i32⟩
  | 18 => ⟨S_, .i32⟩
  | 19 => ⟨S_, .i32⟩
  | 20 => ⟨S_, .i32⟩
  | 21 => ⟨S4096x5, .i32⟩
  | 22 => ⟨S4096x5, .i32⟩
  | 23 => ⟨S4096x5, .i32⟩
  | 24 => ⟨S4096x5, .i32⟩
  | 25 => ⟨S4096x5, .i32⟩
  | 26 => ⟨S_, .i32⟩
  | 27 => ⟨S4096x5, .i32⟩
  | 28 => ⟨S4096x5, .i32⟩
  | 29 => ⟨S_, .i32⟩
  | 30 => ⟨S4096x5, .i32⟩
  | 31 => ⟨S4096x5, .i32⟩
  | 32 => ⟨S4096x5, .i32⟩
  | 33 => ⟨S4096x5, .i32⟩
  | 34 => ⟨S4096x5, .i32⟩
  | 35 => ⟨S_, .i32⟩
  | 36 => ⟨S4096x5, .i32⟩
  | 37 => ⟨S4096x5, .i32⟩
  | 38 => ⟨S_, .i32⟩
  | 39 => ⟨S4096x5, .i32⟩
  | 40 => ⟨S4096x5, .i32⟩
  | 41 => ⟨S4096x5, .i32⟩
  | 42 => ⟨S4096x5, .i32⟩
  | 43 => ⟨S4096x5, .i32⟩
  | 44 => ⟨S_, .i32⟩
  | 45 => ⟨S4096x5, .i32⟩
  | 46 => ⟨S4096x5, .i32⟩
  | 47 => ⟨S_, .i32⟩
  | 48 => ⟨S4096x5, .i32⟩
  | 49 => ⟨S4096x5, .i32⟩
  | 50 => ⟨S4096x5, .i32⟩
  | 51 => ⟨S4096x5, .i32⟩
  | 52 => ⟨S4096x5, .i32⟩
  | 53 => ⟨S_, .i32⟩
  | 54 => ⟨S4096x5, .i32⟩
  | 55 => ⟨S4096x5, .i32⟩
  | 56 => ⟨S_, .i32⟩
  | 57 => ⟨S4096x5, .i32⟩
  | 58 => ⟨S4096x5, .i32⟩
  | 59 => ⟨S4096x5, .i32⟩
  | 60 => ⟨S4096x5, .i32⟩
  | 61 => ⟨S4096x5, .i32⟩
  | 62 => ⟨S4096x5, .i32⟩
  | 63 => ⟨S4096x5, .i32⟩
  | 64 => ⟨S4096x5, .i32⟩
  | 65 => ⟨S_, .i32⟩
  | 66 => ⟨S4096x5, .i32⟩
  | 67 => ⟨S4096x5, .i32⟩
  | 68 => ⟨S4096x5, .i32⟩
  | 69 => ⟨S_, .i32⟩
  | 70 => ⟨S4096x5, .i32⟩
  | 71 => ⟨S4096x5, .i32⟩
  | 72 => ⟨S_, .i32⟩
  | 73 => ⟨S4096x5, .i32⟩
  | 74 => ⟨S4096x5, .i32⟩
  | 75 => ⟨S4096x5, .i32⟩
  | 76 => ⟨S4096x5, .i32⟩
  | 77 => ⟨S4096x5, .i32⟩
  | 78 => ⟨S_, .i32⟩
  | 79 => ⟨S4096x5, .i32⟩
  | 80 => ⟨S4096x5, .i32⟩
  | 81 => ⟨S_, .i32⟩
  | 82 => ⟨S4096x5, .i32⟩
  | 83 => ⟨S4096x5, .i32⟩
  | 84 => ⟨S4096x5, .i32⟩
  | 85 => ⟨S4096x5, .i32⟩
  | 86 => ⟨S4096x5, .i32⟩
  | 87 => ⟨S_, .i32⟩
  | 88 => ⟨S4096x5, .i32⟩
  | 89 => ⟨S4096x5, .i32⟩
  | 90 => ⟨S_, .i32⟩
  | 91 => ⟨S4096x5, .i32⟩
  | 92 => ⟨S4096x5, .i32⟩
  | 93 => ⟨S4096x5, .i32⟩
  | 94 => ⟨S4096x5, .i32⟩
  | 95 => ⟨S4096x5, .i32⟩
  | 96 => ⟨S_, .i32⟩
  | 97 => ⟨S4096x5, .i32⟩
  | 98 => ⟨S4096x5, .i32⟩
  | 99 => ⟨S_, .i32⟩
  | 100 => ⟨S4096x5, .i32⟩
  | 101 => ⟨S4096x5, .i32⟩
  | 102 => ⟨S4096x5, .i32⟩
  | 103 => ⟨S4096x5, .i32⟩
  | 104 => ⟨S4096x5, .i32⟩
  | 105 => ⟨S4096x5, .i32⟩
  | 106 => ⟨S4096x5, .i32⟩
  | 107 => ⟨S4096x5, .i32⟩
  | 108 => ⟨S_, .i32⟩
  | 109 => ⟨S4096x5, .i32⟩
  | 110 => ⟨S4096x5, .i32⟩
  | 111 => ⟨S4096x5, .i32⟩
  | 112 => ⟨S_, .i32⟩
  | 113 => ⟨S4096x5, .i32⟩
  | 114 => ⟨S4096x5, .i32⟩
  | 115 => ⟨S_, .i32⟩
  | 116 => ⟨S4096x5, .i32⟩
  | 117 => ⟨S4096x5, .i32⟩
  | 118 => ⟨S4096x5, .i32⟩
  | 119 => ⟨S4096x5, .i32⟩
  | 120 => ⟨S4096x5, .i32⟩
  | 121 => ⟨S_, .i32⟩
  | 122 => ⟨S4096x5, .i32⟩
  | 123 => ⟨S4096x5, .i32⟩
  | 124 => ⟨S_, .i32⟩
  | 125 => ⟨S4096x5, .i32⟩
  | 126 => ⟨S4096x5, .i32⟩
  | 127 => ⟨S4096x5, .i32⟩
  | _ => ⟨S4096x100000, .f32⟩

abbrev hbmTy0_5 (i : Nat) : BufTy := match i % 128 with
  | 0 => ⟨S4096x5, .i32⟩
  | 1 => ⟨S4096x5, .i32⟩
  | 2 => ⟨S_, .i32⟩
  | 3 => ⟨S4096x5, .i32⟩
  | 4 => ⟨S4096x5, .i32⟩
  | 5 => ⟨S_, .i32⟩
  | 6 => ⟨S4096x5, .i32⟩
  | 7 => ⟨S4096x5, .i32⟩
  | 8 => ⟨S4096x5, .i32⟩
  | 9 => ⟨S4096x5, .i32⟩
  | 10 => ⟨S4096x5, .i32⟩
  | 11 => ⟨S_, .i32⟩
  | 12 => ⟨S4096x5, .i32⟩
  | 13 => ⟨S4096x5, .i32⟩
  | 14 => ⟨S_, .i32⟩
  | 15 => ⟨S4096x5, .i32⟩
  | 16 => ⟨S4096x5, .i32⟩
  | 17 => ⟨S4096x5, .i32⟩
  | 18 => ⟨S4096x5, .i32⟩
  | 19 => ⟨S4096x5, .i32⟩
  | 20 => ⟨S4096x5, .i32⟩
  | 21 => ⟨S4096x5, .i32⟩
  | 22 => ⟨S4096x5, .i32⟩
  | 23 => ⟨S_, .i32⟩
  | 24 => ⟨S4096x5, .i32⟩
  | 25 => ⟨S4096x5, .i32⟩
  | 26 => ⟨S4096x5, .i32⟩
  | 27 => ⟨S_, .i32⟩
  | 28 => ⟨S4096x5, .i32⟩
  | 29 => ⟨S4096x5, .i32⟩
  | 30 => ⟨S_, .i32⟩
  | 31 => ⟨S4096x5, .i32⟩
  | 32 => ⟨S4096x5, .i32⟩
  | 33 => ⟨S4096x5, .i32⟩
  | 34 => ⟨S4096x5, .i32⟩
  | 35 => ⟨S4096x5, .i32⟩
  | 36 => ⟨S_, .i32⟩
  | 37 => ⟨S4096x5, .i32⟩
  | 38 => ⟨S4096x5, .i32⟩
  | 39 => ⟨S_, .i32⟩
  | 40 => ⟨S4096x5, .i32⟩
  | 41 => ⟨S4096x5, .i32⟩
  | 42 => ⟨S4096x5, .i32⟩
  | 43 => ⟨S4096x5, .i32⟩
  | 44 => ⟨S4096x5, .i32⟩
  | 45 => ⟨S_, .i32⟩
  | 46 => ⟨S4096x5, .i32⟩
  | 47 => ⟨S4096x5, .i32⟩
  | 48 => ⟨S_, .i32⟩
  | 49 => ⟨S4096x5, .i32⟩
  | 50 => ⟨S4096x5, .i32⟩
  | 51 => ⟨S4096x5, .i32⟩
  | 52 => ⟨S4096x5, .i32⟩
  | 53 => ⟨S4096x5, .i32⟩
  | 54 => ⟨S_, .i32⟩
  | 55 => ⟨S4096x5, .i32⟩
  | 56 => ⟨S4096x5, .i32⟩
  | 57 => ⟨S_, .i32⟩
  | 58 => ⟨S4096x5, .i32⟩
  | 59 => ⟨S4096x5, .i32⟩
  | 60 => ⟨S4096x5, .i32⟩
  | 61 => ⟨S4096x5, .i32⟩
  | 62 => ⟨S4096x5, .i32⟩
  | 63 => ⟨S4096x5, .i32⟩
  | 64 => ⟨S4096x5, .i32⟩
  | 65 => ⟨S4096x5, .i32⟩
  | 66 => ⟨S_, .i32⟩
  | 67 => ⟨S4096x5, .i32⟩
  | 68 => ⟨S4096x5, .i32⟩
  | 69 => ⟨S4096x5, .i32⟩
  | 70 => ⟨S_, .i32⟩
  | 71 => ⟨S4096x5, .i32⟩
  | 72 => ⟨S4096x5, .i32⟩
  | 73 => ⟨S_, .i32⟩
  | 74 => ⟨S4096x5, .i32⟩
  | 75 => ⟨S4096x5, .i32⟩
  | 76 => ⟨S4096x5, .i32⟩
  | 77 => ⟨S4096x5, .i32⟩
  | 78 => ⟨S4096x5, .i32⟩
  | 79 => ⟨S_, .i32⟩
  | 80 => ⟨S4096x5, .i32⟩
  | 81 => ⟨S4096x5, .i32⟩
  | 82 => ⟨S_, .i32⟩
  | 83 => ⟨S4096x5, .i32⟩
  | 84 => ⟨S4096x5, .i32⟩
  | 85 => ⟨S4096x5, .i32⟩
  | 86 => ⟨S4096x5, .i32⟩
  | 87 => ⟨S4096x5, .i32⟩
  | 88 => ⟨S_, .i32⟩
  | 89 => ⟨S4096x5, .i32⟩
  | 90 => ⟨S4096x5, .i32⟩
  | 91 => ⟨S_, .i32⟩
  | 92 => ⟨S4096x5, .i32⟩
  | 93 => ⟨S4096x5, .i32⟩
  | 94 => ⟨S4096x5, .i32⟩
  | 95 => ⟨S4096x5, .i32⟩
  | 96 => ⟨S4096x5, .i32⟩
  | 97 => ⟨S_, .i32⟩
  | 98 => ⟨S4096x5, .i32⟩
  | 99 => ⟨S4096x5, .i32⟩
  | 100 => ⟨S_, .i32⟩
  | 101 => ⟨S4096x5, .i32⟩
  | 102 => ⟨S4096x5, .i32⟩
  | 103 => ⟨S4096x5, .i32⟩
  | 104 => ⟨S4096x5, .i32⟩
  | 105 => ⟨S4096x5, .i32⟩
  | 106 => ⟨S4096x5, .i32⟩
  | 107 => ⟨S4096x5, .i32⟩
  | 108 => ⟨S4096x5, .i32⟩
  | 109 => ⟨S_, .i32⟩
  | 110 => ⟨S4096x5, .i32⟩
  | 111 => ⟨S4096x5, .i32⟩
  | 112 => ⟨S4096x5, .i32⟩
  | 113 => ⟨S1, .i32⟩
  | 114 => ⟨S_, .i32⟩
  | 115 => ⟨S1, .i32⟩
  | 116 => ⟨S_, .i32⟩
  | 117 => ⟨S4096x5, .i64⟩
  | 118 => ⟨S4096x5, .i64⟩
  | 119 => ⟨S_, .i64⟩
  | 120 => ⟨S4096x5, .i64⟩
  | 121 => ⟨S4096x5, .i64⟩
  | 122 => ⟨S_, .i64⟩
  | 123 => ⟨S4096x5, .i64⟩
  | 124 => ⟨S4096x5, .i64⟩
  | 125 => ⟨S4096x5, .i64⟩
  | 126 => ⟨S_, .i64⟩
  | 127 => ⟨S4096x5, .i64⟩
  | _ => ⟨S4096x100000, .f32⟩

abbrev hbmTy0_6 (i : Nat) : BufTy := match i % 128 with
  | 0 => ⟨S4096x5, .i64⟩
  | 1 => ⟨S4096x5, .i32⟩
  | 2 => ⟨S4096x5, .i32⟩
  | 3 => ⟨S_, .i32⟩
  | 4 => ⟨S_, .i32⟩
  | 5 => ⟨S_, .i32⟩
  | 6 => ⟨S4096x5, .i32⟩
  | 7 => ⟨S4096x5, .i32⟩
  | 8 => ⟨S4096x5, .i32⟩
  | 9 => ⟨S4096x5, .i32⟩
  | 10 => ⟨S4096x5, .i32⟩
  | 11 => ⟨S_, .i32⟩
  | 12 => ⟨S4096x5, .i32⟩
  | 13 => ⟨S4096x5, .i32⟩
  | 14 => ⟨S_, .i32⟩
  | 15 => ⟨S4096x5, .i32⟩
  | 16 => ⟨S4096x5, .i32⟩
  | 17 => ⟨S4096x5, .i32⟩
  | 18 => ⟨S4096x5, .i32⟩
  | 19 => ⟨S4096x5, .i32⟩
  | 20 => ⟨S_, .i32⟩
  | 21 => ⟨S4096x5, .i32⟩
  | 22 => ⟨S4096x5, .i32⟩
  | 23 => ⟨S_, .i32⟩
  | 24 => ⟨S4096x5, .i32⟩
  | 25 => ⟨S4096x5, .i32⟩
  | 26 => ⟨S4096x5, .i32⟩
  | 27 => ⟨S4096x5, .i32⟩
  | 28 => ⟨S4096x5, .i32⟩
  | 29 => ⟨S_, .i32⟩
  | 30 => ⟨S4096x5, .i32⟩
  | 31 => ⟨S4096x5, .i32⟩
  | 32 => ⟨S_, .i32⟩
  | 33 => ⟨S4096x5, .i32⟩
  | 34 => ⟨S4096x5, .i32⟩
  | 35 => ⟨S4096x5, .i32⟩
  | 36 => ⟨S4096x5, .i32⟩
  | 37 => ⟨S4096x5, .i32⟩
  | 38 => ⟨S_, .i32⟩
  | 39 => ⟨S4096x5, .i32⟩
  | 40 => ⟨S4096x5, .i32⟩
  | 41 => ⟨S_, .i32⟩
  | 42 => ⟨S4096x5, .i32⟩
  | 43 => ⟨S4096x5, .i32⟩
  | 44 => ⟨S4096x5, .i32⟩
  | 45 => ⟨S4096x5, .i32⟩
  | 46 => ⟨S4096x5, .i32⟩
  | 47 => ⟨S4096x5, .i32⟩
  | 48 => ⟨S4096x5, .i32⟩
  | 49 => ⟨S4096x5, .i32⟩
  | 50 => ⟨S_, .i32⟩
  | 51 => ⟨S4096x5, .i32⟩
  | 52 => ⟨S4096x5, .i32⟩
  | 53 => ⟨S4096x5, .i32⟩
  | 54 => ⟨S_, .i32⟩
  | 55 => ⟨S4096x5, .i32⟩
  | 56 => ⟨S4096x5, .i32⟩
  | 57 => ⟨S_, .i32⟩
  | 58 => ⟨S4096x5, .i32⟩
  | 59 => ⟨S4096x5, .i32⟩
  | 60 => ⟨S4096x5, .i32⟩
  | 61 => ⟨S4096x5, .i32⟩
  | 62 => ⟨S4096x5, .i32⟩
  | 63 => ⟨S_, .i32⟩
  | 64 => ⟨S4096x5, .i32⟩
  | 65 => ⟨S4096x5, .i32⟩
  | 66 => ⟨S_, .i32⟩
  | 67 => ⟨S4096x5, .i32⟩
  | 68 => ⟨S4096x5, .i32⟩
  | 69 => ⟨S4096x5, .i32⟩
  | 70 => ⟨S4096x5, .i32⟩
  | 71 => ⟨S4096x5, .i32⟩
  | 72 => ⟨S_, .i32⟩
  | 73 => ⟨S4096x5, .i32⟩
  | 74 => ⟨S4096x5, .i32⟩
  | 75 => ⟨S_, .i32⟩
  | 76 => ⟨S4096x5, .i32⟩
  | 77 => ⟨S4096x5, .i32⟩
  | 78 => ⟨S4096x5, .i32⟩
  | 79 => ⟨S4096x5, .i32⟩
  | 80 => ⟨S4096x5, .i32⟩
  | 81 => ⟨S_, .i32⟩
  | 82 => ⟨S4096x5, .i32⟩
  | 83 => ⟨S4096x5, .i32⟩
  | 84 => ⟨S_, .i32⟩
  | 85 => ⟨S4096x5, .i32⟩
  | 86 => ⟨S4096x5, .i32⟩
  | 87 => ⟨S4096x5, .i32⟩
  | 88 => ⟨S4096x5, .i32⟩
  | 89 => ⟨S4096x5, .i32⟩
  | 90 => ⟨S4096x5, .i32⟩
  | 91 => ⟨S4096x5, .i32⟩
  | 92 => ⟨S4096x5, .i32⟩
  | 93 => ⟨S_, .i32⟩
  | 94 => ⟨S4096x5, .i32⟩
  | 95 => ⟨S4096x5, .i32⟩
  | 96 => ⟨S4096x5, .i32⟩
  | 97 => ⟨S_, .i32⟩
  | 98 => ⟨S4096x5, .i32⟩
  | 99 => ⟨S4096x5, .i32⟩
  | 100 => ⟨S_, .i32⟩
  | 101 => ⟨S4096x5, .i32⟩
  | 102 => ⟨S4096x5, .i32⟩
  | 103 => ⟨S4096x5, .i32⟩
  | 104 => ⟨S4096x5, .i32⟩
  | 105 => ⟨S4096x5, .i32⟩
  | 106 => ⟨S_, .i32⟩
  | 107 => ⟨S4096x5, .i32⟩
  | 108 => ⟨S4096x5, .i32⟩
  | 109 => ⟨S_, .i32⟩
  | 110 => ⟨S4096x5, .i32⟩
  | 111 => ⟨S4096x5, .i32⟩
  | 112 => ⟨S4096x5, .i32⟩
  | 113 => ⟨S4096x5, .i32⟩
  | 114 => ⟨S4096x5, .i32⟩
  | 115 => ⟨S_, .i32⟩
  | 116 => ⟨S4096x5, .i32⟩
  | 117 => ⟨S4096x5, .i32⟩
  | 118 => ⟨S_, .i32⟩
  | 119 => ⟨S4096x5, .i32⟩
  | 120 => ⟨S4096x5, .i32⟩
  | 121 => ⟨S4096x5, .i32⟩
  | 122 => ⟨S4096x5, .i32⟩
  | 123 => ⟨S4096x5, .i32⟩
  | 124 => ⟨S_, .i32⟩
  | 125 => ⟨S4096x5, .i32⟩
  | 126 => ⟨S4096x5, .i32⟩
  | 127 => ⟨S_, .i32⟩
  | _ => ⟨S4096x100000, .f32⟩

abbrev hbmTy0_7 (i : Nat) : BufTy := match i % 128 with
  | 0 => ⟨S4096x5, .i32⟩
  | 1 => ⟨S4096x5, .i32⟩
  | 2 => ⟨S4096x5, .i32⟩
  | 3 => ⟨S4096x5, .i32⟩
  | 4 => ⟨S4096x5, .i32⟩
  | 5 => ⟨S4096x5, .i32⟩
  | 6 => ⟨S4096x5, .i32⟩
  | 7 => ⟨S4096x5, .i32⟩
  | 8 => ⟨S_, .i32⟩
  | 9 => ⟨S4096x5, .i32⟩
  | 10 => ⟨S4096x5, .i32⟩
  | 11 => ⟨S4096x5, .i32⟩
  | 12 => ⟨S_, .i32⟩
  | 13 => ⟨S4096x5, .i32⟩
  | 14 => ⟨S4096x5, .i32⟩
  | 15 => ⟨S_, .i32⟩
  | 16 => ⟨S4096x5, .i32⟩
  | 17 => ⟨S4096x5, .i32⟩
  | 18 => ⟨S4096x5, .i32⟩
  | 19 => ⟨S4096x5, .i32⟩
  | 20 => ⟨S4096x5, .i32⟩
  | 21 => ⟨S_, .i32⟩
  | 22 => ⟨S4096x5, .i32⟩
  | 23 => ⟨S4096x5, .i32⟩
  | 24 => ⟨S_, .i32⟩
  | 25 => ⟨S4096x5, .i32⟩
  | 26 => ⟨S4096x5, .i32⟩
  | 27 => ⟨S4096x5, .i32⟩
  | 28 => ⟨S4096x5, .i32⟩
  | 29 => ⟨S4096x5, .i32⟩
  | 30 => ⟨S_, .i32⟩
  | 31 => ⟨S4096x5, .i32⟩
  | 32 => ⟨S4096x5, .i32⟩
  | 33 => ⟨S_, .i32⟩
  | 34 => ⟨S4096x5, .i32⟩
  | 35 => ⟨S4096x5, .i32⟩
  | 36 => ⟨S4096x5, .i32⟩
  | 37 => ⟨S4096x5, .i32⟩
  | 38 => ⟨S4096x5, .i32⟩
  | 39 => ⟨S_, .i32⟩
  | 40 => ⟨S4096x5, .i32⟩
  | 41 => ⟨S4096x5, .i32⟩
  | 42 => ⟨S_, .i32⟩
  | 43 => ⟨S4096x5, .i32⟩
  | 44 => ⟨S4096x5, .i32⟩
  | 45 => ⟨S4096x5, .i32⟩
  | 46 => ⟨S4096x5, .i32⟩
  | 47 => ⟨S4096x5, .i32⟩
  | 48 => ⟨S4096x5, .i32⟩
  | 49 => ⟨S4096x5, .i32⟩
  | 50 => ⟨S4096x5, .i32⟩
  | 51 => ⟨S_, .i32⟩
  | 52 => ⟨S4096x5, .i32⟩
  | 53 => ⟨S4096x5, .i32⟩
  | 54 => ⟨S4096x5, .i32⟩
  | 55 => ⟨S_, .i32⟩
  | 56 => ⟨S4096x5, .i32⟩
  | 57 => ⟨S4096x5, .i32⟩
  | 58 => ⟨S_, .i32⟩
  | 59 => ⟨S4096x5, .i32⟩
  | 60 => ⟨S4096x5, .i32⟩
  | 61 => ⟨S4096x5, .i32⟩
  | 62 => ⟨S4096x5, .i32⟩
  | 63 => ⟨S4096x5, .i32⟩
  | 64 => ⟨S_, .i32⟩
  | 65 => ⟨S4096x5, .i32⟩
  | 66 => ⟨S4096x5, .i32⟩
  | 67 => ⟨S_, .i32⟩
  | 68 => ⟨S4096x5, .i32⟩
  | 69 => ⟨S4096x5, .i32⟩
  | 70 => ⟨S4096x5, .i32⟩
  | 71 => ⟨S4096x5, .i32⟩
  | 72 => ⟨S4096x5, .i32⟩
  | 73 => ⟨S_, .i32⟩
  | 74 => ⟨S4096x5, .i32⟩
  | 75 => ⟨S4096x5, .i32⟩
  | 76 => ⟨S_, .i32⟩
  | 77 => ⟨S4096x5, .i32⟩
  | 78 => ⟨S4096x5, .i32⟩
  | 79 => ⟨S4096x5, .i32⟩
  | 80 => ⟨S4096x5, .i32⟩
  | 81 => ⟨S4096x5, .i32⟩
  | 82 => ⟨S_, .i32⟩
  | 83 => ⟨S4096x5, .i32⟩
  | 84 => ⟨S4096x5, .i32⟩
  | 85 => ⟨S_, .i32⟩
  | 86 => ⟨S4096x5, .i32⟩
  | 87 => ⟨S4096x5, .i32⟩
  | 88 => ⟨S4096x5, .i32⟩
  | 89 => ⟨S4096x5, .i32⟩
  | 90 => ⟨S4096x5, .i32⟩
  | 91 => ⟨S4096x5, .i32⟩
  | 92 => ⟨S4096x5, .i32⟩
  | 93 => ⟨S4096x5, .i32⟩
  | 94 => ⟨S_, .i32⟩
  | 95 => ⟨S4096x5, .i32⟩
  | 96 => ⟨S4096x5, .i32⟩
  | 97 => ⟨S4096x5, .i32⟩
  | 98 => ⟨S1x1, .i32⟩
  | 99 => ⟨S1x1, .i32⟩
  | 100 => ⟨S1x1, .i1⟩
  | 101 => ⟨S_, .i32⟩
  | 102 => ⟨S1x1, .i32⟩
  | 103 => ⟨S1x1, .i32⟩
  | 104 => ⟨S1x1, .i1⟩
  | 105 => ⟨S1x1, .i1⟩
  | 106 => ⟨S1x1, .i1⟩
  | 107 => ⟨S_, .i32⟩
  | 108 => ⟨S1x1, .i32⟩
  | 109 => ⟨S1x1, .i32⟩
  | 110 => ⟨S1x1, .i32⟩
  | 111 => ⟨S_, .i32⟩
  | 112 => ⟨S1x1, .i32⟩
  | 113 => ⟨S1x1, .i32⟩
  | 114 => ⟨S1x1, .i32⟩
  | 115 => ⟨S1x1, .i32⟩
  | 116 => ⟨S4096x5, .i32⟩
  | 117 => ⟨S4096x5, .i32⟩
  | 118 => ⟨S4096x5, .i32⟩
  | 119 => ⟨S4096x5, .i32⟩
  | 120 => ⟨S4096x5, .i32⟩
  | 121 => ⟨S4096x5, .i32⟩
  | 122 => ⟨S4096x5, .i32⟩
  | 123 => ⟨S4096x5, .i32⟩
  | 124 => ⟨S4096x5, .i32⟩
  | 125 => ⟨S4096x5, .i32⟩
  | 126 => ⟨S4096x5, .i32⟩
  | 127 => ⟨S4096x5, .i32⟩
  | _ => ⟨S4096x100000, .f32⟩

abbrev hbmTy0_8 (i : Nat) : BufTy := match i % 128 with
  | 0 => ⟨S_, .i32⟩
  | 1 => ⟨S4096x1, .i32⟩
  | 2 => ⟨S4096x1, .i1⟩
  | 3 => ⟨S_, .i32⟩
  | 4 => ⟨S4096x1, .i32⟩
  | 5 => ⟨S4096x1, .i32⟩
  | 6 => ⟨S4096x1, .i32⟩
  | 7 => ⟨S4096x1x1, .i32⟩
  | 8 => ⟨S1, .i32⟩
  | 9 => ⟨S_, .i32⟩
  | 10 => ⟨S4096x1x1, .i32⟩
  | 11 => ⟨S4096x1x1, .i1⟩
  | 12 => ⟨S1x1x1, .i32⟩
  | 13 => ⟨S4096x1x1, .i32⟩
  | 14 => ⟨S4096x1x1, .i1⟩
  | 15 => ⟨S4096x1x1, .i1⟩
  | 16 => ⟨S_, .i1⟩
  | 17 => ⟨S4096x1, .i1⟩
  | 18 => ⟨S4096x1, .f32⟩
  | 19 => ⟨S_, .f32⟩
  | 20 => ⟨S4096x1, .f32⟩
  | 21 => ⟨S4096x1, .f32⟩
  | 22 => ⟨S_, .i32⟩
  | 23 => ⟨S4096x5, .i32⟩
  | 24 => ⟨S4096x5, .i1⟩
  | 25 => ⟨S_, .i32⟩
  | 26 => ⟨S4096x5, .i32⟩
  | 27 => ⟨S4096x5, .i32⟩
  | 28 => ⟨S4096x5, .i32⟩
  | 29 => ⟨S4096x5x1, .i32⟩
  | 30 => ⟨S1, .i32⟩
  | 31 => ⟨S_, .i32⟩
  | 32 => ⟨S4096x5x1, .i32⟩
  | 33 => ⟨S4096x5x1, .i1⟩
  | 34 => ⟨S1x1x1, .i32⟩
  | 35 => ⟨S4096x5x1, .i32⟩
  | 36 => ⟨S4096x5x1, .i1⟩
  | 37 => ⟨S4096x5x1, .i1⟩
  | 38 => ⟨S_, .i1⟩
  | 39 => ⟨S4096x5, .i1⟩
  | 40 => ⟨S4096x5, .f32⟩
  | 41 => ⟨S_, .f32⟩
  | 42 => ⟨S4096x5, .f32⟩
  | 43 => ⟨S4096x5, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S_, .f32⟩
  | 50 => ⟨S4096x1, .f32⟩
  | 51 => ⟨S4096x1, .f32⟩
  | 52 => ⟨S4096x1, .f32⟩
  | 53 => ⟨S4096x5, .f32⟩
  | 54 => ⟨S4096x5, .f32⟩
  | 55 => ⟨S4096x5, .f32⟩
  | 56 => ⟨S_, .f32⟩
  | 57 => ⟨S4096x5, .f32⟩
  | 58 => ⟨S4096x5, .f32⟩
  | 59 => ⟨S_, .f32⟩
  | 60 => ⟨S4096x5, .f32⟩
  | 61 => ⟨S4096x5, .f32⟩
  | 62 => ⟨S4096x5, .f32⟩
  | 63 => ⟨S_, .f32⟩
  | 64 => ⟨S4096, .f32⟩
  | 65 => ⟨S1x4096, .f32⟩
  | 66 => ⟨S4096x4096, .f32⟩
  | 67 => ⟨S4096x4096, .f32⟩
  | 68 => ⟨S4096x4096, .f32⟩
  | 69 => ⟨S_, .f32⟩
  | 70 => ⟨S_, .f32⟩
  | 71 => ⟨S_, .f32⟩
  | 72 => ⟨S_, .f32⟩
  | 73 => ⟨S_, .f32⟩
  | _ => ⟨S4096x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S4096x100000, .f32⟩

abbrev bufTy : (tb : Table) → Fin (tcTables nBuf tb) → BufTy
  | .hbm, ⟨i, _⟩ => hbmTy i
  | _, _ => ⟨S4096x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_call0_v0 : Ref sig .tc := ⟨.hbm, 27, rfl⟩
abbrev main_call0_call0_c : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_c_0 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_c_1 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_call0_v12 : Ref sig .tc := ⟨.hbm, 42, rfl⟩
abbrev main_call0_call0_v13 : Ref sig .tc := ⟨.hbm, 43, rfl⟩
abbrev main_call0_call0_c_2 : Ref sig .tc := ⟨.hbm, 44, rfl⟩
abbrev main_call0_call0_v14 : Ref sig .tc := ⟨.hbm, 45, rfl⟩
abbrev main_call0_call0_v15 : Ref sig .tc := ⟨.hbm, 46, rfl⟩
abbrev main_call0_call0_c_3 : Ref sig .tc := ⟨.hbm, 47, rfl⟩
abbrev main_call0_call0_v16 : Ref sig .tc := ⟨.hbm, 48, rfl⟩
abbrev main_call0_call0_v17 : Ref sig .tc := ⟨.hbm, 49, rfl⟩
abbrev main_call0_call0_v18 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_c_4 : Ref sig .tc := ⟨.hbm, 53, rfl⟩
abbrev main_call0_call0_v21 : Ref sig .tc := ⟨.hbm, 54, rfl⟩
abbrev main_call0_call0_v22 : Ref sig .tc := ⟨.hbm, 55, rfl⟩
abbrev main_call0_call0_c_5 : Ref sig .tc := ⟨.hbm, 56, rfl⟩
abbrev main_call0_call0_v23 : Ref sig .tc := ⟨.hbm, 57, rfl⟩
abbrev main_call0_call0_v24 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_v27 : Ref sig .tc := ⟨.hbm, 61, rfl⟩
abbrev main_call0_call0_c_6 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_c_7 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_v32 : Ref sig .tc := ⟨.hbm, 68, rfl⟩
abbrev main_call0_call0_v33 : Ref sig .tc := ⟨.hbm, 69, rfl⟩
abbrev main_call0_call0_v34 : Ref sig .tc := ⟨.hbm, 70, rfl⟩
abbrev main_call0_call0_v35 : Ref sig .tc := ⟨.hbm, 71, rfl⟩
abbrev main_call0_call0_v36 : Ref sig .tc := ⟨.hbm, 72, rfl⟩
abbrev main_call0_call0_v37 : Ref sig .tc := ⟨.hbm, 73, rfl⟩
abbrev main_call0_call0_c_8 : Ref sig .tc := ⟨.hbm, 74, rfl⟩
abbrev main_call0_call0_v38 : Ref sig .tc := ⟨.hbm, 75, rfl⟩
abbrev main_call0_call0_v39 : Ref sig .tc := ⟨.hbm, 76, rfl⟩
abbrev main_call0_call0_v40 : Ref sig .tc := ⟨.hbm, 77, rfl⟩
abbrev main_call0_call0_c_9 : Ref sig .tc := ⟨.hbm, 78, rfl⟩
abbrev main_call0_call0_v41 : Ref sig .tc := ⟨.hbm, 79, rfl⟩
abbrev main_call0_call0_v42 : Ref sig .tc := ⟨.hbm, 80, rfl⟩
abbrev main_call0_call0_c_10 : Ref sig .tc := ⟨.hbm, 81, rfl⟩
abbrev main_call0_call0_v43 : Ref sig .tc := ⟨.hbm, 82, rfl⟩
abbrev main_call0_call0_v44 : Ref sig .tc := ⟨.hbm, 83, rfl⟩
abbrev main_call0_call0_v45 : Ref sig .tc := ⟨.hbm, 84, rfl⟩
abbrev main_call0_call0_v46 : Ref sig .tc := ⟨.hbm, 85, rfl⟩
abbrev main_call0_call0_v47 : Ref sig .tc := ⟨.hbm, 86, rfl⟩
abbrev main_call0_call0_c_11 : Ref sig .tc := ⟨.hbm, 87, rfl⟩
abbrev main_call0_call0_v48 : Ref sig .tc := ⟨.hbm, 88, rfl⟩
abbrev main_call0_call0_v49 : Ref sig .tc := ⟨.hbm, 89, rfl⟩
abbrev main_call0_call0_c_12 : Ref sig .tc := ⟨.hbm, 90, rfl⟩
abbrev main_call0_call0_v50 : Ref sig .tc := ⟨.hbm, 91, rfl⟩
abbrev main_call0_call0_v51 : Ref sig .tc := ⟨.hbm, 92, rfl⟩
abbrev main_call0_call0_v52 : Ref sig .tc := ⟨.hbm, 93, rfl⟩
abbrev main_call0_call0_v53 : Ref sig .tc := ⟨.hbm, 94, rfl⟩
abbrev main_call0_call0_v54 : Ref sig .tc := ⟨.hbm, 95, rfl⟩
abbrev main_call0_call0_c_13 : Ref sig .tc := ⟨.hbm, 96, rfl⟩
abbrev main_call0_call0_v55 : Ref sig .tc := ⟨.hbm, 97, rfl⟩
abbrev main_call0_call0_v56 : Ref sig .tc := ⟨.hbm, 98, rfl⟩
abbrev main_call0_call0_c_14 : Ref sig .tc := ⟨.hbm, 99, rfl⟩
abbrev main_call0_call0_v57 : Ref sig .tc := ⟨.hbm, 100, rfl⟩
abbrev main_call0_call0_v58 : Ref sig .tc := ⟨.hbm, 101, rfl⟩
abbrev main_call0_call0_v59 : Ref sig .tc := ⟨.hbm, 102, rfl⟩
abbrev main_call0_call0_v60 : Ref sig .tc := ⟨.hbm, 103, rfl⟩
abbrev main_call0_call0_v61 : Ref sig .tc := ⟨.hbm, 104, rfl⟩
abbrev main_call0_call0_c_15 : Ref sig .tc := ⟨.hbm, 105, rfl⟩
abbrev main_call0_call0_v62 : Ref sig .tc := ⟨.hbm, 106, rfl⟩
abbrev main_call0_call0_v63 : Ref sig .tc := ⟨.hbm, 107, rfl⟩
abbrev main_call0_call0_c_16 : Ref sig .tc := ⟨.hbm, 108, rfl⟩
abbrev main_call0_call0_v64 : Ref sig .tc := ⟨.hbm, 109, rfl⟩
abbrev main_call0_call0_v65 : Ref sig .tc := ⟨.hbm, 110, rfl⟩
abbrev main_call0_call0_v66 : Ref sig .tc := ⟨.hbm, 111, rfl⟩
abbrev main_call0_call0_v67 : Ref sig .tc := ⟨.hbm, 112, rfl⟩
abbrev main_call0_call0_v68 : Ref sig .tc := ⟨.hbm, 113, rfl⟩
abbrev main_call0_call0_v69 : Ref sig .tc := ⟨.hbm, 114, rfl⟩
abbrev main_call0_call0_v70 : Ref sig .tc := ⟨.hbm, 115, rfl⟩
abbrev main_call0_call0_v71 : Ref sig .tc := ⟨.hbm, 116, rfl⟩
abbrev main_call0_call0_c_17 : Ref sig .tc := ⟨.hbm, 117, rfl⟩
abbrev main_call0_call0_v72 : Ref sig .tc := ⟨.hbm, 118, rfl⟩
abbrev main_call0_call0_v73 : Ref sig .tc := ⟨.hbm, 119, rfl⟩
abbrev main_call0_call0_v74 : Ref sig .tc := ⟨.hbm, 120, rfl⟩
abbrev main_call0_call0_c_18 : Ref sig .tc := ⟨.hbm, 121, rfl⟩
abbrev main_call0_call0_v75 : Ref sig .tc := ⟨.hbm, 122, rfl⟩
abbrev main_call0_call0_v76 : Ref sig .tc := ⟨.hbm, 123, rfl⟩
abbrev main_call0_call0_c_19 : Ref sig .tc := ⟨.hbm, 124, rfl⟩
abbrev main_call0_call0_v77 : Ref sig .tc := ⟨.hbm, 125, rfl⟩
abbrev main_call0_call0_v78 : Ref sig .tc := ⟨.hbm, 126, rfl⟩
abbrev main_call0_call0_v79 : Ref sig .tc := ⟨.hbm, 127, rfl⟩
abbrev main_call0_call0_v80 : Ref sig .tc := ⟨.hbm, 128, rfl⟩
abbrev main_call0_call0_v81 : Ref sig .tc := ⟨.hbm, 129, rfl⟩
abbrev main_call0_call0_c_20 : Ref sig .tc := ⟨.hbm, 130, rfl⟩
abbrev main_call0_call0_v82 : Ref sig .tc := ⟨.hbm, 131, rfl⟩
abbrev main_call0_call0_v83 : Ref sig .tc := ⟨.hbm, 132, rfl⟩
abbrev main_call0_call0_c_21 : Ref sig .tc := ⟨.hbm, 133, rfl⟩
abbrev main_call0_call0_v84 : Ref sig .tc := ⟨.hbm, 134, rfl⟩
abbrev main_call0_call0_v85 : Ref sig .tc := ⟨.hbm, 135, rfl⟩
abbrev main_call0_call0_v86 : Ref sig .tc := ⟨.hbm, 136, rfl⟩
abbrev main_call0_call0_v87 : Ref sig .tc := ⟨.hbm, 137, rfl⟩
abbrev main_call0_call0_v88 : Ref sig .tc := ⟨.hbm, 138, rfl⟩
abbrev main_call0_call0_c_22 : Ref sig .tc := ⟨.hbm, 139, rfl⟩
abbrev main_call0_call0_v89 : Ref sig .tc := ⟨.hbm, 140, rfl⟩
abbrev main_call0_call0_v90 : Ref sig .tc := ⟨.hbm, 141, rfl⟩
abbrev main_call0_call0_c_23 : Ref sig .tc := ⟨.hbm, 142, rfl⟩
abbrev main_call0_call0_v91 : Ref sig .tc := ⟨.hbm, 143, rfl⟩
abbrev main_call0_call0_v92 : Ref sig .tc := ⟨.hbm, 144, rfl⟩
abbrev main_call0_call0_v93 : Ref sig .tc := ⟨.hbm, 145, rfl⟩
abbrev main_call0_call0_v94 : Ref sig .tc := ⟨.hbm, 146, rfl⟩
abbrev main_call0_call0_v95 : Ref sig .tc := ⟨.hbm, 147, rfl⟩
abbrev main_call0_call0_c_24 : Ref sig .tc := ⟨.hbm, 148, rfl⟩
abbrev main_call0_call0_v96 : Ref sig .tc := ⟨.hbm, 149, rfl⟩
abbrev main_call0_call0_v97 : Ref sig .tc := ⟨.hbm, 150, rfl⟩
abbrev main_call0_call0_c_25 : Ref sig .tc := ⟨.hbm, 151, rfl⟩
abbrev main_call0_call0_v98 : Ref sig .tc := ⟨.hbm, 152, rfl⟩
abbrev main_call0_call0_v99 : Ref sig .tc := ⟨.hbm, 153, rfl⟩
abbrev main_call0_call0_v100 : Ref sig .tc := ⟨.hbm, 154, rfl⟩
abbrev main_call0_call0_v101 : Ref sig .tc := ⟨.hbm, 155, rfl⟩
abbrev main_call0_call0_v102 : Ref sig .tc := ⟨.hbm, 156, rfl⟩
abbrev main_call0_call0_v103 : Ref sig .tc := ⟨.hbm, 157, rfl⟩
abbrev main_call0_call0_v104 : Ref sig .tc := ⟨.hbm, 158, rfl⟩
abbrev main_call0_call0_v105 : Ref sig .tc := ⟨.hbm, 159, rfl⟩
abbrev main_call0_call0_c_26 : Ref sig .tc := ⟨.hbm, 160, rfl⟩
abbrev main_call0_call0_v106 : Ref sig .tc := ⟨.hbm, 161, rfl⟩
abbrev main_call0_call0_v107 : Ref sig .tc := ⟨.hbm, 162, rfl⟩
abbrev main_call0_call0_v108 : Ref sig .tc := ⟨.hbm, 163, rfl⟩
abbrev main_call0_call0_c_27 : Ref sig .tc := ⟨.hbm, 164, rfl⟩
abbrev main_call0_call0_v109 : Ref sig .tc := ⟨.hbm, 165, rfl⟩
abbrev main_call0_call0_v110 : Ref sig .tc := ⟨.hbm, 166, rfl⟩
abbrev main_call0_call0_c_28 : Ref sig .tc := ⟨.hbm, 167, rfl⟩
abbrev main_call0_call0_v111 : Ref sig .tc := ⟨.hbm, 168, rfl⟩
abbrev main_call0_call0_v112 : Ref sig .tc := ⟨.hbm, 169, rfl⟩
abbrev main_call0_call0_v113 : Ref sig .tc := ⟨.hbm, 170, rfl⟩
abbrev main_call0_call0_v114 : Ref sig .tc := ⟨.hbm, 171, rfl⟩
abbrev main_call0_call0_v115 : Ref sig .tc := ⟨.hbm, 172, rfl⟩
abbrev main_call0_call0_c_29 : Ref sig .tc := ⟨.hbm, 173, rfl⟩
abbrev main_call0_call0_v116 : Ref sig .tc := ⟨.hbm, 174, rfl⟩
abbrev main_call0_call0_v117 : Ref sig .tc := ⟨.hbm, 175, rfl⟩
abbrev main_call0_call0_c_30 : Ref sig .tc := ⟨.hbm, 176, rfl⟩
abbrev main_call0_call0_v118 : Ref sig .tc := ⟨.hbm, 177, rfl⟩
abbrev main_call0_call0_v119 : Ref sig .tc := ⟨.hbm, 178, rfl⟩
abbrev main_call0_call0_v120 : Ref sig .tc := ⟨.hbm, 179, rfl⟩
abbrev main_call0_call0_v121 : Ref sig .tc := ⟨.hbm, 180, rfl⟩
abbrev main_call0_call0_v122 : Ref sig .tc := ⟨.hbm, 181, rfl⟩
abbrev main_call0_call0_c_31 : Ref sig .tc := ⟨.hbm, 182, rfl⟩
abbrev main_call0_call0_v123 : Ref sig .tc := ⟨.hbm, 183, rfl⟩
abbrev main_call0_call0_v124 : Ref sig .tc := ⟨.hbm, 184, rfl⟩
abbrev main_call0_call0_c_32 : Ref sig .tc := ⟨.hbm, 185, rfl⟩
abbrev main_call0_call0_v125 : Ref sig .tc := ⟨.hbm, 186, rfl⟩
abbrev main_call0_call0_v126 : Ref sig .tc := ⟨.hbm, 187, rfl⟩
abbrev main_call0_call0_v127 : Ref sig .tc := ⟨.hbm, 188, rfl⟩
abbrev main_call0_call0_v128 : Ref sig .tc := ⟨.hbm, 189, rfl⟩
abbrev main_call0_call0_v129 : Ref sig .tc := ⟨.hbm, 190, rfl⟩
abbrev main_call0_call0_c_33 : Ref sig .tc := ⟨.hbm, 191, rfl⟩
abbrev main_call0_call0_v130 : Ref sig .tc := ⟨.hbm, 192, rfl⟩
abbrev main_call0_call0_v131 : Ref sig .tc := ⟨.hbm, 193, rfl⟩
abbrev main_call0_call0_c_34 : Ref sig .tc := ⟨.hbm, 194, rfl⟩
abbrev main_call0_call0_v132 : Ref sig .tc := ⟨.hbm, 195, rfl⟩
abbrev main_call0_call0_v133 : Ref sig .tc := ⟨.hbm, 196, rfl⟩
abbrev main_call0_call0_v134 : Ref sig .tc := ⟨.hbm, 197, rfl⟩
abbrev main_call0_call0_v135 : Ref sig .tc := ⟨.hbm, 198, rfl⟩
abbrev main_call0_call0_v136 : Ref sig .tc := ⟨.hbm, 199, rfl⟩
abbrev main_call0_call0_v137 : Ref sig .tc := ⟨.hbm, 200, rfl⟩
abbrev main_call0_call0_v138 : Ref sig .tc := ⟨.hbm, 201, rfl⟩
abbrev main_call0_call0_v139 : Ref sig .tc := ⟨.hbm, 202, rfl⟩
abbrev main_call0_call0_c_35 : Ref sig .tc := ⟨.hbm, 203, rfl⟩
abbrev main_call0_call0_v140 : Ref sig .tc := ⟨.hbm, 204, rfl⟩
abbrev main_call0_call0_v141 : Ref sig .tc := ⟨.hbm, 205, rfl⟩
abbrev main_call0_call0_v142 : Ref sig .tc := ⟨.hbm, 206, rfl⟩
abbrev main_call0_call0_c_36 : Ref sig .tc := ⟨.hbm, 207, rfl⟩
abbrev main_call0_call0_v143 : Ref sig .tc := ⟨.hbm, 208, rfl⟩
abbrev main_call0_call0_v144 : Ref sig .tc := ⟨.hbm, 209, rfl⟩
abbrev main_call0_call0_c_37 : Ref sig .tc := ⟨.hbm, 210, rfl⟩
abbrev main_call0_call0_v145 : Ref sig .tc := ⟨.hbm, 211, rfl⟩
abbrev main_call0_call0_v146 : Ref sig .tc := ⟨.hbm, 212, rfl⟩
abbrev main_call0_call0_v147 : Ref sig .tc := ⟨.hbm, 213, rfl⟩
abbrev main_call0_call0_v148 : Ref sig .tc := ⟨.hbm, 214, rfl⟩
abbrev main_call0_call0_v149 : Ref sig .tc := ⟨.hbm, 215, rfl⟩
abbrev main_call0_call0_c_38 : Ref sig .tc := ⟨.hbm, 216, rfl⟩
abbrev main_call0_call0_v150 : Ref sig .tc := ⟨.hbm, 217, rfl⟩
abbrev main_call0_call0_v151 : Ref sig .tc := ⟨.hbm, 218, rfl⟩
abbrev main_call0_call0_c_39 : Ref sig .tc := ⟨.hbm, 219, rfl⟩
abbrev main_call0_call0_v152 : Ref sig .tc := ⟨.hbm, 220, rfl⟩
abbrev main_call0_call0_v153 : Ref sig .tc := ⟨.hbm, 221, rfl⟩
abbrev main_call0_call0_v154 : Ref sig .tc := ⟨.hbm, 222, rfl⟩
abbrev main_call0_call0_v155 : Ref sig .tc := ⟨.hbm, 223, rfl⟩
abbrev main_call0_call0_v156 : Ref sig .tc := ⟨.hbm, 224, rfl⟩
abbrev main_call0_call0_c_40 : Ref sig .tc := ⟨.hbm, 225, rfl⟩
abbrev main_call0_call0_v157 : Ref sig .tc := ⟨.hbm, 226, rfl⟩
abbrev main_call0_call0_v158 : Ref sig .tc := ⟨.hbm, 227, rfl⟩
abbrev main_call0_call0_c_41 : Ref sig .tc := ⟨.hbm, 228, rfl⟩
abbrev main_call0_call0_v159 : Ref sig .tc := ⟨.hbm, 229, rfl⟩
abbrev main_call0_call0_v160 : Ref sig .tc := ⟨.hbm, 230, rfl⟩
abbrev main_call0_call0_v161 : Ref sig .tc := ⟨.hbm, 231, rfl⟩
abbrev main_call0_call0_v162 : Ref sig .tc := ⟨.hbm, 232, rfl⟩
abbrev main_call0_call0_v163 : Ref sig .tc := ⟨.hbm, 233, rfl⟩
abbrev main_call0_call0_c_42 : Ref sig .tc := ⟨.hbm, 234, rfl⟩
abbrev main_call0_call0_v164 : Ref sig .tc := ⟨.hbm, 235, rfl⟩
abbrev main_call0_call0_v165 : Ref sig .tc := ⟨.hbm, 236, rfl⟩
abbrev main_call0_call0_c_43 : Ref sig .tc := ⟨.hbm, 237, rfl⟩
abbrev main_call0_call0_v166 : Ref sig .tc := ⟨.hbm, 238, rfl⟩
abbrev main_call0_call0_v167 : Ref sig .tc := ⟨.hbm, 239, rfl⟩
abbrev main_call0_call0_v168 : Ref sig .tc := ⟨.hbm, 240, rfl⟩
abbrev main_call0_call0_v169 : Ref sig .tc := ⟨.hbm, 241, rfl⟩
abbrev main_call0_call0_v170 : Ref sig .tc := ⟨.hbm, 242, rfl⟩
abbrev main_call0_v11_0 : Ref sig .tc := ⟨.hbm, 243, rfl⟩
abbrev main_call0_call0_v172 : Ref sig .tc := ⟨.hbm, 244, rfl⟩
abbrev main_call0_call0_v173 : Ref sig .tc := ⟨.hbm, 245, rfl⟩
abbrev main_call0_call0_c_44 : Ref sig .tc := ⟨.hbm, 246, rfl⟩
abbrev main_call0_call0_v174 : Ref sig .tc := ⟨.hbm, 247, rfl⟩
abbrev main_call0_v11_1 : Ref sig .tc := ⟨.hbm, 248, rfl⟩
abbrev main_v8 : Ref sig .tc := ⟨.hbm, 249, rfl⟩
abbrev main_c_3 : Ref sig .tc := ⟨.hbm, 250, rfl⟩
abbrev main_c_4 : Ref sig .tc := ⟨.hbm, 251, rfl⟩
abbrev main_call1_c : Ref sig .tc := ⟨.hbm, 252, rfl⟩
abbrev main_call1_c_0 : Ref sig .tc := ⟨.hbm, 253, rfl⟩
abbrev main_call1_c_1 : Ref sig .tc := ⟨.hbm, 254, rfl⟩
abbrev main_call1_call0_v0 : Ref sig .tc := ⟨.hbm, 255, rfl⟩
abbrev main_call1_v0 : Ref sig .tc := ⟨.hbm, 256, rfl⟩
abbrev main_call1_v1 : Ref sig .tc := ⟨.hbm, 257, rfl⟩
abbrev main_call1_c_2 : Ref sig .tc := ⟨.hbm, 258, rfl⟩
abbrev main_call1_c_3 : Ref sig .tc := ⟨.hbm, 259, rfl⟩
abbrev main_call1_call1_v0 : Ref sig .tc := ⟨.hbm, 260, rfl⟩
abbrev main_call1_v2 : Ref sig .tc := ⟨.hbm, 261, rfl⟩
abbrev main_call1_v3 : Ref sig .tc := ⟨.hbm, 262, rfl⟩
abbrev main_call1_c_4 : Ref sig .tc := ⟨.hbm, 263, rfl⟩
abbrev main_call1_c_5 : Ref sig .tc := ⟨.hbm, 264, rfl⟩
abbrev main_call1_call2_v0 : Ref sig .tc := ⟨.hbm, 265, rfl⟩
abbrev main_call1_v4 : Ref sig .tc := ⟨.hbm, 266, rfl⟩
abbrev main_call1_v5 : Ref sig .tc := ⟨.hbm, 267, rfl⟩
abbrev main_call1_v6 : Ref sig .tc := ⟨.hbm, 268, rfl⟩
abbrev main_call1_v7 : Ref sig .tc := ⟨.hbm, 269, rfl⟩
abbrev main_call1_call3_v0 : Ref sig .tc := ⟨.hbm, 270, rfl⟩
abbrev main_call1_call3_v1 : Ref sig .tc := ⟨.hbm, 271, rfl⟩
abbrev main_call1_call3_v2 : Ref sig .tc := ⟨.hbm, 272, rfl⟩
abbrev main_call1_call3_v3 : Ref sig .tc := ⟨.hbm, 273, rfl⟩
abbrev main_call1_call3_v4 : Ref sig .tc := ⟨.hbm, 274, rfl⟩
abbrev main_call1_call3_c : Ref sig .tc := ⟨.hbm, 275, rfl⟩
abbrev main_call1_call3_v5 : Ref sig .tc := ⟨.hbm, 276, rfl⟩
abbrev main_call1_call3_v6 : Ref sig .tc := ⟨.hbm, 277, rfl⟩
abbrev main_call1_call3_c_0 : Ref sig .tc := ⟨.hbm, 278, rfl⟩
abbrev main_call1_call3_v7 : Ref sig .tc := ⟨.hbm, 279, rfl⟩
abbrev main_call1_call3_v8 : Ref sig .tc := ⟨.hbm, 280, rfl⟩
abbrev main_call1_call3_v9 : Ref sig .tc := ⟨.hbm, 281, rfl⟩
abbrev main_call1_call3_v10 : Ref sig .tc := ⟨.hbm, 282, rfl⟩
abbrev main_call1_call3_call0_v0 : Ref sig .tc := ⟨.hbm, 283, rfl⟩
abbrev main_call1_call3_call0_c : Ref sig .tc := ⟨.hbm, 284, rfl⟩
abbrev main_call1_call3_call0_v1 : Ref sig .tc := ⟨.hbm, 285, rfl⟩
abbrev main_call1_call3_call0_v2 : Ref sig .tc := ⟨.hbm, 286, rfl⟩
abbrev main_call1_call3_call0_v3 : Ref sig .tc := ⟨.hbm, 287, rfl⟩
abbrev main_call1_call3_call0_v4 : Ref sig .tc := ⟨.hbm, 288, rfl⟩
abbrev main_call1_call3_call0_v5 : Ref sig .tc := ⟨.hbm, 289, rfl⟩
abbrev main_call1_call3_call0_v6 : Ref sig .tc := ⟨.hbm, 290, rfl⟩
abbrev main_call1_call3_call0_c_0 : Ref sig .tc := ⟨.hbm, 291, rfl⟩
abbrev main_call1_call3_call0_v7 : Ref sig .tc := ⟨.hbm, 292, rfl⟩
abbrev main_call1_call3_call0_v8 : Ref sig .tc := ⟨.hbm, 293, rfl⟩
abbrev main_call1_call3_call0_c_1 : Ref sig .tc := ⟨.hbm, 294, rfl⟩
abbrev main_call1_call3_call0_v9 : Ref sig .tc := ⟨.hbm, 295, rfl⟩
abbrev main_call1_call3_call0_v10 : Ref sig .tc := ⟨.hbm, 296, rfl⟩
abbrev main_call1_call3_call0_v11 : Ref sig .tc := ⟨.hbm, 297, rfl⟩
abbrev main_call1_call3_call0_v12 : Ref sig .tc := ⟨.hbm, 298, rfl⟩
abbrev main_call1_call3_call0_v13 : Ref sig .tc := ⟨.hbm, 299, rfl⟩
abbrev main_call1_call3_call0_c_2 : Ref sig .tc := ⟨.hbm, 300, rfl⟩
abbrev main_call1_call3_call0_v14 : Ref sig .tc := ⟨.hbm, 301, rfl⟩
abbrev main_call1_call3_call0_v15 : Ref sig .tc := ⟨.hbm, 302, rfl⟩
abbrev main_call1_call3_call0_c_3 : Ref sig .tc := ⟨.hbm, 303, rfl⟩
abbrev main_call1_call3_call0_v16 : Ref sig .tc := ⟨.hbm, 304, rfl⟩
abbrev main_call1_call3_call0_v17 : Ref sig .tc := ⟨.hbm, 305, rfl⟩
abbrev main_call1_call3_call0_v18 : Ref sig .tc := ⟨.hbm, 306, rfl⟩
abbrev main_call1_call3_call0_v19 : Ref sig .tc := ⟨.hbm, 307, rfl⟩
abbrev main_call1_call3_call0_v20 : Ref sig .tc := ⟨.hbm, 308, rfl⟩
abbrev main_call1_call3_call0_c_4 : Ref sig .tc := ⟨.hbm, 309, rfl⟩
abbrev main_call1_call3_call0_v21 : Ref sig .tc := ⟨.hbm, 310, rfl⟩
abbrev main_call1_call3_call0_v22 : Ref sig .tc := ⟨.hbm, 311, rfl⟩
abbrev main_call1_call3_call0_c_5 : Ref sig .tc := ⟨.hbm, 312, rfl⟩
abbrev main_call1_call3_call0_v23 : Ref sig .tc := ⟨.hbm, 313, rfl⟩
abbrev main_call1_call3_call0_v24 : Ref sig .tc := ⟨.hbm, 314, rfl⟩
abbrev main_call1_call3_call0_v25 : Ref sig .tc := ⟨.hbm, 315, rfl⟩
abbrev main_call1_call3_call0_v26 : Ref sig .tc := ⟨.hbm, 316, rfl⟩
abbrev main_call1_call3_call0_v27 : Ref sig .tc := ⟨.hbm, 317, rfl⟩
abbrev main_call1_call3_call0_c_6 : Ref sig .tc := ⟨.hbm, 318, rfl⟩
abbrev main_call1_call3_call0_v28 : Ref sig .tc := ⟨.hbm, 319, rfl⟩
abbrev main_call1_call3_call0_v29 : Ref sig .tc := ⟨.hbm, 320, rfl⟩
abbrev main_call1_call3_call0_c_7 : Ref sig .tc := ⟨.hbm, 321, rfl⟩
abbrev main_call1_call3_call0_v30 : Ref sig .tc := ⟨.hbm, 322, rfl⟩
abbrev main_call1_call3_call0_v31 : Ref sig .tc := ⟨.hbm, 323, rfl⟩
abbrev main_call1_call3_call0_v32 : Ref sig .tc := ⟨.hbm, 324, rfl⟩
abbrev main_call1_call3_call0_v33 : Ref sig .tc := ⟨.hbm, 325, rfl⟩
abbrev main_call1_call3_call0_v34 : Ref sig .tc := ⟨.hbm, 326, rfl⟩
abbrev main_call1_call3_call0_v35 : Ref sig .tc := ⟨.hbm, 327, rfl⟩
abbrev main_call1_call3_call0_v36 : Ref sig .tc := ⟨.hbm, 328, rfl⟩
abbrev main_call1_call3_call0_v37 : Ref sig .tc := ⟨.hbm, 329, rfl⟩
abbrev main_call1_call3_call0_c_8 : Ref sig .tc := ⟨.hbm, 330, rfl⟩
abbrev main_call1_call3_call0_v38 : Ref sig .tc := ⟨.hbm, 331, rfl⟩
abbrev main_call1_call3_call0_v39 : Ref sig .tc := ⟨.hbm, 332, rfl⟩
abbrev main_call1_call3_call0_v40 : Ref sig .tc := ⟨.hbm, 333, rfl⟩
abbrev main_call1_call3_call0_c_9 : Ref sig .tc := ⟨.hbm, 334, rfl⟩
abbrev main_call1_call3_call0_v41 : Ref sig .tc := ⟨.hbm, 335, rfl⟩
abbrev main_call1_call3_call0_v42 : Ref sig .tc := ⟨.hbm, 336, rfl⟩
abbrev main_call1_call3_call0_c_10 : Ref sig .tc := ⟨.hbm, 337, rfl⟩
abbrev main_call1_call3_call0_v43 : Ref sig .tc := ⟨.hbm, 338, rfl⟩
abbrev main_call1_call3_call0_v44 : Ref sig .tc := ⟨.hbm, 339, rfl⟩
abbrev main_call1_call3_call0_v45 : Ref sig .tc := ⟨.hbm, 340, rfl⟩
abbrev main_call1_call3_call0_v46 : Ref sig .tc := ⟨.hbm, 341, rfl⟩
abbrev main_call1_call3_call0_v47 : Ref sig .tc := ⟨.hbm, 342, rfl⟩
abbrev main_call1_call3_call0_c_11 : Ref sig .tc := ⟨.hbm, 343, rfl⟩
abbrev main_call1_call3_call0_v48 : Ref sig .tc := ⟨.hbm, 344, rfl⟩
abbrev main_call1_call3_call0_v49 : Ref sig .tc := ⟨.hbm, 345, rfl⟩
abbrev main_call1_call3_call0_c_12 : Ref sig .tc := ⟨.hbm, 346, rfl⟩
abbrev main_call1_call3_call0_v50 : Ref sig .tc := ⟨.hbm, 347, rfl⟩
abbrev main_call1_call3_call0_v51 : Ref sig .tc := ⟨.hbm, 348, rfl⟩
abbrev main_call1_call3_call0_v52 : Ref sig .tc := ⟨.hbm, 349, rfl⟩
abbrev main_call1_call3_call0_v53 : Ref sig .tc := ⟨.hbm, 350, rfl⟩
abbrev main_call1_call3_call0_v54 : Ref sig .tc := ⟨.hbm, 351, rfl⟩
abbrev main_call1_call3_call0_c_13 : Ref sig .tc := ⟨.hbm, 352, rfl⟩
abbrev main_call1_call3_call0_v55 : Ref sig .tc := ⟨.hbm, 353, rfl⟩
abbrev main_call1_call3_call0_v56 : Ref sig .tc := ⟨.hbm, 354, rfl⟩
abbrev main_call1_call3_call0_c_14 : Ref sig .tc := ⟨.hbm, 355, rfl⟩
abbrev main_call1_call3_call0_v57 : Ref sig .tc := ⟨.hbm, 356, rfl⟩
abbrev main_call1_call3_call0_v58 : Ref sig .tc := ⟨.hbm, 357, rfl⟩
abbrev main_call1_call3_call0_v59 : Ref sig .tc := ⟨.hbm, 358, rfl⟩
abbrev main_call1_call3_call0_v60 : Ref sig .tc := ⟨.hbm, 359, rfl⟩
abbrev main_call1_call3_call0_v61 : Ref sig .tc := ⟨.hbm, 360, rfl⟩
abbrev main_call1_call3_call0_c_15 : Ref sig .tc := ⟨.hbm, 361, rfl⟩
abbrev main_call1_call3_call0_v62 : Ref sig .tc := ⟨.hbm, 362, rfl⟩
abbrev main_call1_call3_call0_v63 : Ref sig .tc := ⟨.hbm, 363, rfl⟩
abbrev main_call1_call3_call0_c_16 : Ref sig .tc := ⟨.hbm, 364, rfl⟩
abbrev main_call1_call3_call0_v64 : Ref sig .tc := ⟨.hbm, 365, rfl⟩
abbrev main_call1_call3_call0_v65 : Ref sig .tc := ⟨.hbm, 366, rfl⟩
abbrev main_call1_call3_call0_v66 : Ref sig .tc := ⟨.hbm, 367, rfl⟩
abbrev main_call1_call3_call0_v67 : Ref sig .tc := ⟨.hbm, 368, rfl⟩
abbrev main_call1_call3_call0_v68 : Ref sig .tc := ⟨.hbm, 369, rfl⟩
abbrev main_call1_call3_call0_v69 : Ref sig .tc := ⟨.hbm, 370, rfl⟩
abbrev main_call1_call3_call0_v70 : Ref sig .tc := ⟨.hbm, 371, rfl⟩
abbrev main_call1_call3_call0_v71 : Ref sig .tc := ⟨.hbm, 372, rfl⟩
abbrev main_call1_call3_call0_c_17 : Ref sig .tc := ⟨.hbm, 373, rfl⟩
abbrev main_call1_call3_call0_v72 : Ref sig .tc := ⟨.hbm, 374, rfl⟩
abbrev main_call1_call3_call0_v73 : Ref sig .tc := ⟨.hbm, 375, rfl⟩
abbrev main_call1_call3_call0_v74 : Ref sig .tc := ⟨.hbm, 376, rfl⟩
abbrev main_call1_call3_call0_c_18 : Ref sig .tc := ⟨.hbm, 377, rfl⟩
abbrev main_call1_call3_call0_v75 : Ref sig .tc := ⟨.hbm, 378, rfl⟩
abbrev main_call1_call3_call0_v76 : Ref sig .tc := ⟨.hbm, 379, rfl⟩
abbrev main_call1_call3_call0_c_19 : Ref sig .tc := ⟨.hbm, 380, rfl⟩
abbrev main_call1_call3_call0_v77 : Ref sig .tc := ⟨.hbm, 381, rfl⟩
abbrev main_call1_call3_call0_v78 : Ref sig .tc := ⟨.hbm, 382, rfl⟩
abbrev main_call1_call3_call0_v79 : Ref sig .tc := ⟨.hbm, 383, rfl⟩
abbrev main_call1_call3_call0_v80 : Ref sig .tc := ⟨.hbm, 384, rfl⟩
abbrev main_call1_call3_call0_v81 : Ref sig .tc := ⟨.hbm, 385, rfl⟩
abbrev main_call1_call3_call0_c_20 : Ref sig .tc := ⟨.hbm, 386, rfl⟩
abbrev main_call1_call3_call0_v82 : Ref sig .tc := ⟨.hbm, 387, rfl⟩
abbrev main_call1_call3_call0_v83 : Ref sig .tc := ⟨.hbm, 388, rfl⟩
abbrev main_call1_call3_call0_c_21 : Ref sig .tc := ⟨.hbm, 389, rfl⟩
abbrev main_call1_call3_call0_v84 : Ref sig .tc := ⟨.hbm, 390, rfl⟩
abbrev main_call1_call3_call0_v85 : Ref sig .tc := ⟨.hbm, 391, rfl⟩
abbrev main_call1_call3_call0_v86 : Ref sig .tc := ⟨.hbm, 392, rfl⟩
abbrev main_call1_call3_call0_v87 : Ref sig .tc := ⟨.hbm, 393, rfl⟩
abbrev main_call1_call3_call0_v88 : Ref sig .tc := ⟨.hbm, 394, rfl⟩
abbrev main_call1_call3_call0_c_22 : Ref sig .tc := ⟨.hbm, 395, rfl⟩
abbrev main_call1_call3_call0_v89 : Ref sig .tc := ⟨.hbm, 396, rfl⟩
abbrev main_call1_call3_call0_v90 : Ref sig .tc := ⟨.hbm, 397, rfl⟩
abbrev main_call1_call3_call0_c_23 : Ref sig .tc := ⟨.hbm, 398, rfl⟩
abbrev main_call1_call3_call0_v91 : Ref sig .tc := ⟨.hbm, 399, rfl⟩
abbrev main_call1_call3_call0_v92 : Ref sig .tc := ⟨.hbm, 400, rfl⟩
abbrev main_call1_call3_call0_v93 : Ref sig .tc := ⟨.hbm, 401, rfl⟩
abbrev main_call1_call3_call0_v94 : Ref sig .tc := ⟨.hbm, 402, rfl⟩
abbrev main_call1_call3_call0_v95 : Ref sig .tc := ⟨.hbm, 403, rfl⟩
abbrev main_call1_call3_call0_c_24 : Ref sig .tc := ⟨.hbm, 404, rfl⟩
abbrev main_call1_call3_call0_v96 : Ref sig .tc := ⟨.hbm, 405, rfl⟩
abbrev main_call1_call3_call0_v97 : Ref sig .tc := ⟨.hbm, 406, rfl⟩
abbrev main_call1_call3_call0_c_25 : Ref sig .tc := ⟨.hbm, 407, rfl⟩
abbrev main_call1_call3_call0_v98 : Ref sig .tc := ⟨.hbm, 408, rfl⟩
abbrev main_call1_call3_call0_v99 : Ref sig .tc := ⟨.hbm, 409, rfl⟩
abbrev main_call1_call3_call0_v100 : Ref sig .tc := ⟨.hbm, 410, rfl⟩
abbrev main_call1_call3_call0_v101 : Ref sig .tc := ⟨.hbm, 411, rfl⟩
abbrev main_call1_call3_call0_v102 : Ref sig .tc := ⟨.hbm, 412, rfl⟩
abbrev main_call1_call3_call0_v103 : Ref sig .tc := ⟨.hbm, 413, rfl⟩
abbrev main_call1_call3_call0_v104 : Ref sig .tc := ⟨.hbm, 414, rfl⟩
abbrev main_call1_call3_call0_v105 : Ref sig .tc := ⟨.hbm, 415, rfl⟩
abbrev main_call1_call3_call0_c_26 : Ref sig .tc := ⟨.hbm, 416, rfl⟩
abbrev main_call1_call3_call0_v106 : Ref sig .tc := ⟨.hbm, 417, rfl⟩
abbrev main_call1_call3_call0_v107 : Ref sig .tc := ⟨.hbm, 418, rfl⟩
abbrev main_call1_call3_call0_v108 : Ref sig .tc := ⟨.hbm, 419, rfl⟩
abbrev main_call1_call3_call0_c_27 : Ref sig .tc := ⟨.hbm, 420, rfl⟩
abbrev main_call1_call3_call0_v109 : Ref sig .tc := ⟨.hbm, 421, rfl⟩
abbrev main_call1_call3_call0_v110 : Ref sig .tc := ⟨.hbm, 422, rfl⟩
abbrev main_call1_call3_call0_c_28 : Ref sig .tc := ⟨.hbm, 423, rfl⟩
abbrev main_call1_call3_call0_v111 : Ref sig .tc := ⟨.hbm, 424, rfl⟩
abbrev main_call1_call3_call0_v112 : Ref sig .tc := ⟨.hbm, 425, rfl⟩
abbrev main_call1_call3_call0_v113 : Ref sig .tc := ⟨.hbm, 426, rfl⟩
abbrev main_call1_call3_call0_v114 : Ref sig .tc := ⟨.hbm, 427, rfl⟩
abbrev main_call1_call3_call0_v115 : Ref sig .tc := ⟨.hbm, 428, rfl⟩
abbrev main_call1_call3_call0_c_29 : Ref sig .tc := ⟨.hbm, 429, rfl⟩
abbrev main_call1_call3_call0_v116 : Ref sig .tc := ⟨.hbm, 430, rfl⟩
abbrev main_call1_call3_call0_v117 : Ref sig .tc := ⟨.hbm, 431, rfl⟩
abbrev main_call1_call3_call0_c_30 : Ref sig .tc := ⟨.hbm, 432, rfl⟩
abbrev main_call1_call3_call0_v118 : Ref sig .tc := ⟨.hbm, 433, rfl⟩
abbrev main_call1_call3_call0_v119 : Ref sig .tc := ⟨.hbm, 434, rfl⟩
abbrev main_call1_call3_call0_v120 : Ref sig .tc := ⟨.hbm, 435, rfl⟩
abbrev main_call1_call3_call0_v121 : Ref sig .tc := ⟨.hbm, 436, rfl⟩
abbrev main_call1_call3_call0_v122 : Ref sig .tc := ⟨.hbm, 437, rfl⟩
abbrev main_call1_call3_call0_c_31 : Ref sig .tc := ⟨.hbm, 438, rfl⟩
abbrev main_call1_call3_call0_v123 : Ref sig .tc := ⟨.hbm, 439, rfl⟩
abbrev main_call1_call3_call0_v124 : Ref sig .tc := ⟨.hbm, 440, rfl⟩
abbrev main_call1_call3_call0_c_32 : Ref sig .tc := ⟨.hbm, 441, rfl⟩
abbrev main_call1_call3_call0_v125 : Ref sig .tc := ⟨.hbm, 442, rfl⟩
abbrev main_call1_call3_call0_v126 : Ref sig .tc := ⟨.hbm, 443, rfl⟩
abbrev main_call1_call3_call0_v127 : Ref sig .tc := ⟨.hbm, 444, rfl⟩
abbrev main_call1_call3_call0_v128 : Ref sig .tc := ⟨.hbm, 445, rfl⟩
abbrev main_call1_call3_call0_v129 : Ref sig .tc := ⟨.hbm, 446, rfl⟩
abbrev main_call1_call3_call0_c_33 : Ref sig .tc := ⟨.hbm, 447, rfl⟩
abbrev main_call1_call3_call0_v130 : Ref sig .tc := ⟨.hbm, 448, rfl⟩
abbrev main_call1_call3_call0_v131 : Ref sig .tc := ⟨.hbm, 449, rfl⟩
abbrev main_call1_call3_call0_c_34 : Ref sig .tc := ⟨.hbm, 450, rfl⟩
abbrev main_call1_call3_call0_v132 : Ref sig .tc := ⟨.hbm, 451, rfl⟩
abbrev main_call1_call3_call0_v133 : Ref sig .tc := ⟨.hbm, 452, rfl⟩
abbrev main_call1_call3_call0_v134 : Ref sig .tc := ⟨.hbm, 453, rfl⟩
abbrev main_call1_call3_call0_v135 : Ref sig .tc := ⟨.hbm, 454, rfl⟩
abbrev main_call1_call3_call0_v136 : Ref sig .tc := ⟨.hbm, 455, rfl⟩
abbrev main_call1_call3_call0_v137 : Ref sig .tc := ⟨.hbm, 456, rfl⟩
abbrev main_call1_call3_call0_v138 : Ref sig .tc := ⟨.hbm, 457, rfl⟩
abbrev main_call1_call3_call0_v139 : Ref sig .tc := ⟨.hbm, 458, rfl⟩
abbrev main_call1_call3_call0_c_35 : Ref sig .tc := ⟨.hbm, 459, rfl⟩
abbrev main_call1_call3_call0_v140 : Ref sig .tc := ⟨.hbm, 460, rfl⟩
abbrev main_call1_call3_call0_v141 : Ref sig .tc := ⟨.hbm, 461, rfl⟩
abbrev main_call1_call3_call0_v142 : Ref sig .tc := ⟨.hbm, 462, rfl⟩
abbrev main_call1_call3_call0_c_36 : Ref sig .tc := ⟨.hbm, 463, rfl⟩
abbrev main_call1_call3_call0_v143 : Ref sig .tc := ⟨.hbm, 464, rfl⟩
abbrev main_call1_call3_call0_v144 : Ref sig .tc := ⟨.hbm, 465, rfl⟩
abbrev main_call1_call3_call0_c_37 : Ref sig .tc := ⟨.hbm, 466, rfl⟩
abbrev main_call1_call3_call0_v145 : Ref sig .tc := ⟨.hbm, 467, rfl⟩
abbrev main_call1_call3_call0_v146 : Ref sig .tc := ⟨.hbm, 468, rfl⟩
abbrev main_call1_call3_call0_v147 : Ref sig .tc := ⟨.hbm, 469, rfl⟩
abbrev main_call1_call3_call0_v148 : Ref sig .tc := ⟨.hbm, 470, rfl⟩
abbrev main_call1_call3_call0_v149 : Ref sig .tc := ⟨.hbm, 471, rfl⟩
abbrev main_call1_call3_call0_c_38 : Ref sig .tc := ⟨.hbm, 472, rfl⟩
abbrev main_call1_call3_call0_v150 : Ref sig .tc := ⟨.hbm, 473, rfl⟩
abbrev main_call1_call3_call0_v151 : Ref sig .tc := ⟨.hbm, 474, rfl⟩
abbrev main_call1_call3_call0_c_39 : Ref sig .tc := ⟨.hbm, 475, rfl⟩
abbrev main_call1_call3_call0_v152 : Ref sig .tc := ⟨.hbm, 476, rfl⟩
abbrev main_call1_call3_call0_v153 : Ref sig .tc := ⟨.hbm, 477, rfl⟩
abbrev main_call1_call3_call0_v154 : Ref sig .tc := ⟨.hbm, 478, rfl⟩
abbrev main_call1_call3_call0_v155 : Ref sig .tc := ⟨.hbm, 479, rfl⟩
abbrev main_call1_call3_call0_v156 : Ref sig .tc := ⟨.hbm, 480, rfl⟩
abbrev main_call1_call3_call0_c_40 : Ref sig .tc := ⟨.hbm, 481, rfl⟩
abbrev main_call1_call3_call0_v157 : Ref sig .tc := ⟨.hbm, 482, rfl⟩
abbrev main_call1_call3_call0_v158 : Ref sig .tc := ⟨.hbm, 483, rfl⟩
abbrev main_call1_call3_call0_c_41 : Ref sig .tc := ⟨.hbm, 484, rfl⟩
abbrev main_call1_call3_call0_v159 : Ref sig .tc := ⟨.hbm, 485, rfl⟩
abbrev main_call1_call3_call0_v160 : Ref sig .tc := ⟨.hbm, 486, rfl⟩
abbrev main_call1_call3_call0_v161 : Ref sig .tc := ⟨.hbm, 487, rfl⟩
abbrev main_call1_call3_call0_v162 : Ref sig .tc := ⟨.hbm, 488, rfl⟩
abbrev main_call1_call3_call0_v163 : Ref sig .tc := ⟨.hbm, 489, rfl⟩
abbrev main_call1_call3_call0_c_42 : Ref sig .tc := ⟨.hbm, 490, rfl⟩
abbrev main_call1_call3_call0_v164 : Ref sig .tc := ⟨.hbm, 491, rfl⟩
abbrev main_call1_call3_call0_v165 : Ref sig .tc := ⟨.hbm, 492, rfl⟩
abbrev main_call1_call3_call0_c_43 : Ref sig .tc := ⟨.hbm, 493, rfl⟩
abbrev main_call1_call3_call0_v166 : Ref sig .tc := ⟨.hbm, 494, rfl⟩
abbrev main_call1_call3_call0_v167 : Ref sig .tc := ⟨.hbm, 495, rfl⟩
abbrev main_call1_call3_call0_v168 : Ref sig .tc := ⟨.hbm, 496, rfl⟩
abbrev main_call1_call3_call0_v169 : Ref sig .tc := ⟨.hbm, 497, rfl⟩
abbrev main_call1_call3_call0_v170 : Ref sig .tc := ⟨.hbm, 498, rfl⟩
abbrev main_call1_call3_v11_0 : Ref sig .tc := ⟨.hbm, 499, rfl⟩
abbrev main_call1_call3_call0_v172 : Ref sig .tc := ⟨.hbm, 500, rfl⟩
abbrev main_call1_call3_call0_v173 : Ref sig .tc := ⟨.hbm, 501, rfl⟩
abbrev main_call1_call3_call0_c_44 : Ref sig .tc := ⟨.hbm, 502, rfl⟩
abbrev main_call1_call3_call0_v174 : Ref sig .tc := ⟨.hbm, 503, rfl⟩
abbrev main_call1_call3_v11_1 : Ref sig .tc := ⟨.hbm, 504, rfl⟩
abbrev main_call1_call3_v12 : Ref sig .tc := ⟨.hbm, 505, rfl⟩
abbrev main_call1_call3_v13 : Ref sig .tc := ⟨.hbm, 506, rfl⟩
abbrev main_call1_v8 : Ref sig .tc := ⟨.hbm, 507, rfl⟩
abbrev main_call1_v9 : Ref sig .tc := ⟨.hbm, 508, rfl⟩
abbrev main_call1_v10 : Ref sig .tc := ⟨.hbm, 509, rfl⟩
abbrev main_call1_v11 : Ref sig .tc := ⟨.hbm, 510, rfl⟩
abbrev main_call1_v12 : Ref sig .tc := ⟨.hbm, 511, rfl⟩
abbrev main_call1_v13 : Ref sig .tc := ⟨.hbm, 512, rfl⟩
abbrev main_call1_v14 : Ref sig .tc := ⟨.hbm, 513, rfl⟩
abbrev main_call1_v15 : Ref sig .tc := ⟨.hbm, 514, rfl⟩
abbrev main_call1_v16 : Ref sig .tc := ⟨.hbm, 515, rfl⟩
abbrev main_call1_v17 : Ref sig .tc := ⟨.hbm, 516, rfl⟩
abbrev main_call1_v18 : Ref sig .tc := ⟨.hbm, 517, rfl⟩
abbrev main_call1_c_6 : Ref sig .tc := ⟨.hbm, 518, rfl⟩
abbrev main_call1_v19 : Ref sig .tc := ⟨.hbm, 519, rfl⟩
abbrev main_call1_v20 : Ref sig .tc := ⟨.hbm, 520, rfl⟩
abbrev main_call1_c_7 : Ref sig .tc := ⟨.hbm, 521, rfl⟩
abbrev main_call1_v21 : Ref sig .tc := ⟨.hbm, 522, rfl⟩
abbrev main_call1_v22 : Ref sig .tc := ⟨.hbm, 523, rfl⟩
abbrev main_call1_v23 : Ref sig .tc := ⟨.hbm, 524, rfl⟩
abbrev main_call1_c_8 : Ref sig .tc := ⟨.hbm, 525, rfl⟩
abbrev main_call1_v24 : Ref sig .tc := ⟨.hbm, 526, rfl⟩
abbrev main_call1_v25 : Ref sig .tc := ⟨.hbm, 527, rfl⟩
abbrev main_call1_v26 : Ref sig .tc := ⟨.hbm, 528, rfl⟩
abbrev main_call1_v27 : Ref sig .tc := ⟨.hbm, 529, rfl⟩
abbrev main_call1_call4_v0 : Ref sig .tc := ⟨.hbm, 530, rfl⟩
abbrev main_call1_call4_c : Ref sig .tc := ⟨.hbm, 531, rfl⟩
abbrev main_call1_call4_v1 : Ref sig .tc := ⟨.hbm, 532, rfl⟩
abbrev main_call1_call4_v2 : Ref sig .tc := ⟨.hbm, 533, rfl⟩
abbrev main_call1_call4_v3 : Ref sig .tc := ⟨.hbm, 534, rfl⟩
abbrev main_call1_call4_v4 : Ref sig .tc := ⟨.hbm, 535, rfl⟩
abbrev main_call1_call4_v5 : Ref sig .tc := ⟨.hbm, 536, rfl⟩
abbrev main_call1_call4_v6 : Ref sig .tc := ⟨.hbm, 537, rfl⟩
abbrev main_call1_call4_c_0 : Ref sig .tc := ⟨.hbm, 538, rfl⟩
abbrev main_call1_call4_v7 : Ref sig .tc := ⟨.hbm, 539, rfl⟩
abbrev main_call1_call4_v8 : Ref sig .tc := ⟨.hbm, 540, rfl⟩
abbrev main_call1_call4_c_1 : Ref sig .tc := ⟨.hbm, 541, rfl⟩
abbrev main_call1_call4_v9 : Ref sig .tc := ⟨.hbm, 542, rfl⟩
abbrev main_call1_call4_v10 : Ref sig .tc := ⟨.hbm, 543, rfl⟩
abbrev main_call1_call4_v11 : Ref sig .tc := ⟨.hbm, 544, rfl⟩
abbrev main_call1_call4_v12 : Ref sig .tc := ⟨.hbm, 545, rfl⟩
abbrev main_call1_call4_v13 : Ref sig .tc := ⟨.hbm, 546, rfl⟩
abbrev main_call1_call4_c_2 : Ref sig .tc := ⟨.hbm, 547, rfl⟩
abbrev main_call1_call4_v14 : Ref sig .tc := ⟨.hbm, 548, rfl⟩
abbrev main_call1_call4_v15 : Ref sig .tc := ⟨.hbm, 549, rfl⟩
abbrev main_call1_call4_c_3 : Ref sig .tc := ⟨.hbm, 550, rfl⟩
abbrev main_call1_call4_v16 : Ref sig .tc := ⟨.hbm, 551, rfl⟩
abbrev main_call1_call4_v17 : Ref sig .tc := ⟨.hbm, 552, rfl⟩
abbrev main_call1_call4_v18 : Ref sig .tc := ⟨.hbm, 553, rfl⟩
abbrev main_call1_call4_v19 : Ref sig .tc := ⟨.hbm, 554, rfl⟩
abbrev main_call1_call4_v20 : Ref sig .tc := ⟨.hbm, 555, rfl⟩
abbrev main_call1_call4_c_4 : Ref sig .tc := ⟨.hbm, 556, rfl⟩
abbrev main_call1_call4_v21 : Ref sig .tc := ⟨.hbm, 557, rfl⟩
abbrev main_call1_call4_v22 : Ref sig .tc := ⟨.hbm, 558, rfl⟩
abbrev main_call1_call4_c_5 : Ref sig .tc := ⟨.hbm, 559, rfl⟩
abbrev main_call1_call4_v23 : Ref sig .tc := ⟨.hbm, 560, rfl⟩
abbrev main_call1_call4_v24 : Ref sig .tc := ⟨.hbm, 561, rfl⟩
abbrev main_call1_call4_v25 : Ref sig .tc := ⟨.hbm, 562, rfl⟩
abbrev main_call1_call4_v26 : Ref sig .tc := ⟨.hbm, 563, rfl⟩
abbrev main_call1_call4_v27 : Ref sig .tc := ⟨.hbm, 564, rfl⟩
abbrev main_call1_call4_c_6 : Ref sig .tc := ⟨.hbm, 565, rfl⟩
abbrev main_call1_call4_v28 : Ref sig .tc := ⟨.hbm, 566, rfl⟩
abbrev main_call1_call4_v29 : Ref sig .tc := ⟨.hbm, 567, rfl⟩
abbrev main_call1_call4_c_7 : Ref sig .tc := ⟨.hbm, 568, rfl⟩
abbrev main_call1_call4_v30 : Ref sig .tc := ⟨.hbm, 569, rfl⟩
abbrev main_call1_call4_v31 : Ref sig .tc := ⟨.hbm, 570, rfl⟩
abbrev main_call1_call4_v32 : Ref sig .tc := ⟨.hbm, 571, rfl⟩
abbrev main_call1_call4_v33 : Ref sig .tc := ⟨.hbm, 572, rfl⟩
abbrev main_call1_call4_v34 : Ref sig .tc := ⟨.hbm, 573, rfl⟩
abbrev main_call1_call4_v35 : Ref sig .tc := ⟨.hbm, 574, rfl⟩
abbrev main_call1_call4_v36 : Ref sig .tc := ⟨.hbm, 575, rfl⟩
abbrev main_call1_call4_v37 : Ref sig .tc := ⟨.hbm, 576, rfl⟩
abbrev main_call1_call4_c_8 : Ref sig .tc := ⟨.hbm, 577, rfl⟩
abbrev main_call1_call4_v38 : Ref sig .tc := ⟨.hbm, 578, rfl⟩
abbrev main_call1_call4_v39 : Ref sig .tc := ⟨.hbm, 579, rfl⟩
abbrev main_call1_call4_v40 : Ref sig .tc := ⟨.hbm, 580, rfl⟩
abbrev main_call1_call4_c_9 : Ref sig .tc := ⟨.hbm, 581, rfl⟩
abbrev main_call1_call4_v41 : Ref sig .tc := ⟨.hbm, 582, rfl⟩
abbrev main_call1_call4_v42 : Ref sig .tc := ⟨.hbm, 583, rfl⟩
abbrev main_call1_call4_c_10 : Ref sig .tc := ⟨.hbm, 584, rfl⟩
abbrev main_call1_call4_v43 : Ref sig .tc := ⟨.hbm, 585, rfl⟩
abbrev main_call1_call4_v44 : Ref sig .tc := ⟨.hbm, 586, rfl⟩
abbrev main_call1_call4_v45 : Ref sig .tc := ⟨.hbm, 587, rfl⟩
abbrev main_call1_call4_v46 : Ref sig .tc := ⟨.hbm, 588, rfl⟩
abbrev main_call1_call4_v47 : Ref sig .tc := ⟨.hbm, 589, rfl⟩
abbrev main_call1_call4_c_11 : Ref sig .tc := ⟨.hbm, 590, rfl⟩
abbrev main_call1_call4_v48 : Ref sig .tc := ⟨.hbm, 591, rfl⟩
abbrev main_call1_call4_v49 : Ref sig .tc := ⟨.hbm, 592, rfl⟩
abbrev main_call1_call4_c_12 : Ref sig .tc := ⟨.hbm, 593, rfl⟩
abbrev main_call1_call4_v50 : Ref sig .tc := ⟨.hbm, 594, rfl⟩
abbrev main_call1_call4_v51 : Ref sig .tc := ⟨.hbm, 595, rfl⟩
abbrev main_call1_call4_v52 : Ref sig .tc := ⟨.hbm, 596, rfl⟩
abbrev main_call1_call4_v53 : Ref sig .tc := ⟨.hbm, 597, rfl⟩
abbrev main_call1_call4_v54 : Ref sig .tc := ⟨.hbm, 598, rfl⟩
abbrev main_call1_call4_c_13 : Ref sig .tc := ⟨.hbm, 599, rfl⟩
abbrev main_call1_call4_v55 : Ref sig .tc := ⟨.hbm, 600, rfl⟩
abbrev main_call1_call4_v56 : Ref sig .tc := ⟨.hbm, 601, rfl⟩
abbrev main_call1_call4_c_14 : Ref sig .tc := ⟨.hbm, 602, rfl⟩
abbrev main_call1_call4_v57 : Ref sig .tc := ⟨.hbm, 603, rfl⟩
abbrev main_call1_call4_v58 : Ref sig .tc := ⟨.hbm, 604, rfl⟩
abbrev main_call1_call4_v59 : Ref sig .tc := ⟨.hbm, 605, rfl⟩
abbrev main_call1_call4_v60 : Ref sig .tc := ⟨.hbm, 606, rfl⟩
abbrev main_call1_call4_v61 : Ref sig .tc := ⟨.hbm, 607, rfl⟩
abbrev main_call1_call4_c_15 : Ref sig .tc := ⟨.hbm, 608, rfl⟩
abbrev main_call1_call4_v62 : Ref sig .tc := ⟨.hbm, 609, rfl⟩
abbrev main_call1_call4_v63 : Ref sig .tc := ⟨.hbm, 610, rfl⟩
abbrev main_call1_call4_c_16 : Ref sig .tc := ⟨.hbm, 611, rfl⟩
abbrev main_call1_call4_v64 : Ref sig .tc := ⟨.hbm, 612, rfl⟩
abbrev main_call1_call4_v65 : Ref sig .tc := ⟨.hbm, 613, rfl⟩
abbrev main_call1_call4_v66 : Ref sig .tc := ⟨.hbm, 614, rfl⟩
abbrev main_call1_call4_v67 : Ref sig .tc := ⟨.hbm, 615, rfl⟩
abbrev main_call1_call4_v68 : Ref sig .tc := ⟨.hbm, 616, rfl⟩
abbrev main_call1_call4_v69 : Ref sig .tc := ⟨.hbm, 617, rfl⟩
abbrev main_call1_call4_v70 : Ref sig .tc := ⟨.hbm, 618, rfl⟩
abbrev main_call1_call4_v71 : Ref sig .tc := ⟨.hbm, 619, rfl⟩
abbrev main_call1_call4_c_17 : Ref sig .tc := ⟨.hbm, 620, rfl⟩
abbrev main_call1_call4_v72 : Ref sig .tc := ⟨.hbm, 621, rfl⟩
abbrev main_call1_call4_v73 : Ref sig .tc := ⟨.hbm, 622, rfl⟩
abbrev main_call1_call4_v74 : Ref sig .tc := ⟨.hbm, 623, rfl⟩
abbrev main_call1_call4_c_18 : Ref sig .tc := ⟨.hbm, 624, rfl⟩
abbrev main_call1_call4_v75 : Ref sig .tc := ⟨.hbm, 625, rfl⟩
abbrev main_call1_call4_v76 : Ref sig .tc := ⟨.hbm, 626, rfl⟩
abbrev main_call1_call4_c_19 : Ref sig .tc := ⟨.hbm, 627, rfl⟩
abbrev main_call1_call4_v77 : Ref sig .tc := ⟨.hbm, 628, rfl⟩
abbrev main_call1_call4_v78 : Ref sig .tc := ⟨.hbm, 629, rfl⟩
abbrev main_call1_call4_v79 : Ref sig .tc := ⟨.hbm, 630, rfl⟩
abbrev main_call1_call4_v80 : Ref sig .tc := ⟨.hbm, 631, rfl⟩
abbrev main_call1_call4_v81 : Ref sig .tc := ⟨.hbm, 632, rfl⟩
abbrev main_call1_call4_c_20 : Ref sig .tc := ⟨.hbm, 633, rfl⟩
abbrev main_call1_call4_v82 : Ref sig .tc := ⟨.hbm, 634, rfl⟩
abbrev main_call1_call4_v83 : Ref sig .tc := ⟨.hbm, 635, rfl⟩
abbrev main_call1_call4_c_21 : Ref sig .tc := ⟨.hbm, 636, rfl⟩
abbrev main_call1_call4_v84 : Ref sig .tc := ⟨.hbm, 637, rfl⟩
abbrev main_call1_call4_v85 : Ref sig .tc := ⟨.hbm, 638, rfl⟩
abbrev main_call1_call4_v86 : Ref sig .tc := ⟨.hbm, 639, rfl⟩
abbrev main_call1_call4_v87 : Ref sig .tc := ⟨.hbm, 640, rfl⟩
abbrev main_call1_call4_v88 : Ref sig .tc := ⟨.hbm, 641, rfl⟩
abbrev main_call1_call4_c_22 : Ref sig .tc := ⟨.hbm, 642, rfl⟩
abbrev main_call1_call4_v89 : Ref sig .tc := ⟨.hbm, 643, rfl⟩
abbrev main_call1_call4_v90 : Ref sig .tc := ⟨.hbm, 644, rfl⟩
abbrev main_call1_call4_c_23 : Ref sig .tc := ⟨.hbm, 645, rfl⟩
abbrev main_call1_call4_v91 : Ref sig .tc := ⟨.hbm, 646, rfl⟩
abbrev main_call1_call4_v92 : Ref sig .tc := ⟨.hbm, 647, rfl⟩
abbrev main_call1_call4_v93 : Ref sig .tc := ⟨.hbm, 648, rfl⟩
abbrev main_call1_call4_v94 : Ref sig .tc := ⟨.hbm, 649, rfl⟩
abbrev main_call1_call4_v95 : Ref sig .tc := ⟨.hbm, 650, rfl⟩
abbrev main_call1_call4_c_24 : Ref sig .tc := ⟨.hbm, 651, rfl⟩
abbrev main_call1_call4_v96 : Ref sig .tc := ⟨.hbm, 652, rfl⟩
abbrev main_call1_call4_v97 : Ref sig .tc := ⟨.hbm, 653, rfl⟩
abbrev main_call1_call4_c_25 : Ref sig .tc := ⟨.hbm, 654, rfl⟩
abbrev main_call1_call4_v98 : Ref sig .tc := ⟨.hbm, 655, rfl⟩
abbrev main_call1_call4_v99 : Ref sig .tc := ⟨.hbm, 656, rfl⟩
abbrev main_call1_call4_v100 : Ref sig .tc := ⟨.hbm, 657, rfl⟩
abbrev main_call1_call4_v101 : Ref sig .tc := ⟨.hbm, 658, rfl⟩
abbrev main_call1_call4_v102 : Ref sig .tc := ⟨.hbm, 659, rfl⟩
abbrev main_call1_call4_v103 : Ref sig .tc := ⟨.hbm, 660, rfl⟩
abbrev main_call1_call4_v104 : Ref sig .tc := ⟨.hbm, 661, rfl⟩
abbrev main_call1_call4_v105 : Ref sig .tc := ⟨.hbm, 662, rfl⟩
abbrev main_call1_call4_c_26 : Ref sig .tc := ⟨.hbm, 663, rfl⟩
abbrev main_call1_call4_v106 : Ref sig .tc := ⟨.hbm, 664, rfl⟩
abbrev main_call1_call4_v107 : Ref sig .tc := ⟨.hbm, 665, rfl⟩
abbrev main_call1_call4_v108 : Ref sig .tc := ⟨.hbm, 666, rfl⟩
abbrev main_call1_call4_c_27 : Ref sig .tc := ⟨.hbm, 667, rfl⟩
abbrev main_call1_call4_v109 : Ref sig .tc := ⟨.hbm, 668, rfl⟩
abbrev main_call1_call4_v110 : Ref sig .tc := ⟨.hbm, 669, rfl⟩
abbrev main_call1_call4_c_28 : Ref sig .tc := ⟨.hbm, 670, rfl⟩
abbrev main_call1_call4_v111 : Ref sig .tc := ⟨.hbm, 671, rfl⟩
abbrev main_call1_call4_v112 : Ref sig .tc := ⟨.hbm, 672, rfl⟩
abbrev main_call1_call4_v113 : Ref sig .tc := ⟨.hbm, 673, rfl⟩
abbrev main_call1_call4_v114 : Ref sig .tc := ⟨.hbm, 674, rfl⟩
abbrev main_call1_call4_v115 : Ref sig .tc := ⟨.hbm, 675, rfl⟩
abbrev main_call1_call4_c_29 : Ref sig .tc := ⟨.hbm, 676, rfl⟩
abbrev main_call1_call4_v116 : Ref sig .tc := ⟨.hbm, 677, rfl⟩
abbrev main_call1_call4_v117 : Ref sig .tc := ⟨.hbm, 678, rfl⟩
abbrev main_call1_call4_c_30 : Ref sig .tc := ⟨.hbm, 679, rfl⟩
abbrev main_call1_call4_v118 : Ref sig .tc := ⟨.hbm, 680, rfl⟩
abbrev main_call1_call4_v119 : Ref sig .tc := ⟨.hbm, 681, rfl⟩
abbrev main_call1_call4_v120 : Ref sig .tc := ⟨.hbm, 682, rfl⟩
abbrev main_call1_call4_v121 : Ref sig .tc := ⟨.hbm, 683, rfl⟩
abbrev main_call1_call4_v122 : Ref sig .tc := ⟨.hbm, 684, rfl⟩
abbrev main_call1_call4_c_31 : Ref sig .tc := ⟨.hbm, 685, rfl⟩
abbrev main_call1_call4_v123 : Ref sig .tc := ⟨.hbm, 686, rfl⟩
abbrev main_call1_call4_v124 : Ref sig .tc := ⟨.hbm, 687, rfl⟩
abbrev main_call1_call4_c_32 : Ref sig .tc := ⟨.hbm, 688, rfl⟩
abbrev main_call1_call4_v125 : Ref sig .tc := ⟨.hbm, 689, rfl⟩
abbrev main_call1_call4_v126 : Ref sig .tc := ⟨.hbm, 690, rfl⟩
abbrev main_call1_call4_v127 : Ref sig .tc := ⟨.hbm, 691, rfl⟩
abbrev main_call1_call4_v128 : Ref sig .tc := ⟨.hbm, 692, rfl⟩
abbrev main_call1_call4_v129 : Ref sig .tc := ⟨.hbm, 693, rfl⟩
abbrev main_call1_call4_c_33 : Ref sig .tc := ⟨.hbm, 694, rfl⟩
abbrev main_call1_call4_v130 : Ref sig .tc := ⟨.hbm, 695, rfl⟩
abbrev main_call1_call4_v131 : Ref sig .tc := ⟨.hbm, 696, rfl⟩
abbrev main_call1_call4_c_34 : Ref sig .tc := ⟨.hbm, 697, rfl⟩
abbrev main_call1_call4_v132 : Ref sig .tc := ⟨.hbm, 698, rfl⟩
abbrev main_call1_call4_v133 : Ref sig .tc := ⟨.hbm, 699, rfl⟩
abbrev main_call1_call4_v134 : Ref sig .tc := ⟨.hbm, 700, rfl⟩
abbrev main_call1_call4_v135 : Ref sig .tc := ⟨.hbm, 701, rfl⟩
abbrev main_call1_call4_v136 : Ref sig .tc := ⟨.hbm, 702, rfl⟩
abbrev main_call1_call4_v137 : Ref sig .tc := ⟨.hbm, 703, rfl⟩
abbrev main_call1_call4_v138 : Ref sig .tc := ⟨.hbm, 704, rfl⟩
abbrev main_call1_call4_v139 : Ref sig .tc := ⟨.hbm, 705, rfl⟩
abbrev main_call1_call4_c_35 : Ref sig .tc := ⟨.hbm, 706, rfl⟩
abbrev main_call1_call4_v140 : Ref sig .tc := ⟨.hbm, 707, rfl⟩
abbrev main_call1_call4_v141 : Ref sig .tc := ⟨.hbm, 708, rfl⟩
abbrev main_call1_call4_v142 : Ref sig .tc := ⟨.hbm, 709, rfl⟩
abbrev main_call1_call4_c_36 : Ref sig .tc := ⟨.hbm, 710, rfl⟩
abbrev main_call1_call4_v143 : Ref sig .tc := ⟨.hbm, 711, rfl⟩
abbrev main_call1_call4_v144 : Ref sig .tc := ⟨.hbm, 712, rfl⟩
abbrev main_call1_call4_c_37 : Ref sig .tc := ⟨.hbm, 713, rfl⟩
abbrev main_call1_call4_v145 : Ref sig .tc := ⟨.hbm, 714, rfl⟩
abbrev main_call1_call4_v146 : Ref sig .tc := ⟨.hbm, 715, rfl⟩
abbrev main_call1_call4_v147 : Ref sig .tc := ⟨.hbm, 716, rfl⟩
abbrev main_call1_call4_v148 : Ref sig .tc := ⟨.hbm, 717, rfl⟩
abbrev main_call1_call4_v149 : Ref sig .tc := ⟨.hbm, 718, rfl⟩
abbrev main_call1_call4_c_38 : Ref sig .tc := ⟨.hbm, 719, rfl⟩
abbrev main_call1_call4_v150 : Ref sig .tc := ⟨.hbm, 720, rfl⟩
abbrev main_call1_call4_v151 : Ref sig .tc := ⟨.hbm, 721, rfl⟩
abbrev main_call1_call4_c_39 : Ref sig .tc := ⟨.hbm, 722, rfl⟩
abbrev main_call1_call4_v152 : Ref sig .tc := ⟨.hbm, 723, rfl⟩
abbrev main_call1_call4_v153 : Ref sig .tc := ⟨.hbm, 724, rfl⟩
abbrev main_call1_call4_v154 : Ref sig .tc := ⟨.hbm, 725, rfl⟩
abbrev main_call1_call4_v155 : Ref sig .tc := ⟨.hbm, 726, rfl⟩
abbrev main_call1_call4_v156 : Ref sig .tc := ⟨.hbm, 727, rfl⟩
abbrev main_call1_call4_c_40 : Ref sig .tc := ⟨.hbm, 728, rfl⟩
abbrev main_call1_call4_v157 : Ref sig .tc := ⟨.hbm, 729, rfl⟩
abbrev main_call1_call4_v158 : Ref sig .tc := ⟨.hbm, 730, rfl⟩
abbrev main_call1_call4_c_41 : Ref sig .tc := ⟨.hbm, 731, rfl⟩
abbrev main_call1_call4_v159 : Ref sig .tc := ⟨.hbm, 732, rfl⟩
abbrev main_call1_call4_v160 : Ref sig .tc := ⟨.hbm, 733, rfl⟩
abbrev main_call1_call4_v161 : Ref sig .tc := ⟨.hbm, 734, rfl⟩
abbrev main_call1_call4_v162 : Ref sig .tc := ⟨.hbm, 735, rfl⟩
abbrev main_call1_call4_v163 : Ref sig .tc := ⟨.hbm, 736, rfl⟩
abbrev main_call1_call4_c_42 : Ref sig .tc := ⟨.hbm, 737, rfl⟩
abbrev main_call1_call4_v164 : Ref sig .tc := ⟨.hbm, 738, rfl⟩
abbrev main_call1_call4_v165 : Ref sig .tc := ⟨.hbm, 739, rfl⟩
abbrev main_call1_call4_c_43 : Ref sig .tc := ⟨.hbm, 740, rfl⟩
abbrev main_call1_call4_v166 : Ref sig .tc := ⟨.hbm, 741, rfl⟩
abbrev main_call1_call4_v167 : Ref sig .tc := ⟨.hbm, 742, rfl⟩
abbrev main_call1_call4_v168 : Ref sig .tc := ⟨.hbm, 743, rfl⟩
abbrev main_call1_call4_v169 : Ref sig .tc := ⟨.hbm, 744, rfl⟩
abbrev main_call1_call4_v170 : Ref sig .tc := ⟨.hbm, 745, rfl⟩
abbrev main_call1_v28_0 : Ref sig .tc := ⟨.hbm, 746, rfl⟩
abbrev main_call1_call4_v172 : Ref sig .tc := ⟨.hbm, 747, rfl⟩
abbrev main_call1_call4_v173 : Ref sig .tc := ⟨.hbm, 748, rfl⟩
abbrev main_call1_call4_c_44 : Ref sig .tc := ⟨.hbm, 749, rfl⟩
abbrev main_call1_call4_v174 : Ref sig .tc := ⟨.hbm, 750, rfl⟩
abbrev main_call1_v28_1 : Ref sig .tc := ⟨.hbm, 751, rfl⟩
abbrev main_call1_v29 : Ref sig .tc := ⟨.hbm, 752, rfl⟩
abbrev main_call1_v30 : Ref sig .tc := ⟨.hbm, 753, rfl⟩
abbrev main_call1_v31 : Ref sig .tc := ⟨.hbm, 754, rfl⟩
abbrev main_call1_v32 : Ref sig .tc := ⟨.hbm, 755, rfl⟩
abbrev main_call1_v33 : Ref sig .tc := ⟨.hbm, 756, rfl⟩
abbrev main_call1_v34 : Ref sig .tc := ⟨.hbm, 757, rfl⟩
abbrev main_call1_v35 : Ref sig .tc := ⟨.hbm, 758, rfl⟩
abbrev main_call1_c_9 : Ref sig .tc := ⟨.hbm, 759, rfl⟩
abbrev main_call1_v36 : Ref sig .tc := ⟨.hbm, 760, rfl⟩
abbrev main_call1_v37 : Ref sig .tc := ⟨.hbm, 761, rfl⟩
abbrev main_call1_c_10 : Ref sig .tc := ⟨.hbm, 762, rfl⟩
abbrev main_call1_v38 : Ref sig .tc := ⟨.hbm, 763, rfl⟩
abbrev main_call1_v39 : Ref sig .tc := ⟨.hbm, 764, rfl⟩
abbrev main_call1_v40 : Ref sig .tc := ⟨.hbm, 765, rfl⟩
abbrev main_call1_c_11 : Ref sig .tc := ⟨.hbm, 766, rfl⟩
abbrev main_call1_v41 : Ref sig .tc := ⟨.hbm, 767, rfl⟩
abbrev main_call1_v42 : Ref sig .tc := ⟨.hbm, 768, rfl⟩
abbrev main_call1_v43 : Ref sig .tc := ⟨.hbm, 769, rfl⟩
abbrev main_call1_v44 : Ref sig .tc := ⟨.hbm, 770, rfl⟩
abbrev main_call1_call5_v0 : Ref sig .tc := ⟨.hbm, 771, rfl⟩
abbrev main_call1_call5_c : Ref sig .tc := ⟨.hbm, 772, rfl⟩
abbrev main_call1_call5_v1 : Ref sig .tc := ⟨.hbm, 773, rfl⟩
abbrev main_call1_call5_v2 : Ref sig .tc := ⟨.hbm, 774, rfl⟩
abbrev main_call1_call5_v3 : Ref sig .tc := ⟨.hbm, 775, rfl⟩
abbrev main_call1_call5_v4 : Ref sig .tc := ⟨.hbm, 776, rfl⟩
abbrev main_call1_call5_v5 : Ref sig .tc := ⟨.hbm, 777, rfl⟩
abbrev main_call1_call5_v6 : Ref sig .tc := ⟨.hbm, 778, rfl⟩
abbrev main_call1_call5_c_0 : Ref sig .tc := ⟨.hbm, 779, rfl⟩
abbrev main_call1_call5_v7 : Ref sig .tc := ⟨.hbm, 780, rfl⟩
abbrev main_call1_call5_v8 : Ref sig .tc := ⟨.hbm, 781, rfl⟩
abbrev main_call1_call5_c_1 : Ref sig .tc := ⟨.hbm, 782, rfl⟩
abbrev main_call1_call5_v9 : Ref sig .tc := ⟨.hbm, 783, rfl⟩
abbrev main_call1_call5_v10 : Ref sig .tc := ⟨.hbm, 784, rfl⟩
abbrev main_call1_call5_v11 : Ref sig .tc := ⟨.hbm, 785, rfl⟩
abbrev main_call1_call5_v12 : Ref sig .tc := ⟨.hbm, 786, rfl⟩
abbrev main_call1_call5_v13 : Ref sig .tc := ⟨.hbm, 787, rfl⟩
abbrev main_call1_call5_c_2 : Ref sig .tc := ⟨.hbm, 788, rfl⟩
abbrev main_call1_call5_v14 : Ref sig .tc := ⟨.hbm, 789, rfl⟩
abbrev main_call1_call5_v15 : Ref sig .tc := ⟨.hbm, 790, rfl⟩
abbrev main_call1_call5_c_3 : Ref sig .tc := ⟨.hbm, 791, rfl⟩
abbrev main_call1_call5_v16 : Ref sig .tc := ⟨.hbm, 792, rfl⟩
abbrev main_call1_call5_v17 : Ref sig .tc := ⟨.hbm, 793, rfl⟩
abbrev main_call1_call5_v18 : Ref sig .tc := ⟨.hbm, 794, rfl⟩
abbrev main_call1_call5_v19 : Ref sig .tc := ⟨.hbm, 795, rfl⟩
abbrev main_call1_call5_v20 : Ref sig .tc := ⟨.hbm, 796, rfl⟩
abbrev main_call1_call5_c_4 : Ref sig .tc := ⟨.hbm, 797, rfl⟩
abbrev main_call1_call5_v21 : Ref sig .tc := ⟨.hbm, 798, rfl⟩
abbrev main_call1_call5_v22 : Ref sig .tc := ⟨.hbm, 799, rfl⟩
abbrev main_call1_call5_c_5 : Ref sig .tc := ⟨.hbm, 800, rfl⟩
abbrev main_call1_call5_v23 : Ref sig .tc := ⟨.hbm, 801, rfl⟩
abbrev main_call1_call5_v24 : Ref sig .tc := ⟨.hbm, 802, rfl⟩
abbrev main_call1_call5_v25 : Ref sig .tc := ⟨.hbm, 803, rfl⟩
abbrev main_call1_call5_v26 : Ref sig .tc := ⟨.hbm, 804, rfl⟩
abbrev main_call1_call5_v27 : Ref sig .tc := ⟨.hbm, 805, rfl⟩
abbrev main_call1_call5_c_6 : Ref sig .tc := ⟨.hbm, 806, rfl⟩
abbrev main_call1_call5_v28 : Ref sig .tc := ⟨.hbm, 807, rfl⟩
abbrev main_call1_call5_v29 : Ref sig .tc := ⟨.hbm, 808, rfl⟩
abbrev main_call1_call5_c_7 : Ref sig .tc := ⟨.hbm, 809, rfl⟩
abbrev main_call1_call5_v30 : Ref sig .tc := ⟨.hbm, 810, rfl⟩
abbrev main_call1_call5_v31 : Ref sig .tc := ⟨.hbm, 811, rfl⟩
abbrev main_call1_call5_v32 : Ref sig .tc := ⟨.hbm, 812, rfl⟩
abbrev main_call1_call5_v33 : Ref sig .tc := ⟨.hbm, 813, rfl⟩
abbrev main_call1_call5_v34 : Ref sig .tc := ⟨.hbm, 814, rfl⟩
abbrev main_call1_call5_v35 : Ref sig .tc := ⟨.hbm, 815, rfl⟩
abbrev main_call1_call5_v36 : Ref sig .tc := ⟨.hbm, 816, rfl⟩
abbrev main_call1_call5_v37 : Ref sig .tc := ⟨.hbm, 817, rfl⟩
abbrev main_call1_call5_c_8 : Ref sig .tc := ⟨.hbm, 818, rfl⟩
abbrev main_call1_call5_v38 : Ref sig .tc := ⟨.hbm, 819, rfl⟩
abbrev main_call1_call5_v39 : Ref sig .tc := ⟨.hbm, 820, rfl⟩
abbrev main_call1_call5_v40 : Ref sig .tc := ⟨.hbm, 821, rfl⟩
abbrev main_call1_call5_c_9 : Ref sig .tc := ⟨.hbm, 822, rfl⟩
abbrev main_call1_call5_v41 : Ref sig .tc := ⟨.hbm, 823, rfl⟩
abbrev main_call1_call5_v42 : Ref sig .tc := ⟨.hbm, 824, rfl⟩
abbrev main_call1_call5_c_10 : Ref sig .tc := ⟨.hbm, 825, rfl⟩
abbrev main_call1_call5_v43 : Ref sig .tc := ⟨.hbm, 826, rfl⟩
abbrev main_call1_call5_v44 : Ref sig .tc := ⟨.hbm, 827, rfl⟩
abbrev main_call1_call5_v45 : Ref sig .tc := ⟨.hbm, 828, rfl⟩
abbrev main_call1_call5_v46 : Ref sig .tc := ⟨.hbm, 829, rfl⟩
abbrev main_call1_call5_v47 : Ref sig .tc := ⟨.hbm, 830, rfl⟩
abbrev main_call1_call5_c_11 : Ref sig .tc := ⟨.hbm, 831, rfl⟩
abbrev main_call1_call5_v48 : Ref sig .tc := ⟨.hbm, 832, rfl⟩
abbrev main_call1_call5_v49 : Ref sig .tc := ⟨.hbm, 833, rfl⟩
abbrev main_call1_call5_c_12 : Ref sig .tc := ⟨.hbm, 834, rfl⟩
abbrev main_call1_call5_v50 : Ref sig .tc := ⟨.hbm, 835, rfl⟩
abbrev main_call1_call5_v51 : Ref sig .tc := ⟨.hbm, 836, rfl⟩
abbrev main_call1_call5_v52 : Ref sig .tc := ⟨.hbm, 837, rfl⟩
abbrev main_call1_call5_v53 : Ref sig .tc := ⟨.hbm, 838, rfl⟩
abbrev main_call1_call5_v54 : Ref sig .tc := ⟨.hbm, 839, rfl⟩
abbrev main_call1_call5_c_13 : Ref sig .tc := ⟨.hbm, 840, rfl⟩
abbrev main_call1_call5_v55 : Ref sig .tc := ⟨.hbm, 841, rfl⟩
abbrev main_call1_call5_v56 : Ref sig .tc := ⟨.hbm, 842, rfl⟩
abbrev main_call1_call5_c_14 : Ref sig .tc := ⟨.hbm, 843, rfl⟩
abbrev main_call1_call5_v57 : Ref sig .tc := ⟨.hbm, 844, rfl⟩
abbrev main_call1_call5_v58 : Ref sig .tc := ⟨.hbm, 845, rfl⟩
abbrev main_call1_call5_v59 : Ref sig .tc := ⟨.hbm, 846, rfl⟩
abbrev main_call1_call5_v60 : Ref sig .tc := ⟨.hbm, 847, rfl⟩
abbrev main_call1_call5_v61 : Ref sig .tc := ⟨.hbm, 848, rfl⟩
abbrev main_call1_call5_c_15 : Ref sig .tc := ⟨.hbm, 849, rfl⟩
abbrev main_call1_call5_v62 : Ref sig .tc := ⟨.hbm, 850, rfl⟩
abbrev main_call1_call5_v63 : Ref sig .tc := ⟨.hbm, 851, rfl⟩
abbrev main_call1_call5_c_16 : Ref sig .tc := ⟨.hbm, 852, rfl⟩
abbrev main_call1_call5_v64 : Ref sig .tc := ⟨.hbm, 853, rfl⟩
abbrev main_call1_call5_v65 : Ref sig .tc := ⟨.hbm, 854, rfl⟩
abbrev main_call1_call5_v66 : Ref sig .tc := ⟨.hbm, 855, rfl⟩
abbrev main_call1_call5_v67 : Ref sig .tc := ⟨.hbm, 856, rfl⟩
abbrev main_call1_call5_v68 : Ref sig .tc := ⟨.hbm, 857, rfl⟩
abbrev main_call1_call5_v69 : Ref sig .tc := ⟨.hbm, 858, rfl⟩
abbrev main_call1_call5_v70 : Ref sig .tc := ⟨.hbm, 859, rfl⟩
abbrev main_call1_call5_v71 : Ref sig .tc := ⟨.hbm, 860, rfl⟩
abbrev main_call1_call5_c_17 : Ref sig .tc := ⟨.hbm, 861, rfl⟩
abbrev main_call1_call5_v72 : Ref sig .tc := ⟨.hbm, 862, rfl⟩
abbrev main_call1_call5_v73 : Ref sig .tc := ⟨.hbm, 863, rfl⟩
abbrev main_call1_call5_v74 : Ref sig .tc := ⟨.hbm, 864, rfl⟩
abbrev main_call1_call5_c_18 : Ref sig .tc := ⟨.hbm, 865, rfl⟩
abbrev main_call1_call5_v75 : Ref sig .tc := ⟨.hbm, 866, rfl⟩
abbrev main_call1_call5_v76 : Ref sig .tc := ⟨.hbm, 867, rfl⟩
abbrev main_call1_call5_c_19 : Ref sig .tc := ⟨.hbm, 868, rfl⟩
abbrev main_call1_call5_v77 : Ref sig .tc := ⟨.hbm, 869, rfl⟩
abbrev main_call1_call5_v78 : Ref sig .tc := ⟨.hbm, 870, rfl⟩
abbrev main_call1_call5_v79 : Ref sig .tc := ⟨.hbm, 871, rfl⟩
abbrev main_call1_call5_v80 : Ref sig .tc := ⟨.hbm, 872, rfl⟩
abbrev main_call1_call5_v81 : Ref sig .tc := ⟨.hbm, 873, rfl⟩
abbrev main_call1_call5_c_20 : Ref sig .tc := ⟨.hbm, 874, rfl⟩
abbrev main_call1_call5_v82 : Ref sig .tc := ⟨.hbm, 875, rfl⟩
abbrev main_call1_call5_v83 : Ref sig .tc := ⟨.hbm, 876, rfl⟩
abbrev main_call1_call5_c_21 : Ref sig .tc := ⟨.hbm, 877, rfl⟩
abbrev main_call1_call5_v84 : Ref sig .tc := ⟨.hbm, 878, rfl⟩
abbrev main_call1_call5_v85 : Ref sig .tc := ⟨.hbm, 879, rfl⟩
abbrev main_call1_call5_v86 : Ref sig .tc := ⟨.hbm, 880, rfl⟩
abbrev main_call1_call5_v87 : Ref sig .tc := ⟨.hbm, 881, rfl⟩
abbrev main_call1_call5_v88 : Ref sig .tc := ⟨.hbm, 882, rfl⟩
abbrev main_call1_call5_c_22 : Ref sig .tc := ⟨.hbm, 883, rfl⟩
abbrev main_call1_call5_v89 : Ref sig .tc := ⟨.hbm, 884, rfl⟩
abbrev main_call1_call5_v90 : Ref sig .tc := ⟨.hbm, 885, rfl⟩
abbrev main_call1_call5_c_23 : Ref sig .tc := ⟨.hbm, 886, rfl⟩
abbrev main_call1_call5_v91 : Ref sig .tc := ⟨.hbm, 887, rfl⟩
abbrev main_call1_call5_v92 : Ref sig .tc := ⟨.hbm, 888, rfl⟩
abbrev main_call1_call5_v93 : Ref sig .tc := ⟨.hbm, 889, rfl⟩
abbrev main_call1_call5_v94 : Ref sig .tc := ⟨.hbm, 890, rfl⟩
abbrev main_call1_call5_v95 : Ref sig .tc := ⟨.hbm, 891, rfl⟩
abbrev main_call1_call5_c_24 : Ref sig .tc := ⟨.hbm, 892, rfl⟩
abbrev main_call1_call5_v96 : Ref sig .tc := ⟨.hbm, 893, rfl⟩
abbrev main_call1_call5_v97 : Ref sig .tc := ⟨.hbm, 894, rfl⟩
abbrev main_call1_call5_c_25 : Ref sig .tc := ⟨.hbm, 895, rfl⟩
abbrev main_call1_call5_v98 : Ref sig .tc := ⟨.hbm, 896, rfl⟩
abbrev main_call1_call5_v99 : Ref sig .tc := ⟨.hbm, 897, rfl⟩
abbrev main_call1_call5_v100 : Ref sig .tc := ⟨.hbm, 898, rfl⟩
abbrev main_call1_call5_v101 : Ref sig .tc := ⟨.hbm, 899, rfl⟩
abbrev main_call1_call5_v102 : Ref sig .tc := ⟨.hbm, 900, rfl⟩
abbrev main_call1_call5_v103 : Ref sig .tc := ⟨.hbm, 901, rfl⟩
abbrev main_call1_call5_v104 : Ref sig .tc := ⟨.hbm, 902, rfl⟩
abbrev main_call1_call5_v105 : Ref sig .tc := ⟨.hbm, 903, rfl⟩
abbrev main_call1_call5_c_26 : Ref sig .tc := ⟨.hbm, 904, rfl⟩
abbrev main_call1_call5_v106 : Ref sig .tc := ⟨.hbm, 905, rfl⟩
abbrev main_call1_call5_v107 : Ref sig .tc := ⟨.hbm, 906, rfl⟩
abbrev main_call1_call5_v108 : Ref sig .tc := ⟨.hbm, 907, rfl⟩
abbrev main_call1_call5_c_27 : Ref sig .tc := ⟨.hbm, 908, rfl⟩
abbrev main_call1_call5_v109 : Ref sig .tc := ⟨.hbm, 909, rfl⟩
abbrev main_call1_call5_v110 : Ref sig .tc := ⟨.hbm, 910, rfl⟩
abbrev main_call1_call5_c_28 : Ref sig .tc := ⟨.hbm, 911, rfl⟩
abbrev main_call1_call5_v111 : Ref sig .tc := ⟨.hbm, 912, rfl⟩
abbrev main_call1_call5_v112 : Ref sig .tc := ⟨.hbm, 913, rfl⟩
abbrev main_call1_call5_v113 : Ref sig .tc := ⟨.hbm, 914, rfl⟩
abbrev main_call1_call5_v114 : Ref sig .tc := ⟨.hbm, 915, rfl⟩
abbrev main_call1_call5_v115 : Ref sig .tc := ⟨.hbm, 916, rfl⟩
abbrev main_call1_call5_c_29 : Ref sig .tc := ⟨.hbm, 917, rfl⟩
abbrev main_call1_call5_v116 : Ref sig .tc := ⟨.hbm, 918, rfl⟩
abbrev main_call1_call5_v117 : Ref sig .tc := ⟨.hbm, 919, rfl⟩
abbrev main_call1_call5_c_30 : Ref sig .tc := ⟨.hbm, 920, rfl⟩
abbrev main_call1_call5_v118 : Ref sig .tc := ⟨.hbm, 921, rfl⟩
abbrev main_call1_call5_v119 : Ref sig .tc := ⟨.hbm, 922, rfl⟩
abbrev main_call1_call5_v120 : Ref sig .tc := ⟨.hbm, 923, rfl⟩
abbrev main_call1_call5_v121 : Ref sig .tc := ⟨.hbm, 924, rfl⟩
abbrev main_call1_call5_v122 : Ref sig .tc := ⟨.hbm, 925, rfl⟩
abbrev main_call1_call5_c_31 : Ref sig .tc := ⟨.hbm, 926, rfl⟩
abbrev main_call1_call5_v123 : Ref sig .tc := ⟨.hbm, 927, rfl⟩
abbrev main_call1_call5_v124 : Ref sig .tc := ⟨.hbm, 928, rfl⟩
abbrev main_call1_call5_c_32 : Ref sig .tc := ⟨.hbm, 929, rfl⟩
abbrev main_call1_call5_v125 : Ref sig .tc := ⟨.hbm, 930, rfl⟩
abbrev main_call1_call5_v126 : Ref sig .tc := ⟨.hbm, 931, rfl⟩
abbrev main_call1_call5_v127 : Ref sig .tc := ⟨.hbm, 932, rfl⟩
abbrev main_call1_call5_v128 : Ref sig .tc := ⟨.hbm, 933, rfl⟩
abbrev main_call1_call5_v129 : Ref sig .tc := ⟨.hbm, 934, rfl⟩
abbrev main_call1_call5_c_33 : Ref sig .tc := ⟨.hbm, 935, rfl⟩
abbrev main_call1_call5_v130 : Ref sig .tc := ⟨.hbm, 936, rfl⟩
abbrev main_call1_call5_v131 : Ref sig .tc := ⟨.hbm, 937, rfl⟩
abbrev main_call1_call5_c_34 : Ref sig .tc := ⟨.hbm, 938, rfl⟩
abbrev main_call1_call5_v132 : Ref sig .tc := ⟨.hbm, 939, rfl⟩
abbrev main_call1_call5_v133 : Ref sig .tc := ⟨.hbm, 940, rfl⟩
abbrev main_call1_call5_v134 : Ref sig .tc := ⟨.hbm, 941, rfl⟩
abbrev main_call1_call5_v135 : Ref sig .tc := ⟨.hbm, 942, rfl⟩
abbrev main_call1_call5_v136 : Ref sig .tc := ⟨.hbm, 943, rfl⟩
abbrev main_call1_call5_v137 : Ref sig .tc := ⟨.hbm, 944, rfl⟩
abbrev main_call1_call5_v138 : Ref sig .tc := ⟨.hbm, 945, rfl⟩
abbrev main_call1_call5_v139 : Ref sig .tc := ⟨.hbm, 946, rfl⟩
abbrev main_call1_call5_c_35 : Ref sig .tc := ⟨.hbm, 947, rfl⟩
abbrev main_call1_call5_v140 : Ref sig .tc := ⟨.hbm, 948, rfl⟩
abbrev main_call1_call5_v141 : Ref sig .tc := ⟨.hbm, 949, rfl⟩
abbrev main_call1_call5_v142 : Ref sig .tc := ⟨.hbm, 950, rfl⟩
abbrev main_call1_call5_c_36 : Ref sig .tc := ⟨.hbm, 951, rfl⟩
abbrev main_call1_call5_v143 : Ref sig .tc := ⟨.hbm, 952, rfl⟩
abbrev main_call1_call5_v144 : Ref sig .tc := ⟨.hbm, 953, rfl⟩
abbrev main_call1_call5_c_37 : Ref sig .tc := ⟨.hbm, 954, rfl⟩
abbrev main_call1_call5_v145 : Ref sig .tc := ⟨.hbm, 955, rfl⟩
abbrev main_call1_call5_v146 : Ref sig .tc := ⟨.hbm, 956, rfl⟩
abbrev main_call1_call5_v147 : Ref sig .tc := ⟨.hbm, 957, rfl⟩
abbrev main_call1_call5_v148 : Ref sig .tc := ⟨.hbm, 958, rfl⟩
abbrev main_call1_call5_v149 : Ref sig .tc := ⟨.hbm, 959, rfl⟩
abbrev main_call1_call5_c_38 : Ref sig .tc := ⟨.hbm, 960, rfl⟩
abbrev main_call1_call5_v150 : Ref sig .tc := ⟨.hbm, 961, rfl⟩
abbrev main_call1_call5_v151 : Ref sig .tc := ⟨.hbm, 962, rfl⟩
abbrev main_call1_call5_c_39 : Ref sig .tc := ⟨.hbm, 963, rfl⟩
abbrev main_call1_call5_v152 : Ref sig .tc := ⟨.hbm, 964, rfl⟩
abbrev main_call1_call5_v153 : Ref sig .tc := ⟨.hbm, 965, rfl⟩
abbrev main_call1_call5_v154 : Ref sig .tc := ⟨.hbm, 966, rfl⟩
abbrev main_call1_call5_v155 : Ref sig .tc := ⟨.hbm, 967, rfl⟩
abbrev main_call1_call5_v156 : Ref sig .tc := ⟨.hbm, 968, rfl⟩
abbrev main_call1_call5_c_40 : Ref sig .tc := ⟨.hbm, 969, rfl⟩
abbrev main_call1_call5_v157 : Ref sig .tc := ⟨.hbm, 970, rfl⟩
abbrev main_call1_call5_v158 : Ref sig .tc := ⟨.hbm, 971, rfl⟩
abbrev main_call1_call5_c_41 : Ref sig .tc := ⟨.hbm, 972, rfl⟩
abbrev main_call1_call5_v159 : Ref sig .tc := ⟨.hbm, 973, rfl⟩
abbrev main_call1_call5_v160 : Ref sig .tc := ⟨.hbm, 974, rfl⟩
abbrev main_call1_call5_v161 : Ref sig .tc := ⟨.hbm, 975, rfl⟩
abbrev main_call1_call5_v162 : Ref sig .tc := ⟨.hbm, 976, rfl⟩
abbrev main_call1_call5_v163 : Ref sig .tc := ⟨.hbm, 977, rfl⟩
abbrev main_call1_call5_c_42 : Ref sig .tc := ⟨.hbm, 978, rfl⟩
abbrev main_call1_call5_v164 : Ref sig .tc := ⟨.hbm, 979, rfl⟩
abbrev main_call1_call5_v165 : Ref sig .tc := ⟨.hbm, 980, rfl⟩
abbrev main_call1_call5_c_43 : Ref sig .tc := ⟨.hbm, 981, rfl⟩
abbrev main_call1_call5_v166 : Ref sig .tc := ⟨.hbm, 982, rfl⟩
abbrev main_call1_call5_v167 : Ref sig .tc := ⟨.hbm, 983, rfl⟩
abbrev main_call1_call5_v168 : Ref sig .tc := ⟨.hbm, 984, rfl⟩
abbrev main_call1_call5_v169 : Ref sig .tc := ⟨.hbm, 985, rfl⟩
abbrev main_call1_call5_v170 : Ref sig .tc := ⟨.hbm, 986, rfl⟩
abbrev main_call1_v45_0 : Ref sig .tc := ⟨.hbm, 987, rfl⟩
abbrev main_call1_call5_v172 : Ref sig .tc := ⟨.hbm, 988, rfl⟩
abbrev main_call1_call5_v173 : Ref sig .tc := ⟨.hbm, 989, rfl⟩
abbrev main_call1_call5_c_44 : Ref sig .tc := ⟨.hbm, 990, rfl⟩
abbrev main_call1_call5_v174 : Ref sig .tc := ⟨.hbm, 991, rfl⟩
abbrev main_call1_v45_1 : Ref sig .tc := ⟨.hbm, 992, rfl⟩
abbrev main_call1_v46 : Ref sig .tc := ⟨.hbm, 993, rfl⟩
abbrev main_call1_v47 : Ref sig .tc := ⟨.hbm, 994, rfl⟩
abbrev main_call1_v48 : Ref sig .tc := ⟨.hbm, 995, rfl⟩
abbrev main_call1_v49 : Ref sig .tc := ⟨.hbm, 996, rfl⟩
abbrev main_call1_c_12 : Ref sig .tc := ⟨.hbm, 997, rfl⟩
abbrev main_call1_v50 : Ref sig .tc := ⟨.hbm, 998, rfl⟩
abbrev main_call1_v51 : Ref sig .tc := ⟨.hbm, 999, rfl⟩
abbrev main_call1_v52 : Ref sig .tc := ⟨.hbm, 1000, rfl⟩
abbrev main_call1_v53 : Ref sig .tc := ⟨.hbm, 1001, rfl⟩
abbrev main_call1_v54 : Ref sig .tc := ⟨.hbm, 1002, rfl⟩
abbrev main_call1_c_13 : Ref sig .tc := ⟨.hbm, 1003, rfl⟩
abbrev main_call1_v55 : Ref sig .tc := ⟨.hbm, 1004, rfl⟩
abbrev main_call1_v56 : Ref sig .tc := ⟨.hbm, 1005, rfl⟩
abbrev main_call1_v57 : Ref sig .tc := ⟨.hbm, 1006, rfl⟩
abbrev main_call1_c_14 : Ref sig .tc := ⟨.hbm, 1007, rfl⟩
abbrev main_call1_v58 : Ref sig .tc := ⟨.hbm, 1008, rfl⟩
abbrev main_call1_v59 : Ref sig .tc := ⟨.hbm, 1009, rfl⟩
abbrev main_call1_v60 : Ref sig .tc := ⟨.hbm, 1010, rfl⟩
abbrev main_call1_v61 : Ref sig .tc := ⟨.hbm, 1011, rfl⟩
abbrev main_call1_v62 : Ref sig .tc := ⟨.hbm, 1012, rfl⟩
abbrev main_call1_v63 : Ref sig .tc := ⟨.hbm, 1013, rfl⟩
abbrev main_call1_v64 : Ref sig .tc := ⟨.hbm, 1014, rfl⟩
abbrev main_call1_v65 : Ref sig .tc := ⟨.hbm, 1015, rfl⟩
abbrev main_call1_v66 : Ref sig .tc := ⟨.hbm, 1016, rfl⟩
abbrev main_call1_v67 : Ref sig .tc := ⟨.hbm, 1017, rfl⟩
abbrev main_call1_v68 : Ref sig .tc := ⟨.hbm, 1018, rfl⟩
abbrev main_call1_v69 : Ref sig .tc := ⟨.hbm, 1019, rfl⟩
abbrev main_call1_v70 : Ref sig .tc := ⟨.hbm, 1020, rfl⟩
abbrev main_call1_v71 : Ref sig .tc := ⟨.hbm, 1021, rfl⟩
abbrev main_call1_v72 : Ref sig .tc := ⟨.hbm, 1022, rfl⟩
abbrev main_v9 : Ref sig .tc := ⟨.hbm, 1023, rfl⟩
abbrev main_call2_c : Ref sig .tc := ⟨.hbm, 1024, rfl⟩
abbrev main_call2_v0 : Ref sig .tc := ⟨.hbm, 1025, rfl⟩
abbrev main_call2_v1 : Ref sig .tc := ⟨.hbm, 1026, rfl⟩
abbrev main_call2_c_0 : Ref sig .tc := ⟨.hbm, 1027, rfl⟩
abbrev main_call2_v2 : Ref sig .tc := ⟨.hbm, 1028, rfl⟩
abbrev main_call2_v3 : Ref sig .tc := ⟨.hbm, 1029, rfl⟩
abbrev main_call2_v4 : Ref sig .tc := ⟨.hbm, 1030, rfl⟩
abbrev main_call2_v5 : Ref sig .tc := ⟨.hbm, 1031, rfl⟩
abbrev main_call2_c_1 : Ref sig .tc := ⟨.hbm, 1032, rfl⟩
abbrev main_call2_c_2 : Ref sig .tc := ⟨.hbm, 1033, rfl⟩
abbrev main_call2_v6 : Ref sig .tc := ⟨.hbm, 1034, rfl⟩
abbrev main_call2_v7 : Ref sig .tc := ⟨.hbm, 1035, rfl⟩
abbrev main_call2_v8 : Ref sig .tc := ⟨.hbm, 1036, rfl⟩
abbrev main_call2_v9 : Ref sig .tc := ⟨.hbm, 1037, rfl⟩
abbrev main_call2_v10 : Ref sig .tc := ⟨.hbm, 1038, rfl⟩
abbrev main_call2_v11 : Ref sig .tc := ⟨.hbm, 1039, rfl⟩
abbrev main_call2_c_3 : Ref sig .tc := ⟨.hbm, 1040, rfl⟩
abbrev main_call2_v12 : Ref sig .tc := ⟨.hbm, 1041, rfl⟩
abbrev main_call2_v13 : Ref sig .tc := ⟨.hbm, 1042, rfl⟩
abbrev main_call2_cst : Ref sig .tc := ⟨.hbm, 1043, rfl⟩
abbrev main_call2_v14 : Ref sig .tc := ⟨.hbm, 1044, rfl⟩
abbrev main_v10 : Ref sig .tc := ⟨.hbm, 1045, rfl⟩
abbrev main_call3_c : Ref sig .tc := ⟨.hbm, 1046, rfl⟩
abbrev main_call3_v0 : Ref sig .tc := ⟨.hbm, 1047, rfl⟩
abbrev main_call3_v1 : Ref sig .tc := ⟨.hbm, 1048, rfl⟩
abbrev main_call3_c_0 : Ref sig .tc := ⟨.hbm, 1049, rfl⟩
abbrev main_call3_v2 : Ref sig .tc := ⟨.hbm, 1050, rfl⟩
abbrev main_call3_v3 : Ref sig .tc := ⟨.hbm, 1051, rfl⟩
abbrev main_call3_v4 : Ref sig .tc := ⟨.hbm, 1052, rfl⟩
abbrev main_call3_v5 : Ref sig .tc := ⟨.hbm, 1053, rfl⟩
abbrev main_call3_c_1 : Ref sig .tc := ⟨.hbm, 1054, rfl⟩
abbrev main_call3_c_2 : Ref sig .tc := ⟨.hbm, 1055, rfl⟩
abbrev main_call3_v6 : Ref sig .tc := ⟨.hbm, 1056, rfl⟩
abbrev main_call3_v7 : Ref sig .tc := ⟨.hbm, 1057, rfl⟩
abbrev main_call3_v8 : Ref sig .tc := ⟨.hbm, 1058, rfl⟩
abbrev main_call3_v9 : Ref sig .tc := ⟨.hbm, 1059, rfl⟩
abbrev main_call3_v10 : Ref sig .tc := ⟨.hbm, 1060, rfl⟩
abbrev main_call3_v11 : Ref sig .tc := ⟨.hbm, 1061, rfl⟩
abbrev main_call3_c_3 : Ref sig .tc := ⟨.hbm, 1062, rfl⟩
abbrev main_call3_v12 : Ref sig .tc := ⟨.hbm, 1063, rfl⟩
abbrev main_call3_v13 : Ref sig .tc := ⟨.hbm, 1064, rfl⟩
abbrev main_call3_cst : Ref sig .tc := ⟨.hbm, 1065, rfl⟩
abbrev main_call3_v14 : Ref sig .tc := ⟨.hbm, 1066, rfl⟩
abbrev main_v11 : Ref sig .tc := ⟨.hbm, 1067, rfl⟩
abbrev main_v12 : Ref sig .tc := ⟨.hbm, 1068, rfl⟩
abbrev main_v13 : Ref sig .tc := ⟨.hbm, 1069, rfl⟩
abbrev main_cst : Ref sig .tc := ⟨.hbm, 1070, rfl⟩
abbrev main_v14 : Ref sig .tc := ⟨.hbm, 1071, rfl⟩
abbrev main_v15 : Ref sig .tc := ⟨.hbm, 1072, rfl⟩
abbrev main_cst_5 : Ref sig .tc := ⟨.hbm, 1073, rfl⟩
abbrev main_v16 : Ref sig .tc := ⟨.hbm, 1074, rfl⟩
abbrev main_v17 : Ref sig .tc := ⟨.hbm, 1075, rfl⟩
abbrev main_v18 : Ref sig .tc := ⟨.hbm, 1076, rfl⟩
abbrev main_v19 : Ref sig .tc := ⟨.hbm, 1077, rfl⟩
abbrev main_v20 : Ref sig .tc := ⟨.hbm, 1078, rfl⟩
abbrev main_v21 : Ref sig .tc := ⟨.hbm, 1079, rfl⟩
abbrev main_cst_6 : Ref sig .tc := ⟨.hbm, 1080, rfl⟩
abbrev main_v22 : Ref sig .tc := ⟨.hbm, 1081, rfl⟩
abbrev main_v23 : Ref sig .tc := ⟨.hbm, 1082, rfl⟩
abbrev main_cst_7 : Ref sig .tc := ⟨.hbm, 1083, rfl⟩
abbrev main_v24 : Ref sig .tc := ⟨.hbm, 1084, rfl⟩
abbrev main_v25 : Ref sig .tc := ⟨.hbm, 1085, rfl⟩
abbrev main_v26 : Ref sig .tc := ⟨.hbm, 1086, rfl⟩
abbrev main_cst_8 : Ref sig .tc := ⟨.hbm, 1087, rfl⟩
abbrev main_v27 : Ref sig .tc := ⟨.hbm, 1088, rfl⟩
abbrev main_v28 : Ref sig .tc := ⟨.hbm, 1089, rfl⟩
abbrev main_v29 : Ref sig .tc := ⟨.hbm, 1090, rfl⟩
abbrev main_v30 : Ref sig .tc := ⟨.hbm, 1091, rfl⟩
abbrev main_v31 : Ref sig .tc := ⟨.hbm, 1092, rfl⟩
abbrev main_cst_9 : Ref sig .tc := ⟨.hbm, 1093, rfl⟩
abbrev main_v32 : Ref sig .tc := ⟨.hbm, 1094, rfl⟩
abbrev main_cst_10 : Ref sig .tc := ⟨.hbm, 1095, rfl⟩
abbrev main_v33 : Ref sig .tc := ⟨.hbm, 1096, rfl⟩
abbrev main_v34 : Ref sig .tc := ⟨.hbm, 1097, rfl⟩

abbrev nD : Nat := 1
abbrev τ : Topo := Topo.v7x

variable {F : FTy → Type} [FloatOps F]
-- ==== Proof.HostLine.lean ====
/-
  Straight lines of host operations whose results are numbered: each operation writes the next buffer of the device's
  memory and reads buffers of smaller numbers. `Str` is such a line with facts about the values it leaves; `Lock` runs
  two such lines of two programs side by side and says that they leave equal values.
-/
module

public import Idealize.ShloMosaic.Lib.StableHlo.RunHlo
public import Idealize.ShloMosaic.Lib.Pipeline.Frame

@[expose] public section

noncomputable section

namespace Cert.HostLine

open Idealize.ShloMosaic Idealize.ShloMosaic.StableHlo
open Idealize.SL Idealize.SL.Sem
open Idealize.ShloMosaic.TcCoe

variable {nD : Nat} {τ : Topo} {sig : RefSig} {Val : EltTy → Type} {Λ : Labels}
variable {nD' : Nat} {τ' : Topo} {sig' : RefSig} {Λ' : Labels}

/-- A line of host operations is its list of operations, no other list. -/
theorem seq_inj [∀ e, Nonempty (Val e)] : ∀ {l l' : List (HloOp τ sig Val)},
    (seq l : Prog (TpuEff nD τ sig Val Λ .tc) PUnit) = seq l' → l = l'
  | [], [], _ => rfl
  | [], _ :: _, h => nomatch h
  | _ :: _, [], h => nomatch h
  | op :: l, op' :: l', h => by
    have h' : (Prog.op (TpuEff.hloBegin rfl op) fun _ => .op (.hloEnd rfl op.writes) fun _ => seq l : Prog (TpuEff nD τ sig Val Λ .tc) PUnit)
        = Prog.op (TpuEff.hloBegin rfl op') fun _ => .op (.hloEnd rfl op'.writes) fun _ => seq l' := h
    injection h' with _ h1 h2
    injection h1 with h1
    subst h1
    have h3 := congrFun h2 ⟨⟩
    injection h3 with _ h3 h4
    have : Nonempty ((b : op.writes) → b.1.ty.Contents Val) := ⟨fun b => Classical.arbitrary _⟩
    rw [seq_inj (congrFun h4 (Classical.arbitrary _))]

/-- The reference is the device buffer of number `n`. -/
def At (r : Ref sig .tc) (n : Nat) : Prop := r.space = .hbm ∧ r.idx.val = n

theorem At.inj {r r' : Ref sig .tc} {n : Nat} (h : At r n) (h' : At r' n) : r = r' := by
  obtain ⟨s, i, p⟩ := r
  obtain ⟨s', i', p'⟩ := r'
  obtain ⟨h1, h2⟩ := h
  obtain ⟨h3, h4⟩ := h'
  dsimp only at h1 h2 h3 h4
  subst h1 h3
  have : i = i' := Fin.ext (h2.trans h4.symm)
  subst this
  rfl

theorem At.ne {r r' : Ref sig .tc} {n n' : Nat} (h : At r n) (h' : At r' n') (hn : n ≠ n') : r ≠ r' := by
  rintro rfl
  exact hn (h.2.symm.trans h'.2)

/-- The tensor a typed reference names, at a device's contents. -/
def rd {T : BufTy} (V : Valuation τ sig Val) (x : TRef sig T) : T.Contents Val := x.ofBuf (V (Proc.devRef .tc x.ref))

/-- A line's operations: they touch the TensorCore's buffers only, leave nothing unspecified, and each writes one buffer
    with number in `[n, n')`. -/
def Ok (ops : List (HloOp τ sig Val)) (n n' : Nat) : Prop :=
  n ≤ n' ∧ ∀ op ∈ ops, op.bufs ⊆ tcRefs τ sig ∧ op.fresh = ∅ ∧ ∃ r k, n ≤ k ∧ k < n' ∧ At r k ∧ op.writes = {Proc.devRef .tc r}

/-- Two contents agree below number `n`. -/
def Same (n : Nat) (V V' : Valuation τ sig Val) : Prop := ∀ r k, At r k → k < n → V (Proc.devRef .tc r) = V' (Proc.devRef .tc r)

theorem Same.rd {n : Nat} {V V' : Valuation τ sig Val} (h : Same n V V') {T : BufTy} {x : TRef sig T} {k : Nat} (hk : At x.ref k) (hn : k < n) :
    rd V x = rd V' x := by unfold HostLine.rd; rw [h _ _ hk hn]

/-- A line changes no buffer outside the numbers it writes. -/
theorem Ok.keeps {ops : List (HloOp τ sig Val)} {n n' : Nat} (h : Ok ops n n') (V : Valuation τ sig Val) {r : Ref sig .tc} {k : Nat}
    (hr : At r k) (hk : k < n ∨ n' ≤ k) : after ops V (Proc.devRef .tc r) = V (Proc.devRef .tc r) := by
  refine after_of_forall_not_mem ops V fun op hop hb => ?_
  obtain ⟨-, -, y, j, hj, hj', hy, hw⟩ := h.2 op hop
  rw [hw] at hb
  have := Proc.devRef_injective _ (Finset.mem_singleton.mp hb)
  subst this
  have := hr.2.symm.trans hy.2
  omega

theorem Ok.same {ops : List (HloOp τ sig Val)} {n n' : Nat} (h : Ok ops n n') (V : Valuation τ sig Val) : Same n V (after ops V) :=
  fun _ _ hr hk => (h.keeps V hr (.inl hk)).symm

theorem Ok.nil {n n' : Nat} (h : n ≤ n') : Ok ([] : List (HloOp τ sig Val)) n n' := ⟨h, fun _ h => nomatch h⟩

theorem Ok.append {l l' : List (HloOp τ sig Val)} {n n' n'' : Nat} (h : Ok l n n') (h' : Ok l' n' n'') : Ok (l ++ l') n n'' := by
  refine ⟨h.1.trans h'.1, fun op hop => ?_⟩
  rcases List.mem_append.mp hop with hop | hop
  · obtain ⟨h1, h2, r, k, h3, h4, h5⟩ := h.2 op hop
    exact ⟨h1, h2, r, k, h3, lt_of_lt_of_le h4 h'.1, h5⟩
  · obtain ⟨h1, h2, r, k, h3, h4, h5⟩ := h'.2 op hop
    exact ⟨h1, h2, r, k, h.1.trans h3, h4, h5⟩

theorem after_append : ∀ (l l' : List (HloOp τ sig Val)) (V : Valuation τ sig Val), after (l ++ l') V = after l' (after l V)
  | [], _, _ => rfl
  | op :: l, l', V => by rw [List.cons_append, after_cons, after_append l l', after_cons]

theorem Ok.one {op : HloOp τ sig Val} {n : Nat} {r : Ref sig .tc} (h1 : op.bufs ⊆ tcRefs τ sig) (h2 : op.fresh = ∅)
    (hr : At r n) (h3 : op.writes = {Proc.devRef .tc r}) : Ok [op] n (n + 1) := by
  refine ⟨Nat.le_succ n, fun o ho => ?_⟩
  cases List.mem_singleton.mp ho
  exact ⟨h1, h2, r, n, le_rfl, Nat.lt_succ_self n, hr, h3⟩

theorem fresh_nullary {Ty : BufTy} (y : TRef sig Ty) (v : Ty.Contents Val) : (TRef.nullary (τ := τ) y v).fresh = ∅ := rfl

/-! ## One line -/

/-- `p` is a line writing the buffers `n` to `n' - 1`, and whatever it starts from, it leaves contents of which `E` holds
    (`E` speaks of buffers below `n'` only). -/
def Str (p : Prog (TpuEff nD τ sig Val Λ .tc) PUnit) (n n' : Nat) (E : Valuation τ sig Val → Prop) : Prop :=
  (∀ V V', Same n' V V' → E V → E V') ∧ ∃ ops, p = seq ops ∧ Ok ops n n' ∧ ∀ V, E (after ops V)

theorem Str.nil {n : Nat} : Str (pure ⟨⟩ : Prog (TpuEff nD τ sig Val Λ .tc) PUnit) n n fun _ => True :=
  ⟨fun _ _ _ h => h, [], rfl, .nil le_rfl, fun _ => trivial⟩

theorem Str.append {p q : Prog (TpuEff nD τ sig Val Λ .tc) PUnit} {n n' n'' : Nat} {E E' : Valuation τ sig Val → Prop}
    (h : Str p n n' E) (h' : Str q n' n'' E') : Str (p >>= fun _ => q) n n'' fun V => E V ∧ E' V := by
  obtain ⟨hs, l, hl, hok, hE⟩ := h
  obtain ⟨hs', l', hl', hok', hE'⟩ := h'
  refine ⟨fun V V' hV ⟨h1, h2⟩ => ⟨hs V V' (fun r k hr hk => hV r k hr (lt_of_lt_of_le hk hok'.1)) h1, hs' V V' hV h2⟩, l ++ l', ?_, hok.append hok', fun V => ?_⟩
  · rw [hl, hl', seq_append]
  · rw [after_append]
    exact ⟨hs _ _ (hok'.same _) (hE V), hE' _⟩

theorem Str.last {op : HloOp τ sig Val} {n n' : Nat} {E : Valuation τ sig Val → Prop}
    (h : Str ((hlo rfl op fun _ => .ret (⟨⟩ : PUnit)) >>= fun _ => pure ⟨⟩ : Prog (TpuEff nD τ sig Val Λ .tc) PUnit) n n' E) :
    Str (hlo rfl op fun _ => .ret (⟨⟩ : PUnit) : Prog (TpuEff nD τ sig Val Λ .tc) PUnit) n n' E := h

theorem Str.from {p : Prog (TpuEff nD τ sig Val Λ .tc) PUnit} {m n n' : Nat} {E : Valuation τ sig Val → Prop} (hm : n.beq m = true)
    (h : Str p m n' E) : Str p n n' E := Nat.eq_of_beq_eq_true hm ▸ h

theorem Str.skip {p : Prog (TpuEff nD τ sig Val Λ .tc) PUnit} {n n' : Nat} {E : Valuation τ sig Val → Prop} (h : Str p n n' E) :
    Str p n n' fun _ => True :=
  ⟨fun _ _ _ h => h, h.2.imp fun _ h => ⟨h.1, h.2.1, fun _ => trivial⟩⟩

/-- One operation, with a fact about its result. -/
theorem Str.one {op : HloOp τ sig Val} {n : Nat} {r : Ref sig .tc} (h1 : op.bufs ⊆ tcRefs τ sig) (h2 : op.fresh = ∅)
    (hr : At r n) (h3 : op.writes = {Proc.devRef .tc r}) {E : Valuation τ sig Val → Prop}
    (hs : ∀ V V', Same (n + 1) V V' → E V → E V') (hE : ∀ V, E (op.result V)) :
    Str (hlo rfl op fun _ => .ret (⟨⟩ : PUnit) : Prog (TpuEff nD τ sig Val Λ .tc) PUnit) n (n + 1) E :=
  ⟨hs, [op], rfl, .one h1 h2 hr h3, hE⟩

section Ops

variable {Ta Tb Tc Ty : BufTy}

theorem rd_nullary (y : TRef sig Ty) (v : Ty.Contents Val) (V : Valuation τ sig Val) : rd ((TRef.nullary y v).result V) y = v := by
  unfold rd
  rw [nullary_result']
  simp

theorem rd_unary (a : TRef sig Ta) (y : TRef sig Ty) (f : Ta.Contents Val → Ty.Contents Val) (V : Valuation τ sig Val) :
    rd ((TRef.unary a y f).result V) y = f (rd V a) := by
  unfold rd
  rw [unary_result']
  simp

theorem rd_binary (a : TRef sig Ta) (b : TRef sig Tb) (y : TRef sig Ty) (f : Ta.Contents Val → Tb.Contents Val → Ty.Contents Val) (V : Valuation τ sig Val) :
    rd ((TRef.binary a b y f).result V) y = f (rd V a) (rd V b) := by
  unfold rd
  rw [binary_result']
  simp

theorem rd_ternary (c : TRef sig Tc) (a : TRef sig Ta) (b : TRef sig Tb) (y : TRef sig Ty)
    (f : Tc.Contents Val → Ta.Contents Val → Tb.Contents Val → Ty.Contents Val) (V : Valuation τ sig Val) :
    rd ((TRef.ternary c a b y f).result V) y = f (rd V c) (rd V a) (rd V b) := by
  unfold rd
  rw [ternary_result']
  simp

/-- A reshape's value: the operand's elements in row-major order. -/
def shaped {Tx Ty : BufTy} (he : Tx.elt = Ty.elt) (hn : Tx.shape.ShapeCasts Ty.shape) (v : Tx.Contents Val) : Ty.Contents Val :=
  fun i => he ▸ shapeCast Ty.shape v hn i

theorem rd_reshape (a : TRef sig Ta) (y : TRef sig Ty) (he : Ta.elt = Ty.elt) (hn : Ta.shape.ShapeCasts Ty.shape) (V : Valuation τ sig Val) :
    rd ((TRef.reshape a y he hn).result V) y = shaped he hn (rd V a) := by
  obtain ⟨a, ha, ha1, ha2⟩ := a
  obtain ⟨y, hy, hy1, hy2⟩ := y
  subst ha hy
  unfold rd
  rw [reshape_result']
  rfl

end Ops

/-- A reference's number. -/
abbrev num (r : Ref sig .tc) : Nat := r.idx.val

theorem num_at {r : Ref sig .tc} (h : r.space = .hbm) : At r (num r) := ⟨h, rfl⟩

/-- A fact about one operation's result and its operands' values stays true while the buffers up to the result's stay. -/
theorem same_rd {T : BufTy} {y : TRef sig T} {n : Nat} {V V' : Valuation τ sig Val} (h : Same (n + 1) V V') {S : BufTy} {a : TRef sig S}
    (hn : n = num y.ref) (ha : a.ref.space = .hbm) (hk : (num a.ref).blt (num y.ref) = true) : rd V a = rd V' a :=
  h.rd (num_at ha) (by rw [hn]; exact Nat.lt_succ_of_lt (Nat.blt_eq.mp hk))

/-- The space is the device memory. -/
def isHbm (r : Ref sig .tc) : Bool := match r.space with | .hbm => true | _ => false

theorem isHbm_space {r : Ref sig .tc} (h : isHbm r = true) : r.space = .hbm := by
  obtain ⟨s, i, p⟩ := r
  unfold isHbm at h
  dsimp only at h ⊢
  split at h
  · rfl
  · cases h

/-- The check on a result: it is the device buffer of number `n`. -/
def okY (n : Nat) (y : Ref sig .tc) : Bool := n.beq (num y) && isHbm y

/-- The check on an operand of one line: a device buffer of a number smaller than the result's. -/
def okA (y a : Ref sig .tc) : Bool := (num a).blt (num y) && isHbm a

/-- The check on the results of two lines. -/
def okYY (n : Nat) (y : Ref sig .tc) (y' : Ref sig' .tc) : Bool := n.beq (num y) && (num y').beq (num y + 1) && isHbm y && isHbm y'

/-- The check on the operands of two lines. -/
def okAA (y a : Ref sig .tc) (a' : Ref sig' .tc) : Bool :=
  (num a).blt (num y) && Nat.ble 2 (num a) && (num a').beq (num a + 1) && isHbm a && isHbm a'

theorem okY_iff {n : Nat} {y : Ref sig .tc} (h : okY n y = true) : n = num y ∧ y.space = .hbm := by
  simp only [okY, Bool.and_eq_true] at h
  exact ⟨Nat.eq_of_beq_eq_true h.1, isHbm_space h.2⟩

theorem okA_iff {y a : Ref sig .tc} (h : okA y a = true) : a.space = .hbm ∧ (num a).blt (num y) = true := by
  simp only [okA, Bool.and_eq_true] at h
  exact ⟨isHbm_space h.2, h.1⟩

theorem okYY_iff {n : Nat} {y : Ref sig .tc} {y' : Ref sig' .tc} (h : okYY n y y' = true) :
    n = num y ∧ y.space = .hbm ∧ num y' = num y + 1 ∧ y'.space = .hbm := by
  simp only [okYY, Bool.and_eq_true] at h
  exact ⟨Nat.eq_of_beq_eq_true h.1.1.1, isHbm_space h.1.2, Nat.eq_of_beq_eq_true h.1.1.2, isHbm_space h.2⟩

theorem okAA_iff {y a : Ref sig .tc} {a' : Ref sig' .tc} (h : okAA y a a' = true) :
    a.space = .hbm ∧ a'.space = .hbm ∧ Nat.ble 2 (num a) = true ∧ (num a).blt (num y) = true ∧ num a' = num a + 1 := by
  simp only [okAA, Bool.and_eq_true] at h
  exact ⟨isHbm_space h.1.2, isHbm_space h.2, h.1.1.1.2, h.1.1.1.1, Nat.eq_of_beq_eq_true h.1.1.2⟩

section Steps

variable {Ta Tb Tc Ty : BufTy} {q : Prog (TpuEff nD τ sig Val Λ .tc) PUnit} {n n' : Nat} {E : Valuation τ sig Val → Prop}

/-- The line with one more operation in front, of whose result `G` holds. -/
theorem Str.cons {op : HloOp τ sig Val} {G : Valuation τ sig Val → Prop} {y : TRef sig Ty} (h1 : op.bufs ⊆ tcRefs τ sig) (h2 : op.fresh = ∅)
    (h3 : op.writes = {Proc.devRef .tc y.ref}) (hn : n = num y.ref) (hy : y.ref.space = .hbm)
    (hs : ∀ V V', Same (n + 1) V V' → G V → G V') (hE : ∀ V, G (op.result V)) (h : Str q (num y.ref + 1) n' E) :
    Str ((hlo rfl op fun _ => .ret (⟨⟩ : PUnit)) >>= fun _ => q) n n' fun V => G V ∧ E V := by
  subst hn
  exact Str.append (Str.one h1 h2 (num_at hy) h3 hs hE) h

/-- The result's buffer is not one of a smaller number. -/
theorem rd_result_old {op : HloOp τ sig Val} {y : TRef sig Ty} {a : TRef sig Ta} (h3 : op.writes = {Proc.devRef .tc y.ref})
    (hk : (num a.ref).blt (num y.ref) = true) (V : Valuation τ sig Val) : rd (op.result V) a = rd V a := by
  unfold rd
  rw [HloOp.result_of_not_mem]
  rw [h3]
  intro hm
  have := Proc.devRef_injective _ (Finset.mem_singleton.mp hm)
  rw [this] at hk
  exact absurd (Nat.blt_eq.mp hk) (lt_irrefl _)

theorem Str.nullary {y : TRef sig Ty} {v : Ty.Contents Val} (ok : (okY n y.ref) = true) (h : Str q (num y.ref + 1) n' E) :
    Str ((hlo rfl (TRef.nullary y v) fun _ => .ret (⟨⟩ : PUnit)) >>= fun _ => q) n n' fun V => rd V y = v ∧ E V := by
  obtain ⟨hn, hy⟩ := okY_iff (ok)
  exact Str.cons (y := y) (nullary_bufs_sub ..) rfl (nullary_writes ..) hn hy
    (fun V V' hV h => by rw [← hV.rd (num_at hy) (by omega)]; exact h) (fun V => rd_nullary y v V) h

theorem Str.unary {a : TRef sig Ta} {y : TRef sig Ty} {f : Ta.Contents Val → Ty.Contents Val} (ok : (okY n y.ref && okA y.ref a.ref) = true) (h : Str q (num y.ref + 1) n' E) :
    Str ((hlo rfl (TRef.unary a y f) fun _ => .ret (⟨⟩ : PUnit)) >>= fun _ => q) n n' fun V => rd V y = f (rd V a) ∧ E V := by
  simp only [Bool.and_eq_true] at ok
  obtain ⟨hn, hy⟩ := okY_iff (ok.1)
  obtain ⟨ha, hk⟩ := okA_iff (ok.2)
  exact Str.cons (y := y) (unary_bufs_sub ..) rfl (unary_writes ..) hn hy
    (fun V V' hV h => by rw [← hV.rd (num_at hy) (by omega), ← same_rd hV hn ha hk]; exact h)
    (fun V => by rw [rd_unary, rd_result_old (y := y) (unary_writes ..) hk]) h

theorem Str.binary {a : TRef sig Ta} {b : TRef sig Tb} {y : TRef sig Ty} {f : Ta.Contents Val → Tb.Contents Val → Ty.Contents Val}
    (ok : (okY n y.ref && okA y.ref a.ref && okA y.ref b.ref) = true) (h : Str q (num y.ref + 1) n' E) :
    Str ((hlo rfl (TRef.binary a b y f) fun _ => .ret (⟨⟩ : PUnit)) >>= fun _ => q) n n' fun V => rd V y = f (rd V a) (rd V b) ∧ E V := by
  simp only [Bool.and_eq_true] at ok
  obtain ⟨hn, hy⟩ := okY_iff (ok.1.1)
  obtain ⟨ha, hk⟩ := okA_iff (ok.1.2)
  obtain ⟨hb, hj⟩ := okA_iff (ok.2)
  exact Str.cons (y := y) (binary_bufs_sub ..) rfl (binary_writes ..) hn hy
    (fun V V' hV h => by rw [← hV.rd (num_at hy) (by omega), ← same_rd hV hn ha hk, ← same_rd hV hn hb hj]; exact h)
    (fun V => by rw [rd_binary, rd_result_old (y := y) (binary_writes ..) hk, rd_result_old (y := y) (binary_writes ..) hj]) h

theorem Str.ternary {c : TRef sig Tc} {a : TRef sig Ta} {b : TRef sig Tb} {y : TRef sig Ty}
    {f : Tc.Contents Val → Ta.Contents Val → Tb.Contents Val → Ty.Contents Val}
    (ok : (okY n y.ref && okA y.ref c.ref && okA y.ref a.ref && okA y.ref b.ref) = true) (h : Str q (num y.ref + 1) n' E) :
    Str ((hlo rfl (TRef.ternary c a b y f) fun _ => .ret (⟨⟩ : PUnit)) >>= fun _ => q) n n'
      fun V => rd V y = f (rd V c) (rd V a) (rd V b) ∧ E V := by
  simp only [Bool.and_eq_true] at ok
  obtain ⟨hn, hy⟩ := okY_iff (ok.1.1.1)
  obtain ⟨hc, hi⟩ := okA_iff (ok.1.1.2)
  obtain ⟨ha, hk⟩ := okA_iff (ok.1.2)
  obtain ⟨hb, hj⟩ := okA_iff (ok.2)
  exact Str.cons (y := y) (ternary_bufs_sub ..) rfl (ternary_writes ..) hn hy
    (fun V V' hV h => by rw [← hV.rd (num_at hy) (by omega), ← same_rd hV hn hc hi, ← same_rd hV hn ha hk, ← same_rd hV hn hb hj]; exact h)
    (fun V => by rw [rd_ternary, rd_result_old (y := y) (ternary_writes ..) hi, rd_result_old (y := y) (ternary_writes ..) hk,
      rd_result_old (y := y) (ternary_writes ..) hj]) h

theorem Str.reshape {a : TRef sig Ta} {y : TRef sig Ty} {he : Ta.elt = Ty.elt} {hs : Ta.shape.ShapeCasts Ty.shape} (ok : (okY n y.ref && okA y.ref a.ref) = true) (h : Str q (num y.ref + 1) n' E) :
    Str ((hlo rfl (TRef.reshape a y he hs) fun _ => .ret (⟨⟩ : PUnit)) >>= fun _ => q) n n' fun V => rd V y = shaped he hs (rd V a) ∧ E V := by
  simp only [Bool.and_eq_true] at ok
  obtain ⟨hn, hy⟩ := okY_iff (ok.1)
  obtain ⟨ha, hk⟩ := okA_iff (ok.2)
  exact Str.cons (y := y) (reshape_bufs_sub ..) rfl (reshape_writes ..) hn hy
    (fun V V' hV h => by rw [← hV.rd (num_at hy) (by omega), ← same_rd hV hn ha hk]; exact h)
    (fun V => by rw [rd_reshape, rd_result_old (y := y) (reshape_writes ..) hk]) h

/-- The line with one more operation in front, nothing said of it. -/
theorem Str.cons_ {op : HloOp τ sig Val} {y : TRef sig Ty} (h1 : op.bufs ⊆ tcRefs τ sig) (h2 : op.fresh = ∅)
    (h3 : op.writes = {Proc.devRef .tc y.ref}) (hn : n = num y.ref) (hy : y.ref.space = .hbm) (h : Str q (num y.ref + 1) n' E) :
    Str ((hlo rfl op fun _ => .ret (⟨⟩ : PUnit)) >>= fun _ => q) n n' E := by
  have := Str.cons (y := y) (G := fun _ => True) h1 h2 h3 hn hy (fun _ _ _ h => h) (fun _ => trivial) h
  simpa only [true_and] using this

theorem Str.append_ {p q : Prog (TpuEff nD τ sig Val Λ .tc) PUnit} {n n' n'' : Nat} {E : Valuation τ sig Val → Prop}
    (h : Str p n n' fun _ => True) (h' : Str q n' n'' E) : Str (p >>= fun _ => q) n n'' E := by
  have := Str.append h h'
  simpa only [true_and] using this

theorem Str.nullary_ {y : TRef sig Ty} {v : Ty.Contents Val} (ok : (okY n y.ref) = true) (h : Str q (num y.ref + 1) n' E) :
    Str ((hlo rfl (TRef.nullary y v) fun _ => .ret (⟨⟩ : PUnit)) >>= fun _ => q) n n' E := by
  obtain ⟨hn, hy⟩ := okY_iff (ok)
  exact Str.cons_ (y := y) (nullary_bufs_sub ..) rfl (nullary_writes ..) hn hy h

theorem Str.unary_ {a : TRef sig Ta} {y : TRef sig Ty} {f : Ta.Contents Val → Ty.Contents Val} (ok : (okY n y.ref) = true)
    (h : Str q (num y.ref + 1) n' E) : Str ((hlo rfl (TRef.unary a y f) fun _ => .ret (⟨⟩ : PUnit)) >>= fun _ => q) n n' E := by
  obtain ⟨hn, hy⟩ := okY_iff (ok)
  exact Str.cons_ (y := y) (unary_bufs_sub ..) rfl (unary_writes ..) hn hy h

theorem Str.binary_ {a : TRef sig Ta} {b : TRef sig Tb} {y : TRef sig Ty} {f : Ta.Contents Val → Tb.Contents Val → Ty.Contents Val}
    (ok : (okY n y.ref) = true) (h : Str q (num y.ref + 1) n' E) :
    Str ((hlo rfl (TRef.binary a b y f) fun _ => .ret (⟨⟩ : PUnit)) >>= fun _ => q) n n' E := by
  obtain ⟨hn, hy⟩ := okY_iff (ok)
  exact Str.cons_ (y := y) (binary_bufs_sub ..) rfl (binary_writes ..) hn hy h

theorem Str.ternary_ {c : TRef sig Tc} {a : TRef sig Ta} {b : TRef sig Tb} {y : TRef sig Ty}
    {f : Tc.Contents Val → Ta.Contents Val → Tb.Contents Val → Ty.Contents Val}
    (ok : (okY n y.ref) = true) (h : Str q (num y.ref + 1) n' E) :
    Str ((hlo rfl (TRef.ternary c a b y f) fun _ => .ret (⟨⟩ : PUnit)) >>= fun _ => q) n n' E := by
  obtain ⟨hn, hy⟩ := okY_iff (ok)
  exact Str.cons_ (y := y) (ternary_bufs_sub ..) rfl (ternary_writes ..) hn hy h

theorem Str.reshape_ {a : TRef sig Ta} {y : TRef sig Ty} {he : Ta.elt = Ty.elt} {hs : Ta.shape.ShapeCasts Ty.shape} (ok : (okY n y.ref) = true) (h : Str q (num y.ref + 1) n' E) :
    Str ((hlo rfl (TRef.reshape a y he hs) fun _ => .ret (⟨⟩ : PUnit)) >>= fun _ => q) n n' E := by
  obtain ⟨hn, hy⟩ := okY_iff (ok)
  exact Str.cons_ (y := y) (reshape_bufs_sub ..) rfl (reshape_writes ..) hn hy h

/-- A line's end. -/
theorem Str.done (h : n = n') : Str (pure ⟨⟩ : Prog (TpuEff nD τ sig Val Λ .tc) PUnit) n n' fun _ => True := h ▸ .nil

end Steps

/-- `p` is a line writing the buffers `n` to `n' - 1` whose values' equations give `Q`. -/
def Says (p : Prog (TpuEff nD τ sig Val Λ .tc) PUnit) (n n' : Nat) (Q : Valuation τ sig Val → Prop) : Prop :=
  ∃ E, Str p n n' E ∧ ∀ V, E V → Q V

section SaysRules

variable {Ta Tb Tc Ty : BufTy} {q : Prog (TpuEff nD τ sig Val Λ .tc) PUnit} {n n' : Nat} {Q : Valuation τ sig Val → Prop}

theorem Says.step {p : Prog (TpuEff nD τ sig Val Λ .tc) PUnit} {m : Nat} {G : Valuation τ sig Val → Prop}
    (h : Says q m n' fun V => G V → Q V) (hp : ∀ {E}, Str q m n' E → Str p n n' fun V => G V ∧ E V) : Says p n n' Q := by
  obtain ⟨E, h1, h2⟩ := h
  exact ⟨_, hp h1, fun V ⟨hG, hE⟩ => h2 V hE hG⟩

theorem Says.append {p : Prog (TpuEff nD τ sig Val Λ .tc) PUnit} {k m : Nat} {G : Valuation τ sig Val → Prop} (hp : Str p k m G) (hk : n.beq k = true)
    (h : Says q m n' fun V => G V → Q V) : Says (p >>= fun _ => q) n n' Q := by
  cases Nat.eq_of_beq_eq_true hk
  exact h.step fun h => hp.append h

theorem Says.append_ {p : Prog (TpuEff nD τ sig Val Λ .tc) PUnit} {k m : Nat} (hp : Str p k m fun _ => True) (hk : n.beq k = true)
    (h : Says q m n' Q) : Says (p >>= fun _ => q) n n' Q := by
  cases Nat.eq_of_beq_eq_true hk
  obtain ⟨E, h1, h2⟩ := h
  exact ⟨E, Str.append_ hp h1, h2⟩

/-- One line after another, by what the first says. -/
theorem Says.then {p : Prog (TpuEff nD τ sig Val Λ .tc) PUnit} {k m : Nat} {G : Valuation τ sig Val → Prop} (hp : Says p k m G) (hk : n.beq k = true)
    (h : Says q m n' fun V => G V → Q V) : Says (p >>= fun _ => q) n n' Q := by
  cases Nat.eq_of_beq_eq_true hk
  obtain ⟨E, h1, h2⟩ := hp
  obtain ⟨E', h3, h4⟩ := h
  exact ⟨_, h1.append h3, fun V ⟨hE, hE'⟩ => h4 V hE' (h2 V hE)⟩

theorem Says.done (hn : n.beq n' = true) (h : ∀ V, Q V) : Says (pure ⟨⟩ : Prog (TpuEff nD τ sig Val Λ .tc) PUnit) n n' Q :=
  ⟨_, Str.done (Nat.eq_of_beq_eq_true hn), fun V _ => h V⟩

theorem Says.last {op : HloOp τ sig Val}
    (h : Says ((hlo rfl op fun _ => .ret (⟨⟩ : PUnit)) >>= fun _ => pure ⟨⟩ : Prog (TpuEff nD τ sig Val Λ .tc) PUnit) n n' Q) :
    Says (hlo rfl op fun _ => .ret (⟨⟩ : PUnit) : Prog (TpuEff nD τ sig Val Λ .tc) PUnit) n n' Q := h

theorem Says.nullary {y : TRef sig Ty} {v : Ty.Contents Val} (ok : (okY n y.ref) = true) (h : Says q (num y.ref + 1) n' fun V => rd V y = v → Q V) :
    Says ((hlo rfl (TRef.nullary y v) fun _ => .ret (⟨⟩ : PUnit)) >>= fun _ => q) n n' Q :=
  h.step fun h => Str.nullary ok h

theorem Says.unary {a : TRef sig Ta} {y : TRef sig Ty} {f : Ta.Contents Val → Ty.Contents Val} (ok : (okY n y.ref && okA y.ref a.ref) = true) (h : Says q (num y.ref + 1) n' fun V => rd V y = f (rd V a) → Q V) :
    Says ((hlo rfl (TRef.unary a y f) fun _ => .ret (⟨⟩ : PUnit)) >>= fun _ => q) n n' Q :=
  h.step fun h => Str.unary ok h

theorem Says.binary {a : TRef sig Ta} {b : TRef sig Tb} {y : TRef sig Ty} {f : Ta.Contents Val → Tb.Contents Val → Ty.Contents Val}
    (ok : (okY n y.ref && okA y.ref a.ref && okA y.ref b.ref) = true) (h : Says q (num y.ref + 1) n' fun V => rd V y = f (rd V a) (rd V b) → Q V) :
    Says ((hlo rfl (TRef.binary a b y f) fun _ => .ret (⟨⟩ : PUnit)) >>= fun _ => q) n n' Q :=
  h.step fun h => Str.binary ok h

theorem Says.ternary {c : TRef sig Tc} {a : TRef sig Ta} {b : TRef sig Tb} {y : TRef sig Ty}
    {f : Tc.Contents Val → Ta.Contents Val → Tb.Contents Val → Ty.Contents Val}
    (ok : (okY n y.ref && okA y.ref c.ref && okA y.ref a.ref && okA y.ref b.ref) = true) (h : Says q (num y.ref + 1) n' fun V => rd V y = f (rd V c) (rd V a) (rd V b) → Q V) :
    Says ((hlo rfl (TRef.ternary c a b y f) fun _ => .ret (⟨⟩ : PUnit)) >>= fun _ => q) n n' Q :=
  h.step fun h => Str.ternary ok h

theorem Says.reshape {a : TRef sig Ta} {y : TRef sig Ty} {he : Ta.elt = Ty.elt} {hs : Ta.shape.ShapeCasts Ty.shape} (ok : (okY n y.ref && okA y.ref a.ref) = true) (h : Says q (num y.ref + 1) n' fun V => rd V y = shaped he hs (rd V a) → Q V) :
    Says ((hlo rfl (TRef.reshape a y he hs) fun _ => .ret (⟨⟩ : PUnit)) >>= fun _ => q) n n' Q :=
  h.step fun h => Str.reshape ok h

theorem Says.nullary_ {y : TRef sig Ty} {v : Ty.Contents Val} (ok : (okY n y.ref) = true) (h : Says q (num y.ref + 1) n' Q) :
    Says ((hlo rfl (TRef.nullary y v) fun _ => .ret (⟨⟩ : PUnit)) >>= fun _ => q) n n' Q := by
  obtain ⟨E, h1, h2⟩ := h
  exact ⟨E, Str.nullary_ ok h1, h2⟩

theorem Says.unary_ {a : TRef sig Ta} {y : TRef sig Ty} {f : Ta.Contents Val → Ty.Contents Val} (ok : (okY n y.ref) = true)
    (h : Says q (num y.ref + 1) n' Q)
    : Says ((hlo rfl (TRef.unary a y f) fun _ => .ret (⟨⟩ : PUnit)) >>= fun _ => q) n n' Q := by
  obtain ⟨E, h1, h2⟩ := h
  exact ⟨E, Str.unary_ ok h1, h2⟩

theorem Says.binary_ {a : TRef sig Ta} {b : TRef sig Tb} {y : TRef sig Ty} {f : Ta.Contents Val → Tb.Contents Val → Ty.Contents Val}
    (ok : (okY n y.ref) = true) (h : Says q (num y.ref + 1) n' Q) :
    Says ((hlo rfl (TRef.binary a b y f) fun _ => .ret (⟨⟩ : PUnit)) >>= fun _ => q) n n' Q := by
  obtain ⟨E, h1, h2⟩ := h
  exact ⟨E, Str.binary_ ok h1, h2⟩

theorem Says.ternary_ {c : TRef sig Tc} {a : TRef sig Ta} {b : TRef sig Tb} {y : TRef sig Ty}
    {f : Tc.Contents Val → Ta.Contents Val → Tb.Contents Val → Ty.Contents Val}
    (ok : (okY n y.ref) = true) (h : Says q (num y.ref + 1) n' Q) :
    Says ((hlo rfl (TRef.ternary c a b y f) fun _ => .ret (⟨⟩ : PUnit)) >>= fun _ => q) n n' Q := by
  obtain ⟨E, h1, h2⟩ := h
  exact ⟨E, Str.ternary_ ok h1, h2⟩

theorem Says.reshape_ {a : TRef sig Ta} {y : TRef sig Ty} {he : Ta.elt = Ty.elt} {hs : Ta.shape.ShapeCasts Ty.shape} (ok : (okY n y.ref) = true) (h : Says q (num y.ref + 1) n' Q) :
    Says ((hlo rfl (TRef.reshape a y he hs) fun _ => .ret (⟨⟩ : PUnit)) >>= fun _ => q) n n' Q := by
  obtain ⟨E, h1, h2⟩ := h
  exact ⟨E, Str.reshape_ ok h1, h2⟩

end SaysRules

/-! ## Two lines side by side

The second program's buffers are numbered one higher than the first's. -/

/-- Two contents agree on the buffers `2` to `n - 1` of the first program and their counterparts in the second. -/
def Agree (n : Nat) (V : Valuation τ sig Val) (V' : Valuation τ' sig' Val) : Prop :=
  ∀ (T : BufTy) (r : TRef sig T) (r' : TRef sig' T) (k : Nat), 2 ≤ k → k < n → At r.ref k → At r'.ref (k + 1) → rd V r = rd V' r'

/-- `p` and `q` are lines writing buffers `n` to `n' - 1` and their counterparts; from agreeing contents they leave agreeing
    contents. -/
def Lock (p : Prog (TpuEff nD τ sig Val Λ .tc) PUnit) (q : Prog (TpuEff nD' τ' sig' Val Λ' .tc) PUnit) (n n' : Nat) : Prop :=
  ∃ ops ops', p = seq ops ∧ q = seq ops' ∧ Ok ops n n' ∧ Ok ops' (n + 1) (n' + 1) ∧
    ∀ V V', Agree n V V' → Agree n' (after ops V) (after ops' V')

theorem Lock.nil {n : Nat} : Lock (pure ⟨⟩ : Prog (TpuEff nD τ sig Val Λ .tc) PUnit) (pure ⟨⟩ : Prog (TpuEff nD' τ' sig' Val Λ' .tc) PUnit) n n :=
  ⟨[], [], rfl, rfl, .nil le_rfl, .nil le_rfl, fun _ _ h => h⟩

theorem Lock.append {p p1 : Prog (TpuEff nD τ sig Val Λ .tc) PUnit} {q q1 : Prog (TpuEff nD' τ' sig' Val Λ' .tc) PUnit} {n m n' : Nat}
    (h : Lock p q n m) (h' : Lock p1 q1 m n') : Lock (p >>= fun _ => p1) (q >>= fun _ => q1) n n' := by
  obtain ⟨l, r, h1, h2, h3, h4, h5⟩ := h
  obtain ⟨l', r', h1', h2', h3', h4', h5'⟩ := h'
  refine ⟨l ++ l', r ++ r', by rw [h1, h1', seq_append], by rw [h2, h2', seq_append], h3.append h3', h4.append h4', fun V V' hV => ?_⟩
  rw [after_append, after_append]
  exact h5' _ _ (h5 _ _ hV)

theorem trefEq {T T' : BufTy} {r : TRef sig T} {y : TRef sig T'} (h : r.ref = y.ref) : ∃ e : T' = T, r = e ▸ y := by
  obtain ⟨r, hr, hr1, hr2⟩ := r
  obtain ⟨y, hy, hy1, hy2⟩ := y
  dsimp only at h
  subst h hr hy
  exact ⟨rfl, rfl⟩

section Locks

variable {Ta Tb Tc Ty : BufTy} {p : Prog (TpuEff nD τ sig Val Λ .tc) PUnit} {q : Prog (TpuEff nD' τ' sig' Val Λ' .tc) PUnit} {n n' : Nat}

/-- One operation each, in front. -/
theorem Lock.cons {op : HloOp τ sig Val} {op' : HloOp τ' sig' Val} {y : TRef sig Ty} {y' : TRef sig' Ty}
    (h1 : op.bufs ⊆ tcRefs τ sig) (h2 : op.fresh = ∅) (h3 : op.writes = {Proc.devRef .tc y.ref})
    (h1' : op'.bufs ⊆ tcRefs τ' sig') (h2' : op'.fresh = ∅) (h3' : op'.writes = {Proc.devRef .tc y'.ref})
    (hn : n = num y.ref) (hy : y.ref.space = .hbm) (hn' : num y'.ref = num y.ref + 1) (hy' : y'.ref.space = .hbm)
    (hE : ∀ V V', Agree (num y.ref) V V' → rd (op.result V) y = rd (op'.result V') y') (h : Lock p q (num y.ref + 1) n') :
    Lock ((hlo rfl op fun _ => .ret (⟨⟩ : PUnit)) >>= fun _ => p) ((hlo rfl op' fun _ => .ret (⟨⟩ : PUnit)) >>= fun _ => q) n n' := by
  subst hn
  have ok : Ok [op] (num y.ref) (num y.ref + 1) := .one h1 h2 (num_at hy) h3
  have ok' : Ok [op'] (num y.ref + 1) (num y.ref + 1 + 1) := .one h1' h2' ⟨hy', hn'⟩ h3'
  refine Lock.append ⟨[op], [op'], rfl, rfl, ok, ok', fun V V' hV T r r' k hk hk' hr hr' => ?_⟩ h
  rcases Nat.lt_succ_iff_lt_or_eq.mp hk' with hlt | rfl
  · unfold rd
    rw [ok.keeps V hr (.inl hlt), ok'.keeps V' hr' (.inl (Nat.succ_lt_succ hlt))]
    exact hV T r r' k hk hlt hr hr'
  · obtain ⟨e, rfl⟩ := trefEq (hr.inj (num_at hy))
    obtain ⟨e', rfl⟩ := trefEq (hr'.inj ⟨hy', hn'⟩)
    subst e
    exact hE V V' hV

/-- An operand the lines have already written. -/
theorem Agree.arg {V : Valuation τ sig Val} {V' : Valuation τ' sig' Val} {m : Nat} (h : Agree m V V') {a : TRef sig Ta} {a' : TRef sig' Ta}
    (ha : a.ref.space = .hbm) (ha' : a'.ref.space = .hbm) (h2 : Nat.ble 2 (num a.ref) = true) (hk : (num a.ref).blt m = true)
    (hn : num a'.ref = num a.ref + 1) : rd V a = rd V' a' :=
  h _ a a' _ (Nat.le_of_ble_eq_true h2) (Nat.blt_eq.mp hk) (num_at ha) ⟨ha', hn⟩

theorem Lock.nullary {y : TRef sig Ty} {y' : TRef sig' Ty} {v v' : Ty.Contents Val}
    (ok : (okYY n y.ref y'.ref) = true) (hv : v = v')
    (h : Lock p q (num y.ref + 1) n') :
    Lock ((hlo rfl (TRef.nullary y v) fun _ => .ret (⟨⟩ : PUnit)) >>= fun _ => p)
      ((hlo rfl (TRef.nullary y' v') fun _ => .ret (⟨⟩ : PUnit)) >>= fun _ => q) n n' := by
  obtain ⟨hn, hy, hn', hy'⟩ := okYY_iff (ok)
  exact Lock.cons (y := y) (y' := y') (nullary_bufs_sub ..) rfl (nullary_writes ..) (nullary_bufs_sub ..) rfl (nullary_writes ..) hn hy hn' hy'
    (fun V V' _ => by rw [rd_nullary, rd_nullary, hv]) h

theorem Lock.unary {a : TRef sig Ta} {a' : TRef sig' Ta} {y : TRef sig Ty} {y' : TRef sig' Ty} {f f' : Ta.Contents Val → Ty.Contents Val}
    (ok : (okYY n y.ref y'.ref && okAA y.ref a.ref a'.ref) = true) (hf : f = f') (h : Lock p q (num y.ref + 1) n') :
    Lock ((hlo rfl (TRef.unary a y f) fun _ => .ret (⟨⟩ : PUnit)) >>= fun _ => p)
      ((hlo rfl (TRef.unary a' y' f') fun _ => .ret (⟨⟩ : PUnit)) >>= fun _ => q) n n' := by
  simp only [Bool.and_eq_true] at ok
  obtain ⟨hn, hy, hn', hy'⟩ := okYY_iff (ok.1)
  obtain ⟨a1, a2, a3, a4, a5⟩ := okAA_iff (ok.2)
  exact Lock.cons (y := y) (y' := y') (unary_bufs_sub ..) rfl (unary_writes ..) (unary_bufs_sub ..) rfl (unary_writes ..) hn hy hn' hy'
    (fun V V' hV => by rw [rd_unary, rd_unary, hf, hV.arg a1 a2 a3 a4 a5]) h

theorem Lock.reshape {a : TRef sig Ta} {a' : TRef sig' Ta} {y : TRef sig Ty} {y' : TRef sig' Ty}
    {he he' : Ta.elt = Ty.elt} {hs hs' : Ta.shape.ShapeCasts Ty.shape}
    (ok : (okYY n y.ref y'.ref && okAA y.ref a.ref a'.ref) = true) (h : Lock p q (num y.ref + 1) n') :
    Lock ((hlo rfl (TRef.reshape a y he hs) fun _ => .ret (⟨⟩ : PUnit)) >>= fun _ => p)
      ((hlo rfl (TRef.reshape a' y' he' hs') fun _ => .ret (⟨⟩ : PUnit)) >>= fun _ => q) n n' := by
  simp only [Bool.and_eq_true] at ok
  obtain ⟨hn, hy, hn', hy'⟩ := okYY_iff (ok.1)
  obtain ⟨a1, a2, a3, a4, a5⟩ := okAA_iff (ok.2)
  exact Lock.cons (y := y) (y' := y') (reshape_bufs_sub ..) rfl (reshape_writes ..) (reshape_bufs_sub ..) rfl (reshape_writes ..) hn hy hn' hy'
    (fun V V' hV => by rw [rd_reshape, rd_reshape, hV.arg a1 a2 a3 a4 a5]) h

theorem Lock.binary {a : TRef sig Ta} {a' : TRef sig' Ta} {b : TRef sig Tb} {b' : TRef sig' Tb} {y : TRef sig Ty} {y' : TRef sig' Ty}
    {f f' : Ta.Contents Val → Tb.Contents Val → Ty.Contents Val}
    (ok : (okYY n y.ref y'.ref && okAA y.ref a.ref a'.ref && okAA y.ref b.ref b'.ref) = true) (hf : f = f') (h : Lock p q (num y.ref + 1) n') :
    Lock ((hlo rfl (TRef.binary a b y f) fun _ => .ret (⟨⟩ : PUnit)) >>= fun _ => p)
      ((hlo rfl (TRef.binary a' b' y' f') fun _ => .ret (⟨⟩ : PUnit)) >>= fun _ => q) n n' := by
  simp only [Bool.and_eq_true] at ok
  obtain ⟨hn, hy, hn', hy'⟩ := okYY_iff (ok.1.1)
  obtain ⟨a1, a2, a3, a4, a5⟩ := okAA_iff (ok.1.2)
  obtain ⟨b1, b2, b3, b4, b5⟩ := okAA_iff (ok.2)
  exact Lock.cons (y := y) (y' := y') (binary_bufs_sub ..) rfl (binary_writes ..) (binary_bufs_sub ..) rfl (binary_writes ..) hn hy hn' hy'
    (fun V V' hV => by rw [rd_binary, rd_binary, hf, hV.arg a1 a2 a3 a4 a5, hV.arg b1 b2 b3 b4 b5]) h

theorem Lock.ternary {c : TRef sig Tc} {c' : TRef sig' Tc} {a : TRef sig Ta} {a' : TRef sig' Ta} {b : TRef sig Tb} {b' : TRef sig' Tb}
    {y : TRef sig Ty} {y' : TRef sig' Ty} {f f' : Tc.Contents Val → Ta.Contents Val → Tb.Contents Val → Ty.Contents Val}
    (ok : (okYY n y.ref y'.ref && okAA y.ref c.ref c'.ref && okAA y.ref a.ref a'.ref && okAA y.ref b.ref b'.ref) = true) (hf : f = f') (h : Lock p q (num y.ref + 1) n') :
    Lock ((hlo rfl (TRef.ternary c a b y f) fun _ => .ret (⟨⟩ : PUnit)) >>= fun _ => p)
      ((hlo rfl (TRef.ternary c' a' b' y' f') fun _ => .ret (⟨⟩ : PUnit)) >>= fun _ => q) n n' := by
  simp only [Bool.and_eq_true] at ok
  obtain ⟨hn, hy, hn', hy'⟩ := okYY_iff (ok.1.1.1)
  obtain ⟨c1, c2, c3, c4, c5⟩ := okAA_iff (ok.1.1.2)
  obtain ⟨a1, a2, a3, a4, a5⟩ := okAA_iff (ok.1.2)
  obtain ⟨b1, b2, b3, b4, b5⟩ := okAA_iff (ok.2)
  exact Lock.cons (y := y) (y' := y') (ternary_bufs_sub ..) rfl (ternary_writes ..) (ternary_bufs_sub ..) rfl (ternary_writes ..) hn hy hn' hy'
    (fun V V' hV => by rw [rd_ternary, rd_ternary, hf, hV.arg c1 c2 c3 c4 c5, hV.arg a1 a2 a3 a4 a5, hV.arg b1 b2 b3 b4 b5]) h

/-- A line's end. -/
theorem Lock.done (h : n = n') :
    Lock (pure ⟨⟩ : Prog (TpuEff nD τ sig Val Λ .tc) PUnit) (pure ⟨⟩ : Prog (TpuEff nD' τ' sig' Val Λ' .tc) PUnit) n n' := h ▸ .nil

theorem Lock.last {op : HloOp τ sig Val} {op' : HloOp τ' sig' Val}
    (h : Lock ((hlo rfl op fun _ => .ret (⟨⟩ : PUnit)) >>= fun _ => pure ⟨⟩ : Prog (TpuEff nD τ sig Val Λ .tc) PUnit)
      ((hlo rfl op' fun _ => .ret (⟨⟩ : PUnit)) >>= fun _ => pure ⟨⟩ : Prog (TpuEff nD' τ' sig' Val Λ' .tc) PUnit) n n') :
    Lock (hlo rfl op fun _ => .ret (⟨⟩ : PUnit) : Prog (TpuEff nD τ sig Val Λ .tc) PUnit)
      (hlo rfl op' fun _ => .ret (⟨⟩ : PUnit) : Prog (TpuEff nD' τ' sig' Val Λ' .tc) PUnit) n n' := h

end Locks

end Cert.HostLine

end
-- ==== Proof.Ideal.TileProg.lean ====
/-
  The SparseCore kernel's program, once more in few lines: the six windows of its loop as a recursion, the 128 small
  copies of a window as another.  `tile_eq` (TileEq) is its equality with the printed
  kernel.
-/
module

public import proofs.«01_k».proof.KernelIdeal

@[expose] public section

namespace Cert.KernelIdeal.Tile

open Idealize.ShloMosaic Idealize.SL.Sem
open Cert.KernelIdeal Cert.KernelIdeal.Facts

variable {F : FTy → Type} [FloatOps F] [Facts]
open K0.Facts₀ Shapes1.Facts₀

/-- The lane group that copy `e` of a tile's 768 reads: the first of the eight lanes that hold its element. -/
abbrev laneOf (e : ℕ) : ℕ := bif Nat.blt e 128 then e / 8 * 8 else (e - 128) / 5 / 8 * 8

/-- The row of the shared scratch that the tile fills, as the kernel computes it. -/
abbrev rowN (i : grid0.Coords) : ℕ := (BitVec.ofNat 32 (i 1).val).toNat

theorem rowN_eq : ∀ i : grid0.Coords, rowN i = (i 1).val := by decide +kernel

theorem laneOf_le {e : ℕ} (h : e < 768) : laneOf e ≤ 120 := by
  unfold laneOf; cases hb : Nat.blt e 128 <;> simp only [cond_true, cond_false]
  · omega
  · have := Nat.blt_eq.mp hb
    omega

theorem src_inb {e : ℕ} (h : e < 768) :
    ∀ a, (![e / 128 % 2, e % 128, laneOf e] : Fin 3 → Nat) a + S1x1x8.size a ≤ S2x128x128.size a := by
  have := laneOf_le h
  intro a; fin_cases a <;> simp <;> omega

theorem dst_inb (i : grid0.Coords) {e : ℕ} (h : e < 768) :
    ∀ a, (![rowN i, 8 * e] : Fin 2 → Nat) a + S1x8.size a ≤ S16x6144.size a := by
  have h0 := rowN_eq i
  have h1 : (i 1).val < 16 := (i 1).isLt
  intro a; fin_cases a
  · simp only [h0]; simp; omega
  · simp; omega

variable (i : grid0.Coords) (arg2 : Memref sig .scVector .hbm S100000x4096 .f32) (arg3 : Memref sig .scVector .hbm S4096 .i32)
  (arg4 : Memref sig .scVector .hbm S20480 .i32) (arg5 : Memref sig .scVector .hbm S32x6144 .f32)
  (arg6 : Memref sig .scVector .vmem S128 .i32) (harg6 : arg6.IsWhole)
  (arg7 : Memref sig .scVector .vmem S640 .i32) (harg7 : arg7.IsWhole) (arg8 : Memref sig .scVector .vmem S2x128x128 .f32)
  (arg9 : Memref sig .scVector .shared S16x6144 .f32) (arg10 arg11 arg12 r0 r1 r2 : DmaSems sig S_)

/-- The programs of a vector subcore. -/
abbrev TProg (F : FTy → Type) [FloatOps F] (i : grid0.Coords) :=
  Prog (TpuEff nD τ sig (Elt F) Λ₀ (.scVector ((i 0).castLE hcore0) ((i 1).castLE hsub0))) PUnit

/-- Eight words of the staging buffer: lanes `l … l + 7` of row `k` of slot `sl`. -/
abbrev stageRef (sl k l : ℕ) (h : ∀ a, (![sl, k, l] : Fin 3 → Nat) a + S1x1x8.size a ≤ S2x128x128.size a) :
    Memref sig .scVector .vmem S8 .f32 :=
  (arg8.slice (Rect.unit (s := S2x128x128) ![sl, k, l] S1x1x8.size h) (fun _ => rfl)).squeeze S8 squeezes_S1x1x8_S8

/-- The eight words that copy `e` reads. -/
abbrev srcRef (e : ℕ) (h : e < 768) : Memref sig .scVector .vmem S8 .f32 :=
  stageRef arg8 (e / 128 % 2) (e % 128) (laneOf e) (src_inb h)

/-- The eight words that copy `e` writes. -/
abbrev dstRef (e : ℕ) (h : e < 768) : Memref sig .scVector .shared S8 .f32 :=
  (arg9.slice (Rect.unit (s := S16x6144) ![rowN i, 8 * e] S1x8.size (dst_inb i h)) (fun _ => rfl)).squeeze S8
    squeezes_S1x8_S8

/-- The copies `e`, `e + 1`, … , `e + n - 1`. -/
def copies : (n e : ℕ) → e + n ≤ 768 → TProg F i
  | 0, _, _ => .ret ⟨⟩
  | n + 1, e, h =>
    .op (.enqueueDma (srcRef arg8 e (by omega)) (.here (dstRef i arg9 e (by omega))) (.dma arg12.sem)
        ((View.wordExact_bits rfl).reshape _ _) ((View.wordExact_bits rfl).reshape _ _) ⟨Or.inl rfl, trivial⟩)
      fun _ => copies n (e + 1) (by omega)

theorem drain_inb {w : ℕ} : ∀ a, (![w % 2, 0, 0] : Fin 3 → Nat) a + S1x1x8.size a ≤ S2x128x128.size a := by
  intro a; fin_cases a <;> simp; omega

/-- One wait for eight words of window `w`. -/
abbrev waitCopy (w : ℕ) (hw : w < 6) : TProg F i :=
  .op (.waitDma2 arg12.sem (stageRef arg8 (w % 2) 0 0 drain_inb) (dstRef i arg9 (128 * w) (by omega))
      ((View.wordExact_bits rfl).reshape _ _) ((View.wordExact_bits rfl).reshape _ _)) fun _ => .ret ⟨⟩

/-- The wait for the copies of window `w`: 128 waits, each for eight words. -/
def drain (w : ℕ) (hw : w < 6) : TProg F i :=
  Scf.Loop.for k0_t1_loop k0_t1_ok ⟨⟩ fun _ _ => waitCopy i arg8 arg9 arg12 w hw

theorem slot_inb {w : ℕ} : ∀ a, (![w % 2, 0, 0] : Fin 3 → Nat) a + S1x128x128.size a ≤ S2x128x128.size a := by
  intro a; fin_cases a <;> simp; omega

theorem offs_inb {w : ℕ} (hw : w < 5) : ∀ a, (![128 * w] : Fin 1 → Nat) a + S128.size a ≤ S640.size a := by
  intro a; fin_cases a; simp; omega

/-- The slot of the staging buffer that window `w` lands in. -/
abbrev slotRef (w : ℕ) : Memref sig .scVector .vmem S128x128 .f32 :=
  (arg8.slice (Rect.unit (s := S2x128x128) ![w % 2, 0, 0] S1x128x128.size slot_inb) (fun _ => rfl)).squeeze S128x128
    squeezes_S1x128x128_S128x128

/-- The 128 columns of the table that the tile reads. -/
abbrev tabRef : Memref sig .scVector .hbm S100000x128 .f32 :=
  arg2.slice (Rect.unit (s := S100000x4096) (k0_off3 i) S100000x128.size (k0_off3_inb i)) (fun _ => rfl)

/-- The row numbers of window `w`: the targets at first, then the five windows of the noise. -/
abbrev offsRef : (w : ℕ) → w < 6 → Memref sig .scVector .vmem S128 .i32
  | 0, _ => arg6
  | w + 1, h => arg7.slice (Rect.unit (s := S640) ![128 * w] S128.size (offs_inb (Nat.lt_of_succ_lt_succ h))) (fun _ => rfl)

/-- The semaphore of window `w`'s gather. -/
abbrev gsem (w : ℕ) : DmaSems sig S_ := bif Nat.beq (w % 2) 0 then arg10 else arg11

/-- The start of window `w`'s gather. -/
abbrev startGather (w : ℕ) (hw : w < 6) : TProg F i :=
  SparseCore.enqueueIndirectGather rfl (tabRef i arg2) (slotRef arg8 w) gathers_S100000x128_S128x128 (offsRef arg6 arg7 w hw) rfl
    (gsem arg10 arg11 w).sem (View.wordExact_bits rfl) rfl (Or.inl rfl)

/-- The wait for window `w`'s gather. -/
abbrev waitGather (w : ℕ) : TProg F i :=
  SparseCore.waitIndirectGather (gsem arg10 arg11 w).sem (tabRef i arg2) (slotRef arg8 w) (View.wordExact_bits rfl)
    ((View.wordExact_bits rfl).reshape _ _)

/-- Window `w` up to its drain. -/
def window (w : ℕ) (hw : w < 6) : TProg F i := do
  waitGather i arg2 arg8 arg10 arg11 w
  copies i arg8 arg9 arg12 128 (128 * w) (by omega)
  drain i arg8 arg9 arg12 w hw

/-- `n` windows from `w`, each starting the gather two windows on. -/
def windows : (n w : ℕ) → w + n ≤ 4 → TProg F i
  | 0, _, _ => .ret ⟨⟩
  | n + 1, w, h => do
    window i arg2 arg8 arg9 arg10 arg11 arg12 w (by omega)
    startGather i arg2 arg6 arg7 arg8 arg10 arg11 (w + 2) (by omega)
    windows n (w + 1) (by omega)

/-- The tile's row of the result. -/
abbrev outRef : Memref sig .scVector .hbm S6144 .f32 :=
  (arg5.slice (Rect.unit (s := S32x6144) (k0_off778 i) S1x6144.size (k0_off778_inb i)) (fun _ => rfl)).squeeze S6144
    squeezes_S1x6144_S6144

/-- The tile's row of the shared scratch. -/
abbrev rowRef : Memref sig .scVector .shared S6144 .f32 :=
  (arg9.slice (Rect.unit (s := S16x6144) (k0_off779 i) S1x6144.size (k0_off779_inb i)) (fun _ => rfl)).squeeze S6144
    squeezes_S1x6144_S6144

/-- The tile's targets. -/
abbrev tgtRef : Memref sig .scVector .hbm S128 .i32 :=
  arg3.slice (Rect.unit (s := S4096) (k0_off1 i) S128.size (k0_off1_inb i)) (fun _ => rfl)

/-- The tile's noise. -/
abbrev nzRef : Memref sig .scVector .hbm S640 .i32 :=
  arg4.slice (Rect.unit (s := S20480) (k0_off2 i) S640.size (k0_off2_inb i)) (fun _ => rfl)

/-- The whole tile. -/
def tile : TProg F i := do
  Prog.lift (.enqueueDma (tgtRef i arg3) (.here arg6) (.dma r0.sem) (View.wordExact_bits rfl) harg6.wordExact ⟨Or.inl rfl, trivial⟩)
  Prog.lift (.waitDma2 r0.sem (tgtRef i arg3) arg6 (View.wordExact_bits rfl) harg6.wordExact)
  Prog.lift (.enqueueDma (nzRef i arg4) (.here arg7) (.dma r1.sem) (View.wordExact_bits rfl) harg7.wordExact ⟨Or.inl rfl, trivial⟩)
  Prog.lift (.waitDma2 r1.sem (nzRef i arg4) arg7 (View.wordExact_bits rfl) harg7.wordExact)
  startGather i arg2 arg6 arg7 arg8 arg10 arg11 0 (by omega)
  startGather i arg2 arg6 arg7 arg8 arg10 arg11 1 (by omega)
  windows i arg2 arg6 arg7 arg8 arg9 arg10 arg11 arg12 4 0 (by omega)
  window i arg2 arg8 arg9 arg10 arg11 arg12 4 (by omega)
  window i arg2 arg8 arg9 arg10 arg11 arg12 5 (by omega)
  Prog.lift (.enqueueDma (rowRef i arg9) (.here (outRef i arg5)) (.dma r2.sem) ((View.wordExact_bits rfl).reshape _ _)
    ((View.wordExact_bits rfl).reshape _ _) ⟨Or.inl rfl, trivial⟩)
  Prog.lift (.waitDma2 r2.sem (rowRef i arg9) (outRef i arg5) ((View.wordExact_bits rfl).reshape _ _)
    ((View.wordExact_bits rfl).reshape _ _))

end Cert.KernelIdeal.Tile

end
-- ==== Proof.Ideal.Geo.lean ====
/-
  The buffers of the SparseCore call, the elements each of a tile's views names, and the values that land there.

  Tile `(c, s)` is number `wid = 2 * s + c`.  It reads 128 columns of the table (from `128 * wid`), 128 targets, 640
  noise numbers, and fills row `s` of its core's shared scratch: element `8 * e + j` is the table at the row that the
  `e`-th of its 768 row numbers names and at column `128 * wid + laneOf e + j`.
-/
module

public import proofs.«01_k».proof.Proof.Ideal.TileProg
public import proofs.«01_k».proof.Proof.Gen.KernelIdeal
public import Idealize.ShloMosaic.Lib.SparseCore.Stream
public import Idealize.ShloMosaic.Lib.ViewIndex

@[expose] public section

noncomputable section

namespace Cert.KernelIdeal.Tile

open Idealize.ShloMosaic Idealize.SL.Sem
open Cert.KernelIdeal Cert.KernelIdeal.Gen

variable {F : FTy → Type}

/-! ## Indices by their coordinates, each taken modulo its extent -/

/-- The index of a vector. -/
def i1 {n : ℕ} (hn : 0 < n) (k : ℕ) : (⟨1, ![n]⟩ : Shape).Idx
  | ⟨0, _⟩ => ⟨k % n, Nat.mod_lt _ hn⟩

/-- The index of a matrix. -/
def i2 {n m : ℕ} (hn : 0 < n) (hm : 0 < m) (k l : ℕ) : (⟨2, ![n, m]⟩ : Shape).Idx
  | ⟨0, _⟩ => ⟨k % n, Nat.mod_lt _ hn⟩
  | ⟨1, _⟩ => ⟨l % m, Nat.mod_lt _ hm⟩

abbrev iTab (k l : ℕ) : S100000x4096.Idx := i2 (by decide) (by decide) k l
abbrev iTgt (k : ℕ) : S4096.Idx := i1 (by decide) k
abbrev iNz (k : ℕ) : S20480.Idx := i1 (by decide) k

/-! ## The values -/

/-- The number of a tile's `e`-th row: its own targets, then its own noise. -/
def entry (tg : S4096.Idx → BitVec 32) (nz : S20480.Idx → BitVec 32) (wid e : ℕ) : ℕ :=
  if e < 128 then (tg (iTgt (128 * wid + e))).toNat else (nz (iNz (640 * wid + (e - 128)))).toNat

variable (T : S100000x4096.Idx → Elt F .f32) (tg : S4096.Idx → BitVec 32) (nz : S20480.Idx → BitVec 32) (wid : ℕ)

/-- Element `p` of the tile's row of results. -/
def outAt (p : ℕ) : Elt F .f32 := T (iTab (entry tg nz wid (p / 8)) (128 * wid + (laneOf (p / 8) + p % 8)))

/-- The shared scratch once the tile has filled its row. -/
def shVal : S16x6144.Idx → Elt F .f32 := fun x => outAt T tg nz wid (x 1).val

/-- The staging buffer's slot once window `w` has landed. -/
def stVal (w : ℕ) : S2x128x128.Idx → Elt F .f32 := fun x =>
  T (iTab (entry tg nz wid (128 * w + (x 1).val)) (128 * wid + (x 2).val))

/-- The call's whole result: row `wid` is tile `wid`'s. -/
def outVal : S32x6144.Idx → Elt F .f32 := fun x => outAt T tg nz (x 0).val (x 1).val

/-- The tile's targets, as its scratch holds them. -/
def tgVal : S128.Idx → BitVec 32 := fun x => tg (iTgt (128 * wid + (x 0).val))

/-- The tile's noise, as its scratch holds it. -/
def nzVal : S640.Idx → BitVec 32 := fun x => nz (iNz (640 * wid + (x 0).val))

/-! ## The buffers -/

local notation "tV" => (Memref.whole Cert.KernelIdeal.main_v9_scv : Memref Cert.KernelIdeal.sig Kind.scVector Space.hbm Cert.KernelIdeal.S100000x4096 EltTy.f32)
local notation "gV" => (Memref.whole Cert.KernelIdeal.main_arg1_scv : Memref Cert.KernelIdeal.sig Kind.scVector Space.hbm Cert.KernelIdeal.S4096 EltTy.i32)
local notation "nV" => (Memref.whole Cert.KernelIdeal.main_v10_scv : Memref Cert.KernelIdeal.sig Kind.scVector Space.hbm Cert.KernelIdeal.S20480 EltTy.i32)
local notation "oV" => (Memref.whole Cert.KernelIdeal.main_v11_scv : Memref Cert.KernelIdeal.sig Kind.scVector Space.hbm Cert.KernelIdeal.S32x6144 EltTy.f32)
local notation "aV" => (Memref.whole Cert.KernelIdeal.cc0_scratch0 : Memref Cert.KernelIdeal.sig Kind.scVector Space.vmem Cert.KernelIdeal.S128 EltTy.i32)
local notation "bV" => (Memref.whole Cert.KernelIdeal.cc0_scratch1 : Memref Cert.KernelIdeal.sig Kind.scVector Space.vmem Cert.KernelIdeal.S640 EltTy.i32)
local notation "stV" => (Memref.whole Cert.KernelIdeal.cc0_scratch2 : Memref Cert.KernelIdeal.sig Kind.scVector Space.vmem Cert.KernelIdeal.S2x128x128 EltTy.f32)
local notation "shV" => (Memref.whole Cert.KernelIdeal.cc0_scratch3 : Memref Cert.KernelIdeal.sig Kind.scVector Space.shared Cert.KernelIdeal.S16x6144 EltTy.f32)

/-! ## The sets -/

/-- The eight words of the staging buffer that copy `e` reads. -/
def srcSet (e : ℕ) : Finset S2x128x128.Idx := Finset.univ.filter fun x =>
  (x 0).val = e / 128 % 2 ∧ (x 1).val = e % 128 ∧ laneOf e ≤ (x 2).val ∧ (x 2).val < laneOf e + 8

/-- The slot of window `w`. -/
def slotSet (w : ℕ) : Finset S2x128x128.Idx := Finset.univ.filter fun x => (x 0).val = w % 2

/-- Columns `lo … hi - 1` of row `r` of the shared scratch. -/
def colSet (r lo hi : ℕ) : Finset S16x6144.Idx := Finset.univ.filter fun x => (x 0).val = r ∧ lo ≤ (x 1).val ∧ (x 1).val < hi

/-- The tile's columns of the table. -/
def tabSet (wid : ℕ) : Finset S100000x4096.Idx := Finset.univ.filter fun x => 128 * wid ≤ (x 1).val ∧ (x 1).val < 128 * wid + 128

/-- The tile's targets. -/
def tgSet (wid : ℕ) : Finset S4096.Idx := Finset.univ.filter fun x => 128 * wid ≤ (x 0).val ∧ (x 0).val < 128 * wid + 128

/-- The tile's noise. -/
def nzSet (wid : ℕ) : Finset S20480.Idx := Finset.univ.filter fun x => 640 * wid ≤ (x 0).val ∧ (x 0).val < 640 * wid + 640

/-- The tile's row of the result. -/
def outSet (wid : ℕ) : Finset S32x6144.Idx := Finset.univ.filter fun x => (x 0).val = wid

/-- Numbers `lo … lo + 127` of the noise scratch. -/
def offSet (lo : ℕ) : Finset S640.Idx := Finset.univ.filter fun x => lo ≤ (x 0).val ∧ (x 0).val < lo + 128

/-- The tile's number. -/
abbrev widL (L : grid0.Coords) : ℕ := 2 * (L 1).val + (L 0).val

theorem L0_lt (L : grid0.Coords) : (L 0).val < 2 := (L 0).isLt
theorem L1_lt (L : grid0.Coords) : (L 1).val < 16 := (L 1).isLt
theorem widL_lt (L : grid0.Coords) : widL L < 32 := by have := L0_lt L; have := L1_lt L; unfold widL; omega

theorem fin1 {P : Fin 1 → Prop} : (∀ a, P a) ↔ P 0 := by simp [Fin.forall_fin_one]
theorem fin2 {P : Fin 2 → Prop} : (∀ a, P a) ↔ P 0 ∧ P 1 := Fin.forall_fin_two
theorem fin3 {P : Fin 3 → Prop} : (∀ a, P a) ↔ P 0 ∧ P 1 ∧ P 2 := by
  rw [Fin.forall_fin_succ, Fin.forall_fin_two]; rfl

theorem set_srcRef {e : ℕ} (h : e < 768) : (srcRef stV e h).view.set = srcSet e := by
  refine (show _ = (Rect.unit (s := S2x128x128) _ S1x1x8.size (src_inb h)).set from (View.set_reshape _ _).trans (View.set_slice_whole _ _)).trans ?_
  ext x
  rw [Rect.mem_set_unit]
  refine fin3.trans ?_
  simp only [srcSet, Finset.mem_filter, Finset.mem_univ, true_and]
  show (_ ≤ (x 0).val ∧ (x 0).val < _ + 1) ∧ (_ ≤ (x 1).val ∧ (x 1).val < _ + 1) ∧ (_ ≤ (x 2).val ∧ (x 2).val < _ + 8) ↔ _
  simp only [Matrix.cons_val]
  omega

theorem set_dstRef (L : grid0.Coords) {e : ℕ} (h : e < 768) :
    (dstRef L shV e h).view.set = colSet (L 1).val (8 * e) (8 * e + 8) := by
  refine (show _ = (Rect.unit (s := S16x6144) _ S1x8.size (dst_inb L h)).set from (View.set_reshape _ _).trans (View.set_slice_whole _ _)).trans ?_
  ext x
  rw [Rect.mem_set_unit]
  refine fin2.trans ?_
  simp only [colSet, Finset.mem_filter, Finset.mem_univ, true_and]
  show (_ ≤ (x 0).val ∧ (x 0).val < _ + 1) ∧ (_ ≤ (x 1).val ∧ (x 1).val < _ + 8) ↔ _
  have := rowN_eq L
  simp only [Matrix.cons_val, this]
  omega

theorem set_slotRef (w : ℕ) : (slotRef stV w).view.set = slotSet w := by
  refine (show _ = (Rect.unit (s := S2x128x128) _ S1x128x128.size (slot_inb (w := w))).set from (View.set_reshape _ _).trans (View.set_slice_whole _ _)).trans ?_
  ext x
  rw [Rect.mem_set_unit]
  refine fin3.trans ?_
  simp only [slotSet, Finset.mem_filter, Finset.mem_univ, true_and]
  show (_ ≤ (x 0).val ∧ (x 0).val < _ + 1) ∧ (_ ≤ (x 1).val ∧ (x 1).val < _ + 128) ∧ (_ ≤ (x 2).val ∧ (x 2).val < _ + 128) ↔ _
  have h1 : (x 1).val < 128 := (x 1).isLt
  have h2 : (x 2).val < 128 := (x 2).isLt
  simp only [Matrix.cons_val]
  omega

theorem set_tabRef (L : grid0.Coords) : (tabRef L tV).view.set = tabSet (widL L) := by
  show ((View.whole main_v9_scv).slice _).set = _
  rw [View.set_slice_whole]
  ext x
  rw [Rect.mem_set_unit]
  refine fin2.trans ?_
  simp only [tabSet, Finset.mem_filter, Finset.mem_univ, true_and, k0_off3_eq]
  show (_ ≤ (x 0).val ∧ (x 0).val < _ + 100000) ∧ (_ ≤ (x 1).val ∧ (x 1).val < _ + 128) ↔ _
  have h0 : (x 0).val < 100000 := (x 0).isLt
  simp only [Matrix.cons_val, widL]
  omega

theorem set_tgtRef (L : grid0.Coords) : (tgtRef L gV).view.set = tgSet (widL L) := by
  show ((View.whole main_arg1_scv).slice _).set = _
  rw [View.set_slice_whole]
  ext x
  rw [Rect.mem_set_unit]
  refine fin1.trans ?_
  simp only [tgSet, Finset.mem_filter, Finset.mem_univ, true_and, k0_off1_eq]
  show (_ ≤ (x 0).val ∧ (x 0).val < _ + 128) ↔ _
  simp only [Matrix.cons_val, widL]
  omega

theorem set_nzRef (L : grid0.Coords) : (nzRef L nV).view.set = nzSet (widL L) := by
  show ((View.whole main_v10_scv).slice _).set = _
  rw [View.set_slice_whole]
  ext x
  rw [Rect.mem_set_unit]
  refine fin1.trans ?_
  simp only [nzSet, Finset.mem_filter, Finset.mem_univ, true_and, k0_off2_eq]
  show (_ ≤ (x 0).val ∧ (x 0).val < _ + 640) ↔ _
  simp only [Matrix.cons_val, widL]
  omega

theorem set_outRef (L : grid0.Coords) : (outRef L oV).view.set = outSet (widL L) := by
  refine (show _ = (Rect.unit (s := S32x6144) _ S1x6144.size (k0_off778_inb L)).set from (View.set_reshape _ _).trans (View.set_slice_whole _ _)).trans ?_
  ext x
  rw [Rect.mem_set_unit]
  refine fin2.trans ?_
  simp only [outSet, Finset.mem_filter, Finset.mem_univ, true_and, k0_off778_eq]
  show (_ ≤ (x 0).val ∧ (x 0).val < _ + 1) ∧ (_ ≤ (x 1).val ∧ (x 1).val < _ + 6144) ↔ _
  have h1 : (x 1).val < 6144 := (x 1).isLt
  simp only [Matrix.cons_val, widL]
  omega

theorem set_rowRef (L : grid0.Coords) : (rowRef L shV).view.set = colSet (L 1).val 0 6144 := by
  refine (show _ = (Rect.unit (s := S16x6144) _ S1x6144.size (k0_off779_inb L)).set from (View.set_reshape _ _).trans (View.set_slice_whole _ _)).trans ?_
  ext x
  rw [Rect.mem_set_unit]
  refine fin2.trans ?_
  simp only [colSet, Finset.mem_filter, Finset.mem_univ, true_and, k0_off779_eq]
  show (_ ≤ (x 0).val ∧ (x 0).val < _ + 1) ∧ (_ ≤ (x 1).val ∧ (x 1).val < _ + 6144) ↔ _
  simp only [Matrix.cons_val]
  omega

theorem set_offsRef (w : ℕ) (hw : w + 1 < 6) : (offsRef aV bV (w + 1) hw).view.set = offSet (128 * w) := by
  show ((View.whole cc0_scratch1).slice _).set = _
  rw [View.set_slice_whole]
  ext x
  rw [Rect.mem_set_unit]
  refine fin1.trans ?_
  simp only [offSet, Finset.mem_filter, Finset.mem_univ, true_and]
  show (_ ≤ (x 0).val ∧ (x 0).val < _ + 128) ↔ _
  simp only [Matrix.cons_val]

/-! ## Where a view places its indices -/

theorem emb_srcRef {e : ℕ} (h : e < 768) (x : S8.Idx) {y : S2x128x128.Idx} (hy : (srcRef stV e h).view.emb x = y) :
    (y 0).val = e / 128 % 2 ∧ (y 1).val = e % 128 ∧ (y 2).val = laneOf e + (x 0).val := by
  have hr : Shape.reshapeEquiv squeezes_S1x1x8_S8.numel_eq x = (fun | 0 => (0 : Fin 1) | 1 => (0 : Fin 1) | 2 => (x 0 : Fin 8) : S1x1x8.Idx) :=
    Shape.reshapeEquiv_eq_of_rowMajor _ (by
      rw [Shape.rowMajor_val_three, Shape.rowMajor_val_one]; show (0 * 1 + 0) * 8 + (x 0).val = _; omega)
  have hy : (Rect.unit (s := S2x128x128) _ S1x1x8.size (src_inb h)).emb (Shape.reshapeEquiv squeezes_S1x1x8_S8.numel_eq x) = y := hy
  rw [hr] at hy
  rw [← hy]
  refine ⟨?_, ?_, ?_⟩ <;> simp [Rect.emb_apply]

theorem emb_dstRef (L : grid0.Coords) {e : ℕ} (h : e < 768) (x : S8.Idx) {y : S16x6144.Idx} (hy : (dstRef L shV e h).view.emb x = y) :
    (y 0).val = (L 1).val ∧ (y 1).val = 8 * e + (x 0).val := by
  have hr : Shape.reshapeEquiv squeezes_S1x8_S8.numel_eq x = (fun | 0 => (0 : Fin 1) | 1 => (x 0 : Fin 8) : S1x8.Idx) :=
    Shape.reshapeEquiv_eq_of_rowMajor _ (by
      rw [Shape.rowMajor_val_two, Shape.rowMajor_val_one]; show 0 * 8 + (x 0).val = _; omega)
  have hy : (Rect.unit (s := S16x6144) _ S1x8.size (dst_inb L h)).emb (Shape.reshapeEquiv squeezes_S1x8_S8.numel_eq x) = y := hy
  rw [hr] at hy
  rw [← hy, ← rowN_eq L]
  refine ⟨?_, ?_⟩ <;> simp [Rect.emb_apply]

theorem emb_slotRef (w : ℕ) (x : S128x128.Idx) {y : S2x128x128.Idx} (hy : (slotRef stV w).view.emb x = y) :
    (y 0).val = w % 2 ∧ (y 1).val = (x 0).val ∧ (y 2).val = (x 1).val := by
  have hr : Shape.reshapeEquiv squeezes_S1x128x128_S128x128.numel_eq x
      = (fun | 0 => (0 : Fin 1) | 1 => (x 0 : Fin 128) | 2 => (x 1 : Fin 128) : S1x128x128.Idx) :=
    Shape.reshapeEquiv_eq_of_rowMajor _ (by
      rw [Shape.rowMajor_val_three, Shape.rowMajor_val_two]
      show (0 * 128 + (x 0).val) * 128 + (x 1).val = (x 0).val * 128 + (x 1).val; omega)
  have hy : (Rect.unit (s := S2x128x128) _ S1x128x128.size slot_inb).emb
      (Shape.reshapeEquiv squeezes_S1x128x128_S128x128.numel_eq x) = y := hy
  rw [hr] at hy
  rw [← hy]
  refine ⟨?_, ?_, ?_⟩ <;> simp [Rect.emb_apply]

theorem emb_tabRef (L : grid0.Coords) (x : S100000x128.Idx) {y : S100000x4096.Idx} (hy : (tabRef L tV).view.emb x = y) :
    (y 0).val = (x 0).val ∧ (y 1).val = 128 * widL L + (x 1).val := by
  have hy : (Rect.unit (s := S100000x4096) (k0_off3 L) S100000x128.size (k0_off3_inb L)).emb x = y := hy
  rw [← hy]
  refine ⟨?_, ?_⟩ <;> simp [Rect.emb_apply, k0_off3_eq, widL]
  omega

theorem emb_tgtRef (L : grid0.Coords) (x : S128.Idx) {y : S4096.Idx} (hy : (tgtRef L gV).view.emb x = y) :
    (y 0).val = 128 * widL L + (x 0).val := by
  have hy : (Rect.unit (s := S4096) (k0_off1 L) S128.size (k0_off1_inb L)).emb x = y := hy
  rw [← hy]
  simp [Rect.emb_apply, k0_off1_eq, widL]
  omega

theorem emb_nzRef (L : grid0.Coords) (x : S640.Idx) {y : S20480.Idx} (hy : (nzRef L nV).view.emb x = y) :
    (y 0).val = 640 * widL L + (x 0).val := by
  have hy : (Rect.unit (s := S20480) (k0_off2 L) S640.size (k0_off2_inb L)).emb x = y := hy
  rw [← hy]
  simp [Rect.emb_apply, k0_off2_eq, widL]
  omega

theorem emb_outRef (L : grid0.Coords) (x : S6144.Idx) {y : S32x6144.Idx} (hy : (outRef L oV).view.emb x = y) :
    (y 0).val = widL L ∧ (y 1).val = (x 0).val := by
  have hr : Shape.reshapeEquiv squeezes_S1x6144_S6144.numel_eq x = (fun | 0 => (0 : Fin 1) | 1 => (x 0 : Fin 6144) : S1x6144.Idx) :=
    Shape.reshapeEquiv_eq_of_rowMajor _ (by
      rw [Shape.rowMajor_val_two, Shape.rowMajor_val_one]; show 0 * 6144 + (x 0).val = _; omega)
  have hy : (Rect.unit (s := S32x6144) (k0_off778 L) S1x6144.size (k0_off778_inb L)).emb
      (Shape.reshapeEquiv squeezes_S1x6144_S6144.numel_eq x) = y := hy
  rw [hr] at hy
  rw [← hy]
  refine ⟨?_, ?_⟩ <;> simp [Rect.emb_apply, k0_off778_eq, widL]

theorem emb_rowRef (L : grid0.Coords) (x : S6144.Idx) {y : S16x6144.Idx} (hy : (rowRef L shV).view.emb x = y) :
    (y 0).val = (L 1).val ∧ (y 1).val = (x 0).val := by
  have hr : Shape.reshapeEquiv squeezes_S1x6144_S6144.numel_eq x = (fun | 0 => (0 : Fin 1) | 1 => (x 0 : Fin 6144) : S1x6144.Idx) :=
    Shape.reshapeEquiv_eq_of_rowMajor _ (by
      rw [Shape.rowMajor_val_two, Shape.rowMajor_val_one]; show 0 * 6144 + (x 0).val = _; omega)
  have hy : (Rect.unit (s := S16x6144) (k0_off779 L) S1x6144.size (k0_off779_inb L)).emb
      (Shape.reshapeEquiv squeezes_S1x6144_S6144.numel_eq x) = y := hy
  rw [hr] at hy
  rw [← hy]
  refine ⟨?_, ?_⟩ <;> simp [Rect.emb_apply, k0_off779_eq]

theorem emb_offsRef (w : ℕ) (hw : w + 1 < 6) (x : S128.Idx) {y : S640.Idx} (hy : (offsRef aV bV (w + 1) hw).view.emb x = y) :
    (y 0).val = 128 * w + (x 0).val := by
  have hy : (Rect.unit (s := S640) ![128 * w] S128.size (offs_inb (Nat.lt_of_succ_lt_succ hw))).emb x = y := hy
  rw [← hy]
  simp [Rect.emb_apply]

/-! ## What lands -/

theorem iTab_eq {y : S100000x4096.Idx} {k l : ℕ} (h0 : (y 0).val = k) (h1 : (y 1).val = l) : y = iTab k l := by
  have b0 : (y 0).val < 100000 := (y 0).isLt
  have b1 : (y 1).val < 4096 := (y 1).isLt
  funext a
  match a with
  | ⟨0, _⟩ => exact Fin.ext (by show (y 0).val = k % 100000; omega)
  | ⟨1, _⟩ => exact Fin.ext (by show (y 1).val = l % 4096; omega)

theorem iTgt_eq {y : S4096.Idx} {k : ℕ} (h0 : (y 0).val = k) : y = iTgt k := by
  have b0 : (y 0).val < 4096 := (y 0).isLt
  funext a
  match a with
  | ⟨0, _⟩ => exact Fin.ext (by show (y 0).val = k % 4096; omega)

theorem iNz_eq {y : S20480.Idx} {k : ℕ} (h0 : (y 0).val = k) : y = iNz k := by
  have b0 : (y 0).val < 20480 := (y 0).isLt
  funext a
  match a with
  | ⟨0, _⟩ => exact Fin.ext (by show (y 0).val = k % 20480; omega)

/-- Inside a view, a write on all of it is any contents with the same elements there. -/
theorem write_eq_on {κ : Kind} {sp : Space} {s : Shape} {e : EltTy} (v : View sig κ sp s e) (f g : v.ty.Contents (Elt F))
    (w : s.Idx → Elt F e) (h : ∀ x, v.read (Elt F) g x = w x) : ∀ i ∈ v.set, v.write (Elt F) f w Finset.univ i = g i := by
  intro i hi
  obtain ⟨x, -, rfl⟩ := Finset.mem_map.mp hi
  exact View.eq_of_read_eq ((View.read_write_of_mem f w (Finset.mem_univ x)).trans (h x).symm)

/-- What the target copy reads. -/
theorem read_tgtRef (L : grid0.Coords) : (tgtRef L gV).view.read (Elt F) tg = tgVal tg (widL L) := by
  funext x
  exact congrArg tg (iTgt_eq (emb_tgtRef L x rfl))

/-- What the noise copy reads. -/
theorem read_nzRef (L : grid0.Coords) : (nzRef L nV).view.read (Elt F) nz = nzVal nz (widL L) := by
  funext x
  exact congrArg nz (iNz_eq (emb_nzRef L x rfl))

/-- A copy of eight words reads, out of its window's slot, what the shared scratch is to hold. -/
theorem read_copy (L : grid0.Coords) {e : ℕ} (h : e < 768) (x : S8.Idx) :
    (dstRef L shV e h).view.read (Elt F) (shVal T tg nz wid) x = (srcRef stV e h).view.read (Elt F) (stVal T tg nz wid (e / 128)) x := by
  have hx : (x 0).val < 8 := (x 0).isLt
  obtain ⟨-, d1⟩ := emb_dstRef L h x rfl
  obtain ⟨-, s1, s2⟩ := emb_srcRef h x rfl
  show outAt T tg nz wid ((dstRef L shV e h).view.emb x 1).val = stVal T tg nz wid (e / 128) ((srcRef stV e h).view.emb x)
  unfold outAt stVal
  rw [d1, s1, s2, show (8 * e + (x 0).val) / 8 = e by omega, show (8 * e + (x 0).val) % 8 = (x 0).val by omega,
    show 128 * (e / 128) + e % 128 = e by omega]

/-- The write-out reads the tile's row of the result. -/
theorem read_out (L : grid0.Coords) (x : S6144.Idx) :
    (outRef L oV).view.read (Elt F) (outVal T tg nz) x = (rowRef L shV).view.read (Elt F) (shVal T tg nz (widL L)) x := by
  obtain ⟨o0, o1⟩ := emb_outRef L x rfl
  obtain ⟨-, r1⟩ := emb_rowRef L x rfl
  show outAt T tg nz ((outRef L oV).view.emb x 0).val ((outRef L oV).view.emb x 1).val
    = outAt T tg nz (widL L) ((rowRef L shV).view.emb x 1).val
  rw [o0, o1, r1]

/-- A gather along a list of rows that are the entries of window `w` lands, in the window's slot, the table at those
    rows. -/
theorem read_gather (L : grid0.Coords) (w : ℕ) (hg : S100000x128.Gathers 0 S128x128) (r : Fin (S128x128.size hg.axis') → Fin (S100000x128.size hg.axis))
    (hr : ∀ k, (r k).val = entry tg nz (widL L) (128 * w + k.val)) (x : S128x128.Idx) :
    (slotRef stV w).view.read (Elt F) (stVal T tg nz (widL L) w) x
      = SparseCore.gatherPayload (e := .f32) hg ((tabRef L tV).view.read (Elt F) T) r x := by
  obtain ⟨-, s1, s2⟩ := emb_slotRef w x rfl
  obtain ⟨t0, t1⟩ := emb_tabRef L (hg.idx r x) rfl
  show stVal T tg nz (widL L) w ((slotRef stV w).view.emb x) = T ((tabRef L tV).view.emb (hg.idx r x))
  unfold stVal
  rw [s1, s2]
  refine congrArg T (iTab_eq ?_ ?_).symm
  · rw [t0]
    exact (congrArg Fin.val (hg.idx_axis r x)).trans (hr _)
  · rw [t1]
    exact congrArg (128 * widL L + ·) (hg.idx_of_ne r x 1 (by decide))

/-- The list of window 0 is the tile's targets. -/
theorem rows_zero (k : S128.Idx) : (tgVal tg wid k).toNat = entry tg nz wid (128 * 0 + (k 0).val) := by
  have hk : (k 0).val < 128 := (k 0).isLt
  unfold tgVal entry
  rw [if_pos (by omega), show 128 * 0 + (k 0).val = (k 0).val by omega]

/-- The list of window `w + 1` is a stretch of the tile's noise. -/
theorem rows_succ (w : ℕ) (hw : w + 1 < 6) (k : S128.Idx) :
    ((offsRef aV bV (w + 1) hw).view.read (Elt F) (nzVal nz wid) k).toNat = entry tg nz wid (128 * (w + 1) + (k 0).val) := by
  have e := emb_offsRef w hw k rfl
  show (nzVal nz wid ((offsRef aV bV (w + 1) hw).view.emb k)).toNat = _
  unfold nzVal entry
  rw [e, if_neg (by omega), show 128 * (w + 1) + (k 0).val - 128 = 128 * w + (k 0).val by omega]

/-- Row numbers in range. -/
def InRange (tg : S4096.Idx → BitVec 32) (nz : S20480.Idx → BitVec 32) : Prop :=
  (∀ j, (tg j).toNat < 100000) ∧ ∀ j, (nz j).toNat < 100000

theorem entry_lt (h : InRange tg nz) (e : ℕ) : entry tg nz wid e < 100000 := by
  unfold entry
  split
  · exact h.1 _
  · exact h.2 _

end Cert.KernelIdeal.Tile

end
-- ==== Proof.Ideal.TileEq.lean ====
/-
  The printed SparseCore kernel is the program `tile`.
-/
module

public import proofs.«01_k».proof.Proof.Ideal.TileProg

@[expose] public section

namespace Cert.KernelIdeal.Tile

open Idealize.ShloMosaic Idealize.SL.Sem
open Cert.KernelIdeal Cert.KernelIdeal.Facts

variable {F : FTy → Type} [FloatOps F] [Facts]
open K0.Facts₀ Shapes1.Facts₀

variable (i : grid0.Coords) (arg2 : Memref sig .scVector .hbm S100000x4096 .f32) (arg3 : Memref sig .scVector .hbm S4096 .i32)
  (arg4 : Memref sig .scVector .hbm S20480 .i32) (arg5 : Memref sig .scVector .hbm S32x6144 .f32)
  (arg6 : Memref sig .scVector .vmem S128 .i32) (harg6 : arg6.IsWhole)
  (arg7 : Memref sig .scVector .vmem S640 .i32) (harg7 : arg7.IsWhole) (arg8 : Memref sig .scVector .vmem S2x128x128 .f32)
  (arg9 : Memref sig .scVector .shared S16x6144 .f32) (arg10 arg11 arg12 r0 r1 r2 : DmaSems sig S_)

set_option maxRecDepth 1000000 in
set_option maxHeartbeats 0 in
/-- The printed kernel is `tile`. -/
theorem tile_eq (h2 : arg2.IsWhole) (h3 : arg3.IsWhole) (h4 : arg4.IsWhole) (h5 : arg5.IsWhole) (h8 : arg8.IsWhole)
    (h9 : arg9.IsWhole) :
    (cc0__sc_gather (F := F) i arg2 h2 arg3 h3 arg4 h4 arg5 h5 arg6 harg6 arg7 harg7 arg8 h8 arg9 h9 arg10 arg11 arg12 r0 r1 r2)
      = tile i arg2 arg3 arg4 arg5 arg6 harg6 arg7 harg7 arg8 arg9 arg10 arg11 arg12 r0 r1 r2 := by
  simp only [cc0__sc_gather, k0_part196, k0_part197, k0_part198, k0_part33, k0_part66, k0_part98, k0_part131, k0_part163,
    k0_part195, tile, windows, window, drain, Prog.bind_assoc, Prog.bind_ret, pure]
  rfl

end Cert.KernelIdeal.Tile

end
-- ==== Proof.Ideal.Base.lean ====
/-
  The program as the launch theorem of SparseCore calls takes it, the ghost state the proofs use, and the buffers'
  locations.
-/
module

public import proofs.«01_k».proof.Defs
public import proofs.«01_k».proof.Proof.Ideal.Geo
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.Scf
public import Idealize.ShloMosaic.Lib.Pipeline.Kit
public import Idealize.ShloMosaic.Lib.StableHlo.Run
public import Idealize.ShloMosaic.Lib.Tactic
public import proofs.«01_k».proof.Proof.Gen.KernelIdeal

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide +kernel,
    fun _ => rfl⟩

/-! ## The resource algebra: the handshakes' rounds library, the pipeline's, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds library: the middle factor. -/
def EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

local notation "tV" => (Memref.whole Cert.KernelIdeal.main_v9_scv : Memref Cert.KernelIdeal.sig Kind.scVector Space.hbm Cert.KernelIdeal.S100000x4096 EltTy.f32)
local notation "gV" => (Memref.whole Cert.KernelIdeal.main_arg1_scv : Memref Cert.KernelIdeal.sig Kind.scVector Space.hbm Cert.KernelIdeal.S4096 EltTy.i32)
local notation "nV" => (Memref.whole Cert.KernelIdeal.main_v10_scv : Memref Cert.KernelIdeal.sig Kind.scVector Space.hbm Cert.KernelIdeal.S20480 EltTy.i32)
local notation "oV" => (Memref.whole Cert.KernelIdeal.main_v11_scv : Memref Cert.KernelIdeal.sig Kind.scVector Space.hbm Cert.KernelIdeal.S32x6144 EltTy.f32)
local notation "aV" => (Memref.whole Cert.KernelIdeal.cc0_scratch0 : Memref Cert.KernelIdeal.sig Kind.scVector Space.vmem Cert.KernelIdeal.S128 EltTy.i32)
local notation "bV" => (Memref.whole Cert.KernelIdeal.cc0_scratch1 : Memref Cert.KernelIdeal.sig Kind.scVector Space.vmem Cert.KernelIdeal.S640 EltTy.i32)
local notation "stV" => (Memref.whole Cert.KernelIdeal.cc0_scratch2 : Memref Cert.KernelIdeal.sig Kind.scVector Space.vmem Cert.KernelIdeal.S2x128x128 EltTy.f32)
local notation "shV" => (Memref.whole Cert.KernelIdeal.cc0_scratch3 : Memref Cert.KernelIdeal.sig Kind.scVector Space.shared Cert.KernelIdeal.S16x6144 EltTy.f32)

abbrev tLoc (d : Dev nD) : Loc nD τ sig := (SparseCore.T d).loc main_v9
abbrev gLoc (d : Dev nD) : Loc nD τ sig := (SparseCore.T d).loc main_arg1
abbrev nLoc (d : Dev nD) : Loc nD τ sig := (SparseCore.T d).loc main_v10
abbrev oLoc (d : Dev nD) : Loc nD τ sig := (SparseCore.T d).loc main_v11

/-- A SparseCore's shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

end Cert.KernelIdeal.Tile

end
-- ==== Proof.Ideal.TileCopies.lean ====
/-
  The 128 small copies of a window and the waits that drain them: from the window's slot of the staging buffer into
  the tile's row of the shared scratch.
-/
module

public import proofs.«01_k».proof.Defs
public import proofs.«01_k».proof.Proof.Ideal.Geo
public import proofs.«01_k».proof.Proof.Ideal.TileEq
public import proofs.«01_k».proof.Proof.Ideal.Base
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.Scf
public import Idealize.ShloMosaic.Lib.Pipeline.Kit
public import Idealize.ShloMosaic.Lib.StableHlo.Run
public import Idealize.ShloMosaic.Lib.Tactic
public import proofs.«01_k».proof.Proof.Gen.KernelIdeal

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v9_scv : Memref Cert.KernelIdeal.sig Kind.scVector Space.hbm Cert.KernelIdeal.S100000x4096 EltTy.f32)
local notation "gV" => (Memref.whole Cert.KernelIdeal.main_arg1_scv : Memref Cert.KernelIdeal.sig Kind.scVector Space.hbm Cert.KernelIdeal.S4096 EltTy.i32)
local notation "nV" => (Memref.whole Cert.KernelIdeal.main_v10_scv : Memref Cert.KernelIdeal.sig Kind.scVector Space.hbm Cert.KernelIdeal.S20480 EltTy.i32)
local notation "oV" => (Memref.whole Cert.KernelIdeal.main_v11_scv : Memref Cert.KernelIdeal.sig Kind.scVector Space.hbm Cert.KernelIdeal.S32x6144 EltTy.f32)
local notation "aV" => (Memref.whole Cert.KernelIdeal.cc0_scratch0 : Memref Cert.KernelIdeal.sig Kind.scVector Space.vmem Cert.KernelIdeal.S128 EltTy.i32)
local notation "bV" => (Memref.whole Cert.KernelIdeal.cc0_scratch1 : Memref Cert.KernelIdeal.sig Kind.scVector Space.vmem Cert.KernelIdeal.S640 EltTy.i32)
local notation "stV" => (Memref.whole Cert.KernelIdeal.cc0_scratch2 : Memref Cert.KernelIdeal.sig Kind.scVector Space.vmem Cert.KernelIdeal.S2x128x128 EltTy.f32)
local notation "shV" => (Memref.whole Cert.KernelIdeal.cc0_scratch3 : Memref Cert.KernelIdeal.sig Kind.scVector Space.shared Cert.KernelIdeal.S16x6144 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

abbrev aLoc : Loc nD τ sig := (thr d L).loc cc0_scratch0
abbrev bLoc : Loc nD τ sig := (thr d L).loc cc0_scratch1
abbrev stLoc : Loc nD τ sig := (thr d L).loc cc0_scratch2

variable (Tb : S100000x4096.Idx → Elt F .f32) (tg : S4096.Idx → BitVec 32) (nz : S20480.Idx → BitVec 32)

/-- What the thread owes, with the waits it may have recorded since. -/
def Owes (O : CellTallies nD τ sig (HIx 1)) (W : Waits sig (HIx 1)) : sProp 𝕄 :=
  iprop(∃ W', ⌜∀ p ∈ W', p ∈ W ∨ p.2 = none⌝ ∗ owes (thr d L) O W')

theorem owes_eq (O : CellTallies nD τ sig (HIx 1)) (W : Waits sig (HIx 1)) :
    (Owes d L O W : sProp 𝕄) = iprop(∃ W', ⌜∀ p ∈ W', p ∈ W ∨ p.2 = none⌝ ∗ owes (thr d L) O W') := rfl

theorem owes_insert {O : CellTallies nD τ sig (HIx 1)} {W W' : Waits sig (HIx 1)} (h : ∀ p ∈ W', p ∈ W ∨ p.2 = none) (sm : SemLoc sig) :
    (owes (thr d L) O (insert (sm, (default : HIx 1)) W') : sProp 𝕄) ⊢ Owes d L O W := by
  unfold Owes
  iintro H
  iexists _; isplitr
  swap; · iexact H
  ipureintro; intro p hp
  rcases Finset.mem_insert.mp hp with hp | hp
  · exact .inr (hp ▸ rfl)
  · exact h p hp

/-! ## The views' elements, as the buffers' -/

theorem pts_src (e : ℕ) (h : e < 768) (f : Buf (Elt F) (stLoc d L)) :
    ((srcRef stV e h).view.loc (thr d L) ↦[(srcRef stV e h).view.set]{fullShare} f : sProp 𝕄) = stLoc d L ↦[srcSet e]{fullShare} f := by
  rw [set_srcRef]
theorem pts_dst (e : ℕ) (h : e < 768) (f : Buf (Elt F) (shLoc d (cV L))) :
    ((dstRef L shV e h).view.loc (thr d L) ↦[(dstRef L shV e h).view.set]{fullShare} f : sProp 𝕄)
      = shLoc d (cV L) ↦[colSet (L 1).val (8 * e) (8 * e + 8)]{fullShare} f := by
  rw [set_dstRef]; rfl

/-! ## The small copies of a window -/

/-- The words of one copy's credit. -/
abbrev cN : ℕ := (dstRef L shV 0 (by omega)).view.dmaCredit

/-- What copy `t` of window `w` delivers: its eight words of the shared scratch, and its source back. -/
def cD (w : ℕ) (t : Fin 128) : sProp 𝕄 :=
  iprop((shLoc d (cV L) ↦[colSet (L 1).val (8 * (128 * w + t.val)) (8 * (128 * w + t.val) + 8)]{fullShare} shVal Tb tg nz (widL L))
    ∗ (stLoc d L ↦[srcSet (128 * w + t.val)]{fullShare} stVal Tb tg nz (widL L) w))

instance (w : ℕ) (t : Fin 128) : BI.Storable (upEmb : UEmb _ 𝕄) (cD d L Tb tg nz w t) := by unfold cD; infer_instance

/-- What it takes. -/
def cS (w : ℕ) (f : Buf (Elt F) (shLoc d (cV L))) (t : Fin 128) : sProp 𝕄 :=
  iprop((shLoc d (cV L) ↦[colSet (L 1).val (8 * (128 * w + t.val)) (8 * (128 * w + t.val) + 8)]{fullShare} f)
    ∗ (stLoc d L ↦[srcSet (128 * w + t.val)]{fullShare} stVal Tb tg nz (widL L) w))

abbrev cSem : SemLoc sig := .dma cc0_scratch6.sem

theorem copy_lands (w : ℕ) (f : Buf (Elt F) (shLoc d (cV L))) (j : ℕ) (hj : j < 128) (h : 128 * w + j < 768) :
    iprop(((dstRef L shV (128 * w + j) h).view.loc (thr d L) ↦[(dstRef L shV (128 * w + j) h).view.set]{fullShare}
          ((dstRef L shV (128 * w + j) h).view.write (Elt F) f
            ((ReadAs.same : ReadAs (Elt F) S8 .f32 S8 .f32).apply ((srcRef stV (128 * w + j) h).view.read (Elt F) (stVal Tb tg nz (widL L) w))) Finset.univ))
        ∗ ((srcRef stV (128 * w + j) h).view.loc (thr d L) ↦[(srcRef stV (128 * w + j) h).view.set]{fullShare} stVal Tb tg nz (widL L) w))
      ⊢ (cD d L Tb tg nz w ⟨j, hj⟩ : sProp 𝕄) := by
  have hw : (128 * w + j) / 128 = w := by omega
  have key : ∀ i ∈ (dstRef L shV (128 * w + j) h).view.set,
      (dstRef L shV (128 * w + j) h).view.write (Elt F) f ((srcRef stV (128 * w + j) h).view.read (Elt F) (stVal Tb tg nz (widL L) w)) Finset.univ i
        = shVal Tb tg nz (widL L) i := by
    refine write_eq_on (dstRef L shV (128 * w + j) h).view f (shVal Tb tg nz (widL L)) _ fun x => ?_
    rw [read_copy, hw]
  rw [ReadAs.apply_same, pts_src, pointsTo_congr key, pts_dst]
  exact BI.Entails.refl _

set_option maxHeartbeats 1000000 in
theorem copies_wp (w : ℕ) (f : Buf (Elt F) (shLoc d (cV L))) (kk : PUnit → TProg F L) (Q : PUnit → sProp 𝕄) :
    ∀ (n e : ℕ) (h : e + n ≤ 768) (j : ℕ) (_ : e = 128 * w + j) (_ : j + n = 128),
    iprop(bigSep (Transfers.pending (n := 128) j) (cS d L Tb tg nz w f)
        ∗ Transfers.Batch countersEmb (thr d L) cSem (default : HIx 1) (cN L) (cD d L Tb tg nz w) j 0)
      ⊢ iprop((Transfers.Batch countersEmb (thr d L) cSem (default : HIx 1) (cN L) (cD d L Tb tg nz w) 128 0
            -∗ wp frame (wpE (defs₀ (F := F)) 𝒱₀ (thr d L) none) Set.univ (kk ⟨⟩) Q)
          -∗ wp frame (wpE (defs₀ (F := F)) 𝒱₀ (thr d L) none) Set.univ (copies L stV shV cc0_scratch6 n e h >>= kk) Q)
  | 0, e, h, j, he, hj => by
    obtain rfl : j = 128 := by omega
    iintro ⟨-, HB⟩ Hk
    iapply Hk; iexact HB
  | n + 1, e, h, j, he, hj => by
    have hj' : j < 128 := by omega
    iintro ⟨HS, HB⟩ Hk
    ihave HS' := (Entails.of_eq (Transfers.bigSep_pending_step (cS d L Tb tg nz w f) j hj')) $$ HS
    icases HS' with ⟨H1, HS⟩
    unfold cS
    icases H1 with ⟨Hd, Hs⟩
    subst he
    have hw : (128 * w + j) / 128 = w := by omega
    ihave Hs' := (Entails.of_eq (pts_src d L (128 * w + j) (by omega) _).symm) $$ Hs
    ihave Hd' := (Entails.of_eq (pts_dst d L (128 * w + j) (by omega) _).symm) $$ Hd
    iapply (Transfers.wp_dmaBatch countersEmb 𝒱₀ (thr d L) none (src := srcRef stV (128 * w + j) (by omega)) (dst := dstRef L shV (128 * w + j) (by omega))
      (fs := stVal Tb tg nz (widL L) w) (fd := f) (D := cD d L Tb tg nz w)
      (q := fullShare) (Sd := (dstRef L shV (128 * w + j) (by omega)).view.set) (default : HIx 1) (cN L) rfl (Finset.Subset.refl _) hj' (Nat.zero_le _) ?_) $$ [Hd' Hs' HB]
    · exact copy_lands d L Tb tg nz w f j hj' (by omega)
    · isplitl [Hs']; · iexact Hs'
      isplitl [Hd']; · iexact Hd'
      iexact HB
    iintro HB
    iapply (copies_wp w f kk Q n (128 * w + j + 1) _ (j + 1) rfl (by omega)) $$ [HS HB]
    · isplitl [HS]; · iexact HS
      iexact HB
    iexact Hk

/-! ## Their drain -/

/-- After `k` of the 128 waits of window `w`: fewer than 128 have handed nothing over, the last hands over all. -/
def drainI (w : ℕ) (O : CellTallies nD τ sig (HIx 1)) (W : Waits sig (HIx 1)) (k : ℕ) : sProp 𝕄 :=
  iprop(Transfers.MayWaits (thr d L) (default : HIx 1) O ∗ Owes d L O W
    ∗ (if k < 128 then Transfers.Batch countersEmb (thr d L) cSem (default : HIx 1) (cN L) (cD d L Tb tg nz w) 128 (k * cN L)
      else iprop(bigSep Finset.univ (cD d L Tb tg nz w) ∗ semVal (thr d L, cSem) 0)))

theorem cN_pos : 0 < cN L := View.dmaCredit_pos _ (by decide)

theorem trips_eq : k0_t1_loop.trips = 128 := by decide

theorem drain_step (w : ℕ) (hw : w < 6) (O : CellTallies nD τ sig (HIx 1)) (W : Waits sig (HIx 1)) (k : ℕ) (hk : k < 128) :
    drainI d L Tb tg nz w O W k
      ⊢ wp frame (wpE (defs₀ (F := F)) 𝒱₀ (thr d L) none) Set.univ (waitCopy L stV shV cc0_scratch6 w hw)
          fun _ => drainI d L Tb tg nz w O W (k + 1) := by
  have hN := cN_pos L
  have hN' : (dstRef L shV (128 * w) (by omega)).view.dmaCredit = cN L := rfl
  unfold drainI waitCopy
  rw [if_pos hk]
  iintro ⟨#Hmw, HO, HB⟩
  ihave HO' := (Entails.of_eq (owes_eq d L O W)) $$ HO
  icases HO' with ⟨%W', %hW', HO⟩
  by_cases hk' : k + 1 < 128
  · rw [if_pos hk']
    have hu : k * cN L + cN L < cN L * 128 := by
      have := Nat.mul_lt_mul_of_pos_left hk' hN; rw [Nat.mul_comm (cN L) (k + 1), Nat.succ_mul] at this; exact this
    iapply (Transfers.wp_waitBatchO countersEmb 𝒱₀ (thr d L) none (default : HIx 1) hN' (D := cD d L Tb tg nz w) hu) $$ [HB HO]
    · isplitl [HB]; · iexact HB
      isplitl [HO]; · iexact HO
      iapply (Transfers.MayWaits.elim cSem) $$ Hmw
    iintro ⟨HB, HO⟩
    sl_step
    isplitr; · iexact Hmw
    isplitl [HO]; · iapply (owes_insert d L hW' cSem) $$ HO
    rw [Nat.succ_mul]; iexact HB
  · rw [if_neg hk']
    have hu : k * cN L + cN L = cN L * 128 := by rw [← Nat.succ_mul, Nat.mul_comm, show k.succ = 128 by omega]
    iapply (Transfers.wp_waitBatchLastO countersEmb 𝒱₀ (thr d L) none (default : HIx 1) hN' hN (D := cD d L Tb tg nz w) hu) $$ [HB HO]
    · isplitl [HB]; · iexact HB
      isplitl [HO]; · iexact HO
      iapply (Transfers.MayWaits.elim cSem) $$ Hmw
    iintro ⟨HD, Hv, HO⟩
    sl_step
    isplitr; · iexact Hmw
    isplitl [HO]; · iapply (owes_insert d L hW' cSem) $$ HO
    isplitl [HD]; · iexact HD
    iexact Hv

theorem drain_wp (w : ℕ) (hw : w < 6) (O : CellTallies nD τ sig (HIx 1)) (W : Waits sig (HIx 1)) (kk : PUnit → TProg F L) (Q : PUnit → sProp 𝕄) :
    iprop(Transfers.Batch countersEmb (thr d L) cSem (default : HIx 1) (cN L) (cD d L Tb tg nz w) 128 0
        ∗ Transfers.MayWaits (thr d L) (default : HIx 1) O ∗ Owes d L O W)
      ⊢ iprop((iprop(bigSep Finset.univ (cD d L Tb tg nz w) ∗ semVal (thr d L, cSem) 0 ∗ Owes d L O W)
            -∗ wp frame (wpE (defs₀ (F := F)) 𝒱₀ (thr d L) none) Set.univ (kk ⟨⟩) Q)
          -∗ wp frame (wpE (defs₀ (F := F)) 𝒱₀ (thr d L) none) Set.univ (drain L stV shV cc0_scratch6 w hw >>= kk) Q) := by
  unfold drain
  have hstep := Scf.wp_for_bind frame (wpE (defs₀ (F := F)) 𝒱₀ (thr d L) none) Set.univ k0_t1_loop.lb k0_t1_loop.ub k0_t1_loop.st k0_t1_ok
    (⟨⟩ : PUnit) (fun _ _ => waitCopy L stV shV cc0_scratch6 w hw) (fun k _ => drainI d L Tb tg nz w O W k)
    (fun k _ => drain_step d L Tb tg nz w hw O W k.val (trips_eq ▸ k.isLt)) (kk := kk) (Q := Q)
  iintro ⟨HB, #Hmw, HO⟩ Hk
  iapply hstep $$ [HB HO]
  · unfold drainI
    isplitr; · iexact Hmw
    isplitl [HO]; · iexact HO
    rw [if_pos (by omega), Nat.zero_mul]; iexact HB
  iintro %acc HI
  unfold drainI
  rw [show Scf.trips k0_t1_loop.lb k0_t1_loop.ub k0_t1_loop.st = 128 from trips_eq, if_neg (by omega)]
  icases HI with ⟨-, HO, HD, Hv⟩
  iapply Hk
  isplitl [HD]; · iexact HD
  isplitl [Hv]; · iexact Hv
  iexact HO

end Tile

end Cert.KernelIdeal.Tile

end
-- ==== Proof.Ideal.TileWindow.lean ====
/-
  The gathers of a tile: their start, their wait, and a whole window — the wait, the copies out of the slot, the drain.
-/
module

public import proofs.«01_k».proof.Defs
public import proofs.«01_k».proof.Proof.Ideal.Geo
public import proofs.«01_k».proof.Proof.Ideal.TileEq
public import proofs.«01_k».proof.Proof.Ideal.Base
public import proofs.«01_k».proof.Proof.Ideal.TileCopies
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.Scf
public import Idealize.ShloMosaic.Lib.Pipeline.Kit
public import Idealize.ShloMosaic.Lib.StableHlo.Run
public import Idealize.ShloMosaic.Lib.Tactic
public import proofs.«01_k».proof.Proof.Gen.KernelIdeal

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v9_scv : Memref Cert.KernelIdeal.sig Kind.scVector Space.hbm Cert.KernelIdeal.S100000x4096 EltTy.f32)
local notation "gV" => (Memref.whole Cert.KernelIdeal.main_arg1_scv : Memref Cert.KernelIdeal.sig Kind.scVector Space.hbm Cert.KernelIdeal.S4096 EltTy.i32)
local notation "nV" => (Memref.whole Cert.KernelIdeal.main_v10_scv : Memref Cert.KernelIdeal.sig Kind.scVector Space.hbm Cert.KernelIdeal.S20480 EltTy.i32)
local notation "oV" => (Memref.whole Cert.KernelIdeal.main_v11_scv : Memref Cert.KernelIdeal.sig Kind.scVector Space.hbm Cert.KernelIdeal.S32x6144 EltTy.f32)
local notation "aV" => (Memref.whole Cert.KernelIdeal.cc0_scratch0 : Memref Cert.KernelIdeal.sig Kind.scVector Space.vmem Cert.KernelIdeal.S128 EltTy.i32)
local notation "bV" => (Memref.whole Cert.KernelIdeal.cc0_scratch1 : Memref Cert.KernelIdeal.sig Kind.scVector Space.vmem Cert.KernelIdeal.S640 EltTy.i32)
local notation "stV" => (Memref.whole Cert.KernelIdeal.cc0_scratch2 : Memref Cert.KernelIdeal.sig Kind.scVector Space.vmem Cert.KernelIdeal.S2x128x128 EltTy.f32)
local notation "shV" => (Memref.whole Cert.KernelIdeal.cc0_scratch3 : Memref Cert.KernelIdeal.sig Kind.scVector Space.shared Cert.KernelIdeal.S16x6144 EltTy.f32)

variable [FloatOps F]

section Tile

variable (d : Dev nD) (L : grid0.Coords)
variable (Tb : S100000x4096.Idx → Elt F .f32) (tg : S4096.Idx → BitVec 32) (nz : S20480.Idx → BitVec 32)

/-- The share of the table that window `w`'s gather reads by. -/
def hq (w : ℕ) : PosShare TreeShare := if w % 2 = 0 then fullShare.left else fullShare.right

/-- The semaphore of window `w`'s gather. -/
abbrev gSem (w : ℕ) : SemLoc sig := .dma (gsem cc0_scratch4 cc0_scratch5 w).sem

/-- The tile's columns of the table, at a share. -/
abbrev tabPts (q : PosShare TreeShare) : sProp 𝕄 := tLoc d ↦[tabSet (widL L)]{q} Tb

/-- Window `w`'s list of row numbers. -/
def offsPts : ℕ → sProp 𝕄
  | 0 => aLoc d L ↦{fullShare} tgVal tg (widL L)
  | w + 1 => bLoc d L ↦[offSet (128 * w)]{fullShare} nzVal nz (widL L)

/-- What window `w`'s gather delivers: its slot filled, its share of the table and its list back. -/
def gD (w : ℕ) : sProp 𝕄 :=
  iprop((stLoc d L ↦[slotSet w]{fullShare} stVal Tb tg nz (widL L) w) ∗ tabPts d L Tb (hq w) ∗ offsPts d L tg nz w)

/-- The words of a gather's credit. -/
abbrev gN : ℕ := (slotRef stV 0).view.dmaCredit

theorem pts_slot (w : ℕ) (f : Buf (Elt F) (stLoc d L)) :
    ((slotRef stV w).view.loc (thr d L) ↦[(slotRef stV w).view.set]{fullShare} f : sProp 𝕄) = stLoc d L ↦[slotSet w]{fullShare} f := by
  rw [set_slotRef]
theorem pts_tab (q : PosShare TreeShare) (f : Buf (Elt F) (tLoc d)) :
    ((tabRef L tV).view.loc (thr d L) ↦[(tabRef L tV).view.set]{q} f : sProp 𝕄) = tLoc d ↦[tabSet (widL L)]{q} f := by
  rw [set_tabRef]

theorem gN_sum : ∀ h : S100000x128.Gathers 0 S128x128, ∑ j, ((slotRef stV 0).slice (S128x128.rowRect h.axis' j) (S128x128.stride_rowRect h.axis' j)).view.dmaCredit
    = gN := by decide

theorem gN_sum' (w : ℕ) (h : S100000x128.Gathers 0 S128x128) :
    ∑ j, ((slotRef stV w).slice (S128x128.rowRect h.axis' j) (S128x128.stride_rowRect h.axis' j)).view.dmaCredit = gN :=
  (Finset.sum_congr rfl fun _ _ => rfl).trans (gN_sum h)

/-- The row of the table that the list names for a row of the slot. -/
theorem rows_val {z : ℕ} (idx : S128.Idx → Elt F .i32) (hn : S128.numel = 128) (h : ∀ x, (idx x).toNat < z) (g : ℕ → ℕ)
    (hg : ∀ x : S128.Idx, (idx x).toNat = g (x 0).val) (k : Fin 128) : (SparseCore.rows idx hn h k).val = g k.val := by
  unfold SparseCore.rows
  refine (hg _).trans (congrArg g ?_)
  rw [← Shape.rowMajor_val_one]
  show ((⟨1, ![128]⟩ : Shape).rowMajor ((⟨1, ![128]⟩ : Shape).rowMajor.symm _)).val = _
  rw [Equiv.apply_symm_apply]; rfl

theorem rows_in (hR : InRange tg nz) (w : ℕ) (offs : Memref sig .scVector .vmem S128 .i32) (fo : Buf (Elt F) (offs.view.loc (thr d L)))
    (ho : ∀ k : S128.Idx, (offs.view.read (Elt F) fo k).toNat = entry tg nz (widL L) (128 * w + (k 0).val)) :
    ∀ x, (offs.view.read (Elt F) fo x).toNat < S100000x128.size gathers_S100000x128_S128x128.axis := fun x => by
  rw [ho]; exact entry_lt tg nz (widL L) hR _

/-- What the gather writes is the slot's value. -/
theorem gather_lands (w : ℕ) (offs : Memref sig .scVector .vmem S128 .i32) (fo : Buf (Elt F) (offs.view.loc (thr d L)))
    (ho : ∀ k : S128.Idx, (offs.view.read (Elt F) fo k).toNat = entry tg nz (widL L) (128 * w + (k 0).val))
    (hin : ∀ x, (offs.view.read (Elt F) fo x).toNat < S100000x128.size gathers_S100000x128_S128x128.axis)
    (fd : Buf (Elt F) (stLoc d L)) : ∀ i ∈ (slotRef stV w).view.set,
      (slotRef stV w).view.write (Elt F) fd (SparseCore.gatherPayload gathers_S100000x128_S128x128 ((tabRef L tV).view.read (Elt F) Tb)
        (SparseCore.rows (offs.view.read (Elt F) fo) rfl hin)) Finset.univ i = stVal Tb tg nz (widL L) w i := by
  have hr := rows_val (F := F) (offs.view.read (Elt F) fo) rfl hin (fun n => entry tg nz (widL L) (128 * w + n)) ho
  refine write_eq_on (slotRef stV w).view fd (stVal Tb tg nz (widL L) w) _ fun x => ?_
  exact read_gather Tb tg nz L w gathers_S100000x128_S128x128 _ (fun k => hr k) x

set_option maxHeartbeats 2000000 in
/-- The start of window `w`'s gather, its list any view whose words are the window's entries. -/
theorem start_gen (hR : InRange tg nz) (w : ℕ) (offs : Memref sig .scVector .vmem S128 .i32) (fo : Buf (Elt F) (offs.view.loc (thr d L)))
    (ho : ∀ k : S128.Idx, (offs.view.read (Elt F) fo k).toNat = entry tg nz (widL L) (128 * w + (k 0).val))
    (fd : Buf (Elt F) (stLoc d L)) (kk : PUnit → TProg F L) (Q : PUnit → sProp 𝕄) :
    iprop(tabPts d L Tb (hq w) ∗ (stLoc d L ↦[slotSet w]{fullShare} fd) ∗ (offs.view.loc (thr d L) ↦[offs.view.set]{fullShare} fo)
        ∗ semVal (thr d L, gSem w) 0)
      ⊢ iprop((Transfers.Flight countersEmb (thr d L) (gSem w) (default : HIx 1) gN
              iprop((stLoc d L ↦[slotSet w]{fullShare} stVal Tb tg nz (widL L) w) ∗ tabPts d L Tb (hq w)
                ∗ (offs.view.loc (thr d L) ↦[offs.view.set]{fullShare} fo))
            -∗ wp frame (wpE (defs₀ (F := F)) 𝒱₀ (thr d L) none) Set.univ (kk ⟨⟩) Q)
          -∗ wp frame (wpE (defs₀ (F := F)) 𝒱₀ (thr d L) none) Set.univ
            (SparseCore.enqueueIndirectGather rfl (tabRef L tV) (slotRef stV w) gathers_S100000x128_S128x128 offs rfl
              (gsem cc0_scratch4 cc0_scratch5 w).sem (View.wordExact_bits rfl) rfl (Or.inl rfl) >>= kk) Q) := by
  have hin := rows_in d L tg nz hR w offs fo ho
  have key := gather_lands d L Tb tg nz w offs fo ho hin fd
  iintro ⟨Ht, Hs, Ho, Hv⟩ Hk
  ihave Ht' := (Entails.of_eq (pts_tab (F := F) d L _ _).symm) $$ Ht
  ihave Hs' := (Entails.of_eq (pts_slot (F := F) d L w _).symm) $$ Hs
  iapply (SparseCore.wp_indirectGatherLocal countersEmb 𝒱₀ (thr d L) none (hg := gathers_S100000x128_S128x128) (default : HIx 1)
      gN (gN_sum' w _) (by decide) hin) $$ [Ht' Hs' Ho Hv]
  · isplitl [Ht']; · iexact Ht'
    isplitl [Hs']; · iexact Hs'
    isplitl [Ho]; · iexact Ho
    iexact Hv
  iintro Hfl
  iapply Hk
  iapply (Transfers.Flight_mono countersEmb (thr d L) ?_) $$ Hfl
  refine BI.sep_mono (Entails.of_eq ((pointsTo_congr key).trans (pts_slot d L w _))) (BI.sep_mono (Entails.of_eq (pts_tab d L _ _)) (BI.Entails.refl _))

theorem start_wp (hR : InRange tg nz) (w : ℕ) (hw : w < 6) (fd : Buf (Elt F) (stLoc d L)) (kk : PUnit → TProg F L) (Q : PUnit → sProp 𝕄) :
    iprop(tabPts d L Tb (hq w) ∗ (stLoc d L ↦[slotSet w]{fullShare} fd) ∗ offsPts d L tg nz w ∗ semVal (thr d L, gSem w) 0)
      ⊢ iprop((Transfers.Flight countersEmb (thr d L) (gSem w) (default : HIx 1) gN (gD d L Tb tg nz w)
            -∗ wp frame (wpE (defs₀ (F := F)) 𝒱₀ (thr d L) none) Set.univ (kk ⟨⟩) Q)
          -∗ wp frame (wpE (defs₀ (F := F)) 𝒱₀ (thr d L) none) Set.univ
            (startGather L tV aV bV stV cc0_scratch4 cc0_scratch5 w hw >>= kk) Q) := by
  match w, hw with
  | 0, hw =>
    have e : (offsPts d L tg nz 0 : sProp 𝕄) = ((aV).view.loc (thr d L) ↦[(aV).view.set]{fullShare} tgVal tg (widL L)) := by
      rw [show (aV).view.set = Finset.univ from View.set_whole _]; rfl
    unfold gD
    rw [e]
    exact start_gen d L Tb tg nz hR 0 (aV) (tgVal tg (widL L)) (fun k => rows_zero tg nz (widL L) k) fd kk Q
  | w + 1, hw =>
    have e : (offsPts d L tg nz (w + 1) : sProp 𝕄)
        = ((offsRef aV bV (w + 1) hw).view.loc (thr d L) ↦[(offsRef aV bV (w + 1) hw).view.set]{fullShare} nzVal nz (widL L)) := by
      rw [set_offsRef]; rfl
    unfold gD
    rw [e]
    exact start_gen d L Tb tg nz hR (w + 1) (offsRef aV bV (w + 1) hw) (nzVal nz (widL L)) (fun k => rows_succ tg nz (widL L) w hw k) fd kk Q

/-! ## The slot and the row, copy by copy -/

theorem mem_srcSet {e : ℕ} {x : S2x128x128.Idx} :
    x ∈ srcSet e ↔ (x 0).val = e / 128 % 2 ∧ (x 1).val = e % 128 ∧ laneOf e ≤ (x 2).val ∧ (x 2).val < laneOf e + 8 := by
  simp only [srcSet, Finset.mem_filter, Finset.mem_univ, true_and]
theorem mem_colSet {r lo hi : ℕ} {x : S16x6144.Idx} : x ∈ colSet r lo hi ↔ (x 0).val = r ∧ lo ≤ (x 1).val ∧ (x 1).val < hi := by
  simp only [colSet, Finset.mem_filter, Finset.mem_univ, true_and]

theorem src_disjoint (w : ℕ) : ∀ t ∈ (Finset.univ : Finset (Fin 128)), ∀ t' ∈ (Finset.univ : Finset (Fin 128)), t ≠ t' →
    Disjoint (srcSet (128 * w + t.val)) (srcSet (128 * w + t'.val)) := by
  intro t _ t' _ h
  rw [Finset.disjoint_left]
  intro x h1 h2
  rw [mem_srcSet] at h1 h2
  exact h (Fin.ext (by have := t.isLt; have := t'.isLt; omega))

theorem src_subset (w : ℕ) : (Finset.univ : Finset (Fin 128)).biUnion (fun t => srcSet (128 * w + t.val)) ⊆ slotSet w := by
  intro x hx
  obtain ⟨t, -, ht⟩ := Finset.mem_biUnion.mp hx
  rw [mem_srcSet] at ht
  simp only [slotSet, Finset.mem_filter, Finset.mem_univ, true_and]
  have := t.isLt; omega

theorem col_disjoint (r w : ℕ) : ∀ t ∈ (Finset.univ : Finset (Fin 128)), ∀ t' ∈ (Finset.univ : Finset (Fin 128)), t ≠ t' →
    Disjoint (colSet r (8 * (128 * w + t.val)) (8 * (128 * w + t.val) + 8)) (colSet r (8 * (128 * w + t'.val)) (8 * (128 * w + t'.val) + 8)) := by
  intro t _ t' _ h
  rw [Finset.disjoint_left]
  intro x h1 h2
  rw [mem_colSet] at h1 h2
  exact h (Fin.ext (by omega))

theorem col_cover (r w : ℕ) : (Finset.univ : Finset (Fin 128)).biUnion (fun t => colSet r (8 * (128 * w + t.val)) (8 * (128 * w + t.val) + 8))
    = colSet r (1024 * w) (1024 * w + 1024) := by
  ext x
  simp only [Finset.mem_biUnion, mem_colSet, Finset.mem_univ, true_and]
  constructor
  · rintro ⟨t, h⟩
    have := t.isLt; omega
  · intro h
    refine ⟨⟨((x 1).val - 1024 * w) / 8, by omega⟩, ?_⟩
    show _ ∧ 8 * (128 * w + ((x 1).val - 1024 * w) / 8) ≤ _ ∧ _ < 8 * (128 * w + ((x 1).val - 1024 * w) / 8) + 8
    omega

theorem sh_split (w : ℕ) (f : Buf (Elt F) (shLoc d (cV L))) :
    (shLoc d (cV L) ↦[colSet (L 1).val (1024 * w) (1024 * w + 1024)]{fullShare} f : sProp 𝕄)
      = bigSep Finset.univ fun t : Fin 128 => shLoc d (cV L) ↦[colSet (L 1).val (8 * (128 * w + t.val)) (8 * (128 * w + t.val) + 8)]{fullShare} f := by
  rw [← pointsTo_biUnion Finset.univ (ℓ := shLoc d (cV L)) _ (col_disjoint (L 1).val w), col_cover]

theorem st_split (w : ℕ) (f : Buf (Elt F) (stLoc d L)) :
    (stLoc d L ↦[slotSet w]{fullShare} f : sProp 𝕄)
      ⊣⊢ iprop((bigSep Finset.univ fun t : Fin 128 => stLoc d L ↦[srcSet (128 * w + t.val)]{fullShare} f)
        ∗ stLoc d L ↦[slotSet w \ (Finset.univ : Finset (Fin 128)).biUnion fun t => srcSet (128 * w + t.val)]{fullShare} f) := by
  rw [← pointsTo_biUnion Finset.univ (ℓ := stLoc d L) _ (src_disjoint w)]
  exact pointsTo_split_subset (src_subset w)

theorem cS_eq (w : ℕ) (f : Buf (Elt F) (shLoc d (cV L))) : bigSep Finset.univ (cS d L Tb tg nz w f)
    = iprop((bigSep Finset.univ fun t : Fin 128 => shLoc d (cV L) ↦[colSet (L 1).val (8 * (128 * w + t.val)) (8 * (128 * w + t.val) + 8)]{fullShare} f)
      ∗ bigSep Finset.univ fun t : Fin 128 => stLoc d L ↦[srcSet (128 * w + t.val)]{fullShare} stVal Tb tg nz (widL L) w) := by
  unfold cS; rw [bigSep_sep']

theorem cD_eq (w : ℕ) : bigSep Finset.univ (cD d L Tb tg nz w)
    = iprop((bigSep Finset.univ fun t : Fin 128 => shLoc d (cV L) ↦[colSet (L 1).val (8 * (128 * w + t.val)) (8 * (128 * w + t.val) + 8)]{fullShare} shVal Tb tg nz (widL L))
      ∗ bigSep Finset.univ fun t : Fin 128 => stLoc d L ↦[srcSet (128 * w + t.val)]{fullShare} stVal Tb tg nz (widL L) w) := by
  unfold cD; rw [bigSep_sep']

/-! ## A window -/

/-- What a window leaves: its slot, share and list, the two semaphores at zero, its stretch of the row filled. -/
def wD (w : ℕ) (O : CellTallies nD τ sig (HIx 1)) (W : Waits sig (HIx 1)) : sProp 𝕄 :=
  iprop((stLoc d L ↦[slotSet w]{fullShare} stVal Tb tg nz (widL L) w) ∗ tabPts d L Tb (hq w) ∗ offsPts d L tg nz w
    ∗ semVal (thr d L, gSem w) 0 ∗ semVal (thr d L, cSem) 0
    ∗ (shLoc d (cV L) ↦[colSet (L 1).val (1024 * w) (1024 * w + 1024)]{fullShare} shVal Tb tg nz (widL L)) ∗ Owes d L O W)

theorem window_eq (w : ℕ) (hw : w < 6) (kk : PUnit → TProg F L) :
    (window L tV stV shV cc0_scratch4 cc0_scratch5 cc0_scratch6 w hw >>= kk)
      = .op (.waitDma2 (gsem cc0_scratch4 cc0_scratch5 w).sem (tabRef L tV) (slotRef stV w) (View.wordExact_bits rfl) ((View.wordExact_bits rfl).reshape _ _))
          fun _ => copies L stV shV cc0_scratch6 128 (128 * w) (by omega) >>= fun _ => drain L stV shV cc0_scratch6 w hw >>= kk := by
  unfold window
  simp only [Prog.bind_assoc]
  rfl

theorem window_wp (w : ℕ) (hw : w < 6) (O : CellTallies nD τ sig (HIx 1)) (W : Waits sig (HIx 1)) (f : Buf (Elt F) (shLoc d (cV L)))
    (kk : PUnit → TProg F L) (Q : PUnit → sProp 𝕄) :
    iprop(Transfers.Flight countersEmb (thr d L) (gSem w) (default : HIx 1) gN (gD d L Tb tg nz w) ∗ semVal (thr d L, cSem) 0
        ∗ (shLoc d (cV L) ↦[colSet (L 1).val (1024 * w) (1024 * w + 1024)]{fullShare} f)
        ∗ Transfers.MayWaits (thr d L) (default : HIx 1) O ∗ Owes d L O W)
      ⊢ iprop((wD d L Tb tg nz w O W -∗ wp frame (wpE (defs₀ (F := F)) 𝒱₀ (thr d L) none) Set.univ (kk ⟨⟩) Q)
          -∗ wp frame (wpE (defs₀ (F := F)) 𝒱₀ (thr d L) none) Set.univ
            (window L tV stV shV cc0_scratch4 cc0_scratch5 cc0_scratch6 w hw >>= kk) Q) := by
  rw [window_eq]
  iintro ⟨Hfl, Hv, Hsh, #Hmw, HO⟩ Hk
  ihave HO' := (Entails.of_eq (owes_eq d L O W)) $$ HO
  icases HO' with ⟨%W', %hW', HO⟩
  have hN : (slotRef stV w).view.dmaCredit = gN := rfl
  iapply (Transfers.wp_waitLocalO countersEmb 𝒱₀ (thr d L) none (default : HIx 1) hN) $$ [Hfl HO]
  · isplitl [Hfl]; · iexact Hfl
    isplitl [HO]; · iexact HO
    iapply (Transfers.MayWaits.elim (gSem w)) $$ Hmw
  unfold gD
  iintro ⟨⟨Hst, Ht, Ho⟩, Hg, HO⟩
  ihave HO := (owes_insert d L hW' (gSem w)) $$ HO
  ihave Hst' := (st_split d L w _).1 $$ Hst
  icases Hst' with ⟨Hst, Hrest⟩
  ihave Hsh' := (Entails.of_eq (sh_split d L w f)) $$ Hsh
  imod (Transfers.batch_alloc' countersEmb (thr d L) (sm := cSem) (default : HIx 1) (cN L) (cD d L Tb tg nz w)) $$ Hv with HB
  iapply (copies_wp d L Tb tg nz w f _ Q 128 (128 * w) _ 0 rfl rfl) $$ [Hsh' Hst HB]
  · isplitr [HB]; swap; iexact HB
    rw [← Transfers.bigSep_pending_zero, cS_eq]
    isplitl [Hsh']; · iexact Hsh'
    iexact Hst
  iintro HB
  iapply (drain_wp d L Tb tg nz w hw O W kk Q) $$ [HB HO]
  · isplitl [HB]; · iexact HB
    isplitr; · iexact Hmw
    iexact HO
  iintro ⟨HD, Hv, HO⟩
  ihave HD' := (Entails.of_eq (cD_eq d L Tb tg nz w)) $$ HD
  icases HD' with ⟨Hsh, Hst⟩
  iapply Hk
  unfold wD
  isplitl [Hst Hrest]
  · iapply (st_split d L w _).2
    isplitl [Hst] <;> iassumption
  isplitl [Ht]; · iexact Ht
  isplitl [Ho]; · iexact Ho
  isplitl [Hg]; · iexact Hg
  isplitl [Hv]; · iexact Hv
  isplitl [Hsh]
  · iapply (Entails.of_eq (sh_split d L w _).symm)
    iexact Hsh
  iexact HO

end Tile

end Cert.KernelIdeal.Tile

end
-- ==== Proof.Ideal.TileBody.lean ====
/-
  The whole tile: its targets and noise fetched, six windows of gathered rows, and its row of the result written.
-/
module

public import proofs.«01_k».proof.Defs
public import proofs.«01_k».proof.Proof.Ideal.Geo
public import proofs.«01_k».proof.Proof.Ideal.TileEq
public import proofs.«01_k».proof.Proof.Ideal.Base
public import proofs.«01_k».proof.Proof.Ideal.TileWindow
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.Scf
public import Idealize.ShloMosaic.Lib.Pipeline.Kit
public import Idealize.ShloMosaic.Lib.StableHlo.Run
public import Idealize.ShloMosaic.Lib.Tactic
public import proofs.«01_k».proof.Proof.Gen.KernelIdeal

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v9_scv : Memref Cert.KernelIdeal.sig Kind.scVector Space.hbm Cert.KernelIdeal.S100000x4096 EltTy.f32)
local notation "gV" => (Memref.whole Cert.KernelIdeal.main_arg1_scv : Memref Cert.KernelIdeal.sig Kind.scVector Space.hbm Cert.KernelIdeal.S4096 EltTy.i32)
local notation "nV" => (Memref.whole Cert.KernelIdeal.main_v10_scv : Memref Cert.KernelIdeal.sig Kind.scVector Space.hbm Cert.KernelIdeal.S20480 EltTy.i32)
local notation "oV" => (Memref.whole Cert.KernelIdeal.main_v11_scv : Memref Cert.KernelIdeal.sig Kind.scVector Space.hbm Cert.KernelIdeal.S32x6144 EltTy.f32)
local notation "aV" => (Memref.whole Cert.KernelIdeal.cc0_scratch0 : Memref Cert.KernelIdeal.sig Kind.scVector Space.vmem Cert.KernelIdeal.S128 EltTy.i32)
local notation "bV" => (Memref.whole Cert.KernelIdeal.cc0_scratch1 : Memref Cert.KernelIdeal.sig Kind.scVector Space.vmem Cert.KernelIdeal.S640 EltTy.i32)
local notation "stV" => (Memref.whole Cert.KernelIdeal.cc0_scratch2 : Memref Cert.KernelIdeal.sig Kind.scVector Space.vmem Cert.KernelIdeal.S2x128x128 EltTy.f32)
local notation "shV" => (Memref.whole Cert.KernelIdeal.cc0_scratch3 : Memref Cert.KernelIdeal.sig Kind.scVector Space.shared Cert.KernelIdeal.S16x6144 EltTy.f32)

variable [FloatOps F]

section Tile

variable (d : Dev nD) (L : grid0.Coords)
variable (Tb : S100000x4096.Idx → Elt F .f32) (tg : S4096.Idx → BitVec 32) (nz : S20480.Idx → BitVec 32)

/-! ## The buffers' elements, cut -/

/-- Numbers `lo … hi - 1` of the noise scratch. -/
def bSet (lo hi : ℕ) : Finset S640.Idx := Finset.univ.filter fun x => lo ≤ (x 0).val ∧ (x 0).val < hi

theorem offSet_eq (lo : ℕ) : offSet lo = bSet lo (lo + 128) := rfl

theorem b_cut {lo mid hi : ℕ} (h1 : lo ≤ mid) (h2 : mid ≤ hi) (f : Buf (Elt F) (bLoc d L)) :
    (bLoc d L ↦[bSet lo hi]{fullShare} f : sProp 𝕄) ⊣⊢ iprop((bLoc d L ↦[bSet lo mid]{fullShare} f) ∗ bLoc d L ↦[bSet mid hi]{fullShare} f) := by
  have e : bSet lo hi \ bSet lo mid = bSet mid hi := by
    ext x; simp only [bSet, Finset.mem_sdiff, Finset.mem_filter, Finset.mem_univ, _root_.true_and]; omega
  rw [← e]
  exact pointsTo_split_subset fun x hx => by simp only [bSet, Finset.mem_filter, Finset.mem_univ, _root_.true_and] at hx ⊢; omega

theorem sh_cut {r lo mid hi : ℕ} (h1 : lo ≤ mid) (h2 : mid ≤ hi) (f : Buf (Elt F) (shLoc d (cV L))) :
    (shLoc d (cV L) ↦[colSet r lo hi]{fullShare} f : sProp 𝕄)
      ⊣⊢ iprop((shLoc d (cV L) ↦[colSet r lo mid]{fullShare} f) ∗ shLoc d (cV L) ↦[colSet r mid hi]{fullShare} f) := by
  have e : colSet r lo hi \ colSet r lo mid = colSet r mid hi := by
    ext x; simp only [Finset.mem_sdiff, mem_colSet]; omega
  rw [← e]
  exact pointsTo_split_subset fun x hx => by rw [mem_colSet] at hx ⊢; omega

theorem bSet_all : bSet 0 640 = Finset.univ := by
  ext x; simp only [bSet, Finset.mem_filter, Finset.mem_univ, _root_.true_and, iff_true]
  have : (x 0).val < 640 := (x 0).isLt
  omega

theorem slot_compl : (Finset.univ : Finset S2x128x128.Idx) \ slotSet 0 = slotSet 1 := by
  ext x; simp only [slotSet, Finset.mem_sdiff, Finset.mem_filter, Finset.mem_univ, _root_.true_and]
  have : (x 0).val < 2 := (x 0).isLt
  omega

/-! ## A copy and its wait -/

theorem copy_wait {sp sp' : Space} {s : Shape} {e : EltTy} {src : Memref sig .scVector sp s e} {dst : Memref sig .scVector sp' s e} {sm : DmaSem sig}
    {hsrc hsrc' : src.view.WordExact} {hdst hdst' : dst.view.WordExact} {hsem : DmaTarget.Typed (nD := nD) sp (.dma sm) (.here dst : DmaTarget nD τ sig (.scVector (cV L) (jV L)) sp' s e)}
    (hs : 0 < s.numel) (q : PosShare TreeShare) (fs : Buf (Elt F) (src.view.loc (thr d L))) (fd g : Buf (Elt F) (dst.view.loc (thr d L)))
    (hg : ∀ x, dst.view.read (Elt F) g x = src.view.read (Elt F) fs x)
    (O : CellTallies nD τ sig (HIx 1)) (W : Waits sig (HIx 1)) (kk : PUnit → TProg F L) (Q : PUnit → sProp 𝕄) :
    iprop((src.view.loc (thr d L) ↦[src.view.set]{q} fs) ∗ (dst.view.loc (thr d L) ↦[dst.view.set]{fullShare} fd) ∗ semVal (thr d L, .dma sm) 0
        ∗ Transfers.MayWaits (thr d L) (default : HIx 1) O ∗ Owes d L O W)
      ⊢ iprop((iprop((src.view.loc (thr d L) ↦[src.view.set]{q} fs) ∗ (dst.view.loc (thr d L) ↦[dst.view.set]{fullShare} g) ∗ semVal (thr d L, .dma sm) 0
              ∗ Owes d L O W) -∗ wp frame (wpE (defs₀ (F := F)) 𝒱₀ (thr d L) none) Set.univ (kk ⟨⟩) Q)
          -∗ wp frame (wpE (defs₀ (F := F)) 𝒱₀ (thr d L) none) Set.univ
            (.op (.enqueueDma src (.here dst) (.dma sm) hsrc hdst hsem) fun _ => .op (.waitDma2 sm src dst hsrc' hdst') kk) Q) := by
  have key := write_eq_on dst.view fd g (src.view.read (Elt F) fs) hg
  iintro ⟨Hs, Hd, Hv, #Hmw, HO⟩ Hk
  ihave HO' := (Entails.of_eq (owes_eq d L O W)) $$ HO
  icases HO' with ⟨%W', %hW', HO⟩
  iapply (Transfers.wp_dmaLocal countersEmb 𝒱₀ (thr d L) none (src := src) (dst := dst) (q := q) (fs := fs) (fd := fd) (Sd := dst.view.set)
    (default : HIx 1) dst.view.dmaCredit rfl (View.dmaCredit_pos _ hs) (Finset.Subset.refl _)) $$ [Hs Hd Hv]
  · isplitl [Hs]; · iexact Hs
    isplitl [Hd]; · iexact Hd
    iexact Hv
  iintro Hfl
  iapply (Transfers.wp_waitLocalO countersEmb 𝒱₀ (thr d L) none (default : HIx 1) (dstw := dst) rfl) $$ [Hfl HO]
  · isplitl [Hfl]; · iexact Hfl
    isplitl [HO]; · iexact HO
    iapply (Transfers.MayWaits.elim (.dma sm)) $$ Hmw
  iintro ⟨⟨Hd, Hs⟩, Hv, HO⟩
  iapply Hk
  isplitl [Hs]; · iexact Hs
  isplitl [Hd]
  · iapply (Entails.of_eq (pointsTo_congr key)); iexact Hd
  isplitl [Hv]; · iexact Hv
  iapply (owes_insert d L hW' (.dma sm)); iexact HO

/-! ## The windows -/

/-- The stretch of the row that window `w` fills. -/
abbrev colPts (w : ℕ) (f : Buf (Elt F) (shLoc d (cV L))) : sProp 𝕄 :=
  shLoc d (cV L) ↦[colSet (L 1).val (1024 * w) (1024 * w + 1024)]{fullShare} f

/-- What `n` windows from `w` still need: the lists of the gathers they start, and their stretches of the row. -/
def todo (f : Buf (Elt F) (shLoc d (cV L))) : ℕ → ℕ → sProp 𝕄
  | 0, _ => iprop(emp)
  | n + 1, w => iprop(offsPts d L tg nz (w + 2) ∗ colPts d L w f ∗ todo f n (w + 1))

/-- What they leave: their own lists, and their stretches filled. -/
def left : ℕ → ℕ → sProp 𝕄
  | 0, _ => iprop(emp)
  | n + 1, w => iprop(offsPts d L tg nz w ∗ colPts d L w (shVal Tb tg nz (widL L)) ∗ left n (w + 1))

theorem windows_eq (n w : ℕ) (h : w + (n + 1) ≤ 4) (kk : PUnit → TProg F L) :
    (windows L tV aV bV stV shV cc0_scratch4 cc0_scratch5 cc0_scratch6 (n + 1) w h >>= kk)
      = (window L tV stV shV cc0_scratch4 cc0_scratch5 cc0_scratch6 w (by omega) >>= fun _ =>
          startGather L tV aV bV stV cc0_scratch4 cc0_scratch5 (w + 2) (by omega) >>= fun _ =>
          windows L tV aV bV stV shV cc0_scratch4 cc0_scratch5 cc0_scratch6 n (w + 1) (by omega) >>= kk) := by
  rw [windows]
  simp only [Prog.bind_assoc]

theorem hq_two (w : ℕ) : hq (w + 2) = hq w := by unfold hq; rw [Nat.add_mod_right]
theorem slot_two (w : ℕ) : slotSet (w + 2) = slotSet w := by unfold slotSet; rw [Nat.add_mod_right]
theorem gSem_two (w : ℕ) : gSem (w + 2) = gSem w := by unfold gSem gsem; rw [Nat.add_mod_right]

/-- Window `w`'s gather under way. -/
abbrev gFl (w : ℕ) : sProp 𝕄 := Transfers.Flight countersEmb (thr d L) (gSem w) (default : HIx 1) gN (gD d L Tb tg nz w)

theorem windows_wp (hR : InRange tg nz) (O : CellTallies nD τ sig (HIx 1)) (W : Waits sig (HIx 1)) (f : Buf (Elt F) (shLoc d (cV L)))
    (kk : PUnit → TProg F L) (Q : PUnit → sProp 𝕄) : ∀ (n w : ℕ) (h : w + n ≤ 4) (e : ℕ) (_ : w + n = e),
    iprop(gFl d L Tb tg nz w ∗ gFl d L Tb tg nz (w + 1) ∗ semVal (thr d L, cSem) 0 ∗ todo d L tg nz f n w
        ∗ Transfers.MayWaits (thr d L) (default : HIx 1) O ∗ Owes d L O W)
      ⊢ iprop((iprop(gFl d L Tb tg nz e ∗ gFl d L Tb tg nz (e + 1) ∗ semVal (thr d L, cSem) 0 ∗ left d L Tb tg nz n w ∗ Owes d L O W)
            -∗ wp frame (wpE (defs₀ (F := F)) 𝒱₀ (thr d L) none) Set.univ (kk ⟨⟩) Q)
          -∗ wp frame (wpE (defs₀ (F := F)) 𝒱₀ (thr d L) none) Set.univ
            (windows L tV aV bV stV shV cc0_scratch4 cc0_scratch5 cc0_scratch6 n w h >>= kk) Q)
  | 0, w, h, e, he => by
    obtain rfl : w = e := he
    unfold todo left
    iintro ⟨H1, H2, Hv, -, -, HO⟩ Hk
    iapply Hk
    isplitl [H1]; · iexact H1
    isplitl [H2]; · iexact H2
    isplitl [Hv]; · iexact Hv
    isplitr; · iempintro
    iexact HO
  | n + 1, w, h, e, he => by
    rw [windows_eq]
    unfold todo left
    iintro ⟨H1, H2, Hv, ⟨Hn, Hc, Htd⟩, #Hmw, HO⟩ Hk
    iapply (window_wp d L Tb tg nz w _ O W f _ Q) $$ [H1 Hv Hc HO]
    · isplitl [H1]; · iexact H1
      isplitl [Hv]; · iexact Hv
      isplitl [Hc]; · iexact Hc
      isplitr; · iexact Hmw
      iexact HO
    unfold wD
    iintro ⟨Hst, Ht, Hof, Hg, Hv, Hc, HO⟩
    iapply (start_wp d L Tb tg nz hR (w + 2) _ (stVal Tb tg nz (widL L) w) _ Q) $$ [Hst Ht Hn Hg]
    · rw [hq_two, slot_two, gSem_two]
      isplitl [Ht]; · iexact Ht
      isplitl [Hst]; · iexact Hst
      isplitl [Hn]; · iexact Hn
      iexact Hg
    iintro H3
    iapply (windows_wp hR O W f kk Q n (w + 1) _ e (by omega)) $$ [H2 H3 Hv Htd HO]
    · isplitl [H2]; · iexact H2
      isplitl [H3]; · iexact H3
      isplitl [Hv]; · iexact Hv
      isplitl [Htd]; · iexact Htd
      isplitr; · iexact Hmw
      iexact HO
    iintro ⟨H1, H2, Hv, Hl, HO⟩
    iapply Hk
    isplitl [H1]; · iexact H1
    isplitl [H2]; · iexact H2
    isplitl [Hv]; · iexact Hv
    isplitl [Hof Hc Hl]
    · isplitl [Hof]; · iexact Hof
      isplitl [Hc]; · iexact Hc
      iexact Hl
    iexact HO

/-! ## The tile -/

theorem tile_op : (tile L tV gV nV oV aV (Memref.isWhole_whole _) bV (Memref.isWhole_whole _) stV shV cc0_scratch4 cc0_scratch5 cc0_scratch6
      cc0_scoped0 cc0_scoped1 cc0_scoped2 : TProg F L)
    = .op (.enqueueDma (tgtRef L gV) (.here aV) (.dma cc0_scoped0.sem) (View.wordExact_bits rfl) (Memref.isWhole_whole cc0_scratch0).wordExact ⟨Or.inl rfl, trivial⟩) fun _ =>
      .op (.waitDma2 cc0_scoped0.sem (tgtRef L gV) aV (View.wordExact_bits rfl) (Memref.isWhole_whole cc0_scratch0).wordExact) fun _ =>
      .op (.enqueueDma (nzRef L nV) (.here bV) (.dma cc0_scoped1.sem) (View.wordExact_bits rfl) (Memref.isWhole_whole cc0_scratch1).wordExact ⟨Or.inl rfl, trivial⟩) fun _ =>
      .op (.waitDma2 cc0_scoped1.sem (nzRef L nV) bV (View.wordExact_bits rfl) (Memref.isWhole_whole cc0_scratch1).wordExact) fun _ =>
      startGather L tV aV bV stV cc0_scratch4 cc0_scratch5 0 (by omega) >>= fun _ =>
      startGather L tV aV bV stV cc0_scratch4 cc0_scratch5 1 (by omega) >>= fun _ =>
      windows L tV aV bV stV shV cc0_scratch4 cc0_scratch5 cc0_scratch6 4 0 (by omega) >>= fun _ =>
      window L tV stV shV cc0_scratch4 cc0_scratch5 cc0_scratch6 4 (by omega) >>= fun _ =>
      window L tV stV shV cc0_scratch4 cc0_scratch5 cc0_scratch6 5 (by omega) >>= fun _ =>
      .op (.enqueueDma (rowRef L shV) (.here (outRef L oV)) (.dma cc0_scoped2.sem) ((View.wordExact_bits rfl).reshape _ _)
        ((View.wordExact_bits rfl).reshape _ _) ⟨Or.inl rfl, trivial⟩) fun _ =>
      .op (.waitDma2 cc0_scoped2.sem (rowRef L shV) (outRef L oV) ((View.wordExact_bits rfl).reshape _ _)
        ((View.wordExact_bits rfl).reshape _ _)) .ret := rfl

theorem pts_tgt (f : Buf (Elt F) (gLoc d)) :
    ((tgtRef L gV).view.loc (thr d L) ↦[(tgtRef L gV).view.set]{fullShare} f : sProp 𝕄) = gLoc d ↦[tgSet (widL L)]{fullShare} f := by
  rw [set_tgtRef]
theorem pts_nz (f : Buf (Elt F) (nLoc d)) :
    ((nzRef L nV).view.loc (thr d L) ↦[(nzRef L nV).view.set]{fullShare} f : sProp 𝕄) = nLoc d ↦[nzSet (widL L)]{fullShare} f := by
  rw [set_nzRef]
theorem pts_out (f : Buf (Elt F) (oLoc d)) :
    ((outRef L oV).view.loc (thr d L) ↦[(outRef L oV).view.set]{fullShare} f : sProp 𝕄) = oLoc d ↦[outSet (widL L)]{fullShare} f := by
  rw [set_outRef]
theorem pts_row (f : Buf (Elt F) (shLoc d (cV L))) :
    ((rowRef L shV).view.loc (thr d L) ↦[(rowRef L shV).view.set]{fullShare} f : sProp 𝕄) = shLoc d (cV L) ↦[colSet (L 1).val 0 6144]{fullShare} f := by
  rw [set_rowRef]; rfl
theorem pts_a (f : Buf (Elt F) (aLoc d L)) : ((aV).view.loc (thr d L) ↦[(aV).view.set]{fullShare} f : sProp 𝕄) = aLoc d L ↦{fullShare} f := by
  rw [show (aV).view.set = Finset.univ from View.set_whole _]
theorem pts_b (f : Buf (Elt F) (bLoc d L)) : ((bV).view.loc (thr d L) ↦[(bV).view.set]{fullShare} f : sProp 𝕄) = bLoc d L ↦{fullShare} f := by
  rw [show (bV).view.set = Finset.univ from View.set_whole _]

theorem offs_zero : (offsPts d L tg nz 0 : sProp 𝕄) = aLoc d L ↦{fullShare} tgVal tg (widL L) := rfl

/-- The noise scratch, window by window. -/
theorem b_cuts : (bLoc d L ↦{fullShare} nzVal nz (widL L) : sProp 𝕄)
    ⊣⊢ iprop(offsPts d L tg nz 1 ∗ offsPts d L tg nz 2 ∗ offsPts d L tg nz 3 ∗ offsPts d L tg nz 4 ∗ offsPts d L tg nz 5) := by
  rw [show (bLoc d L ↦{fullShare} nzVal nz (widL L) : sProp 𝕄) = bLoc d L ↦[bSet 0 640]{fullShare} nzVal nz (widL L) by rw [bSet_all]]
  unfold offsPts
  simp only [offSet_eq, Nat.reduceMul, Nat.reduceAdd]
  exact (b_cut d L (by omega) (by omega) _).trans (sep_congr .rfl ((b_cut d L (mid := 256) (by omega) (by omega) _).trans
    (sep_congr .rfl ((b_cut d L (mid := 384) (by omega) (by omega) _).trans (sep_congr .rfl (b_cut d L (mid := 512) (by omega) (by omega) _))))))

/-- The row, window by window. -/
theorem sh_cuts (f : Buf (Elt F) (shLoc d (cV L))) : (shLoc d (cV L) ↦[colSet (L 1).val 0 6144]{fullShare} f : sProp 𝕄)
    ⊣⊢ iprop(colPts d L 0 f ∗ colPts d L 1 f ∗ colPts d L 2 f ∗ colPts d L 3 f ∗ colPts d L 4 f ∗ colPts d L 5 f) := by
  unfold colPts
  simp only [Nat.reduceMul, Nat.reduceAdd]
  exact (sh_cut d L (by omega) (by omega) _).trans (sep_congr .rfl ((sh_cut d L (mid := 2048) (by omega) (by omega) _).trans
    (sep_congr .rfl ((sh_cut d L (mid := 3072) (by omega) (by omega) _).trans (sep_congr .rfl ((sh_cut d L (mid := 4096) (by omega) (by omega) _).trans
    (sep_congr .rfl (sh_cut d L (mid := 5120) (by omega) (by omega) _))))))))

/-- The staging buffer, slot by slot. -/
theorem st_cuts (f : Buf (Elt F) (stLoc d L)) : (stLoc d L ↦{fullShare} f : sProp 𝕄)
    ⊣⊢ iprop((stLoc d L ↦[slotSet 0]{fullShare} f) ∗ stLoc d L ↦[slotSet 1]{fullShare} f) := by
  rw [← slot_compl]
  exact pointsTo_split_subset (Finset.subset_univ (slotSet 0))

theorem st_join (f g : Buf (Elt F) (stLoc d L)) :
    iprop((stLoc d L ↦[slotSet 0]{fullShare} f) ∗ stLoc d L ↦[slotSet 1]{fullShare} g) ⊢ (iprop(∃ h, stLoc d L ↦{fullShare} h) : sProp 𝕄) := by
  rw [← slot_compl]
  exact (pointsTo_join_subset (Finset.subset_univ (slotSet 0))).trans (exists_intro _)

theorem tile_wp (hR : InRange tg nz) (O : CellTallies nD τ sig (HIx 1)) (W : Waits sig (HIx 1)) (fo : Buf (Elt F) (oLoc d))
    (f : Buf (Elt F) (shLoc d (cV L))) (fa : Buf (Elt F) (aLoc d L)) (fb : Buf (Elt F) (bLoc d L)) (fs : Buf (Elt F) (stLoc d L)) :
    iprop((gLoc d ↦[tgSet (widL L)]{fullShare} tg) ∗ (nLoc d ↦[nzSet (widL L)]{fullShare} nz) ∗ (tLoc d ↦[tabSet (widL L)]{fullShare} Tb)
        ∗ (oLoc d ↦[outSet (widL L)]{fullShare} fo) ∗ (shLoc d (cV L) ↦[colSet (L 1).val 0 6144]{fullShare} f)
        ∗ (aLoc d L ↦{fullShare} fa) ∗ (bLoc d L ↦{fullShare} fb) ∗ (stLoc d L ↦{fullShare} fs)
        ∗ semVal (thr d L, .dma cc0_scratch4.sem) 0 ∗ semVal (thr d L, .dma cc0_scratch5.sem) 0 ∗ semVal (thr d L, cSem) 0
        ∗ semVal (thr d L, .dma cc0_scoped0.sem) 0 ∗ semVal (thr d L, .dma cc0_scoped1.sem) 0 ∗ semVal (thr d L, .dma cc0_scoped2.sem) 0
        ∗ Transfers.MayWaits (thr d L) (default : HIx 1) O ∗ Owes d L O W)
      ⊢ wp frame (wpE (defs₀ (F := F)) 𝒱₀ (thr d L) none) Set.univ
          (tile L tV gV nV oV aV (Memref.isWhole_whole _) bV (Memref.isWhole_whole _) stV shV cc0_scratch4 cc0_scratch5 cc0_scratch6
            cc0_scoped0 cc0_scoped1 cc0_scoped2)
          fun _ => iprop((gLoc d ↦[tgSet (widL L)]{fullShare} tg) ∗ (nLoc d ↦[nzSet (widL L)]{fullShare} nz) ∗ (tLoc d ↦[tabSet (widL L)]{fullShare} Tb)
            ∗ (oLoc d ↦[outSet (widL L)]{fullShare} outVal Tb tg nz) ∗ (shLoc d (cV L) ↦[colSet (L 1).val 0 6144]{fullShare} shVal Tb tg nz (widL L))
            ∗ (∃ fa, aLoc d L ↦{fullShare} fa) ∗ (∃ fb, bLoc d L ↦{fullShare} fb) ∗ (∃ fs, stLoc d L ↦{fullShare} fs)
            ∗ semVal (thr d L, .dma cc0_scratch4.sem) 0 ∗ semVal (thr d L, .dma cc0_scratch5.sem) 0 ∗ semVal (thr d L, cSem) 0
            ∗ semVal (thr d L, .dma cc0_scoped0.sem) 0 ∗ semVal (thr d L, .dma cc0_scoped1.sem) 0 ∗ semVal (thr d L, .dma cc0_scoped2.sem) 0
            ∗ Owes d L O W) := by
  rw [tile_op]
  iintro ⟨Hg, Hn, Ht, Ho, Hsh, Ha, Hb, Hst, H4, H5, H6, H0, H1, H2, #Hmw, HO⟩
  ihave Hg := (Entails.of_eq (pts_tgt (F := F) d L tg).symm) $$ Hg
  ihave Hn := (Entails.of_eq (pts_nz (F := F) d L nz).symm) $$ Hn
  ihave Ha := (Entails.of_eq (pts_a (F := F) d L fa).symm) $$ Ha
  ihave Hb := (Entails.of_eq (pts_b (F := F) d L fb).symm) $$ Hb
  iapply (copy_wait d L (src := tgtRef L gV) (dst := aV) (by decide) fullShare tg fa (tgVal tg (widL L))
    (fun x => (congrFun (read_tgtRef (F := F) tg L) x).symm) O W _ _) $$ [Hg Ha H0 HO]
  · isplitl [Hg]; · iexact Hg
    isplitl [Ha]; · iexact Ha
    isplitl [H0]; · iexact H0
    isplitr; · iexact Hmw
    iexact HO
  iintro ⟨Hg, Ha, H0, HO⟩
  iapply (copy_wait d L (src := nzRef L nV) (dst := bV) (by decide) fullShare nz fb (nzVal nz (widL L))
    (fun x => (congrFun (read_nzRef (F := F) nz L) x).symm) O W _ _) $$ [Hn Hb H1 HO]
  · isplitl [Hn]; · iexact Hn
    isplitl [Hb]; · iexact Hb
    isplitl [H1]; · iexact H1
    isplitr; · iexact Hmw
    iexact HO
  iintro ⟨Hn, Hb, H1, HO⟩
  ihave Ha := (Entails.of_eq ((pts_a (F := F) d L _).trans (offs_zero (F := F) d L tg nz).symm)) $$ Ha
  ihave Hb := (Entails.of_eq (pts_b (F := F) d L _)) $$ Hb
  ihave Hb := (b_cuts (F := F) d L tg nz).1 $$ Hb
  icases Hb with ⟨Hb1, Hb2, Hb3, Hb4, Hb5⟩
  ihave Hsh := (sh_cuts (F := F) d L f).1 $$ Hsh
  icases Hsh with ⟨Hc0, Hc1, Hc2, Hc3, Hc4, Hc5⟩
  ihave Hst := (st_cuts (F := F) d L fs).1 $$ Hst
  icases Hst with ⟨Hs0, Hs1⟩
  ihave Ht := (pointsTo_share (PosShare.mem_left_op_right fullShare)).1 $$ Ht
  icases Ht with ⟨Ht0, Ht1⟩
  iapply (start_wp d L Tb tg nz hR 0 _ fs _ _) $$ [Ht0 Hs0 Ha H4]
  · isplitl [Ht0]; · iexact Ht0
    isplitl [Hs0]; · iexact Hs0
    isplitl [Ha]; · iexact Ha
    iexact H4
  iintro Hf0
  iapply (start_wp d L Tb tg nz hR 1 _ fs _ _) $$ [Ht1 Hs1 Hb1 H5]
  · isplitl [Ht1]; · iexact Ht1
    isplitl [Hs1]; · iexact Hs1
    isplitl [Hb1]; · iexact Hb1
    iexact H5
  iintro Hf1
  iapply (windows_wp d L Tb tg nz hR O W f _ _ 4 0 _ 4 rfl) $$ [Hf0 Hf1 H6 Hb2 Hb3 Hb4 Hb5 Hc0 Hc1 Hc2 Hc3 HO]
  · isplitl [Hf0]; · iexact Hf0
    isplitl [Hf1]; · iexact Hf1
    isplitl [H6]; · iexact H6
    isplitl [Hb2 Hb3 Hb4 Hb5 Hc0 Hc1 Hc2 Hc3]
    · simp only [todo]
      isplitl [Hb2]; · iexact Hb2
      isplitl [Hc0]; · iexact Hc0
      isplitl [Hb3]; · iexact Hb3
      isplitl [Hc1]; · iexact Hc1
      isplitl [Hb4]; · iexact Hb4
      isplitl [Hc2]; · iexact Hc2
      isplitl [Hb5]; · iexact Hb5
      isplitl [Hc3]; · iexact Hc3
      iempintro
    isplitr; · iexact Hmw
    iexact HO
  simp only [left]
  iintro ⟨Hf0, Hf1, H6, ⟨Ha, Hc0, Hb1, Hc1, Hb2, Hc2, Hb3, Hc3, -⟩, HO⟩
  iapply (window_wp d L Tb tg nz 4 _ O W f _ _) $$ [Hf0 H6 Hc4 HO]
  · isplitl [Hf0]; · iexact Hf0
    isplitl [H6]; · iexact H6
    isplitl [Hc4]; · iexact Hc4
    isplitr; · iexact Hmw
    iexact HO
  unfold wD
  iintro ⟨Hs0, Ht0, Hb4, H4, H6, Hc4, HO⟩
  iapply (window_wp d L Tb tg nz 5 _ O W f _ _) $$ [Hf1 H6 Hc5 HO]
  · isplitl [Hf1]; · iexact Hf1
    isplitl [H6]; · iexact H6
    isplitl [Hc5]; · iexact Hc5
    isplitr; · iexact Hmw
    iexact HO
  unfold wD
  iintro ⟨Hs1, Ht1, Hb5, H5, H6, Hc5, HO⟩
  ihave Hsh := (sh_cuts (F := F) d L (shVal Tb tg nz (widL L))).2 $$ [Hc0 Hc1 Hc2 Hc3 Hc4 Hc5]
  · isplitl [Hc0]; · iexact Hc0
    isplitl [Hc1]; · iexact Hc1
    isplitl [Hc2]; · iexact Hc2
    isplitl [Hc3]; · iexact Hc3
    isplitl [Hc4]; · iexact Hc4
    iexact Hc5
  ihave Hsh := (Entails.of_eq (pts_row (F := F) d L _).symm) $$ Hsh
  ihave Ho := (Entails.of_eq (pts_out (F := F) d L _).symm) $$ Ho
  iapply (copy_wait d L (src := rowRef L shV) (dst := outRef L oV) (by decide) fullShare (shVal Tb tg nz (widL L)) fo (outVal Tb tg nz)
    (fun x => read_out Tb tg nz L x) O W _ _) $$ [Hsh Ho H2 HO]
  · isplitl [Hsh]; · iexact Hsh
    isplitl [Ho]; · iexact Ho
    isplitl [H2]; · iexact H2
    isplitr; · iexact Hmw
    iexact HO
  iintro ⟨Hsh, Ho, H2, HO⟩
  ihave Hg := (Entails.of_eq (pts_tgt (F := F) d L tg)) $$ Hg
  ihave Hn := (Entails.of_eq (pts_nz (F := F) d L nz)) $$ Hn
  ihave Hsh := (Entails.of_eq (pts_row (F := F) d L _)) $$ Hsh
  ihave Ho := (Entails.of_eq (pts_out (F := F) d L _)) $$ Ho
  rw [wp_ret]; imodintro
  isplitl [Hg]; · iexact Hg
  isplitl [Hn]; · iexact Hn
  isplitl [Ht0 Ht1]
  · iapply (pointsTo_share (PosShare.mem_left_op_right fullShare)).2
    isplitl [Ht0]; · iexact Ht0
    iexact Ht1
  isplitl [Ho]; · iexact Ho
  isplitl [Hsh]; · iexact Hsh
  isplitl [Ha]; · iexists _; iapply (Entails.of_eq (offs_zero (F := F) d L tg nz)); iexact Ha
  isplitl [Hb1 Hb2 Hb3 Hb4 Hb5]
  · iexists _
    iapply (b_cuts (F := F) d L tg nz).2
    isplitl [Hb1]; · iexact Hb1
    isplitl [Hb2]; · iexact Hb2
    isplitl [Hb3]; · iexact Hb3
    isplitl [Hb4]; · iexact Hb4
    iexact Hb5
  isplitl [Hs0 Hs1]
  · iapply (st_join (F := F) d L _ _)
    isplitl [Hs0]; · iexact Hs0
    iexact Hs1
  isplitl [H4]; · iexact H4
  isplitl [H5]; · iexact H5
  isplitl [H6]; · iexact H6
  isplitl [H0]; · iexact H0
  isplitl [H1]; · iexact H1
  isplitl [H2]; · iexact H2
  iexact HO

end Tile

end Cert.KernelIdeal.Tile

end
-- ==== Proof.Ideal.SCLaunch.lean ====
/-
  The SparseCore call's launch: what its handshakes carry, each tile's obligation, and the arrays split among the tiles.
-/
module

public import proofs.«01_k».proof.Defs
public import proofs.«01_k».proof.Proof.Ideal.Geo
public import proofs.«01_k».proof.Proof.Ideal.TileEq
public import proofs.«01_k».proof.Proof.Ideal.Base
public import proofs.«01_k».proof.Proof.Ideal.TileBody
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.Scf
public import Idealize.ShloMosaic.Lib.Pipeline.Kit
public import Idealize.ShloMosaic.Lib.StableHlo.Run
public import Idealize.ShloMosaic.Lib.Tactic
public import proofs.«01_k».proof.Proof.Gen.KernelIdeal
public import proofs.«01_k».proof.Proof.Gen.KernelIdeal.Launch
public import Idealize.ShloMosaic.Lib.Pipeline.Regions

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v9_scv : Memref Cert.KernelIdeal.sig Kind.scVector Space.hbm Cert.KernelIdeal.S100000x4096 EltTy.f32)
local notation "gV" => (Memref.whole Cert.KernelIdeal.main_arg1_scv : Memref Cert.KernelIdeal.sig Kind.scVector Space.hbm Cert.KernelIdeal.S4096 EltTy.i32)
local notation "nV" => (Memref.whole Cert.KernelIdeal.main_v10_scv : Memref Cert.KernelIdeal.sig Kind.scVector Space.hbm Cert.KernelIdeal.S20480 EltTy.i32)
local notation "oV" => (Memref.whole Cert.KernelIdeal.main_v11_scv : Memref Cert.KernelIdeal.sig Kind.scVector Space.hbm Cert.KernelIdeal.S32x6144 EltTy.f32)
local notation "aV" => (Memref.whole Cert.KernelIdeal.cc0_scratch0 : Memref Cert.KernelIdeal.sig Kind.scVector Space.vmem Cert.KernelIdeal.S128 EltTy.i32)
local notation "bV" => (Memref.whole Cert.KernelIdeal.cc0_scratch1 : Memref Cert.KernelIdeal.sig Kind.scVector Space.vmem Cert.KernelIdeal.S640 EltTy.i32)
local notation "stV" => (Memref.whole Cert.KernelIdeal.cc0_scratch2 : Memref Cert.KernelIdeal.sig Kind.scVector Space.vmem Cert.KernelIdeal.S2x128x128 EltTy.f32)
local notation "shV" => (Memref.whole Cert.KernelIdeal.cc0_scratch3 : Memref Cert.KernelIdeal.sig Kind.scVector Space.shared Cert.KernelIdeal.S16x6144 EltTy.f32)

variable [FloatOps F]

/-! ## The obligation's pieces -/

section Own

variable (d : Dev nD) (L : grid0.Coords)

abbrev cellOf (d : Dev nD) (L : grid0.Coords) (s : DmaSem sig) : GSem nD τ sig := (thr d L, .dma s)

set_option maxRecDepth 16384 in
theorem ownSems0_V :
    (ownSems0 (thr d L) : sProp 𝕄)
      = iprop(semVal (cellOf d L cc0_scratch4.sem) 0 ∗ semVal (cellOf d L cc0_scratch5.sem) 0 ∗ semVal (cellOf d L cc0_scratch6.sem) 0
          ∗ semVal (cellOf d L cc0_scoped0.sem) 0 ∗ semVal (cellOf d L cc0_scoped1.sem) 0 ∗ semVal (cellOf d L cc0_scoped2.sem) 0
          ∗ bigSep (((((((ownCells (thr d L)).erase (cellOf d L cc0_scratch4.sem)).erase (cellOf d L cc0_scratch5.sem)).erase (cellOf d L cc0_scratch6.sem)).erase
              (cellOf d L cc0_scoped0.sem)).erase (cellOf d L cc0_scoped1.sem)).erase (cellOf d L cc0_scoped2.sem)) fun g => semVal g 0) := by
  have ne : ∀ {a b : DmaSem sig}, a ≠ b → cellOf d L a ≠ cellOf d L b := fun h e => h (SemLoc.dma.inj (Prod.mk.inj e).2)
  have mem : ∀ s : DmaSem sig, (SemLoc.dma s : SemLoc sig).isScoped .scVector = true → cellOf d L s ∈ ownCells (thr d L) := fun s h => mem_ownCells.mpr ⟨rfl, h⟩
  unfold SparseCore.Cfg.ownSems0
  rw [SparseCore.bigSep_erase' (mem cc0_scratch4.sem (by decide)),
    SparseCore.bigSep_erase' (Finset.mem_erase.mpr ⟨ne (by decide), mem cc0_scratch5.sem (by decide)⟩),
    SparseCore.bigSep_erase' (Finset.mem_erase.mpr ⟨ne (by decide), Finset.mem_erase.mpr ⟨ne (by decide), mem cc0_scratch6.sem (by decide)⟩⟩),
    SparseCore.bigSep_erase' (Finset.mem_erase.mpr ⟨ne (by decide), Finset.mem_erase.mpr ⟨ne (by decide), Finset.mem_erase.mpr ⟨ne (by decide), mem cc0_scoped0.sem (by decide)⟩⟩⟩),
    SparseCore.bigSep_erase' (Finset.mem_erase.mpr ⟨ne (by decide), Finset.mem_erase.mpr ⟨ne (by decide), Finset.mem_erase.mpr ⟨ne (by decide), Finset.mem_erase.mpr ⟨ne (by decide),
      mem cc0_scoped1.sem (by decide)⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide),
      Finset.mem_erase.mpr ⟨ne (by decide), mem cc0_scoped2.sem (by decide)⟩⟩⟩⟩⟩)]

abbrev refOf (L : grid0.Coords) (b : Ref sig .scVector) : DevRef τ sig := (Proc.scVector (cV L) (jV L)).devRef b

set_option maxRecDepth 16384 in
theorem ownBufs_V :
    (ownBufs (thr d L) : sProp 𝕄)
      = iprop((∃ f, aLoc d L ↦{fullShare} f) ∗ (∃ f, bLoc d L ↦{fullShare} f) ∗ (∃ f, stLoc d L ↦{fullShare} f)
          ∗ bigSep ((((ownRefs (τ := τ) (.scVector (cV L) (jV L))).erase (refOf L cc0_scratch0)).erase (refOf L cc0_scratch1)).erase (refOf L cc0_scratch2))
              fun b => iprop(∃ f, ((d, b) : Loc nD τ sig) ↦{fullShare} f)) := by
  have ne : ∀ {a b : Ref sig .scVector}, a ≠ b → refOf L a ≠ refOf L b := fun h e => h (Proc.devRef_injective _ e)
  have m0 : refOf L cc0_scratch0 ∈ ownRefs (τ := τ) (.scVector (cV L) (jV L)) := SparseCore.Cfg.mem_ownRefs_of_owner (p := Proc.scVector (cV L) (jV L)) rfl
  have m1 : refOf L cc0_scratch1 ∈ ownRefs (τ := τ) (.scVector (cV L) (jV L)) := SparseCore.Cfg.mem_ownRefs_of_owner (p := Proc.scVector (cV L) (jV L)) rfl
  have m2 : refOf L cc0_scratch2 ∈ ownRefs (τ := τ) (.scVector (cV L) (jV L)) := SparseCore.Cfg.mem_ownRefs_of_owner (p := Proc.scVector (cV L) (jV L)) rfl
  unfold SparseCore.Cfg.ownBufs
  refine (SparseCore.bigSep_erase' m0).trans ?_
  rw [SparseCore.bigSep_erase' (Finset.mem_erase.mpr ⟨ne (by decide), m1⟩),
    SparseCore.bigSep_erase' (Finset.mem_erase.mpr ⟨ne (by decide), Finset.mem_erase.mpr ⟨ne (by decide), m2⟩⟩)]

end Own

/-! ## What the call's handshakes carry -/

variable (Tb : Dev nD → S100000x4096.Idx → Elt F .f32) (tg : Dev nD → S4096.Idx → BitVec 32) (nz : Dev nD → S20480.Idx → BitVec 32)
variable (fo : Dev nD → S32x6144.Idx → Elt F .f32)

/-- One tile's parts of the operands and of the result, the result at a given value. -/
def piece (d : Dev nD) (x : S32x6144.Idx → Elt F .f32) (wid : ℕ) : sProp 𝕄 :=
  iprop((gLoc d ↦[tgSet wid]{fullShare} tg d) ∗ (nLoc d ↦[nzSet wid]{fullShare} nz d) ∗ (tLoc d ↦[tabSet wid]{fullShare} Tb d)
    ∗ (oLoc d ↦[outSet wid]{fullShare} x))

instance (d : Dev nD) (x : S32x6144.Idx → Elt F .f32) (wid : ℕ) : BI.Storable (upEmb : UEmb _ 𝕄) (piece Tb tg nz d x wid) := by unfold piece; infer_instance

/-- The result of the call on a device. -/
abbrev res (d : Dev nD) : S32x6144.Idx → Elt F .f32 := outVal (Tb d) (tg d) (nz d)

abbrev coreOf (c : Fin ((K (F := F)).nCore 0)) : Fin τ.nSC := (K (F := F)).core 0 c

/-- A tile's row of the shared scratch. -/
abbrev shRow (d : Dev nD) (c : Fin τ.nSC) (r : ℕ) (f : Buf (Elt F) (shLoc d c)) : sProp 𝕄 := shLoc d c ↦[colSet r 0 6144]{fullShare} f

/-- What goes to the SparseCores and their tiles and what comes back. -/
def P : (K (F := F)).Pay (nD := nD) (Val := Elt F) (Name := ℕ) (U := UU) where
  st := fun q d c => match q with | 0 => bigSep Finset.univ fun i : Fin ((K (F := F)).nSub 0) => piece Tb tg nz d (fo d) (2 * i.val + c.val)
  dn := fun q d c => match q with | 0 => bigSep Finset.univ fun i : Fin ((K (F := F)).nSub 0) => piece Tb tg nz d (res Tb tg nz d) (2 * i.val + c.val)
  go := fun q d c i => match q with
    | 0 => iprop(piece Tb tg nz d (fo d) (2 * i.val + c.val) ∗ ∃ f, shRow d (coreOf c) i.val f)
  td := fun q d c i => match q with
    | 0 => iprop(piece Tb tg nz d (res Tb tg nz d) (2 * i.val + c.val) ∗ ∃ f, shRow d (coreOf c) i.val f)
  x := fun _ _ => iprop(emp)

instance P_storable : (P (F := F) Tb tg nz fo).IsStorable where
  st q d c := match q with
    | 0 => (inferInstance : BI.Storable (upEmb : UEmb _ 𝕄) (bigSep Finset.univ fun i : Fin ((K (F := F)).nSub 0) => piece Tb tg nz d (fo d) (2 * i.val + c.val)))
  dn q d c := match q with
    | 0 => (inferInstance : BI.Storable (upEmb : UEmb _ 𝕄) (bigSep Finset.univ fun i : Fin ((K (F := F)).nSub 0) => piece Tb tg nz d (res Tb tg nz d) (2 * i.val + c.val)))
  go q d c i := match q with
    | 0 => (inferInstance : BI.Storable (upEmb : UEmb _ 𝕄) iprop(piece Tb tg nz d (fo d) (2 * i.val + c.val) ∗ ∃ f, shRow d (coreOf c) i.val f))
  td q d c i := match q with
    | 0 => (inferInstance : BI.Storable (upEmb : UEmb _ 𝕄) iprop(piece Tb tg nz d (res Tb tg nz d) (2 * i.val + c.val) ∗ ∃ f, shRow d (coreOf c) i.val f))

/-! ## The task -/

theorem task_wp (hR : ∀ d, InRange (tg d) (nz d)) (d : Dev nD) (L : grid0.Coords) (hF : (K (F := F)).Facts) (O : CellTallies nD τ sig (HIx 1))
    (W : Waits sig (HIx 1)) (hO : ∀ g, O g none = 0) :
    iprop(levAts (K (F := F)).L (K (F := F)).lev ∗ emp
        ∗ (piece Tb tg nz d (fo d) (widL L) ∗ ∃ f, shRow d (cV L) (L 1).val f)
        ∗ scopedBufs (thr d L) ∗ scopedSems0 (thr d L) ∗ owes (thr d L) O W)
      ⊢ wp frame (wpE (defs₀ (F := F)) 𝒱₀ (thr d L) none) Set.univ
          (cc0__sc_gather L tV (Memref.isWhole_whole _) gV (Memref.isWhole_whole _) nV (Memref.isWhole_whole _) oV (Memref.isWhole_whole _)
            aV (Memref.isWhole_whole _) bV (Memref.isWhole_whole _) stV (Memref.isWhole_whole _) shV (Memref.isWhole_whole _)
            cc0_scratch4 cc0_scratch5 cc0_scratch6 cc0_scoped0 cc0_scoped1 cc0_scoped2)
          fun _ => iprop((piece Tb tg nz d (res Tb tg nz d) (widL L) ∗ ∃ f, shRow d (cV L) (L 1).val f)
            ∗ scopedBufs (thr d L) ∗ scopedSems0 (thr d L)
            ∗ ∃ W', ⌜∀ p ∈ W', p ∈ W ∨ p.2 = none⌝ ∗ owes (thr d L) O W') := by
  rw [tile_eq, (K (F := F)).scopedBufs_V hF d (cV L) (jV L), SparseCore.Cfg.scopedSems0_V (Val := Elt F) d (cV L) (jV L), ownSems0_V, ownBufs_V]
  unfold piece
  iintro ⟨#Hlv, -, ⟨⟨Hg, Hn, Ht, Ho⟩, %f, Hsh⟩, ⟨⟨%fa, Ha⟩, ⟨%fb, Hb⟩, ⟨%fs, Hs⟩, Hbufs⟩, ⟨H4, H5, H6, H0, H1, H2, Hsems⟩, HO⟩
  ihave Hmw := (show levAts (K (F := F)).L (K (F := F)).lev ⊢ Transfers.MayWaits (thr d L) (default : HIx 1) O from
    (K (F := F)).mayWaits_none (thr := thr d L) hO) $$ Hlv
  iapply wp_wand $$ [Hg Hn Ht Ho Hsh Ha Hb Hs H4 H5 H6 H0 H1 H2 HO Hmw]
  · iapply (tile_wp d L (Tb d) (tg d) (nz d) (hR d) O W (fo d) f fa fb fs)
    isplitl [Hg]; · iexact Hg
    isplitl [Hn]; · iexact Hn
    isplitl [Ht]; · iexact Ht
    isplitl [Ho]; · iexact Ho
    isplitl [Hsh]; · iexact Hsh
    isplitl [Ha]; · iexact Ha
    isplitl [Hb]; · iexact Hb
    isplitl [Hs]; · iexact Hs
    isplitl [H4]; · iexact H4
    isplitl [H5]; · iexact H5
    isplitl [H6]; · iexact H6
    isplitl [H0]; · iexact H0
    isplitl [H1]; · iexact H1
    isplitl [H2]; · iexact H2
    isplitl [Hmw]; · iexact Hmw
    unfold Owes
    iexists W; isplitr
    · ipureintro; exact fun p hp => .inl hp
    iexact HO
  iintro %u ⟨Hg, Hn, Ht, Ho, Hsh, Ha, Hb, Hs, H4, H5, H6, H0, H1, H2, HO⟩
  isplitl [Hg Hn Ht Ho Hsh]
  · isplitr [Hsh]
    · isplitl [Hg]; · iexact Hg
      isplitl [Hn]; · iexact Hn
      isplitl [Ht]; · iexact Ht
      iexact Ho
    iexists _; iexact Hsh
  isplitl [Ha Hb Hs Hbufs]
  · isplitl [Ha]; · iexact Ha
    isplitl [Hb]; · iexact Hb
    isplitl [Hs]; · iexact Hs
    iexact Hbufs
  isplitl [H4 H5 H6 H0 H1 H2 Hsems]
  · isplitl [H4]; · iexact H4
    isplitl [H5]; · iexact H5
    isplitl [H6]; · iexact H6
    isplitl [H0]; · iexact H0
    isplitl [H1]; · iexact H1
    isplitl [H2]; · iexact H2
    iexact Hsems
  iapply (Entails.of_eq (owes_eq d L O W)); iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s) tV (Memref.isWhole_whole _) gV (Memref.isWhole_whole _) nV (Memref.isWhole_whole _)
            oV (Memref.isWhole_whole _) aV (Memref.isWhole_whole _) bV (Memref.isWhole_whole _) stV (Memref.isWhole_whole _) shV (Memref.isWhole_whole _)
            cc0_scratch4 cc0_scratch5 cc0_scratch6 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hR : ∀ d, InRange (tg d) (nz d)) : (K (F := F)).TileObl (D (F := F)) 𝒱 (P Tb tg nz fo) v₀ 0 := by
  intro d c i O W hO _ _
  simp only [show (P (F := F) Tb tg nz fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task_wp Tb tg nz fo hR d (coordsV ⟨_, hci.1⟩ ⟨_, hci.2⟩) hF O W hO).trans (wp_mono frame _ _ fun _ => obl_post)

/-! ## The shared scratch's rows, out of the sequencer's buffers and back -/

theorem rows_disjoint : ∀ i ∈ (Finset.univ : Finset (Fin 16)), ∀ j ∈ (Finset.univ : Finset (Fin 16)), i ≠ j → Disjoint (colSet i.val 0 6144) (colSet j.val 0 6144) := by
  intro i _ j _ h
  rw [Finset.disjoint_left]; intro x h1 h2
  rw [mem_colSet] at h1 h2
  exact h (Fin.ext (h1.1.symm.trans h2.1))
set_option maxRecDepth 16384 in
theorem rows_cover : (Finset.univ : Finset (Fin 16)).biUnion (fun i => colSet i.val 0 6144) = Finset.univ := by
  ext x
  simp only [Finset.mem_biUnion, mem_colSet, Finset.mem_univ, _root_.true_and, iff_true]
  have h1 : (x 1).val < 6144 := (x 1).isLt
  exact ⟨x 0, rfl, Nat.zero_le _, h1⟩

theorem shPts_rows (d : Dev nD) (c : Fin τ.nSC) (f : Buf (Elt F) (shLoc d c)) :
    (shLoc d c ↦{fullShare} f : sProp 𝕄) = bigSep Finset.univ fun i : Fin 16 => shRow d c i.val f := by
  unfold shRow
  rw [← pointsTo_biUnion Finset.univ (ℓ := shLoc d c) (fun i : Fin 16 => colSet i.val 0 6144) rows_disjoint, rows_cover]; try rfl

set_option maxRecDepth 16384 in
theorem shRows_join (d : Dev nD) (c : Fin τ.nSC) :
    (bigSep Finset.univ fun i : Fin 16 => iprop(∃ f, shRow d c i.val f)) ⊢ (iprop(∃ f, shLoc d c ↦{fullShare} f) : sProp 𝕄) := by
  refine (bigSep_exists_pi Finset.univ (fun (i : Fin 16) (f : Buf (Elt F) (shLoc d c)) => shRow d c i.val f)).trans ?_
  iintro ⟨%fs, H⟩
  unfold shRow
  ihave H' := (pointsTo_biUnion_join Finset.univ (fun i : Fin 16 => colSet i.val 0 6144) fs (fs 0) rows_disjoint) $$ H
  icases H' with ⟨%g, -, Hg⟩
  rw [rows_cover]
  iexists g; iexact Hg

set_option maxRecDepth 16384 in
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P Tb tg nz fo) 0 := by
  intro d c
  show iprop((bigSep Finset.univ fun i : Fin 16 => piece Tb tg nz d (fo d) (2 * i.val + c.val)) ∗ ownBufs (S d (coreOf c))) ⊢ |={Set.univ}=> iprop(
      (bigSep Finset.univ fun i : Fin 16 => iprop(piece Tb tg nz d (fo d) (2 * i.val + c.val) ∗ ∃ f, shRow d (coreOf c) i.val f))
      ∗ ((bigSep Finset.univ fun i : Fin 16 => iprop(piece Tb tg nz d (res Tb tg nz d) (2 * i.val + c.val) ∗ ∃ f, shRow d (coreOf c) i.val f))
          -∗ iprop((bigSep Finset.univ fun i : Fin 16 => piece Tb tg nz d (res Tb tg nz d) (2 * i.val + c.val)) ∗ ownBufs (S d (coreOf c)))))
  rw [bigSep_sep', bigSep_sep', ownBufs_S]
  iintro ⟨Hp, ⟨%fsh, Hsh⟩, Hrest⟩; imodintro
  isplitl [Hp Hsh]
  · isplitl [Hp]; · iexact Hp
    ihave Hsh' := ((Entails.of_eq (shPts_rows d (coreOf c) fsh)).trans (SparseCore.ent (bigSep_mono (Φ := fun i : Fin 16 => shRow (F := F) d (coreOf c) i.val fsh)
      (Ψ := fun i : Fin 16 => iprop(∃ f, shRow (F := F) d (coreOf c) i.val f))
      fun i _ => BI.BIClass.exists_intro (Φ := fun f => shRow (F := F) d (coreOf c) i.val f) fsh))) $$ Hsh
    iexact Hsh'
  iintro ⟨Hp, Hsh⟩
  isplitl [Hp]; · iexact Hp
  isplitl [Hsh]; · iapply (shRows_join d); iexact Hsh
  iexact Hrest

/-! ## The tiles' parts and the whole arrays -/

/-- The operands whole, and the result at a given value. -/
abbrev whole (d : Dev nD) (x : S32x6144.Idx → Elt F .f32) : sProp 𝕄 :=
  iprop((gLoc d ↦{fullShare} tg d) ∗ (nLoc d ↦{fullShare} nz d) ∗ (tLoc d ↦{fullShare} Tb d) ∗ (oLoc d ↦{fullShare} x))

abbrev wid2 (p : Fin 2 × Fin 16) : ℕ := 2 * p.2.val + p.1.val

/-- The 32 tiles' parts of an array are it, when each of its elements lies in the one part that `t` names. -/
theorem parts {ℓ : Loc nD τ sig} (A : ℕ → Finset (Idx ℓ)) (t : Idx ℓ → ℕ) (ht : ∀ x, t x < 32) (hA : ∀ x w, x ∈ A w ↔ t x = w) (f : Buf (Elt F) ℓ) :
    (bigSep Finset.univ fun c : Fin 2 => bigSep Finset.univ fun i : Fin 16 => (ℓ ↦[A (2 * i.val + c.val)]{fullShare} f : sProp 𝕄)) = (ℓ ↦{fullShare} f) := by
  rw [← bigSep_univ_prod (fun p : Fin 2 × Fin 16 => (ℓ ↦[A (wid2 p)]{fullShare} f : sProp 𝕄)),
    ← pointsTo_biUnion Finset.univ (ℓ := ℓ) (fun p : Fin 2 × Fin 16 => A (wid2 p)) (by
      rintro ⟨c, i⟩ - ⟨c', i'⟩ - h
      rw [Finset.disjoint_left]; intro x h1 h2
      rw [hA] at h1 h2
      have e : 2 * i.val + c.val = 2 * i'.val + c'.val := h1.symm.trans h2
      have := c.isLt; have := c'.isLt
      exact h (Prod.ext (Fin.ext (show c.val = c'.val by omega)) (Fin.ext (show i.val = i'.val by omega))))]
  have : (Finset.univ.biUnion fun p : Fin 2 × Fin 16 => A (wid2 p)) = (Finset.univ : Finset (Idx ℓ)) := by
    ext x
    simp only [Finset.mem_biUnion, Finset.mem_univ, _root_.true_and, iff_true]
    have := ht x
    exact ⟨(⟨t x % 2, by omega⟩, ⟨t x / 2, by omega⟩), (hA _ _).mpr (by show t x = 2 * (t x / 2) + t x % 2; omega)⟩
  rw [this]

theorem pieces_eq (d : Dev nD) (x : S32x6144.Idx → Elt F .f32) :
    (bigSep Finset.univ fun c : Fin 2 => bigSep Finset.univ fun i : Fin 16 => piece Tb tg nz d x (2 * i.val + c.val)) = whole Tb tg nz d x := by
  unfold piece
  simp only [bigSep_sep']
  rw [parts (ℓ := gLoc d) tgSet (fun x => (x 0).val / 128) (fun x => by have : (x 0).val < 4096 := (x 0).isLt; show (x 0).val / 128 < 32; omega)
      (fun x w => by simp only [tgSet, Finset.mem_filter, Finset.mem_univ, _root_.true_and]; omega) (tg d),
    parts (ℓ := nLoc d) nzSet (fun x => (x 0).val / 640) (fun x => by have : (x 0).val < 20480 := (x 0).isLt; show (x 0).val / 640 < 32; omega)
      (fun x w => by simp only [nzSet, Finset.mem_filter, Finset.mem_univ, _root_.true_and]; omega) (nz d),
    parts (ℓ := tLoc d) tabSet (fun x => (x 1).val / 128) (fun x => by have : (x 1).val < 4096 := (x 1).isLt; show (x 1).val / 128 < 32; omega)
      (fun x w => by simp only [tabSet, Finset.mem_filter, Finset.mem_univ, _root_.true_and]; omega) (Tb d),
    parts (ℓ := oLoc d) outSet (fun x => (x 0).val) (fun x => (x 0).isLt)
      (fun x w => by simp only [outSet, Finset.mem_filter, Finset.mem_univ, _root_.true_and]) x]

theorem st0_eq (d : Dev nD) : (bigSep Finset.univ fun c : Fin ((K (F := F)).nCore 0) => (P Tb tg nz fo).st 0 d c) = whole Tb tg nz d (fo d) :=
  pieces_eq Tb tg nz d (fo d)
theorem dn0_eq (d : Dev nD) : (bigSep Finset.univ fun c : Fin ((K (F := F)).nCore 0) => (P Tb tg nz fo).dn 0 d c) = whole Tb tg nz d (res Tb tg nz d) :=
  pieces_eq Tb tg nz d (res Tb tg nz d)

end Cert.KernelIdeal.Tile

end
-- ==== Proof.Ideal.Ghost.lean ====
/-
  The launch's ghost state: the handshakes' cells of the SparseCore call and the cells of the TensorCore pipeline.
-/
module

public import proofs.«01_k».proof.Defs
public import proofs.«01_k».proof.Proof.Ideal.Geo
public import proofs.«01_k».proof.Proof.Ideal.TileEq
public import proofs.«01_k».proof.Proof.Ideal.Base
public import proofs.«01_k».proof.Proof.Ideal.SCLaunch
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.Scf
public import Idealize.ShloMosaic.Lib.Pipeline.Kit
public import Idealize.ShloMosaic.Lib.StableHlo.Run
public import Idealize.ShloMosaic.Lib.Tactic
public import proofs.«01_k».proof.Proof.Gen.KernelIdeal
public import proofs.«01_k».proof.Proof.Gen.KernelIdeal.Launch
public import Idealize.ShloMosaic.Lib.Pipeline.Regions

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Tb : Dev nD → S100000x4096.Idx → Elt F .f32) (tg : Dev nD → S4096.Idx → Elt F .i32) (nz : Dev nD → S20480.Idx → Elt F .i32)
  (fo : Dev nD → S32x6144.Idx → Elt F .f32)

/-! ## The launch element of the ghost state -/

def u₀ : UU :=
  (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

/-- The pipeline's ghost state on a device: its cells' and its launch tokens. -/
def G (d : Dev nD) : sProp 𝕄 :=
  iprop((bigSep Finset.univ fun p : Fin 1 => Pipeline.cellsGhost cfgs (EP (F := F)) p d) ∗ bigSep Finset.univ fun p : Fin 1 => Pipeline.toksInit cfgs (EP (F := F)) p d)

/-- The launch element pays for the handshakes' cells and, on every device, for the pipeline's. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P Tb tg nz fo).x q thr) := by
  unfold u₀
  iintro Hu
  ihave H := (ownU_pair (initOf (K (F := F)).hsCells (K (F := F)).hsToks) ((initOf (Pipeline.cells cfgs cellOf_inj) (Pipeline.launchToks cfgs cellOf_inj), 1) : UP × Counters)) $$ Hu
  icases H with ⟨HH, HR⟩
  ihave H2 := (own_pair_emb (embR : Emb (UP × Counters) 𝕄) (initOf (Pipeline.cells cfgs cellOf_inj) (Pipeline.launchToks cfgs cellOf_inj)) (1 : Counters)) $$ HR
  icases H2 with ⟨HP, -⟩
  ihave HP := (show _ ⊢ (BI.own (EP (F := F) (initOf (Pipeline.cells cfgs cellOf_inj) (Pipeline.launchToks cfgs cellOf_inj))) : sProp 𝕄) from by unfold EP; exact .rfl) $$ HP
  ihave HG := (Pipeline.fund_ghost (nD := nD) (τ := τ) cfgs (EP (F := F)) cellOf_inj) $$ HP
  imod HG with ⟨HC, HT⟩
  imodintro
  isplitl [HH]; · iexact HH
  isplitl [HC HT]
  · unfold G; rw [bigSep_sep']; isplitl [HC]; · iexact HC
    iexact HT
  rw [show (bigSep Finset.univ fun thr : Thread nD τ => bigSep Finset.univ fun q : Fin 1 => (P (F := F) Tb tg nz fo).x q thr) = bigSep Finset.univ fun _ => iprop(emp) from
    bigSep_congr fun _ _ => bigSep_univ_of_subsingleton (0 : Fin 1), bigSep_emp']
  iempintro

end Cert.KernelIdeal.Tile

end
-- ==== Proof.Ideal.LossBody.lean ====
/-
  The TensorCore kernel that turns the gathered groups into the loss: what it computes from the 192×128 groups of
  eight lanes, and its run.
-/
module

public import proofs.«01_k».proof.Proof.Ideal.Base
public import proofs.«01_k».proof.Proof.Gen.KernelIdeal.Points
public import Idealize.ShloMosaic.Lib.Tactic
public import Idealize.ShloMosaic.Lib.VecWindow

@[expose] public section

noncomputable section

namespace Cert.KernelIdeal.Tile

open Cert.KernelIdeal

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Tactic

variable {F : FTy → Type} [FloatOps F]

local notation "𝕄" => MT nD τ sig (HIx 1) (Elt F) ℕ UU ℕ

open Shapes1.Facts₀

/-! ## The value -/

/-- The divisor of the row number: six. -/
def six : BitVec 32 := Scalar.select (Scalar.cmpi .eq 6#32 0#32) 1#32 6#32
/-- The row number modulo six: which of a tile's six rows of 128 groups this is (row 0: targets, rows 1–5: noise). -/
def role : IVec S192x128 32 :=
  have r : IVec S192x128 32 := remsi (iota .tc S192x128 32 [0] iota_S192x128_d0_w32) (broadcast S192x128 six)
  select (andi (xori (cmpi .slt r (broadcast S192x128 0#32)) (broadcastTo S192x128 (broadcast S192x128 (Scalar.cmpi .slt six 0#32)) broadcasts_S192x128_S192x128))
    (cmpi .ne r (broadcast S192x128 0#32))) (addi r (broadcast S192x128 six)) r
/-- The column number. -/
def col : IVec S192x128 32 := iota .tc S192x128 32 [1] iota_S192x128_d1_w32
/-- Which of its eight lanes each group asks for. -/
def lane : IVec S192x128 32 :=
  have n : IVec S192x128 32 := addi (muli (subi role (broadcast S192x128 1#32)) (broadcast S192x128 128#32)) col
  andi (select (cmpi .eq role (broadcast S192x128 0#32)) col (shrsi (muli n (broadcast S192x128 6554#32)) (broadcast S192x128 15#32))) (broadcast S192x128 7#32)
/-- Each group's lane, the others masked out. -/
def masked (x : FVec F S192x128x8 .f32) : FVec F S192x128x8 .f32 :=
  select (cmpi .eq (iota .tc S192x128x8 32 [2] iota_S192x128x8_d2_w32) (broadcastTo S192x128x8 (shapeCast S192x128x1 lane shapeCasts_S192x128_S192x128x1) broadcasts_S192x128x1_S192x128x8))
    (shapeCast S192x128x8 x shapeCasts_S192x128x8_S192x128x8) (broadcast S192x128x8 (Scalar.ofBits .f32 0x00000000#32))
/-- The lane each group asks for: the sum over the masked lanes. -/
def pick (x : FVec F S192x128x8 .f32) : FVec F S192x128 .f32 :=
  multiReduction .add [2] S192x128 (masked x) 0x00000000#32 reduces_S192x128x8_S192x128 (.inl rfl) rfl
/-- The logarithm of the sigmoid of each target's entry and of each noise's negated entry. -/
def logs (x : FVec F S192x128x8 .f32) : FVec F S192x128 .f32 :=
  log (logistic (select (cmpi .eq role (broadcast S192x128 0#32)) (pick x) (subf (broadcast S192x128 (Scalar.ofBits .f32 0x00000000#32)) (pick x))))
/-- The sum of the logarithms. -/
def logSum (x : FVec F S192x128x8 .f32) : FVec F S1 .f32 :=
  multiReduction .add [1, 2] S1 (shapeCast S1x192x128 (logs x) shapeCasts_S192x128_S1x192x128) 0x00000000#32 reduces_S1x192x128_S1 (.inl rfl) rfl
/-- The loss: minus the sum of the logarithms over 4096. -/
def lossVal (x : FVec F S192x128x8 .f32) : FVec F S1x1 .f32 :=
  broadcast S1x1 (Scalar.divf (Scalar.subf (Scalar.ofBits .f32 0x00000000#32)
    (extractAt ![0, 0, 0] (shapeCast S1x1x1 (logSum x) shapeCasts_S1_S1x1x1) inpos_S1x1x1_p0_0_0)) (Scalar.ofBits .f32 0x45800000#32))

/-! ## The body's run -/

/-- The body reads the groups and writes the loss. -/
theorem lossRun (c : Dev nD) (arg0 : Memref sig .tc .vmem S192x128x8 .f32) (harg0 : arg0.IsWhole) (arg1 : Memref sig .tc .vmem S1x1 .f32) (harg1 : arg1.IsWhole)
    (x : S192x128x8.Idx → F .f32) (Q : PUnit → sProp 𝕄) :
    iprop(owns (c : Thread nD τ) arg0 fullShare x ∗ (∃ d, owns (c : Thread nD τ) arg1 fullShare d)
        ∗ (iprop(owns (c : Thread nD τ) arg0 fullShare x ∗ owns (c : Thread nD τ) arg1 fullShare (lossVal x)) -∗ Q ⟨⟩))
      ⊢ wp frame (wpE (defs₀ (F := F)) 𝒱₀ c none) Set.univ (cc1__loss_body arg0 harg0 arg1 harg1) Q := by
  unfold cc1__loss_body k1_part1 owns
  iintro ⟨⟨%f0, %hf0, H0⟩, ⟨%d1, %f1, -, H1⟩, Hk⟩
  sl_exec
  sl_step
  iapply Hk
  isplitl [H0]
  · iexists _; isplitr; swap; · iexact H0
    ipureintro; exact hf0
  iexists _; isplitr; swap; · iexact H1
  ipureintro
  refine (View.read_writes_full arg1.view f1 _ _ []).trans ?_
  have hx : View.readAt (Elt F) arg0.view (Rect.unit (s := S192x128x8) ![0, 0, 0] S192x128x8.size inb_S192x128x8_S192x128x8_0_0_0).toLoadRect f0 = x :=
    (View.readAt_full arg0.view f0 _).trans hf0
  rw [← hx]
  rfl

end Cert.KernelIdeal.Tile

end
-- ==== Proof.Ideal.LossRegion.lean ====
/-
  The TensorCore kernel's call as a region of `@main`: entered holding the program's arrays, left with its result array
  at the loss of the groups and every other array as it was.
-/
module

public import proofs.«01_k».proof.Proof.Ideal.LossBody
public import proofs.«01_k».proof.Proof.Gen.KernelIdeal.Launch
public import Idealize.ShloMosaic.Lib.Pipeline.Regions
public import Idealize.ShloMosaic.Lib.Pipeline.RegionArraysS
public import Idealize.ShloMosaic.Lib.Pipeline.ValueKit

@[expose] public section

noncomputable section

namespace Cert.KernelIdeal.Tile

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Tactic

variable {F : FTy → Type} [FloatOps F]

local notation "𝕄" => MT nD τ sig (HIx 1) (Elt F) ℕ UU ℕ

/-- No table is prefetched. -/
abbrev adm : (p : Fin 1) → (pcfgs (F := F) p).Adm := fun p => (cfgs p).toPCfg_adm

variable (W : Dev nD → Valuation τ sig (Elt F))

/-- The groups the kernel reads. -/
def groups (c : Dev nD) : S192x128x8.Idx → F .f32 := W c (Proc.devRef .tc main_v12)

/-- The proof data: the arrays as the region finds them; after the body the groups unchanged and the loss written;
    nothing owed; every wait recorded before lies at or below the SparseCore call's levels. -/
def dat (c : Dev nD) : Dat τ (Elt F) (HIx 1) ℕ UU ℕ cfg1 c where
  A w := W c (Proc.devRef .tc (Pipeline.arrRef spec1 w))
  after w _ := match w with
    | ⟨0, _⟩ => groups W c
    | ⟨1, _⟩ => lossVal (groups W c)
  Φ _ := iprop(emp)
  q _ := fullShare
  owed _ := 0
  recorded _ := {x | (K (F := F)).lev (SparseCore.T c, x.1) x.2 ≤ 8}

/-- The same, at the one pipeline. -/
def dats : (p : Fin 1) → (c : Dev nD) → Dat τ (Elt F) (HIx 1) ℕ UU ℕ (Pipeline.pin (pcfgs (F := F)) adm p) c
  | 0 => dat W

/-- The groups' staging buffer holds the groups when the body runs. -/
theorem before_in (c : Dev nD) (t : Fin cfg1.N) (d : (cfg1.win 0).block.Idx → Elt F (cfg1.win 0).elt) :
    (dat W c).before 0 t d = groups W c := by
  obtain rfl := fin_N1 t
  unfold Dat.before; rw [if_pos (fetch1_0 _)]
  refine (show _ = ((cfg1.win 0).blk t1_0).view.read (Elt F) (W c (Proc.devRef .tc main_v12)) from rfl).trans ?_
  funext y
  refine congrArg (W c (Proc.devRef .tc main_v12)) (funext fun a => Fin.ext ?_)
  exact Pipeline.Window.rect_emb_val_of_index_zero (cfg1.win 0) t1_0 a rfl y

/-- The body at its one point: it finds the groups and leaves the loss. -/
theorem body_obligation (c : Dev nD) : BodyObligation (dat W c) (defs₀ (F := F)) 𝒱₀ none Set.univ := fun t => by
  obtain rfl := fin_N1 t
  rw [bigSep_W1, bigSep_W1]
  rw [show (dat W c).Φ t1_0.castSucc = iprop(emp) from rfl, show (dat W c).Φ t1_0.succ = iprop(emp) from rfl,
    show (dat W c).owesAt none t1_0.succ = (dat W c).owesAt none t1_0.castSucc from rfl]
  iintro ⟨-, Howes, ⟨%d0, H0⟩, ⟨%d1, H1⟩⟩
  rw [before_in]
  iapply (lossRun c ((cfg1.win 0).stage (cfg1.slots t1_0 0)) (hstage1_0 0) ((cfg1.win 1).stage (cfg1.slots t1_0 1)) (hstage1_1 0) (groups W c) _)
  isplitl [H0]; · iexact H0
  isplitl [H1]; · iexists _; iexact H1
  iintro ⟨H0, H1⟩
  isplitr; · iempintro
  isplitl [Howes]; · iexact Howes
  isplitl [H0]; · iexact H0
  iexact H1

/-- The result array ends at the loss. -/
theorem arr_out (c : Dev nD) : (dat W c).arrAt 1 cfg1.N = lossVal (groups W c) :=
  (dat W c).arrAt_eq_of_after_last 1 t1_0 (by decide +kernel) _ (fun _ => rfl)

/-- The region's arrays are arrays of `@main`. -/
theorem arrs_sub : Pipeline.arrRefs (τ := τ) spec1 ⊆ Pipeline.ucRefs τ sig :=
  Pipeline.arrRefs_sub_ucRefs spec1 (by decide)

/-- The region: entered and left holding all of `@main`'s arrays, the core owing nothing. -/
def reg : Pipeline.RegionSeg (pcfgs (F := F)) adm (dats W) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation W c).loose
  hwaits := Pipeline.hwaits_of_owed_zero _ _ _ _ _ _ 0 fun _ _ => rfl
  pre c := iprop(StableHlo.held (c.tc : Thread nD τ) (Pipeline.ucRefs τ sig) (W c)
    ∗ ∃ Wd, ⌜(K (F := F)).WBelow (SparseCore.T c) Wd 8⌝ ∗ owes (c.tc : Thread nD τ) 0 Wd)
  post c := iprop(StableHlo.held (c.tc : Thread nD τ) (Pipeline.ucRefs τ sig) (Pipeline.afterRegion (dats W 0 c) (W c))
    ∗ ∃ Wd, ⌜(K (F := F)).WBelow (SparseCore.T c) Wd 8⌝ ∗ owes (c.tc : Thread nD τ) 0 Wd)
  X _ := iprop(emp)
  Y _ := iprop(emp)
  Z c := StableHlo.held (c.tc : Thread nD τ) (Pipeline.ucRefs τ sig \ Pipeline.arrRefs spec1) (W c)
  hentry c := by
    rw [Pipeline.ownSems0_none, Pipeline.prefHeld_of_none _ (show ((pcfgs (F := F)) 0).pre.K = 0 from rfl)]
    rw [StableHlo.held_sub_split (c.tc : Thread nD τ) arrs_sub (W c)]
    rw [Pipeline.arrays_held (pcfgs (F := F)) adm (dats W) 0 launch1.toP c ((dat W c).share_full fun _ => rfl) ((dats W 0 c).arrAt · 0) (W c) (fun _ => rfl)]
    iintro ⟨⟨⟨Ha, Hr⟩, ⟨%Wd, %hW, HO⟩⟩, -, -⟩
    imodintro
    isplitl [Ha]; · iexact Ha
    isplitr; · iempintro
    isplitl [HO]
    · unfold Pipeline.Dat.owesAt Pipeline.owesWithin
      iexists Wd; isplitr; · ipureintro; exact fun x hx => Or.inl (hW x hx)
      iexact HO
    isplitr; · iempintro
    iexact Hr
  hin c := by
    rw [scopedRest1_eq]
    iintro -
    iapply (show (iprop(emp) : sProp 𝕄) ⊢ (dats W 0 c).Φ 0 from .rfl)
    iempintro
  hout c := by
    rw [Pipeline.ownSems0_none, scopedRest1_eq]
    iintro -
    isplitr; · iempintro
    isplitr <;> iempintro
  hexit c := by
    rw [StableHlo.held_sub_split (c.tc : Thread nD τ) arrs_sub (Pipeline.afterRegion (dats W 0 c) (W c)),
      StableHlo.held_congr (c.tc : Thread nD τ) (S := Pipeline.ucRefs τ sig \ Pipeline.arrRefs spec1) (V := Pipeline.afterRegion (dats W 0 c) (W c)) (V' := W c)
        (Pipeline.afterRegion_off (dats W 0 c) (W c) _)]
    rw [Pipeline.arrays_held (pcfgs (F := F)) adm (dats W) 0 launch1.toP c ((dat W c).share_full fun _ => rfl) ((dats W 0 c).arrAt · cfg1.N)
      (Pipeline.afterRegion (dats W 0 c) (W c)) (fun w => (Pipeline.afterRegion_arr (dats W 0 c) (W c) launch1.win.arr_inj w).symm)]
    iintro ⟨Ha, HO, -, HZ⟩
    imodintro
    isplitl [Ha HZ]
    · isplitl [Ha]; · iexact Ha
      iexact HZ
    unfold Pipeline.Dat.owesAt Pipeline.owesWithin
    icases HO with ⟨%Wd, %hW, HO⟩; iexists Wd; isplitr
    · ipureintro
      intro x hx
      rcases hW hx with h | ⟨w, s, rfl⟩
      · exact h
      · show (K (F := F)).lev _ none ≤ 8
        rw [SparseCore.Cfg.lev_none]; exact Nat.zero_le _
    iexact HO

end Cert.KernelIdeal.Tile

end
-- ==== Proof.Ideal.KernelHost.lean ====
/-
  The host operations before the SparseCore call: a straight line, whose last draw lies below the table's number of rows.
-/
module

public import proofs.«01_k».proof.Proof.Gen.KernelIdeal
public import proofs.«01_k».proof.Proof.HostLine

@[expose] public section

set_option maxRecDepth 65536

noncomputable section

namespace Cert.KernelIdeal.Host

open Cert.KernelIdeal Cert.KernelIdeal.Shapes1.Facts₀
open Idealize.ShloMosaic Idealize.ShloMosaic.StableHlo Cert.HostLine
open Idealize.SL Idealize.SL.Sem

variable {F : FTy → Type} [FloatOps F]

/-! ## The random bits: nothing is said of them -/

theorem fry0_0 (a b : TRef sig ⟨S_, .i32⟩) (c d : TRef sig ⟨S1, .i32⟩) :
    Str (fn_threefry2x32.body_part0 (F := F) a b c d main_call0_call0) 26 86 fun _ => True := by
  unfold fn_threefry2x32.body_part0
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

theorem fry0_1 (a b : TRef sig ⟨S_, .i32⟩) (c d : TRef sig ⟨S1, .i32⟩) :
    Str (fn_threefry2x32.body_part1 (F := F) a b c d main_call0_call0) 86 146 fun _ => True := by
  unfold fn_threefry2x32.body_part1
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

theorem fry0_2 (a b : TRef sig ⟨S_, .i32⟩) (c d : TRef sig ⟨S1, .i32⟩) :
    Str (fn_threefry2x32.body_part2 (F := F) a b c d main_call0_call0) 146 206 fun _ => True := by
  unfold fn_threefry2x32.body_part2
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

theorem fry0_3 (a b : TRef sig ⟨S_, .i32⟩) (c d : TRef sig ⟨S1, .i32⟩) :
    Str (fn_threefry2x32.body_part3 (F := F) a b c d main_call0_call0) 206 248 fun _ => True := by
  unfold fn_threefry2x32.body_part3
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

theorem fry0 (a b : TRef sig ⟨S_, .i32⟩) (c d : TRef sig ⟨S1, .i32⟩) :
    Str (fn_threefry2x32.body (F := F) a b c d main_call0_call0) 26 248 fun _ => True := by
  unfold fn_threefry2x32.body
  exact Str.append_ (fry0_0 a b c d) (Str.append_ (fry0_1 a b c d) (Str.append_ (fry0_2 a b c d) (fry0_3 a b c d)))

theorem fry1_0 (a b : TRef sig ⟨S_, .i32⟩) (c d : TRef sig ⟨S2, .i32⟩) :
    Str (fn_threefry2x32_1.body_part0 (F := F) a b c d main_call1_call3_call0) 282 342 fun _ => True := by
  unfold fn_threefry2x32_1.body_part0
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

theorem fry1_1 (a b : TRef sig ⟨S_, .i32⟩) (c d : TRef sig ⟨S2, .i32⟩) :
    Str (fn_threefry2x32_1.body_part1 (F := F) a b c d main_call1_call3_call0) 342 402 fun _ => True := by
  unfold fn_threefry2x32_1.body_part1
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

theorem fry1_2 (a b : TRef sig ⟨S_, .i32⟩) (c d : TRef sig ⟨S2, .i32⟩) :
    Str (fn_threefry2x32_1.body_part2 (F := F) a b c d main_call1_call3_call0) 402 462 fun _ => True := by
  unfold fn_threefry2x32_1.body_part2
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

theorem fry1_3 (a b : TRef sig ⟨S_, .i32⟩) (c d : TRef sig ⟨S2, .i32⟩) :
    Str (fn_threefry2x32_1.body_part3 (F := F) a b c d main_call1_call3_call0) 462 504 fun _ => True := by
  unfold fn_threefry2x32_1.body_part3
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

theorem fry1 (a b : TRef sig ⟨S_, .i32⟩) (c d : TRef sig ⟨S2, .i32⟩) :
    Str (fn_threefry2x32_1.body (F := F) a b c d main_call1_call3_call0) 282 504 fun _ => True := by
  unfold fn_threefry2x32_1.body
  exact Str.append_ (fry1_0 a b c d) (Str.append_ (fry1_1 a b c d) (Str.append_ (fry1_2 a b c d) (fry1_3 a b c d)))

theorem fry4_0 (a b : TRef sig ⟨S_, .i32⟩) (c d : TRef sig ⟨S4096x5, .i32⟩) :
    Str (fn_threefry2x32_2.body_part0 (F := F) a b c d main_call1_call4) 529 589 fun _ => True := by
  unfold fn_threefry2x32_2.body_part0
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

theorem fry4_1 (a b : TRef sig ⟨S_, .i32⟩) (c d : TRef sig ⟨S4096x5, .i32⟩) :
    Str (fn_threefry2x32_2.body_part1 (F := F) a b c d main_call1_call4) 589 649 fun _ => True := by
  unfold fn_threefry2x32_2.body_part1
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

theorem fry4_2 (a b : TRef sig ⟨S_, .i32⟩) (c d : TRef sig ⟨S4096x5, .i32⟩) :
    Str (fn_threefry2x32_2.body_part2 (F := F) a b c d main_call1_call4) 649 709 fun _ => True := by
  unfold fn_threefry2x32_2.body_part2
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

theorem fry4_3 (a b : TRef sig ⟨S_, .i32⟩) (c d : TRef sig ⟨S4096x5, .i32⟩) :
    Str (fn_threefry2x32_2.body_part3 (F := F) a b c d main_call1_call4) 709 751 fun _ => True := by
  unfold fn_threefry2x32_2.body_part3
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

theorem fry4 (a b : TRef sig ⟨S_, .i32⟩) (c d : TRef sig ⟨S4096x5, .i32⟩) :
    Str (fn_threefry2x32_2.body (F := F) a b c d main_call1_call4) 529 751 fun _ => True := by
  unfold fn_threefry2x32_2.body
  exact Str.append_ (fry4_0 a b c d) (Str.append_ (fry4_1 a b c d) (Str.append_ (fry4_2 a b c d) (fry4_3 a b c d)))

theorem fry5_0 (a b : TRef sig ⟨S_, .i32⟩) (c d : TRef sig ⟨S4096x5, .i32⟩) :
    Str (fn_threefry2x32_2.body_part0 (F := F) a b c d main_call1_call5) 770 830 fun _ => True := by
  unfold fn_threefry2x32_2.body_part0
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

theorem fry5_1 (a b : TRef sig ⟨S_, .i32⟩) (c d : TRef sig ⟨S4096x5, .i32⟩) :
    Str (fn_threefry2x32_2.body_part1 (F := F) a b c d main_call1_call5) 830 890 fun _ => True := by
  unfold fn_threefry2x32_2.body_part1
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

theorem fry5_2 (a b : TRef sig ⟨S_, .i32⟩) (c d : TRef sig ⟨S4096x5, .i32⟩) :
    Str (fn_threefry2x32_2.body_part2 (F := F) a b c d main_call1_call5) 890 950 fun _ => True := by
  unfold fn_threefry2x32_2.body_part2
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

theorem fry5_3 (a b : TRef sig ⟨S_, .i32⟩) (c d : TRef sig ⟨S4096x5, .i32⟩) :
    Str (fn_threefry2x32_2.body_part3 (F := F) a b c d main_call1_call5) 950 992 fun _ => True := by
  unfold fn_threefry2x32_2.body_part3
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

theorem fry5 (a b : TRef sig ⟨S_, .i32⟩) (c d : TRef sig ⟨S4096x5, .i32⟩) :
    Str (fn_threefry2x32_2.body (F := F) a b c d main_call1_call5) 770 992 fun _ => True := by
  unfold fn_threefry2x32_2.body
  exact Str.append_ (fry5_0 a b c d) (Str.append_ (fry5_1 a b c d) (Str.append_ (fry5_2 a b c d) (fry5_3 a b c d)))

theorem fold (a : TRef sig ⟨S2, .i32⟩) (b : TRef sig ⟨S_, .i32⟩) :
    Str (fn_threefry_fold_in.body (F := F) a b main_call0) 13 249 fun _ => True := by
  unfold fn_threefry_fold_in.body
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
  refine Str.append_ (Str.from (by decide +kernel) (fry0 _ _ _ _)) ?_
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

theorem split (a : TRef sig ⟨S2, .i32⟩) :
    Str (fn_threefry_split.body (F := F) a main_call1_call3) 269 507 fun _ => True := by
  unfold fn_threefry_split.body
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
  refine Str.append_ (Str.from (by decide +kernel) (fry1 _ _ _ _)) ?_
  repeat first
    | with_reducible refine Str.nullary_ (by decide +kernel) ?_
    | with_reducible refine Str.unary_ (by decide +kernel) ?_
    | with_reducible refine Str.binary_ (by decide +kernel) ?_
    | with_reducible refine Str.reshape_ (by decide +kernel) ?_
    | with_reducible refine Str.ternary_ (by decide +kernel) ?_
    | exact Str.done (by decide +kernel)
    | refine Str.last ?_

/-! ## The draw's bounds -/

theorem clip0 :
    Str (fn_clip.body (F := F) main_call1.c main_call1.c_0 main_call1.c_1 main_call1.call0) 254 256 fun V =>
      rd V main_call1.call0.v0 = maxsi (rd V main_call1.c_0) (rd V main_call1.c)
        ∧ rd V main_call1.call0.v1 = minsi (rd V main_call1.c_1) (rd V main_call1.call0.v0) ∧ True := by
  unfold fn_clip.body
  repeat first
    | with_reducible refine Str.nullary (by decide +kernel) ?_
    | with_reducible refine Str.unary (by decide +kernel) ?_
    | with_reducible refine Str.binary (by decide +kernel) ?_
    | with_reducible refine Str.reshape (by decide +kernel) ?_
    | with_reducible refine Str.ternary (by decide +kernel) ?_
    | exact Str.done (by decide +kernel)
    | refine Str.last ?_

theorem clip1 :
    Str (fn_clip_0.body (F := F) (.of main_c_3) main_call1.c_2 main_call1.c_3 main_call1.call1) 259 261 fun V =>
      rd V main_call1.call1.v0 = maxsi (rd V main_call1.c_2) (rd V (.of main_c_3))
        ∧ rd V main_call1.call1.v1 = minsi (rd V main_call1.c_3) (rd V main_call1.call1.v0) ∧ True := by
  unfold fn_clip_0.body
  repeat first
    | with_reducible refine Str.nullary (by decide +kernel) ?_
    | with_reducible refine Str.unary (by decide +kernel) ?_
    | with_reducible refine Str.binary (by decide +kernel) ?_
    | with_reducible refine Str.reshape (by decide +kernel) ?_
    | with_reducible refine Str.ternary (by decide +kernel) ?_
    | exact Str.done (by decide +kernel)
    | refine Str.last ?_

theorem clip2 :
    Str (fn_clip_0.body (F := F) (.of main_c_4) main_call1.c_4 main_call1.c_5 main_call1.call2) 264 266 fun V =>
      rd V main_call1.call2.v0 = maxsi (rd V main_call1.c_4) (rd V (.of main_c_4))
        ∧ rd V main_call1.call2.v1 = minsi (rd V main_call1.c_5) (rd V main_call1.call2.v0) ∧ True := by
  unfold fn_clip_0.body
  repeat first
    | with_reducible refine Str.nullary (by decide +kernel) ?_
    | with_reducible refine Str.unary (by decide +kernel) ?_
    | with_reducible refine Str.binary (by decide +kernel) ?_
    | with_reducible refine Str.reshape (by decide +kernel) ?_
    | with_reducible refine Str.ternary (by decide +kernel) ?_
    | exact Str.done (by decide +kernel)
    | refine Str.last ?_

/-- The value both the bounds and the largest word come to: the word `b`, kept between the least and the largest word. -/
theorem clamp (b : BitVec 32) : IntOp.minsi 2147483647#32 (IntOp.maxsi 2147483648#32 b) = b := by
  have h1 := b.le_toInt
  have h2 := b.toInt_lt
  have h3 : (2147483648#32 : BitVec 32).toInt = -2147483648 := by decide
  have h4 : (2147483647#32 : BitVec 32).toInt = 2147483647 := by decide
  have e : IntOp.maxsi 2147483648#32 b = b := by
    unfold IntOp.maxsi
    exact if_neg (by simp only [BitVec.slt, h3, decide_eq_true_eq]; omega)
  rw [e]
  unfold IntOp.minsi
  exact if_neg (by simp only [BitVec.slt, h4, decide_eq_true_eq]; omega)

theorem clamped (x : S_.Idx → BitVec 32) : minsi (constantI S_ 32 2147483647#32) (maxsi (constantI S_ 32 2147483648#32) x) = x :=
  funext fun _ => clamp _

/-- The draw's first part: the bounds are 0 and 100000, and the largest word is above the upper bound. -/
theorem draw0 (a : TRef sig ⟨S2, .i32⟩) :
    Says (fn_randint.body_part0 (F := F) a (.of main_c_3) (.of main_c_4) main_call1) 251 993 fun V =>
      rd V (.of main_c_3 : TRef sig ⟨S_, .i32⟩) = (fun _ => 0#32) → rd V (.of main_c_4 : TRef sig ⟨S_, .i32⟩) = (fun _ => 100000#32) →
        rd V main_call1.v6 = (fun _ => 0#32) ∧ rd V main_call1.v7 = (fun _ => 100000#32) ∧ rd V main_call1.v1 = fun _ => 0#1 := by
  unfold fn_randint.body_part0
  repeat first
    | with_reducible refine Says.nullary (by decide +kernel) ?_
    | with_reducible refine Says.unary (by decide +kernel) ?_
    | with_reducible refine Says.binary (by decide +kernel) ?_
    | with_reducible refine Says.reshape (by decide +kernel) ?_
    | with_reducible refine Says.ternary (by decide +kernel) ?_
  refine Says.append clip0 (by decide +kernel) ?_
  repeat first
    | with_reducible refine Says.nullary (by decide +kernel) ?_
    | with_reducible refine Says.unary (by decide +kernel) ?_
    | with_reducible refine Says.binary (by decide +kernel) ?_
    | with_reducible refine Says.reshape (by decide +kernel) ?_
    | with_reducible refine Says.ternary (by decide +kernel) ?_
  refine Says.append clip1 (by decide +kernel) ?_
  repeat first
    | with_reducible refine Says.nullary (by decide +kernel) ?_
    | with_reducible refine Says.unary (by decide +kernel) ?_
    | with_reducible refine Says.binary (by decide +kernel) ?_
    | with_reducible refine Says.reshape (by decide +kernel) ?_
    | with_reducible refine Says.ternary (by decide +kernel) ?_
  refine Says.append clip2 (by decide +kernel) ?_
  repeat first
    | with_reducible refine Says.nullary (by decide +kernel) ?_
    | with_reducible refine Says.unary (by decide +kernel) ?_
    | with_reducible refine Says.binary (by decide +kernel) ?_
    | with_reducible refine Says.reshape (by decide +kernel) ?_
    | with_reducible refine Says.ternary (by decide +kernel) ?_
  refine Says.append_ (split _) (by decide +kernel) ?_
  repeat first
    | with_reducible refine Says.nullary_ (by decide +kernel) ?_
    | with_reducible refine Says.unary_ (by decide +kernel) ?_
    | with_reducible refine Says.binary_ (by decide +kernel) ?_
    | with_reducible refine Says.reshape_ (by decide +kernel) ?_
    | with_reducible refine Says.ternary_ (by decide +kernel) ?_
  refine Says.append_ (fry4 _ _ _ _) (by decide +kernel) ?_
  repeat first
    | with_reducible refine Says.nullary_ (by decide +kernel) ?_
    | with_reducible refine Says.unary_ (by decide +kernel) ?_
    | with_reducible refine Says.binary_ (by decide +kernel) ?_
    | with_reducible refine Says.reshape_ (by decide +kernel) ?_
    | with_reducible refine Says.ternary_ (by decide +kernel) ?_
  refine Says.append_ (fry5 _ _ _ _) (by decide +kernel) ?_
  refine Says.last (Says.binary_ (by decide +kernel) (Says.done (by decide +kernel) ?_))
  rintro V v7 v6 v5 ⟨r0, r1, -⟩ k5 k4 v3 ⟨q0, q1, -⟩ k3 k2 v1 ⟨p0, p1, -⟩ k1 k0 k h3 h4
  refine ⟨?_, ?_, ?_⟩
  · rw [v6, v3, q1, q0, k2, k3, h3, clamped]
    funext i
    rfl
  · rw [v7, v5, r1, r0, k4, k5, h4, clamped]
    funext i
    rfl
  · rw [v1, p1, p0, k, k0, k1, h4]
    funext i
    show IntOp.cmpi .sgt 100000#32 (IntOp.minsi 2147483647#32 (IntOp.maxsi 2147483648#32 2147483647#32)) = 0#1
    decide

/-- The draw's second part: a residue of the difference of the bounds, added to the lower one. -/
theorem draw1 (a : TRef sig ⟨S2, .i32⟩) :
    Says (fn_randint.body_part1 (F := F) a (.of main_c_3) (.of main_c_4) main_call1) 993 1023 fun V =>
      rd V main_call1.v6 = (fun _ => 0#32) → rd V main_call1.v7 = (fun _ => 100000#32) → rd V main_call1.v1 = (fun _ => 0#1) →
        ∀ i, (rd V main_call1.v73 i : BitVec 32).toNat < 100000 := by
  unfold fn_randint.body_part1
  repeat first
    | with_reducible refine Says.nullary (by decide +kernel) ?_
    | with_reducible refine Says.unary (by decide +kernel) ?_
    | with_reducible refine Says.binary (by decide +kernel) ?_
    | with_reducible refine Says.reshape (by decide +kernel) ?_
    | with_reducible refine Says.ternary (by decide +kernel) ?_
  refine Says.done (by decide +kernel) ?_
  intro V v73 v72 v71 v70 v69 v68 v67 v66 v65 v64 v63 v62 v61 v60 v59 v58 k14 v57 v56 v55 k13 v54 v53 v52 v51 v50 k12 v49 v48 v47 h6 h7 h1 i
  have h57 : rd V main_call1.v57 = fun _ => 100000#32 := by
    rw [v57, v54, v53, v51, v49, v48, v47, h6, h7, h1]
    funext j
    show Scalar.select (IntOp.andi 0#1 (rd V main_call1.v52 j)) _
      (Scalar.select (IntOp.cmpi .sle 100000#32 0#32) _ (IntOp.subi 100000#32 0#32)) = 100000#32
    have e : IntOp.andi 0#1 (rd V main_call1.v52 j) = 0#1 := by unfold IntOp.andi; exact BitVec.zero_and
    rw [e]
    rfl
  have e : rd V main_call1.v73 i = IntOp.addi 0#32 (IntOp.remui .host (rd V main_call1.v68 i) 100000#32) := by
    rw [v73, v72, v71, v70, v69, h57, h6]
    rfl
  rw [e]
  unfold IntOp.addi IntOp.remui
  rw [if_neg (by decide), BitVec.zero_add, BitVec.toNat_umod]
  exact Nat.mod_lt _ (by decide)

/-- The host's operations before the SparseCore call. -/
def pre : Prog (TpuEff nD τ sig (Elt F) (SparseCore.Sig (Pipeline.Sig Λ₀ (Fin 1) fun p => (pcfgs (F := F) p).Adm) 1) .tc) PUnit := do
  hlo rfl (TRef.nullary (.of main_c) (constantI S_ 32 0#32)) (fun _ => .ret ⟨⟩)
  hlo rfl (TRef.nullary (.of main_c_0) (constantI S_ 32 32#32)) (fun _ => .ret ⟨⟩)
  hlo rfl (TRef.binary (.of main_c) (.of main_c_0) (.of main_v0) (Host.shrui : (⟨S_, .i32⟩ : BufTy).Contents (Elt F) → (⟨S_, .i32⟩ : BufTy).Contents (Elt F) → (⟨S_, .i32⟩ : BufTy).Contents (Elt F))) (fun _ => .ret ⟨⟩)
  hlo rfl (TRef.unary (.of main_v0) (.of main_v1) (id : (⟨S_, .i32⟩ : BufTy).Contents (Elt F) → (⟨S_, .i32⟩ : BufTy).Contents (Elt F))) (fun _ => .ret ⟨⟩)
  hlo rfl (TRef.unary (.of main_v1) (.of main_v2) (broadcastInDim S1 ![] bcast_S_S1 : (⟨S_, .i32⟩ : BufTy).Contents (Elt F) → (⟨S1, .i32⟩ : BufTy).Contents (Elt F))) (fun _ => .ret ⟨⟩)
  hlo rfl (TRef.nullary (.of main_c_1) (constantI S_ 32 4294967295#32)) (fun _ => .ret ⟨⟩)
  hlo rfl (TRef.binary (.of main_c) (.of main_c_1) (.of main_v3) (andi : (⟨S_, .i32⟩ : BufTy).Contents (Elt F) → (⟨S_, .i32⟩ : BufTy).Contents (Elt F) → (⟨S_, .i32⟩ : BufTy).Contents (Elt F))) (fun _ => .ret ⟨⟩)
  hlo rfl (TRef.unary (.of main_v3) (.of main_v4) (id : (⟨S_, .i32⟩ : BufTy).Contents (Elt F) → (⟨S_, .i32⟩ : BufTy).Contents (Elt F))) (fun _ => .ret ⟨⟩)
  hlo rfl (TRef.unary (.of main_v4) (.of main_v5) (broadcastInDim S1 ![] bcast_S_S1 : (⟨S_, .i32⟩ : BufTy).Contents (Elt F) → (⟨S1, .i32⟩ : BufTy).Contents (Elt F))) (fun _ => .ret ⟨⟩)
  hlo rfl (TRef.binary (.of main_v2) (.of main_v5) (.of main_v6) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))) (fun _ => .ret ⟨⟩)
  hlo rfl (TRef.nullary (.of main_c_2) (constantI S_ 32 1234#32)) (fun _ => .ret ⟨⟩)
  fn_threefry_fold_in.body (.of main_v6) (.of main_c_2) main_call0
  hlo rfl (TRef.nullary (.of main_c_3) (constantI S_ 32 0#32)) (fun _ => .ret ⟨⟩)
  hlo rfl (TRef.nullary (.of main_c_4) (constantI S_ 32 100000#32)) (fun _ => .ret ⟨⟩)
  fn_randint.body (.of main_v7) (.of main_c_3) (.of main_c_4) main_call1
  hlo rfl (TRef.unary (.of main_arg0) (.of main_v9) ((transpose S100000x4096 [1, 0] · transposes_S4096x100000_S100000x4096_1_0) : (⟨S4096x100000, .f32⟩ : BufTy).Contents (Elt F) → (⟨S100000x4096, .f32⟩ : BufTy).Contents (Elt F))) (fun _ => .ret ⟨⟩)
  hlo rfl (TRef.reshape (.of main_v8) (.of main_v10) (rfl : (.i32 : EltTy) = .i32) shapeCasts_S4096x5_S20480) (fun _ => .ret ⟨⟩)
  pure ⟨⟩

/-- What the line leaves: the draws lie below the table's number of rows, the kernel's copy of them is the same numbers, and
    the kernel's copy of the scores is the scores turned round. -/
theorem pre_says :
    Says (pre (F := F)) 2 1025 fun V =>
      (∀ i, (rd V (.of main_v8 : TRef sig ⟨S4096x5, .i32⟩) i : BitVec 32).toNat < 100000)
        ∧ rd V (.of main_v10 : TRef sig ⟨S20480, .i32⟩) = shaped (Tx := ⟨S4096x5, .i32⟩) (Ty := ⟨S20480, .i32⟩) rfl shapeCasts_S4096x5_S20480 (rd V (.of main_v8 : TRef sig ⟨S4096x5, .i32⟩))
        ∧ rd V (.of main_v9 : TRef sig ⟨S100000x4096, .f32⟩)
          = transpose S100000x4096 [1, 0] (rd V (.of main_arg0 : TRef sig ⟨S4096x100000, .f32⟩)) transposes_S4096x100000_S100000x4096_1_0 := by
  unfold pre fn_randint.body
  repeat first
    | with_reducible refine Says.nullary_ (by decide +kernel) ?_
    | with_reducible refine Says.unary_ (by decide +kernel) ?_
    | with_reducible refine Says.binary_ (by decide +kernel) ?_
    | with_reducible refine Says.reshape_ (by decide +kernel) ?_
    | with_reducible refine Says.ternary_ (by decide +kernel) ?_
  refine Says.append_ (fold _ _) (by decide +kernel) ?_
  repeat first
    | with_reducible refine Says.nullary (by decide +kernel) ?_
    | with_reducible refine Says.unary (by decide +kernel) ?_
    | with_reducible refine Says.binary (by decide +kernel) ?_
    | with_reducible refine Says.reshape (by decide +kernel) ?_
    | with_reducible refine Says.ternary (by decide +kernel) ?_
  rw [bind_assoc]
  refine Says.then (draw0 _) (by decide +kernel) ?_
  refine Says.then (draw1 _) (by decide +kernel) ?_
  repeat first
    | with_reducible refine Says.nullary (by decide +kernel) ?_
    | with_reducible refine Says.unary (by decide +kernel) ?_
    | with_reducible refine Says.binary (by decide +kernel) ?_
    | with_reducible refine Says.reshape (by decide +kernel) ?_
    | with_reducible refine Says.ternary (by decide +kernel) ?_
  refine Says.done (by decide +kernel) ?_
  intro V h10 h9 h6 h5 h4 h3
  obtain ⟨e6, e7, e1⟩ := h5 h3 h4
  exact ⟨h6 e6 e7 e1, h10, h9⟩

/-- The kernel's program: this line, then the SparseCore call and the rest. -/
theorem main_eq (d : Dev nD) : main (F := F) d = pre >>= fun _ => (do
    sc.run d 0
    hlo rfl (StableHlo.reshape main_v11 main_v12 (rfl : (.f32 : EltTy) = .f32) shapeCasts_S32x6144_S192x128x8) (fun _ => .ret ⟨⟩)
    Prog.lift (.customCall (SparseCore.inner (Pipeline.entry 0)) ())
    hlo rfl (StableHlo.reshape main_v13 main_v14 (rfl : (.f32 : EltTy) = .f32) shapeCasts_S1x1_S_) (fun _ => .ret ⟨⟩)
    pure ⟨⟩) := by
  unfold main pre
  simp only [bind_assoc, pure_bind]
  rfl

end Cert.KernelIdeal.Host

end
-- ==== Proof.Ideal.Main.lean ====
/-
  The program's run: the host's lines, the SparseCore call, the TensorCore call, and what they leave.
-/
module

public import proofs.«01_k».proof.Proof.Ideal.Ghost
public import proofs.«01_k».proof.Proof.Ideal.LossRegion
public import proofs.«01_k».proof.Proof.Ideal.KernelHost

@[expose] public section

noncomputable section

namespace Cert.KernelIdeal.Tile

open Cert.KernelIdeal Cert.KernelIdeal.Gen Cert.HostLine

open Idealize.ShloMosaic
open Idealize.ShloMosaic.TcCoe
open Idealize.ShloMosaic.StableHlo (seq after held held_sub_split held_congr)
open Idealize.ShloMosaic.SparseCore (T)
open Idealize.ShloMosaic.SparseCore.Cfg (HIx)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The arrays' contents, step by step -/

theorem pre_spec : ∃ ops : List (HloOp τ sig (Elt F)), Host.pre (F := F) = seq ops ∧ Ok ops 2 1025 ∧ ∀ V,
    (∀ i, (rd (after ops V) (.of main_v8 : StableHlo.TRef sig ⟨S4096x5, .i32⟩) i : BitVec 32).toNat < 100000)
        ∧ rd (after ops V) (.of main_v10 : StableHlo.TRef sig ⟨S20480, .i32⟩) = shaped (Tx := ⟨S4096x5, .i32⟩) (Ty := ⟨S20480, .i32⟩) rfl Shapes1.Facts₀.shapeCasts_S4096x5_S20480 (rd (after ops V) (.of main_v8 : StableHlo.TRef sig ⟨S4096x5, .i32⟩))
        ∧ rd (after ops V) (.of main_v9 : StableHlo.TRef sig ⟨S100000x4096, .f32⟩)
          = transpose S100000x4096 [1, 0] (rd (after ops V) (.of main_arg0 : StableHlo.TRef sig ⟨S4096x100000, .f32⟩)) Shapes1.Facts₀.transposes_S4096x100000_S100000x4096_1_0 := by
  obtain ⟨E, ⟨-, ops, h1, h2, h3⟩, h4⟩ := Host.pre_says (F := F)
  exact ⟨ops, h1, h2, fun V => h4 _ (h3 V)⟩

/-- The host's operations before the SparseCore call. -/
def preOps : List (HloOp τ sig (Elt F)) := Classical.choose (pre_spec (F := F))
theorem pre_eq : Host.pre (F := F) = seq preOps := (Classical.choose_spec (pre_spec (F := F))).1
theorem preOps_ok : Ok (preOps (F := F)) 2 1025 := (Classical.choose_spec (pre_spec (F := F))).2.1
theorem preOps_says (V : Valuation τ sig (Elt F)) :
    (∀ i, (rd (after preOps V) (.of main_v8 : StableHlo.TRef sig ⟨S4096x5, .i32⟩) i : BitVec 32).toNat < 100000)
        ∧ rd (after preOps V) (.of main_v10 : StableHlo.TRef sig ⟨S20480, .i32⟩) = shaped (Tx := ⟨S4096x5, .i32⟩) (Ty := ⟨S20480, .i32⟩) rfl Shapes1.Facts₀.shapeCasts_S4096x5_S20480 (rd (after preOps V) (.of main_v8 : StableHlo.TRef sig ⟨S4096x5, .i32⟩))
        ∧ rd (after preOps V) (.of main_v9 : StableHlo.TRef sig ⟨S100000x4096, .f32⟩)
          = transpose S100000x4096 [1, 0] (rd (after preOps V) (.of main_arg0 : StableHlo.TRef sig ⟨S4096x100000, .f32⟩)) Shapes1.Facts₀.transposes_S4096x100000_S100000x4096_1_0 := (Classical.choose_spec (pre_spec (F := F))).2.2 V

/-- At the launch. -/
def V0 (d : Dev nD) : Valuation τ sig (Elt F) := fun b => m (d, b)
/-- Before the SparseCore call. -/
def V1 (d : Dev nD) : Valuation τ sig (Elt F) := after preOps (V0 m d)
/-- The transposed table, the targets, the noise and the result array, as the SparseCore call finds them. -/
def Tb (d : Dev nD) : S100000x4096.Idx → Elt F .f32 := V1 m d (Proc.devRef .tc main_v9)
def tg (d : Dev nD) : S4096.Idx → BitVec 32 := V1 m d (Proc.devRef .tc main_arg1)
def nz (d : Dev nD) : S20480.Idx → BitVec 32 := V1 m d (Proc.devRef .tc main_v10)
def fo (d : Dev nD) : S32x6144.Idx → Elt F .f32 := V1 m d (Proc.devRef .tc main_v11)
/-- After the SparseCore call: its result array alone has changed. -/
def V2 (d : Dev nD) : Valuation τ sig (Elt F) := Function.update (V1 m d) (Proc.devRef .tc main_v11) (res (Tb m) (tg m) (nz m) d)
abbrev op1 : HloOp τ sig (Elt F) := StableHlo.reshape main_v11 main_v12 (rfl : (.f32 : EltTy) = .f32) Shapes1.Facts₀.shapeCasts_S32x6144_S192x128x8
abbrev op2 : HloOp τ sig (Elt F) := StableHlo.reshape main_v13 main_v14 (rfl : (.f32 : EltTy) = .f32) Shapes1.Facts₀.shapeCasts_S1x1_S_
/-- Before the TensorCore call. -/
def V3 (d : Dev nD) : Valuation τ sig (Elt F) := after [op1] (V2 m d)
/-- After the TensorCore call. -/
def V4 (d : Dev nD) : Valuation τ sig (Elt F) := Pipeline.afterRegion (dats (V3 m) 0 d) (V3 m d)
/-- At the end. -/
def V5 (d : Dev nD) : Valuation τ sig (Elt F) := after [op2] (V4 m d)

/-! ## The four arrays of the SparseCore call -/

abbrev dr (r : Ref sig .tc) : DevRef τ sig := Proc.devRef .tc r
def four : Finset (DevRef τ sig) := ({main_arg1, main_v10, main_v9, main_v11} : Finset (Ref sig .tc)).map ⟨Proc.devRef .tc, Proc.devRef_injective _⟩

theorem four_sub : four ⊆ ucRefs τ sig := fun b hb => by
  obtain ⟨r, hr, rfl⟩ := Finset.mem_map.mp hb
  refine Finset.mem_filter.mpr ⟨StableHlo.devRef_mem_tcRefs _, ?_⟩
  simp only [Finset.mem_insert, Finset.mem_singleton] at hr
  rcases hr with rfl | rfl | rfl | rfl <;> decide

theorem held_four (d : Dev nD) (V : Valuation τ sig (Elt F)) :
    (held (d.tc : Thread nD τ) four V : sProp 𝕄) = iprop((gLoc d ↦{fullShare} V (dr main_arg1)) ∗ (nLoc d ↦{fullShare} V (dr main_v10))
      ∗ (tLoc d ↦{fullShare} V (dr main_v9)) ∗ (oLoc d ↦{fullShare} V (dr main_v11))) := by
  unfold StableHlo.held four
  rw [bigSep_map, bigSep_insert (by decide +kernel), bigSep_insert (by decide +kernel), bigSep_insert (by decide +kernel), bigSep_singleton]
  rfl

theorem whole_V1 (d : Dev nD) : (held (d.tc : Thread nD τ) four (V1 m d) : sProp 𝕄) = whole (Tb m) (tg m) (nz m) d (fo m d) :=
  held_four d (V1 m d)

theorem whole_V2 (d : Dev nD) : (held (d.tc : Thread nD τ) four (V2 m d) : sProp 𝕄) = whole (Tb m) (tg m) (nz m) d (res (Tb m) (tg m) (nz m) d) := by
  rw [held_four]
  unfold V2
  rw [Function.update_self, Function.update_of_ne (StableHlo.devRef_ne_of_ne (by decide +kernel)), Function.update_of_ne (StableHlo.devRef_ne_of_ne (by decide +kernel)),
    Function.update_of_ne (StableHlo.devRef_ne_of_ne (by decide +kernel))]
  rfl

theorem rest_V2 (d : Dev nD) : (held (d.tc : Thread nD τ) (ucRefs τ sig \ four) (V2 m d) : sProp 𝕄) = held (d.tc : Thread nD τ) (ucRefs τ sig \ four) (V1 m d) :=
  held_congr _ fun b hb => by
    refine Function.update_of_ne ?_ _ _
    rintro rfl
    exact (Finset.mem_sdiff.mp hb).2 (Finset.mem_map_of_mem _ (by decide +kernel))

end Cert.KernelIdeal.Tile

end
-- ==== Proof.Ideal.MainRun.lean ====
/-
  `@main` on the TensorCore, and the program's run.
-/
module

public import proofs.«01_k».proof.Proof.Ideal.Main

@[expose] public section

noncomputable section

namespace Cert.KernelIdeal.Tile

open Cert.KernelIdeal Cert.KernelIdeal.Gen Cert.HostLine

open Idealize.ShloMosaic
open Idealize.ShloMosaic.TcCoe
open Idealize.ShloMosaic.StableHlo (seq after held held_sub_split held_congr)
open Idealize.ShloMosaic.SparseCore (T)
open Idealize.ShloMosaic.SparseCore.Cfg (HIx)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

set_option backward.isDefEq.respectTransparency.types false in
set_option maxHeartbeats 2000000 in
/-- The TensorCore call: it starts and ends at the boundary, with `@main`'s arrays and the core's account. -/
theorem region_core (W : Dev nD → Valuation τ sig (Elt F)) (d : Dev nD) :
    iprop(boundary (d.tc : Thread nD τ) ∗ (reg W).pre d ∗ levAts (K (F := F)).L (K (F := F)).lev ∗ Pipeline.cellsGhost cfgs EP 0 d ∗ Pipeline.toksInit cfgs EP 0 d)
      ⊢ (wp frame (wpE (D (F := F)) 𝒱 (SparseCore.T d) none) Set.univ
          (Prog.lift (.customCall (Pipeline.entry 0) ()))
          fun _ => iprop(boundary (d.tc : Thread nD τ) ∗ (reg W).post d) : sProp 𝕄) := by
  have h := Pipeline.RegionSeg.wp (pcfgs (F := F)) adm (dats W) none cellOf_inj EP defs₀ 𝒱₀ (K (F := F)).L (K (F := F)).lev (reg W) d
    none (fun _ h => nomatch h) (fun _ => .ret PUnit.unit) fun _ => iprop(boundary (d.tc : Thread nD τ) ∗ (reg W).post d)
  refine BIBase.Entails.trans ?_ h
  iintro ⟨Hb, Hp, Hl, Hg, Ht⟩
  isplitr
  · iintro H
    rw [wp_ret]
    imodintro
    iexact H
  isplitl [Hb]; · iexact Hb
  isplitl [Hp]; · iexact Hp
  isplitl [Hl]; · iexact Hl
  isplitl [Hg]; · iexact Hg
  iexact Ht

theorem G_eq (d : Dev nD) : (G d : sProp 𝕄) = iprop(Pipeline.cellsGhost cfgs EP 0 d ∗ Pipeline.toksInit cfgs EP 0 d) := by
  unfold G
  rw [bigSep_univ_of_subsingleton (0 : Fin 1), bigSep_univ_of_subsingleton (0 : Fin 1)]

/-- The same, as `@main` makes the call. -/
theorem region_step (W : Dev nD → Valuation τ sig (Elt F)) (d : Dev nD) :
    iprop(boundary (d.tc : Thread nD τ) ∗ (reg W).pre d ∗ levAts (K (F := F)).L (K (F := F)).lev ∗ G d)
      ⊢ (wp frame (wpE ((K (F := F)).defs (D (F := F))) 𝒱 (SparseCore.T d) none) Set.univ
          (Prog.lift (.customCall (SparseCore.inner (Pipeline.entry 0)) ()))
          fun _ => iprop(boundary (d.tc : Thread nD τ) ∗ (reg W).post d) : sProp 𝕄) := by
  rw [G_eq]
  exact (region_core W d).trans ((K (F := F)).wp_liftProg (D (F := F)) 𝒱 (SparseCore.T d) Set.univ none (Prog.lift (.customCall (Pipeline.entry 0) ())) _)

/-- One host operation run. -/
theorem host_step (op : HloOp τ sig (Elt F)) (hS : op.bufs ⊆ ucRefs τ sig) (hf : op.fresh = ∅) (d : Dev nD) (V : Valuation τ sig (Elt F)) :
    iprop(boundary (d.tc : Thread nD τ) ∗ (held (d.tc : Thread nD τ) (ucRefs τ sig) V : sProp 𝕄))
      ⊢ wp frame (wpE ((K (F := F)).defs (D (F := F))) 𝒱 (SparseCore.T d) none) Set.univ
          (hlo rfl op (fun _ => .ret (⟨⟩ : PUnit)))
          fun _ => iprop(boundary (d.tc : Thread nD τ) ∗ held (d.tc : Thread nD τ) (ucRefs τ sig) (after [op] V)) := by
  have h := StableHlo.wp_seq (defs := (K (F := F)).defs (D (F := F))) (𝒱 := 𝒱) (bd := none) (E := Set.univ) d (ucRefs τ sig) (fun _ => (pure ⟨⟩ : Prog (TpuEff nD τ sig (Elt F) _ .tc) PUnit))
    (K := fun _ => (iprop(boundary (d.tc : Thread nD τ) ∗ held (d.tc : Thread nD τ) (ucRefs τ sig) (after [op] V)) : sProp 𝕄)) [op]
    (fun o ho => by cases List.mem_singleton.mp ho; exact hS) (fun o ho => by cases List.mem_singleton.mp ho; exact hf) V
  refine BIBase.Entails.trans ?_ (Entails.of_eq (congrArg (fun p => wp frame (wpE ((K (F := F)).defs (D (F := F))) 𝒱 (SparseCore.T d) none) Set.univ p _) (show seq [op] >>= (fun _ => pure ⟨⟩) = hlo rfl op (fun _ => .ret (⟨⟩ : PUnit)) from rfl)))
  iintro H
  iapply h $$ [H]
  · iexact H
  iintro H
  rw [wp_pure]
  imodintro
  iexact H

/-! ## The whole of `@main` -/

/-- What each step of `@main` is, run after the other. -/
theorem hmain_wp (d : Dev nD) (Φ : PUnit → sProp 𝕄) :
    (wp frame (wpE ((K (F := F)).defs (D (F := F))) 𝒱 (SparseCore.T d) none) Set.univ (seq preOps) fun _ =>
      wp frame (wpE ((K (F := F)).defs (D (F := F))) 𝒱 (SparseCore.T d) none) Set.univ (sc.run d 0) fun _ =>
      wp frame (wpE ((K (F := F)).defs (D (F := F))) 𝒱 (SparseCore.T d) none) Set.univ (hlo rfl op1 (fun _ => .ret (⟨⟩ : PUnit))) fun _ =>
      wp frame (wpE ((K (F := F)).defs (D (F := F))) 𝒱 (SparseCore.T d) none) Set.univ (Prog.lift (.customCall (SparseCore.inner (Pipeline.entry 0)) ())) fun _ =>
      wp frame (wpE ((K (F := F)).defs (D (F := F))) 𝒱 (SparseCore.T d) none) Set.univ (hlo rfl op2 (fun _ => .ret (⟨⟩ : PUnit))) Φ)
      ⊢ wp frame (wpE ((K (F := F)).defs (D (F := F))) 𝒱 (SparseCore.T d) none) Set.univ (main d) Φ := by
  rw [Host.main_eq, pre_eq]
  simp only [bind_pure_unit, wp_bind]
  exact .rfl

/-- The SparseCore call, holding all of `@main`'s arrays. -/
theorem sc_step (κ : GSem nD τ sig → ℕ) (d : Dev nD) :
    iprop((K (F := F)).ctx EH (P (Tb m) (tg m) (nz m) (fo m)) κ ∗ (K (F := F)).tcSt EH d 0 ∗ held (d.tc : Thread nD τ) (ucRefs τ sig) (V1 m d))
      ⊢ (wp frame (wpE ((K (F := F)).defs (D (F := F))) 𝒱 (SparseCore.T d) none) Set.univ (sc.run d 0)
          fun _ => iprop((K (F := F)).tcSt EH d 1 ∗ held (d.tc : Thread nD τ) (ucRefs τ sig) (V2 m d)) : sProp 𝕄) := by
  rw [held_sub_split _ four_sub, held_sub_split (V := V2 m d) _ four_sub, whole_V1, whole_V2, rest_V2]
  iintro ⟨#Hctx, Hst, Hw, Hr⟩
  iapply ((K (F := F)).wp_run (D (F := F)) 𝒱 (EH := EH) (P := P (Tb m) (tg m) (nz m) (fo m)) κ d 0) $$ [Hst Hw Hr]
  isplitr; · iexact Hctx
  isplitl [Hst]; · iexact Hst
  isplitl [Hw]
  · rw [st0_eq]
    iexact Hw
  iintro ⟨Hst, Hdn⟩
  ihave Hdn' := (Entails.of_eq (dn0_eq (Tb m) (tg m) (nz m) (fo m) d)) $$ Hdn
  isplitl [Hst]; · iexact Hst
  isplitl [Hdn']; · iexact Hdn'
  iexact Hr

/-- The core's account taken out of its state after the one call, and given back. -/
theorem tcSt_out (d : Dev nD) :
    ((K (F := F)).tcSt EH d 1 : sProp 𝕄) ⊢ iprop((∃ Wd, ⌜(K (F := F)).WBelow (SparseCore.T d) Wd 8⌝ ∗ owes (d.tc : Thread nD τ) 0 Wd)
      ∗ ((∃ Wd, ⌜(K (F := F)).WBelow (SparseCore.T d) Wd 8⌝ ∗ owes (d.tc : Thread nD τ) 0 Wd) -∗ (K (F := F)).tcSt EH d 1)) := by
  unfold SparseCore.Cfg.tcSt
  rw [(K (F := F)).Otc_end d (le_refl 1)]
  iintro ⟨HW, Hr⟩
  isplitl [HW]; · iexact HW
  iintro HW
  isplitl [HW]; · iexact HW
  iexact Hr

abbrev FIN (d : Dev nD) : sProp 𝕄 := held (d.tc : Thread nD τ) (ucRefs τ sig) (V5 m d)

theorem op1_sub : (op1 (F := F)).bufs ⊆ ucRefs τ sig := Pipeline.sub_ucRefs _ (StableHlo.reshape_bufs_sub ..)
theorem op2_sub : (op2 (F := F)).bufs ⊆ ucRefs τ sig := Pipeline.sub_ucRefs _ (StableHlo.reshape_bufs_sub ..)

/-- The host's lines before the SparseCore call. -/
theorem pre_step (d : Dev nD) :
    iprop(boundary (d.tc : Thread nD τ) ∗ (held (d.tc : Thread nD τ) (ucRefs τ sig) (V0 m d) : sProp 𝕄))
      ⊢ wp frame (wpE ((K (F := F)).defs (D (F := F))) 𝒱 (SparseCore.T d) none) Set.univ
          (seq preOps)
          fun _ => iprop(boundary (d.tc : Thread nD τ) ∗ held (d.tc : Thread nD τ) (ucRefs τ sig) (V1 m d)) := by
  have h := StableHlo.wp_seq (defs := (K (F := F)).defs (D (F := F))) (𝒱 := 𝒱) (bd := none) (E := Set.univ) d (ucRefs τ sig) (fun _ => (pure ⟨⟩ : Prog (TpuEff nD τ sig (Elt F) _ .tc) PUnit))
    (K := fun _ => (iprop(boundary (d.tc : Thread nD τ) ∗ held (d.tc : Thread nD τ) (ucRefs τ sig) (V1 m d)) : sProp 𝕄)) preOps
    (fun o ho => Pipeline.sub_ucRefs o (preOps_ok.2 o ho).1) (fun o ho => (preOps_ok.2 o ho).2.1) (V0 m d)
  rw [show (seq preOps >>= fun _ => (pure ⟨⟩ : Prog (TpuEff nD τ sig (Elt F) _ .tc) PUnit)) = seq preOps from bind_pure_unit] at h
  iintro H
  iapply h $$ [H]
  · iexact H
  iintro H
  rw [wp_pure]
  imodintro
  iexact H

/-- `@main` on a device's TensorCore: the arrays from the launch's contents to the last ones. -/
theorem hmain (κ : GSem nD τ sig → ℕ) (d : Dev nD) :
    iprop((K (F := F)).ctx EH (P (Tb m) (tg m) (nz m) (fo m)) κ ∗ (K (F := F)).tcSt EH d 0 ∗ (K (F := F)).tcRes m ρ d ∗ G d)
      ⊢ (wp frame (wpE ((K (F := F)).defs (D (F := F))) 𝒱 (SparseCore.T d) none) Set.univ (main d)
          fun _ => iprop((K (F := F)).tcSt EH d 1 ∗ FIN m d ∗ (K (F := F)).tcEnd d) : sProp 𝕄) := by
  unfold SparseCore.Cfg.tcRes SparseCore.Cfg.tcEnd
  refine BIBase.Entails.trans ?_ (hmain_wp d _)
  rw [show (unscopedBufs d (fun b => m ((SparseCore.T d).loc b)) : sProp 𝕄) = held (d.tc : Thread nD τ) (ucRefs τ sig) (V0 m d) from Pipeline.unscopedBufs_held d (V0 m d)]
  iintro ⟨#Hctx, Hst, ⟨Hb, Hh, Hts, -⟩, HG⟩
  ihave #Hlev := ((K (F := F)).ctx_levAts (EH := EH) (P := P (Tb m) (tg m) (nz m) (fo m)) κ) $$ Hctx
  iapply (wp_wand_r frame _ Set.univ)
  isplitl [Hb Hh]
  · iapply (pre_step m d) $$ [Hb Hh]
    isplitl [Hb] <;> iassumption
  iintro %_ ⟨Hb, Hh⟩
  iapply (wp_wand_r frame _ Set.univ)
  isplitl [Hst Hh]
  · iapply (sc_step m κ d) $$ [Hst Hh]
    isplitr; · iexact Hctx
    isplitl [Hst] <;> iassumption
  iintro %_ ⟨Hst, Hh⟩
  iapply (wp_wand_r frame _ Set.univ)
  isplitl [Hb Hh]
  · iapply (host_step op1 op1_sub rfl d (V2 m d)) $$ [Hb Hh]
    isplitl [Hb] <;> iassumption
  iintro %_ ⟨Hb, Hh⟩
  ihave Hst' := (tcSt_out d) $$ Hst
  icases Hst' with ⟨Hw, Hst⟩
  iapply (wp_wand_r frame _ Set.univ)
  isplitl [Hb Hh Hw HG]
  · iapply (region_step (V3 m) d) $$ [Hb Hh Hw HG]
    isplitl [Hb]; · iexact Hb
    isplitl [Hh Hw]
    · iapply (show (iprop(held (d.tc : Thread nD τ) (ucRefs τ sig) (V3 m d) ∗ (∃ Wd, ⌜(K (F := F)).WBelow (SparseCore.T d) Wd 8⌝ ∗ owes (d.tc : Thread nD τ) 0 Wd)) : sProp 𝕄) ⊢ (reg (V3 m)).pre d from .rfl) $$ [Hh Hw]
      isplitl [Hh]; · iexact Hh
      iexact Hw
    isplitr; · iexact Hlev
    iexact HG
  iintro %_ ⟨Hb, Hp⟩
  ihave Hp' := (show (reg (V3 m)).post d ⊢ (iprop(held (d.tc : Thread nD τ) (ucRefs τ sig) (V4 m d) ∗ (∃ Wd, ⌜(K (F := F)).WBelow (SparseCore.T d) Wd 8⌝ ∗ owes (d.tc : Thread nD τ) 0 Wd)) : sProp 𝕄) from .rfl) $$ Hp
  icases Hp' with ⟨Hh, Hw⟩
  ihave Hst := Hst $$ Hw
  iapply (wp_wand_r frame _ Set.univ)
  isplitl [Hb Hh]
  · iapply (host_step op2 op2_sub rfl d (V4 m d)) $$ [Hb Hh]
    isplitl [Hb] <;> iassumption
  iintro %_ ⟨Hb, Hh⟩
  isplitl [Hst]; · iexact Hst
  isplitl [Hh]; · iexact Hh
  isplitl [Hb] <;> iassumption

/-! ## What is left at the end -/

/-- The arguments and the result. -/
def kept : Finset (DevRef τ sig) := ({main_arg0, main_arg1, main_v14} : Finset (Ref sig .tc)).map ⟨Proc.devRef .tc, Proc.devRef_injective _⟩

theorem kept_sub : kept ⊆ ucRefs τ sig := fun b hb => by
  obtain ⟨r, hr, rfl⟩ := Finset.mem_map.mp hb
  refine Finset.mem_filter.mpr ⟨StableHlo.devRef_mem_tcRefs _, ?_⟩
  simp only [Finset.mem_insert, Finset.mem_singleton] at hr
  rcases hr with rfl | rfl | rfl <;> decide

theorem held_kept (d : Dev nD) (V : Valuation τ sig (Elt F)) :
    (held (d.tc : Thread nD τ) kept V : sProp 𝕄) = iprop((((d.tc : Thread nD τ).loc main_arg0) ↦{fullShare} V (dr main_arg0))
      ∗ (((d.tc : Thread nD τ).loc main_arg1) ↦{fullShare} V (dr main_arg1)) ∗ (((d.tc : Thread nD τ).loc main_v14) ↦{fullShare} V (dr main_v14))) := by
  unfold StableHlo.held kept
  rw [bigSep_map, bigSep_insert (by decide +kernel), bigSep_insert (by decide +kernel), bigSep_singleton]
  rfl

/-- The three arrays in a final state. -/
def fq (d : Dev nD) (s' : Phys nD τ sig (Elt F)) : Prop :=
  s'.mem.mem ((d.tc : Thread nD τ).loc main_arg0) = V5 m d (dr main_arg0) ∧ s'.mem.mem ((d.tc : Thread nD τ).loc main_arg1) = V5 m d (dr main_arg1)
    ∧ s'.mem.mem ((d.tc : Thread nD τ).loc main_v14) = V5 m d (dr main_v14)

set_option maxRecDepth 16384 in
theorem hfin (d : Dev nD) (s' : Phys nD τ sig (Elt F)) : iprop(FIN m d ∗ SI s') ⊢ (⌜fq m d s'⌝ : sProp 𝕄) := by
  unfold FIN
  rw [held_sub_split _ kept_sub, held_kept]
  iintro ⟨⟨⟨H0, H1, H2⟩, -⟩, HSI⟩
  ihave H := (persistent_entails_right (SI_pointsTo_agree (st := s') (ℓ := (d.tc : Thread nD τ).loc main_arg0) (I := Finset.univ) (q := fullShare) (f := V5 m d (dr main_arg0)))) $$ [HSI H0]
  · isplitl [HSI] <;> iassumption
  icases H with ⟨%h0, HSI, -⟩
  ihave H := (persistent_entails_right (SI_pointsTo_agree (st := s') (ℓ := (d.tc : Thread nD τ).loc main_arg1) (I := Finset.univ) (q := fullShare) (f := V5 m d (dr main_arg1)))) $$ [HSI H1]
  · isplitl [HSI] <;> iassumption
  icases H with ⟨%h1, HSI, -⟩
  ihave H := (SI_pointsTo_agree (st := s') (ℓ := (d.tc : Thread nD τ).loc main_v14) (I := Finset.univ) (q := fullShare) (f := V5 m d (dr main_v14))) $$ [HSI H2]
  · isplitl [HSI] <;> iassumption
  icases H with %h2
  ipureintro; exact ⟨funext fun i => h0 i (Finset.mem_univ i), funext fun i => h1 i (Finset.mem_univ i), funext fun i => h2 i (Finset.mem_univ i)⟩

/-! ## The arguments are kept, and the indices are in range -/

theorem V1_keeps (d : Dev nD) {r : Ref sig .tc} {k : Nat} (hr : At r k) (hk : k < 2) : V1 m d (dr r) = m (d, dr r) :=
  preOps_ok.keeps _ hr (.inl hk)

theorem V5_keeps (d : Dev nD) {r : Ref sig .tc} (h11 : r ≠ main_v11) (h12 : r ≠ main_v12) (h13 : ∀ w, r ≠ Pipeline.arrRef spec1 w) (h14 : r ≠ main_v14) :
    V5 m d (dr r) = V1 m d (dr r) := by
  unfold V5 op2
  rw [StableHlo.after_cons, StableHlo.after_nil, StableHlo.reshape_result_ne _ _ _ _ _ _ _ h14]
  unfold V4
  rw [show Pipeline.afterRegion (dats (V3 m) 0 d) (V3 m d) (dr r) = V3 m d (dr r) from Pipeline.afterRegion_of_not_arr _ _ h13]
  unfold V3 op1
  rw [StableHlo.after_cons, StableHlo.after_nil, StableHlo.reshape_result_ne _ _ _ _ _ _ _ h12]
  unfold V2
  exact Function.update_of_ne (StableHlo.devRef_ne_of_ne h11) _ _

theorem V5_arg0 (d : Dev nD) : V5 m d (dr main_arg0) = m (d, dr main_arg0) :=
  (V5_keeps m d (by decide +kernel) (by decide +kernel) (by decide +kernel) (by decide +kernel)).trans (V1_keeps m d (k := 0) ⟨rfl, rfl⟩ (by decide))
theorem V5_arg1 (d : Dev nD) : V5 m d (dr main_arg1) = m (d, dr main_arg1) :=
  (V5_keeps m d (by decide +kernel) (by decide +kernel) (by decide +kernel) (by decide +kernel)).trans (V1_keeps m d (k := 1) ⟨rfl, rfl⟩ (by decide))

theorem tg_eq (d : Dev nD) : tg m d = m (d, dr main_arg1) := V1_keeps m d (k := 1) ⟨rfl, rfl⟩ (by decide)

theorem inRange (h : ∀ d : Dev nD, ∀ j : S4096.Idx, (m (d, dr main_arg1) j : BitVec 32).toNat < 100000) (d : Dev nD) : InRange (tg m d) (nz m d) := by
  refine ⟨fun j => ?_, fun j => ?_⟩
  · rw [tg_eq]; exact h d j
  · obtain ⟨h8, h10, -⟩ := preOps_says (V0 m d)
    have := congrFun h10 j
    rw [show nz m d j = _ from this]
    exact h8 _

/-! ## The program's run -/

/-- The program ends from every memory whose targets are in range: the arguments unchanged, the result at its last
    contents, every semaphore at zero. -/
theorem run_main (h : ∀ d : Dev nD, ∀ j : S4096.Idx, (m (d, dr main_arg1) j : BitVec 32).toNat < 100000) :
    θ_run (Cert.KernelIdeal.defs (F := F)) (Cert.KernelIdeal.threads (F := F)) ⟨m, fun _ => 0, ρ⟩
      (fun r => (∀ d : Dev nD, r.2.mem ((d.tc : Thread nD τ).loc main_arg0) = m ((d.tc : Thread nD τ).loc main_arg0)
          ∧ r.2.mem ((d.tc : Thread nD τ).loc main_arg1) = m ((d.tc : Thread nD τ).loc main_arg1)
          ∧ r.2.mem ((d.tc : Thread nD τ).loc main_v14) = V5 m d (dr main_v14)) ∧ r.2.sem = fun _ => 0) :=
  SparseCore.Cfg.θ_run_sc_quiescent (K := K (F := F)) (D := D (F := F)) (𝒱 := 𝒱) (EH := EH) (P := P (Tb m) (tg m) (nz m) (fo m)) (A := ∅) facts v₀
    (fun q hq => match q with | 0 => nomatch hq)
    (fun q _ => match q with | 0 => tileObl (Tb m) (tg m) (nz m) (fo m) facts (inRange m h))
    (fun q _ => match q with | 0 => vecSplit (Tb m) (tg m) (nz m) (fo m))
    m ρ main G (FIN m) (u₀ (F := F)) (sep_elim_left.trans (hu₀ (Tb m) (tg m) (nz m) (fo m))) (hmain m ρ) (fq m) (hfin m)
    _ (fun r h hz => ⟨fun d => by
      have := h d
      exact ⟨this.1.trans (V5_arg0 m d), this.2.1.trans (V5_arg1 m d), this.2.2⟩, hz⟩)

end Cert.KernelIdeal.Tile

end
-- ==== Proof.SameDraws.lean ====
/-
  The two programs draw the same noise: their lines are the same operations, on buffers numbered one apart.
-/
module

public import proofs.«01_k».proof.Proof.Gen.KernelIdeal
public import proofs.«01_k».proof.Proof.Gen.ReferenceIdeal
public import proofs.«01_k».proof.Proof.HostLine

@[expose] public section

set_option maxRecDepth 65536

noncomputable section

namespace Cert.SameDraws

open Idealize.ShloMosaic Idealize.ShloMosaic.StableHlo Cert.HostLine
open Idealize.SL Idealize.SL.Sem

theorem from_ {nD nD' : Nat} {τ τ' : Topo} {sig sig' : RefSig} {Val : EltTy → Type} {Λ Λ' : Labels}
    {p : Prog (TpuEff nD τ sig Val Λ .tc) PUnit} {q : Prog (TpuEff nD' τ' sig' Val Λ' .tc) PUnit} {n n' m : Nat}
    (hm : n.beq m = true) (h : Lock p q m n') : Lock p q n n' := Nat.eq_of_beq_eq_true hm ▸ h

variable {F : FTy → Type} [FloatOps F]

theorem fry0_0 :
    Lock (Cert.KernelIdeal.fn_threefry2x32.body_part0 (F := F) KernelIdeal.main_call0.v6 KernelIdeal.main_call0.v8 KernelIdeal.main_call0.v9 KernelIdeal.main_call0.v10 KernelIdeal.main_call0.call0)
      (Cert.ReferenceIdeal.fn_threefry2x32.body_part0 (F := F) ReferenceIdeal.main_call0.v6 ReferenceIdeal.main_call0.v8 ReferenceIdeal.main_call0.v9 ReferenceIdeal.main_call0.v10 ReferenceIdeal.main_call0.call0) 26 86 := by
  unfold KernelIdeal.fn_threefry2x32.body_part0 ReferenceIdeal.fn_threefry2x32.body_part0
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem fry0_1 :
    Lock (Cert.KernelIdeal.fn_threefry2x32.body_part1 (F := F) KernelIdeal.main_call0.v6 KernelIdeal.main_call0.v8 KernelIdeal.main_call0.v9 KernelIdeal.main_call0.v10 KernelIdeal.main_call0.call0)
      (Cert.ReferenceIdeal.fn_threefry2x32.body_part1 (F := F) ReferenceIdeal.main_call0.v6 ReferenceIdeal.main_call0.v8 ReferenceIdeal.main_call0.v9 ReferenceIdeal.main_call0.v10 ReferenceIdeal.main_call0.call0) 86 146 := by
  unfold KernelIdeal.fn_threefry2x32.body_part1 ReferenceIdeal.fn_threefry2x32.body_part1
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem fry0_2 :
    Lock (Cert.KernelIdeal.fn_threefry2x32.body_part2 (F := F) KernelIdeal.main_call0.v6 KernelIdeal.main_call0.v8 KernelIdeal.main_call0.v9 KernelIdeal.main_call0.v10 KernelIdeal.main_call0.call0)
      (Cert.ReferenceIdeal.fn_threefry2x32.body_part2 (F := F) ReferenceIdeal.main_call0.v6 ReferenceIdeal.main_call0.v8 ReferenceIdeal.main_call0.v9 ReferenceIdeal.main_call0.v10 ReferenceIdeal.main_call0.call0) 146 206 := by
  unfold KernelIdeal.fn_threefry2x32.body_part2 ReferenceIdeal.fn_threefry2x32.body_part2
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem fry0_3 :
    Lock (Cert.KernelIdeal.fn_threefry2x32.body_part3 (F := F) KernelIdeal.main_call0.v6 KernelIdeal.main_call0.v8 KernelIdeal.main_call0.v9 KernelIdeal.main_call0.v10 KernelIdeal.main_call0.call0)
      (Cert.ReferenceIdeal.fn_threefry2x32.body_part3 (F := F) ReferenceIdeal.main_call0.v6 ReferenceIdeal.main_call0.v8 ReferenceIdeal.main_call0.v9 ReferenceIdeal.main_call0.v10 ReferenceIdeal.main_call0.call0) 206 248 := by
  unfold KernelIdeal.fn_threefry2x32.body_part3 ReferenceIdeal.fn_threefry2x32.body_part3
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem fry0 :
    Lock (Cert.KernelIdeal.fn_threefry2x32.body (F := F) KernelIdeal.main_call0.v6 KernelIdeal.main_call0.v8 KernelIdeal.main_call0.v9 KernelIdeal.main_call0.v10 KernelIdeal.main_call0.call0)
      (Cert.ReferenceIdeal.fn_threefry2x32.body (F := F) ReferenceIdeal.main_call0.v6 ReferenceIdeal.main_call0.v8 ReferenceIdeal.main_call0.v9 ReferenceIdeal.main_call0.v10 ReferenceIdeal.main_call0.call0) 26 248 := by
  unfold KernelIdeal.fn_threefry2x32.body ReferenceIdeal.fn_threefry2x32.body
  exact fry0_0.append (fry0_1.append (fry0_2.append fry0_3))

theorem fry1_0 :
    Lock (Cert.KernelIdeal.fn_threefry2x32_1.body_part0 (F := F) KernelIdeal.main_call1.call3.v1 KernelIdeal.main_call1.call3.v3 KernelIdeal.main_call1.call3.v10 KernelIdeal.main_call1.call3.v9 KernelIdeal.main_call1.call3.call0)
      (Cert.ReferenceIdeal.fn_threefry2x32_1.body_part0 (F := F) ReferenceIdeal.main_call1.call3.v1 ReferenceIdeal.main_call1.call3.v3 ReferenceIdeal.main_call1.call3.v10 ReferenceIdeal.main_call1.call3.v9 ReferenceIdeal.main_call1.call3.call0) 282 342 := by
  unfold KernelIdeal.fn_threefry2x32_1.body_part0 ReferenceIdeal.fn_threefry2x32_1.body_part0
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem fry1_1 :
    Lock (Cert.KernelIdeal.fn_threefry2x32_1.body_part1 (F := F) KernelIdeal.main_call1.call3.v1 KernelIdeal.main_call1.call3.v3 KernelIdeal.main_call1.call3.v10 KernelIdeal.main_call1.call3.v9 KernelIdeal.main_call1.call3.call0)
      (Cert.ReferenceIdeal.fn_threefry2x32_1.body_part1 (F := F) ReferenceIdeal.main_call1.call3.v1 ReferenceIdeal.main_call1.call3.v3 ReferenceIdeal.main_call1.call3.v10 ReferenceIdeal.main_call1.call3.v9 ReferenceIdeal.main_call1.call3.call0) 342 402 := by
  unfold KernelIdeal.fn_threefry2x32_1.body_part1 ReferenceIdeal.fn_threefry2x32_1.body_part1
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem fry1_2 :
    Lock (Cert.KernelIdeal.fn_threefry2x32_1.body_part2 (F := F) KernelIdeal.main_call1.call3.v1 KernelIdeal.main_call1.call3.v3 KernelIdeal.main_call1.call3.v10 KernelIdeal.main_call1.call3.v9 KernelIdeal.main_call1.call3.call0)
      (Cert.ReferenceIdeal.fn_threefry2x32_1.body_part2 (F := F) ReferenceIdeal.main_call1.call3.v1 ReferenceIdeal.main_call1.call3.v3 ReferenceIdeal.main_call1.call3.v10 ReferenceIdeal.main_call1.call3.v9 ReferenceIdeal.main_call1.call3.call0) 402 462 := by
  unfold KernelIdeal.fn_threefry2x32_1.body_part2 ReferenceIdeal.fn_threefry2x32_1.body_part2
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem fry1_3 :
    Lock (Cert.KernelIdeal.fn_threefry2x32_1.body_part3 (F := F) KernelIdeal.main_call1.call3.v1 KernelIdeal.main_call1.call3.v3 KernelIdeal.main_call1.call3.v10 KernelIdeal.main_call1.call3.v9 KernelIdeal.main_call1.call3.call0)
      (Cert.ReferenceIdeal.fn_threefry2x32_1.body_part3 (F := F) ReferenceIdeal.main_call1.call3.v1 ReferenceIdeal.main_call1.call3.v3 ReferenceIdeal.main_call1.call3.v10 ReferenceIdeal.main_call1.call3.v9 ReferenceIdeal.main_call1.call3.call0) 462 504 := by
  unfold KernelIdeal.fn_threefry2x32_1.body_part3 ReferenceIdeal.fn_threefry2x32_1.body_part3
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem fry1 :
    Lock (Cert.KernelIdeal.fn_threefry2x32_1.body (F := F) KernelIdeal.main_call1.call3.v1 KernelIdeal.main_call1.call3.v3 KernelIdeal.main_call1.call3.v10 KernelIdeal.main_call1.call3.v9 KernelIdeal.main_call1.call3.call0)
      (Cert.ReferenceIdeal.fn_threefry2x32_1.body (F := F) ReferenceIdeal.main_call1.call3.v1 ReferenceIdeal.main_call1.call3.v3 ReferenceIdeal.main_call1.call3.v10 ReferenceIdeal.main_call1.call3.v9 ReferenceIdeal.main_call1.call3.call0) 282 504 := by
  unfold KernelIdeal.fn_threefry2x32_1.body ReferenceIdeal.fn_threefry2x32_1.body
  exact fry1_0.append (fry1_1.append (fry1_2.append fry1_3))

theorem fry4_0 :
    Lock (Cert.KernelIdeal.fn_threefry2x32_2.body_part0 (F := F) KernelIdeal.main_call1.v14 KernelIdeal.main_call1.v16 KernelIdeal.main_call1.v27 KernelIdeal.main_call1.v26 KernelIdeal.main_call1.call4)
      (Cert.ReferenceIdeal.fn_threefry2x32_2.body_part0 (F := F) ReferenceIdeal.main_call1.v14 ReferenceIdeal.main_call1.v16 ReferenceIdeal.main_call1.v27 ReferenceIdeal.main_call1.v26 ReferenceIdeal.main_call1.call4) 529 589 := by
  unfold KernelIdeal.fn_threefry2x32_2.body_part0 ReferenceIdeal.fn_threefry2x32_2.body_part0
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem fry4_1 :
    Lock (Cert.KernelIdeal.fn_threefry2x32_2.body_part1 (F := F) KernelIdeal.main_call1.v14 KernelIdeal.main_call1.v16 KernelIdeal.main_call1.v27 KernelIdeal.main_call1.v26 KernelIdeal.main_call1.call4)
      (Cert.ReferenceIdeal.fn_threefry2x32_2.body_part1 (F := F) ReferenceIdeal.main_call1.v14 ReferenceIdeal.main_call1.v16 ReferenceIdeal.main_call1.v27 ReferenceIdeal.main_call1.v26 ReferenceIdeal.main_call1.call4) 589 649 := by
  unfold KernelIdeal.fn_threefry2x32_2.body_part1 ReferenceIdeal.fn_threefry2x32_2.body_part1
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem fry4_2 :
    Lock (Cert.KernelIdeal.fn_threefry2x32_2.body_part2 (F := F) KernelIdeal.main_call1.v14 KernelIdeal.main_call1.v16 KernelIdeal.main_call1.v27 KernelIdeal.main_call1.v26 KernelIdeal.main_call1.call4)
      (Cert.ReferenceIdeal.fn_threefry2x32_2.body_part2 (F := F) ReferenceIdeal.main_call1.v14 ReferenceIdeal.main_call1.v16 ReferenceIdeal.main_call1.v27 ReferenceIdeal.main_call1.v26 ReferenceIdeal.main_call1.call4) 649 709 := by
  unfold KernelIdeal.fn_threefry2x32_2.body_part2 ReferenceIdeal.fn_threefry2x32_2.body_part2
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem fry4_3 :
    Lock (Cert.KernelIdeal.fn_threefry2x32_2.body_part3 (F := F) KernelIdeal.main_call1.v14 KernelIdeal.main_call1.v16 KernelIdeal.main_call1.v27 KernelIdeal.main_call1.v26 KernelIdeal.main_call1.call4)
      (Cert.ReferenceIdeal.fn_threefry2x32_2.body_part3 (F := F) ReferenceIdeal.main_call1.v14 ReferenceIdeal.main_call1.v16 ReferenceIdeal.main_call1.v27 ReferenceIdeal.main_call1.v26 ReferenceIdeal.main_call1.call4) 709 751 := by
  unfold KernelIdeal.fn_threefry2x32_2.body_part3 ReferenceIdeal.fn_threefry2x32_2.body_part3
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem fry4 :
    Lock (Cert.KernelIdeal.fn_threefry2x32_2.body (F := F) KernelIdeal.main_call1.v14 KernelIdeal.main_call1.v16 KernelIdeal.main_call1.v27 KernelIdeal.main_call1.v26 KernelIdeal.main_call1.call4)
      (Cert.ReferenceIdeal.fn_threefry2x32_2.body (F := F) ReferenceIdeal.main_call1.v14 ReferenceIdeal.main_call1.v16 ReferenceIdeal.main_call1.v27 ReferenceIdeal.main_call1.v26 ReferenceIdeal.main_call1.call4) 529 751 := by
  unfold KernelIdeal.fn_threefry2x32_2.body ReferenceIdeal.fn_threefry2x32_2.body
  exact fry4_0.append (fry4_1.append (fry4_2.append fry4_3))

theorem fry5_0 :
    Lock (Cert.KernelIdeal.fn_threefry2x32_2.body_part0 (F := F) KernelIdeal.main_call1.v31 KernelIdeal.main_call1.v33 KernelIdeal.main_call1.v44 KernelIdeal.main_call1.v43 KernelIdeal.main_call1.call5)
      (Cert.ReferenceIdeal.fn_threefry2x32_2.body_part0 (F := F) ReferenceIdeal.main_call1.v31 ReferenceIdeal.main_call1.v33 ReferenceIdeal.main_call1.v44 ReferenceIdeal.main_call1.v43 ReferenceIdeal.main_call1.call5) 770 830 := by
  unfold KernelIdeal.fn_threefry2x32_2.body_part0 ReferenceIdeal.fn_threefry2x32_2.body_part0
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem fry5_1 :
    Lock (Cert.KernelIdeal.fn_threefry2x32_2.body_part1 (F := F) KernelIdeal.main_call1.v31 KernelIdeal.main_call1.v33 KernelIdeal.main_call1.v44 KernelIdeal.main_call1.v43 KernelIdeal.main_call1.call5)
      (Cert.ReferenceIdeal.fn_threefry2x32_2.body_part1 (F := F) ReferenceIdeal.main_call1.v31 ReferenceIdeal.main_call1.v33 ReferenceIdeal.main_call1.v44 ReferenceIdeal.main_call1.v43 ReferenceIdeal.main_call1.call5) 830 890 := by
  unfold KernelIdeal.fn_threefry2x32_2.body_part1 ReferenceIdeal.fn_threefry2x32_2.body_part1
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem fry5_2 :
    Lock (Cert.KernelIdeal.fn_threefry2x32_2.body_part2 (F := F) KernelIdeal.main_call1.v31 KernelIdeal.main_call1.v33 KernelIdeal.main_call1.v44 KernelIdeal.main_call1.v43 KernelIdeal.main_call1.call5)
      (Cert.ReferenceIdeal.fn_threefry2x32_2.body_part2 (F := F) ReferenceIdeal.main_call1.v31 ReferenceIdeal.main_call1.v33 ReferenceIdeal.main_call1.v44 ReferenceIdeal.main_call1.v43 ReferenceIdeal.main_call1.call5) 890 950 := by
  unfold KernelIdeal.fn_threefry2x32_2.body_part2 ReferenceIdeal.fn_threefry2x32_2.body_part2
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem fry5_3 :
    Lock (Cert.KernelIdeal.fn_threefry2x32_2.body_part3 (F := F) KernelIdeal.main_call1.v31 KernelIdeal.main_call1.v33 KernelIdeal.main_call1.v44 KernelIdeal.main_call1.v43 KernelIdeal.main_call1.call5)
      (Cert.ReferenceIdeal.fn_threefry2x32_2.body_part3 (F := F) ReferenceIdeal.main_call1.v31 ReferenceIdeal.main_call1.v33 ReferenceIdeal.main_call1.v44 ReferenceIdeal.main_call1.v43 ReferenceIdeal.main_call1.call5) 950 992 := by
  unfold KernelIdeal.fn_threefry2x32_2.body_part3 ReferenceIdeal.fn_threefry2x32_2.body_part3
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem fry5 :
    Lock (Cert.KernelIdeal.fn_threefry2x32_2.body (F := F) KernelIdeal.main_call1.v31 KernelIdeal.main_call1.v33 KernelIdeal.main_call1.v44 KernelIdeal.main_call1.v43 KernelIdeal.main_call1.call5)
      (Cert.ReferenceIdeal.fn_threefry2x32_2.body (F := F) ReferenceIdeal.main_call1.v31 ReferenceIdeal.main_call1.v33 ReferenceIdeal.main_call1.v44 ReferenceIdeal.main_call1.v43 ReferenceIdeal.main_call1.call5) 770 992 := by
  unfold KernelIdeal.fn_threefry2x32_2.body ReferenceIdeal.fn_threefry2x32_2.body
  exact fry5_0.append (fry5_1.append (fry5_2.append fry5_3))

theorem clip0 :
    Lock (Cert.KernelIdeal.fn_clip.body (F := F) KernelIdeal.main_call1.c KernelIdeal.main_call1.c_0 KernelIdeal.main_call1.c_1 KernelIdeal.main_call1.call0)
      (Cert.ReferenceIdeal.fn_clip.body (F := F) ReferenceIdeal.main_call1.c ReferenceIdeal.main_call1.c_0 ReferenceIdeal.main_call1.c_1 ReferenceIdeal.main_call1.call0) 254 256 := by
  unfold KernelIdeal.fn_clip.body ReferenceIdeal.fn_clip.body
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem clip1 :
    Lock (Cert.KernelIdeal.fn_clip_0.body (F := F) (.of KernelIdeal.main_c_3) KernelIdeal.main_call1.c_2 KernelIdeal.main_call1.c_3 KernelIdeal.main_call1.call1)
      (Cert.ReferenceIdeal.fn_clip_0.body (F := F) (.of ReferenceIdeal.main_c_3) ReferenceIdeal.main_call1.c_2 ReferenceIdeal.main_call1.c_3 ReferenceIdeal.main_call1.call1) 259 261 := by
  unfold KernelIdeal.fn_clip_0.body ReferenceIdeal.fn_clip_0.body
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem clip2 :
    Lock (Cert.KernelIdeal.fn_clip_0.body (F := F) (.of KernelIdeal.main_c_4) KernelIdeal.main_call1.c_4 KernelIdeal.main_call1.c_5 KernelIdeal.main_call1.call2)
      (Cert.ReferenceIdeal.fn_clip_0.body (F := F) (.of ReferenceIdeal.main_c_4) ReferenceIdeal.main_call1.c_4 ReferenceIdeal.main_call1.c_5 ReferenceIdeal.main_call1.call2) 264 266 := by
  unfold KernelIdeal.fn_clip_0.body ReferenceIdeal.fn_clip_0.body
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem fold :
    Lock (Cert.KernelIdeal.fn_threefry_fold_in.body (F := F) (.of KernelIdeal.main_v6) (.of KernelIdeal.main_c_2) KernelIdeal.main_call0)
      (Cert.ReferenceIdeal.fn_threefry_fold_in.body (F := F) (.of ReferenceIdeal.main_v7) (.of ReferenceIdeal.main_c_2) ReferenceIdeal.main_call0) 13 249 := by
  unfold KernelIdeal.fn_threefry_fold_in.body ReferenceIdeal.fn_threefry_fold_in.body
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
  refine Lock.append (from_ (by decide +kernel) fry0) ?_
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem split :
    Lock (Cert.KernelIdeal.fn_threefry_split.body (F := F) (.of KernelIdeal.main_v7) KernelIdeal.main_call1.call3)
      (Cert.ReferenceIdeal.fn_threefry_split.body (F := F) (.of ReferenceIdeal.main_v8) ReferenceIdeal.main_call1.call3) 269 507 := by
  unfold KernelIdeal.fn_threefry_split.body ReferenceIdeal.fn_threefry_split.body
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
  refine Lock.append (from_ (by decide +kernel) fry1) ?_
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem draw0 :
    Lock (Cert.KernelIdeal.fn_randint.body_part0 (F := F) (.of KernelIdeal.main_v7) (.of KernelIdeal.main_c_3) (.of KernelIdeal.main_c_4) KernelIdeal.main_call1)
      (Cert.ReferenceIdeal.fn_randint.body_part0 (F := F) (.of ReferenceIdeal.main_v8) (.of ReferenceIdeal.main_c_3) (.of ReferenceIdeal.main_c_4) ReferenceIdeal.main_call1) 251 993 := by
  unfold KernelIdeal.fn_randint.body_part0 ReferenceIdeal.fn_randint.body_part0
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
  refine Lock.append (from_ (by decide +kernel) clip0) ?_
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
  refine Lock.append (from_ (by decide +kernel) clip1) ?_
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
  refine Lock.append (from_ (by decide +kernel) clip2) ?_
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
  refine Lock.append (from_ (by decide +kernel) split) ?_
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
  refine Lock.append (from_ (by decide +kernel) fry4) ?_
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
  refine Lock.append (from_ (by decide +kernel) fry5) ?_
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

theorem draw1 :
    Lock (Cert.KernelIdeal.fn_randint.body_part1 (F := F) (.of KernelIdeal.main_v7) (.of KernelIdeal.main_c_3) (.of KernelIdeal.main_c_4) KernelIdeal.main_call1)
      (Cert.ReferenceIdeal.fn_randint.body_part1 (F := F) (.of ReferenceIdeal.main_v8) (.of ReferenceIdeal.main_c_3) (.of ReferenceIdeal.main_c_4) ReferenceIdeal.main_call1) 993 1023 := by
  unfold KernelIdeal.fn_randint.body_part1 ReferenceIdeal.fn_randint.body_part1
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
    | exact Lock.done (by decide +kernel)
    | refine Lock.last ?_

end Cert.SameDraws

end
-- ==== Proof.RefHost.lean ====
/-
  The reference's program: a line of host operations, its draws of the noise and the loss it makes of the scores taken.
-/
module

public import proofs.«01_k».proof.Proof.Gen.ReferenceIdeal
public import proofs.«01_k».proof.Proof.HostLine

@[expose] public section

set_option maxRecDepth 65536

noncomputable section

namespace Cert.ReferenceIdeal.Host

open Cert.ReferenceIdeal Cert.ReferenceIdeal.Facts₀
open Idealize.ShloMosaic Idealize.ShloMosaic.StableHlo Cert.HostLine
open Idealize.SL Idealize.SL.Sem

variable {F : FTy → Type} [FloatOps F]

/-- The targets laid out as a column. -/
def lead : Prog (TpuEff nD τ sig (Elt F) (Pipeline.Sig Λ₀ (Fin 0) fun p => (pcfgs (F := F) p).Adm) .tc) PUnit := do
  hlo rfl (TRef.reshape (.of main_arg1) (.of main_v0) (rfl : (.i32 : EltTy) = .i32) shapeCasts_S4096_S4096x1) (fun _ => .ret ⟨⟩)
  pure ⟨⟩

/-- The draws of the noise. -/
def noise : Prog (TpuEff nD τ sig (Elt F) (Pipeline.Sig Λ₀ (Fin 0) fun p => (pcfgs (F := F) p).Adm) .tc) PUnit := do
  hlo rfl (TRef.nullary (.of main_c) (constantI S_ 32 0#32)) (fun _ => .ret ⟨⟩)
  hlo rfl (TRef.nullary (.of main_c_0) (constantI S_ 32 32#32)) (fun _ => .ret ⟨⟩)
  hlo rfl (TRef.binary (.of main_c) (.of main_c_0) (.of main_v1) (Host.shrui : (⟨S_, .i32⟩ : BufTy).Contents (Elt F) → (⟨S_, .i32⟩ : BufTy).Contents (Elt F) → (⟨S_, .i32⟩ : BufTy).Contents (Elt F))) (fun _ => .ret ⟨⟩)
  hlo rfl (TRef.unary (.of main_v1) (.of main_v2) (id : (⟨S_, .i32⟩ : BufTy).Contents (Elt F) → (⟨S_, .i32⟩ : BufTy).Contents (Elt F))) (fun _ => .ret ⟨⟩)
  hlo rfl (TRef.unary (.of main_v2) (.of main_v3) (broadcastInDim S1 ![] bcast_S_S1 : (⟨S_, .i32⟩ : BufTy).Contents (Elt F) → (⟨S1, .i32⟩ : BufTy).Contents (Elt F))) (fun _ => .ret ⟨⟩)
  hlo rfl (TRef.nullary (.of main_c_1) (constantI S_ 32 4294967295#32)) (fun _ => .ret ⟨⟩)
  hlo rfl (TRef.binary (.of main_c) (.of main_c_1) (.of main_v4) (andi : (⟨S_, .i32⟩ : BufTy).Contents (Elt F) → (⟨S_, .i32⟩ : BufTy).Contents (Elt F) → (⟨S_, .i32⟩ : BufTy).Contents (Elt F))) (fun _ => .ret ⟨⟩)
  hlo rfl (TRef.unary (.of main_v4) (.of main_v5) (id : (⟨S_, .i32⟩ : BufTy).Contents (Elt F) → (⟨S_, .i32⟩ : BufTy).Contents (Elt F))) (fun _ => .ret ⟨⟩)
  hlo rfl (TRef.unary (.of main_v5) (.of main_v6) (broadcastInDim S1 ![] bcast_S_S1 : (⟨S_, .i32⟩ : BufTy).Contents (Elt F) → (⟨S1, .i32⟩ : BufTy).Contents (Elt F))) (fun _ => .ret ⟨⟩)
  hlo rfl (TRef.binary (.of main_v3) (.of main_v6) (.of main_v7) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))) (fun _ => .ret ⟨⟩)
  hlo rfl (TRef.nullary (.of main_c_2) (constantI S_ 32 1234#32)) (fun _ => .ret ⟨⟩)
  fn_threefry_fold_in.body (.of main_v7) (.of main_c_2) main_call0
  hlo rfl (TRef.nullary (.of main_c_3) (constantI S_ 32 0#32)) (fun _ => .ret ⟨⟩)
  hlo rfl (TRef.nullary (.of main_c_4) (constantI S_ 32 100000#32)) (fun _ => .ret ⟨⟩)
  fn_randint.body (.of main_v8) (.of main_c_3) (.of main_c_4) main_call1
  pure ⟨⟩

/-- The scores taken, and the loss. -/
def tail : Prog (TpuEff nD τ sig (Elt F) (Pipeline.Sig Λ₀ (Fin 0) fun p => (pcfgs (F := F) p).Adm) .tc) PUnit := do
  fn_take_along_axis.body (.of main_arg0) (.of main_v0) main_call2
  fn_take_along_axis_3.body (.of main_arg0) (.of main_v9) main_call3
  hlo rfl (TRef.unary (.of main_v10) (.of main_v12) (Host.negf : (⟨S4096x1, .f32⟩ : BufTy).Contents (Elt F) → (⟨S4096x1, .f32⟩ : BufTy).Contents (Elt F))) (fun _ => .ret ⟨⟩)
  hlo rfl (TRef.unary (.of main_v12) (.of main_v13) (Host.exp : (⟨S4096x1, .f32⟩ : BufTy).Contents (Elt F) → (⟨S4096x1, .f32⟩ : BufTy).Contents (Elt F))) (fun _ => .ret ⟨⟩)
  hlo rfl (TRef.nullary (.of main_cst) (constant S_ .f32 0x3F800000#32)) (fun _ => .ret ⟨⟩)
  hlo rfl (TRef.unary (.of main_cst) (.of main_v14) (broadcastInDim S4096x1 ![] bcast_S_S4096x1 : (⟨S_, .f32⟩ : BufTy).Contents (Elt F) → (⟨S4096x1, .f32⟩ : BufTy).Contents (Elt F))) (fun _ => .ret ⟨⟩)
  hlo rfl (TRef.binary (.of main_v14) (.of main_v13) (.of main_v15) (addf : (⟨S4096x1, .f32⟩ : BufTy).Contents (Elt F) → (⟨S4096x1, .f32⟩ : BufTy).Contents (Elt F) → (⟨S4096x1, .f32⟩ : BufTy).Contents (Elt F))) (fun _ => .ret ⟨⟩)
  hlo rfl (TRef.nullary (.of main_cst_5) (constant S_ .f32 0x3F800000#32)) (fun _ => .ret ⟨⟩)
  hlo rfl (TRef.unary (.of main_cst_5) (.of main_v16) (broadcastInDim S4096x1 ![] bcast_S_S4096x1 : (⟨S_, .f32⟩ : BufTy).Contents (Elt F) → (⟨S4096x1, .f32⟩ : BufTy).Contents (Elt F))) (fun _ => .ret ⟨⟩)
  hlo rfl (TRef.binary (.of main_v16) (.of main_v15) (.of main_v17) (Host.divf : (⟨S4096x1, .f32⟩ : BufTy).Contents (Elt F) → (⟨S4096x1, .f32⟩ : BufTy).Contents (Elt F) → (⟨S4096x1, .f32⟩ : BufTy).Contents (Elt F))) (fun _ => .ret ⟨⟩)
  hlo rfl (TRef.unary (.of main_v17) (.of main_v18) (Host.log : (⟨S4096x1, .f32⟩ : BufTy).Contents (Elt F) → (⟨S4096x1, .f32⟩ : BufTy).Contents (Elt F))) (fun _ => .ret ⟨⟩)
  hlo rfl (TRef.unary (.of main_v11) (.of main_v19) (Host.negf : (⟨S4096x5, .f32⟩ : BufTy).Contents (Elt F) → (⟨S4096x5, .f32⟩ : BufTy).Contents (Elt F))) (fun _ => .ret ⟨⟩)
  hlo rfl (TRef.unary (.of main_v19) (.of main_v20) (Host.negf : (⟨S4096x5, .f32⟩ : BufTy).Contents (Elt F) → (⟨S4096x5, .f32⟩ : BufTy).Contents (Elt F))) (fun _ => .ret ⟨⟩)
  hlo rfl (TRef.unary (.of main_v20) (.of main_v21) (Host.exp : (⟨S4096x5, .f32⟩ : BufTy).Contents (Elt F) → (⟨S4096x5, .f32⟩ : BufTy).Contents (Elt F))) (fun _ => .ret ⟨⟩)
  hlo rfl (TRef.nullary (.of main_cst_6) (constant S_ .f32 0x3F800000#32)) (fun _ => .ret ⟨⟩)
  hlo rfl (TRef.unary (.of main_cst_6) (.of main_v22) (broadcastInDim S4096x5 ![] bcast_S_S4096x5 : (⟨S_, .f32⟩ : BufTy).Contents (Elt F) → (⟨S4096x5, .f32⟩ : BufTy).Contents (Elt F))) (fun _ => .ret ⟨⟩)
  hlo rfl (TRef.binary (.of main_v22) (.of main_v21) (.of main_v23) (addf : (⟨S4096x5, .f32⟩ : BufTy).Contents (Elt F) → (⟨S4096x5, .f32⟩ : BufTy).Contents (Elt F) → (⟨S4096x5, .f32⟩ : BufTy).Contents (Elt F))) (fun _ => .ret ⟨⟩)
  hlo rfl (TRef.nullary (.of main_cst_7) (constant S_ .f32 0x3F800000#32)) (fun _ => .ret ⟨⟩)
  hlo rfl (TRef.unary (.of main_cst_7) (.of main_v24) (broadcastInDim S4096x5 ![] bcast_S_S4096x5 : (⟨S_, .f32⟩ : BufTy).Contents (Elt F) → (⟨S4096x5, .f32⟩ : BufTy).Contents (Elt F))) (fun _ => .ret ⟨⟩)
  hlo rfl (TRef.binary (.of main_v24) (.of main_v23) (.of main_v25) (Host.divf : (⟨S4096x5, .f32⟩ : BufTy).Contents (Elt F) → (⟨S4096x5, .f32⟩ : BufTy).Contents (Elt F) → (⟨S4096x5, .f32⟩ : BufTy).Contents (Elt F))) (fun _ => .ret ⟨⟩)
  hlo rfl (TRef.unary (.of main_v25) (.of main_v26) (Host.log : (⟨S4096x5, .f32⟩ : BufTy).Contents (Elt F) → (⟨S4096x5, .f32⟩ : BufTy).Contents (Elt F))) (fun _ => .ret ⟨⟩)
  hlo rfl (TRef.nullary (.of main_cst_8) (constant S_ .f32 0x00000000#32)) (fun _ => .ret ⟨⟩)
  hlo rfl (TRef.binary (.of main_v26) (.of main_cst_8) (.of main_v27) ((fun x v => Host.reduceAdd x v reducesTo_S4096x5_S4096_d1 h_S_) : (⟨S4096x5, .f32⟩ : BufTy).Contents (Elt F) → (⟨S_, .f32⟩ : BufTy).Contents (Elt F) → (⟨S4096, .f32⟩ : BufTy).Contents (Elt F))) (fun _ => .ret ⟨⟩)
  hlo rfl (TRef.unary (.of main_v27) (.of main_v28) (broadcastInDim S1x4096 ![1] bcast_S4096_S1x4096_1 : (⟨S4096, .f32⟩ : BufTy).Contents (Elt F) → (⟨S1x4096, .f32⟩ : BufTy).Contents (Elt F))) (fun _ => .ret ⟨⟩)
  hlo rfl (TRef.unary (.of main_v18) (.of main_v29) (broadcastInDim S4096x4096 ![0, 1] bcast_S4096x1_S4096x4096_0_1 : (⟨S4096x1, .f32⟩ : BufTy).Contents (Elt F) → (⟨S4096x4096, .f32⟩ : BufTy).Contents (Elt F))) (fun _ => .ret ⟨⟩)
  hlo rfl (TRef.unary (.of main_v28) (.of main_v30) (broadcastInDim S4096x4096 ![0, 1] bcast_S1x4096_S4096x4096_0_1 : (⟨S1x4096, .f32⟩ : BufTy).Contents (Elt F) → (⟨S4096x4096, .f32⟩ : BufTy).Contents (Elt F))) (fun _ => .ret ⟨⟩)
  hlo rfl (TRef.binary (.of main_v29) (.of main_v30) (.of main_v31) (addf : (⟨S4096x4096, .f32⟩ : BufTy).Contents (Elt F) → (⟨S4096x4096, .f32⟩ : BufTy).Contents (Elt F) → (⟨S4096x4096, .f32⟩ : BufTy).Contents (Elt F))) (fun _ => .ret ⟨⟩)
  hlo rfl (TRef.nullary (.of main_cst_9) (constant S_ .f32 0x00000000#32)) (fun _ => .ret ⟨⟩)
  hlo rfl (TRef.binary (.of main_v31) (.of main_cst_9) (.of main_v32) ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F))) (fun _ => .ret ⟨⟩)
  hlo rfl (TRef.nullary (.of main_cst_10) (constant S_ .f32 0x4B800000#32)) (fun _ => .ret ⟨⟩)
  hlo rfl (TRef.binary (.of main_v32) (.of main_cst_10) (.of main_v33) (Host.divf : (⟨S_, .f32⟩ : BufTy).Contents (Elt F) → (⟨S_, .f32⟩ : BufTy).Contents (Elt F) → (⟨S_, .f32⟩ : BufTy).Contents (Elt F))) (fun _ => .ret ⟨⟩)
  hlo rfl (TRef.unary (.of main_v33) (.of main_v34) (Host.negf : (⟨S_, .f32⟩ : BufTy).Contents (Elt F) → (⟨S_, .f32⟩ : BufTy).Contents (Elt F))) (fun _ => .ret ⟨⟩)
  pure ⟨⟩

theorem main_eq (d : Dev nD) : main (F := F) d = lead >>= fun _ => (noise >>= fun _ => tail) := by
  unfold main lead noise tail
  simp only [bind_assoc, pure_bind]
  rfl

theorem lead_says : Says (lead (F := F)) 2 3 fun V => rd V (.of main_v0 : TRef sig ⟨S4096x1, .i32⟩)
    = shaped (Tx := ⟨S4096, .i32⟩) (Ty := ⟨S4096x1, .i32⟩) rfl shapeCasts_S4096_S4096x1 (rd V (.of main_arg1 : TRef sig ⟨S4096, .i32⟩)) := by
  unfold lead
  repeat first
    | with_reducible refine Says.nullary (by decide +kernel) ?_
    | with_reducible refine Says.unary (by decide +kernel) ?_
    | with_reducible refine Says.binary (by decide +kernel) ?_
    | with_reducible refine Says.reshape (by decide +kernel) ?_
    | with_reducible refine Says.ternary (by decide +kernel) ?_
  exact Says.done (by decide +kernel) fun V h => h

/-- The row numbers as the gather reads them: the negative ones counted from the end. -/
def wrap1 (i : IVec S4096x1 32) : IVec S4096x1x1 32 :=
  shaped (Val := Elt F) (Tx := ⟨S4096x1, .i32⟩) (Ty := ⟨S4096x1x1, .i32⟩) rfl shapeCasts_S4096x1_S4096x1x1
    (select (cmpi .slt i (broadcastInDim S4096x1 ![] bcast_S_S4096x1 (constantI S_ 32 0#32))) (addi i (broadcastInDim S4096x1 ![] bcast_S_S4096x1 (constantI S_ 32 100000#32))) i)

/-- The scores taken: those whose row number is in range, and the constant elsewhere. -/
def taken1 (x : FVec F S4096x100000 .f32) (i : IVec S4096x1 32) : FVec F S4096x1 .f32 :=
  select (Host.reduce IntOp.andi (andi (cmpi .sge (wrap1 (F := F) i) (broadcastInDim S4096x1x1 ![] bcast_S_S4096x1x1 (constantI S_ 32 0#32)))
      (cmpi .sle (wrap1 (F := F) i) (broadcastInDim S4096x1x1 ![0, 1, 2] bcast_S1x1x1_S4096x1x1_0_1_2 (broadcastInDim S1x1x1 ![2] bcast_S1_S1x1x1_2 (constantI S1 32 99999#32)))))
      (constantI S_ 1 1#1) reducesTo_S4096x1x1_S4096x1_d2 h_S_)
    (Host.gather gather_S4096x100000_S4096x1x1_S4096x1_n_1_0_0_1_2_11 x (wrap1 (F := F) i))
    (broadcastInDim S4096x1 ![] bcast_S_S4096x1 (constant S_ .f32 0x7FC00000#32))

/-- The row numbers as the gather reads them: the negative ones counted from the end. -/
def wrap5 (i : IVec S4096x5 32) : IVec S4096x5x1 32 :=
  shaped (Val := Elt F) (Tx := ⟨S4096x5, .i32⟩) (Ty := ⟨S4096x5x1, .i32⟩) rfl shapeCasts_S4096x5_S4096x5x1
    (select (cmpi .slt i (broadcastInDim S4096x5 ![] bcast_S_S4096x5 (constantI S_ 32 0#32))) (addi i (broadcastInDim S4096x5 ![] bcast_S_S4096x5 (constantI S_ 32 100000#32))) i)

/-- The scores taken: those whose row number is in range, and the constant elsewhere. -/
def taken5 (x : FVec F S4096x100000 .f32) (i : IVec S4096x5 32) : FVec F S4096x5 .f32 :=
  select (Host.reduce IntOp.andi (andi (cmpi .sge (wrap5 (F := F) i) (broadcastInDim S4096x5x1 ![] bcast_S_S4096x5x1 (constantI S_ 32 0#32)))
      (cmpi .sle (wrap5 (F := F) i) (broadcastInDim S4096x5x1 ![0, 1, 2] bcast_S1x1x1_S4096x5x1_0_1_2 (broadcastInDim S1x1x1 ![2] bcast_S1_S1x1x1_2 (constantI S1 32 99999#32)))))
      (constantI S_ 1 1#1) reducesTo_S4096x5x1_S4096x5_d2 h_S_)
    (Host.gather gather_S4096x100000_S4096x5x1_S4096x5_n_1_0_0_1_2_11 x (wrap5 (F := F) i))
    (broadcastInDim S4096x5 ![] bcast_S_S4096x5 (constant S_ .f32 0x7FC00000#32))

/-- The loss, of the targets' scores and the noise's. -/
def loss (p : FVec F S4096x1 .f32) (n : FVec F S4096x5 .f32) : FVec F S_ .f32 :=
  Host.negf (Host.divf (Host.reduceAdd (addf
      (broadcastInDim S4096x4096 ![0, 1] bcast_S4096x1_S4096x4096_0_1
        (Host.log (Host.divf (broadcastInDim S4096x1 ![] bcast_S_S4096x1 (constant S_ .f32 0x3F800000#32)) (addf (broadcastInDim S4096x1 ![] bcast_S_S4096x1 (constant S_ .f32 0x3F800000#32)) (Host.exp (Host.negf p))))))
      (broadcastInDim S4096x4096 ![0, 1] bcast_S1x4096_S4096x4096_0_1 (broadcastInDim S1x4096 ![1] bcast_S4096_S1x4096_1
        (Host.reduceAdd (Host.log (Host.divf (broadcastInDim S4096x5 ![] bcast_S_S4096x5 (constant S_ .f32 0x3F800000#32)) (addf (broadcastInDim S4096x5 ![] bcast_S_S4096x5 (constant S_ .f32 0x3F800000#32)) (Host.exp (Host.negf (Host.negf n)))))) (constant S_ .f32 0x00000000#32) reducesTo_S4096x5_S4096_d1 h_S_))))
      (constant S_ .f32 0x00000000#32) reducesTo_S4096x4096_S_d0_1 h_S_) (constant S_ .f32 0x4B800000#32))

theorem take1_says :
    Says (fn_take_along_axis.body (F := F) (.of main_arg0) (.of main_v0) main_call2) 1024 1046 fun V =>
      rd V (.of main_v10 : TRef sig ⟨S4096x1, .f32⟩) = taken1 (rd V (.of main_arg0 : TRef sig ⟨S4096x100000, .f32⟩)) (rd V (.of main_v0 : TRef sig ⟨S4096x1, .i32⟩)) := by
  unfold fn_take_along_axis.body
  repeat first
    | with_reducible refine Says.nullary (by decide +kernel) ?_
    | with_reducible refine Says.unary (by decide +kernel) ?_
    | with_reducible refine Says.binary (by decide +kernel) ?_
    | with_reducible refine Says.reshape (by decide +kernel) ?_
    | with_reducible refine Says.ternary (by decide +kernel) ?_
  refine Says.done (by decide +kernel) ?_
  intro V v15 v14 cst v13 v12 c3 v11 v10 v9 v8 v7 v6 c2 c1 v5 v4 v3 v2 c0 v1 v0 c
  have h5 : rd V main_call2.v5 = wrap1 (F := F) (rd V (.of main_v0 : TRef sig ⟨S4096x1, .i32⟩)) := by
    rw [v5, v4, v3, v2, c0, v1, v0, c]
    rfl
  have h12 : rd V main_call2.v12 = Host.reduce IntOp.andi (andi (cmpi .sge (wrap1 (F := F) (rd V (.of main_v0 : TRef sig ⟨S4096x1, .i32⟩))) (broadcastInDim S4096x1x1 ![] bcast_S_S4096x1x1 (constantI S_ 32 0#32)))
      (cmpi .sle (wrap1 (F := F) (rd V (.of main_v0 : TRef sig ⟨S4096x1, .i32⟩))) (broadcastInDim S4096x1x1 ![0, 1, 2] bcast_S1x1x1_S4096x1x1_0_1_2 (broadcastInDim S1x1x1 ![2] bcast_S1_S1x1x1_2 (constantI S1 32 99999#32)))))
      (constantI S_ 1 1#1) reducesTo_S4096x1x1_S4096x1_d2 h_S_ := by
    rw [v12, v11, c3, v10, v9, v8, v7, v6, c2, c1, h5]
  refine v15.trans ?_
  rw [h12, v13, h5, v14, cst]
  rfl

theorem take5_says :
    Says (fn_take_along_axis_3.body (F := F) (.of main_arg0) (.of main_v9) main_call3) 1046 1068 fun V =>
      rd V (.of main_v11 : TRef sig ⟨S4096x5, .f32⟩) = taken5 (rd V (.of main_arg0 : TRef sig ⟨S4096x100000, .f32⟩)) (rd V (.of main_v9 : TRef sig ⟨S4096x5, .i32⟩)) := by
  unfold fn_take_along_axis_3.body
  repeat first
    | with_reducible refine Says.nullary (by decide +kernel) ?_
    | with_reducible refine Says.unary (by decide +kernel) ?_
    | with_reducible refine Says.binary (by decide +kernel) ?_
    | with_reducible refine Says.reshape (by decide +kernel) ?_
    | with_reducible refine Says.ternary (by decide +kernel) ?_
  refine Says.done (by decide +kernel) ?_
  intro V v15 v14 cst v13 v12 c3 v11 v10 v9 v8 v7 v6 c2 c1 v5 v4 v3 v2 c0 v1 v0 c
  have h5 : rd V main_call3.v5 = wrap5 (F := F) (rd V (.of main_v9 : TRef sig ⟨S4096x5, .i32⟩)) := by
    rw [v5, v4, v3, v2, c0, v1, v0, c]
    rfl
  have h12 : rd V main_call3.v12 = Host.reduce IntOp.andi (andi (cmpi .sge (wrap5 (F := F) (rd V (.of main_v9 : TRef sig ⟨S4096x5, .i32⟩))) (broadcastInDim S4096x5x1 ![] bcast_S_S4096x5x1 (constantI S_ 32 0#32)))
      (cmpi .sle (wrap5 (F := F) (rd V (.of main_v9 : TRef sig ⟨S4096x5, .i32⟩))) (broadcastInDim S4096x5x1 ![0, 1, 2] bcast_S1x1x1_S4096x5x1_0_1_2 (broadcastInDim S1x1x1 ![2] bcast_S1_S1x1x1_2 (constantI S1 32 99999#32)))))
      (constantI S_ 1 1#1) reducesTo_S4096x5x1_S4096x5_d2 h_S_ := by
    rw [v12, v11, c3, v10, v9, v8, v7, v6, c2, c1, h5]
  refine v15.trans ?_
  rw [h12, v13, h5, v14, cst]
  rfl

theorem tail_says : Says (tail (F := F)) 1024 1098 fun V => rd V (.of main_v34 : TRef sig ⟨S_, .f32⟩)
    = loss (taken1 (rd V (.of main_arg0 : TRef sig ⟨S4096x100000, .f32⟩)) (rd V (.of main_v0 : TRef sig ⟨S4096x1, .i32⟩)))
        (taken5 (rd V (.of main_arg0 : TRef sig ⟨S4096x100000, .f32⟩)) (rd V (.of main_v9 : TRef sig ⟨S4096x5, .i32⟩))) := by
  unfold tail
  refine Says.then take1_says (by decide +kernel) ?_
  refine Says.then take5_says (by decide +kernel) ?_
  repeat first
    | with_reducible refine Says.nullary (by decide +kernel) ?_
    | with_reducible refine Says.unary (by decide +kernel) ?_
    | with_reducible refine Says.binary (by decide +kernel) ?_
    | with_reducible refine Says.reshape (by decide +kernel) ?_
    | with_reducible refine Says.ternary (by decide +kernel) ?_
  refine Says.done (by decide +kernel) ?_
  intro V v34 v33 c10 v32 c9 v31 v30 v29 v28 v27 c8 v26 v25 v24 c7 v23 v22 c6 v21 v20 v19 v18 v17 v16 c5 v15 v14 c v13 v12 v11 v10
  have h18 : rd V (.of main_v18 : TRef sig ⟨S4096x1, .f32⟩) = Host.log (Host.divf (broadcastInDim S4096x1 ![] bcast_S_S4096x1 (constant S_ .f32 0x3F800000#32)) (addf (broadcastInDim S4096x1 ![] bcast_S_S4096x1 (constant S_ .f32 0x3F800000#32)) (Host.exp (Host.negf (rd V (.of main_v10 : TRef sig ⟨S4096x1, .f32⟩)))))) := by
    rw [v18, v17, v16, c5, v15, v14, c, v13, v12]
  have h26 : rd V (.of main_v26 : TRef sig ⟨S4096x5, .f32⟩) = Host.log (Host.divf (broadcastInDim S4096x5 ![] bcast_S_S4096x5 (constant S_ .f32 0x3F800000#32)) (addf (broadcastInDim S4096x5 ![] bcast_S_S4096x5 (constant S_ .f32 0x3F800000#32)) (Host.exp (Host.negf (Host.negf (rd V (.of main_v11 : TRef sig ⟨S4096x5, .f32⟩))))))) := by
    rw [v26, v25, v24, c7, v23, v22, c6, v21, v20, v19]
  rw [← v10, ← v11, v34, v33, c10, v32, c9, v31, v30, v29, v28, v27, c8, h18, h26]
  rfl

end Cert.ReferenceIdeal.Host

end
-- ==== Proof.RefRun.lean ====
/-
  The reference's run, and that it draws the noise the kernel draws.
-/
module

public import proofs.«01_k».proof.Proof.SameDraws
public import proofs.«01_k».proof.Proof.RefHost
public import proofs.«01_k».proof.Proof.Ideal.KernelHost

@[expose] public section

set_option maxRecDepth 65536

noncomputable section

namespace Cert.KernelIdeal.Host

open Cert.KernelIdeal Cert.KernelIdeal.Shapes1.Facts₀
open Idealize.ShloMosaic Idealize.ShloMosaic.StableHlo Cert.HostLine
open Idealize.SL Idealize.SL.Sem

variable {F : FTy → Type} [FloatOps F]

/-- The draws of the noise. -/
def noise : Prog (TpuEff nD τ sig (Elt F) (SparseCore.Sig (Pipeline.Sig Λ₀ (Fin 1) fun p => (pcfgs (F := F) p).Adm) 1) .tc) PUnit := do
  hlo rfl (TRef.nullary (.of main_c) (constantI S_ 32 0#32)) (fun _ => .ret ⟨⟩)
  hlo rfl (TRef.nullary (.of main_c_0) (constantI S_ 32 32#32)) (fun _ => .ret ⟨⟩)
  hlo rfl (TRef.binary (.of main_c) (.of main_c_0) (.of main_v0) (Host.shrui : (⟨S_, .i32⟩ : BufTy).Contents (Elt F) → (⟨S_, .i32⟩ : BufTy).Contents (Elt F) → (⟨S_, .i32⟩ : BufTy).Contents (Elt F))) (fun _ => .ret ⟨⟩)
  hlo rfl (TRef.unary (.of main_v0) (.of main_v1) (id : (⟨S_, .i32⟩ : BufTy).Contents (Elt F) → (⟨S_, .i32⟩ : BufTy).Contents (Elt F))) (fun _ => .ret ⟨⟩)
  hlo rfl (TRef.unary (.of main_v1) (.of main_v2) (broadcastInDim S1 ![] bcast_S_S1 : (⟨S_, .i32⟩ : BufTy).Contents (Elt F) → (⟨S1, .i32⟩ : BufTy).Contents (Elt F))) (fun _ => .ret ⟨⟩)
  hlo rfl (TRef.nullary (.of main_c_1) (constantI S_ 32 4294967295#32)) (fun _ => .ret ⟨⟩)
  hlo rfl (TRef.binary (.of main_c) (.of main_c_1) (.of main_v3) (andi : (⟨S_, .i32⟩ : BufTy).Contents (Elt F) → (⟨S_, .i32⟩ : BufTy).Contents (Elt F) → (⟨S_, .i32⟩ : BufTy).Contents (Elt F))) (fun _ => .ret ⟨⟩)
  hlo rfl (TRef.unary (.of main_v3) (.of main_v4) (id : (⟨S_, .i32⟩ : BufTy).Contents (Elt F) → (⟨S_, .i32⟩ : BufTy).Contents (Elt F))) (fun _ => .ret ⟨⟩)
  hlo rfl (TRef.unary (.of main_v4) (.of main_v5) (broadcastInDim S1 ![] bcast_S_S1 : (⟨S_, .i32⟩ : BufTy).Contents (Elt F) → (⟨S1, .i32⟩ : BufTy).Contents (Elt F))) (fun _ => .ret ⟨⟩)
  hlo rfl (TRef.binary (.of main_v2) (.of main_v5) (.of main_v6) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))) (fun _ => .ret ⟨⟩)
  hlo rfl (TRef.nullary (.of main_c_2) (constantI S_ 32 1234#32)) (fun _ => .ret ⟨⟩)
  fn_threefry_fold_in.body (.of main_v6) (.of main_c_2) main_call0
  hlo rfl (TRef.nullary (.of main_c_3) (constantI S_ 32 0#32)) (fun _ => .ret ⟨⟩)
  hlo rfl (TRef.nullary (.of main_c_4) (constantI S_ 32 100000#32)) (fun _ => .ret ⟨⟩)
  fn_randint.body (.of main_v7) (.of main_c_3) (.of main_c_4) main_call1
  pure ⟨⟩

/-- The kernel's operands besides: the scores turned round, the noise laid out in one row. -/
def operands : Prog (TpuEff nD τ sig (Elt F) (SparseCore.Sig (Pipeline.Sig Λ₀ (Fin 1) fun p => (pcfgs (F := F) p).Adm) 1) .tc) PUnit := do
  hlo rfl (TRef.unary (.of main_arg0) (.of main_v9) ((transpose S100000x4096 [1, 0] · transposes_S4096x100000_S100000x4096_1_0) : (⟨S4096x100000, .f32⟩ : BufTy).Contents (Elt F) → (⟨S100000x4096, .f32⟩ : BufTy).Contents (Elt F))) (fun _ => .ret ⟨⟩)
  hlo rfl (TRef.reshape (.of main_v8) (.of main_v10) (rfl : (.i32 : EltTy) = .i32) shapeCasts_S4096x5_S20480) (fun _ => .ret ⟨⟩)
  pure ⟨⟩

theorem pre_eq : pre (F := F) = noise >>= fun _ => operands := by
  unfold pre noise operands
  simp only [bind_assoc, pure_bind]

theorem operands_says : Str (operands (F := F)) 1023 1025 fun _ => True := by
  unfold operands
  exact Str.unary_ (by decide +kernel) (Str.reshape_ (by decide +kernel) (Str.done (by decide +kernel)))

end Cert.KernelIdeal.Host

namespace Cert.SameDraws

open Idealize.ShloMosaic Idealize.ShloMosaic.StableHlo Cert.HostLine
open Idealize.SL Idealize.SL.Sem

variable {F : FTy → Type} [FloatOps F]

/-- The two draws, side by side. -/
theorem noise : Lock (KernelIdeal.Host.noise (F := F)) (ReferenceIdeal.Host.noise (F := F)) 2 1023 := by
  unfold KernelIdeal.Host.noise ReferenceIdeal.Host.noise KernelIdeal.fn_randint.body ReferenceIdeal.fn_randint.body
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
  refine Lock.append (from_ (by decide +kernel) fold) ?_
  repeat first
    | with_reducible refine Lock.nullary (by decide +kernel) rfl ?_
    | with_reducible refine Lock.unary (by decide +kernel) rfl ?_
    | with_reducible refine Lock.binary (by decide +kernel) rfl ?_
    | with_reducible refine Lock.reshape (by decide +kernel) ?_
    | with_reducible refine Lock.ternary (by decide +kernel) rfl ?_
  rw [bind_assoc, bind_assoc]
  refine Lock.append (from_ (by decide +kernel) draw0) ?_
  refine Lock.append (from_ (by decide +kernel) draw1) ?_
  exact Lock.done (by decide +kernel)

/-- The kernel's operations before its SparseCore call are the draws and two more; the reference's are its targets laid
    out, the same draws, and the loss. -/
theorem lines [∀ e, Nonempty (Elt F e)] : ∃ (a b : List (HloOp KernelIdeal.τ KernelIdeal.sig (Elt F))) (l c t : List (HloOp ReferenceIdeal.τ ReferenceIdeal.sig (Elt F))),
    KernelIdeal.Host.pre (F := F) = seq (a ++ b) ∧ Ok a 2 1023 ∧ Ok b 1023 1025
      ∧ (∀ d, ReferenceIdeal.main (F := F) d = seq (l ++ (c ++ t))) ∧ Ok l 2 3 ∧ Ok c 3 1024 ∧ Ok t 1024 1098
      ∧ (∀ V V', Agree 2 V V' → Agree 1023 (after a V) (after c V'))
      ∧ (∀ V, rd (after l V) (.of ReferenceIdeal.main_v0 : TRef _ ⟨ReferenceIdeal.S4096x1, .i32⟩)
          = shaped (Tx := ⟨ReferenceIdeal.S4096, .i32⟩) (Ty := ⟨ReferenceIdeal.S4096x1, .i32⟩) rfl ReferenceIdeal.Facts₀.shapeCasts_S4096_S4096x1
              (rd (after l V) (.of ReferenceIdeal.main_arg1 : TRef _ ⟨ReferenceIdeal.S4096, .i32⟩)))
      ∧ (∀ V, rd (after t V) (.of ReferenceIdeal.main_v34 : TRef _ ⟨ReferenceIdeal.S_, .f32⟩)
          = ReferenceIdeal.Host.loss (ReferenceIdeal.Host.taken1 (rd (after t V) (.of ReferenceIdeal.main_arg0 : TRef _ ⟨ReferenceIdeal.S4096x100000, .f32⟩)) (rd (after t V) (.of ReferenceIdeal.main_v0 : TRef _ ⟨ReferenceIdeal.S4096x1, .i32⟩)))
              (ReferenceIdeal.Host.taken5 (rd (after t V) (.of ReferenceIdeal.main_arg0 : TRef _ ⟨ReferenceIdeal.S4096x100000, .f32⟩)) (rd (after t V) (.of ReferenceIdeal.main_v9 : TRef _ ⟨ReferenceIdeal.S4096x5, .i32⟩)))) := by
  obtain ⟨a, c, ha, hc, oka, okc, hag⟩ := noise (F := F)
  obtain ⟨-, b, hb, okb, -⟩ := KernelIdeal.Host.operands_says (F := F)
  obtain ⟨El, ⟨-, l, hl, okl, hEl⟩, hQl⟩ := ReferenceIdeal.Host.lead_says (F := F)
  obtain ⟨Et, ⟨-, t, ht, okt, hEt⟩, hQt⟩ := ReferenceIdeal.Host.tail_says (F := F)
  exact ⟨a, b, l, c, t, by rw [KernelIdeal.Host.pre_eq, ha, hb, seq_append], oka, okb, fun d => by rw [ReferenceIdeal.Host.main_eq, hl, hc, ht, seq_append, seq_append],
    okl, okc, okt, hag, fun V => hQl _ (hEl V), fun V => hQt _ (hEt V)⟩

end Cert.SameDraws

namespace Cert.ReferenceIdeal.Host

open Cert.ReferenceIdeal
open Idealize.ShloMosaic Idealize.ShloMosaic.TcCoe Idealize.ShloMosaic.StableHlo Cert.HostLine
open Idealize.SL Idealize.SL.Sem

variable {F : FTy → Type} [FloatOps F]

theorem no_scoped : (Finset.univ.filter fun b : Ref sig .tc => b.isScoped) = ∅ := by decide +kernel
theorem no_scopedSems : (Finset.univ.filter fun sm : SemLoc sig => sm.isScoped .tc) = ∅ := by decide +kernel

/-- The reference runs to its end, where every array is at what its line leaves. -/
theorem run (ops : List (HloOp τ sig (Elt F))) (hmain : ∀ d, main (F := F) d = seq ops) {n n' : Nat} (ok : Ok ops n n')
    (m : (ℓ : Loc nD τ sig) → Buf (Elt F) ℓ) (g : Dev nD → PrngReg) :
    θ_run (defs (F := F)) (onTc (τ := τ) (main (F := F))) ⟨m, fun _ => 0, g⟩ fun r =>
      ∀ (d : Dev nD) (b : Ref sig .tc), r.2.mem ((d.tc : Thread nD τ).loc b) = after ops (launchContents m d) (Proc.devRef .tc b) :=
  run_seq no_scoped no_scopedSems defs main (fun _ => ops) hmain (fun _ => List.forall_iff_forall_mem.mpr fun op h => (ok.2 op h).1) m g
    (fun _ op h => (ok.2 op h).2.1)

/-- Its arguments are unchanged, and no semaphore counts. -/
theorem frame [∀ e, Nonempty (Elt F e)] (m : (ℓ : Loc nD τ sig) → Buf (Elt F) ℓ) (g : Dev nD → PrngReg) :
    θ_run (defs (F := F)) (onTc (τ := τ) (main (F := F))) ⟨m, fun _ => 0, g⟩ fun r =>
      (∀ d : Dev nD, r.2.mem ((d.tc : Thread nD τ).loc main_arg0) = m ((d.tc : Thread nD τ).loc main_arg0)
        ∧ r.2.mem ((d.tc : Thread nD τ).loc main_arg1) = m ((d.tc : Thread nD τ).loc main_arg1)) ∧ r.2.sem = fun _ => 0 := by
  obtain ⟨-, -, l, c, t, -, -, -, hm, okl, okc, okt, -⟩ := Cert.SameDraws.lines (F := F)
  have ok := okl.append (okc.append okt)
  refine (θ_run defs _ _).mono (fun r h => ⟨fun d => ⟨(h d main_arg0).trans (ok.keeps _ (k := 0) ⟨rfl, rfl⟩ (.inl (by decide))), (h d main_arg1).trans (ok.keeps _ (k := 1) ⟨rfl, rfl⟩ (.inl (by decide)))⟩,
    sem_eq_zero_of_no_sems (by decide) r.2⟩) (run _ hm ok m g)

end Cert.ReferenceIdeal.Host

end
-- ==== Proof.Range.lean ====
/-
  What the precondition says: the targets are row numbers of the table.
-/
module

public import proofs.«01_k».proof.Defs
public import proofs.«01_k».proof.Proof.Gen.Pre_in_range
public import Idealize.ShloMosaic.Lib.WordCmp
public import Idealize.ShloMosaic.Lib.ReduceAll

@[expose] public section

namespace Cert.Range

open Idealize.ShloMosaic

/-- Where `(0 ≤ target) & (target < 100000)` holds of all of them, every target is below 100000. -/
theorem of_pre {F : FTy → Type} [FloatOps F] (x : FVec F Cert.Pre_in_range.S4096x100000 .f32) (t : IVec Cert.Pre_in_range.S4096 32)
    (h : Cert.Pre_in_range.fn x t = fun _ => 1#1) (j : Cert.Pre_in_range.S4096.Idx) : (t j).toNat < 100000 := by
  have e := congrFun h (fun a => a.elim0)
  unfold Cert.Pre_in_range.fn at e
  have e := Host.reduce_andi_all _ _ _ _ _ e j
  have key : ∀ v : BitVec 32, IntOp.andi (IntOp.cmpi .sge v 0#32) (IntOp.cmpi .slt v 100000#32) = 1#1 → v.toNat < 100000 := by
    have andi_ofBool (p q : Bool) : IntOp.andi (BitVec.ofBool p) (BitVec.ofBool q) = BitVec.ofBool (p && q) := by
      cases p <;> cases q <;> decide
    have ofBool_eq_one (p : Bool) : (BitVec.ofBool p = 1#1) ↔ p = true := by cases p <;> decide
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  exact key _ e

end Cert.Range
-- ==== Proof.Frames.lean ====
/-
  The frame claims: each program runs to its end, leaves its arguments as they were and every semaphore at zero.
-/
module

public import proofs.«01_k».proof.Proof.MainRun
public import proofs.«01_k».proof.Proof.Ideal.MainRun
public import proofs.«01_k».proof.Proof.RefRun
public import proofs.«01_k».proof.Proof.Range

@[expose] public section

noncomputable section

namespace Cert.Frames

open Idealize.ShloMosaic Idealize.ShloMosaic.TcCoe
open Idealize.SL Idealize.SL.Sem

/-- The kernel at the machine's floats. -/
theorem kernel : Cert.quiescent_Kernel (hKernel := Cert.Kernel.Gen.facts) (hPre_in_range := Cert.Pre_in_range.Gen.facts) := fun m g h =>
  (θ_run Cert.Kernel.defs _ _).mono (fun _ h => ⟨fun c => ⟨(h.1 c).1, (h.1 c).2.1⟩, h.2⟩)
    (Cert.Kernel.Tile.run_main (F := Bits) m g fun d j => Cert.Range.of_pre _ _ (h d) j)

/-- The kernel over the extended reals. -/
theorem kernelIdeal : Cert.quiescent_KernelIdeal (hKernelIdeal := Cert.KernelIdeal.Gen.facts) (hPre_in_range := Cert.Pre_in_range.Gen.facts) := fun m g h =>
  (θ_run Cert.KernelIdeal.defs _ _).mono (fun _ h => ⟨fun c => ⟨(h.1 c).1, (h.1 c).2.1⟩, h.2⟩)
    (Cert.KernelIdeal.Tile.run_main (F := Ideal) m g fun d j => Cert.Range.of_pre _ _ (h d) j)

/-- The reference over the extended reals, from every memory. -/
theorem referenceIdeal : Cert.quiescent_ReferenceIdeal (hReferenceIdeal := Cert.ReferenceIdeal.Gen.facts) := fun m g _ =>
  Cert.ReferenceIdeal.Host.frame (F := Ideal) m g

end Cert.Frames

end
-- ==== Proof.RefMath.lean ====
/-
  What the reference computes over the extended reals, where every row number is in range: minus the mean, over the
  4096 × 4096 pairs of a target and a row of noise, of the sum of the logarithms of their sigmoids.
-/
module

public import proofs.«01_k».proof.Proof.RefHost
public import Idealize.ShloMosaic.PureOps.Ideal.Laws
public import Idealize.ShloMosaic.Lib.ReduceAll
public import Idealize.ShloMosaic.Lib.Pointwise.Reduce
public import Idealize.ShloMosaic.Lib.Pointwise.ShapeOps
public import Idealize.ShloMosaic.Lib.Pointwise.Reshape
public import Idealize.ShloMosaic.Lib.Pointwise.Elementwise
public import Idealize.ShloMosaic.Lib.ValueIdxCore

@[expose] public section

set_option maxRecDepth 65536

noncomputable section

namespace Cert.ReferenceIdeal.Host

open Cert.ReferenceIdeal Cert.ReferenceIdeal.Facts₀
open Idealize.ShloMosaic

/-- The logarithm of the sigmoid. -/
def ls (y : EReal) : EReal := Ideal.log (Ideal.logistic y)

theorem bits_one : Ideal.ofBits .f32 0x3F800000#32 = 1 := by
  simp [Ideal.ofBits, Ideal.ieee, -EReal.coe_mul]; norm_num
theorem bits_zero : Ideal.ofBits .f32 0x00000000#32 = 0 := by
  simp [Ideal.ofBits, Ideal.ieee, -EReal.coe_mul]
theorem bits_pairs : Ideal.ofBits .f32 0x4B800000#32 = ((16777216 : ℝ) : EReal) := by
  simp [Ideal.ofBits, Ideal.ieee, -EReal.coe_mul]; norm_num

/-! ## The loss -/

/-- The sum over the pairs: every target meets every row of noise, so each term counts as often as there are rows. -/
theorem sum_pairs {n : ℕ} (f g : Fin n → EReal) : ∑ a, ∑ b, (f a + g b) = n • (∑ a, f a + ∑ b, g b) := by
  simp only [Finset.sum_add_distrib, Finset.sum_const, Finset.card_univ, Fintype.card_fin, ← Finset.smul_sum, smul_add]

/-- The logarithms of the sigmoids of the targets' scores. -/
def posLogs (p : FVec Ideal S4096x1 .f32) : FVec Ideal S4096x1 .f32 :=
  Host.log (Host.divf (broadcastInDim S4096x1 ![] bcast_S_S4096x1 (constant S_ .f32 0x3F800000#32)) (addf (broadcastInDim S4096x1 ![] bcast_S_S4096x1 (constant S_ .f32 0x3F800000#32)) (Host.exp (Host.negf p))))
/-- The logarithms of the sigmoids of the noise's negated scores. -/
def negLogs (n : FVec Ideal S4096x5 .f32) : FVec Ideal S4096x5 .f32 :=
  Host.log (Host.divf (broadcastInDim S4096x5 ![] bcast_S_S4096x5 (constant S_ .f32 0x3F800000#32)) (addf (broadcastInDim S4096x5 ![] bcast_S_S4096x5 (constant S_ .f32 0x3F800000#32)) (Host.exp (Host.negf (Host.negf n)))))
/-- Their sums over each row. -/
def negSums (n : FVec Ideal S4096x5 .f32) : FVec Ideal S4096 .f32 :=
  Host.reduceAdd (negLogs n) (constant S_ .f32 0x00000000#32) reducesTo_S4096x5_S4096_d1 h_S_
/-- The pairs' sums. -/
def pairs (p : FVec Ideal S4096x1 .f32) (n : FVec Ideal S4096 .f32) : FVec Ideal S4096x4096 .f32 :=
  addf (broadcastInDim S4096x4096 ![0, 1] bcast_S4096x1_S4096x4096_0_1 p)
    (broadcastInDim S4096x4096 ![0, 1] bcast_S1x4096_S4096x4096_0_1 (broadcastInDim S1x4096 ![1] bcast_S4096_S1x4096_1 n))

theorem posLogs_at (p : FVec Ideal S4096x1 .f32) (i : S4096x1.Idx) : posLogs p i = ls (p i) := by
  simp only [posLogs, addf, Host.log, Host.exp, Host.divf, Host.negf, broadcastInDim, constant, Ideal.hostDivf_def, Ideal.addf_def,
    Ideal.hostUnary_exp_def, Ideal.hostUnary_log_def, Ideal.hostNegf_def, Ideal.negf_def, Ideal.ofBits_def, bits_one, ls, Ideal.logistic]

theorem negLogs_at (n : FVec Ideal S4096x5 .f32) (i : S4096x5.Idx) : negLogs n i = ls (-(n i)) := by
  simp only [negLogs, addf, Host.log, Host.exp, Host.divf, Host.negf, broadcastInDim, constant, Ideal.hostDivf_def, Ideal.addf_def,
    Ideal.hostUnary_exp_def, Ideal.hostUnary_log_def, Ideal.hostNegf_def, Ideal.negf_def, Ideal.ofBits_def, bits_one, ls, Ideal.logistic]

theorem negSums_at (n : FVec Ideal S4096x5 .f32) (b : S4096.Idx) : negSums n b = ∑ k : Fin 5, ls (-(n (ix2 (b 0) k))) := by
  unfold negSums
  rw [Host.reduceAdd_apply, Ideal.hostReduceAdd_def, Ideal.hostReduceAdd_r2_a1, constant_apply, Ideal.ofBits_def, bits_zero, zero_add]
  exact Finset.sum_congr rfl fun k _ => negLogs_at _ _

theorem pairs_at (p : FVec Ideal S4096x1 .f32) (n : FVec Ideal S4096 .f32) (a b : Fin 4096) :
    pairs p n (ix2 a b) = (p (ix2 a 0) : EReal) + (n (ix1 b) : EReal) := by
  refine congrArg₂ (fun x y : EReal => x + y) (congrArg p ?_) (congrArg n ?_)
  · funext c; match c with | ⟨0, _⟩ => rfl | ⟨1, _⟩ => rfl
  · funext c; match c with | ⟨0, _⟩ => rfl

theorem total_at (x : FVec Ideal S4096x4096 .f32) (j : S_.Idx) :
    Host.reduceAdd x (constant S_ .f32 0x00000000#32) reducesTo_S4096x4096_S_d0_1 h_S_ j = ∑ a : Fin 4096, ∑ b : Fin 4096, (x (ix2 a b) : EReal) := by
  rw [Host.reduceAdd_apply, Ideal.hostReduceAdd_def, Ideal.hostReduceAdd_total _ (fun b => b.elim0), constant_apply, Ideal.ofBits_def, bits_zero, zero_add,
    sum_idx2]

/-- The sum of the logarithms over the targets and the noise. -/
def logsSum (p : S4096x1.Idx → EReal) (n : S4096x5.Idx → EReal) : EReal :=
  ∑ a : Fin 4096, ls (p (ix2 a 0)) + ∑ b : Fin 4096, ∑ k : Fin 5, ls (-(n (ix2 b k)))

/-- The loss: minus the sum of the logarithms, counted 4096 times, over the number of pairs. -/
theorem loss_eq (p : FVec Ideal S4096x1 .f32) (n : FVec Ideal S4096x5 .f32) (j : S_.Idx) : loss p n j
    = -(Ideal.div (4096 * logsSum p n) ((16777216 : ℝ) : EReal)) := by
  have h : Host.reduceAdd (pairs (posLogs p) (negSums n)) (constant S_ .f32 0x00000000#32) reducesTo_S4096x4096_S_d0_1 h_S_ j = 4096 * logsSum p n := by
    rw [total_at]
    simp only [pairs_at, posLogs_at, negSums_at]
    rw [sum_pairs, EReal.nsmul_eq_mul]
    rfl
  rw [← h, ← bits_pairs]
  rfl

/-! ## The scores taken -/

/-- The gather of one score of every row per row number, read at `y`. -/
theorem gather_at {α : Type} {N C B : Nat} (hN : 0 < N) (d : GatherDims ⟨2, ![B, N]⟩ ⟨3, ![B, C, 1]⟩ ⟨2, ![B, C]⟩)
    (hd : ∃ wf, d = ⟨[], [1], [0], [0], [1], 2, ![1, 1], wf⟩)
    (x : (⟨2, ![B, N]⟩ : Shape).Idx → α) (idx : IVec ⟨3, ![B, C, 1]⟩ 32) (y : (⟨2, ![B, C]⟩ : Shape).Idx) :
    Host.gather d x idx y
      = x (ix2 (y 0) ⟨min (idx (ix3 (y 0) (y 1) (0 : Fin 1))).toInt.toNat (N - 1), by omega⟩) := by
  obtain ⟨wf, rfl⟩ := hd
  unfold Host.gather
  congr 1
  funext a
  refine Fin.ext ?_
  generalize hd : (⟨[], [1], [0], [0], [1], 2, ![1, 1], wf⟩ : GatherDims ⟨2, ![B, N]⟩ ⟨3, ![B, C, 1]⟩ ⟨2, ![B, C]⟩) = d
  show d.start y idx a + d.batchCoord y a + d.offCoord y a = _
  have h01 : a = 0 ∨ a = 1 := by
    match a with
    | ⟨0, _⟩ => exact Or.inl rfl
    | ⟨1, _⟩ => exact Or.inr rfl
  subst hd
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z => min (idx z).toInt.toNat (N - 1)) ?_
    funext b; refine Fin.ext ?_
    match b with
    | ⟨0, _⟩ => rfl
    | ⟨1, _⟩ => rfl
    | ⟨2, _⟩ => rfl

/-- A word in range is not negative. -/
theorem not_wrapped (v a : BitVec 32) (h : v.toNat < 100000) : Scalar.select (IntOp.cmpi .slt v 0#32) a v = v := by
  have e : IntOp.cmpi .slt v 0#32 ≠ 1 := by
    have ofBool_eq_one (p : Bool) : (BitVec.ofBool p = 1) ↔ p = true := by cases p <;> decide
    simp only [IntOp.cmpi, ne_eq, ofBool_eq_one, BitVec.slt_eq_decide, decide_eq_true_eq, BitVec.toInt_eq_toNat_cond, BitVec.toNat_ofNat, Nat.reducePow, Nat.reduceMod]
    omega
  unfold Scalar.select
  rw [if_neg e]

/-- A word in range passes the test of the two bounds. -/
theorem within (v : BitVec 32) (h : v.toNat < 100000) : IntOp.andi (IntOp.cmpi .sge v 0#32) (IntOp.cmpi .sle v 99999#32) = 1#1 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod]
  omega

/-- A word in range, read as the gather reads it. -/
theorem clamped (v : BitVec 32) (h : v.toNat < 100000) : min v.toInt.toNat (100000 - 1) = v.toNat := by
  simp only [BitVec.toInt_eq_toNat_cond, Nat.reducePow]
  omega

theorem wrap1_at (i : IVec S4096x1 32) (hi : ∀ y, (i y).toNat < 100000) (z : S4096x1x1.Idx) : wrap1 (F := Ideal) i z = i (ix2 (z 0) (z 1)) := by
  refine (not_wrapped _ _ (hi _)).trans (congrArg i ?_)
  refine Shape.reshapeEquiv_eq_of_vals _ _ _ _ _ (rowMajor_val2 _ 1 rfl) (rowMajor_val3 _ 1 1 rfl rfl) ?_
  have := (z 2).isLt
  have : (z 2).val < 1 := this
  show (z 0).val * 1 + (z 1).val = (z 0).val * 1 + (z 1).val * 1 + (z 2).val
  omega

theorem wrap5_at (i : IVec S4096x5 32) (hi : ∀ y, (i y).toNat < 100000) (z : S4096x5x1.Idx) : wrap5 (F := Ideal) i z = i (ix2 (z 0) (z 1)) := by
  refine (not_wrapped _ _ (hi _)).trans (congrArg i ?_)
  refine Shape.reshapeEquiv_eq_of_vals _ _ _ _ _ (rowMajor_val2 _ 5 rfl) (rowMajor_val3 _ 5 1 rfl rfl) ?_
  have := (z 2).isLt
  have : (z 2).val < 1 := this
  show (z 0).val * 5 + (z 1).val = (z 0).val * 5 + (z 1).val * 1 + (z 2).val
  omega

/-- The score taken of row `y 0`: the one whose number the list holds. -/
theorem taken1_at (x : FVec Ideal S4096x100000 .f32) (i : IVec S4096x1 32) (hi : ∀ y, (i y).toNat < 100000) (y : S4096x1.Idx) :
    taken1 x i y = x (ix2 (y 0) ⟨(i y).toNat, hi y⟩) := by
  unfold taken1
  refine (if_pos (Host.reduce_andi_one _ _ _ _ y rfl fun z => ?_)).trans ?_
  · show IntOp.andi (IntOp.cmpi .sge (wrap1 (F := Ideal) i z) 0#32) (IntOp.cmpi .sle (wrap1 (F := Ideal) i z) 99999#32) = 1#1
    rw [wrap1_at i hi]
    exact within _ (hi _)
  · refine (gather_at (by decide) _ ⟨_, rfl⟩ x _ y).trans (congrArg (fun k => x (ix2 (y 0) k)) (Fin.ext ?_))
    show min (wrap1 (F := Ideal) i _).toInt.toNat (100000 - 1) = _
    rw [wrap1_at i hi, clamped _ (hi _)]
    refine congrArg (fun z => (i z).toNat) ?_
    funext c; match c with | ⟨0, _⟩ => rfl | ⟨1, _⟩ => rfl

/-- The scores taken of row `y 0`: those whose numbers the list holds. -/
theorem taken5_at (x : FVec Ideal S4096x100000 .f32) (i : IVec S4096x5 32) (hi : ∀ y, (i y).toNat < 100000) (y : S4096x5.Idx) :
    taken5 x i y = x (ix2 (y 0) ⟨(i y).toNat, hi y⟩) := by
  unfold taken5
  refine (if_pos (Host.reduce_andi_one _ _ _ _ y rfl fun z => ?_)).trans ?_
  · show IntOp.andi (IntOp.cmpi .sge (wrap5 (F := Ideal) i z) 0#32) (IntOp.cmpi .sle (wrap5 (F := Ideal) i z) 99999#32) = 1#1
    rw [wrap5_at i hi]
    exact within _ (hi _)
  · refine (gather_at (by decide) _ ⟨_, rfl⟩ x _ y).trans (congrArg (fun k => x (ix2 (y 0) k)) (Fin.ext ?_))
    show min (wrap5 (F := Ideal) i _).toInt.toNat (100000 - 1) = _
    rw [wrap5_at i hi, clamped _ (hi _)]
    refine congrArg (fun z => (i z).toNat) ?_
    funext c; match c with | ⟨0, _⟩ => rfl | ⟨1, _⟩ => rfl

end Cert.ReferenceIdeal.Host

end
-- ==== Proof.KerMath.lean ====
/-
  What the kernel computes over the extended reals: minus the sum of the logarithms of the sigmoids over 4096, each
  target's and each noise word's term once.
-/
module

public import proofs.«01_k».proof.Proof.Ideal.LossBody
public import proofs.«01_k».proof.Proof.Ideal.Geo
public import proofs.«01_k».proof.Proof.RefMath

@[expose] public section

set_option maxRecDepth 65536

noncomputable section

namespace Cert.KernelIdeal.Tile

open Cert.KernelIdeal Cert.KernelIdeal.Shapes1.Facts₀
open Idealize.ShloMosaic
open Cert.ReferenceIdeal.Host (ls bits_zero logsSum)
open Cert.HostLine (shaped)

/-! ## Words -/

/-- The row number modulo six, of the row number's word. -/
def roleW (v : BitVec 32) : BitVec 32 :=
  Scalar.select (IntOp.andi (IntOp.xori (IntOp.cmpi .slt (IntOp.remsi .vector v six) 0#32) (Scalar.cmpi .slt six 0#32))
    (IntOp.cmpi .ne (IntOp.remsi .vector v six) 0#32)) (IntOp.addi (IntOp.remsi .vector v six) six) (IntOp.remsi .vector v six)

/-- The lane, of the words of the row number modulo six and of the column number. -/
def laneW (s c : BitVec 32) : BitVec 32 :=
  IntOp.andi (Scalar.select (IntOp.cmpi .eq s 0#32) c
    (IntOp.shrsi .vector (IntOp.muli (IntOp.addi (IntOp.muli (IntOp.subi s 1#32) 128#32) c) 6554#32) 15#32)) 7#32

/-- The batch row, within the tile, of the tile's `e`-th entry. -/
def rowNo (e : ℕ) : ℕ := if e < 128 then e else (e - 128) / 5

theorem roleW_eq : ∀ r : Fin 192, roleW (BitVec.ofNat 32 (0 * 192 + r.val)) = BitVec.ofNat 32 (r.val % 6) := by decide +kernel
theorem laneW_eq : ∀ (s : Fin 6) (c : Fin 128), laneW (BitVec.ofNat 32 s.val) (BitVec.ofNat 32 (0 * 128 + c.val)) = BitVec.ofNat 32 (rowNo (s.val * 128 + c.val) % 8) := by
  decide +kernel

theorem role_at (r : Fin 192) (c : Fin 128) : role (ix2 r c) = BitVec.ofNat 32 (r.val % 6) :=
  (show role (ix2 r c) = roleW (BitVec.ofNat 32 (0 * 192 + r.val)) from rfl).trans (roleW_eq r)

theorem lane_at (r : Fin 192) (c : Fin 128) : lane (ix2 r c) = BitVec.ofNat 32 (rowNo (r.val % 6 * 128 + c.val) % 8) := by
  have h : lane (ix2 r c) = laneW (role (ix2 r c)) (BitVec.ofNat 32 (0 * 128 + c.val)) := rfl
  rw [h, role_at]
  exact laneW_eq ⟨r.val % 6, Nat.mod_lt _ (by decide)⟩ c

theorem select_eq {α : Type} {n a b : ℕ} (ha : a < 2 ^ n) (hb : b < 2 ^ n) (x y : α) :
    Scalar.select (IntOp.cmpi .eq (BitVec.ofNat n a) (BitVec.ofNat n b)) x y = if a = b then x else y := by
  have ofBool_eq_one (p : Bool) : (BitVec.ofBool p = 1) ↔ p = true := by cases p <;> decide
  have e : (BitVec.ofNat n a = BitVec.ofNat n b) ↔ a = b := by
    rw [← BitVec.toNat_inj, BitVec.toNat_ofNat, BitVec.toNat_ofNat, Nat.mod_eq_of_lt ha, Nat.mod_eq_of_lt hb]
  unfold Scalar.select
  refine if_congr ?_ rfl rfl
  simp only [IntOp.cmpi, ofBool_eq_one, beq_iff_eq, e]

/-! ## The lane picked -/

theorem masked_at (x : FVec Ideal S192x128x8 .f32) (r : Fin 192) (c : Fin 128) (k : Fin 8) :
    masked x (ix3 r c k) = if k.val = rowNo (r.val % 6 * 128 + c.val) % 8 then (x (ix3 r c k) : EReal) else 0 := by
  have hl : (broadcastTo S192x128x8 (shapeCast S192x128x1 lane shapeCasts_S192x128_S192x128x1) broadcasts_S192x128x1_S192x128x8) (ix3 r c k)
      = lane (ix2 r c) := by
    refine congrArg lane ?_
    refine Shape.reshapeEquiv_eq_of_vals _ _ _ _ _ (rowMajor_val2 _ 128 rfl) (rowMajor_val3 _ 128 1 rfl rfl) ?_
    show r.val * 128 + c.val = r.val * 128 + c.val * 1 + 0
    omega
  have h : masked x (ix3 r c k) = Scalar.select (IntOp.cmpi .eq (BitVec.ofNat 32 (0 * 8 + k.val))
      ((broadcastTo S192x128x8 (shapeCast S192x128x1 lane shapeCasts_S192x128_S192x128x1) broadcasts_S192x128x1_S192x128x8) (ix3 r c k)))
      (shapeCast S192x128x8 x shapeCasts_S192x128x8_S192x128x8 (ix3 r c k)) (Ideal.ofBits .f32 0x00000000#32) := rfl
  rw [h, hl, lane_at, shapeCast_id, bits_zero, Nat.zero_mul, Nat.zero_add]
  exact select_eq (by have := k.isLt; omega) (by omega) _ _

theorem pick_at (x : FVec Ideal S192x128x8 .f32) (r : Fin 192) (c : Fin 128) :
    pick x (ix2 r c) = x (ix3 r c ⟨rowNo (r.val % 6 * 128 + c.val) % 8, Nat.mod_lt _ (by decide)⟩) := by
  have h : pick x (ix2 r c) = Ideal.reduceAdd reduces_S192x128x8_S192x128 (masked x) (ix2 r c) := rfl
  rw [h, Ideal.reduceAdd_r3_a2]
  refine (Finset.sum_congr rfl fun k _ => masked_at x r c k).trans ?_
  rw [Finset.sum_eq_single (⟨rowNo (r.val % 6 * 128 + c.val) % 8, Nat.mod_lt _ (by decide)⟩ : Fin 8)
    (fun k _ hk => if_neg fun h => hk (Fin.ext h)) (fun h => absurd (Finset.mem_univ _) h)]
  exact if_pos rfl

/-- The term of each group: a target's score, or a noise word's negated score. -/
theorem logs_at (x : FVec Ideal S192x128x8 .f32) (r : Fin 192) (c : Fin 128) :
    logs x (ix2 r c) = ls (if r.val % 6 = 0 then (pick x (ix2 r c) : EReal) else -(pick x (ix2 r c) : EReal)) := by
  have h : logs x (ix2 r c) = ls (Scalar.select (IntOp.cmpi .eq (role (ix2 r c)) (BitVec.ofNat 32 0)) (pick x (ix2 r c) : EReal)
      (Ideal.ofBits .f32 0x00000000#32 - pick x (ix2 r c) : EReal)) := rfl
  rw [h, role_at, select_eq (by omega) (by omega), bits_zero, zero_sub]

theorem logSum_at (x : FVec Ideal S192x128x8 .f32) (j : S1.Idx) :
    logSum x j = ∑ r : Fin 192, ∑ c : Fin 128, ls (if r.val % 6 = 0 then (pick x (ix2 r c) : EReal) else -(pick x (ix2 r c) : EReal)) := by
  have h : logSum x j = Ideal.reduceAdd reduces_S1x192x128_S1 (shapeCast S1x192x128 (logs x) shapeCasts_S192x128_S1x192x128) j := rfl
  rw [h, Ideal.reduceAdd_total _ (fun b => by match b with | ⟨0, _⟩ => rfl), sum_idx3, Fin.sum_univ_one]
  refine Finset.sum_congr rfl fun r _ => Finset.sum_congr rfl fun c _ => (congrArg (logs x) ?_).trans (logs_at x r c)
  refine Shape.reshapeEquiv_eq_of_vals _ _ _ _ _ (rowMajor_val2 _ 128 rfl) (rowMajor_val3 _ 24576 128 rfl rfl) ?_
  show r.val * 128 + c.val = 0 * 24576 + r.val * 128 + c.val
  omega

theorem bits_rows : Ideal.ofBits .f32 0x45800000#32 = ((4096 : ℝ) : EReal) := by
  simp [Ideal.ofBits, Ideal.ieee, -EReal.coe_mul]; norm_num

theorem lossVal_at (x : FVec Ideal S192x128x8 .f32) (j : S1x1.Idx) :
    lossVal x j = Ideal.div (0 - ∑ r : Fin 192, ∑ c : Fin 128, ls (if r.val % 6 = 0 then (pick x (ix2 r c) : EReal) else -(pick x (ix2 r c) : EReal))) ((4096 : ℝ) : EReal) := by
  have h : lossVal x j = Ideal.div (Ideal.ofBits .f32 0x00000000#32 - logSum x (Shape.reshapeEquiv shapeCasts_S1_S1x1x1 (fun a => ⟨![0, 0, 0] a, inpos_S1x1x1_p0_0_0 a⟩))) (Ideal.ofBits .f32 0x45800000#32) := rfl
  rw [h, logSum_at, bits_zero, bits_rows]

/-! ## The sum, in the batch's order -/

/-- A sum over `m * n` numbers, row by row. -/
theorem sum_grid (n : ℕ) (f : ℕ → EReal) (m : ℕ) : ∑ i ∈ Finset.range (m * n), f i = ∑ a ∈ Finset.range m, ∑ b ∈ Finset.range n, f (a * n + b) := by
  induction m with
  | zero => simp
  | succ m ih => rw [Nat.succ_mul, Finset.sum_range_add, ih, Finset.sum_range_succ]

/-- The tiles' terms are the batch's: a tile has its 128 targets' and its 640 noise words'. -/
theorem sum_layout (G : ℕ → ℕ → EReal) (P N : ℕ → EReal) (h0 : ∀ w < 32, ∀ e < 128, G w e = P (w * 128 + e))
    (h1 : ∀ w < 32, ∀ q < 640, G w (128 + q) = N (w * 640 + q)) :
    ∑ r ∈ Finset.range 192, ∑ c ∈ Finset.range 128, G (r / 6) (r % 6 * 128 + c)
      = ∑ b ∈ Finset.range 4096, P b + ∑ b ∈ Finset.range 4096, ∑ k ∈ Finset.range 5, N (b * 5 + k) := by
  have hG : ∀ w ∈ Finset.range 32, ∑ s ∈ Finset.range 6, ∑ c ∈ Finset.range 128, G ((w * 6 + s) / 6) ((w * 6 + s) % 6 * 128 + c)
      = ∑ e ∈ Finset.range 128, P (w * 128 + e) + ∑ q ∈ Finset.range 640, N (w * 640 + q) := fun w hw => by
    have hw := Finset.mem_range.mp hw
    rw [← Finset.sum_congr rfl fun e he => h0 w hw e (Finset.mem_range.mp he), ← Finset.sum_congr rfl fun q hq => h1 w hw q (Finset.mem_range.mp hq),
      ← Finset.sum_range_add, show 128 + 640 = 6 * 128 from rfl, sum_grid]
    refine Finset.sum_congr rfl fun s hs => Finset.sum_congr rfl fun c _ => ?_
    have hs := Finset.mem_range.mp hs
    rw [show (w * 6 + s) / 6 = w by omega, show (w * 6 + s) % 6 = s by omega]
  rw [show 192 = 32 * 6 from rfl, sum_grid, Finset.sum_congr rfl hG, Finset.sum_add_distrib, ← sum_grid, ← sum_grid, ← sum_grid]

/-! ## The score picked -/

theorem rowNo_lane (e : ℕ) : laneOf e + rowNo e % 8 = rowNo e := by
  unfold laneOf rowNo
  by_cases h : e < 128
  · rw [show Nat.blt e 128 = true by simpa using h, if_pos h]
    show e / 8 * 8 + e % 8 = e
    omega
  · rw [show Nat.blt e 128 = false by rw [Bool.eq_false_iff, ne_eq, Nat.blt_eq]; exact h, if_neg h]
    show (e - 128) / 5 / 8 * 8 + (e - 128) / 5 % 8 = (e - 128) / 5
    omega

variable (A : S4096x100000.Idx → EReal) (t : S4096.Idx → BitVec 32) (v : S4096x5.Idx → BitVec 32)

/-- The score of batch row `b`'s target. -/
def tScore (b : ℕ) : EReal := A (i2 (by decide) (by decide) b (t (i1 (by decide) b)).toNat)
/-- The score of the `i`-th noise word. -/
def nScore (i : ℕ) : EReal := A (i2 (by decide) (by decide) (i / 5) (v (i2 (by decide) (by decide) (i / 5) (i % 5))).toNat)

/-- The kernel's loss, of the groups that its tiles gathered. -/
theorem lossVal_eq (T : S100000x4096.Idx → EReal) (nz : S20480.Idx → BitVec 32) (x : FVec Ideal S192x128x8 .f32)
    (hT : ∀ k l, T (iTab k l) = A (i2 (by decide) (by decide) l k)) (hnz : ∀ i < 20480, nz (iNz i) = v (i2 (by decide) (by decide) (i / 5) (i % 5)))
    (hx : ∀ r c k, x (ix3 r c k) = outAt (F := Ideal) T t nz (r.val / 6) ((r.val % 6 * 128 + c.val) * 8 + k.val)) (j : S1x1.Idx) :
    lossVal x j = Ideal.div (0 - (∑ b ∈ Finset.range 4096, ls (tScore A t b) + ∑ b ∈ Finset.range 4096, ∑ k ∈ Finset.range 5, ls (-(nScore A v (b * 5 + k))))) ((4096 : ℝ) : EReal) := by
  rw [lossVal_at, ← sum_layout (fun w e => ls (if e < 128 then T (iTab (entry t nz w e) (128 * w + rowNo e)) else -(T (iTab (entry t nz w e) (128 * w + rowNo e)))))
    (fun b => ls (tScore A t b)) (fun i => ls (-(nScore A v i)))]
  · simp only [Finset.sum_range]
    refine congrArg (fun s => Ideal.div (0 - s) _) (Finset.sum_congr rfl fun r _ => Finset.sum_congr rfl fun c _ => congrArg ls ?_)
    have hp : (pick x (ix2 r c) : EReal) = T (iTab (entry t nz (r.val / 6) (r.val % 6 * 128 + c.val)) (128 * (r.val / 6) + rowNo (r.val % 6 * 128 + c.val))) := by
      rw [pick_at, hx]
      unfold outAt
      generalize r.val % 6 * 128 + c.val = e
      have h8 : rowNo e % 8 < 8 := Nat.mod_lt _ (by decide)
      show T (iTab (entry t nz _ ((e * 8 + rowNo e % 8) / 8)) (128 * _ + (laneOf ((e * 8 + rowNo e % 8) / 8) + (e * 8 + rowNo e % 8) % 8))) = _
      rw [show (e * 8 + rowNo e % 8) / 8 = e by omega, show (e * 8 + rowNo e % 8) % 8 = rowNo e % 8 by omega, rowNo_lane]
    rw [hp]
    have hc := c.isLt
    exact if_congr ⟨fun h => by omega, fun h => by omega⟩ rfl rfl
  · intro w _ e he
    show ls (if e < 128 then _ else _) = _
    rw [if_pos he, hT]
    unfold tScore entry rowNo
    rw [if_pos he, if_pos he, show 128 * w + e = w * 128 + e by omega]
  · intro w hw q hq
    have hn : ¬ 128 + q < 128 := by omega
    show ls (if 128 + q < 128 then _ else _) = _
    rw [if_neg hn, hT]
    unfold nScore entry rowNo
    rw [if_neg hn, if_neg hn, show 128 + q - 128 = q by omega, show 640 * w + q = w * 640 + q by omega, hnz _ (by omega),
      show 128 * w + q / 5 = (w * 640 + q) / 5 by omega]

end Cert.KernelIdeal.Tile

end
-- ==== Proof.Value.lean ====
/-
  The loss that the kernel leaves and the loss that the reference leaves, over the extended reals, are equal where the
  targets are in range.
-/
module

public import proofs.«01_k».proof.Proof.Ideal.MainRun
public import proofs.«01_k».proof.Proof.RefRun
public import proofs.«01_k».proof.Proof.KerMath

@[expose] public section

set_option maxRecDepth 65536

noncomputable section

/-! ## The kernel's loss -/

namespace Cert.KernelIdeal.Tile

open Cert.KernelIdeal
open Idealize.ShloMosaic Idealize.ShloMosaic.TcCoe Idealize.ShloMosaic.StableHlo
open Cert.HostLine
open Cert.ReferenceIdeal.Host (ls logsSum)

variable (m : (ℓ : Loc nD τ sig) → Buf (Elt Ideal) ℓ) (d : Dev nD)

/-- The scores, the targets and the noise drawn. -/
def scores : S4096x100000.Idx → EReal := m (d, dr main_arg0)
def targets : S4096.Idx → BitVec 32 := m (d, dr main_arg1)
def drawn : S4096x5.Idx → BitVec 32 := rd (after (preOps (F := Ideal)) (V0 m d)) (.of main_v8 : StableHlo.TRef sig ⟨S4096x5, .i32⟩)

theorem Tb_at (k l : ℕ) : Tb m d (iTab k l) = scores m d (i2 (by decide) (by decide) l k) := by
  obtain ⟨-, -, h9⟩ := preOps_says (V0 m d)
  refine (congrFun h9 (iTab k l)).trans ?_
  have h0 : rd (after (preOps (F := Ideal)) (V0 m d)) (.of main_arg0 : StableHlo.TRef sig ⟨S4096x100000, .f32⟩) = scores m d :=
    V1_keeps m d (k := 0) ⟨rfl, rfl⟩ (by decide)
  rw [h0]
  refine congrArg (scores m d) ?_
  funext c; match c with | ⟨0, _⟩ => rfl | ⟨1, _⟩ => rfl

theorem nz_at (i : ℕ) (hi : i < 20480) : nz m d (iNz i) = drawn m d (i2 (by decide) (by decide) (i / 5) (i % 5)) := by
  obtain ⟨-, h10, -⟩ := preOps_says (V0 m d)
  refine (congrFun h10 (iNz i)).trans (congrArg (drawn m d) ?_)
  refine Shape.reshapeEquiv_eq_of_vals _ _ _ _ _ (rowMajor_val2 _ 5 rfl) (rowMajor_val1 _) ?_
  show (i / 5) % 4096 * 5 + (i % 5) % 5 = i % 20480
  omega

theorem groups_at (r : Fin 192) (c : Fin 128) (k : Fin 8) : groups (V3 m) d (ix3 r c k)
    = outAt (F := Ideal) (Tb m d) (targets m d) (nz m d) (r.val / 6) ((r.val % 6 * 128 + c.val) * 8 + k.val) := by
  have h12 : groups (V3 m) d = shapeCast S192x128x8 (res (Tb m) (tg m) (nz m) d) Shapes1.Facts₀.shapeCasts_S32x6144_S192x128x8 := by
    have h : V2 m d (dr main_v11) = res (Tb m) (tg m) (nz m) d := Function.update_self ..
    rw [← h]
    unfold groups V3
    rw [StableHlo.after_cons, StableHlo.after_nil]
    exact StableHlo.reshape_result' ..
  have hr := r.isLt
  have hc := c.isLt
  have hk := k.isLt
  have hi : Shape.reshapeEquiv Shapes1.Facts₀.shapeCasts_S32x6144_S192x128x8 (ix3 r c k)
      = (ix2 (⟨r.val / 6, by omega⟩ : Fin 32) (⟨(r.val % 6 * 128 + c.val) * 8 + k.val, by omega⟩ : Fin 6144) : S32x6144.Idx) := by
    refine Shape.reshapeEquiv_eq_of_vals _ _ _ _ _ (rowMajor_val2 _ 6144 rfl) (rowMajor_val3 _ 1024 8 rfl rfl) ?_
    show r.val / 6 * 6144 + ((r.val % 6 * 128 + c.val) * 8 + k.val) = r.val * 1024 + c.val * 8 + k.val
    omega
  rw [h12]
  show res (Tb m) (tg m) (nz m) d (Shape.reshapeEquiv Shapes1.Facts₀.shapeCasts_S32x6144_S192x128x8 (ix3 r c k)) = _
  rw [hi, ← show tg m d = targets m d from tg_eq m d]
  rfl

/-- What the kernel leaves: minus the sum of the logarithms over 4096. -/
theorem kernel_loss (j : S_.Idx) : (V5 m d (dr main_v14) j : EReal)
    = Ideal.div (0 - (∑ b ∈ Finset.range 4096, ls (tScore (scores m d) (targets m d) b) + ∑ b ∈ Finset.range 4096, ∑ k ∈ Finset.range 5, ls (-(nScore (scores m d) (drawn m d) (b * 5 + k)))))
        ((4096 : ℝ) : EReal) := by
  have h14 : V5 m d (dr main_v14) = shapeCast S_ (lossVal (groups (V3 m) d)) Shapes1.Facts₀.shapeCasts_S1x1_S_ := by
    have h : V4 m d (dr main_v13) = lossVal (groups (V3 m) d) :=
      (Pipeline.afterRegion_arr (dats (V3 m) 0 d) (V3 m d) Cert.KernelIdeal.Gen.launch1.win.arr_inj 1).trans (arr_out (V3 m) d)
    rw [← h]
    unfold V5
    rw [StableHlo.after_cons, StableHlo.after_nil]
    exact StableHlo.reshape_result' ..
  rw [h14]
  exact lossVal_eq (scores m d) (targets m d) (drawn m d) (Tb m d) (nz m d) _ (Tb_at m d) (nz_at m d) (groups_at m d) _

end Cert.KernelIdeal.Tile

/-! ## The reference's -/

namespace Cert.ReferenceIdeal.Host

open Idealize.ShloMosaic
open Cert.KernelIdeal.Tile (tScore nScore i1 i2)
open Cert.HostLine (shaped)

/-- Counting every term 4096 times, over 4096 times as many pairs, is counting it once. -/
theorem mean_eq (S : EReal) : -(Ideal.div (4096 * S) ((16777216 : ℝ) : EReal)) = Ideal.div (0 - S) ((4096 : ℝ) : EReal) := by
  have h4 : ((4096 : ℝ) : EReal) ≠ 0 := by exact_mod_cast (by norm_num : (4096 : ℝ) ≠ 0)
  have h24 : ((16777216 : ℝ) : EReal) ≠ 0 := by exact_mod_cast (by norm_num : (16777216 : ℝ) ≠ 0)
  unfold Ideal.div
  rw [if_neg h4, if_neg h24, zero_sub, EReal.neg_mul, mul_comm (4096 : EReal) S, mul_assoc]
  congr 2
  rw [← EReal.coe_inv, ← EReal.coe_inv, show (4096 : EReal) = ((4096 : ℝ) : EReal) from rfl, ← EReal.coe_mul]
  norm_num

/-- The reference's loss of the scores, the targets and the noise. -/
theorem reference_loss (A : S4096x100000.Idx → EReal) (t : S4096.Idx → BitVec 32) (v : S4096x5.Idx → BitVec 32)
    (ht : ∀ j, (t j).toNat < 100000) (hv : ∀ j, (v j).toNat < 100000) (j : S_.Idx) :
    (loss (F := Ideal) (taken1 A (shaped (Val := Elt Ideal) (Tx := ⟨S4096, .i32⟩) (Ty := ⟨S4096x1, .i32⟩) rfl Facts₀.shapeCasts_S4096_S4096x1 t)) (taken5 A v) j : EReal)
      = Ideal.div (0 - (∑ b ∈ Finset.range 4096, ls (tScore A t b) + ∑ b ∈ Finset.range 4096, ∑ k ∈ Finset.range 5, ls (-(nScore A v (b * 5 + k)))))
          ((4096 : ℝ) : EReal) := by
  rw [loss_eq, mean_eq]
  refine congrArg (fun s => Ideal.div (0 - s) _) ?_
  have hs : ∀ y : S4096x1.Idx, shaped (Val := Elt Ideal) (Tx := ⟨S4096, .i32⟩) (Ty := ⟨S4096x1, .i32⟩) rfl Facts₀.shapeCasts_S4096_S4096x1 t y = t (ix1 (y 0)) := fun y => by
    refine congrArg t ?_
    refine Shape.reshapeEquiv_eq_of_vals _ _ _ _ _ (rowMajor_val1 _) (rowMajor_val2 _ 1 rfl) ?_
    have : (y 1).val < 1 := (y 1).isLt
    show (y 0).val = (y 0).val * 1 + (y 1).val
    omega
  unfold logsSum
  simp only [Finset.sum_range]
  refine congrArg₂ (· + ·) (Finset.sum_congr rfl fun b _ => congrArg ls ?_) (Finset.sum_congr rfl fun b _ => Finset.sum_congr rfl fun k _ => congrArg (fun y => ls (-y)) ?_)
  · have hb := b.isLt
    refine (taken1_at A _ (fun y => by rw [hs]; exact ht _) _).trans ?_
    unfold tScore
    have e : (ix1 b : S4096.Idx) = i1 (by decide) b.val := by
      funext c; match c with | ⟨0, _⟩ => exact Fin.ext (Nat.mod_eq_of_lt hb).symm
    refine congrArg A ?_
    funext c
    match c with
    | ⟨0, _⟩ => exact Fin.ext (Nat.mod_eq_of_lt hb).symm
    | ⟨1, _⟩ =>
      refine Fin.ext ?_
      refine (congrArg BitVec.toNat ((hs (ix2 b 0)).trans (congrArg t e))).trans ?_
      exact (Nat.mod_eq_of_lt (ht _)).symm
  · have hb := b.isLt
    have hk := k.isLt
    refine (taken5_at A v hv _).trans ?_
    unfold nScore
    rw [show (b.val * 5 + k.val) / 5 = b.val by omega, show (b.val * 5 + k.val) % 5 = k.val by omega]
    have e : (ix2 b k : S4096x5.Idx) = i2 (by decide) (by decide) b.val k.val := by
      funext c
      match c with
      | ⟨0, _⟩ => exact Fin.ext (Nat.mod_eq_of_lt hb).symm
      | ⟨1, _⟩ => exact Fin.ext (Nat.mod_eq_of_lt hk).symm
    refine congrArg A ?_
    funext c
    match c with
    | ⟨0, _⟩ => exact Fin.ext (Nat.mod_eq_of_lt hb).symm
    | ⟨1, _⟩ =>
      refine Fin.ext ?_
      refine (congrArg (fun z => (v z).toNat) e).trans ?_
      exact (Nat.mod_eq_of_lt (hv _)).symm

end Cert.ReferenceIdeal.Host

/-! ## The two -/

namespace Cert.SameLoss

open Idealize.ShloMosaic Idealize.ShloMosaic.TcCoe Idealize.ShloMosaic.StableHlo Cert.HostLine
open Idealize.SL Idealize.SL.Sem
open Cert.KernelIdeal.Tile (scores targets drawn preOps pre_eq preOps_says V0 V5 dr kernel_loss)

/-- From memories that hold the same scores and targets, in range, the reference ends with the loss that the kernel
    leaves, and its arguments unchanged. -/
theorem reference_run (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (g' : Dev ReferenceIdeal.nD → PrngReg)
    (h0 : ∀ d : Dev 1, (m' (d, Proc.devRef .tc ReferenceIdeal.main_arg0) : ReferenceIdeal.S4096x100000.Idx → EReal) = scores m d)
    (h1 : ∀ d : Dev 1, (m' (d, Proc.devRef .tc ReferenceIdeal.main_arg1) : ReferenceIdeal.S4096.Idx → BitVec 32) = targets m d)
    (ht : ∀ (d : Dev 1) j, (targets m d j).toNat < 100000) :
    θ_run (ReferenceIdeal.defs (F := Ideal)) (onTc (τ := ReferenceIdeal.τ) (ReferenceIdeal.main (F := Ideal))) ⟨m', fun _ => 0, g'⟩ fun r =>
      ∀ d : Dev 1, (r.2.mem ((d.tc : Thread ReferenceIdeal.nD ReferenceIdeal.τ).loc ReferenceIdeal.main_v34) : ReferenceIdeal.S_.Idx → EReal) = V5 m d (dr KernelIdeal.main_v14)
        ∧ r.2.mem ((d.tc : Thread ReferenceIdeal.nD ReferenceIdeal.τ).loc ReferenceIdeal.main_arg0) = m' ((d.tc : Thread ReferenceIdeal.nD ReferenceIdeal.τ).loc ReferenceIdeal.main_arg0)
        ∧ r.2.mem ((d.tc : Thread ReferenceIdeal.nD ReferenceIdeal.τ).loc ReferenceIdeal.main_arg1) = m' ((d.tc : Thread ReferenceIdeal.nD ReferenceIdeal.τ).loc ReferenceIdeal.main_arg1) := by
  obtain ⟨a, b, l, c, t, hpre, oka, okb, hm, okl, okc, okt, hag, hl, hT⟩ := Cert.SameDraws.lines (F := Ideal)
  have ok := okl.append (okc.append okt)
  have hab : preOps (F := Ideal) = a ++ b := seq_inj (pre_eq.symm.trans hpre)
  refine (θ_run ReferenceIdeal.defs _ _).mono (fun r h d => ⟨(h d ReferenceIdeal.main_v34).trans ?_,
    (h d ReferenceIdeal.main_arg0).trans (ok.keeps _ (k := 0) ⟨rfl, rfl⟩ (.inl (by decide))),
    (h d ReferenceIdeal.main_arg1).trans (ok.keeps _ (k := 1) ⟨rfl, rfl⟩ (.inl (by decide)))⟩) (ReferenceIdeal.Host.run _ hm ok m' g')
  generalize hW : launchContents m' d = W
  have w0 : (W (Proc.devRef .tc ReferenceIdeal.main_arg0) : ReferenceIdeal.S4096x100000.Idx → EReal) = scores m d := by rw [← hW]; exact h0 d
  have w1 : (W (Proc.devRef .tc ReferenceIdeal.main_arg1) : ReferenceIdeal.S4096.Idx → BitVec 32) = targets m d := by rw [← hW]; exact h1 d
  rw [HostLine.after_append, HostLine.after_append]
  have e0 : rd (after t (after c (after l W))) (.of ReferenceIdeal.main_arg0 : TRef _ ⟨ReferenceIdeal.S4096x100000, .f32⟩) = scores m d :=
    (okt.keeps _ (k := 0) ⟨rfl, rfl⟩ (.inl (by decide))).trans ((okc.keeps _ (k := 0) ⟨rfl, rfl⟩ (.inl (by decide))).trans
      ((okl.keeps _ (k := 0) ⟨rfl, rfl⟩ (.inl (by decide))).trans w0))
  have e2 : rd (after t (after c (after l W))) (.of ReferenceIdeal.main_v0 : TRef _ ⟨ReferenceIdeal.S4096x1, .i32⟩)
      = shaped (Tx := ⟨ReferenceIdeal.S4096, .i32⟩) (Ty := ⟨ReferenceIdeal.S4096x1, .i32⟩) rfl ReferenceIdeal.Facts₀.shapeCasts_S4096_S4096x1 (targets m d) := by
    refine Eq.trans (okt.keeps _ (k := 2) ⟨rfl, rfl⟩ (.inl (by decide))) (Eq.trans (okc.keeps _ (k := 2) ⟨rfl, rfl⟩ (.inl (by decide))) ((hl W).trans ?_))
    exact congrArg _ ((okl.keeps _ (k := 1) ⟨rfl, rfl⟩ (.inl (by decide))).trans w1)
  have e9 : rd (after t (after c (after l W))) (.of ReferenceIdeal.main_v9 : TRef _ ⟨ReferenceIdeal.S4096x5, .i32⟩) = drawn m d := by
    refine Eq.trans (okt.keeps _ (k := 1023) ⟨rfl, by decide +kernel⟩ (.inl (by decide))) ?_
    refine Eq.trans (hag (V0 m d) (after l W) (fun _ _ _ k hk hk' => absurd (lt_of_le_of_lt hk hk') (lt_irrefl _)) _
      (.of KernelIdeal.main_v8 : TRef _ ⟨KernelIdeal.S4096x5, .i32⟩) (.of ReferenceIdeal.main_v9 : TRef _ ⟨ReferenceIdeal.S4096x5, .i32⟩) 1022 (by decide) (by decide)
      ⟨rfl, by decide +kernel⟩ ⟨rfl, by decide +kernel⟩).symm ?_
    unfold drawn
    rw [hab, HostLine.after_append]
    exact (okb.keeps _ (k := 1022) ⟨rfl, by decide +kernel⟩ (.inl (by decide))).symm
  refine Eq.trans (hT (after c (after l W))) ?_
  rw [e0, e2, e9]
  funext j
  exact (ReferenceIdeal.Host.reference_loss (scores m d) (targets m d) (drawn m d) (ht d) (preOps_says (V0 m d)).1 j).trans (kernel_loss m d j).symm

end Cert.SameLoss

end
-- ==== Proof.Algebra.lean ====
/-
  The claim of equal results: over the extended reals the kernel and the reference end with the same loss.
-/
module

public import proofs.«01_k».proof.Proof.Frames
public import proofs.«01_k».proof.Proof.Value

@[expose] public section

noncomputable section

namespace Cert.Algebra

open Idealize.ShloMosaic Idealize.ShloMosaic.TcCoe
open Idealize.SL Idealize.SL.Sem

/-- The reference over the extended reals, from the memories whose targets are in range. -/
theorem referenceIdeal_pre : Cert.quiescent_ReferenceIdeal_pre_in_range (hReferenceIdeal := Cert.ReferenceIdeal.Gen.facts) (hPre_in_range := Cert.Pre_in_range.Gen.facts) := fun m g _ =>
  Cert.ReferenceIdeal.Host.frame (F := Ideal) m g

/-- The kernel and the reference end with the same loss. -/
theorem algebraic : Cert.algebraic_KernelIdeal_ReferenceIdeal (hKernelIdeal := Cert.KernelIdeal.Gen.facts) (hReferenceIdeal := Cert.ReferenceIdeal.Gen.facts)
    (hPre_in_range := Cert.Pre_in_range.Gen.facts) := fun m g m' g' h hm =>
  have ht : ∀ (d : Dev 1) j, (Cert.KernelIdeal.Tile.targets m d j).toNat < 100000 := fun d j => Cert.Range.of_pre _ _ (h d) j
  ⟨fun c => Cert.KernelIdeal.Tile.V5 m c (Cert.KernelIdeal.Tile.dr Cert.KernelIdeal.main_v14),
    (θ_run Cert.KernelIdeal.defs _ _).mono (fun _ h c => ⟨(h.1 c).2.2, (h.1 c).1, (h.1 c).2.1⟩) (Cert.KernelIdeal.Tile.run_main (F := Ideal) m g ht),
    Cert.SameLoss.reference_run m m' g' (fun d => (hm d).1) (fun d => (hm d).2) ht⟩

end Cert.Algebra

end
-- ==== Proof.lean ====
module

public import proofs.«01_k».proof.Defs
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The claims: the two frames of the kernel, the reference's, that the ideal kernel is the kernel, and that the kernel
    and the reference end with the same loss. -/
theorem claim : Cert.Claim := ⟨Cert.Kernel.Gen.facts, Cert.KernelIdeal.Gen.facts, Cert.ReferenceIdeal.Gen.facts, Cert.Pre_in_range.Gen.facts,
  Cert.Frames.kernel, Cert.Frames.kernelIdeal, Cert.Frames.referenceIdeal,
  Cert.Algebra.referenceIdeal_pre, trivial, Cert.Algebra.algebraic⟩

end Cert.Proof

end
